-- ==== Defs.lean ====
def Pre_Kernel [hPre_low_1536_1536 : Cert.Pre_low_1536_1536.Facts] (m : (ℓ : Loc Cert.Kernel.nD Cert.Kernel.τ Cert.Kernel.sig) → Buf (Elt Bits) ℓ) : Prop :=
  ∀ c : Dev Cert.Kernel.nD,
    (Cert.Pre_low_1536_1536.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_1664_1664 [hPre_low_1664_1664 : Cert.Pre_low_1664_1664.Facts] (m : (ℓ : Loc Cert.Kernel.nD Cert.Kernel.τ Cert.Kernel.sig) → Buf (Elt Bits) ℓ) : Prop :=
  ∀ c : Dev Cert.Kernel.nD,
    (Cert.Pre_low_1664_1664.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_1792_1792 [hPre_low_1792_1792 : Cert.Pre_low_1792_1792.Facts] (m : (ℓ : Loc Cert.Kernel.nD Cert.Kernel.τ Cert.Kernel.sig) → Buf (Elt Bits) ℓ) : Prop :=
  ∀ c : Dev Cert.Kernel.nD,
    (Cert.Pre_low_1792_1792.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_1920_1920 [hPre_low_1920_1920 : Cert.Pre_low_1920_1920.Facts] (m : (ℓ : Loc Cert.Kernel.nD Cert.Kernel.τ Cert.Kernel.sig) → Buf (Elt Bits) ℓ) : Prop :=
  ∀ c : Dev Cert.Kernel.nD,
    (Cert.Pre_low_1920_1920.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_2048_2048 [hPre_low_2048_2048 : Cert.Pre_low_2048_2048.Facts] (m : (ℓ : Loc Cert.Kernel.nD Cert.Kernel.τ Cert.Kernel.sig) → Buf (Elt Bits) ℓ) : Prop :=
  ∀ c : Dev Cert.Kernel.nD,
    (Cert.Pre_low_2048_2048.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_2176_2176 [hPre_low_2176_2176 : Cert.Pre_low_2176_2176.Facts] (m : (ℓ : Loc Cert.Kernel.nD Cert.Kernel.τ Cert.Kernel.sig) → Buf (Elt Bits) ℓ) : Prop :=
  ∀ c : Dev Cert.Kernel.nD,
    (Cert.Pre_low_2176_2176.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_2304_2304 [hPre_low_2304_2304 : Cert.Pre_low_2304_2304.Facts] (m : (ℓ : Loc Cert.Kernel.nD Cert.Kernel.τ Cert.Kernel.sig) → Buf (Elt Bits) ℓ) : Prop :=
  ∀ c : Dev Cert.Kernel.nD,
    (Cert.Pre_low_2304_2304.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_2432_2432 [hPre_low_2432_2432 : Cert.Pre_low_2432_2432.Facts] (m : (ℓ : Loc Cert.Kernel.nD Cert.Kernel.τ Cert.Kernel.sig) → Buf (Elt Bits) ℓ) : Prop :=
  ∀ c : Dev Cert.Kernel.nD,
    (Cert.Pre_low_2432_2432.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_2560_2560 [hPre_low_2560_2560 : Cert.Pre_low_2560_2560.Facts] (m : (ℓ : Loc Cert.Kernel.nD Cert.Kernel.τ Cert.Kernel.sig) → Buf (Elt Bits) ℓ) : Prop :=
  ∀ c : Dev Cert.Kernel.nD,
    (Cert.Pre_low_2560_2560.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_1537_1663 [hPre_low_1537_1663 : Cert.Pre_low_1537_1663.Facts] (m : (ℓ : Loc Cert.Kernel.nD Cert.Kernel.τ Cert.Kernel.sig) → Buf (Elt Bits) ℓ) : Prop :=
  ∀ c : Dev Cert.Kernel.nD,
    (Cert.Pre_low_1537_1663.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_1665_1791 [hPre_low_1665_1791 : Cert.Pre_low_1665_1791.Facts] (m : (ℓ : Loc Cert.Kernel.nD Cert.Kernel.τ Cert.Kernel.sig) → Buf (Elt Bits) ℓ) : Prop :=
  ∀ c : Dev Cert.Kernel.nD,
    (Cert.Pre_low_1665_1791.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_1793_1919 [hPre_low_1793_1919 : Cert.Pre_low_1793_1919.Facts] (m : (ℓ : Loc Cert.Kernel.nD Cert.Kernel.τ Cert.Kernel.sig) → Buf (Elt Bits) ℓ) : Prop :=
  ∀ c : Dev Cert.Kernel.nD,
    (Cert.Pre_low_1793_1919.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_1921_2047 [hPre_low_1921_2047 : Cert.Pre_low_1921_2047.Facts] (m : (ℓ : Loc Cert.Kernel.nD Cert.Kernel.τ Cert.Kernel.sig) → Buf (Elt Bits) ℓ) : Prop :=
  ∀ c : Dev Cert.Kernel.nD,
    (Cert.Pre_low_1921_2047.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_2049_2175 [hPre_low_2049_2175 : Cert.Pre_low_2049_2175.Facts] (m : (ℓ : Loc Cert.Kernel.nD Cert.Kernel.τ Cert.Kernel.sig) → Buf (Elt Bits) ℓ) : Prop :=
  ∀ c : Dev Cert.Kernel.nD,
    (Cert.Pre_low_2049_2175.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_2177_2303 [hPre_low_2177_2303 : Cert.Pre_low_2177_2303.Facts] (m : (ℓ : Loc Cert.Kernel.nD Cert.Kernel.τ Cert.Kernel.sig) → Buf (Elt Bits) ℓ) : Prop :=
  ∀ c : Dev Cert.Kernel.nD,
    (Cert.Pre_low_2177_2303.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_2305_2431 [hPre_low_2305_2431 : Cert.Pre_low_2305_2431.Facts] (m : (ℓ : Loc Cert.Kernel.nD Cert.Kernel.τ Cert.Kernel.sig) → Buf (Elt Bits) ℓ) : Prop :=
  ∀ c : Dev Cert.Kernel.nD,
    (Cert.Pre_low_2305_2431.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_low_2433_2559 [hPre_low_2433_2559 : Cert.Pre_low_2433_2559.Facts] (m : (ℓ : Loc Cert.Kernel.nD Cert.Kernel.τ Cert.Kernel.sig) → Buf (Elt Bits) ℓ) : Prop :=
  ∀ c : Dev Cert.Kernel.nD,
    (Cert.Pre_low_2433_2559.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_low_1536_1536 : Cert.Pre_low_1536_1536.Facts] (m : (ℓ : Loc Cert.KernelIdeal.nD Cert.KernelIdeal.τ Cert.KernelIdeal.sig) → Buf (Elt Ideal) ℓ) : Prop :=
  ∀ c : Dev Cert.KernelIdeal.nD,
    (Cert.Pre_low_1536_1536.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_1664_1664 [hPre_low_1664_1664 : Cert.Pre_low_1664_1664.Facts] (m : (ℓ : Loc Cert.KernelIdeal.nD Cert.KernelIdeal.τ Cert.KernelIdeal.sig) → Buf (Elt Ideal) ℓ) : Prop :=
  ∀ c : Dev Cert.KernelIdeal.nD,
    (Cert.Pre_low_1664_1664.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_1792_1792 [hPre_low_1792_1792 : Cert.Pre_low_1792_1792.Facts] (m : (ℓ : Loc Cert.KernelIdeal.nD Cert.KernelIdeal.τ Cert.KernelIdeal.sig) → Buf (Elt Ideal) ℓ) : Prop :=
  ∀ c : Dev Cert.KernelIdeal.nD,
    (Cert.Pre_low_1792_1792.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_1920_1920 [hPre_low_1920_1920 : Cert.Pre_low_1920_1920.Facts] (m : (ℓ : Loc Cert.KernelIdeal.nD Cert.KernelIdeal.τ Cert.KernelIdeal.sig) → Buf (Elt Ideal) ℓ) : Prop :=
  ∀ c : Dev Cert.KernelIdeal.nD,
    (Cert.Pre_low_1920_1920.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_2048_2048 [hPre_low_2048_2048 : Cert.Pre_low_2048_2048.Facts] (m : (ℓ : Loc Cert.KernelIdeal.nD Cert.KernelIdeal.τ Cert.KernelIdeal.sig) → Buf (Elt Ideal) ℓ) : Prop :=
  ∀ c : Dev Cert.KernelIdeal.nD,
    (Cert.Pre_low_2048_2048.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_2176_2176 [hPre_low_2176_2176 : Cert.Pre_low_2176_2176.Facts] (m : (ℓ : Loc Cert.KernelIdeal.nD Cert.KernelIdeal.τ Cert.KernelIdeal.sig) → Buf (Elt Ideal) ℓ) : Prop :=
  ∀ c : Dev Cert.KernelIdeal.nD,
    (Cert.Pre_low_2176_2176.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_2304_2304 [hPre_low_2304_2304 : Cert.Pre_low_2304_2304.Facts] (m : (ℓ : Loc Cert.KernelIdeal.nD Cert.KernelIdeal.τ Cert.KernelIdeal.sig) → Buf (Elt Ideal) ℓ) : Prop :=
  ∀ c : Dev Cert.KernelIdeal.nD,
    (Cert.Pre_low_2304_2304.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_2432_2432 [hPre_low_2432_2432 : Cert.Pre_low_2432_2432.Facts] (m : (ℓ : Loc Cert.KernelIdeal.nD Cert.KernelIdeal.τ Cert.KernelIdeal.sig) → Buf (Elt Ideal) ℓ) : Prop :=
  ∀ c : Dev Cert.KernelIdeal.nD,
    (Cert.Pre_low_2432_2432.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_2560_2560 [hPre_low_2560_2560 : Cert.Pre_low_2560_2560.Facts] (m : (ℓ : Loc Cert.KernelIdeal.nD Cert.KernelIdeal.τ Cert.KernelIdeal.sig) → Buf (Elt Ideal) ℓ) : Prop :=
  ∀ c : Dev Cert.KernelIdeal.nD,
    (Cert.Pre_low_2560_2560.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_1537_1663 [hPre_low_1537_1663 : Cert.Pre_low_1537_1663.Facts] (m : (ℓ : Loc Cert.KernelIdeal.nD Cert.KernelIdeal.τ Cert.KernelIdeal.sig) → Buf (Elt Ideal) ℓ) : Prop :=
  ∀ c : Dev Cert.KernelIdeal.nD,
    (Cert.Pre_low_1537_1663.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_1665_1791 [hPre_low_1665_1791 : Cert.Pre_low_1665_1791.Facts] (m : (ℓ : Loc Cert.KernelIdeal.nD Cert.KernelIdeal.τ Cert.KernelIdeal.sig) → Buf (Elt Ideal) ℓ) : Prop :=
  ∀ c : Dev Cert.KernelIdeal.nD,
    (Cert.Pre_low_1665_1791.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_1793_1919 [hPre_low_1793_1919 : Cert.Pre_low_1793_1919.Facts] (m : (ℓ : Loc Cert.KernelIdeal.nD Cert.KernelIdeal.τ Cert.KernelIdeal.sig) → Buf (Elt Ideal) ℓ) : Prop :=
  ∀ c : Dev Cert.KernelIdeal.nD,
    (Cert.Pre_low_1793_1919.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_1921_2047 [hPre_low_1921_2047 : Cert.Pre_low_1921_2047.Facts] (m : (ℓ : Loc Cert.KernelIdeal.nD Cert.KernelIdeal.τ Cert.KernelIdeal.sig) → Buf (Elt Ideal) ℓ) : Prop :=
  ∀ c : Dev Cert.KernelIdeal.nD,
    (Cert.Pre_low_1921_2047.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_2049_2175 [hPre_low_2049_2175 : Cert.Pre_low_2049_2175.Facts] (m : (ℓ : Loc Cert.KernelIdeal.nD Cert.KernelIdeal.τ Cert.KernelIdeal.sig) → Buf (Elt Ideal) ℓ) : Prop :=
  ∀ c : Dev Cert.KernelIdeal.nD,
    (Cert.Pre_low_2049_2175.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_2177_2303 [hPre_low_2177_2303 : Cert.Pre_low_2177_2303.Facts] (m : (ℓ : Loc Cert.KernelIdeal.nD Cert.KernelIdeal.τ Cert.KernelIdeal.sig) → Buf (Elt Ideal) ℓ) : Prop :=
  ∀ c : Dev Cert.KernelIdeal.nD,
    (Cert.Pre_low_2177_2303.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_2305_2431 [hPre_low_2305_2431 : Cert.Pre_low_2305_2431.Facts] (m : (ℓ : Loc Cert.KernelIdeal.nD Cert.KernelIdeal.τ Cert.KernelIdeal.sig) → Buf (Elt Ideal) ℓ) : Prop :=
  ∀ c : Dev Cert.KernelIdeal.nD,
    (Cert.Pre_low_2305_2431.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_2433_2559 [hPre_low_2433_2559 : Cert.Pre_low_2433_2559.Facts] (m : (ℓ : Loc Cert.KernelIdeal.nD Cert.KernelIdeal.τ Cert.KernelIdeal.sig) → Buf (Elt Ideal) ℓ) : Prop :=
  ∀ c : Dev Cert.KernelIdeal.nD,
    (Cert.Pre_low_2433_2559.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_low_1536_1536_nonneg_KernelIdeal [hPre_low_1536_1536_nonneg_KernelIdeal : Cert.Pre_low_1536_1536_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_1536_1536_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_1536_1536_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_1664_1664_nonneg_KernelIdeal [hPre_low_1664_1664_nonneg_KernelIdeal : Cert.Pre_low_1664_1664_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_1664_1664_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_1664_1664_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_1792_1792_nonneg_KernelIdeal [hPre_low_1792_1792_nonneg_KernelIdeal : Cert.Pre_low_1792_1792_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_1792_1792_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_1792_1792_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_1920_1920_nonneg_KernelIdeal [hPre_low_1920_1920_nonneg_KernelIdeal : Cert.Pre_low_1920_1920_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_1920_1920_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_1920_1920_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_2048_2048_nonneg_KernelIdeal [hPre_low_2048_2048_nonneg_KernelIdeal : Cert.Pre_low_2048_2048_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_2048_2048_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_2048_2048_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_2176_2176_nonneg_KernelIdeal [hPre_low_2176_2176_nonneg_KernelIdeal : Cert.Pre_low_2176_2176_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_2176_2176_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_2176_2176_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_2304_2304_nonneg_KernelIdeal [hPre_low_2304_2304_nonneg_KernelIdeal : Cert.Pre_low_2304_2304_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_2304_2304_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_2304_2304_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_2432_2432_nonneg_KernelIdeal [hPre_low_2432_2432_nonneg_KernelIdeal : Cert.Pre_low_2432_2432_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_2432_2432_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_2432_2432_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_2560_2560_nonneg_KernelIdeal [hPre_low_2560_2560_nonneg_KernelIdeal : Cert.Pre_low_2560_2560_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_2560_2560_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_2560_2560_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_1537_1663_nonneg_KernelIdeal [hPre_low_1537_1663_nonneg_KernelIdeal : Cert.Pre_low_1537_1663_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_1537_1663_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_1537_1663_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_1665_1791_nonneg_KernelIdeal [hPre_low_1665_1791_nonneg_KernelIdeal : Cert.Pre_low_1665_1791_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_1665_1791_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_1665_1791_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_1793_1919_nonneg_KernelIdeal [hPre_low_1793_1919_nonneg_KernelIdeal : Cert.Pre_low_1793_1919_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_1793_1919_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_1793_1919_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_1921_2047_nonneg_KernelIdeal [hPre_low_1921_2047_nonneg_KernelIdeal : Cert.Pre_low_1921_2047_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_1921_2047_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_1921_2047_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_2049_2175_nonneg_KernelIdeal [hPre_low_2049_2175_nonneg_KernelIdeal : Cert.Pre_low_2049_2175_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_2049_2175_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_2049_2175_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_2177_2303_nonneg_KernelIdeal [hPre_low_2177_2303_nonneg_KernelIdeal : Cert.Pre_low_2177_2303_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_2177_2303_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_2177_2303_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_2305_2431_nonneg_KernelIdeal [hPre_low_2305_2431_nonneg_KernelIdeal : Cert.Pre_low_2305_2431_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_2305_2431_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_2305_2431_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_low_2433_2559_nonneg_KernelIdeal [hPre_low_2433_2559_nonneg_KernelIdeal : Cert.Pre_low_2433_2559_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_low_2433_2559_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_low_2433_2559_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_low_1536_1536_nonneg_ReferenceIdeal [hPre_low_1536_1536_nonneg_ReferenceIdeal : Cert.Pre_low_1536_1536_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_1536_1536_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_1536_1536_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_1664_1664_nonneg_ReferenceIdeal [hPre_low_1664_1664_nonneg_ReferenceIdeal : Cert.Pre_low_1664_1664_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_1664_1664_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_1664_1664_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_1792_1792_nonneg_ReferenceIdeal [hPre_low_1792_1792_nonneg_ReferenceIdeal : Cert.Pre_low_1792_1792_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_1792_1792_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_1792_1792_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_1920_1920_nonneg_ReferenceIdeal [hPre_low_1920_1920_nonneg_ReferenceIdeal : Cert.Pre_low_1920_1920_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_1920_1920_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_1920_1920_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_2048_2048_nonneg_ReferenceIdeal [hPre_low_2048_2048_nonneg_ReferenceIdeal : Cert.Pre_low_2048_2048_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_2048_2048_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_2048_2048_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_2176_2176_nonneg_ReferenceIdeal [hPre_low_2176_2176_nonneg_ReferenceIdeal : Cert.Pre_low_2176_2176_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_2176_2176_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_2176_2176_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_2304_2304_nonneg_ReferenceIdeal [hPre_low_2304_2304_nonneg_ReferenceIdeal : Cert.Pre_low_2304_2304_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_2304_2304_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_2304_2304_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_2432_2432_nonneg_ReferenceIdeal [hPre_low_2432_2432_nonneg_ReferenceIdeal : Cert.Pre_low_2432_2432_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_2432_2432_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_2432_2432_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_2560_2560_nonneg_ReferenceIdeal [hPre_low_2560_2560_nonneg_ReferenceIdeal : Cert.Pre_low_2560_2560_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_2560_2560_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_2560_2560_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_1537_1663_nonneg_ReferenceIdeal [hPre_low_1537_1663_nonneg_ReferenceIdeal : Cert.Pre_low_1537_1663_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_1537_1663_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_1537_1663_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_1665_1791_nonneg_ReferenceIdeal [hPre_low_1665_1791_nonneg_ReferenceIdeal : Cert.Pre_low_1665_1791_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_1665_1791_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_1665_1791_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_1793_1919_nonneg_ReferenceIdeal [hPre_low_1793_1919_nonneg_ReferenceIdeal : Cert.Pre_low_1793_1919_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_1793_1919_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_1793_1919_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_1921_2047_nonneg_ReferenceIdeal [hPre_low_1921_2047_nonneg_ReferenceIdeal : Cert.Pre_low_1921_2047_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_1921_2047_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_1921_2047_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_2049_2175_nonneg_ReferenceIdeal [hPre_low_2049_2175_nonneg_ReferenceIdeal : Cert.Pre_low_2049_2175_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_2049_2175_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_2049_2175_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_2177_2303_nonneg_ReferenceIdeal [hPre_low_2177_2303_nonneg_ReferenceIdeal : Cert.Pre_low_2177_2303_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_2177_2303_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_2177_2303_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_2305_2431_nonneg_ReferenceIdeal [hPre_low_2305_2431_nonneg_ReferenceIdeal : Cert.Pre_low_2305_2431_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_2305_2431_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_2305_2431_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ReferenceIdeal_low_2433_2559_nonneg_ReferenceIdeal [hPre_low_2433_2559_nonneg_ReferenceIdeal : Cert.Pre_low_2433_2559_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_low_2433_2559_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_low_2433_2559_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] [hPre_low_1536_1536 : Cert.Pre_low_1536_1536.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_1664_1664 [hKernel : Cert.Kernel.Facts] [hPre_low_1664_1664 : Cert.Pre_low_1664_1664.Facts] : Prop :=
  ∀ (m : (ℓ : Loc Cert.Kernel.nD Cert.Kernel.τ Cert.Kernel.sig) → Buf (Elt Bits) ℓ) (g : Dev Cert.Kernel.nD → PrngReg), Pre_Kernel_low_1664_1664 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_1792_1792 [hKernel : Cert.Kernel.Facts] [hPre_low_1792_1792 : Cert.Pre_low_1792_1792.Facts] : Prop :=
  ∀ (m : (ℓ : Loc Cert.Kernel.nD Cert.Kernel.τ Cert.Kernel.sig) → Buf (Elt Bits) ℓ) (g : Dev Cert.Kernel.nD → PrngReg), Pre_Kernel_low_1792_1792 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_1920_1920 [hKernel : Cert.Kernel.Facts] [hPre_low_1920_1920 : Cert.Pre_low_1920_1920.Facts] : Prop :=
  ∀ (m : (ℓ : Loc Cert.Kernel.nD Cert.Kernel.τ Cert.Kernel.sig) → Buf (Elt Bits) ℓ) (g : Dev Cert.Kernel.nD → PrngReg), Pre_Kernel_low_1920_1920 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_2048_2048 [hKernel : Cert.Kernel.Facts] [hPre_low_2048_2048 : Cert.Pre_low_2048_2048.Facts] : Prop :=
  ∀ (m : (ℓ : Loc Cert.Kernel.nD Cert.Kernel.τ Cert.Kernel.sig) → Buf (Elt Bits) ℓ) (g : Dev Cert.Kernel.nD → PrngReg), Pre_Kernel_low_2048_2048 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_2176_2176 [hKernel : Cert.Kernel.Facts] [hPre_low_2176_2176 : Cert.Pre_low_2176_2176.Facts] : Prop :=
  ∀ (m : (ℓ : Loc Cert.Kernel.nD Cert.Kernel.τ Cert.Kernel.sig) → Buf (Elt Bits) ℓ) (g : Dev Cert.Kernel.nD → PrngReg), Pre_Kernel_low_2176_2176 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_2304_2304 [hKernel : Cert.Kernel.Facts] [hPre_low_2304_2304 : Cert.Pre_low_2304_2304.Facts] : Prop :=
  ∀ (m : (ℓ : Loc Cert.Kernel.nD Cert.Kernel.τ Cert.Kernel.sig) → Buf (Elt Bits) ℓ) (g : Dev Cert.Kernel.nD → PrngReg), Pre_Kernel_low_2304_2304 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_2432_2432 [hKernel : Cert.Kernel.Facts] [hPre_low_2432_2432 : Cert.Pre_low_2432_2432.Facts] : Prop :=
  ∀ (m : (ℓ : Loc Cert.Kernel.nD Cert.Kernel.τ Cert.Kernel.sig) → Buf (Elt Bits) ℓ) (g : Dev Cert.Kernel.nD → PrngReg), Pre_Kernel_low_2432_2432 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_2560_2560 [hKernel : Cert.Kernel.Facts] [hPre_low_2560_2560 : Cert.Pre_low_2560_2560.Facts] : Prop :=
  ∀ (m : (ℓ : Loc Cert.Kernel.nD Cert.Kernel.τ Cert.Kernel.sig) → Buf (Elt Bits) ℓ) (g : Dev Cert.Kernel.nD → PrngReg), Pre_Kernel_low_2560_2560 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_1537_1663 [hKernel : Cert.Kernel.Facts] [hPre_low_1537_1663 : Cert.Pre_low_1537_1663.Facts] : Prop :=
  ∀ (m : (ℓ : Loc Cert.Kernel.nD Cert.Kernel.τ Cert.Kernel.sig) → Buf (Elt Bits) ℓ) (g : Dev Cert.Kernel.nD → PrngReg), Pre_Kernel_low_1537_1663 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_1665_1791 [hKernel : Cert.Kernel.Facts] [hPre_low_1665_1791 : Cert.Pre_low_1665_1791.Facts] : Prop :=
  ∀ (m : (ℓ : Loc Cert.Kernel.nD Cert.Kernel.τ Cert.Kernel.sig) → Buf (Elt Bits) ℓ) (g : Dev Cert.Kernel.nD → PrngReg), Pre_Kernel_low_1665_1791 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_1793_1919 [hKernel : Cert.Kernel.Facts] [hPre_low_1793_1919 : Cert.Pre_low_1793_1919.Facts] : Prop :=
  ∀ (m : (ℓ : Loc Cert.Kernel.nD Cert.Kernel.τ Cert.Kernel.sig) → Buf (Elt Bits) ℓ) (g : Dev Cert.Kernel.nD → PrngReg), Pre_Kernel_low_1793_1919 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_1921_2047 [hKernel : Cert.Kernel.Facts] [hPre_low_1921_2047 : Cert.Pre_low_1921_2047.Facts] : Prop :=
  ∀ (m : (ℓ : Loc Cert.Kernel.nD Cert.Kernel.τ Cert.Kernel.sig) → Buf (Elt Bits) ℓ) (g : Dev Cert.Kernel.nD → PrngReg), Pre_Kernel_low_1921_2047 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_2049_2175 [hKernel : Cert.Kernel.Facts] [hPre_low_2049_2175 : Cert.Pre_low_2049_2175.Facts] : Prop :=
  ∀ (m : (ℓ : Loc Cert.Kernel.nD Cert.Kernel.τ Cert.Kernel.sig) → Buf (Elt Bits) ℓ) (g : Dev Cert.Kernel.nD → PrngReg), Pre_Kernel_low_2049_2175 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_2177_2303 [hKernel : Cert.Kernel.Facts] [hPre_low_2177_2303 : Cert.Pre_low_2177_2303.Facts] : Prop :=
  ∀ (m : (ℓ : Loc Cert.Kernel.nD Cert.Kernel.τ Cert.Kernel.sig) → Buf (Elt Bits) ℓ) (g : Dev Cert.Kernel.nD → PrngReg), Pre_Kernel_low_2177_2303 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_2305_2431 [hKernel : Cert.Kernel.Facts] [hPre_low_2305_2431 : Cert.Pre_low_2305_2431.Facts] : Prop :=
  ∀ (m : (ℓ : Loc Cert.Kernel.nD Cert.Kernel.τ Cert.Kernel.sig) → Buf (Elt Bits) ℓ) (g : Dev Cert.Kernel.nD → PrngReg), Pre_Kernel_low_2305_2431 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_low_2433_2559 [hKernel : Cert.Kernel.Facts] [hPre_low_2433_2559 : Cert.Pre_low_2433_2559.Facts] : Prop :=
  ∀ (m : (ℓ : Loc Cert.Kernel.nD Cert.Kernel.τ Cert.Kernel.sig) → Buf (Elt Bits) ℓ) (g : Dev Cert.Kernel.nD → PrngReg), Pre_Kernel_low_2433_2559 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_low_1536_1536 : Cert.Pre_low_1536_1536.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1664_1664 [hKernelIdeal : Cert.KernelIdeal.Facts] [hPre_low_1664_1664 : Cert.Pre_low_1664_1664.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1664_1664 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1792_1792 [hKernelIdeal : Cert.KernelIdeal.Facts] [hPre_low_1792_1792 : Cert.Pre_low_1792_1792.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1792_1792 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1920_1920 [hKernelIdeal : Cert.KernelIdeal.Facts] [hPre_low_1920_1920 : Cert.Pre_low_1920_1920.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1920_1920 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2048_2048 [hKernelIdeal : Cert.KernelIdeal.Facts] [hPre_low_2048_2048 : Cert.Pre_low_2048_2048.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2048_2048 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2176_2176 [hKernelIdeal : Cert.KernelIdeal.Facts] [hPre_low_2176_2176 : Cert.Pre_low_2176_2176.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2176_2176 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2304_2304 [hKernelIdeal : Cert.KernelIdeal.Facts] [hPre_low_2304_2304 : Cert.Pre_low_2304_2304.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2304_2304 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2432_2432 [hKernelIdeal : Cert.KernelIdeal.Facts] [hPre_low_2432_2432 : Cert.Pre_low_2432_2432.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2432_2432 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2560_2560 [hKernelIdeal : Cert.KernelIdeal.Facts] [hPre_low_2560_2560 : Cert.Pre_low_2560_2560.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2560_2560 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1537_1663 [hKernelIdeal : Cert.KernelIdeal.Facts] [hPre_low_1537_1663 : Cert.Pre_low_1537_1663.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1537_1663 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1665_1791 [hKernelIdeal : Cert.KernelIdeal.Facts] [hPre_low_1665_1791 : Cert.Pre_low_1665_1791.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1665_1791 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1793_1919 [hKernelIdeal : Cert.KernelIdeal.Facts] [hPre_low_1793_1919 : Cert.Pre_low_1793_1919.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1793_1919 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1921_2047 [hKernelIdeal : Cert.KernelIdeal.Facts] [hPre_low_1921_2047 : Cert.Pre_low_1921_2047.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1921_2047 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2049_2175 [hKernelIdeal : Cert.KernelIdeal.Facts] [hPre_low_2049_2175 : Cert.Pre_low_2049_2175.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2049_2175 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2177_2303 [hKernelIdeal : Cert.KernelIdeal.Facts] [hPre_low_2177_2303 : Cert.Pre_low_2177_2303.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2177_2303 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2305_2431 [hKernelIdeal : Cert.KernelIdeal.Facts] [hPre_low_2305_2431 : Cert.Pre_low_2305_2431.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2305_2431 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2433_2559 [hKernelIdeal : Cert.KernelIdeal.Facts] [hPre_low_2433_2559 : Cert.Pre_low_2433_2559.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2433_2559 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1536_1536_nonneg_KernelIdeal [hKernelIdeal : Cert.KernelIdeal.Facts] [hPre_low_1536_1536_nonneg_KernelIdeal : Cert.Pre_low_1536_1536_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1536_1536_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1664_1664_nonneg_KernelIdeal [hKernelIdeal : Cert.KernelIdeal.Facts] [hPre_low_1664_1664_nonneg_KernelIdeal : Cert.Pre_low_1664_1664_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1664_1664_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1792_1792_nonneg_KernelIdeal [hKernelIdeal : Cert.KernelIdeal.Facts] [hPre_low_1792_1792_nonneg_KernelIdeal : Cert.Pre_low_1792_1792_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1792_1792_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1920_1920_nonneg_KernelIdeal [hKernelIdeal : Cert.KernelIdeal.Facts] [hPre_low_1920_1920_nonneg_KernelIdeal : Cert.Pre_low_1920_1920_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1920_1920_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2048_2048_nonneg_KernelIdeal [hKernelIdeal : Cert.KernelIdeal.Facts] [hPre_low_2048_2048_nonneg_KernelIdeal : Cert.Pre_low_2048_2048_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2048_2048_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2176_2176_nonneg_KernelIdeal [hKernelIdeal : Cert.KernelIdeal.Facts] [hPre_low_2176_2176_nonneg_KernelIdeal : Cert.Pre_low_2176_2176_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2176_2176_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2304_2304_nonneg_KernelIdeal [hKernelIdeal : Cert.KernelIdeal.Facts] [hPre_low_2304_2304_nonneg_KernelIdeal : Cert.Pre_low_2304_2304_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2304_2304_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2432_2432_nonneg_KernelIdeal [hKernelIdeal : Cert.KernelIdeal.Facts] [hPre_low_2432_2432_nonneg_KernelIdeal : Cert.Pre_low_2432_2432_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2432_2432_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2560_2560_nonneg_KernelIdeal [hKernelIdeal : Cert.KernelIdeal.Facts] [hPre_low_2560_2560_nonneg_KernelIdeal : Cert.Pre_low_2560_2560_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2560_2560_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1537_1663_nonneg_KernelIdeal [hKernelIdeal : Cert.KernelIdeal.Facts] [hPre_low_1537_1663_nonneg_KernelIdeal : Cert.Pre_low_1537_1663_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1537_1663_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1665_1791_nonneg_KernelIdeal [hKernelIdeal : Cert.KernelIdeal.Facts] [hPre_low_1665_1791_nonneg_KernelIdeal : Cert.Pre_low_1665_1791_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1665_1791_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1793_1919_nonneg_KernelIdeal [hKernelIdeal : Cert.KernelIdeal.Facts] [hPre_low_1793_1919_nonneg_KernelIdeal : Cert.Pre_low_1793_1919_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1793_1919_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_1921_2047_nonneg_KernelIdeal [hKernelIdeal : Cert.KernelIdeal.Facts] [hPre_low_1921_2047_nonneg_KernelIdeal : Cert.Pre_low_1921_2047_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_1921_2047_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2049_2175_nonneg_KernelIdeal [hKernelIdeal : Cert.KernelIdeal.Facts] [hPre_low_2049_2175_nonneg_KernelIdeal : Cert.Pre_low_2049_2175_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2049_2175_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2177_2303_nonneg_KernelIdeal [hKernelIdeal : Cert.KernelIdeal.Facts] [hPre_low_2177_2303_nonneg_KernelIdeal : Cert.Pre_low_2177_2303_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2177_2303_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2305_2431_nonneg_KernelIdeal [hKernelIdeal : Cert.KernelIdeal.Facts] [hPre_low_2305_2431_nonneg_KernelIdeal : Cert.Pre_low_2305_2431_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2305_2431_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_low_2433_2559_nonneg_KernelIdeal [hKernelIdeal : Cert.KernelIdeal.Facts] [hPre_low_2433_2559_nonneg_KernelIdeal : Cert.Pre_low_2433_2559_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_low_2433_2559_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_1536_1536_nonneg_ReferenceIdeal [hReferenceIdeal : Cert.ReferenceIdeal.Facts] [hPre_low_1536_1536_nonneg_ReferenceIdeal : Cert.Pre_low_1536_1536_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_1536_1536_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_1664_1664_nonneg_ReferenceIdeal [hReferenceIdeal : Cert.ReferenceIdeal.Facts] [hPre_low_1664_1664_nonneg_ReferenceIdeal : Cert.Pre_low_1664_1664_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_1664_1664_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_1792_1792_nonneg_ReferenceIdeal [hReferenceIdeal : Cert.ReferenceIdeal.Facts] [hPre_low_1792_1792_nonneg_ReferenceIdeal : Cert.Pre_low_1792_1792_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_1792_1792_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_1920_1920_nonneg_ReferenceIdeal [hReferenceIdeal : Cert.ReferenceIdeal.Facts] [hPre_low_1920_1920_nonneg_ReferenceIdeal : Cert.Pre_low_1920_1920_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_1920_1920_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_2048_2048_nonneg_ReferenceIdeal [hReferenceIdeal : Cert.ReferenceIdeal.Facts] [hPre_low_2048_2048_nonneg_ReferenceIdeal : Cert.Pre_low_2048_2048_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_2048_2048_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_2176_2176_nonneg_ReferenceIdeal [hReferenceIdeal : Cert.ReferenceIdeal.Facts] [hPre_low_2176_2176_nonneg_ReferenceIdeal : Cert.Pre_low_2176_2176_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_2176_2176_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_2304_2304_nonneg_ReferenceIdeal [hReferenceIdeal : Cert.ReferenceIdeal.Facts] [hPre_low_2304_2304_nonneg_ReferenceIdeal : Cert.Pre_low_2304_2304_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_2304_2304_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_2432_2432_nonneg_ReferenceIdeal [hReferenceIdeal : Cert.ReferenceIdeal.Facts] [hPre_low_2432_2432_nonneg_ReferenceIdeal : Cert.Pre_low_2432_2432_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_2432_2432_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_2560_2560_nonneg_ReferenceIdeal [hReferenceIdeal : Cert.ReferenceIdeal.Facts] [hPre_low_2560_2560_nonneg_ReferenceIdeal : Cert.Pre_low_2560_2560_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_2560_2560_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_1537_1663_nonneg_ReferenceIdeal [hReferenceIdeal : Cert.ReferenceIdeal.Facts] [hPre_low_1537_1663_nonneg_ReferenceIdeal : Cert.Pre_low_1537_1663_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_1537_1663_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_1665_1791_nonneg_ReferenceIdeal [hReferenceIdeal : Cert.ReferenceIdeal.Facts] [hPre_low_1665_1791_nonneg_ReferenceIdeal : Cert.Pre_low_1665_1791_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_1665_1791_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_1793_1919_nonneg_ReferenceIdeal [hReferenceIdeal : Cert.ReferenceIdeal.Facts] [hPre_low_1793_1919_nonneg_ReferenceIdeal : Cert.Pre_low_1793_1919_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_1793_1919_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_1921_2047_nonneg_ReferenceIdeal [hReferenceIdeal : Cert.ReferenceIdeal.Facts] [hPre_low_1921_2047_nonneg_ReferenceIdeal : Cert.Pre_low_1921_2047_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_1921_2047_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_2049_2175_nonneg_ReferenceIdeal [hReferenceIdeal : Cert.ReferenceIdeal.Facts] [hPre_low_2049_2175_nonneg_ReferenceIdeal : Cert.Pre_low_2049_2175_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_2049_2175_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_2177_2303_nonneg_ReferenceIdeal [hReferenceIdeal : Cert.ReferenceIdeal.Facts] [hPre_low_2177_2303_nonneg_ReferenceIdeal : Cert.Pre_low_2177_2303_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_2177_2303_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_2305_2431_nonneg_ReferenceIdeal [hReferenceIdeal : Cert.ReferenceIdeal.Facts] [hPre_low_2305_2431_nonneg_ReferenceIdeal : Cert.Pre_low_2305_2431_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_2305_2431_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_low_2433_2559_nonneg_ReferenceIdeal [hReferenceIdeal : Cert.ReferenceIdeal.Facts] [hPre_low_2433_2559_nonneg_ReferenceIdeal : Cert.Pre_low_2433_2559_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_low_2433_2559_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_low_1536_1536_nonneg_KernelIdeal [hKernelIdeal : Cert.KernelIdeal.Facts] [hReferenceIdeal : Cert.ReferenceIdeal.Facts] [hPre_low_1536_1536_nonneg_KernelIdeal : Cert.Pre_low_1536_1536_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_1536_1536_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_1664_1664_nonneg_KernelIdeal [hKernelIdeal : Cert.KernelIdeal.Facts] [hReferenceIdeal : Cert.ReferenceIdeal.Facts] [hPre_low_1664_1664_nonneg_KernelIdeal : Cert.Pre_low_1664_1664_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_1664_1664_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_1792_1792_nonneg_KernelIdeal [hKernelIdeal : Cert.KernelIdeal.Facts] [hReferenceIdeal : Cert.ReferenceIdeal.Facts] [hPre_low_1792_1792_nonneg_KernelIdeal : Cert.Pre_low_1792_1792_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_1792_1792_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_1920_1920_nonneg_KernelIdeal [hKernelIdeal : Cert.KernelIdeal.Facts] [hReferenceIdeal : Cert.ReferenceIdeal.Facts] [hPre_low_1920_1920_nonneg_KernelIdeal : Cert.Pre_low_1920_1920_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_1920_1920_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_2048_2048_nonneg_KernelIdeal [hKernelIdeal : Cert.KernelIdeal.Facts] [hReferenceIdeal : Cert.ReferenceIdeal.Facts] [hPre_low_2048_2048_nonneg_KernelIdeal : Cert.Pre_low_2048_2048_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_2048_2048_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_2176_2176_nonneg_KernelIdeal [hKernelIdeal : Cert.KernelIdeal.Facts] [hReferenceIdeal : Cert.ReferenceIdeal.Facts] [hPre_low_2176_2176_nonneg_KernelIdeal : Cert.Pre_low_2176_2176_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_2176_2176_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_2304_2304_nonneg_KernelIdeal [hKernelIdeal : Cert.KernelIdeal.Facts] [hReferenceIdeal : Cert.ReferenceIdeal.Facts] [hPre_low_2304_2304_nonneg_KernelIdeal : Cert.Pre_low_2304_2304_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_2304_2304_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_2432_2432_nonneg_KernelIdeal [hKernelIdeal : Cert.KernelIdeal.Facts] [hReferenceIdeal : Cert.ReferenceIdeal.Facts] [hPre_low_2432_2432_nonneg_KernelIdeal : Cert.Pre_low_2432_2432_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_2432_2432_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_2560_2560_nonneg_KernelIdeal [hKernelIdeal : Cert.KernelIdeal.Facts] [hReferenceIdeal : Cert.ReferenceIdeal.Facts] [hPre_low_2560_2560_nonneg_KernelIdeal : Cert.Pre_low_2560_2560_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_2560_2560_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_1537_1663_nonneg_KernelIdeal [hKernelIdeal : Cert.KernelIdeal.Facts] [hReferenceIdeal : Cert.ReferenceIdeal.Facts] [hPre_low_1537_1663_nonneg_KernelIdeal : Cert.Pre_low_1537_1663_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_1537_1663_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_1665_1791_nonneg_KernelIdeal [hKernelIdeal : Cert.KernelIdeal.Facts] [hReferenceIdeal : Cert.ReferenceIdeal.Facts] [hPre_low_1665_1791_nonneg_KernelIdeal : Cert.Pre_low_1665_1791_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_1665_1791_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_1793_1919_nonneg_KernelIdeal [hKernelIdeal : Cert.KernelIdeal.Facts] [hReferenceIdeal : Cert.ReferenceIdeal.Facts] [hPre_low_1793_1919_nonneg_KernelIdeal : Cert.Pre_low_1793_1919_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_1793_1919_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_1921_2047_nonneg_KernelIdeal [hKernelIdeal : Cert.KernelIdeal.Facts] [hReferenceIdeal : Cert.ReferenceIdeal.Facts] [hPre_low_1921_2047_nonneg_KernelIdeal : Cert.Pre_low_1921_2047_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_1921_2047_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_2049_2175_nonneg_KernelIdeal [hKernelIdeal : Cert.KernelIdeal.Facts] [hReferenceIdeal : Cert.ReferenceIdeal.Facts] [hPre_low_2049_2175_nonneg_KernelIdeal : Cert.Pre_low_2049_2175_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_2049_2175_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_2177_2303_nonneg_KernelIdeal [hKernelIdeal : Cert.KernelIdeal.Facts] [hReferenceIdeal : Cert.ReferenceIdeal.Facts] [hPre_low_2177_2303_nonneg_KernelIdeal : Cert.Pre_low_2177_2303_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_2177_2303_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_2305_2431_nonneg_KernelIdeal [hKernelIdeal : Cert.KernelIdeal.Facts] [hReferenceIdeal : Cert.ReferenceIdeal.Facts] [hPre_low_2305_2431_nonneg_KernelIdeal : Cert.Pre_low_2305_2431_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_2305_2431_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_low_2433_2559_nonneg_KernelIdeal [hKernelIdeal : Cert.KernelIdeal.Facts] [hReferenceIdeal : Cert.ReferenceIdeal.Facts] [hPre_low_2433_2559_nonneg_KernelIdeal : Cert.Pre_low_2433_2559_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_low_2433_2559_nonneg_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_low_1536_1536 : Cert.Pre_low_1536_1536.Facts) (hPre_low_1664_1664 : Cert.Pre_low_1664_1664.Facts) (hPre_low_1792_1792 : Cert.Pre_low_1792_1792.Facts) (hPre_low_1920_1920 : Cert.Pre_low_1920_1920.Facts) (hPre_low_2048_2048 : Cert.Pre_low_2048_2048.Facts) (hPre_low_2176_2176 : Cert.Pre_low_2176_2176.Facts) (hPre_low_2304_2304 : Cert.Pre_low_2304_2304.Facts) (hPre_low_2432_2432 : Cert.Pre_low_2432_2432.Facts) (hPre_low_2560_2560 : Cert.Pre_low_2560_2560.Facts) (hPre_low_1537_1663 : Cert.Pre_low_1537_1663.Facts) (hPre_low_1665_1791 : Cert.Pre_low_1665_1791.Facts) (hPre_low_1793_1919 : Cert.Pre_low_1793_1919.Facts) (hPre_low_1921_2047 : Cert.Pre_low_1921_2047.Facts) (hPre_low_2049_2175 : Cert.Pre_low_2049_2175.Facts) (hPre_low_2177_2303 : Cert.Pre_low_2177_2303.Facts) (hPre_low_2305_2431 : Cert.Pre_low_2305_2431.Facts) (hPre_low_2433_2559 : Cert.Pre_low_2433_2559.Facts) (hPre_low_1536_1536_nonneg_KernelIdeal : Cert.Pre_low_1536_1536_nonneg_KernelIdeal.Facts) (hPre_low_1664_1664_nonneg_KernelIdeal : Cert.Pre_low_1664_1664_nonneg_KernelIdeal.Facts) (hPre_low_1792_1792_nonneg_KernelIdeal : Cert.Pre_low_1792_1792_nonneg_KernelIdeal.Facts) (hPre_low_1920_1920_nonneg_KernelIdeal : Cert.Pre_low_1920_1920_nonneg_KernelIdeal.Facts) (hPre_low_2048_2048_nonneg_KernelIdeal : Cert.Pre_low_2048_2048_nonneg_KernelIdeal.Facts) (hPre_low_2176_2176_nonneg_KernelIdeal : Cert.Pre_low_2176_2176_nonneg_KernelIdeal.Facts) (hPre_low_2304_2304_nonneg_KernelIdeal : Cert.Pre_low_2304_2304_nonneg_KernelIdeal.Facts) (hPre_low_2432_2432_nonneg_KernelIdeal : Cert.Pre_low_2432_2432_nonneg_KernelIdeal.Facts) (hPre_low_2560_2560_nonneg_KernelIdeal : Cert.Pre_low_2560_2560_nonneg_KernelIdeal.Facts) (hPre_low_1537_1663_nonneg_KernelIdeal : Cert.Pre_low_1537_1663_nonneg_KernelIdeal.Facts) (hPre_low_1665_1791_nonneg_KernelIdeal : Cert.Pre_low_1665_1791_nonneg_KernelIdeal.Facts) (hPre_low_1793_1919_nonneg_KernelIdeal : Cert.Pre_low_1793_1919_nonneg_KernelIdeal.Facts) (hPre_low_1921_2047_nonneg_KernelIdeal : Cert.Pre_low_1921_2047_nonneg_KernelIdeal.Facts) (hPre_low_2049_2175_nonneg_KernelIdeal : Cert.Pre_low_2049_2175_nonneg_KernelIdeal.Facts) (hPre_low_2177_2303_nonneg_KernelIdeal : Cert.Pre_low_2177_2303_nonneg_KernelIdeal.Facts) (hPre_low_2305_2431_nonneg_KernelIdeal : Cert.Pre_low_2305_2431_nonneg_KernelIdeal.Facts) (hPre_low_2433_2559_nonneg_KernelIdeal : Cert.Pre_low_2433_2559_nonneg_KernelIdeal.Facts) (hPre_low_1536_1536_nonneg_ReferenceIdeal : Cert.Pre_low_1536_1536_nonneg_ReferenceIdeal.Facts) (hPre_low_1664_1664_nonneg_ReferenceIdeal : Cert.Pre_low_1664_1664_nonneg_ReferenceIdeal.Facts) (hPre_low_1792_1792_nonneg_ReferenceIdeal : Cert.Pre_low_1792_1792_nonneg_ReferenceIdeal.Facts) (hPre_low_1920_1920_nonneg_ReferenceIdeal : Cert.Pre_low_1920_1920_nonneg_ReferenceIdeal.Facts) (hPre_low_2048_2048_nonneg_ReferenceIdeal : Cert.Pre_low_2048_2048_nonneg_ReferenceIdeal.Facts) (hPre_low_2176_2176_nonneg_ReferenceIdeal : Cert.Pre_low_2176_2176_nonneg_ReferenceIdeal.Facts) (hPre_low_2304_2304_nonneg_ReferenceIdeal : Cert.Pre_low_2304_2304_nonneg_ReferenceIdeal.Facts) (hPre_low_2432_2432_nonneg_ReferenceIdeal : Cert.Pre_low_2432_2432_nonneg_ReferenceIdeal.Facts) (hPre_low_2560_2560_nonneg_ReferenceIdeal : Cert.Pre_low_2560_2560_nonneg_ReferenceIdeal.Facts) (hPre_low_1537_1663_nonneg_ReferenceIdeal : Cert.Pre_low_1537_1663_nonneg_ReferenceIdeal.Facts) (hPre_low_1665_1791_nonneg_ReferenceIdeal : Cert.Pre_low_1665_1791_nonneg_ReferenceIdeal.Facts) (hPre_low_1793_1919_nonneg_ReferenceIdeal : Cert.Pre_low_1793_1919_nonneg_ReferenceIdeal.Facts) (hPre_low_1921_2047_nonneg_ReferenceIdeal : Cert.Pre_low_1921_2047_nonneg_ReferenceIdeal.Facts) (hPre_low_2049_2175_nonneg_ReferenceIdeal : Cert.Pre_low_2049_2175_nonneg_ReferenceIdeal.Facts) (hPre_low_2177_2303_nonneg_ReferenceIdeal : Cert.Pre_low_2177_2303_nonneg_ReferenceIdeal.Facts) (hPre_low_2305_2431_nonneg_ReferenceIdeal : Cert.Pre_low_2305_2431_nonneg_ReferenceIdeal.Facts) (hPre_low_2433_2559_nonneg_ReferenceIdeal : Cert.Pre_low_2433_2559_nonneg_ReferenceIdeal.Facts),
    quiescent_Kernel (hKernel := hKernel) (hPre_low_1536_1536 := hPre_low_1536_1536)
    ∧ quiescent_Kernel_pre_low_1664_1664 (hKernel := hKernel) (hPre_low_1664_1664 := hPre_low_1664_1664)
    ∧ quiescent_Kernel_pre_low_1792_1792 (hKernel := hKernel) (hPre_low_1792_1792 := hPre_low_1792_1792)
    ∧ quiescent_Kernel_pre_low_1920_1920 (hKernel := hKernel) (hPre_low_1920_1920 := hPre_low_1920_1920)
    ∧ quiescent_Kernel_pre_low_2048_2048 (hKernel := hKernel) (hPre_low_2048_2048 := hPre_low_2048_2048)
    ∧ quiescent_Kernel_pre_low_2176_2176 (hKernel := hKernel) (hPre_low_2176_2176 := hPre_low_2176_2176)
    ∧ quiescent_Kernel_pre_low_2304_2304 (hKernel := hKernel) (hPre_low_2304_2304 := hPre_low_2304_2304)
    ∧ quiescent_Kernel_pre_low_2432_2432 (hKernel := hKernel) (hPre_low_2432_2432 := hPre_low_2432_2432)
    ∧ quiescent_Kernel_pre_low_2560_2560 (hKernel := hKernel) (hPre_low_2560_2560 := hPre_low_2560_2560)
    ∧ quiescent_Kernel_pre_low_1537_1663 (hKernel := hKernel) (hPre_low_1537_1663 := hPre_low_1537_1663)
    ∧ quiescent_Kernel_pre_low_1665_1791 (hKernel := hKernel) (hPre_low_1665_1791 := hPre_low_1665_1791)
    ∧ quiescent_Kernel_pre_low_1793_1919 (hKernel := hKernel) (hPre_low_1793_1919 := hPre_low_1793_1919)
    ∧ quiescent_Kernel_pre_low_1921_2047 (hKernel := hKernel) (hPre_low_1921_2047 := hPre_low_1921_2047)
    ∧ quiescent_Kernel_pre_low_2049_2175 (hKernel := hKernel) (hPre_low_2049_2175 := hPre_low_2049_2175)
    ∧ quiescent_Kernel_pre_low_2177_2303 (hKernel := hKernel) (hPre_low_2177_2303 := hPre_low_2177_2303)
    ∧ quiescent_Kernel_pre_low_2305_2431 (hKernel := hKernel) (hPre_low_2305_2431 := hPre_low_2305_2431)
    ∧ quiescent_Kernel_pre_low_2433_2559 (hKernel := hKernel) (hPre_low_2433_2559 := hPre_low_2433_2559)
    ∧ quiescent_KernelIdeal (hKernelIdeal := hKernelIdeal) (hPre_low_1536_1536 := hPre_low_1536_1536)
    ∧ quiescent_KernelIdeal_pre_low_1664_1664 (hKernelIdeal := hKernelIdeal) (hPre_low_1664_1664 := hPre_low_1664_1664)
    ∧ quiescent_KernelIdeal_pre_low_1792_1792 (hKernelIdeal := hKernelIdeal) (hPre_low_1792_1792 := hPre_low_1792_1792)
    ∧ quiescent_KernelIdeal_pre_low_1920_1920 (hKernelIdeal := hKernelIdeal) (hPre_low_1920_1920 := hPre_low_1920_1920)
    ∧ quiescent_KernelIdeal_pre_low_2048_2048 (hKernelIdeal := hKernelIdeal) (hPre_low_2048_2048 := hPre_low_2048_2048)
    ∧ quiescent_KernelIdeal_pre_low_2176_2176 (hKernelIdeal := hKernelIdeal) (hPre_low_2176_2176 := hPre_low_2176_2176)
    ∧ quiescent_KernelIdeal_pre_low_2304_2304 (hKernelIdeal := hKernelIdeal) (hPre_low_2304_2304 := hPre_low_2304_2304)
    ∧ quiescent_KernelIdeal_pre_low_2432_2432 (hKernelIdeal := hKernelIdeal) (hPre_low_2432_2432 := hPre_low_2432_2432)
    ∧ quiescent_KernelIdeal_pre_low_2560_2560 (hKernelIdeal := hKernelIdeal) (hPre_low_2560_2560 := hPre_low_2560_2560)
    ∧ quiescent_KernelIdeal_pre_low_1537_1663 (hKernelIdeal := hKernelIdeal) (hPre_low_1537_1663 := hPre_low_1537_1663)
    ∧ quiescent_KernelIdeal_pre_low_1665_1791 (hKernelIdeal := hKernelIdeal) (hPre_low_1665_1791 := hPre_low_1665_1791)
    ∧ quiescent_KernelIdeal_pre_low_1793_1919 (hKernelIdeal := hKernelIdeal) (hPre_low_1793_1919 := hPre_low_1793_1919)
    ∧ quiescent_KernelIdeal_pre_low_1921_2047 (hKernelIdeal := hKernelIdeal) (hPre_low_1921_2047 := hPre_low_1921_2047)
    ∧ quiescent_KernelIdeal_pre_low_2049_2175 (hKernelIdeal := hKernelIdeal) (hPre_low_2049_2175 := hPre_low_2049_2175)
    ∧ quiescent_KernelIdeal_pre_low_2177_2303 (hKernelIdeal := hKernelIdeal) (hPre_low_2177_2303 := hPre_low_2177_2303)
    ∧ quiescent_KernelIdeal_pre_low_2305_2431 (hKernelIdeal := hKernelIdeal) (hPre_low_2305_2431 := hPre_low_2305_2431)
    ∧ quiescent_KernelIdeal_pre_low_2433_2559 (hKernelIdeal := hKernelIdeal) (hPre_low_2433_2559 := hPre_low_2433_2559)
    ∧ quiescent_KernelIdeal_pre_low_1536_1536_nonneg_KernelIdeal (hKernelIdeal := hKernelIdeal) (hPre_low_1536_1536_nonneg_KernelIdeal := hPre_low_1536_1536_nonneg_KernelIdeal)
    ∧ quiescent_KernelIdeal_pre_low_1664_1664_nonneg_KernelIdeal (hKernelIdeal := hKernelIdeal) (hPre_low_1664_1664_nonneg_KernelIdeal := hPre_low_1664_1664_nonneg_KernelIdeal)
    ∧ quiescent_KernelIdeal_pre_low_1792_1792_nonneg_KernelIdeal (hKernelIdeal := hKernelIdeal) (hPre_low_1792_1792_nonneg_KernelIdeal := hPre_low_1792_1792_nonneg_KernelIdeal)
    ∧ quiescent_KernelIdeal_pre_low_1920_1920_nonneg_KernelIdeal (hKernelIdeal := hKernelIdeal) (hPre_low_1920_1920_nonneg_KernelIdeal := hPre_low_1920_1920_nonneg_KernelIdeal)
    ∧ quiescent_KernelIdeal_pre_low_2048_2048_nonneg_KernelIdeal (hKernelIdeal := hKernelIdeal) (hPre_low_2048_2048_nonneg_KernelIdeal := hPre_low_2048_2048_nonneg_KernelIdeal)
    ∧ quiescent_KernelIdeal_pre_low_2176_2176_nonneg_KernelIdeal (hKernelIdeal := hKernelIdeal) (hPre_low_2176_2176_nonneg_KernelIdeal := hPre_low_2176_2176_nonneg_KernelIdeal)
    ∧ quiescent_KernelIdeal_pre_low_2304_2304_nonneg_KernelIdeal (hKernelIdeal := hKernelIdeal) (hPre_low_2304_2304_nonneg_KernelIdeal := hPre_low_2304_2304_nonneg_KernelIdeal)
    ∧ quiescent_KernelIdeal_pre_low_2432_2432_nonneg_KernelIdeal (hKernelIdeal := hKernelIdeal) (hPre_low_2432_2432_nonneg_KernelIdeal := hPre_low_2432_2432_nonneg_KernelIdeal)
    ∧ quiescent_KernelIdeal_pre_low_2560_2560_nonneg_KernelIdeal (hKernelIdeal := hKernelIdeal) (hPre_low_2560_2560_nonneg_KernelIdeal := hPre_low_2560_2560_nonneg_KernelIdeal)
    ∧ quiescent_KernelIdeal_pre_low_1537_1663_nonneg_KernelIdeal (hKernelIdeal := hKernelIdeal) (hPre_low_1537_1663_nonneg_KernelIdeal := hPre_low_1537_1663_nonneg_KernelIdeal)
    ∧ quiescent_KernelIdeal_pre_low_1665_1791_nonneg_KernelIdeal (hKernelIdeal := hKernelIdeal) (hPre_low_1665_1791_nonneg_KernelIdeal := hPre_low_1665_1791_nonneg_KernelIdeal)
    ∧ quiescent_KernelIdeal_pre_low_1793_1919_nonneg_KernelIdeal (hKernelIdeal := hKernelIdeal) (hPre_low_1793_1919_nonneg_KernelIdeal := hPre_low_1793_1919_nonneg_KernelIdeal)
    ∧ quiescent_KernelIdeal_pre_low_1921_2047_nonneg_KernelIdeal (hKernelIdeal := hKernelIdeal) (hPre_low_1921_2047_nonneg_KernelIdeal := hPre_low_1921_2047_nonneg_KernelIdeal)
    ∧ quiescent_KernelIdeal_pre_low_2049_2175_nonneg_KernelIdeal (hKernelIdeal := hKernelIdeal) (hPre_low_2049_2175_nonneg_KernelIdeal := hPre_low_2049_2175_nonneg_KernelIdeal)
    ∧ quiescent_KernelIdeal_pre_low_2177_2303_nonneg_KernelIdeal (hKernelIdeal := hKernelIdeal) (hPre_low_2177_2303_nonneg_KernelIdeal := hPre_low_2177_2303_nonneg_KernelIdeal)
    ∧ quiescent_KernelIdeal_pre_low_2305_2431_nonneg_KernelIdeal (hKernelIdeal := hKernelIdeal) (hPre_low_2305_2431_nonneg_KernelIdeal := hPre_low_2305_2431_nonneg_KernelIdeal)
    ∧ quiescent_KernelIdeal_pre_low_2433_2559_nonneg_KernelIdeal (hKernelIdeal := hKernelIdeal) (hPre_low_2433_2559_nonneg_KernelIdeal := hPre_low_2433_2559_nonneg_KernelIdeal)
    ∧ quiescent_ReferenceIdeal (hReferenceIdeal := hReferenceIdeal)
    ∧ quiescent_ReferenceIdeal_pre_low_1536_1536_nonneg_ReferenceIdeal (hReferenceIdeal := hReferenceIdeal) (hPre_low_1536_1536_nonneg_ReferenceIdeal := hPre_low_1536_1536_nonneg_ReferenceIdeal)
    ∧ quiescent_ReferenceIdeal_pre_low_1664_1664_nonneg_ReferenceIdeal (hReferenceIdeal := hReferenceIdeal) (hPre_low_1664_1664_nonneg_ReferenceIdeal := hPre_low_1664_1664_nonneg_ReferenceIdeal)
    ∧ quiescent_ReferenceIdeal_pre_low_1792_1792_nonneg_ReferenceIdeal (hReferenceIdeal := hReferenceIdeal) (hPre_low_1792_1792_nonneg_ReferenceIdeal := hPre_low_1792_1792_nonneg_ReferenceIdeal)
    ∧ quiescent_ReferenceIdeal_pre_low_1920_1920_nonneg_ReferenceIdeal (hReferenceIdeal := hReferenceIdeal) (hPre_low_1920_1920_nonneg_ReferenceIdeal := hPre_low_1920_1920_nonneg_ReferenceIdeal)
    ∧ quiescent_ReferenceIdeal_pre_low_2048_2048_nonneg_ReferenceIdeal (hReferenceIdeal := hReferenceIdeal) (hPre_low_2048_2048_nonneg_ReferenceIdeal := hPre_low_2048_2048_nonneg_ReferenceIdeal)
    ∧ quiescent_ReferenceIdeal_pre_low_2176_2176_nonneg_ReferenceIdeal (hReferenceIdeal := hReferenceIdeal) (hPre_low_2176_2176_nonneg_ReferenceIdeal := hPre_low_2176_2176_nonneg_ReferenceIdeal)
    ∧ quiescent_ReferenceIdeal_pre_low_2304_2304_nonneg_ReferenceIdeal (hReferenceIdeal := hReferenceIdeal) (hPre_low_2304_2304_nonneg_ReferenceIdeal := hPre_low_2304_2304_nonneg_ReferenceIdeal)
    ∧ quiescent_ReferenceIdeal_pre_low_2432_2432_nonneg_ReferenceIdeal (hReferenceIdeal := hReferenceIdeal) (hPre_low_2432_2432_nonneg_ReferenceIdeal := hPre_low_2432_2432_nonneg_ReferenceIdeal)
    ∧ quiescent_ReferenceIdeal_pre_low_2560_2560_nonneg_ReferenceIdeal (hReferenceIdeal := hReferenceIdeal) (hPre_low_2560_2560_nonneg_ReferenceIdeal := hPre_low_2560_2560_nonneg_ReferenceIdeal)
    ∧ quiescent_ReferenceIdeal_pre_low_1537_1663_nonneg_ReferenceIdeal (hReferenceIdeal := hReferenceIdeal) (hPre_low_1537_1663_nonneg_ReferenceIdeal := hPre_low_1537_1663_nonneg_ReferenceIdeal)
    ∧ quiescent_ReferenceIdeal_pre_low_1665_1791_nonneg_ReferenceIdeal (hReferenceIdeal := hReferenceIdeal) (hPre_low_1665_1791_nonneg_ReferenceIdeal := hPre_low_1665_1791_nonneg_ReferenceIdeal)
    ∧ quiescent_ReferenceIdeal_pre_low_1793_1919_nonneg_ReferenceIdeal (hReferenceIdeal := hReferenceIdeal) (hPre_low_1793_1919_nonneg_ReferenceIdeal := hPre_low_1793_1919_nonneg_ReferenceIdeal)
    ∧ quiescent_ReferenceIdeal_pre_low_1921_2047_nonneg_ReferenceIdeal (hReferenceIdeal := hReferenceIdeal) (hPre_low_1921_2047_nonneg_ReferenceIdeal := hPre_low_1921_2047_nonneg_ReferenceIdeal)
    ∧ quiescent_ReferenceIdeal_pre_low_2049_2175_nonneg_ReferenceIdeal (hReferenceIdeal := hReferenceIdeal) (hPre_low_2049_2175_nonneg_ReferenceIdeal := hPre_low_2049_2175_nonneg_ReferenceIdeal)
    ∧ quiescent_ReferenceIdeal_pre_low_2177_2303_nonneg_ReferenceIdeal (hReferenceIdeal := hReferenceIdeal) (hPre_low_2177_2303_nonneg_ReferenceIdeal := hPre_low_2177_2303_nonneg_ReferenceIdeal)
    ∧ quiescent_ReferenceIdeal_pre_low_2305_2431_nonneg_ReferenceIdeal (hReferenceIdeal := hReferenceIdeal) (hPre_low_2305_2431_nonneg_ReferenceIdeal := hPre_low_2305_2431_nonneg_ReferenceIdeal)
    ∧ quiescent_ReferenceIdeal_pre_low_2433_2559_nonneg_ReferenceIdeal (hReferenceIdeal := hReferenceIdeal) (hPre_low_2433_2559_nonneg_ReferenceIdeal := hPre_low_2433_2559_nonneg_ReferenceIdeal)
    ∧ preserves_Kernel_KernelIdeal
    ∧ algebraic_KernelIdeal_ReferenceIdeal_pre_low_1536_1536_nonneg_KernelIdeal (hKernelIdeal := hKernelIdeal) (hReferenceIdeal := hReferenceIdeal) (hPre_low_1536_1536_nonneg_KernelIdeal := hPre_low_1536_1536_nonneg_KernelIdeal)
    ∧ algebraic_KernelIdeal_ReferenceIdeal_pre_low_1664_1664_nonneg_KernelIdeal (hKernelIdeal := hKernelIdeal) (hReferenceIdeal := hReferenceIdeal) (hPre_low_1664_1664_nonneg_KernelIdeal := hPre_low_1664_1664_nonneg_KernelIdeal)
    ∧ algebraic_KernelIdeal_ReferenceIdeal_pre_low_1792_1792_nonneg_KernelIdeal (hKernelIdeal := hKernelIdeal) (hReferenceIdeal := hReferenceIdeal) (hPre_low_1792_1792_nonneg_KernelIdeal := hPre_low_1792_1792_nonneg_KernelIdeal)
    ∧ algebraic_KernelIdeal_ReferenceIdeal_pre_low_1920_1920_nonneg_KernelIdeal (hKernelIdeal := hKernelIdeal) (hReferenceIdeal := hReferenceIdeal) (hPre_low_1920_1920_nonneg_KernelIdeal := hPre_low_1920_1920_nonneg_KernelIdeal)
    ∧ algebraic_KernelIdeal_ReferenceIdeal_pre_low_2048_2048_nonneg_KernelIdeal (hKernelIdeal := hKernelIdeal) (hReferenceIdeal := hReferenceIdeal) (hPre_low_2048_2048_nonneg_KernelIdeal := hPre_low_2048_2048_nonneg_KernelIdeal)
    ∧ algebraic_KernelIdeal_ReferenceIdeal_pre_low_2176_2176_nonneg_KernelIdeal (hKernelIdeal := hKernelIdeal) (hReferenceIdeal := hReferenceIdeal) (hPre_low_2176_2176_nonneg_KernelIdeal := hPre_low_2176_2176_nonneg_KernelIdeal)
    ∧ algebraic_KernelIdeal_ReferenceIdeal_pre_low_2304_2304_nonneg_KernelIdeal (hKernelIdeal := hKernelIdeal) (hReferenceIdeal := hReferenceIdeal) (hPre_low_2304_2304_nonneg_KernelIdeal := hPre_low_2304_2304_nonneg_KernelIdeal)
    ∧ algebraic_KernelIdeal_ReferenceIdeal_pre_low_2432_2432_nonneg_KernelIdeal (hKernelIdeal := hKernelIdeal) (hReferenceIdeal := hReferenceIdeal) (hPre_low_2432_2432_nonneg_KernelIdeal := hPre_low_2432_2432_nonneg_KernelIdeal)
    ∧ algebraic_KernelIdeal_ReferenceIdeal_pre_low_2560_2560_nonneg_KernelIdeal (hKernelIdeal := hKernelIdeal) (hReferenceIdeal := hReferenceIdeal) (hPre_low_2560_2560_nonneg_KernelIdeal := hPre_low_2560_2560_nonneg_KernelIdeal)
    ∧ algebraic_KernelIdeal_ReferenceIdeal_pre_low_1537_1663_nonneg_KernelIdeal (hKernelIdeal := hKernelIdeal) (hReferenceIdeal := hReferenceIdeal) (hPre_low_1537_1663_nonneg_KernelIdeal := hPre_low_1537_1663_nonneg_KernelIdeal)
    ∧ algebraic_KernelIdeal_ReferenceIdeal_pre_low_1665_1791_nonneg_KernelIdeal (hKernelIdeal := hKernelIdeal) (hReferenceIdeal := hReferenceIdeal) (hPre_low_1665_1791_nonneg_KernelIdeal := hPre_low_1665_1791_nonneg_KernelIdeal)
    ∧ algebraic_KernelIdeal_ReferenceIdeal_pre_low_1793_1919_nonneg_KernelIdeal (hKernelIdeal := hKernelIdeal) (hReferenceIdeal := hReferenceIdeal) (hPre_low_1793_1919_nonneg_KernelIdeal := hPre_low_1793_1919_nonneg_KernelIdeal)
    ∧ algebraic_KernelIdeal_ReferenceIdeal_pre_low_1921_2047_nonneg_KernelIdeal (hKernelIdeal := hKernelIdeal) (hReferenceIdeal := hReferenceIdeal) (hPre_low_1921_2047_nonneg_KernelIdeal := hPre_low_1921_2047_nonneg_KernelIdeal)
    ∧ algebraic_KernelIdeal_ReferenceIdeal_pre_low_2049_2175_nonneg_KernelIdeal (hKernelIdeal := hKernelIdeal) (hReferenceIdeal := hReferenceIdeal) (hPre_low_2049_2175_nonneg_KernelIdeal := hPre_low_2049_2175_nonneg_KernelIdeal)
    ∧ algebraic_KernelIdeal_ReferenceIdeal_pre_low_2177_2303_nonneg_KernelIdeal (hKernelIdeal := hKernelIdeal) (hReferenceIdeal := hReferenceIdeal) (hPre_low_2177_2303_nonneg_KernelIdeal := hPre_low_2177_2303_nonneg_KernelIdeal)
    ∧ algebraic_KernelIdeal_ReferenceIdeal_pre_low_2305_2431_nonneg_KernelIdeal (hKernelIdeal := hKernelIdeal) (hReferenceIdeal := hReferenceIdeal) (hPre_low_2305_2431_nonneg_KernelIdeal := hPre_low_2305_2431_nonneg_KernelIdeal)
    ∧ algebraic_KernelIdeal_ReferenceIdeal_pre_low_2433_2559_nonneg_KernelIdeal (hKernelIdeal := hKernelIdeal) (hReferenceIdeal := hReferenceIdeal) (hPre_low_2433_2559_nonneg_KernelIdeal := hPre_low_2433_2559_nonneg_KernelIdeal)
-- ==== Pre_low_1536_1536.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 1536#32
  let main_v4 : IVec S_ 1 := cmpi .sge main_v3 main_c_1
  let main_c_2 : IVec S_ 32 := constantI S_ 32 1536#32
  let main_v5 : IVec S_ 1 := cmpi .sle main_v3 main_c_2
  let main_v6 : IVec S_ 1 := andi main_v4 main_v5
  main_v6
-- ==== Pre_low_1536_1536_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1536#32
  let main_v6 : IVec S_ 1 := cmpi .sge main_v3 main_c_2
  let main_c_3 : IVec S_ 32 := constantI S_ 32 1536#32
  let main_v7 : IVec S_ 1 := cmpi .sle main_v3 main_c_3
  let main_v8 : IVec S_ 1 := andi main_v6 main_v7
  (main_v5, main_v8)
-- ==== Pre_low_1536_1536_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1536#32
  let main_v6 : IVec S_ 1 := cmpi .sge main_v3 main_c_2
  let main_c_3 : IVec S_ 32 := constantI S_ 32 1536#32
  let main_v7 : IVec S_ 1 := cmpi .sle main_v3 main_c_3
  let main_v8 : IVec S_ 1 := andi main_v6 main_v7
  (main_v5, main_v8)
-- ==== Pre_low_1537_1663.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 1537#32
  let main_v4 : IVec S_ 1 := cmpi .sge main_v3 main_c_1
  let main_c_2 : IVec S_ 32 := constantI S_ 32 1663#32
  let main_v5 : IVec S_ 1 := cmpi .sle main_v3 main_c_2
  let main_v6 : IVec S_ 1 := andi main_v4 main_v5
  main_v6
-- ==== Pre_low_1537_1663_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1537#32
  let main_v6 : IVec S_ 1 := cmpi .sge main_v3 main_c_2
  let main_c_3 : IVec S_ 32 := constantI S_ 32 1663#32
  let main_v7 : IVec S_ 1 := cmpi .sle main_v3 main_c_3
  let main_v8 : IVec S_ 1 := andi main_v6 main_v7
  (main_v5, main_v8)
-- ==== Pre_low_1537_1663_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1537#32
  let main_v6 : IVec S_ 1 := cmpi .sge main_v3 main_c_2
  let main_c_3 : IVec S_ 32 := constantI S_ 32 1663#32
  let main_v7 : IVec S_ 1 := cmpi .sle main_v3 main_c_3
  let main_v8 : IVec S_ 1 := andi main_v6 main_v7
  (main_v5, main_v8)
-- ==== Pre_low_1664_1664.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 1664#32
  let main_v4 : IVec S_ 1 := cmpi .sge main_v3 main_c_1
  let main_c_2 : IVec S_ 32 := constantI S_ 32 1664#32
  let main_v5 : IVec S_ 1 := cmpi .sle main_v3 main_c_2
  let main_v6 : IVec S_ 1 := andi main_v4 main_v5
  main_v6
-- ==== Pre_low_1664_1664_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1664#32
  let main_v6 : IVec S_ 1 := cmpi .sge main_v3 main_c_2
  let main_c_3 : IVec S_ 32 := constantI S_ 32 1664#32
  let main_v7 : IVec S_ 1 := cmpi .sle main_v3 main_c_3
  let main_v8 : IVec S_ 1 := andi main_v6 main_v7
  (main_v5, main_v8)
-- ==== Pre_low_1664_1664_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1664#32
  let main_v6 : IVec S_ 1 := cmpi .sge main_v3 main_c_2
  let main_c_3 : IVec S_ 32 := constantI S_ 32 1664#32
  let main_v7 : IVec S_ 1 := cmpi .sle main_v3 main_c_3
  let main_v8 : IVec S_ 1 := andi main_v6 main_v7
  (main_v5, main_v8)
-- ==== Pre_low_1665_1791.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 1665#32
  let main_v4 : IVec S_ 1 := cmpi .sge main_v3 main_c_1
  let main_c_2 : IVec S_ 32 := constantI S_ 32 1791#32
  let main_v5 : IVec S_ 1 := cmpi .sle main_v3 main_c_2
  let main_v6 : IVec S_ 1 := andi main_v4 main_v5
  main_v6
-- ==== Pre_low_1665_1791_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1665#32
  let main_v6 : IVec S_ 1 := cmpi .sge main_v3 main_c_2
  let main_c_3 : IVec S_ 32 := constantI S_ 32 1791#32
  let main_v7 : IVec S_ 1 := cmpi .sle main_v3 main_c_3
  let main_v8 : IVec S_ 1 := andi main_v6 main_v7
  (main_v5, main_v8)
-- ==== Pre_low_1665_1791_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1665#32
  let main_v6 : IVec S_ 1 := cmpi .sge main_v3 main_c_2
  let main_c_3 : IVec S_ 32 := constantI S_ 32 1791#32
  let main_v7 : IVec S_ 1 := cmpi .sle main_v3 main_c_3
  let main_v8 : IVec S_ 1 := andi main_v6 main_v7
  (main_v5, main_v8)
-- ==== Pre_low_1792_1792.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 1792#32
  let main_v4 : IVec S_ 1 := cmpi .sge main_v3 main_c_1
  let main_c_2 : IVec S_ 32 := constantI S_ 32 1792#32
  let main_v5 : IVec S_ 1 := cmpi .sle main_v3 main_c_2
  let main_v6 : IVec S_ 1 := andi main_v4 main_v5
  main_v6
-- ==== Pre_low_1792_1792_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1792#32
  let main_v6 : IVec S_ 1 := cmpi .sge main_v3 main_c_2
  let main_c_3 : IVec S_ 32 := constantI S_ 32 1792#32
  let main_v7 : IVec S_ 1 := cmpi .sle main_v3 main_c_3
  let main_v8 : IVec S_ 1 := andi main_v6 main_v7
  (main_v5, main_v8)
-- ==== Pre_low_1792_1792_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1792#32
  let main_v6 : IVec S_ 1 := cmpi .sge main_v3 main_c_2
  let main_c_3 : IVec S_ 32 := constantI S_ 32 1792#32
  let main_v7 : IVec S_ 1 := cmpi .sle main_v3 main_c_3
  let main_v8 : IVec S_ 1 := andi main_v6 main_v7
  (main_v5, main_v8)
-- ==== Pre_low_1793_1919.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 1793#32
  let main_v4 : IVec S_ 1 := cmpi .sge main_v3 main_c_1
  let main_c_2 : IVec S_ 32 := constantI S_ 32 1919#32
  let main_v5 : IVec S_ 1 := cmpi .sle main_v3 main_c_2
  let main_v6 : IVec S_ 1 := andi main_v4 main_v5
  main_v6
-- ==== Pre_low_1793_1919_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1793#32
  let main_v6 : IVec S_ 1 := cmpi .sge main_v3 main_c_2
  let main_c_3 : IVec S_ 32 := constantI S_ 32 1919#32
  let main_v7 : IVec S_ 1 := cmpi .sle main_v3 main_c_3
  let main_v8 : IVec S_ 1 := andi main_v6 main_v7
  (main_v5, main_v8)
-- ==== Pre_low_1793_1919_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1793#32
  let main_v6 : IVec S_ 1 := cmpi .sge main_v3 main_c_2
  let main_c_3 : IVec S_ 32 := constantI S_ 32 1919#32
  let main_v7 : IVec S_ 1 := cmpi .sle main_v3 main_c_3
  let main_v8 : IVec S_ 1 := andi main_v6 main_v7
  (main_v5, main_v8)
-- ==== Pre_low_1920_1920.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 1920#32
  let main_v4 : IVec S_ 1 := cmpi .sge main_v3 main_c_1
  let main_c_2 : IVec S_ 32 := constantI S_ 32 1920#32
  let main_v5 : IVec S_ 1 := cmpi .sle main_v3 main_c_2
  let main_v6 : IVec S_ 1 := andi main_v4 main_v5
  main_v6
-- ==== Pre_low_1920_1920_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1920#32
  let main_v6 : IVec S_ 1 := cmpi .sge main_v3 main_c_2
  let main_c_3 : IVec S_ 32 := constantI S_ 32 1920#32
  let main_v7 : IVec S_ 1 := cmpi .sle main_v3 main_c_3
  let main_v8 : IVec S_ 1 := andi main_v6 main_v7
  (main_v5, main_v8)
-- ==== Pre_low_1920_1920_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1920#32
  let main_v6 : IVec S_ 1 := cmpi .sge main_v3 main_c_2
  let main_c_3 : IVec S_ 32 := constantI S_ 32 1920#32
  let main_v7 : IVec S_ 1 := cmpi .sle main_v3 main_c_3
  let main_v8 : IVec S_ 1 := andi main_v6 main_v7
  (main_v5, main_v8)
-- ==== Pre_low_1921_2047.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 1921#32
  let main_v4 : IVec S_ 1 := cmpi .sge main_v3 main_c_1
  let main_c_2 : IVec S_ 32 := constantI S_ 32 2047#32
  let main_v5 : IVec S_ 1 := cmpi .sle main_v3 main_c_2
  let main_v6 : IVec S_ 1 := andi main_v4 main_v5
  main_v6
-- ==== Pre_low_1921_2047_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1921#32
  let main_v6 : IVec S_ 1 := cmpi .sge main_v3 main_c_2
  let main_c_3 : IVec S_ 32 := constantI S_ 32 2047#32
  let main_v7 : IVec S_ 1 := cmpi .sle main_v3 main_c_3
  let main_v8 : IVec S_ 1 := andi main_v6 main_v7
  (main_v5, main_v8)
-- ==== Pre_low_1921_2047_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 1921#32
  let main_v6 : IVec S_ 1 := cmpi .sge main_v3 main_c_2
  let main_c_3 : IVec S_ 32 := constantI S_ 32 2047#32
  let main_v7 : IVec S_ 1 := cmpi .sle main_v3 main_c_3
  let main_v8 : IVec S_ 1 := andi main_v6 main_v7
  (main_v5, main_v8)
-- ==== Pre_low_2048_2048.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2048#32
  let main_v4 : IVec S_ 1 := cmpi .sge main_v3 main_c_1
  let main_c_2 : IVec S_ 32 := constantI S_ 32 2048#32
  let main_v5 : IVec S_ 1 := cmpi .sle main_v3 main_c_2
  let main_v6 : IVec S_ 1 := andi main_v4 main_v5
  main_v6
-- ==== Pre_low_2048_2048_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2048#32
  let main_v6 : IVec S_ 1 := cmpi .sge main_v3 main_c_2
  let main_c_3 : IVec S_ 32 := constantI S_ 32 2048#32
  let main_v7 : IVec S_ 1 := cmpi .sle main_v3 main_c_3
  let main_v8 : IVec S_ 1 := andi main_v6 main_v7
  (main_v5, main_v8)
-- ==== Pre_low_2048_2048_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2048#32
  let main_v6 : IVec S_ 1 := cmpi .sge main_v3 main_c_2
  let main_c_3 : IVec S_ 32 := constantI S_ 32 2048#32
  let main_v7 : IVec S_ 1 := cmpi .sle main_v3 main_c_3
  let main_v8 : IVec S_ 1 := andi main_v6 main_v7
  (main_v5, main_v8)
-- ==== Pre_low_2049_2175.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2049#32
  let main_v4 : IVec S_ 1 := cmpi .sge main_v3 main_c_1
  let main_c_2 : IVec S_ 32 := constantI S_ 32 2175#32
  let main_v5 : IVec S_ 1 := cmpi .sle main_v3 main_c_2
  let main_v6 : IVec S_ 1 := andi main_v4 main_v5
  main_v6
-- ==== Pre_low_2049_2175_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2049#32
  let main_v6 : IVec S_ 1 := cmpi .sge main_v3 main_c_2
  let main_c_3 : IVec S_ 32 := constantI S_ 32 2175#32
  let main_v7 : IVec S_ 1 := cmpi .sle main_v3 main_c_3
  let main_v8 : IVec S_ 1 := andi main_v6 main_v7
  (main_v5, main_v8)
-- ==== Pre_low_2049_2175_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2049#32
  let main_v6 : IVec S_ 1 := cmpi .sge main_v3 main_c_2
  let main_c_3 : IVec S_ 32 := constantI S_ 32 2175#32
  let main_v7 : IVec S_ 1 := cmpi .sle main_v3 main_c_3
  let main_v8 : IVec S_ 1 := andi main_v6 main_v7
  (main_v5, main_v8)
-- ==== Pre_low_2176_2176.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2176#32
  let main_v4 : IVec S_ 1 := cmpi .sge main_v3 main_c_1
  let main_c_2 : IVec S_ 32 := constantI S_ 32 2176#32
  let main_v5 : IVec S_ 1 := cmpi .sle main_v3 main_c_2
  let main_v6 : IVec S_ 1 := andi main_v4 main_v5
  main_v6
-- ==== Pre_low_2176_2176_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2176#32
  let main_v6 : IVec S_ 1 := cmpi .sge main_v3 main_c_2
  let main_c_3 : IVec S_ 32 := constantI S_ 32 2176#32
  let main_v7 : IVec S_ 1 := cmpi .sle main_v3 main_c_3
  let main_v8 : IVec S_ 1 := andi main_v6 main_v7
  (main_v5, main_v8)
-- ==== Pre_low_2176_2176_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2176#32
  let main_v6 : IVec S_ 1 := cmpi .sge main_v3 main_c_2
  let main_c_3 : IVec S_ 32 := constantI S_ 32 2176#32
  let main_v7 : IVec S_ 1 := cmpi .sle main_v3 main_c_3
  let main_v8 : IVec S_ 1 := andi main_v6 main_v7
  (main_v5, main_v8)
-- ==== Pre_low_2177_2303.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2177#32
  let main_v4 : IVec S_ 1 := cmpi .sge main_v3 main_c_1
  let main_c_2 : IVec S_ 32 := constantI S_ 32 2303#32
  let main_v5 : IVec S_ 1 := cmpi .sle main_v3 main_c_2
  let main_v6 : IVec S_ 1 := andi main_v4 main_v5
  main_v6
-- ==== Pre_low_2177_2303_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2177#32
  let main_v6 : IVec S_ 1 := cmpi .sge main_v3 main_c_2
  let main_c_3 : IVec S_ 32 := constantI S_ 32 2303#32
  let main_v7 : IVec S_ 1 := cmpi .sle main_v3 main_c_3
  let main_v8 : IVec S_ 1 := andi main_v6 main_v7
  (main_v5, main_v8)
-- ==== Pre_low_2177_2303_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2177#32
  let main_v6 : IVec S_ 1 := cmpi .sge main_v3 main_c_2
  let main_c_3 : IVec S_ 32 := constantI S_ 32 2303#32
  let main_v7 : IVec S_ 1 := cmpi .sle main_v3 main_c_3
  let main_v8 : IVec S_ 1 := andi main_v6 main_v7
  (main_v5, main_v8)
-- ==== Pre_low_2304_2304.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2304#32
  let main_v4 : IVec S_ 1 := cmpi .sge main_v3 main_c_1
  let main_c_2 : IVec S_ 32 := constantI S_ 32 2304#32
  let main_v5 : IVec S_ 1 := cmpi .sle main_v3 main_c_2
  let main_v6 : IVec S_ 1 := andi main_v4 main_v5
  main_v6
-- ==== Pre_low_2304_2304_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2304#32
  let main_v6 : IVec S_ 1 := cmpi .sge main_v3 main_c_2
  let main_c_3 : IVec S_ 32 := constantI S_ 32 2304#32
  let main_v7 : IVec S_ 1 := cmpi .sle main_v3 main_c_3
  let main_v8 : IVec S_ 1 := andi main_v6 main_v7
  (main_v5, main_v8)
-- ==== Pre_low_2304_2304_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2304#32
  let main_v6 : IVec S_ 1 := cmpi .sge main_v3 main_c_2
  let main_c_3 : IVec S_ 32 := constantI S_ 32 2304#32
  let main_v7 : IVec S_ 1 := cmpi .sle main_v3 main_c_3
  let main_v8 : IVec S_ 1 := andi main_v6 main_v7
  (main_v5, main_v8)
-- ==== Pre_low_2305_2431.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2305#32
  let main_v4 : IVec S_ 1 := cmpi .sge main_v3 main_c_1
  let main_c_2 : IVec S_ 32 := constantI S_ 32 2431#32
  let main_v5 : IVec S_ 1 := cmpi .sle main_v3 main_c_2
  let main_v6 : IVec S_ 1 := andi main_v4 main_v5
  main_v6
-- ==== Pre_low_2305_2431_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2305#32
  let main_v6 : IVec S_ 1 := cmpi .sge main_v3 main_c_2
  let main_c_3 : IVec S_ 32 := constantI S_ 32 2431#32
  let main_v7 : IVec S_ 1 := cmpi .sle main_v3 main_c_3
  let main_v8 : IVec S_ 1 := andi main_v6 main_v7
  (main_v5, main_v8)
-- ==== Pre_low_2305_2431_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2305#32
  let main_v6 : IVec S_ 1 := cmpi .sge main_v3 main_c_2
  let main_c_3 : IVec S_ 32 := constantI S_ 32 2431#32
  let main_v7 : IVec S_ 1 := cmpi .sle main_v3 main_c_3
  let main_v8 : IVec S_ 1 := andi main_v6 main_v7
  (main_v5, main_v8)
-- ==== Pre_low_2432_2432.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2432#32
  let main_v4 : IVec S_ 1 := cmpi .sge main_v3 main_c_1
  let main_c_2 : IVec S_ 32 := constantI S_ 32 2432#32
  let main_v5 : IVec S_ 1 := cmpi .sle main_v3 main_c_2
  let main_v6 : IVec S_ 1 := andi main_v4 main_v5
  main_v6
-- ==== Pre_low_2432_2432_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2432#32
  let main_v6 : IVec S_ 1 := cmpi .sge main_v3 main_c_2
  let main_c_3 : IVec S_ 32 := constantI S_ 32 2432#32
  let main_v7 : IVec S_ 1 := cmpi .sle main_v3 main_c_3
  let main_v8 : IVec S_ 1 := andi main_v6 main_v7
  (main_v5, main_v8)
-- ==== Pre_low_2432_2432_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2432#32
  let main_v6 : IVec S_ 1 := cmpi .sge main_v3 main_c_2
  let main_c_3 : IVec S_ 32 := constantI S_ 32 2432#32
  let main_v7 : IVec S_ 1 := cmpi .sle main_v3 main_c_3
  let main_v8 : IVec S_ 1 := andi main_v6 main_v7
  (main_v5, main_v8)
-- ==== Pre_low_2433_2559.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2433#32
  let main_v4 : IVec S_ 1 := cmpi .sge main_v3 main_c_1
  let main_c_2 : IVec S_ 32 := constantI S_ 32 2559#32
  let main_v5 : IVec S_ 1 := cmpi .sle main_v3 main_c_2
  let main_v6 : IVec S_ 1 := andi main_v4 main_v5
  main_v6
-- ==== Pre_low_2433_2559_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2433#32
  let main_v6 : IVec S_ 1 := cmpi .sge main_v3 main_c_2
  let main_c_3 : IVec S_ 32 := constantI S_ 32 2559#32
  let main_v7 : IVec S_ 1 := cmpi .sle main_v3 main_c_3
  let main_v8 : IVec S_ 1 := andi main_v6 main_v7
  (main_v5, main_v8)
-- ==== Pre_low_2433_2559_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2433#32
  let main_v6 : IVec S_ 1 := cmpi .sge main_v3 main_c_2
  let main_c_3 : IVec S_ 32 := constantI S_ 32 2559#32
  let main_v7 : IVec S_ 1 := cmpi .sle main_v3 main_c_3
  let main_v8 : IVec S_ 1 := andi main_v6 main_v7
  (main_v5, main_v8)
-- ==== Pre_low_2560_2560.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2560#32
  let main_v4 : IVec S_ 1 := cmpi .sge main_v3 main_c_1
  let main_c_2 : IVec S_ 32 := constantI S_ 32 2560#32
  let main_v5 : IVec S_ 1 := cmpi .sle main_v3 main_c_2
  let main_v6 : IVec S_ 1 := andi main_v4 main_v5
  main_v6
-- ==== Pre_low_2560_2560_nonneg_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2560#32
  let main_v6 : IVec S_ 1 := cmpi .sge main_v3 main_c_2
  let main_c_3 : IVec S_ 32 := constantI S_ 32 2560#32
  let main_v7 : IVec S_ 1 := cmpi .sle main_v3 main_c_3
  let main_v8 : IVec S_ 1 := andi main_v6 main_v7
  (main_v5, main_v8)
-- ==== Pre_low_2560_2560_nonneg_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S4096 1 × IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 0#32
  let main_v4 : IVec S4096 32 := broadcastInDim S4096 ![] bcast_S_S4096 main_c_1
  let main_v5 : IVec S4096 1 := cmpi .sge main_arg0 main_v4
  let main_c_2 : IVec S_ 32 := constantI S_ 32 2560#32
  let main_v6 : IVec S_ 1 := cmpi .sge main_v3 main_c_2
  let main_c_3 : IVec S_ 32 := constantI S_ 32 2560#32
  let main_v7 : IVec S_ 1 := cmpi .sle main_v3 main_c_3
  let main_v8 : IVec S_ 1 := andi main_v6 main_v7
  (main_v5, main_v8)
-- ==== Kernel.lean ====
abbrev S4096 : Shape := ⟨1, ![4096]⟩
abbrev S8192x2048 : Shape := ⟨2, ![8192, 2048]⟩
abbrev S_ : Shape := ⟨0, ![]⟩
abbrev S1 : Shape := ⟨1, ![1]⟩
abbrev S4096x2048 : Shape := ⟨2, ![4096, 2048]⟩
abbrev S2560x2048 : Shape := ⟨2, ![2560, 2048]⟩
abbrev S20 : Shape := ⟨1, ![20]⟩
abbrev S128 : Shape := ⟨1, ![128]⟩
abbrev S64 : Shape := ⟨1, ![64]⟩
abbrev S1x2048 : Shape := ⟨2, ![1, 2048]⟩
abbrev S128x2048 : Shape := ⟨2, ![128, 2048]⟩

abbrev nBuf : Space → Nat
  | .hbm => 31
  | .vmem => 2
  | .smem => 3
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096x2048, .f32⟩
  | .local _ .vmem, ⟨0, _⟩ => ⟨S2560x2048, .f32⟩
  | .local _ .vmem, ⟨1, _⟩ => ⟨S2560x2048, .f32⟩
  | .local _ .smem, ⟨0, _⟩ => ⟨S4096, .i32⟩
  | .local _ .smem, ⟨1, _⟩ => ⟨S4096, .i32⟩
  | .local _ .smem, ⟨2, _⟩ => ⟨S1, .i32⟩
  | _, _ => ⟨S4096, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 299 → Bool
  | ⟨i, _⟩ => dmaSemScopedAt i

abbrev sig : RefSig :=
  (ofTc nBuf bufTy 1 299 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_c_5 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_v16 : Ref sig .tc := ⟨.hbm, 30, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_27 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_26 : BitVec 32 := 16#32
  let v58 : BitVec 32 := Scalar.muli v9 c16_i32_26
  let v59 : BitVec 32 := Scalar.addi c0_i32_27 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v60 : BitVec 32 := Scalar.muli v5 c4_i32_28
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v62 : BitVec 32 := Scalar.muli v8 c1_i32_29
  let v63 : BitVec 32 := Scalar.addi v61 v62
  v63.toNat
@[reducible] def k0_t1_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off1 (d0 : Dev nD) (v10 : BitVec 32) (k0_t1 : Fin k0_t1_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c0_i32_170 : BitVec 32 := 0#32
  let c0_i32_152 : BitVec 32 := 0#32
  let c1_i32_154 : BitVec 32 := 1#32
  let arg12 : BitVec 32 := Scf.iv c0_i32_152 c1_i32_154 k0_t1
  let v281 : BitVec 32 := Scalar.addi c0_i32_170 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_171 : BitVec 32 := 1#32
  let v284 : BitVec 32 := Scalar.subi v283 c1_i32_171
  let v285 : BitVec 32 := Scalar.minsi v282 v284
  let v286 : Index := Scalar.indexCast v285
  ![v286.toNat]
def k0_cond1 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c0_i32_31 : BitVec 32 := 0#32
  let v64 : BitVec 1 := Scalar.cmpi .sgt v37 c0_i32_31
  let v65 : BitVec 32 := Scalar.extui v64
  let c0_i32_32 : BitVec 32 := 0#32
  let v66 : BitVec 1 := Scalar.cmpi .ne v65 c0_i32_32
  v66

def k0_off2 (k0_t1 : Fin k0_t1_loop.trips) : Fin 1 → Nat :=
  let c0_i32_152 : BitVec 32 := 0#32
  let c1_i32_154 : BitVec 32 := 1#32
  let arg12 : BitVec 32 := Scf.iv c0_i32_152 c1_i32_154 k0_t1
  ![arg12.toNat]
def k0_off3 (k0_t1 : Fin k0_t1_loop.trips) : Fin 2 → Nat :=
  let c0_i32_170 : BitVec 32 := 0#32
  let c0_i32_152 : BitVec 32 := 0#32
  let c1_i32_154 : BitVec 32 := 1#32
  let arg12 : BitVec 32 := Scf.iv c0_i32_152 c1_i32_154 k0_t1
  let v281 : BitVec 32 := Scalar.addi c0_i32_170 arg12
  let c0_i32_172 : BitVec 32 := 0#32
  ![v281.toNat, 0]
def k0_off4 (v287 : BitVec 32) : Fin 2 → Nat :=
  let c0_i32_173 : BitVec 32 := 0#32
  ![v287.toNat, 0]

def k0_chk2 (d0 : Dev nD) (v10 : BitVec 32) (v287 : BitVec 32) : Prop :=
  (∀ (k0_h1 : k0_cond1 d0 v10 = 1#1), ∀ a, (k0_off4 v287) a + S1x2048.size a ≤ S8192x2048.size a)
theorem k0_off4_inb : ∀ (d0 : Dev nD) (v10 : BitVec 32) (v287 : BitVec 32) (k0_hw2 : k0_chk2 d0 v10 v287), ∀ (k0_h1 : k0_cond1 d0 v10 = 1#1), ∀ a, (k0_off4 v287) a + S1x2048.size a ≤ S8192x2048.size a := fun d0 v10 v287 k0_hw2 k0_h1 => k0_hw2 k0_h1

@[reducible] def k0_t2_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off5 (d0 : Dev nD) (v10 : BitVec 32) (k0_t2 : Fin k0_t2_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c0_i32_170 : BitVec 32 := 0#32
  let c0_i32_156 : BitVec 32 := 0#32
  let c1_i32_158 : BitVec 32 := 1#32
  let arg12 : BitVec 32 := Scf.iv c0_i32_156 c1_i32_158 k0_t2
  let v281 : BitVec 32 := Scalar.addi c0_i32_170 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_171 : BitVec 32 := 1#32
  let v284 : BitVec 32 := Scalar.subi v283 c1_i32_171
  let v285 : BitVec 32 := Scalar.minsi v282 v284
  let v286 : Index := Scalar.indexCast v285
  ![v286.toNat]
def k0_off6 (k0_t2 : Fin k0_t2_loop.trips) : Fin 1 → Nat :=
  let c0_i32_156 : BitVec 32 := 0#32
  let c1_i32_158 : BitVec 32 := 1#32
  let arg12 : BitVec 32 := Scf.iv c0_i32_156 c1_i32_158 k0_t2
  ![arg12.toNat]
def k0_off7 (k0_t2 : Fin k0_t2_loop.trips) : Fin 2 → Nat :=
  let c0_i32_170 : BitVec 32 := 0#32
  let c0_i32_156 : BitVec 32 := 0#32
  let c1_i32_158 : BitVec 32 := 1#32
  let arg12 : BitVec 32 := Scf.iv c0_i32_156 c1_i32_158 k0_t2
  let v281 : BitVec 32 := Scalar.addi c0_i32_170 arg12
  let c0_i32_172 : BitVec 32 := 0#32
  ![v281.toNat, 0]
def k0_off8 (v287 : BitVec 32) : Fin 2 → Nat :=
  let c0_i32_173 : BitVec 32 := 0#32
  ![v287.toNat, 0]

def k0_chk3 (d0 : Dev nD) (v10 : BitVec 32) (v287 : BitVec 32) : Prop :=
  (∀ (k0_h1 : k0_cond1 d0 v10 = 1#1), ∀ a, (k0_off8 v287) a + S1x2048.size a ≤ S8192x2048.size a)
theorem k0_off8_inb : ∀ (d0 : Dev nD) (v10 : BitVec 32) (v287 : BitVec 32) (k0_hw3 : k0_chk3 d0 v10 v287), ∀ (k0_h1 : k0_cond1 d0 v10 = 1#1), ∀ a, (k0_off8 v287) a + S1x2048.size a ≤ S8192x2048.size a := fun d0 v10 v287 k0_hw3 k0_h1 => k0_hw3 k0_h1

def k0_dev2 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t3_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off9 (d0 : Dev nD) (v10 : BitVec 32) (k0_t3 : Fin k0_t3_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c128_i32_170 : BitVec 32 := 128#32
  let c0_i32_152 : BitVec 32 := 0#32
  let c1_i32_154 : BitVec 32 := 1#32
  let arg12 : BitVec 32 := Scf.iv c0_i32_152 c1_i32_154 k0_t3
  let v281 : BitVec 32 := Scalar.addi c128_i32_170 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_171 : BitVec 32 := 1#32
  let v284 : BitVec 32 := Scalar.subi v283 c1_i32_171
  let v285 : BitVec 32 := Scalar.minsi v282 v284
  let v286 : Index := Scalar.indexCast v285
  ![v286.toNat]
def k0_cond2 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c1_i32_33 : BitVec 32 := 1#32
  let v67 : BitVec 1 := Scalar.cmpi .sgt v37 c1_i32_33
  let v68 : BitVec 32 := Scalar.extui v67
  let c0_i32_34 : BitVec 32 := 0#32
  let v69 : BitVec 1 := Scalar.cmpi .ne v68 c0_i32_34
  v69

def k0_off10 (k0_t3 : Fin k0_t3_loop.trips) : Fin 1 → Nat :=
  let c0_i32_152 : BitVec 32 := 0#32
  let c1_i32_154 : BitVec 32 := 1#32
  let arg12 : BitVec 32 := Scf.iv c0_i32_152 c1_i32_154 k0_t3
  ![arg12.toNat]
def k0_off11 (k0_t3 : Fin k0_t3_loop.trips) : Fin 2 → Nat :=
  let c128_i32_170 : BitVec 32 := 128#32
  let c0_i32_152 : BitVec 32 := 0#32
  let c1_i32_154 : BitVec 32 := 1#32
  let arg12 : BitVec 32 := Scf.iv c0_i32_152 c1_i32_154 k0_t3
  let v281 : BitVec 32 := Scalar.addi c128_i32_170 arg12
  let c0_i32_172 : BitVec 32 := 0#32
  ![v281.toNat, 0]
def k0_off12 (v287 : BitVec 32) : Fin 2 → Nat :=
  let c0_i32_173 : BitVec 32 := 0#32
  ![v287.toNat, 0]

def k0_chk4 (d0 : Dev nD) (v10 : BitVec 32) (v287 : BitVec 32) : Prop :=
  (∀ (k0_h2 : k0_cond2 d0 v10 = 1#1), ∀ a, (k0_off12 v287) a + S1x2048.size a ≤ S8192x2048.size a)
theorem k0_off12_inb : ∀ (d0 : Dev nD) (v10 : BitVec 32) (v287 : BitVec 32) (k0_hw4 : k0_chk4 d0 v10 v287), ∀ (k0_h2 : k0_cond2 d0 v10 = 1#1), ∀ a, (k0_off12 v287) a + S1x2048.size a ≤ S8192x2048.size a := fun d0 v10 v287 k0_hw4 k0_h2 => k0_hw4 k0_h2

@[reducible] def k0_t4_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off13 (d0 : Dev nD) (v10 : BitVec 32) (k0_t4 : Fin k0_t4_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c128_i32_170 : BitVec 32 := 128#32
  let c0_i32_156 : BitVec 32 := 0#32
  let c1_i32_158 : BitVec 32 := 1#32
  let arg12 : BitVec 32 := Scf.iv c0_i32_156 c1_i32_158 k0_t4
  let v281 : BitVec 32 := Scalar.addi c128_i32_170 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_171 : BitVec 32 := 1#32
  let v284 : BitVec 32 := Scalar.subi v283 c1_i32_171
  let v285 : BitVec 32 := Scalar.minsi v282 v284
  let v286 : Index := Scalar.indexCast v285
  ![v286.toNat]
def k0_off14 (k0_t4 : Fin k0_t4_loop.trips) : Fin 1 → Nat :=
  let c0_i32_156 : BitVec 32 := 0#32
  let c1_i32_158 : BitVec 32 := 1#32
  let arg12 : BitVec 32 := Scf.iv c0_i32_156 c1_i32_158 k0_t4
  ![arg12.toNat]
def k0_off15 (k0_t4 : Fin k0_t4_loop.trips) : Fin 2 → Nat :=
  let c128_i32_170 : BitVec 32 := 128#32
  let c0_i32_156 : BitVec 32 := 0#32
  let c1_i32_158 : BitVec 32 := 1#32
  let arg12 : BitVec 32 := Scf.iv c0_i32_156 c1_i32_158 k0_t4
  let v281 : BitVec 32 := Scalar.addi c128_i32_170 arg12
  let c0_i32_172 : BitVec 32 := 0#32
  ![v281.toNat, 0]
def k0_off16 (v287 : BitVec 32) : Fin 2 → Nat :=
  let c0_i32_173 : BitVec 32 := 0#32
  ![v287.toNat, 0]

def k0_chk5 (d0 : Dev nD) (v10 : BitVec 32) (v287 : BitVec 32) : Prop :=
  (∀ (k0_h2 : k0_cond2 d0 v10 = 1#1), ∀ a, (k0_off16 v287) a + S1x2048.size a ≤ S8192x2048.size a)
theorem k0_off16_inb : ∀ (d0 : Dev nD) (v10 : BitVec 32) (v287 : BitVec 32) (k0_hw5 : k0_chk5 d0 v10 v287), ∀ (k0_h2 : k0_cond2 d0 v10 = 1#1), ∀ a, (k0_off16 v287) a + S1x2048.size a ≤ S8192x2048.size a := fun d0 v10 v287 k0_hw5 k0_h2 => k0_hw5 k0_h2

def k0_dev3 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t5_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off17 (d0 : Dev nD) (v10 : BitVec 32) (k0_t5 : Fin k0_t5_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c256_i32_169 : BitVec 32 := 256#32
  let c0_i32_152 : BitVec 32 := 0#32
  let c1_i32_154 : BitVec 32 := 1#32
  let arg12 : BitVec 32 := Scf.iv c0_i32_152 c1_i32_154 k0_t5
  let v281 : BitVec 32 := Scalar.addi c256_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond3 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c2_i32_35 : BitVec 32 := 2#32
  let v70 : BitVec 1 := Scalar.cmpi .sgt v37 c2_i32_35
  let v71 : BitVec 32 := Scalar.extui v70
  let c0_i32_36 : BitVec 32 := 0#32
  let v72 : BitVec 1 := Scalar.cmpi .ne v71 c0_i32_36
  v72

def k0_off18 (k0_t5 : Fin k0_t5_loop.trips) : Fin 1 → Nat :=
  let c0_i32_152 : BitVec 32 := 0#32
  let c1_i32_154 : BitVec 32 := 1#32
  let arg12 : BitVec 32 := Scf.iv c0_i32_152 c1_i32_154 k0_t5
  ![arg12.toNat]
def k0_off19 (k0_t5 : Fin k0_t5_loop.trips) : Fin 2 → Nat :=
  let c256_i32_169 : BitVec 32 := 256#32
  let c0_i32_152 : BitVec 32 := 0#32
  let c1_i32_154 : BitVec 32 := 1#32
  let arg12 : BitVec 32 := Scf.iv c0_i32_152 c1_i32_154 k0_t5
  let v281 : BitVec 32 := Scalar.addi c256_i32_169 arg12
  let c0_i32_171 : BitVec 32 := 0#32
  ![v281.toNat, 0]
def k0_off20 (v287 : BitVec 32) : Fin 2 → Nat :=
  let c0_i32_172 : BitVec 32 := 0#32
  ![v287.toNat, 0]

def k0_chk6 (d0 : Dev nD) (v10 : BitVec 32) (v287 : BitVec 32) : Prop :=
  (∀ (k0_h3 : k0_cond3 d0 v10 = 1#1), ∀ a, (k0_off20 v287) a + S1x2048.size a ≤ S8192x2048.size a)
theorem k0_off20_inb : ∀ (d0 : Dev nD) (v10 : BitVec 32) (v287 : BitVec 32) (k0_hw6 : k0_chk6 d0 v10 v287), ∀ (k0_h3 : k0_cond3 d0 v10 = 1#1), ∀ a, (k0_off20 v287) a + S1x2048.size a ≤ S8192x2048.size a := fun d0 v10 v287 k0_hw6 k0_h3 => k0_hw6 k0_h3

@[reducible] def k0_t6_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off21 (d0 : Dev nD) (v10 : BitVec 32) (k0_t6 : Fin k0_t6_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c256_i32_169 : BitVec 32 := 256#32
  let c0_i32_156 : BitVec 32 := 0#32
  let c1_i32_158 : BitVec 32 := 1#32
  let arg12 : BitVec 32 := Scf.iv c0_i32_156 c1_i32_158 k0_t6
  let v281 : BitVec 32 := Scalar.addi c256_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off22 (k0_t6 : Fin k0_t6_loop.trips) : Fin 1 → Nat :=
  let c0_i32_156 : BitVec 32 := 0#32
  let c1_i32_158 : BitVec 32 := 1#32
  let arg12 : BitVec 32 := Scf.iv c0_i32_156 c1_i32_158 k0_t6
  ![arg12.toNat]
def k0_off23 (k0_t6 : Fin k0_t6_loop.trips) : Fin 2 → Nat :=
  let c256_i32_169 : BitVec 32 := 256#32
  let c0_i32_156 : BitVec 32 := 0#32
  let c1_i32_158 : BitVec 32 := 1#32
  let arg12 : BitVec 32 := Scf.iv c0_i32_156 c1_i32_158 k0_t6
  let v281 : BitVec 32 := Scalar.addi c256_i32_169 arg12
  let c0_i32_171 : BitVec 32 := 0#32
  ![v281.toNat, 0]
def k0_off24 (v287 : BitVec 32) : Fin 2 → Nat :=
  let c0_i32_172 : BitVec 32 := 0#32
  ![v287.toNat, 0]

def k0_chk7 (d0 : Dev nD) (v10 : BitVec 32) (v287 : BitVec 32) : Prop :=
  (∀ (k0_h3 : k0_cond3 d0 v10 = 1#1), ∀ a, (k0_off24 v287) a + S1x2048.size a ≤ S8192x2048.size a)
theorem k0_off24_inb : ∀ (d0 : Dev nD) (v10 : BitVec 32) (v287 : BitVec 32) (k0_hw7 : k0_chk7 d0 v10 v287), ∀ (k0_h3 : k0_cond3 d0 v10 = 1#1), ∀ a, (k0_off24 v287) a + S1x2048.size a ≤ S8192x2048.size a := fun d0 v10 v287 k0_hw7 k0_h3 => k0_hw7 k0_h3

def k0_dev4 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t7_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off25 (d0 : Dev nD) (v10 : BitVec 32) (k0_t7 : Fin k0_t7_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c384_i32_169 : BitVec 32 := 384#32
  let c0_i32_152 : BitVec 32 := 0#32
  let c1_i32_154 : BitVec 32 := 1#32
  let arg12 : BitVec 32 := Scf.iv c0_i32_152 c1_i32_154 k0_t7
  let v281 : BitVec 32 := Scalar.addi c384_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond4 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c3_i32 : BitVec 32 := 3#32
  let v73 : BitVec 1 := Scalar.cmpi .sgt v37 c3_i32
  let v74 : BitVec 32 := Scalar.extui v73
  let c0_i32_37 : BitVec 32 := 0#32
  let v75 : BitVec 1 := Scalar.cmpi .ne v74 c0_i32_37
  v75

def k0_off26 (k0_t7 : Fin k0_t7_loop.trips) : Fin 1 → Nat :=
  let c0_i32_152 : BitVec 32 := 0#32
  let c1_i32_154 : BitVec 32 := 1#32
  let arg12 : BitVec 32 := Scf.iv c0_i32_152 c1_i32_154 k0_t7
  ![arg12.toNat]
def k0_off27 (k0_t7 : Fin k0_t7_loop.trips) : Fin 2 → Nat :=
  let c384_i32_169 : BitVec 32 := 384#32
  let c0_i32_152 : BitVec 32 := 0#32
  let c1_i32_154 : BitVec 32 := 1#32
  let arg12 : BitVec 32 := Scf.iv c0_i32_152 c1_i32_154 k0_t7
  let v281 : BitVec 32 := Scalar.addi c384_i32_169 arg12
  let c0_i32_171 : BitVec 32 := 0#32
  ![v281.toNat, 0]
def k0_off28 (v287 : BitVec 32) : Fin 2 → Nat :=
  let c0_i32_172 : BitVec 32 := 0#32
  ![v287.toNat, 0]

def k0_chk8 (d0 : Dev nD) (v10 : BitVec 32) (v287 : BitVec 32) : Prop :=
  (∀ (k0_h4 : k0_cond4 d0 v10 = 1#1), ∀ a, (k0_off28 v287) a + S1x2048.size a ≤ S8192x2048.size a)
theorem k0_off28_inb : ∀ (d0 : Dev nD) (v10 : BitVec 32) (v287 : BitVec 32) (k0_hw8 : k0_chk8 d0 v10 v287), ∀ (k0_h4 : k0_cond4 d0 v10 = 1#1), ∀ a, (k0_off28 v287) a + S1x2048.size a ≤ S8192x2048.size a := fun d0 v10 v287 k0_hw8 k0_h4 => k0_hw8 k0_h4

@[reducible] def k0_t8_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off29 (d0 : Dev nD) (v10 : BitVec 32) (k0_t8 : Fin k0_t8_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c384_i32_169 : BitVec 32 := 384#32
  let c0_i32_156 : BitVec 32 := 0#32
  let c1_i32_158 : BitVec 32 := 1#32
  let arg12 : BitVec 32 := Scf.iv c0_i32_156 c1_i32_158 k0_t8
  let v281 : BitVec 32 := Scalar.addi c384_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off30 (k0_t8 : Fin k0_t8_loop.trips) : Fin 1 → Nat :=
  let c0_i32_156 : BitVec 32 := 0#32
  let c1_i32_158 : BitVec 32 := 1#32
  let arg12 : BitVec 32 := Scf.iv c0_i32_156 c1_i32_158 k0_t8
  ![arg12.toNat]
def k0_off31 (k0_t8 : Fin k0_t8_loop.trips) : Fin 2 → Nat :=
  let c384_i32_169 : BitVec 32 := 384#32
  let c0_i32_156 : BitVec 32 := 0#32
  let c1_i32_158 : BitVec 32 := 1#32
  let arg12 : BitVec 32 := Scf.iv c0_i32_156 c1_i32_158 k0_t8
  let v281 : BitVec 32 := Scalar.addi c384_i32_169 arg12
  let c0_i32_171 : BitVec 32 := 0#32
  ![v281.toNat, 0]
def k0_off32 (v287 : BitVec 32) : Fin 2 → Nat :=
  let c0_i32_172 : BitVec 32 := 0#32
  ![v287.toNat, 0]

def k0_chk9 (d0 : Dev nD) (v10 : BitVec 32) (v287 : BitVec 32) : Prop :=
  (∀ (k0_h4 : k0_cond4 d0 v10 = 1#1), ∀ a, (k0_off32 v287) a + S1x2048.size a ≤ S8192x2048.size a)
theorem k0_off32_inb : ∀ (d0 : Dev nD) (v10 : BitVec 32) (v287 : BitVec 32) (k0_hw9 : k0_chk9 d0 v10 v287), ∀ (k0_h4 : k0_cond4 d0 v10 = 1#1), ∀ a, (k0_off32 v287) a + S1x2048.size a ≤ S8192x2048.size a := fun d0 v10 v287 k0_hw9 k0_h4 => k0_hw9 k0_h4

def k0_dev5 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t9_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off33 (d0 : Dev nD) (v10 : BitVec 32) (k0_t9 : Fin k0_t9_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c512_i32_169 : BitVec 32 := 512#32
  let c0_i32_152 : BitVec 32 := 0#32
  let c1_i32_154 : BitVec 32 := 1#32
  let arg12 : BitVec 32 := Scf.iv c0_i32_152 c1_i32_154 k0_t9
  let v281 : BitVec 32 := Scalar.addi c512_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond5 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c4_i32_38 : BitVec 32 := 4#32
  let v76 : BitVec 1 := Scalar.cmpi .sgt v37 c4_i32_38
  let v77 : BitVec 32 := Scalar.extui v76
  let c0_i32_39 : BitVec 32 := 0#32
  let v78 : BitVec 1 := Scalar.cmpi .ne v77 c0_i32_39
  v78

def k0_off34 (k0_t9 : Fin k0_t9_loop.trips) : Fin 1 → Nat :=
  let c0_i32_152 : BitVec 32 := 0#32
  let c1_i32_154 : BitVec 32 := 1#32
  let arg12 : BitVec 32 := Scf.iv c0_i32_152 c1_i32_154 k0_t9
  ![arg12.toNat]
def k0_off35 (k0_t9 : Fin k0_t9_loop.trips) : Fin 2 → Nat :=
  let c512_i32_169 : BitVec 32 := 512#32
  let c0_i32_152 : BitVec 32 := 0#32
  let c1_i32_154 : BitVec 32 := 1#32
  let arg12 : BitVec 32 := Scf.iv c0_i32_152 c1_i32_154 k0_t9
  let v281 : BitVec 32 := Scalar.addi c512_i32_169 arg12
  let c0_i32_171 : BitVec 32 := 0#32
  ![v281.toNat, 0]
def k0_off36 (v287 : BitVec 32) : Fin 2 → Nat :=
  let c0_i32_172 : BitVec 32 := 0#32
  ![v287.toNat, 0]

def k0_chk10 (d0 : Dev nD) (v10 : BitVec 32) (v287 : BitVec 32) : Prop :=
  (∀ (k0_h5 : k0_cond5 d0 v10 = 1#1), ∀ a, (k0_off36 v287) a + S1x2048.size a ≤ S8192x2048.size a)
theorem k0_off36_inb : ∀ (d0 : Dev nD) (v10 : BitVec 32) (v287 : BitVec 32) (k0_hw10 : k0_chk10 d0 v10 v287), ∀ (k0_h5 : k0_cond5 d0 v10 = 1#1), ∀ a, (k0_off36 v287) a + S1x2048.size a ≤ S8192x2048.size a := fun d0 v10 v287 k0_hw10 k0_h5 => k0_hw10 k0_h5

@[reducible] def k0_t10_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off37 (d0 : Dev nD) (v10 : BitVec 32) (k0_t10 : Fin k0_t10_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c512_i32_169 : BitVec 32 := 512#32
  let c0_i32_156 : BitVec 32 := 0#32
  let c1_i32_158 : BitVec 32 := 1#32
  let arg12 : BitVec 32 := Scf.iv c0_i32_156 c1_i32_158 k0_t10
  let v281 : BitVec 32 := Scalar.addi c512_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off38 (k0_t10 : Fin k0_t10_loop.trips) : Fin 1 → Nat :=
  let c0_i32_156 : BitVec 32 := 0#32
  let c1_i32_158 : BitVec 32 := 1#32
  let arg12 : BitVec 32 := Scf.iv c0_i32_156 c1_i32_158 k0_t10
  ![arg12.toNat]
def k0_off39 (k0_t10 : Fin k0_t10_loop.trips) : Fin 2 → Nat :=
  let c512_i32_169 : BitVec 32 := 512#32
  let c0_i32_156 : BitVec 32 := 0#32
  let c1_i32_158 : BitVec 32 := 1#32
  let arg12 : BitVec 32 := Scf.iv c0_i32_156 c1_i32_158 k0_t10
  let v281 : BitVec 32 := Scalar.addi c512_i32_169 arg12
  let c0_i32_171 : BitVec 32 := 0#32
  ![v281.toNat, 0]
def k0_off40 (v287 : BitVec 32) : Fin 2 → Nat :=
  let c0_i32_172 : BitVec 32 := 0#32
  ![v287.toNat, 0]

def k0_chk11 (d0 : Dev nD) (v10 : BitVec 32) (v287 : BitVec 32) : Prop :=
  (∀ (k0_h5 : k0_cond5 d0 v10 = 1#1), ∀ a, (k0_off40 v287) a + S1x2048.size a ≤ S8192x2048.size a)
theorem k0_off40_inb : ∀ (d0 : Dev nD) (v10 : BitVec 32) (v287 : BitVec 32) (k0_hw11 : k0_chk11 d0 v10 v287), ∀ (k0_h5 : k0_cond5 d0 v10 = 1#1), ∀ a, (k0_off40 v287) a + S1x2048.size a ≤ S8192x2048.size a := fun d0 v10 v287 k0_hw11 k0_h5 => k0_hw11 k0_h5

def k0_dev6 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t11_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off41 (d0 : Dev nD) (v10 : BitVec 32) (k0_t11 : Fin k0_t11_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c640_i32_169 : BitVec 32 := 640#32
  let c0_i32_152 : BitVec 32 := 0#32
  let c1_i32_154 : BitVec 32 := 1#32
  let arg12 : BitVec 32 := Scf.iv c0_i32_152 c1_i32_154 k0_t11
  let v281 : BitVec 32 := Scalar.addi c640_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond6 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c5_i32 : BitVec 32 := 5#32
  let v79 : BitVec 1 := Scalar.cmpi .sgt v37 c5_i32
  let v80 : BitVec 32 := Scalar.extui v79
  let c0_i32_40 : BitVec 32 := 0#32
  let v81 : BitVec 1 := Scalar.cmpi .ne v80 c0_i32_40
  v81

def k0_off42 (k0_t11 : Fin k0_t11_loop.trips) : Fin 1 → Nat :=
  let c0_i32_152 : BitVec 32 := 0#32
  let c1_i32_154 : BitVec 32 := 1#32
  let arg12 : BitVec 32 := Scf.iv c0_i32_152 c1_i32_154 k0_t11
  ![arg12.toNat]
def k0_off43 (k0_t11 : Fin k0_t11_loop.trips) : Fin 2 → Nat :=
  let c640_i32_169 : BitVec 32 := 640#32
  let c0_i32_152 : BitVec 32 := 0#32
  let c1_i32_154 : BitVec 32 := 1#32
  let arg12 : BitVec 32 := Scf.iv c0_i32_152 c1_i32_154 k0_t11
  let v281 : BitVec 32 := Scalar.addi c640_i32_169 arg12
  let c0_i32_171 : BitVec 32 := 0#32
  ![v281.toNat, 0]
def k0_off44 (v287 : BitVec 32) : Fin 2 → Nat :=
  let c0_i32_172 : BitVec 32 := 0#32
  ![v287.toNat, 0]

def k0_chk12 (d0 : Dev nD) (v10 : BitVec 32) (v287 : BitVec 32) : Prop :=
  (∀ (k0_h6 : k0_cond6 d0 v10 = 1#1), ∀ a, (k0_off44 v287) a + S1x2048.size a ≤ S8192x2048.size a)
theorem k0_off44_inb : ∀ (d0 : Dev nD) (v10 : BitVec 32) (v287 : BitVec 32) (k0_hw12 : k0_chk12 d0 v10 v287), ∀ (k0_h6 : k0_cond6 d0 v10 = 1#1), ∀ a, (k0_off44 v287) a + S1x2048.size a ≤ S8192x2048.size a := fun d0 v10 v287 k0_hw12 k0_h6 => k0_hw12 k0_h6

@[reducible] def k0_t12_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off45 (d0 : Dev nD) (v10 : BitVec 32) (k0_t12 : Fin k0_t12_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c640_i32_169 : BitVec 32 := 640#32
  let c0_i32_156 : BitVec 32 := 0#32
  let c1_i32_158 : BitVec 32 := 1#32
  let arg12 : BitVec 32 := Scf.iv c0_i32_156 c1_i32_158 k0_t12
  let v281 : BitVec 32 := Scalar.addi c640_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off46 (k0_t12 : Fin k0_t12_loop.trips) : Fin 1 → Nat :=
  let c0_i32_156 : BitVec 32 := 0#32
  let c1_i32_158 : BitVec 32 := 1#32
  let arg12 : BitVec 32 := Scf.iv c0_i32_156 c1_i32_158 k0_t12
  ![arg12.toNat]
def k0_off47 (k0_t12 : Fin k0_t12_loop.trips) : Fin 2 → Nat :=
  let c640_i32_169 : BitVec 32 := 640#32
  let c0_i32_156 : BitVec 32 := 0#32
  let c1_i32_158 : BitVec 32 := 1#32
  let arg12 : BitVec 32 := Scf.iv c0_i32_156 c1_i32_158 k0_t12
  let v281 : BitVec 32 := Scalar.addi c640_i32_169 arg12
  let c0_i32_171 : BitVec 32 := 0#32
  ![v281.toNat, 0]
def k0_off48 (v287 : BitVec 32) : Fin 2 → Nat :=
  let c0_i32_172 : BitVec 32 := 0#32
  ![v287.toNat, 0]

def k0_chk13 (d0 : Dev nD) (v10 : BitVec 32) (v287 : BitVec 32) : Prop :=
  (∀ (k0_h6 : k0_cond6 d0 v10 = 1#1), ∀ a, (k0_off48 v287) a + S1x2048.size a ≤ S8192x2048.size a)
theorem k0_off48_inb : ∀ (d0 : Dev nD) (v10 : BitVec 32) (v287 : BitVec 32) (k0_hw13 : k0_chk13 d0 v10 v287), ∀ (k0_h6 : k0_cond6 d0 v10 = 1#1), ∀ a, (k0_off48 v287) a + S1x2048.size a ≤ S8192x2048.size a := fun d0 v10 v287 k0_hw13 k0_h6 => k0_hw13 k0_h6

def k0_dev7 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t13_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off49 (d0 : Dev nD) (v10 : BitVec 32) (k0_t13 : Fin k0_t13_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c768_i32_169 : BitVec 32 := 768#32
  let c0_i32_152 : BitVec 32 := 0#32
  let c1_i32_154 : BitVec 32 := 1#32
  let arg12 : BitVec 32 := Scf.iv c0_i32_152 c1_i32_154 k0_t13
  let v281 : BitVec 32 := Scalar.addi c768_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond7 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c6_i32 : BitVec 32 := 6#32
  let v82 : BitVec 1 := Scalar.cmpi .sgt v37 c6_i32
  let v83 : BitVec 32 := Scalar.extui v82
  let c0_i32_41 : BitVec 32 := 0#32
  let v84 : BitVec 1 := Scalar.cmpi .ne v83 c0_i32_41
  v84

def k0_off50 (k0_t13 : Fin k0_t13_loop.trips) : Fin 1 → Nat :=
  let c0_i32_152 : BitVec 32 := 0#32
  let c1_i32_154 : BitVec 32 := 1#32
  let arg12 : BitVec 32 := Scf.iv c0_i32_152 c1_i32_154 k0_t13
  ![arg12.toNat]
def k0_off51 (k0_t13 : Fin k0_t13_loop.trips) : Fin 2 → Nat :=
  let c768_i32_169 : BitVec 32 := 768#32
  let c0_i32_152 : BitVec 32 := 0#32
  let c1_i32_154 : BitVec 32 := 1#32
  let arg12 : BitVec 32 := Scf.iv c0_i32_152 c1_i32_154 k0_t13
  let v281 : BitVec 32 := Scalar.addi c768_i32_169 arg12
  let c0_i32_171 : BitVec 32 := 0#32
  ![v281.toNat, 0]
def k0_off52 (v287 : BitVec 32) : Fin 2 → Nat :=
  let c0_i32_172 : BitVec 32 := 0#32
  ![v287.toNat, 0]

def k0_chk14 (d0 : Dev nD) (v10 : BitVec 32) (v287 : BitVec 32) : Prop :=
  (∀ (k0_h7 : k0_cond7 d0 v10 = 1#1), ∀ a, (k0_off52 v287) a + S1x2048.size a ≤ S8192x2048.size a)
theorem k0_off52_inb : ∀ (d0 : Dev nD) (v10 : BitVec 32) (v287 : BitVec 32) (k0_hw14 : k0_chk14 d0 v10 v287), ∀ (k0_h7 : k0_cond7 d0 v10 = 1#1), ∀ a, (k0_off52 v287) a + S1x2048.size a ≤ S8192x2048.size a := fun d0 v10 v287 k0_hw14 k0_h7 => k0_hw14 k0_h7

@[reducible] def k0_t14_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off53 (d0 : Dev nD) (v10 : BitVec 32) (k0_t14 : Fin k0_t14_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c768_i32_169 : BitVec 32 := 768#32
  let c0_i32_156 : BitVec 32 := 0#32
  let c1_i32_158 : BitVec 32 := 1#32
  let arg12 : BitVec 32 := Scf.iv c0_i32_156 c1_i32_158 k0_t14
  let v281 : BitVec 32 := Scalar.addi c768_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off54 (k0_t14 : Fin k0_t14_loop.trips) : Fin 1 → Nat :=
  let c0_i32_156 : BitVec 32 := 0#32
  let c1_i32_158 : BitVec 32 := 1#32
  let arg12 : BitVec 32 := Scf.iv c0_i32_156 c1_i32_158 k0_t14
  ![arg12.toNat]
def k0_off55 (k0_t14 : Fin k0_t14_loop.trips) : Fin 2 → Nat :=
  let c768_i32_169 : BitVec 32 := 768#32
  let c0_i32_156 : BitVec 32 := 0#32
  let c1_i32_158 : BitVec 32 := 1#32
  let arg12 : BitVec 32 := Scf.iv c0_i32_156 c1_i32_158 k0_t14
  let v281 : BitVec 32 := Scalar.addi c768_i32_169 arg12
  let c0_i32_171 : BitVec 32 := 0#32
  ![v281.toNat, 0]
def k0_off56 (v287 : BitVec 32) : Fin 2 → Nat :=
  let c0_i32_172 : BitVec 32 := 0#32
  ![v287.toNat, 0]

def k0_chk15 (d0 : Dev nD) (v10 : BitVec 32) (v287 : BitVec 32) : Prop :=
  (∀ (k0_h7 : k0_cond7 d0 v10 = 1#1), ∀ a, (k0_off56 v287) a + S1x2048.size a ≤ S8192x2048.size a)
theorem k0_off56_inb : ∀ (d0 : Dev nD) (v10 : BitVec 32) (v287 : BitVec 32) (k0_hw15 : k0_chk15 d0 v10 v287), ∀ (k0_h7 : k0_cond7 d0 v10 = 1#1), ∀ a, (k0_off56 v287) a + S1x2048.size a ≤ S8192x2048.size a := fun d0 v10 v287 k0_hw15 k0_h7 => k0_hw15 k0_h7

def k0_dev8 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t15_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off57 (d0 : Dev nD) (v10 : BitVec 32) (k0_t15 : Fin k0_t15_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c896_i32_169 : BitVec 32 := 896#32
  let c0_i32_152 : BitVec 32 := 0#32
  let c1_i32_154 : BitVec 32 := 1#32
  let arg12 : BitVec 32 := Scf.iv c0_i32_152 c1_i32_154 k0_t15
  let v281 : BitVec 32 := Scalar.addi c896_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond8 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c7_i32 : BitVec 32 := 7#32
  let v85 : BitVec 1 := Scalar.cmpi .sgt v37 c7_i32
  let v86 : BitVec 32 := Scalar.extui v85
  let c0_i32_42 : BitVec 32 := 0#32
  let v87 : BitVec 1 := Scalar.cmpi .ne v86 c0_i32_42
  v87

def k0_off58 (k0_t15 : Fin k0_t15_loop.trips) : Fin 1 → Nat :=
  let c0_i32_152 : BitVec 32 := 0#32
  let c1_i32_154 : BitVec 32 := 1#32
  let arg12 : BitVec 32 := Scf.iv c0_i32_152 c1_i32_154 k0_t15
  ![arg12.toNat]
def k0_off59 (k0_t15 : Fin k0_t15_loop.trips) : Fin 2 → Nat :=
  let c896_i32_169 : BitVec 32 := 896#32
  let c0_i32_152 : BitVec 32 := 0#32
  let c1_i32_154 : BitVec 32 := 1#32
  let arg12 : BitVec 32 := Scf.iv c0_i32_152 c1_i32_154 k0_t15
  let v281 : BitVec 32 := Scalar.addi c896_i32_169 arg12
  let c0_i32_171 : BitVec 32 := 0#32
  ![v281.toNat, 0]
def k0_off60 (v287 : BitVec 32) : Fin 2 → Nat :=
  let c0_i32_172 : BitVec 32 := 0#32
  ![v287.toNat, 0]

def k0_chk16 (d0 : Dev nD) (v10 : BitVec 32) (v287 : BitVec 32) : Prop :=
  (∀ (k0_h8 : k0_cond8 d0 v10 = 1#1), ∀ a, (k0_off60 v287) a + S1x2048.size a ≤ S8192x2048.size a)
theorem k0_off60_inb : ∀ (d0 : Dev nD) (v10 : BitVec 32) (v287 : BitVec 32) (k0_hw16 : k0_chk16 d0 v10 v287), ∀ (k0_h8 : k0_cond8 d0 v10 = 1#1), ∀ a, (k0_off60 v287) a + S1x2048.size a ≤ S8192x2048.size a := fun d0 v10 v287 k0_hw16 k0_h8 => k0_hw16 k0_h8

@[reducible] def k0_t16_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off61 (d0 : Dev nD) (v10 : BitVec 32) (k0_t16 : Fin k0_t16_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c896_i32_169 : BitVec 32 := 896#32
  let c0_i32_156 : BitVec 32 := 0#32
  let c1_i32_158 : BitVec 32 := 1#32
  let arg12 : BitVec 32 := Scf.iv c0_i32_156 c1_i32_158 k0_t16
  let v281 : BitVec 32 := Scalar.addi c896_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off62 (k0_t16 : Fin k0_t16_loop.trips) : Fin 1 → Nat :=
  let c0_i32_156 : BitVec 32 := 0#32
  let c1_i32_158 : BitVec 32 := 1#32
  let arg12 : BitVec 32 := Scf.iv c0_i32_156 c1_i32_158 k0_t16
  ![arg12.toNat]
def k0_off63 (k0_t16 : Fin k0_t16_loop.trips) : Fin 2 → Nat :=
  let c896_i32_169 : BitVec 32 := 896#32
  let c0_i32_156 : BitVec 32 := 0#32
  let c1_i32_158 : BitVec 32 := 1#32
  let arg12 : BitVec 32 := Scf.iv c0_i32_156 c1_i32_158 k0_t16
  let v281 : BitVec 32 := Scalar.addi c896_i32_169 arg12
  let c0_i32_171 : BitVec 32 := 0#32
  ![v281.toNat, 0]
def k0_off64 (v287 : BitVec 32) : Fin 2 → Nat :=
  let c0_i32_172 : BitVec 32 := 0#32
  ![v287.toNat, 0]

def k0_chk17 (d0 : Dev nD) (v10 : BitVec 32) (v287 : BitVec 32) : Prop :=
  (∀ (k0_h8 : k0_cond8 d0 v10 = 1#1), ∀ a, (k0_off64 v287) a + S1x2048.size a ≤ S8192x2048.size a)
theorem k0_off64_inb : ∀ (d0 : Dev nD) (v10 : BitVec 32) (v287 : BitVec 32) (k0_hw17 : k0_chk17 d0 v10 v287), ∀ (k0_h8 : k0_cond8 d0 v10 = 1#1), ∀ a, (k0_off64 v287) a + S1x2048.size a ≤ S8192x2048.size a := fun d0 v10 v287 k0_hw17 k0_h8 => k0_hw17 k0_h8

def k0_dev9 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t17_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off65 (d0 : Dev nD) (v10 : BitVec 32) (k0_t17 : Fin k0_t17_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1024_i32_169 : BitVec 32 := 1024#32
  let c0_i32_152 : BitVec 32 := 0#32
  let c1_i32_154 : BitVec 32 := 1#32
  let arg12 : BitVec 32 := Scf.iv c0_i32_152 c1_i32_154 k0_t17
  let v281 : BitVec 32 := Scalar.addi c1024_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond9 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c8_i32 : BitVec 32 := 8#32
  let v88 : BitVec 1 := Scalar.cmpi .sgt v37 c8_i32
  let v89 : BitVec 32 := Scalar.extui v88
  let c0_i32_43 : BitVec 32 := 0#32
  let v90 : BitVec 1 := Scalar.cmpi .ne v89 c0_i32_43
  v90

def k0_off66 (k0_t17 : Fin k0_t17_loop.trips) : Fin 1 → Nat :=
  let c0_i32_152 : BitVec 32 := 0#32
  let c1_i32_154 : BitVec 32 := 1#32
  let arg12 : BitVec 32 := Scf.iv c0_i32_152 c1_i32_154 k0_t17
  ![arg12.toNat]
def k0_off67 (k0_t17 : Fin k0_t17_loop.trips) : Fin 2 → Nat :=
  let c1024_i32_169 : BitVec 32 := 1024#32
  let c0_i32_152 : BitVec 32 := 0#32
  let c1_i32_154 : BitVec 32 := 1#32
  let arg12 : BitVec 32 := Scf.iv c0_i32_152 c1_i32_154 k0_t17
  let v281 : BitVec 32 := Scalar.addi c1024_i32_169 arg12
  let c0_i32_171 : BitVec 32 := 0#32
  ![v281.toNat, 0]
def k0_off68 (v287 : BitVec 32) : Fin 2 → Nat :=
  let c0_i32_172 : BitVec 32 := 0#32
  ![v287.toNat, 0]

def k0_chk18 (d0 : Dev nD) (v10 : BitVec 32) (v287 : BitVec 32) : Prop :=
  (∀ (k0_h9 : k0_cond9 d0 v10 = 1#1), ∀ a, (k0_off68 v287) a + S1x2048.size a ≤ S8192x2048.size a)
theorem k0_off68_inb : ∀ (d0 : Dev nD) (v10 : BitVec 32) (v287 : BitVec 32) (k0_hw18 : k0_chk18 d0 v10 v287), ∀ (k0_h9 : k0_cond9 d0 v10 = 1#1), ∀ a, (k0_off68 v287) a + S1x2048.size a ≤ S8192x2048.size a := fun d0 v10 v287 k0_hw18 k0_h9 => k0_hw18 k0_h9

@[reducible] def k0_t18_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off69 (d0 : Dev nD) (v10 : BitVec 32) (k0_t18 : Fin k0_t18_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1024_i32_169 : BitVec 32 := 1024#32
  let c0_i32_156 : BitVec 32 := 0#32
  let c1_i32_158 : BitVec 32 := 1#32
  let arg12 : BitVec 32 := Scf.iv c0_i32_156 c1_i32_158 k0_t18
  let v281 : BitVec 32 := Scalar.addi c1024_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off70 (k0_t18 : Fin k0_t18_loop.trips) : Fin 1 → Nat :=
  let c0_i32_156 : BitVec 32 := 0#32
  let c1_i32_158 : BitVec 32 := 1#32
  let arg12 : BitVec 32 := Scf.iv c0_i32_156 c1_i32_158 k0_t18
  ![arg12.toNat]
def k0_off71 (k0_t18 : Fin k0_t18_loop.trips) : Fin 2 → Nat :=
  let c1024_i32_169 : BitVec 32 := 1024#32
  let c0_i32_156 : BitVec 32 := 0#32
  let c1_i32_158 : BitVec 32 := 1#32
  let arg12 : BitVec 32 := Scf.iv c0_i32_156 c1_i32_158 k0_t18
  let v281 : BitVec 32 := Scalar.addi c1024_i32_169 arg12
  let c0_i32_171 : BitVec 32 := 0#32
  ![v281.toNat, 0]
def k0_off72 (v287 : BitVec 32) : Fin 2 → Nat :=
  let c0_i32_172 : BitVec 32 := 0#32
  ![v287.toNat, 0]

def k0_chk19 (d0 : Dev nD) (v10 : BitVec 32) (v287 : BitVec 32) : Prop :=
  (∀ (k0_h9 : k0_cond9 d0 v10 = 1#1), ∀ a, (k0_off72 v287) a + S1x2048.size a ≤ S8192x2048.size a)
theorem k0_off72_inb : ∀ (d0 : Dev nD) (v10 : BitVec 32) (v287 : BitVec 32) (k0_hw19 : k0_chk19 d0 v10 v287), ∀ (k0_h9 : k0_cond9 d0 v10 = 1#1), ∀ a, (k0_off72 v287) a + S1x2048.size a ≤ S8192x2048.size a := fun d0 v10 v287 k0_hw19 k0_h9 => k0_hw19 k0_h9

def k0_dev10 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t19_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off73 (d0 : Dev nD) (v10 : BitVec 32) (k0_t19 : Fin k0_t19_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1152_i32_169 : BitVec 32 := 1152#32
  let c0_i32_152 : BitVec 32 := 0#32
  let c1_i32_154 : BitVec 32 := 1#32
  let arg12 : BitVec 32 := Scf.iv c0_i32_152 c1_i32_154 k0_t19
  let v281 : BitVec 32 := Scalar.addi c1152_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond10 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c9_i32 : BitVec 32 := 9#32
  let v91 : BitVec 1 := Scalar.cmpi .sgt v37 c9_i32
  let v92 : BitVec 32 := Scalar.extui v91
  let c0_i32_44 : BitVec 32 := 0#32
  let v93 : BitVec 1 := Scalar.cmpi .ne v92 c0_i32_44
  v93

def k0_off74 (k0_t19 : Fin k0_t19_loop.trips) : Fin 1 → Nat :=
  let c0_i32_152 : BitVec 32 := 0#32
  let c1_i32_154 : BitVec 32 := 1#32
  let arg12 : BitVec 32 := Scf.iv c0_i32_152 c1_i32_154 k0_t19
  ![arg12.toNat]
def k0_off75 (k0_t19 : Fin k0_t19_loop.trips) : Fin 2 → Nat :=
  let c1152_i32_169 : BitVec 32 := 1152#32
  let c0_i32_152 : BitVec 32 := 0#32
  let c1_i32_154 : BitVec 32 := 1#32
  let arg12 : BitVec 32 := Scf.iv c0_i32_152 c1_i32_154 k0_t19
  let v281 : BitVec 32 := Scalar.addi c1152_i32_169 arg12
  let c0_i32_171 : BitVec 32 := 0#32
  ![v281.toNat, 0]
def k0_off76 (v287 : BitVec 32) : Fin 2 → Nat :=
  let c0_i32_172 : BitVec 32 := 0#32
  ![v287.toNat, 0]

def k0_chk20 (d0 : Dev nD) (v10 : BitVec 32) (v287 : BitVec 32) : Prop :=
  (∀ (k0_h10 : k0_cond10 d0 v10 = 1#1), ∀ a, (k0_off76 v287) a + S1x2048.size a ≤ S8192x2048.size a)
theorem k0_off76_inb : ∀ (d0 : Dev nD) (v10 : BitVec 32) (v287 : BitVec 32) (k0_hw20 : k0_chk20 d0 v10 v287), ∀ (k0_h10 : k0_cond10 d0 v10 = 1#1), ∀ a, (k0_off76 v287) a + S1x2048.size a ≤ S8192x2048.size a := fun d0 v10 v287 k0_hw20 k0_h10 => k0_hw20 k0_h10

@[reducible] def k0_t20_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off77 (d0 : Dev nD) (v10 : BitVec 32) (k0_t20 : Fin k0_t20_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1152_i32_169 : BitVec 32 := 1152#32
  let c0_i32_156 : BitVec 32 := 0#32
  let c1_i32_158 : BitVec 32 := 1#32
  let arg12 : BitVec 32 := Scf.iv c0_i32_156 c1_i32_158 k0_t20
  let v281 : BitVec 32 := Scalar.addi c1152_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off78 (k0_t20 : Fin k0_t20_loop.trips) : Fin 1 → Nat :=
  let c0_i32_156 : BitVec 32 := 0#32
  let c1_i32_158 : BitVec 32 := 1#32
  let arg12 : BitVec 32 := Scf.iv c0_i32_156 c1_i32_158 k0_t20
  ![arg12.toNat]
def k0_off79 (k0_t20 : Fin k0_t20_loop.trips) : Fin 2 → Nat :=
  let c1152_i32_169 : BitVec 32 := 1152#32
  let c0_i32_156 : BitVec 32 := 0#32
  let c1_i32_158 : BitVec 32 := 1#32
  let arg12 : BitVec 32 := Scf.iv c0_i32_156 c1_i32_158 k0_t20
  let v281 : BitVec 32 := Scalar.addi c1152_i32_169 arg12
  let c0_i32_171 : BitVec 32 := 0#32
  ![v281.toNat, 0]
def k0_off80 (v287 : BitVec 32) : Fin 2 → Nat :=
  let c0_i32_172 : BitVec 32 := 0#32
  ![v287.toNat, 0]

def k0_chk21 (d0 : Dev nD) (v10 : BitVec 32) (v287 : BitVec 32) : Prop :=
  (∀ (k0_h10 : k0_cond10 d0 v10 = 1#1), ∀ a, (k0_off80 v287) a + S1x2048.size a ≤ S8192x2048.size a)
theorem k0_off80_inb : ∀ (d0 : Dev nD) (v10 : BitVec 32) (v287 : BitVec 32) (k0_hw21 : k0_chk21 d0 v10 v287), ∀ (k0_h10 : k0_cond10 d0 v10 = 1#1), ∀ a, (k0_off80 v287) a + S1x2048.size a ≤ S8192x2048.size a := fun d0 v10 v287 k0_hw21 k0_h10 => k0_hw21 k0_h10

def k0_dev11 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t21_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off81 (d0 : Dev nD) (v10 : BitVec 32) (k0_t21 : Fin k0_t21_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1280_i32_169 : BitVec 32 := 1280#32
  let c0_i32_152 : BitVec 32 := 0#32
  let c1_i32_154 : BitVec 32 := 1#32
  let arg12 : BitVec 32 := Scf.iv c0_i32_152 c1_i32_154 k0_t21
  let v281 : BitVec 32 := Scalar.addi c1280_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond11 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c10_i32 : BitVec 32 := 10#32
  let v94 : BitVec 1 := Scalar.cmpi .sgt v37 c10_i32
  let v95 : BitVec 32 := Scalar.extui v94
  let c0_i32_45 : BitVec 32 := 0#32
  let v96 : BitVec 1 := Scalar.cmpi .ne v95 c0_i32_45
  v96

def k0_off82 (k0_t21 : Fin k0_t21_loop.trips) : Fin 1 → Nat :=
  let c0_i32_152 : BitVec 32 := 0#32
  let c1_i32_154 : BitVec 32 := 1#32
  let arg12 : BitVec 32 := Scf.iv c0_i32_152 c1_i32_154 k0_t21
  ![arg12.toNat]
def k0_off83 (k0_t21 : Fin k0_t21_loop.trips) : Fin 2 → Nat :=
  let c1280_i32_169 : BitVec 32 := 1280#32
  let c0_i32_152 : BitVec 32 := 0#32
  let c1_i32_154 : BitVec 32 := 1#32
  let arg12 : BitVec 32 := Scf.iv c0_i32_152 c1_i32_154 k0_t21
  let v281 : BitVec 32 := Scalar.addi c1280_i32_169 arg12
  let c0_i32_171 : BitVec 32 := 0#32
  ![v281.toNat, 0]
def k0_off84 (v287 : BitVec 32) : Fin 2 → Nat :=
  let c0_i32_172 : BitVec 32 := 0#32
  ![v287.toNat, 0]

def k0_chk22 (d0 : Dev nD) (v10 : BitVec 32) (v287 : BitVec 32) : Prop :=
  (∀ (k0_h11 : k0_cond11 d0 v10 = 1#1), ∀ a, (k0_off84 v287) a + S1x2048.size a ≤ S8192x2048.size a)
theorem k0_off84_inb : ∀ (d0 : Dev nD) (v10 : BitVec 32) (v287 : BitVec 32) (k0_hw22 : k0_chk22 d0 v10 v287), ∀ (k0_h11 : k0_cond11 d0 v10 = 1#1), ∀ a, (k0_off84 v287) a + S1x2048.size a ≤ S8192x2048.size a := fun d0 v10 v287 k0_hw22 k0_h11 => k0_hw22 k0_h11

@[reducible] def k0_t22_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off85 (d0 : Dev nD) (v10 : BitVec 32) (k0_t22 : Fin k0_t22_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1280_i32_169 : BitVec 32 := 1280#32
  let c0_i32_156 : BitVec 32 := 0#32
  let c1_i32_158 : BitVec 32 := 1#32
  let arg12 : BitVec 32 := Scf.iv c0_i32_156 c1_i32_158 k0_t22
  let v281 : BitVec 32 := Scalar.addi c1280_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off86 (k0_t22 : Fin k0_t22_loop.trips) : Fin 1 → Nat :=
  let c0_i32_156 : BitVec 32 := 0#32
  let c1_i32_158 : BitVec 32 := 1#32
  let arg12 : BitVec 32 := Scf.iv c0_i32_156 c1_i32_158 k0_t22
  ![arg12.toNat]
def k0_off87 (k0_t22 : Fin k0_t22_loop.trips) : Fin 2 → Nat :=
  let c1280_i32_169 : BitVec 32 := 1280#32
  let c0_i32_156 : BitVec 32 := 0#32
  let c1_i32_158 : BitVec 32 := 1#32
  let arg12 : BitVec 32 := Scf.iv c0_i32_156 c1_i32_158 k0_t22
  let v281 : BitVec 32 := Scalar.addi c1280_i32_169 arg12
  let c0_i32_171 : BitVec 32 := 0#32
  ![v281.toNat, 0]
def k0_off88 (v287 : BitVec 32) : Fin 2 → Nat :=
  let c0_i32_172 : BitVec 32 := 0#32
  ![v287.toNat, 0]

def k0_chk23 (d0 : Dev nD) (v10 : BitVec 32) (v287 : BitVec 32) : Prop :=
  (∀ (k0_h11 : k0_cond11 d0 v10 = 1#1), ∀ a, (k0_off88 v287) a + S1x2048.size a ≤ S8192x2048.size a)
theorem k0_off88_inb : ∀ (d0 : Dev nD) (v10 : BitVec 32) (v287 : BitVec 32) (k0_hw23 : k0_chk23 d0 v10 v287), ∀ (k0_h11 : k0_cond11 d0 v10 = 1#1), ∀ a, (k0_off88 v287) a + S1x2048.size a ≤ S8192x2048.size a := fun d0 v10 v287 k0_hw23 k0_h11 => k0_hw23 k0_h11

def k0_dev12 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t23_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off89 (d0 : Dev nD) (v10 : BitVec 32) (k0_t23 : Fin k0_t23_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1408_i32_169 : BitVec 32 := 1408#32
  let c0_i32_152 : BitVec 32 := 0#32
  let c1_i32_154 : BitVec 32 := 1#32
  let arg12 : BitVec 32 := Scf.iv c0_i32_152 c1_i32_154 k0_t23
  let v281 : BitVec 32 := Scalar.addi c1408_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond12 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c11_i32 : BitVec 32 := 11#32
  let v97 : BitVec 1 := Scalar.cmpi .sgt v37 c11_i32
  let v98 : BitVec 32 := Scalar.extui v97
  let c0_i32_46 : BitVec 32 := 0#32
  let v99 : BitVec 1 := Scalar.cmpi .ne v98 c0_i32_46
  v99

def k0_off90 (k0_t23 : Fin k0_t23_loop.trips) : Fin 1 → Nat :=
  let c0_i32_152 : BitVec 32 := 0#32
  let c1_i32_154 : BitVec 32 := 1#32
  let arg12 : BitVec 32 := Scf.iv c0_i32_152 c1_i32_154 k0_t23
  ![arg12.toNat]
def k0_off91 (k0_t23 : Fin k0_t23_loop.trips) : Fin 2 → Nat :=
  let c1408_i32_169 : BitVec 32 := 1408#32
  let c0_i32_152 : BitVec 32 := 0#32
  let c1_i32_154 : BitVec 32 := 1#32
  let arg12 : BitVec 32 := Scf.iv c0_i32_152 c1_i32_154 k0_t23
  let v281 : BitVec 32 := Scalar.addi c1408_i32_169 arg12
  let c0_i32_171 : BitVec 32 := 0#32
  ![v281.toNat, 0]
def k0_off92 (v287 : BitVec 32) : Fin 2 → Nat :=
  let c0_i32_172 : BitVec 32 := 0#32
  ![v287.toNat, 0]

def k0_chk24 (d0 : Dev nD) (v10 : BitVec 32) (v287 : BitVec 32) : Prop :=
  (∀ (k0_h12 : k0_cond12 d0 v10 = 1#1), ∀ a, (k0_off92 v287) a + S1x2048.size a ≤ S8192x2048.size a)
theorem k0_off92_inb : ∀ (d0 : Dev nD) (v10 : BitVec 32) (v287 : BitVec 32) (k0_hw24 : k0_chk24 d0 v10 v287), ∀ (k0_h12 : k0_cond12 d0 v10 = 1#1), ∀ a, (k0_off92 v287) a + S1x2048.size a ≤ S8192x2048.size a := fun d0 v10 v287 k0_hw24 k0_h12 => k0_hw24 k0_h12

@[reducible] def k0_t24_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off93 (d0 : Dev nD) (v10 : BitVec 32) (k0_t24 : Fin k0_t24_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1408_i32_169 : BitVec 32 := 1408#32
  let c0_i32_156 : BitVec 32 := 0#32
  let c1_i32_158 : BitVec 32 := 1#32
  let arg12 : BitVec 32 := Scf.iv c0_i32_156 c1_i32_158 k0_t24
  let v281 : BitVec 32 := Scalar.addi c1408_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off94 (k0_t24 : Fin k0_t24_loop.trips) : Fin 1 → Nat :=
  let c0_i32_156 : BitVec 32 := 0#32
  let c1_i32_158 : BitVec 32 := 1#32
  let arg12 : BitVec 32 := Scf.iv c0_i32_156 c1_i32_158 k0_t24
  ![arg12.toNat]
def k0_off95 (k0_t24 : Fin k0_t24_loop.trips) : Fin 2 → Nat :=
  let c1408_i32_169 : BitVec 32 := 1408#32
  let c0_i32_156 : BitVec 32 := 0#32
  let c1_i32_158 : BitVec 32 := 1#32
  let arg12 : BitVec 32 := Scf.iv c0_i32_156 c1_i32_158 k0_t24
  let v281 : BitVec 32 := Scalar.addi c1408_i32_169 arg12
  let c0_i32_171 : BitVec 32 := 0#32
  ![v281.toNat, 0]
def k0_off96 (v287 : BitVec 32) : Fin 2 → Nat :=
  let c0_i32_172 : BitVec 32 := 0#32
  ![v287.toNat, 0]

def k0_chk25 (d0 : Dev nD) (v10 : BitVec 32) (v287 : BitVec 32) : Prop :=
  (∀ (k0_h12 : k0_cond12 d0 v10 = 1#1), ∀ a, (k0_off96 v287) a + S1x2048.size a ≤ S8192x2048.size a)
theorem k0_off96_inb : ∀ (d0 : Dev nD) (v10 : BitVec 32) (v287 : BitVec 32) (k0_hw25 : k0_chk25 d0 v10 v287), ∀ (k0_h12 : k0_cond12 d0 v10 = 1#1), ∀ a, (k0_off96 v287) a + S1x2048.size a ≤ S8192x2048.size a := fun d0 v10 v287 k0_hw25 k0_h12 => k0_hw25 k0_h12

def k0_dev13 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t25_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off97 (d0 : Dev nD) (v10 : BitVec 32) (k0_t25 : Fin k0_t25_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1536_i32_169 : BitVec 32 := 1536#32
  let c0_i32_152 : BitVec 32 := 0#32
  let c1_i32_154 : BitVec 32 := 1#32
  let arg12 : BitVec 32 := Scf.iv c0_i32_152 c1_i32_154 k0_t25
  let v281 : BitVec 32 := Scalar.addi c1536_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond13 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c12_i32 : BitVec 32 := 12#32
  let v100 : BitVec 1 := Scalar.cmpi .sgt v37 c12_i32
  let v101 : BitVec 32 := Scalar.extui v100
  let c0_i32_47 : BitVec 32 := 0#32
  let v102 : BitVec 1 := Scalar.cmpi .ne v101 c0_i32_47
  v102

def k0_off98 (k0_t25 : Fin k0_t25_loop.trips) : Fin 1 → Nat :=
  let c0_i32_152 : BitVec 32 := 0#32
  let c1_i32_154 : BitVec 32 := 1#32
  let arg12 : BitVec 32 := Scf.iv c0_i32_152 c1_i32_154 k0_t25
  ![arg12.toNat]
def k0_off99 (k0_t25 : Fin k0_t25_loop.trips) : Fin 2 → Nat :=
  let c1536_i32_169 : BitVec 32 := 1536#32
  let c0_i32_152 : BitVec 32 := 0#32
  let c1_i32_154 : BitVec 32 := 1#32
  let arg12 : BitVec 32 := Scf.iv c0_i32_152 c1_i32_154 k0_t25
  let v281 : BitVec 32 := Scalar.addi c1536_i32_169 arg12
  let c0_i32_171 : BitVec 32 := 0#32
  ![v281.toNat, 0]
def k0_off100 (v287 : BitVec 32) : Fin 2 → Nat :=
  let c0_i32_172 : BitVec 32 := 0#32
  ![v287.toNat, 0]

def k0_chk26 (d0 : Dev nD) (v10 : BitVec 32) (v287 : BitVec 32) : Prop :=
  (∀ (k0_h13 : k0_cond13 d0 v10 = 1#1), ∀ a, (k0_off100 v287) a + S1x2048.size a ≤ S8192x2048.size a)
theorem k0_off100_inb : ∀ (d0 : Dev nD) (v10 : BitVec 32) (v287 : BitVec 32) (k0_hw26 : k0_chk26 d0 v10 v287), ∀ (k0_h13 : k0_cond13 d0 v10 = 1#1), ∀ a, (k0_off100 v287) a + S1x2048.size a ≤ S8192x2048.size a := fun d0 v10 v287 k0_hw26 k0_h13 => k0_hw26 k0_h13

@[reducible] def k0_t26_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off101 (d0 : Dev nD) (v10 : BitVec 32) (k0_t26 : Fin k0_t26_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1536_i32_169 : BitVec 32 := 1536#32
  let c0_i32_156 : BitVec 32 := 0#32
  let c1_i32_158 : BitVec 32 := 1#32
  let arg12 : BitVec 32 := Scf.iv c0_i32_156 c1_i32_158 k0_t26
  let v281 : BitVec 32 := Scalar.addi c1536_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off102 (k0_t26 : Fin k0_t26_loop.trips) : Fin 1 → Nat :=
  let c0_i32_156 : BitVec 32 := 0#32
  let c1_i32_158 : BitVec 32 := 1#32
  let arg12 : BitVec 32 := Scf.iv c0_i32_156 c1_i32_158 k0_t26
  ![arg12.toNat]
def k0_off103 (k0_t26 : Fin k0_t26_loop.trips) : Fin 2 → Nat :=
  let c1536_i32_169 : BitVec 32 := 1536#32
  let c0_i32_156 : BitVec 32 := 0#32
  let c1_i32_158 : BitVec 32 := 1#32
  let arg12 : BitVec 32 := Scf.iv c0_i32_156 c1_i32_158 k0_t26
  let v281 : BitVec 32 := Scalar.addi c1536_i32_169 arg12
  let c0_i32_171 : BitVec 32 := 0#32
  ![v281.toNat, 0]
def k0_off104 (v287 : BitVec 32) : Fin 2 → Nat :=
  let c0_i32_172 : BitVec 32 := 0#32
  ![v287.toNat, 0]

def k0_chk27 (d0 : Dev nD) (v10 : BitVec 32) (v287 : BitVec 32) : Prop :=
  (∀ (k0_h13 : k0_cond13 d0 v10 = 1#1), ∀ a, (k0_off104 v287) a + S1x2048.size a ≤ S8192x2048.size a)
theorem k0_off104_inb : ∀ (d0 : Dev nD) (v10 : BitVec 32) (v287 : BitVec 32) (k0_hw27 : k0_chk27 d0 v10 v287), ∀ (k0_h13 : k0_cond13 d0 v10 = 1#1), ∀ a, (k0_off104 v287) a + S1x2048.size a ≤ S8192x2048.size a := fun d0 v10 v287 k0_hw27 k0_h13 => k0_hw27 k0_h13

def k0_dev14 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t27_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off105 (d0 : Dev nD) (v10 : BitVec 32) (k0_t27 : Fin k0_t27_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1664_i32_169 : BitVec 32 := 1664#32
  let c0_i32_152 : BitVec 32 := 0#32
  let c1_i32_154 : BitVec 32 := 1#32
  let arg12 : BitVec 32 := Scf.iv c0_i32_152 c1_i32_154 k0_t27
  let v281 : BitVec 32 := Scalar.addi c1664_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond14 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c13_i32 : BitVec 32 := 13#32
  let v103 : BitVec 1 := Scalar.cmpi .sgt v37 c13_i32
  let v104 : BitVec 32 := Scalar.extui v103
  let c0_i32_48 : BitVec 32 := 0#32
  let v105 : BitVec 1 := Scalar.cmpi .ne v104 c0_i32_48
  v105

def k0_off106 (k0_t27 : Fin k0_t27_loop.trips) : Fin 1 → Nat :=
  let c0_i32_152 : BitVec 32 := 0#32
  let c1_i32_154 : BitVec 32 := 1#32
  let arg12 : BitVec 32 := Scf.iv c0_i32_152 c1_i32_154 k0_t27
  ![arg12.toNat]
def k0_off107 (k0_t27 : Fin k0_t27_loop.trips) : Fin 2 → Nat :=
  let c1664_i32_169 : BitVec 32 := 1664#32
  let c0_i32_152 : BitVec 32 := 0#32
  let c1_i32_154 : BitVec 32 := 1#32
  let arg12 : BitVec 32 := Scf.iv c0_i32_152 c1_i32_154 k0_t27
  let v281 : BitVec 32 := Scalar.addi c1664_i32_169 arg12
  let c0_i32_171 : BitVec 32 := 0#32
  ![v281.toNat, 0]
def k0_off108 (v287 : BitVec 32) : Fin 2 → Nat :=
  let c0_i32_172 : BitVec 32 := 0#32
  ![v287.toNat, 0]

def k0_chk28 (d0 : Dev nD) (v10 : BitVec 32) (v287 : BitVec 32) : Prop :=
  (∀ (k0_h14 : k0_cond14 d0 v10 = 1#1), ∀ a, (k0_off108 v287) a + S1x2048.size a ≤ S8192x2048.size a)
theorem k0_off108_inb : ∀ (d0 : Dev nD) (v10 : BitVec 32) (v287 : BitVec 32) (k0_hw28 : k0_chk28 d0 v10 v287), ∀ (k0_h14 : k0_cond14 d0 v10 = 1#1), ∀ a, (k0_off108 v287) a + S1x2048.size a ≤ S8192x2048.size a := fun d0 v10 v287 k0_hw28 k0_h14 => k0_hw28 k0_h14

@[reducible] def k0_t28_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off109 (d0 : Dev nD) (v10 : BitVec 32) (k0_t28 : Fin k0_t28_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1664_i32_169 : BitVec 32 := 1664#32
  let c0_i32_156 : BitVec 32 := 0#32
  let c1_i32_158 : BitVec 32 := 1#32
  let arg12 : BitVec 32 := Scf.iv c0_i32_156 c1_i32_158 k0_t28
  let v281 : BitVec 32 := Scalar.addi c1664_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off110 (k0_t28 : Fin k0_t28_loop.trips) : Fin 1 → Nat :=
  let c0_i32_156 : BitVec 32 := 0#32
  let c1_i32_158 : BitVec 32 := 1#32
  let arg12 : BitVec 32 := Scf.iv c0_i32_156 c1_i32_158 k0_t28
  ![arg12.toNat]
def k0_off111 (k0_t28 : Fin k0_t28_loop.trips) : Fin 2 → Nat :=
  let c1664_i32_169 : BitVec 32 := 1664#32
  let c0_i32_156 : BitVec 32 := 0#32
  let c1_i32_158 : BitVec 32 := 1#32
  let arg12 : BitVec 32 := Scf.iv c0_i32_156 c1_i32_158 k0_t28
  let v281 : BitVec 32 := Scalar.addi c1664_i32_169 arg12
  let c0_i32_171 : BitVec 32 := 0#32
  ![v281.toNat, 0]
def k0_off112 (v287 : BitVec 32) : Fin 2 → Nat :=
  let c0_i32_172 : BitVec 32 := 0#32
  ![v287.toNat, 0]

def k0_chk29 (d0 : Dev nD) (v10 : BitVec 32) (v287 : BitVec 32) : Prop :=
  (∀ (k0_h14 : k0_cond14 d0 v10 = 1#1), ∀ a, (k0_off112 v287) a + S1x2048.size a ≤ S8192x2048.size a)
theorem k0_off112_inb : ∀ (d0 : Dev nD) (v10 : BitVec 32) (v287 : BitVec 32) (k0_hw29 : k0_chk29 d0 v10 v287), ∀ (k0_h14 : k0_cond14 d0 v10 = 1#1), ∀ a, (k0_off112 v287) a + S1x2048.size a ≤ S8192x2048.size a := fun d0 v10 v287 k0_hw29 k0_h14 => k0_hw29 k0_h14

def k0_dev15 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t29_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off113 (d0 : Dev nD) (v10 : BitVec 32) (k0_t29 : Fin k0_t29_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1792_i32_169 : BitVec 32 := 1792#32
  let c0_i32_152 : BitVec 32 := 0#32
  let c1_i32_154 : BitVec 32 := 1#32
  let arg12 : BitVec 32 := Scf.iv c0_i32_152 c1_i32_154 k0_t29
  let v281 : BitVec 32 := Scalar.addi c1792_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond15 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c14_i32 : BitVec 32 := 14#32
  let v106 : BitVec 1 := Scalar.cmpi .sgt v37 c14_i32
  let v107 : BitVec 32 := Scalar.extui v106
  let c0_i32_49 : BitVec 32 := 0#32
  let v108 : BitVec 1 := Scalar.cmpi .ne v107 c0_i32_49
  v108

def k0_off114 (k0_t29 : Fin k0_t29_loop.trips) : Fin 1 → Nat :=
  let c0_i32_152 : BitVec 32 := 0#32
  let c1_i32_154 : BitVec 32 := 1#32
  let arg12 : BitVec 32 := Scf.iv c0_i32_152 c1_i32_154 k0_t29
  ![arg12.toNat]
def k0_off115 (k0_t29 : Fin k0_t29_loop.trips) : Fin 2 → Nat :=
  let c1792_i32_169 : BitVec 32 := 1792#32
  let c0_i32_152 : BitVec 32 := 0#32
  let c1_i32_154 : BitVec 32 := 1#32
  let arg12 : BitVec 32 := Scf.iv c0_i32_152 c1_i32_154 k0_t29
  let v281 : BitVec 32 := Scalar.addi c1792_i32_169 arg12
  let c0_i32_171 : BitVec 32 := 0#32
  ![v281.toNat, 0]
def k0_off116 (v287 : BitVec 32) : Fin 2 → Nat :=
  let c0_i32_172 : BitVec 32 := 0#32
  ![v287.toNat, 0]

def k0_chk30 (d0 : Dev nD) (v10 : BitVec 32) (v287 : BitVec 32) : Prop :=
  (∀ (k0_h15 : k0_cond15 d0 v10 = 1#1), ∀ a, (k0_off116 v287) a + S1x2048.size a ≤ S8192x2048.size a)
theorem k0_off116_inb : ∀ (d0 : Dev nD) (v10 : BitVec 32) (v287 : BitVec 32) (k0_hw30 : k0_chk30 d0 v10 v287), ∀ (k0_h15 : k0_cond15 d0 v10 = 1#1), ∀ a, (k0_off116 v287) a + S1x2048.size a ≤ S8192x2048.size a := fun d0 v10 v287 k0_hw30 k0_h15 => k0_hw30 k0_h15

@[reducible] def k0_t30_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off117 (d0 : Dev nD) (v10 : BitVec 32) (k0_t30 : Fin k0_t30_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1792_i32_169 : BitVec 32 := 1792#32
  let c0_i32_156 : BitVec 32 := 0#32
  let c1_i32_158 : BitVec 32 := 1#32
  let arg12 : BitVec 32 := Scf.iv c0_i32_156 c1_i32_158 k0_t30
  let v281 : BitVec 32 := Scalar.addi c1792_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off118 (k0_t30 : Fin k0_t30_loop.trips) : Fin 1 → Nat :=
  let c0_i32_156 : BitVec 32 := 0#32
  let c1_i32_158 : BitVec 32 := 1#32
  let arg12 : BitVec 32 := Scf.iv c0_i32_156 c1_i32_158 k0_t30
  ![arg12.toNat]
def k0_off119 (k0_t30 : Fin k0_t30_loop.trips) : Fin 2 → Nat :=
  let c1792_i32_169 : BitVec 32 := 1792#32
  let c0_i32_156 : BitVec 32 := 0#32
  let c1_i32_158 : BitVec 32 := 1#32
  let arg12 : BitVec 32 := Scf.iv c0_i32_156 c1_i32_158 k0_t30
  let v281 : BitVec 32 := Scalar.addi c1792_i32_169 arg12
  let c0_i32_171 : BitVec 32 := 0#32
  ![v281.toNat, 0]
def k0_off120 (v287 : BitVec 32) : Fin 2 → Nat :=
  let c0_i32_172 : BitVec 32 := 0#32
  ![v287.toNat, 0]

def k0_chk31 (d0 : Dev nD) (v10 : BitVec 32) (v287 : BitVec 32) : Prop :=
  (∀ (k0_h15 : k0_cond15 d0 v10 = 1#1), ∀ a, (k0_off120 v287) a + S1x2048.size a ≤ S8192x2048.size a)
theorem k0_off120_inb : ∀ (d0 : Dev nD) (v10 : BitVec 32) (v287 : BitVec 32) (k0_hw31 : k0_chk31 d0 v10 v287), ∀ (k0_h15 : k0_cond15 d0 v10 = 1#1), ∀ a, (k0_off120 v287) a + S1x2048.size a ≤ S8192x2048.size a := fun d0 v10 v287 k0_hw31 k0_h15 => k0_hw31 k0_h15

def k0_dev16 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t31_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off121 (d0 : Dev nD) (v10 : BitVec 32) (k0_t31 : Fin k0_t31_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1920_i32_169 : BitVec 32 := 1920#32
  let c0_i32_152 : BitVec 32 := 0#32
  let c1_i32_154 : BitVec 32 := 1#32
  let arg12 : BitVec 32 := Scf.iv c0_i32_152 c1_i32_154 k0_t31
  let v281 : BitVec 32 := Scalar.addi c1920_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond16 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c15_i32 : BitVec 32 := 15#32
  let v109 : BitVec 1 := Scalar.cmpi .sgt v37 c15_i32
  let v110 : BitVec 32 := Scalar.extui v109
  let c0_i32_50 : BitVec 32 := 0#32
  let v111 : BitVec 1 := Scalar.cmpi .ne v110 c0_i32_50
  v111

def k0_off122 (k0_t31 : Fin k0_t31_loop.trips) : Fin 1 → Nat :=
  let c0_i32_152 : BitVec 32 := 0#32
  let c1_i32_154 : BitVec 32 := 1#32
  let arg12 : BitVec 32 := Scf.iv c0_i32_152 c1_i32_154 k0_t31
  ![arg12.toNat]
def k0_off123 (k0_t31 : Fin k0_t31_loop.trips) : Fin 2 → Nat :=
  let c1920_i32_169 : BitVec 32 := 1920#32
  let c0_i32_152 : BitVec 32 := 0#32
  let c1_i32_154 : BitVec 32 := 1#32
  let arg12 : BitVec 32 := Scf.iv c0_i32_152 c1_i32_154 k0_t31
  let v281 : BitVec 32 := Scalar.addi c1920_i32_169 arg12
  let c0_i32_171 : BitVec 32 := 0#32
  ![v281.toNat, 0]
def k0_off124 (v287 : BitVec 32) : Fin 2 → Nat :=
  let c0_i32_172 : BitVec 32 := 0#32
  ![v287.toNat, 0]

def k0_chk32 (d0 : Dev nD) (v10 : BitVec 32) (v287 : BitVec 32) : Prop :=
  (∀ (k0_h16 : k0_cond16 d0 v10 = 1#1), ∀ a, (k0_off124 v287) a + S1x2048.size a ≤ S8192x2048.size a)
theorem k0_off124_inb : ∀ (d0 : Dev nD) (v10 : BitVec 32) (v287 : BitVec 32) (k0_hw32 : k0_chk32 d0 v10 v287), ∀ (k0_h16 : k0_cond16 d0 v10 = 1#1), ∀ a, (k0_off124 v287) a + S1x2048.size a ≤ S8192x2048.size a := fun d0 v10 v287 k0_hw32 k0_h16 => k0_hw32 k0_h16

@[reducible] def k0_t32_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off125 (d0 : Dev nD) (v10 : BitVec 32) (k0_t32 : Fin k0_t32_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c1920_i32_169 : BitVec 32 := 1920#32
  let c0_i32_156 : BitVec 32 := 0#32
  let c1_i32_158 : BitVec 32 := 1#32
  let arg12 : BitVec 32 := Scf.iv c0_i32_156 c1_i32_158 k0_t32
  let v281 : BitVec 32 := Scalar.addi c1920_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off126 (k0_t32 : Fin k0_t32_loop.trips) : Fin 1 → Nat :=
  let c0_i32_156 : BitVec 32 := 0#32
  let c1_i32_158 : BitVec 32 := 1#32
  let arg12 : BitVec 32 := Scf.iv c0_i32_156 c1_i32_158 k0_t32
  ![arg12.toNat]
def k0_off127 (k0_t32 : Fin k0_t32_loop.trips) : Fin 2 → Nat :=
  let c1920_i32_169 : BitVec 32 := 1920#32
  let c0_i32_156 : BitVec 32 := 0#32
  let c1_i32_158 : BitVec 32 := 1#32
  let arg12 : BitVec 32 := Scf.iv c0_i32_156 c1_i32_158 k0_t32
  let v281 : BitVec 32 := Scalar.addi c1920_i32_169 arg12
  let c0_i32_171 : BitVec 32 := 0#32
  ![v281.toNat, 0]
def k0_off128 (v287 : BitVec 32) : Fin 2 → Nat :=
  let c0_i32_172 : BitVec 32 := 0#32
  ![v287.toNat, 0]

def k0_chk33 (d0 : Dev nD) (v10 : BitVec 32) (v287 : BitVec 32) : Prop :=
  (∀ (k0_h16 : k0_cond16 d0 v10 = 1#1), ∀ a, (k0_off128 v287) a + S1x2048.size a ≤ S8192x2048.size a)
theorem k0_off128_inb : ∀ (d0 : Dev nD) (v10 : BitVec 32) (v287 : BitVec 32) (k0_hw33 : k0_chk33 d0 v10 v287), ∀ (k0_h16 : k0_cond16 d0 v10 = 1#1), ∀ a, (k0_off128 v287) a + S1x2048.size a ≤ S8192x2048.size a := fun d0 v10 v287 k0_hw33 k0_h16 => k0_hw33 k0_h16

def k0_dev17 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t33_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off129 (d0 : Dev nD) (v10 : BitVec 32) (k0_t33 : Fin k0_t33_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c2048_i32_169 : BitVec 32 := 2048#32
  let c0_i32_152 : BitVec 32 := 0#32
  let c1_i32_154 : BitVec 32 := 1#32
  let arg12 : BitVec 32 := Scf.iv c0_i32_152 c1_i32_154 k0_t33
  let v281 : BitVec 32 := Scalar.addi c2048_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond17 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c16_i32_51 : BitVec 32 := 16#32
  let v112 : BitVec 1 := Scalar.cmpi .sgt v37 c16_i32_51
  let v113 : BitVec 32 := Scalar.extui v112
  let c0_i32_52 : BitVec 32 := 0#32
  let v114 : BitVec 1 := Scalar.cmpi .ne v113 c0_i32_52
  v114

def k0_off130 (k0_t33 : Fin k0_t33_loop.trips) : Fin 1 → Nat :=
  let c0_i32_152 : BitVec 32 := 0#32
  let c1_i32_154 : BitVec 32 := 1#32
  let arg12 : BitVec 32 := Scf.iv c0_i32_152 c1_i32_154 k0_t33
  ![arg12.toNat]
def k0_off131 (k0_t33 : Fin k0_t33_loop.trips) : Fin 2 → Nat :=
  let c2048_i32_169 : BitVec 32 := 2048#32
  let c0_i32_152 : BitVec 32 := 0#32
  let c1_i32_154 : BitVec 32 := 1#32
  let arg12 : BitVec 32 := Scf.iv c0_i32_152 c1_i32_154 k0_t33
  let v281 : BitVec 32 := Scalar.addi c2048_i32_169 arg12
  let c0_i32_171 : BitVec 32 := 0#32
  ![v281.toNat, 0]
def k0_off132 (v287 : BitVec 32) : Fin 2 → Nat :=
  let c0_i32_172 : BitVec 32 := 0#32
  ![v287.toNat, 0]

def k0_chk34 (d0 : Dev nD) (v10 : BitVec 32) (v287 : BitVec 32) : Prop :=
  (∀ (k0_h17 : k0_cond17 d0 v10 = 1#1), ∀ a, (k0_off132 v287) a + S1x2048.size a ≤ S8192x2048.size a)
theorem k0_off132_inb : ∀ (d0 : Dev nD) (v10 : BitVec 32) (v287 : BitVec 32) (k0_hw34 : k0_chk34 d0 v10 v287), ∀ (k0_h17 : k0_cond17 d0 v10 = 1#1), ∀ a, (k0_off132 v287) a + S1x2048.size a ≤ S8192x2048.size a := fun d0 v10 v287 k0_hw34 k0_h17 => k0_hw34 k0_h17

@[reducible] def k0_t34_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off133 (d0 : Dev nD) (v10 : BitVec 32) (k0_t34 : Fin k0_t34_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c2048_i32_169 : BitVec 32 := 2048#32
  let c0_i32_156 : BitVec 32 := 0#32
  let c1_i32_158 : BitVec 32 := 1#32
  let arg12 : BitVec 32 := Scf.iv c0_i32_156 c1_i32_158 k0_t34
  let v281 : BitVec 32 := Scalar.addi c2048_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off134 (k0_t34 : Fin k0_t34_loop.trips) : Fin 1 → Nat :=
  let c0_i32_156 : BitVec 32 := 0#32
  let c1_i32_158 : BitVec 32 := 1#32
  let arg12 : BitVec 32 := Scf.iv c0_i32_156 c1_i32_158 k0_t34
  ![arg12.toNat]
def k0_off135 (k0_t34 : Fin k0_t34_loop.trips) : Fin 2 → Nat :=
  let c2048_i32_169 : BitVec 32 := 2048#32
  let c0_i32_156 : BitVec 32 := 0#32
  let c1_i32_158 : BitVec 32 := 1#32
  let arg12 : BitVec 32 := Scf.iv c0_i32_156 c1_i32_158 k0_t34
  let v281 : BitVec 32 := Scalar.addi c2048_i32_169 arg12
  let c0_i32_171 : BitVec 32 := 0#32
  ![v281.toNat, 0]
def k0_off136 (v287 : BitVec 32) : Fin 2 → Nat :=
  let c0_i32_172 : BitVec 32 := 0#32
  ![v287.toNat, 0]

def k0_chk35 (d0 : Dev nD) (v10 : BitVec 32) (v287 : BitVec 32) : Prop :=
  (∀ (k0_h17 : k0_cond17 d0 v10 = 1#1), ∀ a, (k0_off136 v287) a + S1x2048.size a ≤ S8192x2048.size a)
theorem k0_off136_inb : ∀ (d0 : Dev nD) (v10 : BitVec 32) (v287 : BitVec 32) (k0_hw35 : k0_chk35 d0 v10 v287), ∀ (k0_h17 : k0_cond17 d0 v10 = 1#1), ∀ a, (k0_off136 v287) a + S1x2048.size a ≤ S8192x2048.size a := fun d0 v10 v287 k0_hw35 k0_h17 => k0_hw35 k0_h17

def k0_dev18 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t35_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off137 (d0 : Dev nD) (v10 : BitVec 32) (k0_t35 : Fin k0_t35_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c2176_i32_169 : BitVec 32 := 2176#32
  let c0_i32_152 : BitVec 32 := 0#32
  let c1_i32_154 : BitVec 32 := 1#32
  let arg12 : BitVec 32 := Scf.iv c0_i32_152 c1_i32_154 k0_t35
  let v281 : BitVec 32 := Scalar.addi c2176_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond18 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c17_i32 : BitVec 32 := 17#32
  let v115 : BitVec 1 := Scalar.cmpi .sgt v37 c17_i32
  let v116 : BitVec 32 := Scalar.extui v115
  let c0_i32_53 : BitVec 32 := 0#32
  let v117 : BitVec 1 := Scalar.cmpi .ne v116 c0_i32_53
  v117

def k0_off138 (k0_t35 : Fin k0_t35_loop.trips) : Fin 1 → Nat :=
  let c0_i32_152 : BitVec 32 := 0#32
  let c1_i32_154 : BitVec 32 := 1#32
  let arg12 : BitVec 32 := Scf.iv c0_i32_152 c1_i32_154 k0_t35
  ![arg12.toNat]
def k0_off139 (k0_t35 : Fin k0_t35_loop.trips) : Fin 2 → Nat :=
  let c2176_i32_169 : BitVec 32 := 2176#32
  let c0_i32_152 : BitVec 32 := 0#32
  let c1_i32_154 : BitVec 32 := 1#32
  let arg12 : BitVec 32 := Scf.iv c0_i32_152 c1_i32_154 k0_t35
  let v281 : BitVec 32 := Scalar.addi c2176_i32_169 arg12
  let c0_i32_171 : BitVec 32 := 0#32
  ![v281.toNat, 0]
def k0_off140 (v287 : BitVec 32) : Fin 2 → Nat :=
  let c0_i32_172 : BitVec 32 := 0#32
  ![v287.toNat, 0]

def k0_chk36 (d0 : Dev nD) (v10 : BitVec 32) (v287 : BitVec 32) : Prop :=
  (∀ (k0_h18 : k0_cond18 d0 v10 = 1#1), ∀ a, (k0_off140 v287) a + S1x2048.size a ≤ S8192x2048.size a)
theorem k0_off140_inb : ∀ (d0 : Dev nD) (v10 : BitVec 32) (v287 : BitVec 32) (k0_hw36 : k0_chk36 d0 v10 v287), ∀ (k0_h18 : k0_cond18 d0 v10 = 1#1), ∀ a, (k0_off140 v287) a + S1x2048.size a ≤ S8192x2048.size a := fun d0 v10 v287 k0_hw36 k0_h18 => k0_hw36 k0_h18

@[reducible] def k0_t36_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off141 (d0 : Dev nD) (v10 : BitVec 32) (k0_t36 : Fin k0_t36_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c2176_i32_169 : BitVec 32 := 2176#32
  let c0_i32_156 : BitVec 32 := 0#32
  let c1_i32_158 : BitVec 32 := 1#32
  let arg12 : BitVec 32 := Scf.iv c0_i32_156 c1_i32_158 k0_t36
  let v281 : BitVec 32 := Scalar.addi c2176_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off142 (k0_t36 : Fin k0_t36_loop.trips) : Fin 1 → Nat :=
  let c0_i32_156 : BitVec 32 := 0#32
  let c1_i32_158 : BitVec 32 := 1#32
  let arg12 : BitVec 32 := Scf.iv c0_i32_156 c1_i32_158 k0_t36
  ![arg12.toNat]
def k0_off143 (k0_t36 : Fin k0_t36_loop.trips) : Fin 2 → Nat :=
  let c2176_i32_169 : BitVec 32 := 2176#32
  let c0_i32_156 : BitVec 32 := 0#32
  let c1_i32_158 : BitVec 32 := 1#32
  let arg12 : BitVec 32 := Scf.iv c0_i32_156 c1_i32_158 k0_t36
  let v281 : BitVec 32 := Scalar.addi c2176_i32_169 arg12
  let c0_i32_171 : BitVec 32 := 0#32
  ![v281.toNat, 0]
def k0_off144 (v287 : BitVec 32) : Fin 2 → Nat :=
  let c0_i32_172 : BitVec 32 := 0#32
  ![v287.toNat, 0]

def k0_chk37 (d0 : Dev nD) (v10 : BitVec 32) (v287 : BitVec 32) : Prop :=
  (∀ (k0_h18 : k0_cond18 d0 v10 = 1#1), ∀ a, (k0_off144 v287) a + S1x2048.size a ≤ S8192x2048.size a)
theorem k0_off144_inb : ∀ (d0 : Dev nD) (v10 : BitVec 32) (v287 : BitVec 32) (k0_hw37 : k0_chk37 d0 v10 v287), ∀ (k0_h18 : k0_cond18 d0 v10 = 1#1), ∀ a, (k0_off144 v287) a + S1x2048.size a ≤ S8192x2048.size a := fun d0 v10 v287 k0_hw37 k0_h18 => k0_hw37 k0_h18

def k0_dev19 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t37_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off145 (d0 : Dev nD) (v10 : BitVec 32) (k0_t37 : Fin k0_t37_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c2304_i32_169 : BitVec 32 := 2304#32
  let c0_i32_152 : BitVec 32 := 0#32
  let c1_i32_154 : BitVec 32 := 1#32
  let arg12 : BitVec 32 := Scf.iv c0_i32_152 c1_i32_154 k0_t37
  let v281 : BitVec 32 := Scalar.addi c2304_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond19 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c18_i32 : BitVec 32 := 18#32
  let v118 : BitVec 1 := Scalar.cmpi .sgt v37 c18_i32
  let v119 : BitVec 32 := Scalar.extui v118
  let c0_i32_54 : BitVec 32 := 0#32
  let v120 : BitVec 1 := Scalar.cmpi .ne v119 c0_i32_54
  v120

def k0_off146 (k0_t37 : Fin k0_t37_loop.trips) : Fin 1 → Nat :=
  let c0_i32_152 : BitVec 32 := 0#32
  let c1_i32_154 : BitVec 32 := 1#32
  let arg12 : BitVec 32 := Scf.iv c0_i32_152 c1_i32_154 k0_t37
  ![arg12.toNat]
def k0_off147 (k0_t37 : Fin k0_t37_loop.trips) : Fin 2 → Nat :=
  let c2304_i32_169 : BitVec 32 := 2304#32
  let c0_i32_152 : BitVec 32 := 0#32
  let c1_i32_154 : BitVec 32 := 1#32
  let arg12 : BitVec 32 := Scf.iv c0_i32_152 c1_i32_154 k0_t37
  let v281 : BitVec 32 := Scalar.addi c2304_i32_169 arg12
  let c0_i32_171 : BitVec 32 := 0#32
  ![v281.toNat, 0]
def k0_off148 (v287 : BitVec 32) : Fin 2 → Nat :=
  let c0_i32_172 : BitVec 32 := 0#32
  ![v287.toNat, 0]

def k0_chk38 (d0 : Dev nD) (v10 : BitVec 32) (v287 : BitVec 32) : Prop :=
  (∀ (k0_h19 : k0_cond19 d0 v10 = 1#1), ∀ a, (k0_off148 v287) a + S1x2048.size a ≤ S8192x2048.size a)
theorem k0_off148_inb : ∀ (d0 : Dev nD) (v10 : BitVec 32) (v287 : BitVec 32) (k0_hw38 : k0_chk38 d0 v10 v287), ∀ (k0_h19 : k0_cond19 d0 v10 = 1#1), ∀ a, (k0_off148 v287) a + S1x2048.size a ≤ S8192x2048.size a := fun d0 v10 v287 k0_hw38 k0_h19 => k0_hw38 k0_h19

@[reducible] def k0_t38_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off149 (d0 : Dev nD) (v10 : BitVec 32) (k0_t38 : Fin k0_t38_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c2304_i32_169 : BitVec 32 := 2304#32
  let c0_i32_156 : BitVec 32 := 0#32
  let c1_i32_158 : BitVec 32 := 1#32
  let arg12 : BitVec 32 := Scf.iv c0_i32_156 c1_i32_158 k0_t38
  let v281 : BitVec 32 := Scalar.addi c2304_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off150 (k0_t38 : Fin k0_t38_loop.trips) : Fin 1 → Nat :=
  let c0_i32_156 : BitVec 32 := 0#32
  let c1_i32_158 : BitVec 32 := 1#32
  let arg12 : BitVec 32 := Scf.iv c0_i32_156 c1_i32_158 k0_t38
  ![arg12.toNat]
def k0_off151 (k0_t38 : Fin k0_t38_loop.trips) : Fin 2 → Nat :=
  let c2304_i32_169 : BitVec 32 := 2304#32
  let c0_i32_156 : BitVec 32 := 0#32
  let c1_i32_158 : BitVec 32 := 1#32
  let arg12 : BitVec 32 := Scf.iv c0_i32_156 c1_i32_158 k0_t38
  let v281 : BitVec 32 := Scalar.addi c2304_i32_169 arg12
  let c0_i32_171 : BitVec 32 := 0#32
  ![v281.toNat, 0]
def k0_off152 (v287 : BitVec 32) : Fin 2 → Nat :=
  let c0_i32_172 : BitVec 32 := 0#32
  ![v287.toNat, 0]

def k0_chk39 (d0 : Dev nD) (v10 : BitVec 32) (v287 : BitVec 32) : Prop :=
  (∀ (k0_h19 : k0_cond19 d0 v10 = 1#1), ∀ a, (k0_off152 v287) a + S1x2048.size a ≤ S8192x2048.size a)
theorem k0_off152_inb : ∀ (d0 : Dev nD) (v10 : BitVec 32) (v287 : BitVec 32) (k0_hw39 : k0_chk39 d0 v10 v287), ∀ (k0_h19 : k0_cond19 d0 v10 = 1#1), ∀ a, (k0_off152 v287) a + S1x2048.size a ≤ S8192x2048.size a := fun d0 v10 v287 k0_hw39 k0_h19 => k0_hw39 k0_h19

def k0_dev20 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t39_loop : Scf.Loop 32 :=
  let c0_i32_152 : BitVec 32 := 0#32
  let c128_i32_153 : BitVec 32 := 128#32
  let v267 : BitVec 32 := Scalar.addi c0_i32_152 c128_i32_153
  let c1_i32_154 : BitVec 32 := 1#32
  ⟨c0_i32_152, v267, c1_i32_154⟩
def k0_off153 (d0 : Dev nD) (v10 : BitVec 32) (k0_t39 : Fin k0_t39_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c2432_i32_169 : BitVec 32 := 2432#32
  let c0_i32_152 : BitVec 32 := 0#32
  let c1_i32_154 : BitVec 32 := 1#32
  let arg12 : BitVec 32 := Scf.iv c0_i32_152 c1_i32_154 k0_t39
  let v281 : BitVec 32 := Scalar.addi c2432_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_cond20 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c128_i32 : BitVec 32 := 128#32
  let v19 : BitVec 32 := Scalar.addi v15 c128_i32
  let c1_i32_8 : BitVec 32 := 1#32
  let v20 : BitVec 32 := Scalar.subi v19 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c128_i32_9 : BitVec 32 := 128#32
  let c0_i32_12 : BitVec 32 := 0#32
  let v27 : BitVec 1 := Scalar.cmpi .sgt c128_i32_9 c0_i32_12
  let v28 : BitVec 32 := Scalar.extui v27
  let c0_i32_13 : BitVec 32 := 0#32
  let v29 : BitVec 1 := Scalar.cmpi .slt c128_i32_9 c0_i32_13
  let v30 : BitVec 32 := Scalar.extui v29
  let v31 : BitVec 32 := Scalar.subi v28 v30
  let v32 : BitVec 1 := Scalar.cmpi .ne v26 v31
  let v33 : BitVec 32 := Scalar.remsi v20 c128_i32_9
  let c0_i32_14 : BitVec 32 := 0#32
  let v34 : BitVec 1 := Scalar.cmpi .ne v33 c0_i32_14
  let v35 : BitVec 1 := Scalar.andi v32 v34
  let v21 : BitVec 32 := Scalar.divsi v20 c128_i32_9
  let c1_i32_15 : BitVec 32 := 1#32
  let v36 : BitVec 32 := Scalar.subi v21 c1_i32_15
  let v37 : BitVec 32 := Scalar.select v35 v36 v21
  let c19_i32 : BitVec 32 := 19#32
  let v121 : BitVec 1 := Scalar.cmpi .sgt v37 c19_i32
  let v122 : BitVec 32 := Scalar.extui v121
  let c0_i32_55 : BitVec 32 := 0#32
  let v123 : BitVec 1 := Scalar.cmpi .ne v122 c0_i32_55
  v123

def k0_off154 (k0_t39 : Fin k0_t39_loop.trips) : Fin 1 → Nat :=
  let c0_i32_152 : BitVec 32 := 0#32
  let c1_i32_154 : BitVec 32 := 1#32
  let arg12 : BitVec 32 := Scf.iv c0_i32_152 c1_i32_154 k0_t39
  ![arg12.toNat]
def k0_off155 (k0_t39 : Fin k0_t39_loop.trips) : Fin 2 → Nat :=
  let c2432_i32_169 : BitVec 32 := 2432#32
  let c0_i32_152 : BitVec 32 := 0#32
  let c1_i32_154 : BitVec 32 := 1#32
  let arg12 : BitVec 32 := Scf.iv c0_i32_152 c1_i32_154 k0_t39
  let v281 : BitVec 32 := Scalar.addi c2432_i32_169 arg12
  let c0_i32_171 : BitVec 32 := 0#32
  ![v281.toNat, 0]
def k0_off156 (v287 : BitVec 32) : Fin 2 → Nat :=
  let c0_i32_172 : BitVec 32 := 0#32
  ![v287.toNat, 0]

def k0_chk40 (d0 : Dev nD) (v10 : BitVec 32) (v287 : BitVec 32) : Prop :=
  (∀ (k0_h20 : k0_cond20 d0 v10 = 1#1), ∀ a, (k0_off156 v287) a + S1x2048.size a ≤ S8192x2048.size a)
theorem k0_off156_inb : ∀ (d0 : Dev nD) (v10 : BitVec 32) (v287 : BitVec 32) (k0_hw40 : k0_chk40 d0 v10 v287), ∀ (k0_h20 : k0_cond20 d0 v10 = 1#1), ∀ a, (k0_off156 v287) a + S1x2048.size a ≤ S8192x2048.size a := fun d0 v10 v287 k0_hw40 k0_h20 => k0_hw40 k0_h20

@[reducible] def k0_t40_loop : Scf.Loop 32 :=
  let c0_i32_156 : BitVec 32 := 0#32
  let c128_i32_157 : BitVec 32 := 128#32
  let v268 : BitVec 32 := Scalar.addi c0_i32_156 c128_i32_157
  let c1_i32_158 : BitVec 32 := 1#32
  ⟨c0_i32_156, v268, c1_i32_158⟩
def k0_off157 (d0 : Dev nD) (v10 : BitVec 32) (k0_t40 : Fin k0_t40_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c2432_i32_169 : BitVec 32 := 2432#32
  let c0_i32_156 : BitVec 32 := 0#32
  let c1_i32_158 : BitVec 32 := 1#32
  let arg12 : BitVec 32 := Scf.iv c0_i32_156 c1_i32_158 k0_t40
  let v281 : BitVec 32 := Scalar.addi c2432_i32_169 arg12
  let v282 : BitVec 32 := Scalar.addi v12 v281
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v283 : BitVec 32 := Scalar.addi v12 v15
  let c1_i32_170 : BitVec 32 := 1#32
  let v284 : BitVec 32 := Scalar.subi v283 c1_i32_170
  let v285 : BitVec 32 := Scalar.minsi v282 v284
  let v286 : Index := Scalar.indexCast v285
  ![v286.toNat]
def k0_off158 (k0_t40 : Fin k0_t40_loop.trips) : Fin 1 → Nat :=
  let c0_i32_156 : BitVec 32 := 0#32
  let c1_i32_158 : BitVec 32 := 1#32
  let arg12 : BitVec 32 := Scf.iv c0_i32_156 c1_i32_158 k0_t40
  ![arg12.toNat]
def k0_off159 (k0_t40 : Fin k0_t40_loop.trips) : Fin 2 → Nat :=
  let c2432_i32_169 : BitVec 32 := 2432#32
  let c0_i32_156 : BitVec 32 := 0#32
  let c1_i32_158 : BitVec 32 := 1#32
  let arg12 : BitVec 32 := Scf.iv c0_i32_156 c1_i32_158 k0_t40
  let v281 : BitVec 32 := Scalar.addi c2432_i32_169 arg12
  let c0_i32_171 : BitVec 32 := 0#32
  ![v281.toNat, 0]
def k0_off160 (v287 : BitVec 32) : Fin 2 → Nat :=
  let c0_i32_172 : BitVec 32 := 0#32
  ![v287.toNat, 0]

def k0_chk41 (d0 : Dev nD) (v10 : BitVec 32) (v287 : BitVec 32) : Prop :=
  (∀ (k0_h20 : k0_cond20 d0 v10 = 1#1), ∀ a, (k0_off160 v287) a + S1x2048.size a ≤ S8192x2048.size a)
theorem k0_off160_inb : ∀ (d0 : Dev nD) (v10 : BitVec 32) (v287 : BitVec 32) (k0_hw41 : k0_chk41 d0 v10 v287), ∀ (k0_h20 : k0_cond20 d0 v10 = 1#1), ∀ a, (k0_off160 v287) a + S1x2048.size a ≤ S8192x2048.size a := fun d0 v10 v287 k0_hw41 k0_h20 => k0_hw41 k0_h20

def k0_dev21 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v269 : BitVec 32 := Scalar.muli v9 c16_i32_162
  let v270 : BitVec 32 := Scalar.addi c0_i32_163 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v271 : BitVec 32 := Scalar.muli v5 c4_i32_164
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v273 : BitVec 32 := Scalar.muli v8 c1_i32_165
  let v274 : BitVec 32 := Scalar.addi v272 v273
  v274.toNat
@[reducible] def k0_t41_loop (d0 : Dev nD) (v10 : BitVec 32) : Scf.Loop 32 :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v124 : BitVec 32 := Scalar.subi v15 c0_i32_56
  let c1_i32_58 : BitVec 32 := 1#32
  let v126 : BitVec 32 := Scalar.divsi v124 c1_i32_58
  let v127 : BitVec 32 := Scalar.muli v126 c1_i32_58
  let v128 : BitVec 32 := Scalar.addi c0_i32_56 v127
  let c1_i32_59 : BitVec 32 := 1#32
  ⟨c0_i32_56, v128, c1_i32_59⟩
def k0_cond21 (d0 : Dev nD) (v10 : BitVec 32) (k0_t41 : Fin (k0_t41_loop d0 v10).trips) : BitVec 1 :=
  let c0_i32_56 : BitVec 32 := 0#32
  let c1_i32_59 : BitVec 32 := 1#32
  let arg12 : BitVec 32 := Scf.iv c0_i32_56 c1_i32_59 k0_t41
  let c64_i32_152 : BitVec 32 := 64#32
  let v267 : BitVec 1 := Scalar.cmpi .sge arg12 c64_i32_152
  let v268 : BitVec 32 := Scalar.extui v267
  let c0_i32_153 : BitVec 32 := 0#32
  let v269 : BitVec 1 := Scalar.cmpi .ne v268 c0_i32_153
  v269

def k0_off161 (d0 : Dev nD) (v10 : BitVec 32) (k0_t41 : Fin (k0_t41_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c0_i32_56 : BitVec 32 := 0#32
  let c1_i32_59 : BitVec 32 := 1#32
  let arg12 : BitVec 32 := Scf.iv c0_i32_56 c1_i32_59 k0_t41
  let c64_i32_163 : BitVec 32 := 64#32
  let v287 : BitVec 32 := Scalar.subi arg12 c64_i32_163
  let v288 : BitVec 32 := Scalar.addi v12 v287
  let v289 : Index := Scalar.indexCast v288
  ![v289.toNat]
def k0_off162 (d0 : Dev nD) (v10 : BitVec 32) (k0_t41 : Fin (k0_t41_loop d0 v10).trips) : Fin 1 → Nat :=
  let c0_i32_56 : BitVec 32 := 0#32
  let c1_i32_59 : BitVec 32 := 1#32
  let arg12 : BitVec 32 := Scf.iv c0_i32_56 c1_i32_59 k0_t41
  let c64_i32_163 : BitVec 32 := 64#32
  let v287 : BitVec 32 := Scalar.subi arg12 c64_i32_163
  let c64_i32_164 : BitVec 32 := 64#32
  let c0_i32_165 : BitVec 32 := 0#32
  let v291 : BitVec 1 := Scalar.cmpi .eq c64_i32_164 c0_i32_165
  let c1_i32_166 : BitVec 32 := 1#32
  let v292 : BitVec 32 := Scalar.select v291 c1_i32_166 c64_i32_164
  let v293 : BitVec 32 := Scalar.remsi v287 v292
  let c0_i32_168 : BitVec 32 := 0#32
  let v295 : BitVec 1 := Scalar.cmpi .slt v293 c0_i32_168
  let c0_i32_169 : BitVec 32 := 0#32
  let v296 : BitVec 1 := Scalar.cmpi .slt v292 c0_i32_169
  let v297 : BitVec 1 := Scalar.xori v295 v296
  let c0_i32_167 : BitVec 32 := 0#32
  let v294 : BitVec 1 := Scalar.cmpi .ne v293 c0_i32_167
  let v298 : BitVec 1 := Scalar.andi v297 v294
  let v299 : BitVec 32 := Scalar.addi v293 v292
  let v300 : BitVec 32 := Scalar.select v298 v299 v293
  ![v300.toNat]
def k0_off163 (v290 : BitVec 32) : Fin 2 → Nat :=
  let c0_i32_170 : BitVec 32 := 0#32
  ![v290.toNat, 0]

def k0_chk42 (d0 : Dev nD) (v10 : BitVec 32) (k0_t41 : Fin (k0_t41_loop d0 v10).trips) (v290 : BitVec 32) : Prop :=
  (∀ (k0_h21 : k0_cond21 d0 v10 k0_t41 = 1#1), ∀ a, (k0_off163 v290) a + S1x2048.size a ≤ S4096x2048.size a)
theorem k0_off163_inb : ∀ (d0 : Dev nD) (v10 : BitVec 32) (k0_t41 : Fin (k0_t41_loop d0 v10).trips) (v290 : BitVec 32) (k0_hw42 : k0_chk42 d0 v10 k0_t41 v290), ∀ (k0_h21 : k0_cond21 d0 v10 k0_t41 = 1#1), ∀ a, (k0_off163 v290) a + S1x2048.size a ≤ S4096x2048.size a := fun d0 v10 k0_t41 v290 k0_hw42 k0_h21 => k0_hw42 k0_h21

def k0_off164 (d0 : Dev nD) (v10 : BitVec 32) (k0_t41 : Fin (k0_t41_loop d0 v10).trips) : Fin 2 → Nat :=
  let c0_i32_56 : BitVec 32 := 0#32
  let c1_i32_59 : BitVec 32 := 1#32
  let arg12 : BitVec 32 := Scf.iv c0_i32_56 c1_i32_59 k0_t41
  let c64_i32_163 : BitVec 32 := 64#32
  let v287 : BitVec 32 := Scalar.subi arg12 c64_i32_163
  let c0_i32_171 : BitVec 32 := 0#32
  ![v287.toNat, 0]
def k0_off165 (d0 : Dev nD) (v10 : BitVec 32) (k0_t41 : Fin (k0_t41_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c0_i32_56 : BitVec 32 := 0#32
  let c1_i32_59 : BitVec 32 := 1#32
  let arg12 : BitVec 32 := Scf.iv c0_i32_56 c1_i32_59 k0_t41
  let v270 : BitVec 32 := Scalar.addi v12 arg12
  let v271 : Index := Scalar.indexCast v270
  ![v271.toNat]
def k0_off166 (d0 : Dev nD) (v10 : BitVec 32) (k0_t41 : Fin (k0_t41_loop d0 v10).trips) : Fin 1 → Nat :=
  let c0_i32_56 : BitVec 32 := 0#32
  let c1_i32_59 : BitVec 32 := 1#32
  let arg12 : BitVec 32 := Scf.iv c0_i32_56 c1_i32_59 k0_t41
  let c64_i32_154 : BitVec 32 := 64#32
  let c0_i32_155 : BitVec 32 := 0#32
  let v273 : BitVec 1 := Scalar.cmpi .eq c64_i32_154 c0_i32_155
  let c1_i32_156 : BitVec 32 := 1#32
  let v274 : BitVec 32 := Scalar.select v273 c1_i32_156 c64_i32_154
  let v275 : BitVec 32 := Scalar.remsi arg12 v274
  let c0_i32_158 : BitVec 32 := 0#32
  let v277 : BitVec 1 := Scalar.cmpi .slt v275 c0_i32_158
  let c0_i32_159 : BitVec 32 := 0#32
  let v278 : BitVec 1 := Scalar.cmpi .slt v274 c0_i32_159
  let v279 : BitVec 1 := Scalar.xori v277 v278
  let c0_i32_157 : BitVec 32 := 0#32
  let v276 : BitVec 1 := Scalar.cmpi .ne v275 c0_i32_157
  let v280 : BitVec 1 := Scalar.andi v279 v276
  let v281 : BitVec 32 := Scalar.addi v275 v274
  let v282 : BitVec 32 := Scalar.select v280 v281 v275
  ![v282.toNat]
def k0_off167 (v272 : BitVec 32) : Fin 2 → Nat :=
  let c0_i32_160 : BitVec 32 := 0#32
  ![v272.toNat, 0]

def k0_chk43 (v272 : BitVec 32) : Prop :=
  (∀ a, (k0_off167 v272) a + S1x2048.size a ≤ S4096x2048.size a)
theorem k0_off167_inb : ∀ (v272 : BitVec 32) (k0_hw43 : k0_chk43 v272), ∀ a, (k0_off167 v272) a + S1x2048.size a ≤ S4096x2048.size a := fun v272 k0_hw43 => k0_hw43

def k0_off168 (d0 : Dev nD) (v10 : BitVec 32) (k0_t41 : Fin (k0_t41_loop d0 v10).trips) : Fin 2 → Nat :=
  let c0_i32_56 : BitVec 32 := 0#32
  let c1_i32_59 : BitVec 32 := 1#32
  let arg12 : BitVec 32 := Scf.iv c0_i32_56 c1_i32_59 k0_t41
  let c0_i32_161 : BitVec 32 := 0#32
  ![arg12.toNat, 0]
@[reducible] def k0_t42_loop (d0 : Dev nD) (v10 : BitVec 32) : Scf.Loop 32 :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v124 : BitVec 32 := Scalar.subi v15 c0_i32_56
  let c1_i32_58 : BitVec 32 := 1#32
  let v126 : BitVec 32 := Scalar.divsi v124 c1_i32_58
  let v127 : BitVec 32 := Scalar.muli v126 c1_i32_58
  let v128 : BitVec 32 := Scalar.addi c0_i32_56 v127
  let v125 : BitVec 32 := Scalar.addi c0_i32_56 v124
  let c1_i32_60 : BitVec 32 := 1#32
  ⟨v128, v125, c1_i32_60⟩
def k0_off169 (d0 : Dev nD) (v10 : BitVec 32) (k0_t42 : Fin (k0_t42_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c0_i32_56 : BitVec 32 := 0#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v124 : BitVec 32 := Scalar.subi v15 c0_i32_56
  let c1_i32_58 : BitVec 32 := 1#32
  let v126 : BitVec 32 := Scalar.divsi v124 c1_i32_58
  let v127 : BitVec 32 := Scalar.muli v126 c1_i32_58
  let v128 : BitVec 32 := Scalar.addi c0_i32_56 v127
  let c1_i32_60 : BitVec 32 := 1#32
  let arg12 : BitVec 32 := Scf.iv v128 c1_i32_60 k0_t42
  let c64_i32_163 : BitVec 32 := 64#32
  let v287 : BitVec 32 := Scalar.subi arg12 c64_i32_163
  let v288 : BitVec 32 := Scalar.addi v12 v287
  let v289 : Index := Scalar.indexCast v288
  ![v289.toNat]
def k0_cond22 (d0 : Dev nD) (v10 : BitVec 32) (k0_t42 : Fin (k0_t42_loop d0 v10).trips) : BitVec 1 :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v124 : BitVec 32 := Scalar.subi v15 c0_i32_56
  let c1_i32_58 : BitVec 32 := 1#32
  let v126 : BitVec 32 := Scalar.divsi v124 c1_i32_58
  let v127 : BitVec 32 := Scalar.muli v126 c1_i32_58
  let v128 : BitVec 32 := Scalar.addi c0_i32_56 v127
  let c1_i32_60 : BitVec 32 := 1#32
  let arg12 : BitVec 32 := Scf.iv v128 c1_i32_60 k0_t42
  let c64_i32_152 : BitVec 32 := 64#32
  let v267 : BitVec 1 := Scalar.cmpi .sge arg12 c64_i32_152
  let v268 : BitVec 32 := Scalar.extui v267
  let c0_i32_153 : BitVec 32 := 0#32
  let v269 : BitVec 1 := Scalar.cmpi .ne v268 c0_i32_153
  v269

def k0_off170 (d0 : Dev nD) (v10 : BitVec 32) (k0_t42 : Fin (k0_t42_loop d0 v10).trips) : Fin 1 → Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v124 : BitVec 32 := Scalar.subi v15 c0_i32_56
  let c1_i32_58 : BitVec 32 := 1#32
  let v126 : BitVec 32 := Scalar.divsi v124 c1_i32_58
  let v127 : BitVec 32 := Scalar.muli v126 c1_i32_58
  let v128 : BitVec 32 := Scalar.addi c0_i32_56 v127
  let c1_i32_60 : BitVec 32 := 1#32
  let arg12 : BitVec 32 := Scf.iv v128 c1_i32_60 k0_t42
  let c64_i32_163 : BitVec 32 := 64#32
  let v287 : BitVec 32 := Scalar.subi arg12 c64_i32_163
  let c64_i32_164 : BitVec 32 := 64#32
  let c0_i32_165 : BitVec 32 := 0#32
  let v291 : BitVec 1 := Scalar.cmpi .eq c64_i32_164 c0_i32_165
  let c1_i32_166 : BitVec 32 := 1#32
  let v292 : BitVec 32 := Scalar.select v291 c1_i32_166 c64_i32_164
  let v293 : BitVec 32 := Scalar.remsi v287 v292
  let c0_i32_168 : BitVec 32 := 0#32
  let v295 : BitVec 1 := Scalar.cmpi .slt v293 c0_i32_168
  let c0_i32_169 : BitVec 32 := 0#32
  let v296 : BitVec 1 := Scalar.cmpi .slt v292 c0_i32_169
  let v297 : BitVec 1 := Scalar.xori v295 v296
  let c0_i32_167 : BitVec 32 := 0#32
  let v294 : BitVec 1 := Scalar.cmpi .ne v293 c0_i32_167
  let v298 : BitVec 1 := Scalar.andi v297 v294
  let v299 : BitVec 32 := Scalar.addi v293 v292
  let v300 : BitVec 32 := Scalar.select v298 v299 v293
  ![v300.toNat]
def k0_off171 (v290 : BitVec 32) : Fin 2 → Nat :=
  let c0_i32_170 : BitVec 32 := 0#32
  ![v290.toNat, 0]

def k0_chk44 (d0 : Dev nD) (v10 : BitVec 32) (k0_t42 : Fin (k0_t42_loop d0 v10).trips) (v290 : BitVec 32) : Prop :=
  (∀ (k0_h22 : k0_cond22 d0 v10 k0_t42 = 1#1), ∀ a, (k0_off171 v290) a + S1x2048.size a ≤ S4096x2048.size a)
theorem k0_off171_inb : ∀ (d0 : Dev nD) (v10 : BitVec 32) (k0_t42 : Fin (k0_t42_loop d0 v10).trips) (v290 : BitVec 32) (k0_hw44 : k0_chk44 d0 v10 k0_t42 v290), ∀ (k0_h22 : k0_cond22 d0 v10 k0_t42 = 1#1), ∀ a, (k0_off171 v290) a + S1x2048.size a ≤ S4096x2048.size a := fun d0 v10 k0_t42 v290 k0_hw44 k0_h22 => k0_hw44 k0_h22

def k0_off172 (d0 : Dev nD) (v10 : BitVec 32) (k0_t42 : Fin (k0_t42_loop d0 v10).trips) : Fin 2 → Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v124 : BitVec 32 := Scalar.subi v15 c0_i32_56
  let c1_i32_58 : BitVec 32 := 1#32
  let v126 : BitVec 32 := Scalar.divsi v124 c1_i32_58
  let v127 : BitVec 32 := Scalar.muli v126 c1_i32_58
  let v128 : BitVec 32 := Scalar.addi c0_i32_56 v127
  let c1_i32_60 : BitVec 32 := 1#32
  let arg12 : BitVec 32 := Scf.iv v128 c1_i32_60 k0_t42
  let c64_i32_163 : BitVec 32 := 64#32
  let v287 : BitVec 32 := Scalar.subi arg12 c64_i32_163
  let c0_i32_171 : BitVec 32 := 0#32
  ![v287.toNat, 0]
def k0_off173 (d0 : Dev nD) (v10 : BitVec 32) (k0_t42 : Fin (k0_t42_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c0_i32_56 : BitVec 32 := 0#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v124 : BitVec 32 := Scalar.subi v15 c0_i32_56
  let c1_i32_58 : BitVec 32 := 1#32
  let v126 : BitVec 32 := Scalar.divsi v124 c1_i32_58
  let v127 : BitVec 32 := Scalar.muli v126 c1_i32_58
  let v128 : BitVec 32 := Scalar.addi c0_i32_56 v127
  let c1_i32_60 : BitVec 32 := 1#32
  let arg12 : BitVec 32 := Scf.iv v128 c1_i32_60 k0_t42
  let v270 : BitVec 32 := Scalar.addi v12 arg12
  let v271 : Index := Scalar.indexCast v270
  ![v271.toNat]
def k0_off174 (d0 : Dev nD) (v10 : BitVec 32) (k0_t42 : Fin (k0_t42_loop d0 v10).trips) : Fin 1 → Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v124 : BitVec 32 := Scalar.subi v15 c0_i32_56
  let c1_i32_58 : BitVec 32 := 1#32
  let v126 : BitVec 32 := Scalar.divsi v124 c1_i32_58
  let v127 : BitVec 32 := Scalar.muli v126 c1_i32_58
  let v128 : BitVec 32 := Scalar.addi c0_i32_56 v127
  let c1_i32_60 : BitVec 32 := 1#32
  let arg12 : BitVec 32 := Scf.iv v128 c1_i32_60 k0_t42
  let c64_i32_154 : BitVec 32 := 64#32
  let c0_i32_155 : BitVec 32 := 0#32
  let v273 : BitVec 1 := Scalar.cmpi .eq c64_i32_154 c0_i32_155
  let c1_i32_156 : BitVec 32 := 1#32
  let v274 : BitVec 32 := Scalar.select v273 c1_i32_156 c64_i32_154
  let v275 : BitVec 32 := Scalar.remsi arg12 v274
  let c0_i32_158 : BitVec 32 := 0#32
  let v277 : BitVec 1 := Scalar.cmpi .slt v275 c0_i32_158
  let c0_i32_159 : BitVec 32 := 0#32
  let v278 : BitVec 1 := Scalar.cmpi .slt v274 c0_i32_159
  let v279 : BitVec 1 := Scalar.xori v277 v278
  let c0_i32_157 : BitVec 32 := 0#32
  let v276 : BitVec 1 := Scalar.cmpi .ne v275 c0_i32_157
  let v280 : BitVec 1 := Scalar.andi v279 v276
  let v281 : BitVec 32 := Scalar.addi v275 v274
  let v282 : BitVec 32 := Scalar.select v280 v281 v275
  ![v282.toNat]
def k0_off175 (v272 : BitVec 32) : Fin 2 → Nat :=
  let c0_i32_160 : BitVec 32 := 0#32
  ![v272.toNat, 0]

def k0_chk45 (v272 : BitVec 32) : Prop :=
  (∀ a, (k0_off175 v272) a + S1x2048.size a ≤ S4096x2048.size a)
theorem k0_off175_inb : ∀ (v272 : BitVec 32) (k0_hw45 : k0_chk45 v272), ∀ a, (k0_off175 v272) a + S1x2048.size a ≤ S4096x2048.size a := fun v272 k0_hw45 => k0_hw45

def k0_off176 (d0 : Dev nD) (v10 : BitVec 32) (k0_t42 : Fin (k0_t42_loop d0 v10).trips) : Fin 2 → Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v124 : BitVec 32 := Scalar.subi v15 c0_i32_56
  let c1_i32_58 : BitVec 32 := 1#32
  let v126 : BitVec 32 := Scalar.divsi v124 c1_i32_58
  let v127 : BitVec 32 := Scalar.muli v126 c1_i32_58
  let v128 : BitVec 32 := Scalar.addi c0_i32_56 v127
  let c1_i32_60 : BitVec 32 := 1#32
  let arg12 : BitVec 32 := Scf.iv v128 c1_i32_60 k0_t42
  let c0_i32_161 : BitVec 32 := 0#32
  ![arg12.toNat, 0]
@[reducible] def k0_t43_loop (d0 : Dev nD) (v10 : BitVec 32) : Scf.Loop 32 :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c64_i32 : BitVec 32 := 64#32
  let v131 : BitVec 32 := Scalar.minsi v15 c64_i32
  let v132 : BitVec 32 := Scalar.subi v131 c0_i32_61
  let c1_i32_63 : BitVec 32 := 1#32
  let v134 : BitVec 32 := Scalar.divsi v132 c1_i32_63
  let v135 : BitVec 32 := Scalar.muli v134 c1_i32_63
  let v136 : BitVec 32 := Scalar.addi c0_i32_61 v135
  let c1_i32_64 : BitVec 32 := 1#32
  ⟨c0_i32_61, v136, c1_i32_64⟩
def k0_off177 (d0 : Dev nD) (v10 : BitVec 32) (k0_t43 : Fin (k0_t43_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c64_i32 : BitVec 32 := 64#32
  let v131 : BitVec 32 := Scalar.minsi v15 c64_i32
  let v267 : BitVec 32 := Scalar.subi v15 v131
  let c0_i32_61 : BitVec 32 := 0#32
  let c1_i32_64 : BitVec 32 := 1#32
  let arg12 : BitVec 32 := Scf.iv c0_i32_61 c1_i32_64 k0_t43
  let v268 : BitVec 32 := Scalar.addi v267 arg12
  let v269 : BitVec 32 := Scalar.addi v12 v268
  let v270 : Index := Scalar.indexCast v269
  ![v270.toNat]
def k0_off178 (d0 : Dev nD) (v10 : BitVec 32) (k0_t43 : Fin (k0_t43_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c64_i32 : BitVec 32 := 64#32
  let v131 : BitVec 32 := Scalar.minsi v15 c64_i32
  let v267 : BitVec 32 := Scalar.subi v15 v131
  let c0_i32_61 : BitVec 32 := 0#32
  let c1_i32_64 : BitVec 32 := 1#32
  let arg12 : BitVec 32 := Scf.iv c0_i32_61 c1_i32_64 k0_t43
  let v268 : BitVec 32 := Scalar.addi v267 arg12
  let c64_i32_152 : BitVec 32 := 64#32
  let c0_i32_153 : BitVec 32 := 0#32
  let v272 : BitVec 1 := Scalar.cmpi .eq c64_i32_152 c0_i32_153
  let c1_i32_154 : BitVec 32 := 1#32
  let v273 : BitVec 32 := Scalar.select v272 c1_i32_154 c64_i32_152
  let v274 : BitVec 32 := Scalar.remsi v268 v273
  let c0_i32_156 : BitVec 32 := 0#32
  let v276 : BitVec 1 := Scalar.cmpi .slt v274 c0_i32_156
  let c0_i32_157 : BitVec 32 := 0#32
  let v277 : BitVec 1 := Scalar.cmpi .slt v273 c0_i32_157
  let v278 : BitVec 1 := Scalar.xori v276 v277
  let c0_i32_155 : BitVec 32 := 0#32
  let v275 : BitVec 1 := Scalar.cmpi .ne v274 c0_i32_155
  let v279 : BitVec 1 := Scalar.andi v278 v275
  let v280 : BitVec 32 := Scalar.addi v274 v273
  let v281 : BitVec 32 := Scalar.select v279 v280 v274
  ![v281.toNat]
def k0_off179 (v271 : BitVec 32) : Fin 2 → Nat :=
  let c0_i32_158 : BitVec 32 := 0#32
  ![v271.toNat, 0]

def k0_chk46 (v271 : BitVec 32) : Prop :=
  (∀ a, (k0_off179 v271) a + S1x2048.size a ≤ S4096x2048.size a)
theorem k0_off179_inb : ∀ (v271 : BitVec 32) (k0_hw46 : k0_chk46 v271), ∀ a, (k0_off179 v271) a + S1x2048.size a ≤ S4096x2048.size a := fun v271 k0_hw46 => k0_hw46

def k0_off180 (d0 : Dev nD) (v10 : BitVec 32) (k0_t43 : Fin (k0_t43_loop d0 v10).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c64_i32 : BitVec 32 := 64#32
  let v131 : BitVec 32 := Scalar.minsi v15 c64_i32
  let v267 : BitVec 32 := Scalar.subi v15 v131
  let c0_i32_61 : BitVec 32 := 0#32
  let c1_i32_64 : BitVec 32 := 1#32
  let arg12 : BitVec 32 := Scf.iv c0_i32_61 c1_i32_64 k0_t43
  let v268 : BitVec 32 := Scalar.addi v267 arg12
  let c0_i32_159 : BitVec 32 := 0#32
  ![v268.toNat, 0]
@[reducible] def k0_t44_loop (d0 : Dev nD) (v10 : BitVec 32) : Scf.Loop 32 :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c64_i32 : BitVec 32 := 64#32
  let v131 : BitVec 32 := Scalar.minsi v15 c64_i32
  let v132 : BitVec 32 := Scalar.subi v131 c0_i32_61
  let c1_i32_63 : BitVec 32 := 1#32
  let v134 : BitVec 32 := Scalar.divsi v132 c1_i32_63
  let v135 : BitVec 32 := Scalar.muli v134 c1_i32_63
  let v136 : BitVec 32 := Scalar.addi c0_i32_61 v135
  let v133 : BitVec 32 := Scalar.addi c0_i32_61 v132
  let c1_i32_65 : BitVec 32 := 1#32
  ⟨v136, v133, c1_i32_65⟩
def k0_off181 (d0 : Dev nD) (v10 : BitVec 32) (k0_t44 : Fin (k0_t44_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v11 : BitVec 1 := Scalar.cmpi .eq v2 c0_i32
  let c0_i32_3 : BitVec 32 := 0#32
  let v12 : BitVec 32 := Scalar.select v11 c0_i32_3 v10
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c64_i32 : BitVec 32 := 64#32
  let v131 : BitVec 32 := Scalar.minsi v15 c64_i32
  let v267 : BitVec 32 := Scalar.subi v15 v131
  let c0_i32_61 : BitVec 32 := 0#32
  let v132 : BitVec 32 := Scalar.subi v131 c0_i32_61
  let c1_i32_63 : BitVec 32 := 1#32
  let v134 : BitVec 32 := Scalar.divsi v132 c1_i32_63
  let v135 : BitVec 32 := Scalar.muli v134 c1_i32_63
  let v136 : BitVec 32 := Scalar.addi c0_i32_61 v135
  let c1_i32_65 : BitVec 32 := 1#32
  let arg12 : BitVec 32 := Scf.iv v136 c1_i32_65 k0_t44
  let v268 : BitVec 32 := Scalar.addi v267 arg12
  let v269 : BitVec 32 := Scalar.addi v12 v268
  let v270 : Index := Scalar.indexCast v269
  ![v270.toNat]
def k0_off182 (d0 : Dev nD) (v10 : BitVec 32) (k0_t44 : Fin (k0_t44_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c64_i32 : BitVec 32 := 64#32
  let v131 : BitVec 32 := Scalar.minsi v15 c64_i32
  let v267 : BitVec 32 := Scalar.subi v15 v131
  let c0_i32_61 : BitVec 32 := 0#32
  let v132 : BitVec 32 := Scalar.subi v131 c0_i32_61
  let c1_i32_63 : BitVec 32 := 1#32
  let v134 : BitVec 32 := Scalar.divsi v132 c1_i32_63
  let v135 : BitVec 32 := Scalar.muli v134 c1_i32_63
  let v136 : BitVec 32 := Scalar.addi c0_i32_61 v135
  let c1_i32_65 : BitVec 32 := 1#32
  let arg12 : BitVec 32 := Scf.iv v136 c1_i32_65 k0_t44
  let v268 : BitVec 32 := Scalar.addi v267 arg12
  let c64_i32_152 : BitVec 32 := 64#32
  let c0_i32_153 : BitVec 32 := 0#32
  let v272 : BitVec 1 := Scalar.cmpi .eq c64_i32_152 c0_i32_153
  let c1_i32_154 : BitVec 32 := 1#32
  let v273 : BitVec 32 := Scalar.select v272 c1_i32_154 c64_i32_152
  let v274 : BitVec 32 := Scalar.remsi v268 v273
  let c0_i32_156 : BitVec 32 := 0#32
  let v276 : BitVec 1 := Scalar.cmpi .slt v274 c0_i32_156
  let c0_i32_157 : BitVec 32 := 0#32
  let v277 : BitVec 1 := Scalar.cmpi .slt v273 c0_i32_157
  let v278 : BitVec 1 := Scalar.xori v276 v277
  let c0_i32_155 : BitVec 32 := 0#32
  let v275 : BitVec 1 := Scalar.cmpi .ne v274 c0_i32_155
  let v279 : BitVec 1 := Scalar.andi v278 v275
  let v280 : BitVec 32 := Scalar.addi v274 v273
  let v281 : BitVec 32 := Scalar.select v279 v280 v274
  ![v281.toNat]
def k0_off183 (v271 : BitVec 32) : Fin 2 → Nat :=
  let c0_i32_158 : BitVec 32 := 0#32
  ![v271.toNat, 0]

def k0_chk47 (v271 : BitVec 32) : Prop :=
  (∀ a, (k0_off183 v271) a + S1x2048.size a ≤ S4096x2048.size a)
theorem k0_off183_inb : ∀ (v271 : BitVec 32) (k0_hw47 : k0_chk47 v271), ∀ a, (k0_off183 v271) a + S1x2048.size a ≤ S4096x2048.size a := fun v271 k0_hw47 => k0_hw47

def k0_off184 (d0 : Dev nD) (v10 : BitVec 32) (k0_t44 : Fin (k0_t44_loop d0 v10).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let c64_i32 : BitVec 32 := 64#32
  let v131 : BitVec 32 := Scalar.minsi v15 c64_i32
  let v267 : BitVec 32 := Scalar.subi v15 v131
  let c0_i32_61 : BitVec 32 := 0#32
  let v132 : BitVec 32 := Scalar.subi v131 c0_i32_61
  let c1_i32_63 : BitVec 32 := 1#32
  let v134 : BitVec 32 := Scalar.divsi v132 c1_i32_63
  let v135 : BitVec 32 := Scalar.muli v134 c1_i32_63
  let v136 : BitVec 32 := Scalar.addi c0_i32_61 v135
  let c1_i32_65 : BitVec 32 := 1#32
  let arg12 : BitVec 32 := Scf.iv v136 c1_i32_65 k0_t44
  let v268 : BitVec 32 := Scalar.addi v267 arg12
  let c0_i32_159 : BitVec 32 := 0#32
  ![v268.toNat, 0]
@[reducible] def k0_t45_loop (d0 : Dev nD) (v10 : BitVec 32) : Scf.Loop 32 :=
  let c0_i32_163 : BitVec 32 := 0#32
  let c128_i32_162 : BitVec 32 := 128#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c128_i32_162 v18
  let v278 : BitVec 32 := Scalar.subi v277 c0_i32_163
  let c1_i32_165 : BitVec 32 := 1#32
  let v280 : BitVec 32 := Scalar.divsi v278 c1_i32_165
  let v281 : BitVec 32 := Scalar.muli v280 c1_i32_165
  let v282 : BitVec 32 := Scalar.addi c0_i32_163 v281
  let c1_i32_166 : BitVec 32 := 1#32
  ⟨c0_i32_163, v282, c1_i32_166⟩
def k0_cond23 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c0_i32_66 : BitVec 32 := 0#32
  let v139 : BitVec 1 := Scalar.cmpi .sgt v56 c0_i32_66
  let v140 : BitVec 32 := Scalar.extui v139
  let c0_i32_67 : BitVec 32 := 0#32
  let v141 : BitVec 1 := Scalar.cmpi .ne v140 c0_i32_67
  v141

def k0_cond24 (d0 : Dev nD) (v10 : BitVec 32) (k0_t45 : Fin (k0_t45_loop d0 v10).trips) : BitVec 1 :=
  let c0_i32_163 : BitVec 32 := 0#32
  let c1_i32_166 : BitVec 32 := 1#32
  let arg12 : BitVec 32 := Scf.iv c0_i32_163 c1_i32_166 k0_t45
  let c64_i32_168 : BitVec 32 := 64#32
  let v285 : BitVec 1 := Scalar.cmpi .sge arg12 c64_i32_168
  let v286 : BitVec 32 := Scalar.extui v285
  let c0_i32_169 : BitVec 32 := 0#32
  let v287 : BitVec 1 := Scalar.cmpi .ne v286 c0_i32_169
  v287

def k0_off185 (d0 : Dev nD) (v10 : BitVec 32) (k0_t45 : Fin (k0_t45_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c0_i32_163 : BitVec 32 := 0#32
  let c1_i32_166 : BitVec 32 := 1#32
  let arg12 : BitVec 32 := Scf.iv c0_i32_163 c1_i32_166 k0_t45
  let c64_i32_179 : BitVec 32 := 64#32
  let v305 : BitVec 32 := Scalar.subi arg12 c64_i32_179
  let v306 : BitVec 32 := Scalar.addi v17 v305
  let v307 : Index := Scalar.indexCast v306
  ![v307.toNat]
def k0_off186 (d0 : Dev nD) (v10 : BitVec 32) (k0_t45 : Fin (k0_t45_loop d0 v10).trips) : Fin 1 → Nat :=
  let c0_i32_163 : BitVec 32 := 0#32
  let c1_i32_166 : BitVec 32 := 1#32
  let arg12 : BitVec 32 := Scf.iv c0_i32_163 c1_i32_166 k0_t45
  let c64_i32_179 : BitVec 32 := 64#32
  let v305 : BitVec 32 := Scalar.subi arg12 c64_i32_179
  let c64_i32_180 : BitVec 32 := 64#32
  let c0_i32_181 : BitVec 32 := 0#32
  let v309 : BitVec 1 := Scalar.cmpi .eq c64_i32_180 c0_i32_181
  let c1_i32_182 : BitVec 32 := 1#32
  let v310 : BitVec 32 := Scalar.select v309 c1_i32_182 c64_i32_180
  let v311 : BitVec 32 := Scalar.remsi v305 v310
  let c0_i32_184 : BitVec 32 := 0#32
  let v313 : BitVec 1 := Scalar.cmpi .slt v311 c0_i32_184
  let c0_i32_185 : BitVec 32 := 0#32
  let v314 : BitVec 1 := Scalar.cmpi .slt v310 c0_i32_185
  let v315 : BitVec 1 := Scalar.xori v313 v314
  let c0_i32_183 : BitVec 32 := 0#32
  let v312 : BitVec 1 := Scalar.cmpi .ne v311 c0_i32_183
  let v316 : BitVec 1 := Scalar.andi v315 v312
  let v317 : BitVec 32 := Scalar.addi v311 v310
  let v318 : BitVec 32 := Scalar.select v316 v317 v311
  ![v318.toNat]
def k0_off187 (v308 : BitVec 32) : Fin 2 → Nat :=
  let c0_i32_186 : BitVec 32 := 0#32
  ![v308.toNat, 0]

def k0_chk48 (d0 : Dev nD) (v10 : BitVec 32) (k0_t45 : Fin (k0_t45_loop d0 v10).trips) (v308 : BitVec 32) : Prop :=
  (∀ (k0_h23 : k0_cond23 d0 v10 = 1#1), ∀ (k0_h24 : k0_cond24 d0 v10 k0_t45 = 1#1), ∀ a, (k0_off187 v308) a + S1x2048.size a ≤ S4096x2048.size a)
theorem k0_off187_inb : ∀ (d0 : Dev nD) (v10 : BitVec 32) (k0_t45 : Fin (k0_t45_loop d0 v10).trips) (v308 : BitVec 32) (k0_hw48 : k0_chk48 d0 v10 k0_t45 v308), ∀ (k0_h23 : k0_cond23 d0 v10 = 1#1), ∀ (k0_h24 : k0_cond24 d0 v10 k0_t45 = 1#1), ∀ a, (k0_off187 v308) a + S1x2048.size a ≤ S4096x2048.size a := fun d0 v10 k0_t45 v308 k0_hw48 k0_h23 k0_h24 => k0_hw48 k0_h23 k0_h24

def k0_off188 (d0 : Dev nD) (v10 : BitVec 32) (k0_t45 : Fin (k0_t45_loop d0 v10).trips) : Fin 2 → Nat :=
  let c0_i32_163 : BitVec 32 := 0#32
  let c1_i32_166 : BitVec 32 := 1#32
  let arg12 : BitVec 32 := Scf.iv c0_i32_163 c1_i32_166 k0_t45
  let c64_i32_179 : BitVec 32 := 64#32
  let v305 : BitVec 32 := Scalar.subi arg12 c64_i32_179
  let c0_i32_187 : BitVec 32 := 0#32
  ![v305.toNat, 0]
def k0_off189 (d0 : Dev nD) (v10 : BitVec 32) (k0_t45 : Fin (k0_t45_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c0_i32_163 : BitVec 32 := 0#32
  let c1_i32_166 : BitVec 32 := 1#32
  let arg12 : BitVec 32 := Scf.iv c0_i32_163 c1_i32_166 k0_t45
  let v288 : BitVec 32 := Scalar.addi v17 arg12
  let v289 : Index := Scalar.indexCast v288
  ![v289.toNat]
def k0_off190 (d0 : Dev nD) (v10 : BitVec 32) (k0_t45 : Fin (k0_t45_loop d0 v10).trips) : Fin 1 → Nat :=
  let c0_i32_163 : BitVec 32 := 0#32
  let c1_i32_166 : BitVec 32 := 1#32
  let arg12 : BitVec 32 := Scf.iv c0_i32_163 c1_i32_166 k0_t45
  let c64_i32_170 : BitVec 32 := 64#32
  let c0_i32_171 : BitVec 32 := 0#32
  let v291 : BitVec 1 := Scalar.cmpi .eq c64_i32_170 c0_i32_171
  let c1_i32_172 : BitVec 32 := 1#32
  let v292 : BitVec 32 := Scalar.select v291 c1_i32_172 c64_i32_170
  let v293 : BitVec 32 := Scalar.remsi arg12 v292
  let c0_i32_174 : BitVec 32 := 0#32
  let v295 : BitVec 1 := Scalar.cmpi .slt v293 c0_i32_174
  let c0_i32_175 : BitVec 32 := 0#32
  let v296 : BitVec 1 := Scalar.cmpi .slt v292 c0_i32_175
  let v297 : BitVec 1 := Scalar.xori v295 v296
  let c0_i32_173 : BitVec 32 := 0#32
  let v294 : BitVec 1 := Scalar.cmpi .ne v293 c0_i32_173
  let v298 : BitVec 1 := Scalar.andi v297 v294
  let v299 : BitVec 32 := Scalar.addi v293 v292
  let v300 : BitVec 32 := Scalar.select v298 v299 v293
  ![v300.toNat]
def k0_off191 (v290 : BitVec 32) : Fin 2 → Nat :=
  let c0_i32_176 : BitVec 32 := 0#32
  ![v290.toNat, 0]

def k0_chk49 (d0 : Dev nD) (v10 : BitVec 32) (v290 : BitVec 32) : Prop :=
  (∀ (k0_h23 : k0_cond23 d0 v10 = 1#1), ∀ a, (k0_off191 v290) a + S1x2048.size a ≤ S4096x2048.size a)
theorem k0_off191_inb : ∀ (d0 : Dev nD) (v10 : BitVec 32) (v290 : BitVec 32) (k0_hw49 : k0_chk49 d0 v10 v290), ∀ (k0_h23 : k0_cond23 d0 v10 = 1#1), ∀ a, (k0_off191 v290) a + S1x2048.size a ≤ S4096x2048.size a := fun d0 v10 v290 k0_hw49 k0_h23 => k0_hw49 k0_h23

def k0_off192 (d0 : Dev nD) (v10 : BitVec 32) (k0_t45 : Fin (k0_t45_loop d0 v10).trips) : Fin 2 → Nat :=
  let c0_i32_163 : BitVec 32 := 0#32
  let c1_i32_166 : BitVec 32 := 1#32
  let arg12 : BitVec 32 := Scf.iv c0_i32_163 c1_i32_166 k0_t45
  let c0_i32_177 : BitVec 32 := 0#32
  ![arg12.toNat, 0]
@[reducible] def k0_t46_loop (d0 : Dev nD) (v10 : BitVec 32) : Scf.Loop 32 :=
  let c0_i32_163 : BitVec 32 := 0#32
  let c128_i32_162 : BitVec 32 := 128#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c128_i32_162 v18
  let v278 : BitVec 32 := Scalar.subi v277 c0_i32_163
  let c1_i32_165 : BitVec 32 := 1#32
  let v280 : BitVec 32 := Scalar.divsi v278 c1_i32_165
  let v281 : BitVec 32 := Scalar.muli v280 c1_i32_165
  let v282 : BitVec 32 := Scalar.addi c0_i32_163 v281
  let v279 : BitVec 32 := Scalar.addi c0_i32_163 v278
  let c1_i32_167 : BitVec 32 := 1#32
  ⟨v282, v279, c1_i32_167⟩
def k0_off193 (d0 : Dev nD) (v10 : BitVec 32) (k0_t46 : Fin (k0_t46_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c0_i32_163 : BitVec 32 := 0#32
  let c128_i32_162 : BitVec 32 := 128#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c128_i32_162 v18
  let v278 : BitVec 32 := Scalar.subi v277 c0_i32_163
  let c1_i32_165 : BitVec 32 := 1#32
  let v280 : BitVec 32 := Scalar.divsi v278 c1_i32_165
  let v281 : BitVec 32 := Scalar.muli v280 c1_i32_165
  let v282 : BitVec 32 := Scalar.addi c0_i32_163 v281
  let c1_i32_167 : BitVec 32 := 1#32
  let arg12 : BitVec 32 := Scf.iv v282 c1_i32_167 k0_t46
  let c64_i32_179 : BitVec 32 := 64#32
  let v305 : BitVec 32 := Scalar.subi arg12 c64_i32_179
  let v306 : BitVec 32 := Scalar.addi v17 v305
  let v307 : Index := Scalar.indexCast v306
  ![v307.toNat]
def k0_cond25 (d0 : Dev nD) (v10 : BitVec 32) (k0_t46 : Fin (k0_t46_loop d0 v10).trips) : BitVec 1 :=
  let c0_i32_163 : BitVec 32 := 0#32
  let c128_i32_162 : BitVec 32 := 128#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c128_i32_162 v18
  let v278 : BitVec 32 := Scalar.subi v277 c0_i32_163
  let c1_i32_165 : BitVec 32 := 1#32
  let v280 : BitVec 32 := Scalar.divsi v278 c1_i32_165
  let v281 : BitVec 32 := Scalar.muli v280 c1_i32_165
  let v282 : BitVec 32 := Scalar.addi c0_i32_163 v281
  let c1_i32_167 : BitVec 32 := 1#32
  let arg12 : BitVec 32 := Scf.iv v282 c1_i32_167 k0_t46
  let c64_i32_168 : BitVec 32 := 64#32
  let v285 : BitVec 1 := Scalar.cmpi .sge arg12 c64_i32_168
  let v286 : BitVec 32 := Scalar.extui v285
  let c0_i32_169 : BitVec 32 := 0#32
  let v287 : BitVec 1 := Scalar.cmpi .ne v286 c0_i32_169
  v287

def k0_off194 (d0 : Dev nD) (v10 : BitVec 32) (k0_t46 : Fin (k0_t46_loop d0 v10).trips) : Fin 1 → Nat :=
  let c0_i32_163 : BitVec 32 := 0#32
  let c128_i32_162 : BitVec 32 := 128#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c128_i32_162 v18
  let v278 : BitVec 32 := Scalar.subi v277 c0_i32_163
  let c1_i32_165 : BitVec 32 := 1#32
  let v280 : BitVec 32 := Scalar.divsi v278 c1_i32_165
  let v281 : BitVec 32 := Scalar.muli v280 c1_i32_165
  let v282 : BitVec 32 := Scalar.addi c0_i32_163 v281
  let c1_i32_167 : BitVec 32 := 1#32
  let arg12 : BitVec 32 := Scf.iv v282 c1_i32_167 k0_t46
  let c64_i32_179 : BitVec 32 := 64#32
  let v305 : BitVec 32 := Scalar.subi arg12 c64_i32_179
  let c64_i32_180 : BitVec 32 := 64#32
  let c0_i32_181 : BitVec 32 := 0#32
  let v309 : BitVec 1 := Scalar.cmpi .eq c64_i32_180 c0_i32_181
  let c1_i32_182 : BitVec 32 := 1#32
  let v310 : BitVec 32 := Scalar.select v309 c1_i32_182 c64_i32_180
  let v311 : BitVec 32 := Scalar.remsi v305 v310
  let c0_i32_184 : BitVec 32 := 0#32
  let v313 : BitVec 1 := Scalar.cmpi .slt v311 c0_i32_184
  let c0_i32_185 : BitVec 32 := 0#32
  let v314 : BitVec 1 := Scalar.cmpi .slt v310 c0_i32_185
  let v315 : BitVec 1 := Scalar.xori v313 v314
  let c0_i32_183 : BitVec 32 := 0#32
  let v312 : BitVec 1 := Scalar.cmpi .ne v311 c0_i32_183
  let v316 : BitVec 1 := Scalar.andi v315 v312
  let v317 : BitVec 32 := Scalar.addi v311 v310
  let v318 : BitVec 32 := Scalar.select v316 v317 v311
  ![v318.toNat]
def k0_off195 (v308 : BitVec 32) : Fin 2 → Nat :=
  let c0_i32_186 : BitVec 32 := 0#32
  ![v308.toNat, 0]

def k0_chk50 (d0 : Dev nD) (v10 : BitVec 32) (k0_t46 : Fin (k0_t46_loop d0 v10).trips) (v308 : BitVec 32) : Prop :=
  (∀ (k0_h23 : k0_cond23 d0 v10 = 1#1), ∀ (k0_h25 : k0_cond25 d0 v10 k0_t46 = 1#1), ∀ a, (k0_off195 v308) a + S1x2048.size a ≤ S4096x2048.size a)
theorem k0_off195_inb : ∀ (d0 : Dev nD) (v10 : BitVec 32) (k0_t46 : Fin (k0_t46_loop d0 v10).trips) (v308 : BitVec 32) (k0_hw50 : k0_chk50 d0 v10 k0_t46 v308), ∀ (k0_h23 : k0_cond23 d0 v10 = 1#1), ∀ (k0_h25 : k0_cond25 d0 v10 k0_t46 = 1#1), ∀ a, (k0_off195 v308) a + S1x2048.size a ≤ S4096x2048.size a := fun d0 v10 k0_t46 v308 k0_hw50 k0_h23 k0_h25 => k0_hw50 k0_h23 k0_h25

def k0_off196 (d0 : Dev nD) (v10 : BitVec 32) (k0_t46 : Fin (k0_t46_loop d0 v10).trips) : Fin 2 → Nat :=
  let c0_i32_163 : BitVec 32 := 0#32
  let c128_i32_162 : BitVec 32 := 128#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c128_i32_162 v18
  let v278 : BitVec 32 := Scalar.subi v277 c0_i32_163
  let c1_i32_165 : BitVec 32 := 1#32
  let v280 : BitVec 32 := Scalar.divsi v278 c1_i32_165
  let v281 : BitVec 32 := Scalar.muli v280 c1_i32_165
  let v282 : BitVec 32 := Scalar.addi c0_i32_163 v281
  let c1_i32_167 : BitVec 32 := 1#32
  let arg12 : BitVec 32 := Scf.iv v282 c1_i32_167 k0_t46
  let c64_i32_179 : BitVec 32 := 64#32
  let v305 : BitVec 32 := Scalar.subi arg12 c64_i32_179
  let c0_i32_187 : BitVec 32 := 0#32
  ![v305.toNat, 0]
def k0_off197 (d0 : Dev nD) (v10 : BitVec 32) (k0_t46 : Fin (k0_t46_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c0_i32_163 : BitVec 32 := 0#32
  let c128_i32_162 : BitVec 32 := 128#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c128_i32_162 v18
  let v278 : BitVec 32 := Scalar.subi v277 c0_i32_163
  let c1_i32_165 : BitVec 32 := 1#32
  let v280 : BitVec 32 := Scalar.divsi v278 c1_i32_165
  let v281 : BitVec 32 := Scalar.muli v280 c1_i32_165
  let v282 : BitVec 32 := Scalar.addi c0_i32_163 v281
  let c1_i32_167 : BitVec 32 := 1#32
  let arg12 : BitVec 32 := Scf.iv v282 c1_i32_167 k0_t46
  let v288 : BitVec 32 := Scalar.addi v17 arg12
  let v289 : Index := Scalar.indexCast v288
  ![v289.toNat]
def k0_off198 (d0 : Dev nD) (v10 : BitVec 32) (k0_t46 : Fin (k0_t46_loop d0 v10).trips) : Fin 1 → Nat :=
  let c0_i32_163 : BitVec 32 := 0#32
  let c128_i32_162 : BitVec 32 := 128#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c128_i32_162 v18
  let v278 : BitVec 32 := Scalar.subi v277 c0_i32_163
  let c1_i32_165 : BitVec 32 := 1#32
  let v280 : BitVec 32 := Scalar.divsi v278 c1_i32_165
  let v281 : BitVec 32 := Scalar.muli v280 c1_i32_165
  let v282 : BitVec 32 := Scalar.addi c0_i32_163 v281
  let c1_i32_167 : BitVec 32 := 1#32
  let arg12 : BitVec 32 := Scf.iv v282 c1_i32_167 k0_t46
  let c64_i32_170 : BitVec 32 := 64#32
  let c0_i32_171 : BitVec 32 := 0#32
  let v291 : BitVec 1 := Scalar.cmpi .eq c64_i32_170 c0_i32_171
  let c1_i32_172 : BitVec 32 := 1#32
  let v292 : BitVec 32 := Scalar.select v291 c1_i32_172 c64_i32_170
  let v293 : BitVec 32 := Scalar.remsi arg12 v292
  let c0_i32_174 : BitVec 32 := 0#32
  let v295 : BitVec 1 := Scalar.cmpi .slt v293 c0_i32_174
  let c0_i32_175 : BitVec 32 := 0#32
  let v296 : BitVec 1 := Scalar.cmpi .slt v292 c0_i32_175
  let v297 : BitVec 1 := Scalar.xori v295 v296
  let c0_i32_173 : BitVec 32 := 0#32
  let v294 : BitVec 1 := Scalar.cmpi .ne v293 c0_i32_173
  let v298 : BitVec 1 := Scalar.andi v297 v294
  let v299 : BitVec 32 := Scalar.addi v293 v292
  let v300 : BitVec 32 := Scalar.select v298 v299 v293
  ![v300.toNat]
def k0_off199 (v290 : BitVec 32) : Fin 2 → Nat :=
  let c0_i32_176 : BitVec 32 := 0#32
  ![v290.toNat, 0]

def k0_chk51 (d0 : Dev nD) (v10 : BitVec 32) (v290 : BitVec 32) : Prop :=
  (∀ (k0_h23 : k0_cond23 d0 v10 = 1#1), ∀ a, (k0_off199 v290) a + S1x2048.size a ≤ S4096x2048.size a)
theorem k0_off199_inb : ∀ (d0 : Dev nD) (v10 : BitVec 32) (v290 : BitVec 32) (k0_hw51 : k0_chk51 d0 v10 v290), ∀ (k0_h23 : k0_cond23 d0 v10 = 1#1), ∀ a, (k0_off199 v290) a + S1x2048.size a ≤ S4096x2048.size a := fun d0 v10 v290 k0_hw51 k0_h23 => k0_hw51 k0_h23

def k0_off200 (d0 : Dev nD) (v10 : BitVec 32) (k0_t46 : Fin (k0_t46_loop d0 v10).trips) : Fin 2 → Nat :=
  let c0_i32_163 : BitVec 32 := 0#32
  let c128_i32_162 : BitVec 32 := 128#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c128_i32_162 v18
  let v278 : BitVec 32 := Scalar.subi v277 c0_i32_163
  let c1_i32_165 : BitVec 32 := 1#32
  let v280 : BitVec 32 := Scalar.divsi v278 c1_i32_165
  let v281 : BitVec 32 := Scalar.muli v280 c1_i32_165
  let v282 : BitVec 32 := Scalar.addi c0_i32_163 v281
  let c1_i32_167 : BitVec 32 := 1#32
  let arg12 : BitVec 32 := Scf.iv v282 c1_i32_167 k0_t46
  let c0_i32_177 : BitVec 32 := 0#32
  ![arg12.toNat, 0]
@[reducible] def k0_t47_loop (d0 : Dev nD) (v10 : BitVec 32) : Scf.Loop 32 :=
  let c128_i32_162 : BitVec 32 := 128#32
  let c256_i32 : BitVec 32 := 256#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c256_i32 v18
  let v278 : BitVec 32 := Scalar.subi v277 c128_i32_162
  let c1_i32_164 : BitVec 32 := 1#32
  let v280 : BitVec 32 := Scalar.divsi v278 c1_i32_164
  let v281 : BitVec 32 := Scalar.muli v280 c1_i32_164
  let v282 : BitVec 32 := Scalar.addi c128_i32_162 v281
  let c1_i32_165 : BitVec 32 := 1#32
  ⟨c128_i32_162, v282, c1_i32_165⟩
def k0_cond26 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c1_i32_68 : BitVec 32 := 1#32
  let v142 : BitVec 1 := Scalar.cmpi .sgt v56 c1_i32_68
  let v143 : BitVec 32 := Scalar.extui v142
  let c0_i32_69 : BitVec 32 := 0#32
  let v144 : BitVec 1 := Scalar.cmpi .ne v143 c0_i32_69
  v144

def k0_cond27 (d0 : Dev nD) (v10 : BitVec 32) (k0_t47 : Fin (k0_t47_loop d0 v10).trips) : BitVec 1 :=
  let c128_i32_162 : BitVec 32 := 128#32
  let c1_i32_165 : BitVec 32 := 1#32
  let arg12 : BitVec 32 := Scf.iv c128_i32_162 c1_i32_165 k0_t47
  let c64_i32_167 : BitVec 32 := 64#32
  let v285 : BitVec 1 := Scalar.cmpi .sge arg12 c64_i32_167
  let v286 : BitVec 32 := Scalar.extui v285
  let c0_i32_168 : BitVec 32 := 0#32
  let v287 : BitVec 1 := Scalar.cmpi .ne v286 c0_i32_168
  v287

def k0_off201 (d0 : Dev nD) (v10 : BitVec 32) (k0_t47 : Fin (k0_t47_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c128_i32_162 : BitVec 32 := 128#32
  let c1_i32_165 : BitVec 32 := 1#32
  let arg12 : BitVec 32 := Scf.iv c128_i32_162 c1_i32_165 k0_t47
  let c64_i32_178 : BitVec 32 := 64#32
  let v305 : BitVec 32 := Scalar.subi arg12 c64_i32_178
  let v306 : BitVec 32 := Scalar.addi v17 v305
  let v307 : Index := Scalar.indexCast v306
  ![v307.toNat]
def k0_off202 (d0 : Dev nD) (v10 : BitVec 32) (k0_t47 : Fin (k0_t47_loop d0 v10).trips) : Fin 1 → Nat :=
  let c128_i32_162 : BitVec 32 := 128#32
  let c1_i32_165 : BitVec 32 := 1#32
  let arg12 : BitVec 32 := Scf.iv c128_i32_162 c1_i32_165 k0_t47
  let c64_i32_178 : BitVec 32 := 64#32
  let v305 : BitVec 32 := Scalar.subi arg12 c64_i32_178
  let c64_i32_179 : BitVec 32 := 64#32
  let c0_i32_180 : BitVec 32 := 0#32
  let v309 : BitVec 1 := Scalar.cmpi .eq c64_i32_179 c0_i32_180
  let c1_i32_181 : BitVec 32 := 1#32
  let v310 : BitVec 32 := Scalar.select v309 c1_i32_181 c64_i32_179
  let v311 : BitVec 32 := Scalar.remsi v305 v310
  let c0_i32_183 : BitVec 32 := 0#32
  let v313 : BitVec 1 := Scalar.cmpi .slt v311 c0_i32_183
  let c0_i32_184 : BitVec 32 := 0#32
  let v314 : BitVec 1 := Scalar.cmpi .slt v310 c0_i32_184
  let v315 : BitVec 1 := Scalar.xori v313 v314
  let c0_i32_182 : BitVec 32 := 0#32
  let v312 : BitVec 1 := Scalar.cmpi .ne v311 c0_i32_182
  let v316 : BitVec 1 := Scalar.andi v315 v312
  let v317 : BitVec 32 := Scalar.addi v311 v310
  let v318 : BitVec 32 := Scalar.select v316 v317 v311
  ![v318.toNat]
def k0_off203 (v308 : BitVec 32) : Fin 2 → Nat :=
  let c0_i32_185 : BitVec 32 := 0#32
  ![v308.toNat, 0]

def k0_chk52 (d0 : Dev nD) (v10 : BitVec 32) (k0_t47 : Fin (k0_t47_loop d0 v10).trips) (v308 : BitVec 32) : Prop :=
  (∀ (k0_h26 : k0_cond26 d0 v10 = 1#1), ∀ (k0_h27 : k0_cond27 d0 v10 k0_t47 = 1#1), ∀ a, (k0_off203 v308) a + S1x2048.size a ≤ S4096x2048.size a)
theorem k0_off203_inb : ∀ (d0 : Dev nD) (v10 : BitVec 32) (k0_t47 : Fin (k0_t47_loop d0 v10).trips) (v308 : BitVec 32) (k0_hw52 : k0_chk52 d0 v10 k0_t47 v308), ∀ (k0_h26 : k0_cond26 d0 v10 = 1#1), ∀ (k0_h27 : k0_cond27 d0 v10 k0_t47 = 1#1), ∀ a, (k0_off203 v308) a + S1x2048.size a ≤ S4096x2048.size a := fun d0 v10 k0_t47 v308 k0_hw52 k0_h26 k0_h27 => k0_hw52 k0_h26 k0_h27

def k0_off204 (d0 : Dev nD) (v10 : BitVec 32) (k0_t47 : Fin (k0_t47_loop d0 v10).trips) : Fin 2 → Nat :=
  let c128_i32_162 : BitVec 32 := 128#32
  let c1_i32_165 : BitVec 32 := 1#32
  let arg12 : BitVec 32 := Scf.iv c128_i32_162 c1_i32_165 k0_t47
  let c64_i32_178 : BitVec 32 := 64#32
  let v305 : BitVec 32 := Scalar.subi arg12 c64_i32_178
  let c0_i32_186 : BitVec 32 := 0#32
  ![v305.toNat, 0]
def k0_off205 (d0 : Dev nD) (v10 : BitVec 32) (k0_t47 : Fin (k0_t47_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c128_i32_162 : BitVec 32 := 128#32
  let c1_i32_165 : BitVec 32 := 1#32
  let arg12 : BitVec 32 := Scf.iv c128_i32_162 c1_i32_165 k0_t47
  let v288 : BitVec 32 := Scalar.addi v17 arg12
  let v289 : Index := Scalar.indexCast v288
  ![v289.toNat]
def k0_off206 (d0 : Dev nD) (v10 : BitVec 32) (k0_t47 : Fin (k0_t47_loop d0 v10).trips) : Fin 1 → Nat :=
  let c128_i32_162 : BitVec 32 := 128#32
  let c1_i32_165 : BitVec 32 := 1#32
  let arg12 : BitVec 32 := Scf.iv c128_i32_162 c1_i32_165 k0_t47
  let c64_i32_169 : BitVec 32 := 64#32
  let c0_i32_170 : BitVec 32 := 0#32
  let v291 : BitVec 1 := Scalar.cmpi .eq c64_i32_169 c0_i32_170
  let c1_i32_171 : BitVec 32 := 1#32
  let v292 : BitVec 32 := Scalar.select v291 c1_i32_171 c64_i32_169
  let v293 : BitVec 32 := Scalar.remsi arg12 v292
  let c0_i32_173 : BitVec 32 := 0#32
  let v295 : BitVec 1 := Scalar.cmpi .slt v293 c0_i32_173
  let c0_i32_174 : BitVec 32 := 0#32
  let v296 : BitVec 1 := Scalar.cmpi .slt v292 c0_i32_174
  let v297 : BitVec 1 := Scalar.xori v295 v296
  let c0_i32_172 : BitVec 32 := 0#32
  let v294 : BitVec 1 := Scalar.cmpi .ne v293 c0_i32_172
  let v298 : BitVec 1 := Scalar.andi v297 v294
  let v299 : BitVec 32 := Scalar.addi v293 v292
  let v300 : BitVec 32 := Scalar.select v298 v299 v293
  ![v300.toNat]
def k0_off207 (v290 : BitVec 32) : Fin 2 → Nat :=
  let c0_i32_175 : BitVec 32 := 0#32
  ![v290.toNat, 0]

def k0_chk53 (d0 : Dev nD) (v10 : BitVec 32) (v290 : BitVec 32) : Prop :=
  (∀ (k0_h26 : k0_cond26 d0 v10 = 1#1), ∀ a, (k0_off207 v290) a + S1x2048.size a ≤ S4096x2048.size a)
theorem k0_off207_inb : ∀ (d0 : Dev nD) (v10 : BitVec 32) (v290 : BitVec 32) (k0_hw53 : k0_chk53 d0 v10 v290), ∀ (k0_h26 : k0_cond26 d0 v10 = 1#1), ∀ a, (k0_off207 v290) a + S1x2048.size a ≤ S4096x2048.size a := fun d0 v10 v290 k0_hw53 k0_h26 => k0_hw53 k0_h26

def k0_off208 (d0 : Dev nD) (v10 : BitVec 32) (k0_t47 : Fin (k0_t47_loop d0 v10).trips) : Fin 2 → Nat :=
  let c128_i32_162 : BitVec 32 := 128#32
  let c1_i32_165 : BitVec 32 := 1#32
  let arg12 : BitVec 32 := Scf.iv c128_i32_162 c1_i32_165 k0_t47
  let c0_i32_176 : BitVec 32 := 0#32
  ![arg12.toNat, 0]
@[reducible] def k0_t48_loop (d0 : Dev nD) (v10 : BitVec 32) : Scf.Loop 32 :=
  let c128_i32_162 : BitVec 32 := 128#32
  let c256_i32 : BitVec 32 := 256#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c256_i32 v18
  let v278 : BitVec 32 := Scalar.subi v277 c128_i32_162
  let c1_i32_164 : BitVec 32 := 1#32
  let v280 : BitVec 32 := Scalar.divsi v278 c1_i32_164
  let v281 : BitVec 32 := Scalar.muli v280 c1_i32_164
  let v282 : BitVec 32 := Scalar.addi c128_i32_162 v281
  let v279 : BitVec 32 := Scalar.addi c128_i32_162 v278
  let c1_i32_166 : BitVec 32 := 1#32
  ⟨v282, v279, c1_i32_166⟩
def k0_off209 (d0 : Dev nD) (v10 : BitVec 32) (k0_t48 : Fin (k0_t48_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c128_i32_162 : BitVec 32 := 128#32
  let c256_i32 : BitVec 32 := 256#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c256_i32 v18
  let v278 : BitVec 32 := Scalar.subi v277 c128_i32_162
  let c1_i32_164 : BitVec 32 := 1#32
  let v280 : BitVec 32 := Scalar.divsi v278 c1_i32_164
  let v281 : BitVec 32 := Scalar.muli v280 c1_i32_164
  let v282 : BitVec 32 := Scalar.addi c128_i32_162 v281
  let c1_i32_166 : BitVec 32 := 1#32
  let arg12 : BitVec 32 := Scf.iv v282 c1_i32_166 k0_t48
  let c64_i32_178 : BitVec 32 := 64#32
  let v305 : BitVec 32 := Scalar.subi arg12 c64_i32_178
  let v306 : BitVec 32 := Scalar.addi v17 v305
  let v307 : Index := Scalar.indexCast v306
  ![v307.toNat]
def k0_cond28 (d0 : Dev nD) (v10 : BitVec 32) (k0_t48 : Fin (k0_t48_loop d0 v10).trips) : BitVec 1 :=
  let c128_i32_162 : BitVec 32 := 128#32
  let c256_i32 : BitVec 32 := 256#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c256_i32 v18
  let v278 : BitVec 32 := Scalar.subi v277 c128_i32_162
  let c1_i32_164 : BitVec 32 := 1#32
  let v280 : BitVec 32 := Scalar.divsi v278 c1_i32_164
  let v281 : BitVec 32 := Scalar.muli v280 c1_i32_164
  let v282 : BitVec 32 := Scalar.addi c128_i32_162 v281
  let c1_i32_166 : BitVec 32 := 1#32
  let arg12 : BitVec 32 := Scf.iv v282 c1_i32_166 k0_t48
  let c64_i32_167 : BitVec 32 := 64#32
  let v285 : BitVec 1 := Scalar.cmpi .sge arg12 c64_i32_167
  let v286 : BitVec 32 := Scalar.extui v285
  let c0_i32_168 : BitVec 32 := 0#32
  let v287 : BitVec 1 := Scalar.cmpi .ne v286 c0_i32_168
  v287

def k0_off210 (d0 : Dev nD) (v10 : BitVec 32) (k0_t48 : Fin (k0_t48_loop d0 v10).trips) : Fin 1 → Nat :=
  let c128_i32_162 : BitVec 32 := 128#32
  let c256_i32 : BitVec 32 := 256#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c256_i32 v18
  let v278 : BitVec 32 := Scalar.subi v277 c128_i32_162
  let c1_i32_164 : BitVec 32 := 1#32
  let v280 : BitVec 32 := Scalar.divsi v278 c1_i32_164
  let v281 : BitVec 32 := Scalar.muli v280 c1_i32_164
  let v282 : BitVec 32 := Scalar.addi c128_i32_162 v281
  let c1_i32_166 : BitVec 32 := 1#32
  let arg12 : BitVec 32 := Scf.iv v282 c1_i32_166 k0_t48
  let c64_i32_178 : BitVec 32 := 64#32
  let v305 : BitVec 32 := Scalar.subi arg12 c64_i32_178
  let c64_i32_179 : BitVec 32 := 64#32
  let c0_i32_180 : BitVec 32 := 0#32
  let v309 : BitVec 1 := Scalar.cmpi .eq c64_i32_179 c0_i32_180
  let c1_i32_181 : BitVec 32 := 1#32
  let v310 : BitVec 32 := Scalar.select v309 c1_i32_181 c64_i32_179
  let v311 : BitVec 32 := Scalar.remsi v305 v310
  let c0_i32_183 : BitVec 32 := 0#32
  let v313 : BitVec 1 := Scalar.cmpi .slt v311 c0_i32_183
  let c0_i32_184 : BitVec 32 := 0#32
  let v314 : BitVec 1 := Scalar.cmpi .slt v310 c0_i32_184
  let v315 : BitVec 1 := Scalar.xori v313 v314
  let c0_i32_182 : BitVec 32 := 0#32
  let v312 : BitVec 1 := Scalar.cmpi .ne v311 c0_i32_182
  let v316 : BitVec 1 := Scalar.andi v315 v312
  let v317 : BitVec 32 := Scalar.addi v311 v310
  let v318 : BitVec 32 := Scalar.select v316 v317 v311
  ![v318.toNat]
def k0_off211 (v308 : BitVec 32) : Fin 2 → Nat :=
  let c0_i32_185 : BitVec 32 := 0#32
  ![v308.toNat, 0]

def k0_chk54 (d0 : Dev nD) (v10 : BitVec 32) (k0_t48 : Fin (k0_t48_loop d0 v10).trips) (v308 : BitVec 32) : Prop :=
  (∀ (k0_h26 : k0_cond26 d0 v10 = 1#1), ∀ (k0_h28 : k0_cond28 d0 v10 k0_t48 = 1#1), ∀ a, (k0_off211 v308) a + S1x2048.size a ≤ S4096x2048.size a)
theorem k0_off211_inb : ∀ (d0 : Dev nD) (v10 : BitVec 32) (k0_t48 : Fin (k0_t48_loop d0 v10).trips) (v308 : BitVec 32) (k0_hw54 : k0_chk54 d0 v10 k0_t48 v308), ∀ (k0_h26 : k0_cond26 d0 v10 = 1#1), ∀ (k0_h28 : k0_cond28 d0 v10 k0_t48 = 1#1), ∀ a, (k0_off211 v308) a + S1x2048.size a ≤ S4096x2048.size a := fun d0 v10 k0_t48 v308 k0_hw54 k0_h26 k0_h28 => k0_hw54 k0_h26 k0_h28

def k0_off212 (d0 : Dev nD) (v10 : BitVec 32) (k0_t48 : Fin (k0_t48_loop d0 v10).trips) : Fin 2 → Nat :=
  let c128_i32_162 : BitVec 32 := 128#32
  let c256_i32 : BitVec 32 := 256#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c256_i32 v18
  let v278 : BitVec 32 := Scalar.subi v277 c128_i32_162
  let c1_i32_164 : BitVec 32 := 1#32
  let v280 : BitVec 32 := Scalar.divsi v278 c1_i32_164
  let v281 : BitVec 32 := Scalar.muli v280 c1_i32_164
  let v282 : BitVec 32 := Scalar.addi c128_i32_162 v281
  let c1_i32_166 : BitVec 32 := 1#32
  let arg12 : BitVec 32 := Scf.iv v282 c1_i32_166 k0_t48
  let c64_i32_178 : BitVec 32 := 64#32
  let v305 : BitVec 32 := Scalar.subi arg12 c64_i32_178
  let c0_i32_186 : BitVec 32 := 0#32
  ![v305.toNat, 0]
def k0_off213 (d0 : Dev nD) (v10 : BitVec 32) (k0_t48 : Fin (k0_t48_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c128_i32_162 : BitVec 32 := 128#32
  let c256_i32 : BitVec 32 := 256#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c256_i32 v18
  let v278 : BitVec 32 := Scalar.subi v277 c128_i32_162
  let c1_i32_164 : BitVec 32 := 1#32
  let v280 : BitVec 32 := Scalar.divsi v278 c1_i32_164
  let v281 : BitVec 32 := Scalar.muli v280 c1_i32_164
  let v282 : BitVec 32 := Scalar.addi c128_i32_162 v281
  let c1_i32_166 : BitVec 32 := 1#32
  let arg12 : BitVec 32 := Scf.iv v282 c1_i32_166 k0_t48
  let v288 : BitVec 32 := Scalar.addi v17 arg12
  let v289 : Index := Scalar.indexCast v288
  ![v289.toNat]
def k0_off214 (d0 : Dev nD) (v10 : BitVec 32) (k0_t48 : Fin (k0_t48_loop d0 v10).trips) : Fin 1 → Nat :=
  let c128_i32_162 : BitVec 32 := 128#32
  let c256_i32 : BitVec 32 := 256#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c256_i32 v18
  let v278 : BitVec 32 := Scalar.subi v277 c128_i32_162
  let c1_i32_164 : BitVec 32 := 1#32
  let v280 : BitVec 32 := Scalar.divsi v278 c1_i32_164
  let v281 : BitVec 32 := Scalar.muli v280 c1_i32_164
  let v282 : BitVec 32 := Scalar.addi c128_i32_162 v281
  let c1_i32_166 : BitVec 32 := 1#32
  let arg12 : BitVec 32 := Scf.iv v282 c1_i32_166 k0_t48
  let c64_i32_169 : BitVec 32 := 64#32
  let c0_i32_170 : BitVec 32 := 0#32
  let v291 : BitVec 1 := Scalar.cmpi .eq c64_i32_169 c0_i32_170
  let c1_i32_171 : BitVec 32 := 1#32
  let v292 : BitVec 32 := Scalar.select v291 c1_i32_171 c64_i32_169
  let v293 : BitVec 32 := Scalar.remsi arg12 v292
  let c0_i32_173 : BitVec 32 := 0#32
  let v295 : BitVec 1 := Scalar.cmpi .slt v293 c0_i32_173
  let c0_i32_174 : BitVec 32 := 0#32
  let v296 : BitVec 1 := Scalar.cmpi .slt v292 c0_i32_174
  let v297 : BitVec 1 := Scalar.xori v295 v296
  let c0_i32_172 : BitVec 32 := 0#32
  let v294 : BitVec 1 := Scalar.cmpi .ne v293 c0_i32_172
  let v298 : BitVec 1 := Scalar.andi v297 v294
  let v299 : BitVec 32 := Scalar.addi v293 v292
  let v300 : BitVec 32 := Scalar.select v298 v299 v293
  ![v300.toNat]
def k0_off215 (v290 : BitVec 32) : Fin 2 → Nat :=
  let c0_i32_175 : BitVec 32 := 0#32
  ![v290.toNat, 0]

def k0_chk55 (d0 : Dev nD) (v10 : BitVec 32) (v290 : BitVec 32) : Prop :=
  (∀ (k0_h26 : k0_cond26 d0 v10 = 1#1), ∀ a, (k0_off215 v290) a + S1x2048.size a ≤ S4096x2048.size a)
theorem k0_off215_inb : ∀ (d0 : Dev nD) (v10 : BitVec 32) (v290 : BitVec 32) (k0_hw55 : k0_chk55 d0 v10 v290), ∀ (k0_h26 : k0_cond26 d0 v10 = 1#1), ∀ a, (k0_off215 v290) a + S1x2048.size a ≤ S4096x2048.size a := fun d0 v10 v290 k0_hw55 k0_h26 => k0_hw55 k0_h26

def k0_off216 (d0 : Dev nD) (v10 : BitVec 32) (k0_t48 : Fin (k0_t48_loop d0 v10).trips) : Fin 2 → Nat :=
  let c128_i32_162 : BitVec 32 := 128#32
  let c256_i32 : BitVec 32 := 256#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c256_i32 v18
  let v278 : BitVec 32 := Scalar.subi v277 c128_i32_162
  let c1_i32_164 : BitVec 32 := 1#32
  let v280 : BitVec 32 := Scalar.divsi v278 c1_i32_164
  let v281 : BitVec 32 := Scalar.muli v280 c1_i32_164
  let v282 : BitVec 32 := Scalar.addi c128_i32_162 v281
  let c1_i32_166 : BitVec 32 := 1#32
  let arg12 : BitVec 32 := Scf.iv v282 c1_i32_166 k0_t48
  let c0_i32_176 : BitVec 32 := 0#32
  ![arg12.toNat, 0]
@[reducible] def k0_t49_loop (d0 : Dev nD) (v10 : BitVec 32) : Scf.Loop 32 :=
  let c256_i32_161 : BitVec 32 := 256#32
  let c384_i32 : BitVec 32 := 384#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c384_i32 v18
  let v278 : BitVec 32 := Scalar.subi v277 c256_i32_161
  let c1_i32_163 : BitVec 32 := 1#32
  let v280 : BitVec 32 := Scalar.divsi v278 c1_i32_163
  let v281 : BitVec 32 := Scalar.muli v280 c1_i32_163
  let v282 : BitVec 32 := Scalar.addi c256_i32_161 v281
  let c1_i32_164 : BitVec 32 := 1#32
  ⟨c256_i32_161, v282, c1_i32_164⟩
def k0_cond29 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c2_i32_70 : BitVec 32 := 2#32
  let v145 : BitVec 1 := Scalar.cmpi .sgt v56 c2_i32_70
  let v146 : BitVec 32 := Scalar.extui v145
  let c0_i32_71 : BitVec 32 := 0#32
  let v147 : BitVec 1 := Scalar.cmpi .ne v146 c0_i32_71
  v147

def k0_cond30 (d0 : Dev nD) (v10 : BitVec 32) (k0_t49 : Fin (k0_t49_loop d0 v10).trips) : BitVec 1 :=
  let c256_i32_161 : BitVec 32 := 256#32
  let c1_i32_164 : BitVec 32 := 1#32
  let arg12 : BitVec 32 := Scf.iv c256_i32_161 c1_i32_164 k0_t49
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off217 (d0 : Dev nD) (v10 : BitVec 32) (k0_t49 : Fin (k0_t49_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c256_i32_161 : BitVec 32 := 256#32
  let c1_i32_164 : BitVec 32 := 1#32
  let arg12 : BitVec 32 := Scf.iv c256_i32_161 c1_i32_164 k0_t49
  let c64_i32_177 : BitVec 32 := 64#32
  let v305 : BitVec 32 := Scalar.subi arg12 c64_i32_177
  let v306 : BitVec 32 := Scalar.addi v17 v305
  let v307 : Index := Scalar.indexCast v306
  ![v307.toNat]
def k0_off218 (d0 : Dev nD) (v10 : BitVec 32) (k0_t49 : Fin (k0_t49_loop d0 v10).trips) : Fin 1 → Nat :=
  let c256_i32_161 : BitVec 32 := 256#32
  let c1_i32_164 : BitVec 32 := 1#32
  let arg12 : BitVec 32 := Scf.iv c256_i32_161 c1_i32_164 k0_t49
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off219 (v308 : BitVec 32) : Fin 2 → Nat :=
  let c0_i32_184 : BitVec 32 := 0#32
  ![v308.toNat, 0]

def k0_chk56 (d0 : Dev nD) (v10 : BitVec 32) (k0_t49 : Fin (k0_t49_loop d0 v10).trips) (v308 : BitVec 32) : Prop :=
  (∀ (k0_h29 : k0_cond29 d0 v10 = 1#1), ∀ (k0_h30 : k0_cond30 d0 v10 k0_t49 = 1#1), ∀ a, (k0_off219 v308) a + S1x2048.size a ≤ S4096x2048.size a)
theorem k0_off219_inb : ∀ (d0 : Dev nD) (v10 : BitVec 32) (k0_t49 : Fin (k0_t49_loop d0 v10).trips) (v308 : BitVec 32) (k0_hw56 : k0_chk56 d0 v10 k0_t49 v308), ∀ (k0_h29 : k0_cond29 d0 v10 = 1#1), ∀ (k0_h30 : k0_cond30 d0 v10 k0_t49 = 1#1), ∀ a, (k0_off219 v308) a + S1x2048.size a ≤ S4096x2048.size a := fun d0 v10 k0_t49 v308 k0_hw56 k0_h29 k0_h30 => k0_hw56 k0_h29 k0_h30

def k0_off220 (d0 : Dev nD) (v10 : BitVec 32) (k0_t49 : Fin (k0_t49_loop d0 v10).trips) : Fin 2 → Nat :=
  let c256_i32_161 : BitVec 32 := 256#32
  let c1_i32_164 : BitVec 32 := 1#32
  let arg12 : BitVec 32 := Scf.iv c256_i32_161 c1_i32_164 k0_t49
  let c64_i32_177 : BitVec 32 := 64#32
  let v305 : BitVec 32 := Scalar.subi arg12 c64_i32_177
  let c0_i32_185 : BitVec 32 := 0#32
  ![v305.toNat, 0]
def k0_off221 (d0 : Dev nD) (v10 : BitVec 32) (k0_t49 : Fin (k0_t49_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c256_i32_161 : BitVec 32 := 256#32
  let c1_i32_164 : BitVec 32 := 1#32
  let arg12 : BitVec 32 := Scf.iv c256_i32_161 c1_i32_164 k0_t49
  let v288 : BitVec 32 := Scalar.addi v17 arg12
  let v289 : Index := Scalar.indexCast v288
  ![v289.toNat]
def k0_off222 (d0 : Dev nD) (v10 : BitVec 32) (k0_t49 : Fin (k0_t49_loop d0 v10).trips) : Fin 1 → Nat :=
  let c256_i32_161 : BitVec 32 := 256#32
  let c1_i32_164 : BitVec 32 := 1#32
  let arg12 : BitVec 32 := Scf.iv c256_i32_161 c1_i32_164 k0_t49
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off223 (v290 : BitVec 32) : Fin 2 → Nat :=
  let c0_i32_174 : BitVec 32 := 0#32
  ![v290.toNat, 0]

def k0_chk57 (d0 : Dev nD) (v10 : BitVec 32) (v290 : BitVec 32) : Prop :=
  (∀ (k0_h29 : k0_cond29 d0 v10 = 1#1), ∀ a, (k0_off223 v290) a + S1x2048.size a ≤ S4096x2048.size a)
theorem k0_off223_inb : ∀ (d0 : Dev nD) (v10 : BitVec 32) (v290 : BitVec 32) (k0_hw57 : k0_chk57 d0 v10 v290), ∀ (k0_h29 : k0_cond29 d0 v10 = 1#1), ∀ a, (k0_off223 v290) a + S1x2048.size a ≤ S4096x2048.size a := fun d0 v10 v290 k0_hw57 k0_h29 => k0_hw57 k0_h29

def k0_off224 (d0 : Dev nD) (v10 : BitVec 32) (k0_t49 : Fin (k0_t49_loop d0 v10).trips) : Fin 2 → Nat :=
  let c256_i32_161 : BitVec 32 := 256#32
  let c1_i32_164 : BitVec 32 := 1#32
  let arg12 : BitVec 32 := Scf.iv c256_i32_161 c1_i32_164 k0_t49
  let c0_i32_175 : BitVec 32 := 0#32
  ![arg12.toNat, 0]
@[reducible] def k0_t50_loop (d0 : Dev nD) (v10 : BitVec 32) : Scf.Loop 32 :=
  let c256_i32_161 : BitVec 32 := 256#32
  let c384_i32 : BitVec 32 := 384#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c384_i32 v18
  let v278 : BitVec 32 := Scalar.subi v277 c256_i32_161
  let c1_i32_163 : BitVec 32 := 1#32
  let v280 : BitVec 32 := Scalar.divsi v278 c1_i32_163
  let v281 : BitVec 32 := Scalar.muli v280 c1_i32_163
  let v282 : BitVec 32 := Scalar.addi c256_i32_161 v281
  let v279 : BitVec 32 := Scalar.addi c256_i32_161 v278
  let c1_i32_165 : BitVec 32 := 1#32
  ⟨v282, v279, c1_i32_165⟩
def k0_off225 (d0 : Dev nD) (v10 : BitVec 32) (k0_t50 : Fin (k0_t50_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c256_i32_161 : BitVec 32 := 256#32
  let c384_i32 : BitVec 32 := 384#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c384_i32 v18
  let v278 : BitVec 32 := Scalar.subi v277 c256_i32_161
  let c1_i32_163 : BitVec 32 := 1#32
  let v280 : BitVec 32 := Scalar.divsi v278 c1_i32_163
  let v281 : BitVec 32 := Scalar.muli v280 c1_i32_163
  let v282 : BitVec 32 := Scalar.addi c256_i32_161 v281
  let c1_i32_165 : BitVec 32 := 1#32
  let arg12 : BitVec 32 := Scf.iv v282 c1_i32_165 k0_t50
  let c64_i32_177 : BitVec 32 := 64#32
  let v305 : BitVec 32 := Scalar.subi arg12 c64_i32_177
  let v306 : BitVec 32 := Scalar.addi v17 v305
  let v307 : Index := Scalar.indexCast v306
  ![v307.toNat]
def k0_cond31 (d0 : Dev nD) (v10 : BitVec 32) (k0_t50 : Fin (k0_t50_loop d0 v10).trips) : BitVec 1 :=
  let c256_i32_161 : BitVec 32 := 256#32
  let c384_i32 : BitVec 32 := 384#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c384_i32 v18
  let v278 : BitVec 32 := Scalar.subi v277 c256_i32_161
  let c1_i32_163 : BitVec 32 := 1#32
  let v280 : BitVec 32 := Scalar.divsi v278 c1_i32_163
  let v281 : BitVec 32 := Scalar.muli v280 c1_i32_163
  let v282 : BitVec 32 := Scalar.addi c256_i32_161 v281
  let c1_i32_165 : BitVec 32 := 1#32
  let arg12 : BitVec 32 := Scf.iv v282 c1_i32_165 k0_t50
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off226 (d0 : Dev nD) (v10 : BitVec 32) (k0_t50 : Fin (k0_t50_loop d0 v10).trips) : Fin 1 → Nat :=
  let c256_i32_161 : BitVec 32 := 256#32
  let c384_i32 : BitVec 32 := 384#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c384_i32 v18
  let v278 : BitVec 32 := Scalar.subi v277 c256_i32_161
  let c1_i32_163 : BitVec 32 := 1#32
  let v280 : BitVec 32 := Scalar.divsi v278 c1_i32_163
  let v281 : BitVec 32 := Scalar.muli v280 c1_i32_163
  let v282 : BitVec 32 := Scalar.addi c256_i32_161 v281
  let c1_i32_165 : BitVec 32 := 1#32
  let arg12 : BitVec 32 := Scf.iv v282 c1_i32_165 k0_t50
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off227 (v308 : BitVec 32) : Fin 2 → Nat :=
  let c0_i32_184 : BitVec 32 := 0#32
  ![v308.toNat, 0]

def k0_chk58 (d0 : Dev nD) (v10 : BitVec 32) (k0_t50 : Fin (k0_t50_loop d0 v10).trips) (v308 : BitVec 32) : Prop :=
  (∀ (k0_h29 : k0_cond29 d0 v10 = 1#1), ∀ (k0_h31 : k0_cond31 d0 v10 k0_t50 = 1#1), ∀ a, (k0_off227 v308) a + S1x2048.size a ≤ S4096x2048.size a)
theorem k0_off227_inb : ∀ (d0 : Dev nD) (v10 : BitVec 32) (k0_t50 : Fin (k0_t50_loop d0 v10).trips) (v308 : BitVec 32) (k0_hw58 : k0_chk58 d0 v10 k0_t50 v308), ∀ (k0_h29 : k0_cond29 d0 v10 = 1#1), ∀ (k0_h31 : k0_cond31 d0 v10 k0_t50 = 1#1), ∀ a, (k0_off227 v308) a + S1x2048.size a ≤ S4096x2048.size a := fun d0 v10 k0_t50 v308 k0_hw58 k0_h29 k0_h31 => k0_hw58 k0_h29 k0_h31

def k0_off228 (d0 : Dev nD) (v10 : BitVec 32) (k0_t50 : Fin (k0_t50_loop d0 v10).trips) : Fin 2 → Nat :=
  let c256_i32_161 : BitVec 32 := 256#32
  let c384_i32 : BitVec 32 := 384#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c384_i32 v18
  let v278 : BitVec 32 := Scalar.subi v277 c256_i32_161
  let c1_i32_163 : BitVec 32 := 1#32
  let v280 : BitVec 32 := Scalar.divsi v278 c1_i32_163
  let v281 : BitVec 32 := Scalar.muli v280 c1_i32_163
  let v282 : BitVec 32 := Scalar.addi c256_i32_161 v281
  let c1_i32_165 : BitVec 32 := 1#32
  let arg12 : BitVec 32 := Scf.iv v282 c1_i32_165 k0_t50
  let c64_i32_177 : BitVec 32 := 64#32
  let v305 : BitVec 32 := Scalar.subi arg12 c64_i32_177
  let c0_i32_185 : BitVec 32 := 0#32
  ![v305.toNat, 0]
def k0_off229 (d0 : Dev nD) (v10 : BitVec 32) (k0_t50 : Fin (k0_t50_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c256_i32_161 : BitVec 32 := 256#32
  let c384_i32 : BitVec 32 := 384#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c384_i32 v18
  let v278 : BitVec 32 := Scalar.subi v277 c256_i32_161
  let c1_i32_163 : BitVec 32 := 1#32
  let v280 : BitVec 32 := Scalar.divsi v278 c1_i32_163
  let v281 : BitVec 32 := Scalar.muli v280 c1_i32_163
  let v282 : BitVec 32 := Scalar.addi c256_i32_161 v281
  let c1_i32_165 : BitVec 32 := 1#32
  let arg12 : BitVec 32 := Scf.iv v282 c1_i32_165 k0_t50
  let v288 : BitVec 32 := Scalar.addi v17 arg12
  let v289 : Index := Scalar.indexCast v288
  ![v289.toNat]
def k0_off230 (d0 : Dev nD) (v10 : BitVec 32) (k0_t50 : Fin (k0_t50_loop d0 v10).trips) : Fin 1 → Nat :=
  let c256_i32_161 : BitVec 32 := 256#32
  let c384_i32 : BitVec 32 := 384#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c384_i32 v18
  let v278 : BitVec 32 := Scalar.subi v277 c256_i32_161
  let c1_i32_163 : BitVec 32 := 1#32
  let v280 : BitVec 32 := Scalar.divsi v278 c1_i32_163
  let v281 : BitVec 32 := Scalar.muli v280 c1_i32_163
  let v282 : BitVec 32 := Scalar.addi c256_i32_161 v281
  let c1_i32_165 : BitVec 32 := 1#32
  let arg12 : BitVec 32 := Scf.iv v282 c1_i32_165 k0_t50
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off231 (v290 : BitVec 32) : Fin 2 → Nat :=
  let c0_i32_174 : BitVec 32 := 0#32
  ![v290.toNat, 0]

def k0_chk59 (d0 : Dev nD) (v10 : BitVec 32) (v290 : BitVec 32) : Prop :=
  (∀ (k0_h29 : k0_cond29 d0 v10 = 1#1), ∀ a, (k0_off231 v290) a + S1x2048.size a ≤ S4096x2048.size a)
theorem k0_off231_inb : ∀ (d0 : Dev nD) (v10 : BitVec 32) (v290 : BitVec 32) (k0_hw59 : k0_chk59 d0 v10 v290), ∀ (k0_h29 : k0_cond29 d0 v10 = 1#1), ∀ a, (k0_off231 v290) a + S1x2048.size a ≤ S4096x2048.size a := fun d0 v10 v290 k0_hw59 k0_h29 => k0_hw59 k0_h29

def k0_off232 (d0 : Dev nD) (v10 : BitVec 32) (k0_t50 : Fin (k0_t50_loop d0 v10).trips) : Fin 2 → Nat :=
  let c256_i32_161 : BitVec 32 := 256#32
  let c384_i32 : BitVec 32 := 384#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c384_i32 v18
  let v278 : BitVec 32 := Scalar.subi v277 c256_i32_161
  let c1_i32_163 : BitVec 32 := 1#32
  let v280 : BitVec 32 := Scalar.divsi v278 c1_i32_163
  let v281 : BitVec 32 := Scalar.muli v280 c1_i32_163
  let v282 : BitVec 32 := Scalar.addi c256_i32_161 v281
  let c1_i32_165 : BitVec 32 := 1#32
  let arg12 : BitVec 32 := Scf.iv v282 c1_i32_165 k0_t50
  let c0_i32_175 : BitVec 32 := 0#32
  ![arg12.toNat, 0]
@[reducible] def k0_t51_loop (d0 : Dev nD) (v10 : BitVec 32) : Scf.Loop 32 :=
  let c384_i32_161 : BitVec 32 := 384#32
  let c512_i32 : BitVec 32 := 512#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c512_i32 v18
  let v278 : BitVec 32 := Scalar.subi v277 c384_i32_161
  let c1_i32_163 : BitVec 32 := 1#32
  let v280 : BitVec 32 := Scalar.divsi v278 c1_i32_163
  let v281 : BitVec 32 := Scalar.muli v280 c1_i32_163
  let v282 : BitVec 32 := Scalar.addi c384_i32_161 v281
  let c1_i32_164 : BitVec 32 := 1#32
  ⟨c384_i32_161, v282, c1_i32_164⟩
def k0_cond32 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c3_i32_72 : BitVec 32 := 3#32
  let v148 : BitVec 1 := Scalar.cmpi .sgt v56 c3_i32_72
  let v149 : BitVec 32 := Scalar.extui v148
  let c0_i32_73 : BitVec 32 := 0#32
  let v150 : BitVec 1 := Scalar.cmpi .ne v149 c0_i32_73
  v150

def k0_cond33 (d0 : Dev nD) (v10 : BitVec 32) (k0_t51 : Fin (k0_t51_loop d0 v10).trips) : BitVec 1 :=
  let c384_i32_161 : BitVec 32 := 384#32
  let c1_i32_164 : BitVec 32 := 1#32
  let arg12 : BitVec 32 := Scf.iv c384_i32_161 c1_i32_164 k0_t51
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off233 (d0 : Dev nD) (v10 : BitVec 32) (k0_t51 : Fin (k0_t51_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c384_i32_161 : BitVec 32 := 384#32
  let c1_i32_164 : BitVec 32 := 1#32
  let arg12 : BitVec 32 := Scf.iv c384_i32_161 c1_i32_164 k0_t51
  let c64_i32_177 : BitVec 32 := 64#32
  let v305 : BitVec 32 := Scalar.subi arg12 c64_i32_177
  let v306 : BitVec 32 := Scalar.addi v17 v305
  let v307 : Index := Scalar.indexCast v306
  ![v307.toNat]
def k0_off234 (d0 : Dev nD) (v10 : BitVec 32) (k0_t51 : Fin (k0_t51_loop d0 v10).trips) : Fin 1 → Nat :=
  let c384_i32_161 : BitVec 32 := 384#32
  let c1_i32_164 : BitVec 32 := 1#32
  let arg12 : BitVec 32 := Scf.iv c384_i32_161 c1_i32_164 k0_t51
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off235 (v308 : BitVec 32) : Fin 2 → Nat :=
  let c0_i32_184 : BitVec 32 := 0#32
  ![v308.toNat, 0]

def k0_chk60 (d0 : Dev nD) (v10 : BitVec 32) (k0_t51 : Fin (k0_t51_loop d0 v10).trips) (v308 : BitVec 32) : Prop :=
  (∀ (k0_h32 : k0_cond32 d0 v10 = 1#1), ∀ (k0_h33 : k0_cond33 d0 v10 k0_t51 = 1#1), ∀ a, (k0_off235 v308) a + S1x2048.size a ≤ S4096x2048.size a)
theorem k0_off235_inb : ∀ (d0 : Dev nD) (v10 : BitVec 32) (k0_t51 : Fin (k0_t51_loop d0 v10).trips) (v308 : BitVec 32) (k0_hw60 : k0_chk60 d0 v10 k0_t51 v308), ∀ (k0_h32 : k0_cond32 d0 v10 = 1#1), ∀ (k0_h33 : k0_cond33 d0 v10 k0_t51 = 1#1), ∀ a, (k0_off235 v308) a + S1x2048.size a ≤ S4096x2048.size a := fun d0 v10 k0_t51 v308 k0_hw60 k0_h32 k0_h33 => k0_hw60 k0_h32 k0_h33

def k0_off236 (d0 : Dev nD) (v10 : BitVec 32) (k0_t51 : Fin (k0_t51_loop d0 v10).trips) : Fin 2 → Nat :=
  let c384_i32_161 : BitVec 32 := 384#32
  let c1_i32_164 : BitVec 32 := 1#32
  let arg12 : BitVec 32 := Scf.iv c384_i32_161 c1_i32_164 k0_t51
  let c64_i32_177 : BitVec 32 := 64#32
  let v305 : BitVec 32 := Scalar.subi arg12 c64_i32_177
  let c0_i32_185 : BitVec 32 := 0#32
  ![v305.toNat, 0]
def k0_off237 (d0 : Dev nD) (v10 : BitVec 32) (k0_t51 : Fin (k0_t51_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c384_i32_161 : BitVec 32 := 384#32
  let c1_i32_164 : BitVec 32 := 1#32
  let arg12 : BitVec 32 := Scf.iv c384_i32_161 c1_i32_164 k0_t51
  let v288 : BitVec 32 := Scalar.addi v17 arg12
  let v289 : Index := Scalar.indexCast v288
  ![v289.toNat]
def k0_off238 (d0 : Dev nD) (v10 : BitVec 32) (k0_t51 : Fin (k0_t51_loop d0 v10).trips) : Fin 1 → Nat :=
  let c384_i32_161 : BitVec 32 := 384#32
  let c1_i32_164 : BitVec 32 := 1#32
  let arg12 : BitVec 32 := Scf.iv c384_i32_161 c1_i32_164 k0_t51
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off239 (v290 : BitVec 32) : Fin 2 → Nat :=
  let c0_i32_174 : BitVec 32 := 0#32
  ![v290.toNat, 0]

def k0_chk61 (d0 : Dev nD) (v10 : BitVec 32) (v290 : BitVec 32) : Prop :=
  (∀ (k0_h32 : k0_cond32 d0 v10 = 1#1), ∀ a, (k0_off239 v290) a + S1x2048.size a ≤ S4096x2048.size a)
theorem k0_off239_inb : ∀ (d0 : Dev nD) (v10 : BitVec 32) (v290 : BitVec 32) (k0_hw61 : k0_chk61 d0 v10 v290), ∀ (k0_h32 : k0_cond32 d0 v10 = 1#1), ∀ a, (k0_off239 v290) a + S1x2048.size a ≤ S4096x2048.size a := fun d0 v10 v290 k0_hw61 k0_h32 => k0_hw61 k0_h32

def k0_off240 (d0 : Dev nD) (v10 : BitVec 32) (k0_t51 : Fin (k0_t51_loop d0 v10).trips) : Fin 2 → Nat :=
  let c384_i32_161 : BitVec 32 := 384#32
  let c1_i32_164 : BitVec 32 := 1#32
  let arg12 : BitVec 32 := Scf.iv c384_i32_161 c1_i32_164 k0_t51
  let c0_i32_175 : BitVec 32 := 0#32
  ![arg12.toNat, 0]
@[reducible] def k0_t52_loop (d0 : Dev nD) (v10 : BitVec 32) : Scf.Loop 32 :=
  let c384_i32_161 : BitVec 32 := 384#32
  let c512_i32 : BitVec 32 := 512#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c512_i32 v18
  let v278 : BitVec 32 := Scalar.subi v277 c384_i32_161
  let c1_i32_163 : BitVec 32 := 1#32
  let v280 : BitVec 32 := Scalar.divsi v278 c1_i32_163
  let v281 : BitVec 32 := Scalar.muli v280 c1_i32_163
  let v282 : BitVec 32 := Scalar.addi c384_i32_161 v281
  let v279 : BitVec 32 := Scalar.addi c384_i32_161 v278
  let c1_i32_165 : BitVec 32 := 1#32
  ⟨v282, v279, c1_i32_165⟩
def k0_off241 (d0 : Dev nD) (v10 : BitVec 32) (k0_t52 : Fin (k0_t52_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c384_i32_161 : BitVec 32 := 384#32
  let c512_i32 : BitVec 32 := 512#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c512_i32 v18
  let v278 : BitVec 32 := Scalar.subi v277 c384_i32_161
  let c1_i32_163 : BitVec 32 := 1#32
  let v280 : BitVec 32 := Scalar.divsi v278 c1_i32_163
  let v281 : BitVec 32 := Scalar.muli v280 c1_i32_163
  let v282 : BitVec 32 := Scalar.addi c384_i32_161 v281
  let c1_i32_165 : BitVec 32 := 1#32
  let arg12 : BitVec 32 := Scf.iv v282 c1_i32_165 k0_t52
  let c64_i32_177 : BitVec 32 := 64#32
  let v305 : BitVec 32 := Scalar.subi arg12 c64_i32_177
  let v306 : BitVec 32 := Scalar.addi v17 v305
  let v307 : Index := Scalar.indexCast v306
  ![v307.toNat]
def k0_cond34 (d0 : Dev nD) (v10 : BitVec 32) (k0_t52 : Fin (k0_t52_loop d0 v10).trips) : BitVec 1 :=
  let c384_i32_161 : BitVec 32 := 384#32
  let c512_i32 : BitVec 32 := 512#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c512_i32 v18
  let v278 : BitVec 32 := Scalar.subi v277 c384_i32_161
  let c1_i32_163 : BitVec 32 := 1#32
  let v280 : BitVec 32 := Scalar.divsi v278 c1_i32_163
  let v281 : BitVec 32 := Scalar.muli v280 c1_i32_163
  let v282 : BitVec 32 := Scalar.addi c384_i32_161 v281
  let c1_i32_165 : BitVec 32 := 1#32
  let arg12 : BitVec 32 := Scf.iv v282 c1_i32_165 k0_t52
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off242 (d0 : Dev nD) (v10 : BitVec 32) (k0_t52 : Fin (k0_t52_loop d0 v10).trips) : Fin 1 → Nat :=
  let c384_i32_161 : BitVec 32 := 384#32
  let c512_i32 : BitVec 32 := 512#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c512_i32 v18
  let v278 : BitVec 32 := Scalar.subi v277 c384_i32_161
  let c1_i32_163 : BitVec 32 := 1#32
  let v280 : BitVec 32 := Scalar.divsi v278 c1_i32_163
  let v281 : BitVec 32 := Scalar.muli v280 c1_i32_163
  let v282 : BitVec 32 := Scalar.addi c384_i32_161 v281
  let c1_i32_165 : BitVec 32 := 1#32
  let arg12 : BitVec 32 := Scf.iv v282 c1_i32_165 k0_t52
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off243 (v308 : BitVec 32) : Fin 2 → Nat :=
  let c0_i32_184 : BitVec 32 := 0#32
  ![v308.toNat, 0]

def k0_chk62 (d0 : Dev nD) (v10 : BitVec 32) (k0_t52 : Fin (k0_t52_loop d0 v10).trips) (v308 : BitVec 32) : Prop :=
  (∀ (k0_h32 : k0_cond32 d0 v10 = 1#1), ∀ (k0_h34 : k0_cond34 d0 v10 k0_t52 = 1#1), ∀ a, (k0_off243 v308) a + S1x2048.size a ≤ S4096x2048.size a)
theorem k0_off243_inb : ∀ (d0 : Dev nD) (v10 : BitVec 32) (k0_t52 : Fin (k0_t52_loop d0 v10).trips) (v308 : BitVec 32) (k0_hw62 : k0_chk62 d0 v10 k0_t52 v308), ∀ (k0_h32 : k0_cond32 d0 v10 = 1#1), ∀ (k0_h34 : k0_cond34 d0 v10 k0_t52 = 1#1), ∀ a, (k0_off243 v308) a + S1x2048.size a ≤ S4096x2048.size a := fun d0 v10 k0_t52 v308 k0_hw62 k0_h32 k0_h34 => k0_hw62 k0_h32 k0_h34

def k0_off244 (d0 : Dev nD) (v10 : BitVec 32) (k0_t52 : Fin (k0_t52_loop d0 v10).trips) : Fin 2 → Nat :=
  let c384_i32_161 : BitVec 32 := 384#32
  let c512_i32 : BitVec 32 := 512#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c512_i32 v18
  let v278 : BitVec 32 := Scalar.subi v277 c384_i32_161
  let c1_i32_163 : BitVec 32 := 1#32
  let v280 : BitVec 32 := Scalar.divsi v278 c1_i32_163
  let v281 : BitVec 32 := Scalar.muli v280 c1_i32_163
  let v282 : BitVec 32 := Scalar.addi c384_i32_161 v281
  let c1_i32_165 : BitVec 32 := 1#32
  let arg12 : BitVec 32 := Scf.iv v282 c1_i32_165 k0_t52
  let c64_i32_177 : BitVec 32 := 64#32
  let v305 : BitVec 32 := Scalar.subi arg12 c64_i32_177
  let c0_i32_185 : BitVec 32 := 0#32
  ![v305.toNat, 0]
def k0_off245 (d0 : Dev nD) (v10 : BitVec 32) (k0_t52 : Fin (k0_t52_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c384_i32_161 : BitVec 32 := 384#32
  let c512_i32 : BitVec 32 := 512#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c512_i32 v18
  let v278 : BitVec 32 := Scalar.subi v277 c384_i32_161
  let c1_i32_163 : BitVec 32 := 1#32
  let v280 : BitVec 32 := Scalar.divsi v278 c1_i32_163
  let v281 : BitVec 32 := Scalar.muli v280 c1_i32_163
  let v282 : BitVec 32 := Scalar.addi c384_i32_161 v281
  let c1_i32_165 : BitVec 32 := 1#32
  let arg12 : BitVec 32 := Scf.iv v282 c1_i32_165 k0_t52
  let v288 : BitVec 32 := Scalar.addi v17 arg12
  let v289 : Index := Scalar.indexCast v288
  ![v289.toNat]
def k0_off246 (d0 : Dev nD) (v10 : BitVec 32) (k0_t52 : Fin (k0_t52_loop d0 v10).trips) : Fin 1 → Nat :=
  let c384_i32_161 : BitVec 32 := 384#32
  let c512_i32 : BitVec 32 := 512#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c512_i32 v18
  let v278 : BitVec 32 := Scalar.subi v277 c384_i32_161
  let c1_i32_163 : BitVec 32 := 1#32
  let v280 : BitVec 32 := Scalar.divsi v278 c1_i32_163
  let v281 : BitVec 32 := Scalar.muli v280 c1_i32_163
  let v282 : BitVec 32 := Scalar.addi c384_i32_161 v281
  let c1_i32_165 : BitVec 32 := 1#32
  let arg12 : BitVec 32 := Scf.iv v282 c1_i32_165 k0_t52
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off247 (v290 : BitVec 32) : Fin 2 → Nat :=
  let c0_i32_174 : BitVec 32 := 0#32
  ![v290.toNat, 0]

def k0_chk63 (d0 : Dev nD) (v10 : BitVec 32) (v290 : BitVec 32) : Prop :=
  (∀ (k0_h32 : k0_cond32 d0 v10 = 1#1), ∀ a, (k0_off247 v290) a + S1x2048.size a ≤ S4096x2048.size a)
theorem k0_off247_inb : ∀ (d0 : Dev nD) (v10 : BitVec 32) (v290 : BitVec 32) (k0_hw63 : k0_chk63 d0 v10 v290), ∀ (k0_h32 : k0_cond32 d0 v10 = 1#1), ∀ a, (k0_off247 v290) a + S1x2048.size a ≤ S4096x2048.size a := fun d0 v10 v290 k0_hw63 k0_h32 => k0_hw63 k0_h32

def k0_off248 (d0 : Dev nD) (v10 : BitVec 32) (k0_t52 : Fin (k0_t52_loop d0 v10).trips) : Fin 2 → Nat :=
  let c384_i32_161 : BitVec 32 := 384#32
  let c512_i32 : BitVec 32 := 512#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c512_i32 v18
  let v278 : BitVec 32 := Scalar.subi v277 c384_i32_161
  let c1_i32_163 : BitVec 32 := 1#32
  let v280 : BitVec 32 := Scalar.divsi v278 c1_i32_163
  let v281 : BitVec 32 := Scalar.muli v280 c1_i32_163
  let v282 : BitVec 32 := Scalar.addi c384_i32_161 v281
  let c1_i32_165 : BitVec 32 := 1#32
  let arg12 : BitVec 32 := Scf.iv v282 c1_i32_165 k0_t52
  let c0_i32_175 : BitVec 32 := 0#32
  ![arg12.toNat, 0]
@[reducible] def k0_t53_loop (d0 : Dev nD) (v10 : BitVec 32) : Scf.Loop 32 :=
  let c512_i32_161 : BitVec 32 := 512#32
  let c640_i32 : BitVec 32 := 640#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c640_i32 v18
  let v278 : BitVec 32 := Scalar.subi v277 c512_i32_161
  let c1_i32_163 : BitVec 32 := 1#32
  let v280 : BitVec 32 := Scalar.divsi v278 c1_i32_163
  let v281 : BitVec 32 := Scalar.muli v280 c1_i32_163
  let v282 : BitVec 32 := Scalar.addi c512_i32_161 v281
  let c1_i32_164 : BitVec 32 := 1#32
  ⟨c512_i32_161, v282, c1_i32_164⟩
def k0_cond35 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c4_i32_74 : BitVec 32 := 4#32
  let v151 : BitVec 1 := Scalar.cmpi .sgt v56 c4_i32_74
  let v152 : BitVec 32 := Scalar.extui v151
  let c0_i32_75 : BitVec 32 := 0#32
  let v153 : BitVec 1 := Scalar.cmpi .ne v152 c0_i32_75
  v153

def k0_cond36 (d0 : Dev nD) (v10 : BitVec 32) (k0_t53 : Fin (k0_t53_loop d0 v10).trips) : BitVec 1 :=
  let c512_i32_161 : BitVec 32 := 512#32
  let c1_i32_164 : BitVec 32 := 1#32
  let arg12 : BitVec 32 := Scf.iv c512_i32_161 c1_i32_164 k0_t53
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off249 (d0 : Dev nD) (v10 : BitVec 32) (k0_t53 : Fin (k0_t53_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c512_i32_161 : BitVec 32 := 512#32
  let c1_i32_164 : BitVec 32 := 1#32
  let arg12 : BitVec 32 := Scf.iv c512_i32_161 c1_i32_164 k0_t53
  let c64_i32_177 : BitVec 32 := 64#32
  let v305 : BitVec 32 := Scalar.subi arg12 c64_i32_177
  let v306 : BitVec 32 := Scalar.addi v17 v305
  let v307 : Index := Scalar.indexCast v306
  ![v307.toNat]
def k0_off250 (d0 : Dev nD) (v10 : BitVec 32) (k0_t53 : Fin (k0_t53_loop d0 v10).trips) : Fin 1 → Nat :=
  let c512_i32_161 : BitVec 32 := 512#32
  let c1_i32_164 : BitVec 32 := 1#32
  let arg12 : BitVec 32 := Scf.iv c512_i32_161 c1_i32_164 k0_t53
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off251 (v308 : BitVec 32) : Fin 2 → Nat :=
  let c0_i32_184 : BitVec 32 := 0#32
  ![v308.toNat, 0]

def k0_chk64 (d0 : Dev nD) (v10 : BitVec 32) (k0_t53 : Fin (k0_t53_loop d0 v10).trips) (v308 : BitVec 32) : Prop :=
  (∀ (k0_h35 : k0_cond35 d0 v10 = 1#1), ∀ (k0_h36 : k0_cond36 d0 v10 k0_t53 = 1#1), ∀ a, (k0_off251 v308) a + S1x2048.size a ≤ S4096x2048.size a)
theorem k0_off251_inb : ∀ (d0 : Dev nD) (v10 : BitVec 32) (k0_t53 : Fin (k0_t53_loop d0 v10).trips) (v308 : BitVec 32) (k0_hw64 : k0_chk64 d0 v10 k0_t53 v308), ∀ (k0_h35 : k0_cond35 d0 v10 = 1#1), ∀ (k0_h36 : k0_cond36 d0 v10 k0_t53 = 1#1), ∀ a, (k0_off251 v308) a + S1x2048.size a ≤ S4096x2048.size a := fun d0 v10 k0_t53 v308 k0_hw64 k0_h35 k0_h36 => k0_hw64 k0_h35 k0_h36

def k0_off252 (d0 : Dev nD) (v10 : BitVec 32) (k0_t53 : Fin (k0_t53_loop d0 v10).trips) : Fin 2 → Nat :=
  let c512_i32_161 : BitVec 32 := 512#32
  let c1_i32_164 : BitVec 32 := 1#32
  let arg12 : BitVec 32 := Scf.iv c512_i32_161 c1_i32_164 k0_t53
  let c64_i32_177 : BitVec 32 := 64#32
  let v305 : BitVec 32 := Scalar.subi arg12 c64_i32_177
  let c0_i32_185 : BitVec 32 := 0#32
  ![v305.toNat, 0]
def k0_off253 (d0 : Dev nD) (v10 : BitVec 32) (k0_t53 : Fin (k0_t53_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c512_i32_161 : BitVec 32 := 512#32
  let c1_i32_164 : BitVec 32 := 1#32
  let arg12 : BitVec 32 := Scf.iv c512_i32_161 c1_i32_164 k0_t53
  let v288 : BitVec 32 := Scalar.addi v17 arg12
  let v289 : Index := Scalar.indexCast v288
  ![v289.toNat]
def k0_off254 (d0 : Dev nD) (v10 : BitVec 32) (k0_t53 : Fin (k0_t53_loop d0 v10).trips) : Fin 1 → Nat :=
  let c512_i32_161 : BitVec 32 := 512#32
  let c1_i32_164 : BitVec 32 := 1#32
  let arg12 : BitVec 32 := Scf.iv c512_i32_161 c1_i32_164 k0_t53
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off255 (v290 : BitVec 32) : Fin 2 → Nat :=
  let c0_i32_174 : BitVec 32 := 0#32
  ![v290.toNat, 0]

def k0_chk65 (d0 : Dev nD) (v10 : BitVec 32) (v290 : BitVec 32) : Prop :=
  (∀ (k0_h35 : k0_cond35 d0 v10 = 1#1), ∀ a, (k0_off255 v290) a + S1x2048.size a ≤ S4096x2048.size a)
theorem k0_off255_inb : ∀ (d0 : Dev nD) (v10 : BitVec 32) (v290 : BitVec 32) (k0_hw65 : k0_chk65 d0 v10 v290), ∀ (k0_h35 : k0_cond35 d0 v10 = 1#1), ∀ a, (k0_off255 v290) a + S1x2048.size a ≤ S4096x2048.size a := fun d0 v10 v290 k0_hw65 k0_h35 => k0_hw65 k0_h35

def k0_off256 (d0 : Dev nD) (v10 : BitVec 32) (k0_t53 : Fin (k0_t53_loop d0 v10).trips) : Fin 2 → Nat :=
  let c512_i32_161 : BitVec 32 := 512#32
  let c1_i32_164 : BitVec 32 := 1#32
  let arg12 : BitVec 32 := Scf.iv c512_i32_161 c1_i32_164 k0_t53
  let c0_i32_175 : BitVec 32 := 0#32
  ![arg12.toNat, 0]
@[reducible] def k0_t54_loop (d0 : Dev nD) (v10 : BitVec 32) : Scf.Loop 32 :=
  let c512_i32_161 : BitVec 32 := 512#32
  let c640_i32 : BitVec 32 := 640#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c640_i32 v18
  let v278 : BitVec 32 := Scalar.subi v277 c512_i32_161
  let c1_i32_163 : BitVec 32 := 1#32
  let v280 : BitVec 32 := Scalar.divsi v278 c1_i32_163
  let v281 : BitVec 32 := Scalar.muli v280 c1_i32_163
  let v282 : BitVec 32 := Scalar.addi c512_i32_161 v281
  let v279 : BitVec 32 := Scalar.addi c512_i32_161 v278
  let c1_i32_165 : BitVec 32 := 1#32
  ⟨v282, v279, c1_i32_165⟩
def k0_off257 (d0 : Dev nD) (v10 : BitVec 32) (k0_t54 : Fin (k0_t54_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c512_i32_161 : BitVec 32 := 512#32
  let c640_i32 : BitVec 32 := 640#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c640_i32 v18
  let v278 : BitVec 32 := Scalar.subi v277 c512_i32_161
  let c1_i32_163 : BitVec 32 := 1#32
  let v280 : BitVec 32 := Scalar.divsi v278 c1_i32_163
  let v281 : BitVec 32 := Scalar.muli v280 c1_i32_163
  let v282 : BitVec 32 := Scalar.addi c512_i32_161 v281
  let c1_i32_165 : BitVec 32 := 1#32
  let arg12 : BitVec 32 := Scf.iv v282 c1_i32_165 k0_t54
  let c64_i32_177 : BitVec 32 := 64#32
  let v305 : BitVec 32 := Scalar.subi arg12 c64_i32_177
  let v306 : BitVec 32 := Scalar.addi v17 v305
  let v307 : Index := Scalar.indexCast v306
  ![v307.toNat]
def k0_cond37 (d0 : Dev nD) (v10 : BitVec 32) (k0_t54 : Fin (k0_t54_loop d0 v10).trips) : BitVec 1 :=
  let c512_i32_161 : BitVec 32 := 512#32
  let c640_i32 : BitVec 32 := 640#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c640_i32 v18
  let v278 : BitVec 32 := Scalar.subi v277 c512_i32_161
  let c1_i32_163 : BitVec 32 := 1#32
  let v280 : BitVec 32 := Scalar.divsi v278 c1_i32_163
  let v281 : BitVec 32 := Scalar.muli v280 c1_i32_163
  let v282 : BitVec 32 := Scalar.addi c512_i32_161 v281
  let c1_i32_165 : BitVec 32 := 1#32
  let arg12 : BitVec 32 := Scf.iv v282 c1_i32_165 k0_t54
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off258 (d0 : Dev nD) (v10 : BitVec 32) (k0_t54 : Fin (k0_t54_loop d0 v10).trips) : Fin 1 → Nat :=
  let c512_i32_161 : BitVec 32 := 512#32
  let c640_i32 : BitVec 32 := 640#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c640_i32 v18
  let v278 : BitVec 32 := Scalar.subi v277 c512_i32_161
  let c1_i32_163 : BitVec 32 := 1#32
  let v280 : BitVec 32 := Scalar.divsi v278 c1_i32_163
  let v281 : BitVec 32 := Scalar.muli v280 c1_i32_163
  let v282 : BitVec 32 := Scalar.addi c512_i32_161 v281
  let c1_i32_165 : BitVec 32 := 1#32
  let arg12 : BitVec 32 := Scf.iv v282 c1_i32_165 k0_t54
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off259 (v308 : BitVec 32) : Fin 2 → Nat :=
  let c0_i32_184 : BitVec 32 := 0#32
  ![v308.toNat, 0]

def k0_chk66 (d0 : Dev nD) (v10 : BitVec 32) (k0_t54 : Fin (k0_t54_loop d0 v10).trips) (v308 : BitVec 32) : Prop :=
  (∀ (k0_h35 : k0_cond35 d0 v10 = 1#1), ∀ (k0_h37 : k0_cond37 d0 v10 k0_t54 = 1#1), ∀ a, (k0_off259 v308) a + S1x2048.size a ≤ S4096x2048.size a)
theorem k0_off259_inb : ∀ (d0 : Dev nD) (v10 : BitVec 32) (k0_t54 : Fin (k0_t54_loop d0 v10).trips) (v308 : BitVec 32) (k0_hw66 : k0_chk66 d0 v10 k0_t54 v308), ∀ (k0_h35 : k0_cond35 d0 v10 = 1#1), ∀ (k0_h37 : k0_cond37 d0 v10 k0_t54 = 1#1), ∀ a, (k0_off259 v308) a + S1x2048.size a ≤ S4096x2048.size a := fun d0 v10 k0_t54 v308 k0_hw66 k0_h35 k0_h37 => k0_hw66 k0_h35 k0_h37

def k0_off260 (d0 : Dev nD) (v10 : BitVec 32) (k0_t54 : Fin (k0_t54_loop d0 v10).trips) : Fin 2 → Nat :=
  let c512_i32_161 : BitVec 32 := 512#32
  let c640_i32 : BitVec 32 := 640#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c640_i32 v18
  let v278 : BitVec 32 := Scalar.subi v277 c512_i32_161
  let c1_i32_163 : BitVec 32 := 1#32
  let v280 : BitVec 32 := Scalar.divsi v278 c1_i32_163
  let v281 : BitVec 32 := Scalar.muli v280 c1_i32_163
  let v282 : BitVec 32 := Scalar.addi c512_i32_161 v281
  let c1_i32_165 : BitVec 32 := 1#32
  let arg12 : BitVec 32 := Scf.iv v282 c1_i32_165 k0_t54
  let c64_i32_177 : BitVec 32 := 64#32
  let v305 : BitVec 32 := Scalar.subi arg12 c64_i32_177
  let c0_i32_185 : BitVec 32 := 0#32
  ![v305.toNat, 0]
def k0_off261 (d0 : Dev nD) (v10 : BitVec 32) (k0_t54 : Fin (k0_t54_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c512_i32_161 : BitVec 32 := 512#32
  let c640_i32 : BitVec 32 := 640#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c640_i32 v18
  let v278 : BitVec 32 := Scalar.subi v277 c512_i32_161
  let c1_i32_163 : BitVec 32 := 1#32
  let v280 : BitVec 32 := Scalar.divsi v278 c1_i32_163
  let v281 : BitVec 32 := Scalar.muli v280 c1_i32_163
  let v282 : BitVec 32 := Scalar.addi c512_i32_161 v281
  let c1_i32_165 : BitVec 32 := 1#32
  let arg12 : BitVec 32 := Scf.iv v282 c1_i32_165 k0_t54
  let v288 : BitVec 32 := Scalar.addi v17 arg12
  let v289 : Index := Scalar.indexCast v288
  ![v289.toNat]
def k0_off262 (d0 : Dev nD) (v10 : BitVec 32) (k0_t54 : Fin (k0_t54_loop d0 v10).trips) : Fin 1 → Nat :=
  let c512_i32_161 : BitVec 32 := 512#32
  let c640_i32 : BitVec 32 := 640#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c640_i32 v18
  let v278 : BitVec 32 := Scalar.subi v277 c512_i32_161
  let c1_i32_163 : BitVec 32 := 1#32
  let v280 : BitVec 32 := Scalar.divsi v278 c1_i32_163
  let v281 : BitVec 32 := Scalar.muli v280 c1_i32_163
  let v282 : BitVec 32 := Scalar.addi c512_i32_161 v281
  let c1_i32_165 : BitVec 32 := 1#32
  let arg12 : BitVec 32 := Scf.iv v282 c1_i32_165 k0_t54
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off263 (v290 : BitVec 32) : Fin 2 → Nat :=
  let c0_i32_174 : BitVec 32 := 0#32
  ![v290.toNat, 0]

def k0_chk67 (d0 : Dev nD) (v10 : BitVec 32) (v290 : BitVec 32) : Prop :=
  (∀ (k0_h35 : k0_cond35 d0 v10 = 1#1), ∀ a, (k0_off263 v290) a + S1x2048.size a ≤ S4096x2048.size a)
theorem k0_off263_inb : ∀ (d0 : Dev nD) (v10 : BitVec 32) (v290 : BitVec 32) (k0_hw67 : k0_chk67 d0 v10 v290), ∀ (k0_h35 : k0_cond35 d0 v10 = 1#1), ∀ a, (k0_off263 v290) a + S1x2048.size a ≤ S4096x2048.size a := fun d0 v10 v290 k0_hw67 k0_h35 => k0_hw67 k0_h35

def k0_off264 (d0 : Dev nD) (v10 : BitVec 32) (k0_t54 : Fin (k0_t54_loop d0 v10).trips) : Fin 2 → Nat :=
  let c512_i32_161 : BitVec 32 := 512#32
  let c640_i32 : BitVec 32 := 640#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c640_i32 v18
  let v278 : BitVec 32 := Scalar.subi v277 c512_i32_161
  let c1_i32_163 : BitVec 32 := 1#32
  let v280 : BitVec 32 := Scalar.divsi v278 c1_i32_163
  let v281 : BitVec 32 := Scalar.muli v280 c1_i32_163
  let v282 : BitVec 32 := Scalar.addi c512_i32_161 v281
  let c1_i32_165 : BitVec 32 := 1#32
  let arg12 : BitVec 32 := Scf.iv v282 c1_i32_165 k0_t54
  let c0_i32_175 : BitVec 32 := 0#32
  ![arg12.toNat, 0]
@[reducible] def k0_t55_loop (d0 : Dev nD) (v10 : BitVec 32) : Scf.Loop 32 :=
  let c640_i32_161 : BitVec 32 := 640#32
  let c768_i32 : BitVec 32 := 768#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c768_i32 v18
  let v278 : BitVec 32 := Scalar.subi v277 c640_i32_161
  let c1_i32_163 : BitVec 32 := 1#32
  let v280 : BitVec 32 := Scalar.divsi v278 c1_i32_163
  let v281 : BitVec 32 := Scalar.muli v280 c1_i32_163
  let v282 : BitVec 32 := Scalar.addi c640_i32_161 v281
  let c1_i32_164 : BitVec 32 := 1#32
  ⟨c640_i32_161, v282, c1_i32_164⟩
def k0_cond38 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c5_i32_76 : BitVec 32 := 5#32
  let v154 : BitVec 1 := Scalar.cmpi .sgt v56 c5_i32_76
  let v155 : BitVec 32 := Scalar.extui v154
  let c0_i32_77 : BitVec 32 := 0#32
  let v156 : BitVec 1 := Scalar.cmpi .ne v155 c0_i32_77
  v156

def k0_cond39 (d0 : Dev nD) (v10 : BitVec 32) (k0_t55 : Fin (k0_t55_loop d0 v10).trips) : BitVec 1 :=
  let c640_i32_161 : BitVec 32 := 640#32
  let c1_i32_164 : BitVec 32 := 1#32
  let arg12 : BitVec 32 := Scf.iv c640_i32_161 c1_i32_164 k0_t55
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off265 (d0 : Dev nD) (v10 : BitVec 32) (k0_t55 : Fin (k0_t55_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c640_i32_161 : BitVec 32 := 640#32
  let c1_i32_164 : BitVec 32 := 1#32
  let arg12 : BitVec 32 := Scf.iv c640_i32_161 c1_i32_164 k0_t55
  let c64_i32_177 : BitVec 32 := 64#32
  let v305 : BitVec 32 := Scalar.subi arg12 c64_i32_177
  let v306 : BitVec 32 := Scalar.addi v17 v305
  let v307 : Index := Scalar.indexCast v306
  ![v307.toNat]
def k0_off266 (d0 : Dev nD) (v10 : BitVec 32) (k0_t55 : Fin (k0_t55_loop d0 v10).trips) : Fin 1 → Nat :=
  let c640_i32_161 : BitVec 32 := 640#32
  let c1_i32_164 : BitVec 32 := 1#32
  let arg12 : BitVec 32 := Scf.iv c640_i32_161 c1_i32_164 k0_t55
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off267 (v308 : BitVec 32) : Fin 2 → Nat :=
  let c0_i32_184 : BitVec 32 := 0#32
  ![v308.toNat, 0]

def k0_chk68 (d0 : Dev nD) (v10 : BitVec 32) (k0_t55 : Fin (k0_t55_loop d0 v10).trips) (v308 : BitVec 32) : Prop :=
  (∀ (k0_h38 : k0_cond38 d0 v10 = 1#1), ∀ (k0_h39 : k0_cond39 d0 v10 k0_t55 = 1#1), ∀ a, (k0_off267 v308) a + S1x2048.size a ≤ S4096x2048.size a)
theorem k0_off267_inb : ∀ (d0 : Dev nD) (v10 : BitVec 32) (k0_t55 : Fin (k0_t55_loop d0 v10).trips) (v308 : BitVec 32) (k0_hw68 : k0_chk68 d0 v10 k0_t55 v308), ∀ (k0_h38 : k0_cond38 d0 v10 = 1#1), ∀ (k0_h39 : k0_cond39 d0 v10 k0_t55 = 1#1), ∀ a, (k0_off267 v308) a + S1x2048.size a ≤ S4096x2048.size a := fun d0 v10 k0_t55 v308 k0_hw68 k0_h38 k0_h39 => k0_hw68 k0_h38 k0_h39

def k0_off268 (d0 : Dev nD) (v10 : BitVec 32) (k0_t55 : Fin (k0_t55_loop d0 v10).trips) : Fin 2 → Nat :=
  let c640_i32_161 : BitVec 32 := 640#32
  let c1_i32_164 : BitVec 32 := 1#32
  let arg12 : BitVec 32 := Scf.iv c640_i32_161 c1_i32_164 k0_t55
  let c64_i32_177 : BitVec 32 := 64#32
  let v305 : BitVec 32 := Scalar.subi arg12 c64_i32_177
  let c0_i32_185 : BitVec 32 := 0#32
  ![v305.toNat, 0]
def k0_off269 (d0 : Dev nD) (v10 : BitVec 32) (k0_t55 : Fin (k0_t55_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c640_i32_161 : BitVec 32 := 640#32
  let c1_i32_164 : BitVec 32 := 1#32
  let arg12 : BitVec 32 := Scf.iv c640_i32_161 c1_i32_164 k0_t55
  let v288 : BitVec 32 := Scalar.addi v17 arg12
  let v289 : Index := Scalar.indexCast v288
  ![v289.toNat]
def k0_off270 (d0 : Dev nD) (v10 : BitVec 32) (k0_t55 : Fin (k0_t55_loop d0 v10).trips) : Fin 1 → Nat :=
  let c640_i32_161 : BitVec 32 := 640#32
  let c1_i32_164 : BitVec 32 := 1#32
  let arg12 : BitVec 32 := Scf.iv c640_i32_161 c1_i32_164 k0_t55
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off271 (v290 : BitVec 32) : Fin 2 → Nat :=
  let c0_i32_174 : BitVec 32 := 0#32
  ![v290.toNat, 0]

def k0_chk69 (d0 : Dev nD) (v10 : BitVec 32) (v290 : BitVec 32) : Prop :=
  (∀ (k0_h38 : k0_cond38 d0 v10 = 1#1), ∀ a, (k0_off271 v290) a + S1x2048.size a ≤ S4096x2048.size a)
theorem k0_off271_inb : ∀ (d0 : Dev nD) (v10 : BitVec 32) (v290 : BitVec 32) (k0_hw69 : k0_chk69 d0 v10 v290), ∀ (k0_h38 : k0_cond38 d0 v10 = 1#1), ∀ a, (k0_off271 v290) a + S1x2048.size a ≤ S4096x2048.size a := fun d0 v10 v290 k0_hw69 k0_h38 => k0_hw69 k0_h38

def k0_off272 (d0 : Dev nD) (v10 : BitVec 32) (k0_t55 : Fin (k0_t55_loop d0 v10).trips) : Fin 2 → Nat :=
  let c640_i32_161 : BitVec 32 := 640#32
  let c1_i32_164 : BitVec 32 := 1#32
  let arg12 : BitVec 32 := Scf.iv c640_i32_161 c1_i32_164 k0_t55
  let c0_i32_175 : BitVec 32 := 0#32
  ![arg12.toNat, 0]
@[reducible] def k0_t56_loop (d0 : Dev nD) (v10 : BitVec 32) : Scf.Loop 32 :=
  let c640_i32_161 : BitVec 32 := 640#32
  let c768_i32 : BitVec 32 := 768#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c768_i32 v18
  let v278 : BitVec 32 := Scalar.subi v277 c640_i32_161
  let c1_i32_163 : BitVec 32 := 1#32
  let v280 : BitVec 32 := Scalar.divsi v278 c1_i32_163
  let v281 : BitVec 32 := Scalar.muli v280 c1_i32_163
  let v282 : BitVec 32 := Scalar.addi c640_i32_161 v281
  let v279 : BitVec 32 := Scalar.addi c640_i32_161 v278
  let c1_i32_165 : BitVec 32 := 1#32
  ⟨v282, v279, c1_i32_165⟩
def k0_off273 (d0 : Dev nD) (v10 : BitVec 32) (k0_t56 : Fin (k0_t56_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c640_i32_161 : BitVec 32 := 640#32
  let c768_i32 : BitVec 32 := 768#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c768_i32 v18
  let v278 : BitVec 32 := Scalar.subi v277 c640_i32_161
  let c1_i32_163 : BitVec 32 := 1#32
  let v280 : BitVec 32 := Scalar.divsi v278 c1_i32_163
  let v281 : BitVec 32 := Scalar.muli v280 c1_i32_163
  let v282 : BitVec 32 := Scalar.addi c640_i32_161 v281
  let c1_i32_165 : BitVec 32 := 1#32
  let arg12 : BitVec 32 := Scf.iv v282 c1_i32_165 k0_t56
  let c64_i32_177 : BitVec 32 := 64#32
  let v305 : BitVec 32 := Scalar.subi arg12 c64_i32_177
  let v306 : BitVec 32 := Scalar.addi v17 v305
  let v307 : Index := Scalar.indexCast v306
  ![v307.toNat]
def k0_cond40 (d0 : Dev nD) (v10 : BitVec 32) (k0_t56 : Fin (k0_t56_loop d0 v10).trips) : BitVec 1 :=
  let c640_i32_161 : BitVec 32 := 640#32
  let c768_i32 : BitVec 32 := 768#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c768_i32 v18
  let v278 : BitVec 32 := Scalar.subi v277 c640_i32_161
  let c1_i32_163 : BitVec 32 := 1#32
  let v280 : BitVec 32 := Scalar.divsi v278 c1_i32_163
  let v281 : BitVec 32 := Scalar.muli v280 c1_i32_163
  let v282 : BitVec 32 := Scalar.addi c640_i32_161 v281
  let c1_i32_165 : BitVec 32 := 1#32
  let arg12 : BitVec 32 := Scf.iv v282 c1_i32_165 k0_t56
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off274 (d0 : Dev nD) (v10 : BitVec 32) (k0_t56 : Fin (k0_t56_loop d0 v10).trips) : Fin 1 → Nat :=
  let c640_i32_161 : BitVec 32 := 640#32
  let c768_i32 : BitVec 32 := 768#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c768_i32 v18
  let v278 : BitVec 32 := Scalar.subi v277 c640_i32_161
  let c1_i32_163 : BitVec 32 := 1#32
  let v280 : BitVec 32 := Scalar.divsi v278 c1_i32_163
  let v281 : BitVec 32 := Scalar.muli v280 c1_i32_163
  let v282 : BitVec 32 := Scalar.addi c640_i32_161 v281
  let c1_i32_165 : BitVec 32 := 1#32
  let arg12 : BitVec 32 := Scf.iv v282 c1_i32_165 k0_t56
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off275 (v308 : BitVec 32) : Fin 2 → Nat :=
  let c0_i32_184 : BitVec 32 := 0#32
  ![v308.toNat, 0]

def k0_chk70 (d0 : Dev nD) (v10 : BitVec 32) (k0_t56 : Fin (k0_t56_loop d0 v10).trips) (v308 : BitVec 32) : Prop :=
  (∀ (k0_h38 : k0_cond38 d0 v10 = 1#1), ∀ (k0_h40 : k0_cond40 d0 v10 k0_t56 = 1#1), ∀ a, (k0_off275 v308) a + S1x2048.size a ≤ S4096x2048.size a)
theorem k0_off275_inb : ∀ (d0 : Dev nD) (v10 : BitVec 32) (k0_t56 : Fin (k0_t56_loop d0 v10).trips) (v308 : BitVec 32) (k0_hw70 : k0_chk70 d0 v10 k0_t56 v308), ∀ (k0_h38 : k0_cond38 d0 v10 = 1#1), ∀ (k0_h40 : k0_cond40 d0 v10 k0_t56 = 1#1), ∀ a, (k0_off275 v308) a + S1x2048.size a ≤ S4096x2048.size a := fun d0 v10 k0_t56 v308 k0_hw70 k0_h38 k0_h40 => k0_hw70 k0_h38 k0_h40

def k0_off276 (d0 : Dev nD) (v10 : BitVec 32) (k0_t56 : Fin (k0_t56_loop d0 v10).trips) : Fin 2 → Nat :=
  let c640_i32_161 : BitVec 32 := 640#32
  let c768_i32 : BitVec 32 := 768#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c768_i32 v18
  let v278 : BitVec 32 := Scalar.subi v277 c640_i32_161
  let c1_i32_163 : BitVec 32 := 1#32
  let v280 : BitVec 32 := Scalar.divsi v278 c1_i32_163
  let v281 : BitVec 32 := Scalar.muli v280 c1_i32_163
  let v282 : BitVec 32 := Scalar.addi c640_i32_161 v281
  let c1_i32_165 : BitVec 32 := 1#32
  let arg12 : BitVec 32 := Scf.iv v282 c1_i32_165 k0_t56
  let c64_i32_177 : BitVec 32 := 64#32
  let v305 : BitVec 32 := Scalar.subi arg12 c64_i32_177
  let c0_i32_185 : BitVec 32 := 0#32
  ![v305.toNat, 0]
def k0_off277 (d0 : Dev nD) (v10 : BitVec 32) (k0_t56 : Fin (k0_t56_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c640_i32_161 : BitVec 32 := 640#32
  let c768_i32 : BitVec 32 := 768#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c768_i32 v18
  let v278 : BitVec 32 := Scalar.subi v277 c640_i32_161
  let c1_i32_163 : BitVec 32 := 1#32
  let v280 : BitVec 32 := Scalar.divsi v278 c1_i32_163
  let v281 : BitVec 32 := Scalar.muli v280 c1_i32_163
  let v282 : BitVec 32 := Scalar.addi c640_i32_161 v281
  let c1_i32_165 : BitVec 32 := 1#32
  let arg12 : BitVec 32 := Scf.iv v282 c1_i32_165 k0_t56
  let v288 : BitVec 32 := Scalar.addi v17 arg12
  let v289 : Index := Scalar.indexCast v288
  ![v289.toNat]
def k0_off278 (d0 : Dev nD) (v10 : BitVec 32) (k0_t56 : Fin (k0_t56_loop d0 v10).trips) : Fin 1 → Nat :=
  let c640_i32_161 : BitVec 32 := 640#32
  let c768_i32 : BitVec 32 := 768#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c768_i32 v18
  let v278 : BitVec 32 := Scalar.subi v277 c640_i32_161
  let c1_i32_163 : BitVec 32 := 1#32
  let v280 : BitVec 32 := Scalar.divsi v278 c1_i32_163
  let v281 : BitVec 32 := Scalar.muli v280 c1_i32_163
  let v282 : BitVec 32 := Scalar.addi c640_i32_161 v281
  let c1_i32_165 : BitVec 32 := 1#32
  let arg12 : BitVec 32 := Scf.iv v282 c1_i32_165 k0_t56
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off279 (v290 : BitVec 32) : Fin 2 → Nat :=
  let c0_i32_174 : BitVec 32 := 0#32
  ![v290.toNat, 0]

def k0_chk71 (d0 : Dev nD) (v10 : BitVec 32) (v290 : BitVec 32) : Prop :=
  (∀ (k0_h38 : k0_cond38 d0 v10 = 1#1), ∀ a, (k0_off279 v290) a + S1x2048.size a ≤ S4096x2048.size a)
theorem k0_off279_inb : ∀ (d0 : Dev nD) (v10 : BitVec 32) (v290 : BitVec 32) (k0_hw71 : k0_chk71 d0 v10 v290), ∀ (k0_h38 : k0_cond38 d0 v10 = 1#1), ∀ a, (k0_off279 v290) a + S1x2048.size a ≤ S4096x2048.size a := fun d0 v10 v290 k0_hw71 k0_h38 => k0_hw71 k0_h38

def k0_off280 (d0 : Dev nD) (v10 : BitVec 32) (k0_t56 : Fin (k0_t56_loop d0 v10).trips) : Fin 2 → Nat :=
  let c640_i32_161 : BitVec 32 := 640#32
  let c768_i32 : BitVec 32 := 768#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c768_i32 v18
  let v278 : BitVec 32 := Scalar.subi v277 c640_i32_161
  let c1_i32_163 : BitVec 32 := 1#32
  let v280 : BitVec 32 := Scalar.divsi v278 c1_i32_163
  let v281 : BitVec 32 := Scalar.muli v280 c1_i32_163
  let v282 : BitVec 32 := Scalar.addi c640_i32_161 v281
  let c1_i32_165 : BitVec 32 := 1#32
  let arg12 : BitVec 32 := Scf.iv v282 c1_i32_165 k0_t56
  let c0_i32_175 : BitVec 32 := 0#32
  ![arg12.toNat, 0]
@[reducible] def k0_t57_loop (d0 : Dev nD) (v10 : BitVec 32) : Scf.Loop 32 :=
  let c768_i32_161 : BitVec 32 := 768#32
  let c896_i32 : BitVec 32 := 896#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c896_i32 v18
  let v278 : BitVec 32 := Scalar.subi v277 c768_i32_161
  let c1_i32_163 : BitVec 32 := 1#32
  let v280 : BitVec 32 := Scalar.divsi v278 c1_i32_163
  let v281 : BitVec 32 := Scalar.muli v280 c1_i32_163
  let v282 : BitVec 32 := Scalar.addi c768_i32_161 v281
  let c1_i32_164 : BitVec 32 := 1#32
  ⟨c768_i32_161, v282, c1_i32_164⟩
def k0_cond41 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c6_i32_78 : BitVec 32 := 6#32
  let v157 : BitVec 1 := Scalar.cmpi .sgt v56 c6_i32_78
  let v158 : BitVec 32 := Scalar.extui v157
  let c0_i32_79 : BitVec 32 := 0#32
  let v159 : BitVec 1 := Scalar.cmpi .ne v158 c0_i32_79
  v159

def k0_cond42 (d0 : Dev nD) (v10 : BitVec 32) (k0_t57 : Fin (k0_t57_loop d0 v10).trips) : BitVec 1 :=
  let c768_i32_161 : BitVec 32 := 768#32
  let c1_i32_164 : BitVec 32 := 1#32
  let arg12 : BitVec 32 := Scf.iv c768_i32_161 c1_i32_164 k0_t57
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off281 (d0 : Dev nD) (v10 : BitVec 32) (k0_t57 : Fin (k0_t57_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c768_i32_161 : BitVec 32 := 768#32
  let c1_i32_164 : BitVec 32 := 1#32
  let arg12 : BitVec 32 := Scf.iv c768_i32_161 c1_i32_164 k0_t57
  let c64_i32_177 : BitVec 32 := 64#32
  let v305 : BitVec 32 := Scalar.subi arg12 c64_i32_177
  let v306 : BitVec 32 := Scalar.addi v17 v305
  let v307 : Index := Scalar.indexCast v306
  ![v307.toNat]
def k0_off282 (d0 : Dev nD) (v10 : BitVec 32) (k0_t57 : Fin (k0_t57_loop d0 v10).trips) : Fin 1 → Nat :=
  let c768_i32_161 : BitVec 32 := 768#32
  let c1_i32_164 : BitVec 32 := 1#32
  let arg12 : BitVec 32 := Scf.iv c768_i32_161 c1_i32_164 k0_t57
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off283 (v308 : BitVec 32) : Fin 2 → Nat :=
  let c0_i32_184 : BitVec 32 := 0#32
  ![v308.toNat, 0]

def k0_chk72 (d0 : Dev nD) (v10 : BitVec 32) (k0_t57 : Fin (k0_t57_loop d0 v10).trips) (v308 : BitVec 32) : Prop :=
  (∀ (k0_h41 : k0_cond41 d0 v10 = 1#1), ∀ (k0_h42 : k0_cond42 d0 v10 k0_t57 = 1#1), ∀ a, (k0_off283 v308) a + S1x2048.size a ≤ S4096x2048.size a)
theorem k0_off283_inb : ∀ (d0 : Dev nD) (v10 : BitVec 32) (k0_t57 : Fin (k0_t57_loop d0 v10).trips) (v308 : BitVec 32) (k0_hw72 : k0_chk72 d0 v10 k0_t57 v308), ∀ (k0_h41 : k0_cond41 d0 v10 = 1#1), ∀ (k0_h42 : k0_cond42 d0 v10 k0_t57 = 1#1), ∀ a, (k0_off283 v308) a + S1x2048.size a ≤ S4096x2048.size a := fun d0 v10 k0_t57 v308 k0_hw72 k0_h41 k0_h42 => k0_hw72 k0_h41 k0_h42

def k0_off284 (d0 : Dev nD) (v10 : BitVec 32) (k0_t57 : Fin (k0_t57_loop d0 v10).trips) : Fin 2 → Nat :=
  let c768_i32_161 : BitVec 32 := 768#32
  let c1_i32_164 : BitVec 32 := 1#32
  let arg12 : BitVec 32 := Scf.iv c768_i32_161 c1_i32_164 k0_t57
  let c64_i32_177 : BitVec 32 := 64#32
  let v305 : BitVec 32 := Scalar.subi arg12 c64_i32_177
  let c0_i32_185 : BitVec 32 := 0#32
  ![v305.toNat, 0]
def k0_off285 (d0 : Dev nD) (v10 : BitVec 32) (k0_t57 : Fin (k0_t57_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c768_i32_161 : BitVec 32 := 768#32
  let c1_i32_164 : BitVec 32 := 1#32
  let arg12 : BitVec 32 := Scf.iv c768_i32_161 c1_i32_164 k0_t57
  let v288 : BitVec 32 := Scalar.addi v17 arg12
  let v289 : Index := Scalar.indexCast v288
  ![v289.toNat]
def k0_off286 (d0 : Dev nD) (v10 : BitVec 32) (k0_t57 : Fin (k0_t57_loop d0 v10).trips) : Fin 1 → Nat :=
  let c768_i32_161 : BitVec 32 := 768#32
  let c1_i32_164 : BitVec 32 := 1#32
  let arg12 : BitVec 32 := Scf.iv c768_i32_161 c1_i32_164 k0_t57
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off287 (v290 : BitVec 32) : Fin 2 → Nat :=
  let c0_i32_174 : BitVec 32 := 0#32
  ![v290.toNat, 0]

def k0_chk73 (d0 : Dev nD) (v10 : BitVec 32) (v290 : BitVec 32) : Prop :=
  (∀ (k0_h41 : k0_cond41 d0 v10 = 1#1), ∀ a, (k0_off287 v290) a + S1x2048.size a ≤ S4096x2048.size a)
theorem k0_off287_inb : ∀ (d0 : Dev nD) (v10 : BitVec 32) (v290 : BitVec 32) (k0_hw73 : k0_chk73 d0 v10 v290), ∀ (k0_h41 : k0_cond41 d0 v10 = 1#1), ∀ a, (k0_off287 v290) a + S1x2048.size a ≤ S4096x2048.size a := fun d0 v10 v290 k0_hw73 k0_h41 => k0_hw73 k0_h41

def k0_off288 (d0 : Dev nD) (v10 : BitVec 32) (k0_t57 : Fin (k0_t57_loop d0 v10).trips) : Fin 2 → Nat :=
  let c768_i32_161 : BitVec 32 := 768#32
  let c1_i32_164 : BitVec 32 := 1#32
  let arg12 : BitVec 32 := Scf.iv c768_i32_161 c1_i32_164 k0_t57
  let c0_i32_175 : BitVec 32 := 0#32
  ![arg12.toNat, 0]
@[reducible] def k0_t58_loop (d0 : Dev nD) (v10 : BitVec 32) : Scf.Loop 32 :=
  let c768_i32_161 : BitVec 32 := 768#32
  let c896_i32 : BitVec 32 := 896#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c896_i32 v18
  let v278 : BitVec 32 := Scalar.subi v277 c768_i32_161
  let c1_i32_163 : BitVec 32 := 1#32
  let v280 : BitVec 32 := Scalar.divsi v278 c1_i32_163
  let v281 : BitVec 32 := Scalar.muli v280 c1_i32_163
  let v282 : BitVec 32 := Scalar.addi c768_i32_161 v281
  let v279 : BitVec 32 := Scalar.addi c768_i32_161 v278
  let c1_i32_165 : BitVec 32 := 1#32
  ⟨v282, v279, c1_i32_165⟩
def k0_off289 (d0 : Dev nD) (v10 : BitVec 32) (k0_t58 : Fin (k0_t58_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c768_i32_161 : BitVec 32 := 768#32
  let c896_i32 : BitVec 32 := 896#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c896_i32 v18
  let v278 : BitVec 32 := Scalar.subi v277 c768_i32_161
  let c1_i32_163 : BitVec 32 := 1#32
  let v280 : BitVec 32 := Scalar.divsi v278 c1_i32_163
  let v281 : BitVec 32 := Scalar.muli v280 c1_i32_163
  let v282 : BitVec 32 := Scalar.addi c768_i32_161 v281
  let c1_i32_165 : BitVec 32 := 1#32
  let arg12 : BitVec 32 := Scf.iv v282 c1_i32_165 k0_t58
  let c64_i32_177 : BitVec 32 := 64#32
  let v305 : BitVec 32 := Scalar.subi arg12 c64_i32_177
  let v306 : BitVec 32 := Scalar.addi v17 v305
  let v307 : Index := Scalar.indexCast v306
  ![v307.toNat]
def k0_cond43 (d0 : Dev nD) (v10 : BitVec 32) (k0_t58 : Fin (k0_t58_loop d0 v10).trips) : BitVec 1 :=
  let c768_i32_161 : BitVec 32 := 768#32
  let c896_i32 : BitVec 32 := 896#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c896_i32 v18
  let v278 : BitVec 32 := Scalar.subi v277 c768_i32_161
  let c1_i32_163 : BitVec 32 := 1#32
  let v280 : BitVec 32 := Scalar.divsi v278 c1_i32_163
  let v281 : BitVec 32 := Scalar.muli v280 c1_i32_163
  let v282 : BitVec 32 := Scalar.addi c768_i32_161 v281
  let c1_i32_165 : BitVec 32 := 1#32
  let arg12 : BitVec 32 := Scf.iv v282 c1_i32_165 k0_t58
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off290 (d0 : Dev nD) (v10 : BitVec 32) (k0_t58 : Fin (k0_t58_loop d0 v10).trips) : Fin 1 → Nat :=
  let c768_i32_161 : BitVec 32 := 768#32
  let c896_i32 : BitVec 32 := 896#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c896_i32 v18
  let v278 : BitVec 32 := Scalar.subi v277 c768_i32_161
  let c1_i32_163 : BitVec 32 := 1#32
  let v280 : BitVec 32 := Scalar.divsi v278 c1_i32_163
  let v281 : BitVec 32 := Scalar.muli v280 c1_i32_163
  let v282 : BitVec 32 := Scalar.addi c768_i32_161 v281
  let c1_i32_165 : BitVec 32 := 1#32
  let arg12 : BitVec 32 := Scf.iv v282 c1_i32_165 k0_t58
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off291 (v308 : BitVec 32) : Fin 2 → Nat :=
  let c0_i32_184 : BitVec 32 := 0#32
  ![v308.toNat, 0]

def k0_chk74 (d0 : Dev nD) (v10 : BitVec 32) (k0_t58 : Fin (k0_t58_loop d0 v10).trips) (v308 : BitVec 32) : Prop :=
  (∀ (k0_h41 : k0_cond41 d0 v10 = 1#1), ∀ (k0_h43 : k0_cond43 d0 v10 k0_t58 = 1#1), ∀ a, (k0_off291 v308) a + S1x2048.size a ≤ S4096x2048.size a)
theorem k0_off291_inb : ∀ (d0 : Dev nD) (v10 : BitVec 32) (k0_t58 : Fin (k0_t58_loop d0 v10).trips) (v308 : BitVec 32) (k0_hw74 : k0_chk74 d0 v10 k0_t58 v308), ∀ (k0_h41 : k0_cond41 d0 v10 = 1#1), ∀ (k0_h43 : k0_cond43 d0 v10 k0_t58 = 1#1), ∀ a, (k0_off291 v308) a + S1x2048.size a ≤ S4096x2048.size a := fun d0 v10 k0_t58 v308 k0_hw74 k0_h41 k0_h43 => k0_hw74 k0_h41 k0_h43

def k0_off292 (d0 : Dev nD) (v10 : BitVec 32) (k0_t58 : Fin (k0_t58_loop d0 v10).trips) : Fin 2 → Nat :=
  let c768_i32_161 : BitVec 32 := 768#32
  let c896_i32 : BitVec 32 := 896#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c896_i32 v18
  let v278 : BitVec 32 := Scalar.subi v277 c768_i32_161
  let c1_i32_163 : BitVec 32 := 1#32
  let v280 : BitVec 32 := Scalar.divsi v278 c1_i32_163
  let v281 : BitVec 32 := Scalar.muli v280 c1_i32_163
  let v282 : BitVec 32 := Scalar.addi c768_i32_161 v281
  let c1_i32_165 : BitVec 32 := 1#32
  let arg12 : BitVec 32 := Scf.iv v282 c1_i32_165 k0_t58
  let c64_i32_177 : BitVec 32 := 64#32
  let v305 : BitVec 32 := Scalar.subi arg12 c64_i32_177
  let c0_i32_185 : BitVec 32 := 0#32
  ![v305.toNat, 0]
def k0_off293 (d0 : Dev nD) (v10 : BitVec 32) (k0_t58 : Fin (k0_t58_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c768_i32_161 : BitVec 32 := 768#32
  let c896_i32 : BitVec 32 := 896#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c896_i32 v18
  let v278 : BitVec 32 := Scalar.subi v277 c768_i32_161
  let c1_i32_163 : BitVec 32 := 1#32
  let v280 : BitVec 32 := Scalar.divsi v278 c1_i32_163
  let v281 : BitVec 32 := Scalar.muli v280 c1_i32_163
  let v282 : BitVec 32 := Scalar.addi c768_i32_161 v281
  let c1_i32_165 : BitVec 32 := 1#32
  let arg12 : BitVec 32 := Scf.iv v282 c1_i32_165 k0_t58
  let v288 : BitVec 32 := Scalar.addi v17 arg12
  let v289 : Index := Scalar.indexCast v288
  ![v289.toNat]
def k0_off294 (d0 : Dev nD) (v10 : BitVec 32) (k0_t58 : Fin (k0_t58_loop d0 v10).trips) : Fin 1 → Nat :=
  let c768_i32_161 : BitVec 32 := 768#32
  let c896_i32 : BitVec 32 := 896#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c896_i32 v18
  let v278 : BitVec 32 := Scalar.subi v277 c768_i32_161
  let c1_i32_163 : BitVec 32 := 1#32
  let v280 : BitVec 32 := Scalar.divsi v278 c1_i32_163
  let v281 : BitVec 32 := Scalar.muli v280 c1_i32_163
  let v282 : BitVec 32 := Scalar.addi c768_i32_161 v281
  let c1_i32_165 : BitVec 32 := 1#32
  let arg12 : BitVec 32 := Scf.iv v282 c1_i32_165 k0_t58
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off295 (v290 : BitVec 32) : Fin 2 → Nat :=
  let c0_i32_174 : BitVec 32 := 0#32
  ![v290.toNat, 0]

def k0_chk75 (d0 : Dev nD) (v10 : BitVec 32) (v290 : BitVec 32) : Prop :=
  (∀ (k0_h41 : k0_cond41 d0 v10 = 1#1), ∀ a, (k0_off295 v290) a + S1x2048.size a ≤ S4096x2048.size a)
theorem k0_off295_inb : ∀ (d0 : Dev nD) (v10 : BitVec 32) (v290 : BitVec 32) (k0_hw75 : k0_chk75 d0 v10 v290), ∀ (k0_h41 : k0_cond41 d0 v10 = 1#1), ∀ a, (k0_off295 v290) a + S1x2048.size a ≤ S4096x2048.size a := fun d0 v10 v290 k0_hw75 k0_h41 => k0_hw75 k0_h41

def k0_off296 (d0 : Dev nD) (v10 : BitVec 32) (k0_t58 : Fin (k0_t58_loop d0 v10).trips) : Fin 2 → Nat :=
  let c768_i32_161 : BitVec 32 := 768#32
  let c896_i32 : BitVec 32 := 896#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c896_i32 v18
  let v278 : BitVec 32 := Scalar.subi v277 c768_i32_161
  let c1_i32_163 : BitVec 32 := 1#32
  let v280 : BitVec 32 := Scalar.divsi v278 c1_i32_163
  let v281 : BitVec 32 := Scalar.muli v280 c1_i32_163
  let v282 : BitVec 32 := Scalar.addi c768_i32_161 v281
  let c1_i32_165 : BitVec 32 := 1#32
  let arg12 : BitVec 32 := Scf.iv v282 c1_i32_165 k0_t58
  let c0_i32_175 : BitVec 32 := 0#32
  ![arg12.toNat, 0]
@[reducible] def k0_t59_loop (d0 : Dev nD) (v10 : BitVec 32) : Scf.Loop 32 :=
  let c896_i32_161 : BitVec 32 := 896#32
  let c1024_i32 : BitVec 32 := 1024#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1024_i32 v18
  let v278 : BitVec 32 := Scalar.subi v277 c896_i32_161
  let c1_i32_163 : BitVec 32 := 1#32
  let v280 : BitVec 32 := Scalar.divsi v278 c1_i32_163
  let v281 : BitVec 32 := Scalar.muli v280 c1_i32_163
  let v282 : BitVec 32 := Scalar.addi c896_i32_161 v281
  let c1_i32_164 : BitVec 32 := 1#32
  ⟨c896_i32_161, v282, c1_i32_164⟩
def k0_cond44 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c7_i32_80 : BitVec 32 := 7#32
  let v160 : BitVec 1 := Scalar.cmpi .sgt v56 c7_i32_80
  let v161 : BitVec 32 := Scalar.extui v160
  let c0_i32_81 : BitVec 32 := 0#32
  let v162 : BitVec 1 := Scalar.cmpi .ne v161 c0_i32_81
  v162

def k0_cond45 (d0 : Dev nD) (v10 : BitVec 32) (k0_t59 : Fin (k0_t59_loop d0 v10).trips) : BitVec 1 :=
  let c896_i32_161 : BitVec 32 := 896#32
  let c1_i32_164 : BitVec 32 := 1#32
  let arg12 : BitVec 32 := Scf.iv c896_i32_161 c1_i32_164 k0_t59
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off297 (d0 : Dev nD) (v10 : BitVec 32) (k0_t59 : Fin (k0_t59_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c896_i32_161 : BitVec 32 := 896#32
  let c1_i32_164 : BitVec 32 := 1#32
  let arg12 : BitVec 32 := Scf.iv c896_i32_161 c1_i32_164 k0_t59
  let c64_i32_177 : BitVec 32 := 64#32
  let v305 : BitVec 32 := Scalar.subi arg12 c64_i32_177
  let v306 : BitVec 32 := Scalar.addi v17 v305
  let v307 : Index := Scalar.indexCast v306
  ![v307.toNat]
def k0_off298 (d0 : Dev nD) (v10 : BitVec 32) (k0_t59 : Fin (k0_t59_loop d0 v10).trips) : Fin 1 → Nat :=
  let c896_i32_161 : BitVec 32 := 896#32
  let c1_i32_164 : BitVec 32 := 1#32
  let arg12 : BitVec 32 := Scf.iv c896_i32_161 c1_i32_164 k0_t59
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off299 (v308 : BitVec 32) : Fin 2 → Nat :=
  let c0_i32_184 : BitVec 32 := 0#32
  ![v308.toNat, 0]

def k0_chk76 (d0 : Dev nD) (v10 : BitVec 32) (k0_t59 : Fin (k0_t59_loop d0 v10).trips) (v308 : BitVec 32) : Prop :=
  (∀ (k0_h44 : k0_cond44 d0 v10 = 1#1), ∀ (k0_h45 : k0_cond45 d0 v10 k0_t59 = 1#1), ∀ a, (k0_off299 v308) a + S1x2048.size a ≤ S4096x2048.size a)
theorem k0_off299_inb : ∀ (d0 : Dev nD) (v10 : BitVec 32) (k0_t59 : Fin (k0_t59_loop d0 v10).trips) (v308 : BitVec 32) (k0_hw76 : k0_chk76 d0 v10 k0_t59 v308), ∀ (k0_h44 : k0_cond44 d0 v10 = 1#1), ∀ (k0_h45 : k0_cond45 d0 v10 k0_t59 = 1#1), ∀ a, (k0_off299 v308) a + S1x2048.size a ≤ S4096x2048.size a := fun d0 v10 k0_t59 v308 k0_hw76 k0_h44 k0_h45 => k0_hw76 k0_h44 k0_h45

def k0_off300 (d0 : Dev nD) (v10 : BitVec 32) (k0_t59 : Fin (k0_t59_loop d0 v10).trips) : Fin 2 → Nat :=
  let c896_i32_161 : BitVec 32 := 896#32
  let c1_i32_164 : BitVec 32 := 1#32
  let arg12 : BitVec 32 := Scf.iv c896_i32_161 c1_i32_164 k0_t59
  let c64_i32_177 : BitVec 32 := 64#32
  let v305 : BitVec 32 := Scalar.subi arg12 c64_i32_177
  let c0_i32_185 : BitVec 32 := 0#32
  ![v305.toNat, 0]
def k0_off301 (d0 : Dev nD) (v10 : BitVec 32) (k0_t59 : Fin (k0_t59_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c896_i32_161 : BitVec 32 := 896#32
  let c1_i32_164 : BitVec 32 := 1#32
  let arg12 : BitVec 32 := Scf.iv c896_i32_161 c1_i32_164 k0_t59
  let v288 : BitVec 32 := Scalar.addi v17 arg12
  let v289 : Index := Scalar.indexCast v288
  ![v289.toNat]
def k0_off302 (d0 : Dev nD) (v10 : BitVec 32) (k0_t59 : Fin (k0_t59_loop d0 v10).trips) : Fin 1 → Nat :=
  let c896_i32_161 : BitVec 32 := 896#32
  let c1_i32_164 : BitVec 32 := 1#32
  let arg12 : BitVec 32 := Scf.iv c896_i32_161 c1_i32_164 k0_t59
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off303 (v290 : BitVec 32) : Fin 2 → Nat :=
  let c0_i32_174 : BitVec 32 := 0#32
  ![v290.toNat, 0]

def k0_chk77 (d0 : Dev nD) (v10 : BitVec 32) (v290 : BitVec 32) : Prop :=
  (∀ (k0_h44 : k0_cond44 d0 v10 = 1#1), ∀ a, (k0_off303 v290) a + S1x2048.size a ≤ S4096x2048.size a)
theorem k0_off303_inb : ∀ (d0 : Dev nD) (v10 : BitVec 32) (v290 : BitVec 32) (k0_hw77 : k0_chk77 d0 v10 v290), ∀ (k0_h44 : k0_cond44 d0 v10 = 1#1), ∀ a, (k0_off303 v290) a + S1x2048.size a ≤ S4096x2048.size a := fun d0 v10 v290 k0_hw77 k0_h44 => k0_hw77 k0_h44

def k0_off304 (d0 : Dev nD) (v10 : BitVec 32) (k0_t59 : Fin (k0_t59_loop d0 v10).trips) : Fin 2 → Nat :=
  let c896_i32_161 : BitVec 32 := 896#32
  let c1_i32_164 : BitVec 32 := 1#32
  let arg12 : BitVec 32 := Scf.iv c896_i32_161 c1_i32_164 k0_t59
  let c0_i32_175 : BitVec 32 := 0#32
  ![arg12.toNat, 0]
@[reducible] def k0_t60_loop (d0 : Dev nD) (v10 : BitVec 32) : Scf.Loop 32 :=
  let c896_i32_161 : BitVec 32 := 896#32
  let c1024_i32 : BitVec 32 := 1024#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1024_i32 v18
  let v278 : BitVec 32 := Scalar.subi v277 c896_i32_161
  let c1_i32_163 : BitVec 32 := 1#32
  let v280 : BitVec 32 := Scalar.divsi v278 c1_i32_163
  let v281 : BitVec 32 := Scalar.muli v280 c1_i32_163
  let v282 : BitVec 32 := Scalar.addi c896_i32_161 v281
  let v279 : BitVec 32 := Scalar.addi c896_i32_161 v278
  let c1_i32_165 : BitVec 32 := 1#32
  ⟨v282, v279, c1_i32_165⟩
def k0_off305 (d0 : Dev nD) (v10 : BitVec 32) (k0_t60 : Fin (k0_t60_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c896_i32_161 : BitVec 32 := 896#32
  let c1024_i32 : BitVec 32 := 1024#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1024_i32 v18
  let v278 : BitVec 32 := Scalar.subi v277 c896_i32_161
  let c1_i32_163 : BitVec 32 := 1#32
  let v280 : BitVec 32 := Scalar.divsi v278 c1_i32_163
  let v281 : BitVec 32 := Scalar.muli v280 c1_i32_163
  let v282 : BitVec 32 := Scalar.addi c896_i32_161 v281
  let c1_i32_165 : BitVec 32 := 1#32
  let arg12 : BitVec 32 := Scf.iv v282 c1_i32_165 k0_t60
  let c64_i32_177 : BitVec 32 := 64#32
  let v305 : BitVec 32 := Scalar.subi arg12 c64_i32_177
  let v306 : BitVec 32 := Scalar.addi v17 v305
  let v307 : Index := Scalar.indexCast v306
  ![v307.toNat]
def k0_cond46 (d0 : Dev nD) (v10 : BitVec 32) (k0_t60 : Fin (k0_t60_loop d0 v10).trips) : BitVec 1 :=
  let c896_i32_161 : BitVec 32 := 896#32
  let c1024_i32 : BitVec 32 := 1024#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1024_i32 v18
  let v278 : BitVec 32 := Scalar.subi v277 c896_i32_161
  let c1_i32_163 : BitVec 32 := 1#32
  let v280 : BitVec 32 := Scalar.divsi v278 c1_i32_163
  let v281 : BitVec 32 := Scalar.muli v280 c1_i32_163
  let v282 : BitVec 32 := Scalar.addi c896_i32_161 v281
  let c1_i32_165 : BitVec 32 := 1#32
  let arg12 : BitVec 32 := Scf.iv v282 c1_i32_165 k0_t60
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off306 (d0 : Dev nD) (v10 : BitVec 32) (k0_t60 : Fin (k0_t60_loop d0 v10).trips) : Fin 1 → Nat :=
  let c896_i32_161 : BitVec 32 := 896#32
  let c1024_i32 : BitVec 32 := 1024#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1024_i32 v18
  let v278 : BitVec 32 := Scalar.subi v277 c896_i32_161
  let c1_i32_163 : BitVec 32 := 1#32
  let v280 : BitVec 32 := Scalar.divsi v278 c1_i32_163
  let v281 : BitVec 32 := Scalar.muli v280 c1_i32_163
  let v282 : BitVec 32 := Scalar.addi c896_i32_161 v281
  let c1_i32_165 : BitVec 32 := 1#32
  let arg12 : BitVec 32 := Scf.iv v282 c1_i32_165 k0_t60
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off307 (v308 : BitVec 32) : Fin 2 → Nat :=
  let c0_i32_184 : BitVec 32 := 0#32
  ![v308.toNat, 0]

def k0_chk78 (d0 : Dev nD) (v10 : BitVec 32) (k0_t60 : Fin (k0_t60_loop d0 v10).trips) (v308 : BitVec 32) : Prop :=
  (∀ (k0_h44 : k0_cond44 d0 v10 = 1#1), ∀ (k0_h46 : k0_cond46 d0 v10 k0_t60 = 1#1), ∀ a, (k0_off307 v308) a + S1x2048.size a ≤ S4096x2048.size a)
theorem k0_off307_inb : ∀ (d0 : Dev nD) (v10 : BitVec 32) (k0_t60 : Fin (k0_t60_loop d0 v10).trips) (v308 : BitVec 32) (k0_hw78 : k0_chk78 d0 v10 k0_t60 v308), ∀ (k0_h44 : k0_cond44 d0 v10 = 1#1), ∀ (k0_h46 : k0_cond46 d0 v10 k0_t60 = 1#1), ∀ a, (k0_off307 v308) a + S1x2048.size a ≤ S4096x2048.size a := fun d0 v10 k0_t60 v308 k0_hw78 k0_h44 k0_h46 => k0_hw78 k0_h44 k0_h46

def k0_off308 (d0 : Dev nD) (v10 : BitVec 32) (k0_t60 : Fin (k0_t60_loop d0 v10).trips) : Fin 2 → Nat :=
  let c896_i32_161 : BitVec 32 := 896#32
  let c1024_i32 : BitVec 32 := 1024#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1024_i32 v18
  let v278 : BitVec 32 := Scalar.subi v277 c896_i32_161
  let c1_i32_163 : BitVec 32 := 1#32
  let v280 : BitVec 32 := Scalar.divsi v278 c1_i32_163
  let v281 : BitVec 32 := Scalar.muli v280 c1_i32_163
  let v282 : BitVec 32 := Scalar.addi c896_i32_161 v281
  let c1_i32_165 : BitVec 32 := 1#32
  let arg12 : BitVec 32 := Scf.iv v282 c1_i32_165 k0_t60
  let c64_i32_177 : BitVec 32 := 64#32
  let v305 : BitVec 32 := Scalar.subi arg12 c64_i32_177
  let c0_i32_185 : BitVec 32 := 0#32
  ![v305.toNat, 0]
def k0_off309 (d0 : Dev nD) (v10 : BitVec 32) (k0_t60 : Fin (k0_t60_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c896_i32_161 : BitVec 32 := 896#32
  let c1024_i32 : BitVec 32 := 1024#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1024_i32 v18
  let v278 : BitVec 32 := Scalar.subi v277 c896_i32_161
  let c1_i32_163 : BitVec 32 := 1#32
  let v280 : BitVec 32 := Scalar.divsi v278 c1_i32_163
  let v281 : BitVec 32 := Scalar.muli v280 c1_i32_163
  let v282 : BitVec 32 := Scalar.addi c896_i32_161 v281
  let c1_i32_165 : BitVec 32 := 1#32
  let arg12 : BitVec 32 := Scf.iv v282 c1_i32_165 k0_t60
  let v288 : BitVec 32 := Scalar.addi v17 arg12
  let v289 : Index := Scalar.indexCast v288
  ![v289.toNat]
def k0_off310 (d0 : Dev nD) (v10 : BitVec 32) (k0_t60 : Fin (k0_t60_loop d0 v10).trips) : Fin 1 → Nat :=
  let c896_i32_161 : BitVec 32 := 896#32
  let c1024_i32 : BitVec 32 := 1024#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1024_i32 v18
  let v278 : BitVec 32 := Scalar.subi v277 c896_i32_161
  let c1_i32_163 : BitVec 32 := 1#32
  let v280 : BitVec 32 := Scalar.divsi v278 c1_i32_163
  let v281 : BitVec 32 := Scalar.muli v280 c1_i32_163
  let v282 : BitVec 32 := Scalar.addi c896_i32_161 v281
  let c1_i32_165 : BitVec 32 := 1#32
  let arg12 : BitVec 32 := Scf.iv v282 c1_i32_165 k0_t60
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off311 (v290 : BitVec 32) : Fin 2 → Nat :=
  let c0_i32_174 : BitVec 32 := 0#32
  ![v290.toNat, 0]

def k0_chk79 (d0 : Dev nD) (v10 : BitVec 32) (v290 : BitVec 32) : Prop :=
  (∀ (k0_h44 : k0_cond44 d0 v10 = 1#1), ∀ a, (k0_off311 v290) a + S1x2048.size a ≤ S4096x2048.size a)
theorem k0_off311_inb : ∀ (d0 : Dev nD) (v10 : BitVec 32) (v290 : BitVec 32) (k0_hw79 : k0_chk79 d0 v10 v290), ∀ (k0_h44 : k0_cond44 d0 v10 = 1#1), ∀ a, (k0_off311 v290) a + S1x2048.size a ≤ S4096x2048.size a := fun d0 v10 v290 k0_hw79 k0_h44 => k0_hw79 k0_h44

def k0_off312 (d0 : Dev nD) (v10 : BitVec 32) (k0_t60 : Fin (k0_t60_loop d0 v10).trips) : Fin 2 → Nat :=
  let c896_i32_161 : BitVec 32 := 896#32
  let c1024_i32 : BitVec 32 := 1024#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1024_i32 v18
  let v278 : BitVec 32 := Scalar.subi v277 c896_i32_161
  let c1_i32_163 : BitVec 32 := 1#32
  let v280 : BitVec 32 := Scalar.divsi v278 c1_i32_163
  let v281 : BitVec 32 := Scalar.muli v280 c1_i32_163
  let v282 : BitVec 32 := Scalar.addi c896_i32_161 v281
  let c1_i32_165 : BitVec 32 := 1#32
  let arg12 : BitVec 32 := Scf.iv v282 c1_i32_165 k0_t60
  let c0_i32_175 : BitVec 32 := 0#32
  ![arg12.toNat, 0]
@[reducible] def k0_t61_loop (d0 : Dev nD) (v10 : BitVec 32) : Scf.Loop 32 :=
  let c1024_i32_161 : BitVec 32 := 1024#32
  let c1152_i32 : BitVec 32 := 1152#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1152_i32 v18
  let v278 : BitVec 32 := Scalar.subi v277 c1024_i32_161
  let c1_i32_163 : BitVec 32 := 1#32
  let v280 : BitVec 32 := Scalar.divsi v278 c1_i32_163
  let v281 : BitVec 32 := Scalar.muli v280 c1_i32_163
  let v282 : BitVec 32 := Scalar.addi c1024_i32_161 v281
  let c1_i32_164 : BitVec 32 := 1#32
  ⟨c1024_i32_161, v282, c1_i32_164⟩
def k0_cond47 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c8_i32_82 : BitVec 32 := 8#32
  let v163 : BitVec 1 := Scalar.cmpi .sgt v56 c8_i32_82
  let v164 : BitVec 32 := Scalar.extui v163
  let c0_i32_83 : BitVec 32 := 0#32
  let v165 : BitVec 1 := Scalar.cmpi .ne v164 c0_i32_83
  v165

def k0_cond48 (d0 : Dev nD) (v10 : BitVec 32) (k0_t61 : Fin (k0_t61_loop d0 v10).trips) : BitVec 1 :=
  let c1024_i32_161 : BitVec 32 := 1024#32
  let c1_i32_164 : BitVec 32 := 1#32
  let arg12 : BitVec 32 := Scf.iv c1024_i32_161 c1_i32_164 k0_t61
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off313 (d0 : Dev nD) (v10 : BitVec 32) (k0_t61 : Fin (k0_t61_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1024_i32_161 : BitVec 32 := 1024#32
  let c1_i32_164 : BitVec 32 := 1#32
  let arg12 : BitVec 32 := Scf.iv c1024_i32_161 c1_i32_164 k0_t61
  let c64_i32_177 : BitVec 32 := 64#32
  let v305 : BitVec 32 := Scalar.subi arg12 c64_i32_177
  let v306 : BitVec 32 := Scalar.addi v17 v305
  let v307 : Index := Scalar.indexCast v306
  ![v307.toNat]
def k0_off314 (d0 : Dev nD) (v10 : BitVec 32) (k0_t61 : Fin (k0_t61_loop d0 v10).trips) : Fin 1 → Nat :=
  let c1024_i32_161 : BitVec 32 := 1024#32
  let c1_i32_164 : BitVec 32 := 1#32
  let arg12 : BitVec 32 := Scf.iv c1024_i32_161 c1_i32_164 k0_t61
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off315 (v308 : BitVec 32) : Fin 2 → Nat :=
  let c0_i32_184 : BitVec 32 := 0#32
  ![v308.toNat, 0]

def k0_chk80 (d0 : Dev nD) (v10 : BitVec 32) (k0_t61 : Fin (k0_t61_loop d0 v10).trips) (v308 : BitVec 32) : Prop :=
  (∀ (k0_h47 : k0_cond47 d0 v10 = 1#1), ∀ (k0_h48 : k0_cond48 d0 v10 k0_t61 = 1#1), ∀ a, (k0_off315 v308) a + S1x2048.size a ≤ S4096x2048.size a)
theorem k0_off315_inb : ∀ (d0 : Dev nD) (v10 : BitVec 32) (k0_t61 : Fin (k0_t61_loop d0 v10).trips) (v308 : BitVec 32) (k0_hw80 : k0_chk80 d0 v10 k0_t61 v308), ∀ (k0_h47 : k0_cond47 d0 v10 = 1#1), ∀ (k0_h48 : k0_cond48 d0 v10 k0_t61 = 1#1), ∀ a, (k0_off315 v308) a + S1x2048.size a ≤ S4096x2048.size a := fun d0 v10 k0_t61 v308 k0_hw80 k0_h47 k0_h48 => k0_hw80 k0_h47 k0_h48

def k0_off316 (d0 : Dev nD) (v10 : BitVec 32) (k0_t61 : Fin (k0_t61_loop d0 v10).trips) : Fin 2 → Nat :=
  let c1024_i32_161 : BitVec 32 := 1024#32
  let c1_i32_164 : BitVec 32 := 1#32
  let arg12 : BitVec 32 := Scf.iv c1024_i32_161 c1_i32_164 k0_t61
  let c64_i32_177 : BitVec 32 := 64#32
  let v305 : BitVec 32 := Scalar.subi arg12 c64_i32_177
  let c0_i32_185 : BitVec 32 := 0#32
  ![v305.toNat, 0]
def k0_off317 (d0 : Dev nD) (v10 : BitVec 32) (k0_t61 : Fin (k0_t61_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1024_i32_161 : BitVec 32 := 1024#32
  let c1_i32_164 : BitVec 32 := 1#32
  let arg12 : BitVec 32 := Scf.iv c1024_i32_161 c1_i32_164 k0_t61
  let v288 : BitVec 32 := Scalar.addi v17 arg12
  let v289 : Index := Scalar.indexCast v288
  ![v289.toNat]
def k0_off318 (d0 : Dev nD) (v10 : BitVec 32) (k0_t61 : Fin (k0_t61_loop d0 v10).trips) : Fin 1 → Nat :=
  let c1024_i32_161 : BitVec 32 := 1024#32
  let c1_i32_164 : BitVec 32 := 1#32
  let arg12 : BitVec 32 := Scf.iv c1024_i32_161 c1_i32_164 k0_t61
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off319 (v290 : BitVec 32) : Fin 2 → Nat :=
  let c0_i32_174 : BitVec 32 := 0#32
  ![v290.toNat, 0]

def k0_chk81 (d0 : Dev nD) (v10 : BitVec 32) (v290 : BitVec 32) : Prop :=
  (∀ (k0_h47 : k0_cond47 d0 v10 = 1#1), ∀ a, (k0_off319 v290) a + S1x2048.size a ≤ S4096x2048.size a)
theorem k0_off319_inb : ∀ (d0 : Dev nD) (v10 : BitVec 32) (v290 : BitVec 32) (k0_hw81 : k0_chk81 d0 v10 v290), ∀ (k0_h47 : k0_cond47 d0 v10 = 1#1), ∀ a, (k0_off319 v290) a + S1x2048.size a ≤ S4096x2048.size a := fun d0 v10 v290 k0_hw81 k0_h47 => k0_hw81 k0_h47

def k0_off320 (d0 : Dev nD) (v10 : BitVec 32) (k0_t61 : Fin (k0_t61_loop d0 v10).trips) : Fin 2 → Nat :=
  let c1024_i32_161 : BitVec 32 := 1024#32
  let c1_i32_164 : BitVec 32 := 1#32
  let arg12 : BitVec 32 := Scf.iv c1024_i32_161 c1_i32_164 k0_t61
  let c0_i32_175 : BitVec 32 := 0#32
  ![arg12.toNat, 0]
@[reducible] def k0_t62_loop (d0 : Dev nD) (v10 : BitVec 32) : Scf.Loop 32 :=
  let c1024_i32_161 : BitVec 32 := 1024#32
  let c1152_i32 : BitVec 32 := 1152#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1152_i32 v18
  let v278 : BitVec 32 := Scalar.subi v277 c1024_i32_161
  let c1_i32_163 : BitVec 32 := 1#32
  let v280 : BitVec 32 := Scalar.divsi v278 c1_i32_163
  let v281 : BitVec 32 := Scalar.muli v280 c1_i32_163
  let v282 : BitVec 32 := Scalar.addi c1024_i32_161 v281
  let v279 : BitVec 32 := Scalar.addi c1024_i32_161 v278
  let c1_i32_165 : BitVec 32 := 1#32
  ⟨v282, v279, c1_i32_165⟩
def k0_off321 (d0 : Dev nD) (v10 : BitVec 32) (k0_t62 : Fin (k0_t62_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1024_i32_161 : BitVec 32 := 1024#32
  let c1152_i32 : BitVec 32 := 1152#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1152_i32 v18
  let v278 : BitVec 32 := Scalar.subi v277 c1024_i32_161
  let c1_i32_163 : BitVec 32 := 1#32
  let v280 : BitVec 32 := Scalar.divsi v278 c1_i32_163
  let v281 : BitVec 32 := Scalar.muli v280 c1_i32_163
  let v282 : BitVec 32 := Scalar.addi c1024_i32_161 v281
  let c1_i32_165 : BitVec 32 := 1#32
  let arg12 : BitVec 32 := Scf.iv v282 c1_i32_165 k0_t62
  let c64_i32_177 : BitVec 32 := 64#32
  let v305 : BitVec 32 := Scalar.subi arg12 c64_i32_177
  let v306 : BitVec 32 := Scalar.addi v17 v305
  let v307 : Index := Scalar.indexCast v306
  ![v307.toNat]
def k0_cond49 (d0 : Dev nD) (v10 : BitVec 32) (k0_t62 : Fin (k0_t62_loop d0 v10).trips) : BitVec 1 :=
  let c1024_i32_161 : BitVec 32 := 1024#32
  let c1152_i32 : BitVec 32 := 1152#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1152_i32 v18
  let v278 : BitVec 32 := Scalar.subi v277 c1024_i32_161
  let c1_i32_163 : BitVec 32 := 1#32
  let v280 : BitVec 32 := Scalar.divsi v278 c1_i32_163
  let v281 : BitVec 32 := Scalar.muli v280 c1_i32_163
  let v282 : BitVec 32 := Scalar.addi c1024_i32_161 v281
  let c1_i32_165 : BitVec 32 := 1#32
  let arg12 : BitVec 32 := Scf.iv v282 c1_i32_165 k0_t62
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off322 (d0 : Dev nD) (v10 : BitVec 32) (k0_t62 : Fin (k0_t62_loop d0 v10).trips) : Fin 1 → Nat :=
  let c1024_i32_161 : BitVec 32 := 1024#32
  let c1152_i32 : BitVec 32 := 1152#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1152_i32 v18
  let v278 : BitVec 32 := Scalar.subi v277 c1024_i32_161
  let c1_i32_163 : BitVec 32 := 1#32
  let v280 : BitVec 32 := Scalar.divsi v278 c1_i32_163
  let v281 : BitVec 32 := Scalar.muli v280 c1_i32_163
  let v282 : BitVec 32 := Scalar.addi c1024_i32_161 v281
  let c1_i32_165 : BitVec 32 := 1#32
  let arg12 : BitVec 32 := Scf.iv v282 c1_i32_165 k0_t62
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off323 (v308 : BitVec 32) : Fin 2 → Nat :=
  let c0_i32_184 : BitVec 32 := 0#32
  ![v308.toNat, 0]

def k0_chk82 (d0 : Dev nD) (v10 : BitVec 32) (k0_t62 : Fin (k0_t62_loop d0 v10).trips) (v308 : BitVec 32) : Prop :=
  (∀ (k0_h47 : k0_cond47 d0 v10 = 1#1), ∀ (k0_h49 : k0_cond49 d0 v10 k0_t62 = 1#1), ∀ a, (k0_off323 v308) a + S1x2048.size a ≤ S4096x2048.size a)
theorem k0_off323_inb : ∀ (d0 : Dev nD) (v10 : BitVec 32) (k0_t62 : Fin (k0_t62_loop d0 v10).trips) (v308 : BitVec 32) (k0_hw82 : k0_chk82 d0 v10 k0_t62 v308), ∀ (k0_h47 : k0_cond47 d0 v10 = 1#1), ∀ (k0_h49 : k0_cond49 d0 v10 k0_t62 = 1#1), ∀ a, (k0_off323 v308) a + S1x2048.size a ≤ S4096x2048.size a := fun d0 v10 k0_t62 v308 k0_hw82 k0_h47 k0_h49 => k0_hw82 k0_h47 k0_h49

def k0_off324 (d0 : Dev nD) (v10 : BitVec 32) (k0_t62 : Fin (k0_t62_loop d0 v10).trips) : Fin 2 → Nat :=
  let c1024_i32_161 : BitVec 32 := 1024#32
  let c1152_i32 : BitVec 32 := 1152#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1152_i32 v18
  let v278 : BitVec 32 := Scalar.subi v277 c1024_i32_161
  let c1_i32_163 : BitVec 32 := 1#32
  let v280 : BitVec 32 := Scalar.divsi v278 c1_i32_163
  let v281 : BitVec 32 := Scalar.muli v280 c1_i32_163
  let v282 : BitVec 32 := Scalar.addi c1024_i32_161 v281
  let c1_i32_165 : BitVec 32 := 1#32
  let arg12 : BitVec 32 := Scf.iv v282 c1_i32_165 k0_t62
  let c64_i32_177 : BitVec 32 := 64#32
  let v305 : BitVec 32 := Scalar.subi arg12 c64_i32_177
  let c0_i32_185 : BitVec 32 := 0#32
  ![v305.toNat, 0]
def k0_off325 (d0 : Dev nD) (v10 : BitVec 32) (k0_t62 : Fin (k0_t62_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1024_i32_161 : BitVec 32 := 1024#32
  let c1152_i32 : BitVec 32 := 1152#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1152_i32 v18
  let v278 : BitVec 32 := Scalar.subi v277 c1024_i32_161
  let c1_i32_163 : BitVec 32 := 1#32
  let v280 : BitVec 32 := Scalar.divsi v278 c1_i32_163
  let v281 : BitVec 32 := Scalar.muli v280 c1_i32_163
  let v282 : BitVec 32 := Scalar.addi c1024_i32_161 v281
  let c1_i32_165 : BitVec 32 := 1#32
  let arg12 : BitVec 32 := Scf.iv v282 c1_i32_165 k0_t62
  let v288 : BitVec 32 := Scalar.addi v17 arg12
  let v289 : Index := Scalar.indexCast v288
  ![v289.toNat]
def k0_off326 (d0 : Dev nD) (v10 : BitVec 32) (k0_t62 : Fin (k0_t62_loop d0 v10).trips) : Fin 1 → Nat :=
  let c1024_i32_161 : BitVec 32 := 1024#32
  let c1152_i32 : BitVec 32 := 1152#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1152_i32 v18
  let v278 : BitVec 32 := Scalar.subi v277 c1024_i32_161
  let c1_i32_163 : BitVec 32 := 1#32
  let v280 : BitVec 32 := Scalar.divsi v278 c1_i32_163
  let v281 : BitVec 32 := Scalar.muli v280 c1_i32_163
  let v282 : BitVec 32 := Scalar.addi c1024_i32_161 v281
  let c1_i32_165 : BitVec 32 := 1#32
  let arg12 : BitVec 32 := Scf.iv v282 c1_i32_165 k0_t62
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off327 (v290 : BitVec 32) : Fin 2 → Nat :=
  let c0_i32_174 : BitVec 32 := 0#32
  ![v290.toNat, 0]

def k0_chk83 (d0 : Dev nD) (v10 : BitVec 32) (v290 : BitVec 32) : Prop :=
  (∀ (k0_h47 : k0_cond47 d0 v10 = 1#1), ∀ a, (k0_off327 v290) a + S1x2048.size a ≤ S4096x2048.size a)
theorem k0_off327_inb : ∀ (d0 : Dev nD) (v10 : BitVec 32) (v290 : BitVec 32) (k0_hw83 : k0_chk83 d0 v10 v290), ∀ (k0_h47 : k0_cond47 d0 v10 = 1#1), ∀ a, (k0_off327 v290) a + S1x2048.size a ≤ S4096x2048.size a := fun d0 v10 v290 k0_hw83 k0_h47 => k0_hw83 k0_h47

def k0_off328 (d0 : Dev nD) (v10 : BitVec 32) (k0_t62 : Fin (k0_t62_loop d0 v10).trips) : Fin 2 → Nat :=
  let c1024_i32_161 : BitVec 32 := 1024#32
  let c1152_i32 : BitVec 32 := 1152#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1152_i32 v18
  let v278 : BitVec 32 := Scalar.subi v277 c1024_i32_161
  let c1_i32_163 : BitVec 32 := 1#32
  let v280 : BitVec 32 := Scalar.divsi v278 c1_i32_163
  let v281 : BitVec 32 := Scalar.muli v280 c1_i32_163
  let v282 : BitVec 32 := Scalar.addi c1024_i32_161 v281
  let c1_i32_165 : BitVec 32 := 1#32
  let arg12 : BitVec 32 := Scf.iv v282 c1_i32_165 k0_t62
  let c0_i32_175 : BitVec 32 := 0#32
  ![arg12.toNat, 0]
@[reducible] def k0_t63_loop (d0 : Dev nD) (v10 : BitVec 32) : Scf.Loop 32 :=
  let c1152_i32_161 : BitVec 32 := 1152#32
  let c1280_i32 : BitVec 32 := 1280#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1280_i32 v18
  let v278 : BitVec 32 := Scalar.subi v277 c1152_i32_161
  let c1_i32_163 : BitVec 32 := 1#32
  let v280 : BitVec 32 := Scalar.divsi v278 c1_i32_163
  let v281 : BitVec 32 := Scalar.muli v280 c1_i32_163
  let v282 : BitVec 32 := Scalar.addi c1152_i32_161 v281
  let c1_i32_164 : BitVec 32 := 1#32
  ⟨c1152_i32_161, v282, c1_i32_164⟩
def k0_cond50 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c9_i32_84 : BitVec 32 := 9#32
  let v166 : BitVec 1 := Scalar.cmpi .sgt v56 c9_i32_84
  let v167 : BitVec 32 := Scalar.extui v166
  let c0_i32_85 : BitVec 32 := 0#32
  let v168 : BitVec 1 := Scalar.cmpi .ne v167 c0_i32_85
  v168

def k0_cond51 (d0 : Dev nD) (v10 : BitVec 32) (k0_t63 : Fin (k0_t63_loop d0 v10).trips) : BitVec 1 :=
  let c1152_i32_161 : BitVec 32 := 1152#32
  let c1_i32_164 : BitVec 32 := 1#32
  let arg12 : BitVec 32 := Scf.iv c1152_i32_161 c1_i32_164 k0_t63
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off329 (d0 : Dev nD) (v10 : BitVec 32) (k0_t63 : Fin (k0_t63_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1152_i32_161 : BitVec 32 := 1152#32
  let c1_i32_164 : BitVec 32 := 1#32
  let arg12 : BitVec 32 := Scf.iv c1152_i32_161 c1_i32_164 k0_t63
  let c64_i32_177 : BitVec 32 := 64#32
  let v305 : BitVec 32 := Scalar.subi arg12 c64_i32_177
  let v306 : BitVec 32 := Scalar.addi v17 v305
  let v307 : Index := Scalar.indexCast v306
  ![v307.toNat]
def k0_off330 (d0 : Dev nD) (v10 : BitVec 32) (k0_t63 : Fin (k0_t63_loop d0 v10).trips) : Fin 1 → Nat :=
  let c1152_i32_161 : BitVec 32 := 1152#32
  let c1_i32_164 : BitVec 32 := 1#32
  let arg12 : BitVec 32 := Scf.iv c1152_i32_161 c1_i32_164 k0_t63
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off331 (v308 : BitVec 32) : Fin 2 → Nat :=
  let c0_i32_184 : BitVec 32 := 0#32
  ![v308.toNat, 0]

def k0_chk84 (d0 : Dev nD) (v10 : BitVec 32) (k0_t63 : Fin (k0_t63_loop d0 v10).trips) (v308 : BitVec 32) : Prop :=
  (∀ (k0_h50 : k0_cond50 d0 v10 = 1#1), ∀ (k0_h51 : k0_cond51 d0 v10 k0_t63 = 1#1), ∀ a, (k0_off331 v308) a + S1x2048.size a ≤ S4096x2048.size a)
theorem k0_off331_inb : ∀ (d0 : Dev nD) (v10 : BitVec 32) (k0_t63 : Fin (k0_t63_loop d0 v10).trips) (v308 : BitVec 32) (k0_hw84 : k0_chk84 d0 v10 k0_t63 v308), ∀ (k0_h50 : k0_cond50 d0 v10 = 1#1), ∀ (k0_h51 : k0_cond51 d0 v10 k0_t63 = 1#1), ∀ a, (k0_off331 v308) a + S1x2048.size a ≤ S4096x2048.size a := fun d0 v10 k0_t63 v308 k0_hw84 k0_h50 k0_h51 => k0_hw84 k0_h50 k0_h51

def k0_off332 (d0 : Dev nD) (v10 : BitVec 32) (k0_t63 : Fin (k0_t63_loop d0 v10).trips) : Fin 2 → Nat :=
  let c1152_i32_161 : BitVec 32 := 1152#32
  let c1_i32_164 : BitVec 32 := 1#32
  let arg12 : BitVec 32 := Scf.iv c1152_i32_161 c1_i32_164 k0_t63
  let c64_i32_177 : BitVec 32 := 64#32
  let v305 : BitVec 32 := Scalar.subi arg12 c64_i32_177
  let c0_i32_185 : BitVec 32 := 0#32
  ![v305.toNat, 0]
def k0_off333 (d0 : Dev nD) (v10 : BitVec 32) (k0_t63 : Fin (k0_t63_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1152_i32_161 : BitVec 32 := 1152#32
  let c1_i32_164 : BitVec 32 := 1#32
  let arg12 : BitVec 32 := Scf.iv c1152_i32_161 c1_i32_164 k0_t63
  let v288 : BitVec 32 := Scalar.addi v17 arg12
  let v289 : Index := Scalar.indexCast v288
  ![v289.toNat]
def k0_off334 (d0 : Dev nD) (v10 : BitVec 32) (k0_t63 : Fin (k0_t63_loop d0 v10).trips) : Fin 1 → Nat :=
  let c1152_i32_161 : BitVec 32 := 1152#32
  let c1_i32_164 : BitVec 32 := 1#32
  let arg12 : BitVec 32 := Scf.iv c1152_i32_161 c1_i32_164 k0_t63
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off335 (v290 : BitVec 32) : Fin 2 → Nat :=
  let c0_i32_174 : BitVec 32 := 0#32
  ![v290.toNat, 0]

def k0_chk85 (d0 : Dev nD) (v10 : BitVec 32) (v290 : BitVec 32) : Prop :=
  (∀ (k0_h50 : k0_cond50 d0 v10 = 1#1), ∀ a, (k0_off335 v290) a + S1x2048.size a ≤ S4096x2048.size a)
theorem k0_off335_inb : ∀ (d0 : Dev nD) (v10 : BitVec 32) (v290 : BitVec 32) (k0_hw85 : k0_chk85 d0 v10 v290), ∀ (k0_h50 : k0_cond50 d0 v10 = 1#1), ∀ a, (k0_off335 v290) a + S1x2048.size a ≤ S4096x2048.size a := fun d0 v10 v290 k0_hw85 k0_h50 => k0_hw85 k0_h50

def k0_off336 (d0 : Dev nD) (v10 : BitVec 32) (k0_t63 : Fin (k0_t63_loop d0 v10).trips) : Fin 2 → Nat :=
  let c1152_i32_161 : BitVec 32 := 1152#32
  let c1_i32_164 : BitVec 32 := 1#32
  let arg12 : BitVec 32 := Scf.iv c1152_i32_161 c1_i32_164 k0_t63
  let c0_i32_175 : BitVec 32 := 0#32
  ![arg12.toNat, 0]
@[reducible] def k0_t64_loop (d0 : Dev nD) (v10 : BitVec 32) : Scf.Loop 32 :=
  let c1152_i32_161 : BitVec 32 := 1152#32
  let c1280_i32 : BitVec 32 := 1280#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1280_i32 v18
  let v278 : BitVec 32 := Scalar.subi v277 c1152_i32_161
  let c1_i32_163 : BitVec 32 := 1#32
  let v280 : BitVec 32 := Scalar.divsi v278 c1_i32_163
  let v281 : BitVec 32 := Scalar.muli v280 c1_i32_163
  let v282 : BitVec 32 := Scalar.addi c1152_i32_161 v281
  let v279 : BitVec 32 := Scalar.addi c1152_i32_161 v278
  let c1_i32_165 : BitVec 32 := 1#32
  ⟨v282, v279, c1_i32_165⟩
def k0_off337 (d0 : Dev nD) (v10 : BitVec 32) (k0_t64 : Fin (k0_t64_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1152_i32_161 : BitVec 32 := 1152#32
  let c1280_i32 : BitVec 32 := 1280#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1280_i32 v18
  let v278 : BitVec 32 := Scalar.subi v277 c1152_i32_161
  let c1_i32_163 : BitVec 32 := 1#32
  let v280 : BitVec 32 := Scalar.divsi v278 c1_i32_163
  let v281 : BitVec 32 := Scalar.muli v280 c1_i32_163
  let v282 : BitVec 32 := Scalar.addi c1152_i32_161 v281
  let c1_i32_165 : BitVec 32 := 1#32
  let arg12 : BitVec 32 := Scf.iv v282 c1_i32_165 k0_t64
  let c64_i32_177 : BitVec 32 := 64#32
  let v305 : BitVec 32 := Scalar.subi arg12 c64_i32_177
  let v306 : BitVec 32 := Scalar.addi v17 v305
  let v307 : Index := Scalar.indexCast v306
  ![v307.toNat]
def k0_cond52 (d0 : Dev nD) (v10 : BitVec 32) (k0_t64 : Fin (k0_t64_loop d0 v10).trips) : BitVec 1 :=
  let c1152_i32_161 : BitVec 32 := 1152#32
  let c1280_i32 : BitVec 32 := 1280#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1280_i32 v18
  let v278 : BitVec 32 := Scalar.subi v277 c1152_i32_161
  let c1_i32_163 : BitVec 32 := 1#32
  let v280 : BitVec 32 := Scalar.divsi v278 c1_i32_163
  let v281 : BitVec 32 := Scalar.muli v280 c1_i32_163
  let v282 : BitVec 32 := Scalar.addi c1152_i32_161 v281
  let c1_i32_165 : BitVec 32 := 1#32
  let arg12 : BitVec 32 := Scf.iv v282 c1_i32_165 k0_t64
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off338 (d0 : Dev nD) (v10 : BitVec 32) (k0_t64 : Fin (k0_t64_loop d0 v10).trips) : Fin 1 → Nat :=
  let c1152_i32_161 : BitVec 32 := 1152#32
  let c1280_i32 : BitVec 32 := 1280#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1280_i32 v18
  let v278 : BitVec 32 := Scalar.subi v277 c1152_i32_161
  let c1_i32_163 : BitVec 32 := 1#32
  let v280 : BitVec 32 := Scalar.divsi v278 c1_i32_163
  let v281 : BitVec 32 := Scalar.muli v280 c1_i32_163
  let v282 : BitVec 32 := Scalar.addi c1152_i32_161 v281
  let c1_i32_165 : BitVec 32 := 1#32
  let arg12 : BitVec 32 := Scf.iv v282 c1_i32_165 k0_t64
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off339 (v308 : BitVec 32) : Fin 2 → Nat :=
  let c0_i32_184 : BitVec 32 := 0#32
  ![v308.toNat, 0]

def k0_chk86 (d0 : Dev nD) (v10 : BitVec 32) (k0_t64 : Fin (k0_t64_loop d0 v10).trips) (v308 : BitVec 32) : Prop :=
  (∀ (k0_h50 : k0_cond50 d0 v10 = 1#1), ∀ (k0_h52 : k0_cond52 d0 v10 k0_t64 = 1#1), ∀ a, (k0_off339 v308) a + S1x2048.size a ≤ S4096x2048.size a)
theorem k0_off339_inb : ∀ (d0 : Dev nD) (v10 : BitVec 32) (k0_t64 : Fin (k0_t64_loop d0 v10).trips) (v308 : BitVec 32) (k0_hw86 : k0_chk86 d0 v10 k0_t64 v308), ∀ (k0_h50 : k0_cond50 d0 v10 = 1#1), ∀ (k0_h52 : k0_cond52 d0 v10 k0_t64 = 1#1), ∀ a, (k0_off339 v308) a + S1x2048.size a ≤ S4096x2048.size a := fun d0 v10 k0_t64 v308 k0_hw86 k0_h50 k0_h52 => k0_hw86 k0_h50 k0_h52

def k0_off340 (d0 : Dev nD) (v10 : BitVec 32) (k0_t64 : Fin (k0_t64_loop d0 v10).trips) : Fin 2 → Nat :=
  let c1152_i32_161 : BitVec 32 := 1152#32
  let c1280_i32 : BitVec 32 := 1280#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1280_i32 v18
  let v278 : BitVec 32 := Scalar.subi v277 c1152_i32_161
  let c1_i32_163 : BitVec 32 := 1#32
  let v280 : BitVec 32 := Scalar.divsi v278 c1_i32_163
  let v281 : BitVec 32 := Scalar.muli v280 c1_i32_163
  let v282 : BitVec 32 := Scalar.addi c1152_i32_161 v281
  let c1_i32_165 : BitVec 32 := 1#32
  let arg12 : BitVec 32 := Scf.iv v282 c1_i32_165 k0_t64
  let c64_i32_177 : BitVec 32 := 64#32
  let v305 : BitVec 32 := Scalar.subi arg12 c64_i32_177
  let c0_i32_185 : BitVec 32 := 0#32
  ![v305.toNat, 0]
def k0_off341 (d0 : Dev nD) (v10 : BitVec 32) (k0_t64 : Fin (k0_t64_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1152_i32_161 : BitVec 32 := 1152#32
  let c1280_i32 : BitVec 32 := 1280#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1280_i32 v18
  let v278 : BitVec 32 := Scalar.subi v277 c1152_i32_161
  let c1_i32_163 : BitVec 32 := 1#32
  let v280 : BitVec 32 := Scalar.divsi v278 c1_i32_163
  let v281 : BitVec 32 := Scalar.muli v280 c1_i32_163
  let v282 : BitVec 32 := Scalar.addi c1152_i32_161 v281
  let c1_i32_165 : BitVec 32 := 1#32
  let arg12 : BitVec 32 := Scf.iv v282 c1_i32_165 k0_t64
  let v288 : BitVec 32 := Scalar.addi v17 arg12
  let v289 : Index := Scalar.indexCast v288
  ![v289.toNat]
def k0_off342 (d0 : Dev nD) (v10 : BitVec 32) (k0_t64 : Fin (k0_t64_loop d0 v10).trips) : Fin 1 → Nat :=
  let c1152_i32_161 : BitVec 32 := 1152#32
  let c1280_i32 : BitVec 32 := 1280#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1280_i32 v18
  let v278 : BitVec 32 := Scalar.subi v277 c1152_i32_161
  let c1_i32_163 : BitVec 32 := 1#32
  let v280 : BitVec 32 := Scalar.divsi v278 c1_i32_163
  let v281 : BitVec 32 := Scalar.muli v280 c1_i32_163
  let v282 : BitVec 32 := Scalar.addi c1152_i32_161 v281
  let c1_i32_165 : BitVec 32 := 1#32
  let arg12 : BitVec 32 := Scf.iv v282 c1_i32_165 k0_t64
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off343 (v290 : BitVec 32) : Fin 2 → Nat :=
  let c0_i32_174 : BitVec 32 := 0#32
  ![v290.toNat, 0]

def k0_chk87 (d0 : Dev nD) (v10 : BitVec 32) (v290 : BitVec 32) : Prop :=
  (∀ (k0_h50 : k0_cond50 d0 v10 = 1#1), ∀ a, (k0_off343 v290) a + S1x2048.size a ≤ S4096x2048.size a)
theorem k0_off343_inb : ∀ (d0 : Dev nD) (v10 : BitVec 32) (v290 : BitVec 32) (k0_hw87 : k0_chk87 d0 v10 v290), ∀ (k0_h50 : k0_cond50 d0 v10 = 1#1), ∀ a, (k0_off343 v290) a + S1x2048.size a ≤ S4096x2048.size a := fun d0 v10 v290 k0_hw87 k0_h50 => k0_hw87 k0_h50

def k0_off344 (d0 : Dev nD) (v10 : BitVec 32) (k0_t64 : Fin (k0_t64_loop d0 v10).trips) : Fin 2 → Nat :=
  let c1152_i32_161 : BitVec 32 := 1152#32
  let c1280_i32 : BitVec 32 := 1280#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1280_i32 v18
  let v278 : BitVec 32 := Scalar.subi v277 c1152_i32_161
  let c1_i32_163 : BitVec 32 := 1#32
  let v280 : BitVec 32 := Scalar.divsi v278 c1_i32_163
  let v281 : BitVec 32 := Scalar.muli v280 c1_i32_163
  let v282 : BitVec 32 := Scalar.addi c1152_i32_161 v281
  let c1_i32_165 : BitVec 32 := 1#32
  let arg12 : BitVec 32 := Scf.iv v282 c1_i32_165 k0_t64
  let c0_i32_175 : BitVec 32 := 0#32
  ![arg12.toNat, 0]
@[reducible] def k0_t65_loop (d0 : Dev nD) (v10 : BitVec 32) : Scf.Loop 32 :=
  let c1280_i32_161 : BitVec 32 := 1280#32
  let c1408_i32 : BitVec 32 := 1408#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1408_i32 v18
  let v278 : BitVec 32 := Scalar.subi v277 c1280_i32_161
  let c1_i32_163 : BitVec 32 := 1#32
  let v280 : BitVec 32 := Scalar.divsi v278 c1_i32_163
  let v281 : BitVec 32 := Scalar.muli v280 c1_i32_163
  let v282 : BitVec 32 := Scalar.addi c1280_i32_161 v281
  let c1_i32_164 : BitVec 32 := 1#32
  ⟨c1280_i32_161, v282, c1_i32_164⟩
def k0_cond53 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c10_i32_86 : BitVec 32 := 10#32
  let v169 : BitVec 1 := Scalar.cmpi .sgt v56 c10_i32_86
  let v170 : BitVec 32 := Scalar.extui v169
  let c0_i32_87 : BitVec 32 := 0#32
  let v171 : BitVec 1 := Scalar.cmpi .ne v170 c0_i32_87
  v171

def k0_cond54 (d0 : Dev nD) (v10 : BitVec 32) (k0_t65 : Fin (k0_t65_loop d0 v10).trips) : BitVec 1 :=
  let c1280_i32_161 : BitVec 32 := 1280#32
  let c1_i32_164 : BitVec 32 := 1#32
  let arg12 : BitVec 32 := Scf.iv c1280_i32_161 c1_i32_164 k0_t65
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off345 (d0 : Dev nD) (v10 : BitVec 32) (k0_t65 : Fin (k0_t65_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1280_i32_161 : BitVec 32 := 1280#32
  let c1_i32_164 : BitVec 32 := 1#32
  let arg12 : BitVec 32 := Scf.iv c1280_i32_161 c1_i32_164 k0_t65
  let c64_i32_177 : BitVec 32 := 64#32
  let v305 : BitVec 32 := Scalar.subi arg12 c64_i32_177
  let v306 : BitVec 32 := Scalar.addi v17 v305
  let v307 : Index := Scalar.indexCast v306
  ![v307.toNat]
def k0_off346 (d0 : Dev nD) (v10 : BitVec 32) (k0_t65 : Fin (k0_t65_loop d0 v10).trips) : Fin 1 → Nat :=
  let c1280_i32_161 : BitVec 32 := 1280#32
  let c1_i32_164 : BitVec 32 := 1#32
  let arg12 : BitVec 32 := Scf.iv c1280_i32_161 c1_i32_164 k0_t65
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off347 (v308 : BitVec 32) : Fin 2 → Nat :=
  let c0_i32_184 : BitVec 32 := 0#32
  ![v308.toNat, 0]

def k0_chk88 (d0 : Dev nD) (v10 : BitVec 32) (k0_t65 : Fin (k0_t65_loop d0 v10).trips) (v308 : BitVec 32) : Prop :=
  (∀ (k0_h53 : k0_cond53 d0 v10 = 1#1), ∀ (k0_h54 : k0_cond54 d0 v10 k0_t65 = 1#1), ∀ a, (k0_off347 v308) a + S1x2048.size a ≤ S4096x2048.size a)
theorem k0_off347_inb : ∀ (d0 : Dev nD) (v10 : BitVec 32) (k0_t65 : Fin (k0_t65_loop d0 v10).trips) (v308 : BitVec 32) (k0_hw88 : k0_chk88 d0 v10 k0_t65 v308), ∀ (k0_h53 : k0_cond53 d0 v10 = 1#1), ∀ (k0_h54 : k0_cond54 d0 v10 k0_t65 = 1#1), ∀ a, (k0_off347 v308) a + S1x2048.size a ≤ S4096x2048.size a := fun d0 v10 k0_t65 v308 k0_hw88 k0_h53 k0_h54 => k0_hw88 k0_h53 k0_h54

def k0_off348 (d0 : Dev nD) (v10 : BitVec 32) (k0_t65 : Fin (k0_t65_loop d0 v10).trips) : Fin 2 → Nat :=
  let c1280_i32_161 : BitVec 32 := 1280#32
  let c1_i32_164 : BitVec 32 := 1#32
  let arg12 : BitVec 32 := Scf.iv c1280_i32_161 c1_i32_164 k0_t65
  let c64_i32_177 : BitVec 32 := 64#32
  let v305 : BitVec 32 := Scalar.subi arg12 c64_i32_177
  let c0_i32_185 : BitVec 32 := 0#32
  ![v305.toNat, 0]
def k0_off349 (d0 : Dev nD) (v10 : BitVec 32) (k0_t65 : Fin (k0_t65_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1280_i32_161 : BitVec 32 := 1280#32
  let c1_i32_164 : BitVec 32 := 1#32
  let arg12 : BitVec 32 := Scf.iv c1280_i32_161 c1_i32_164 k0_t65
  let v288 : BitVec 32 := Scalar.addi v17 arg12
  let v289 : Index := Scalar.indexCast v288
  ![v289.toNat]
def k0_off350 (d0 : Dev nD) (v10 : BitVec 32) (k0_t65 : Fin (k0_t65_loop d0 v10).trips) : Fin 1 → Nat :=
  let c1280_i32_161 : BitVec 32 := 1280#32
  let c1_i32_164 : BitVec 32 := 1#32
  let arg12 : BitVec 32 := Scf.iv c1280_i32_161 c1_i32_164 k0_t65
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off351 (v290 : BitVec 32) : Fin 2 → Nat :=
  let c0_i32_174 : BitVec 32 := 0#32
  ![v290.toNat, 0]

def k0_chk89 (d0 : Dev nD) (v10 : BitVec 32) (v290 : BitVec 32) : Prop :=
  (∀ (k0_h53 : k0_cond53 d0 v10 = 1#1), ∀ a, (k0_off351 v290) a + S1x2048.size a ≤ S4096x2048.size a)
theorem k0_off351_inb : ∀ (d0 : Dev nD) (v10 : BitVec 32) (v290 : BitVec 32) (k0_hw89 : k0_chk89 d0 v10 v290), ∀ (k0_h53 : k0_cond53 d0 v10 = 1#1), ∀ a, (k0_off351 v290) a + S1x2048.size a ≤ S4096x2048.size a := fun d0 v10 v290 k0_hw89 k0_h53 => k0_hw89 k0_h53

def k0_off352 (d0 : Dev nD) (v10 : BitVec 32) (k0_t65 : Fin (k0_t65_loop d0 v10).trips) : Fin 2 → Nat :=
  let c1280_i32_161 : BitVec 32 := 1280#32
  let c1_i32_164 : BitVec 32 := 1#32
  let arg12 : BitVec 32 := Scf.iv c1280_i32_161 c1_i32_164 k0_t65
  let c0_i32_175 : BitVec 32 := 0#32
  ![arg12.toNat, 0]
@[reducible] def k0_t66_loop (d0 : Dev nD) (v10 : BitVec 32) : Scf.Loop 32 :=
  let c1280_i32_161 : BitVec 32 := 1280#32
  let c1408_i32 : BitVec 32 := 1408#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1408_i32 v18
  let v278 : BitVec 32 := Scalar.subi v277 c1280_i32_161
  let c1_i32_163 : BitVec 32 := 1#32
  let v280 : BitVec 32 := Scalar.divsi v278 c1_i32_163
  let v281 : BitVec 32 := Scalar.muli v280 c1_i32_163
  let v282 : BitVec 32 := Scalar.addi c1280_i32_161 v281
  let v279 : BitVec 32 := Scalar.addi c1280_i32_161 v278
  let c1_i32_165 : BitVec 32 := 1#32
  ⟨v282, v279, c1_i32_165⟩
def k0_off353 (d0 : Dev nD) (v10 : BitVec 32) (k0_t66 : Fin (k0_t66_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1280_i32_161 : BitVec 32 := 1280#32
  let c1408_i32 : BitVec 32 := 1408#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1408_i32 v18
  let v278 : BitVec 32 := Scalar.subi v277 c1280_i32_161
  let c1_i32_163 : BitVec 32 := 1#32
  let v280 : BitVec 32 := Scalar.divsi v278 c1_i32_163
  let v281 : BitVec 32 := Scalar.muli v280 c1_i32_163
  let v282 : BitVec 32 := Scalar.addi c1280_i32_161 v281
  let c1_i32_165 : BitVec 32 := 1#32
  let arg12 : BitVec 32 := Scf.iv v282 c1_i32_165 k0_t66
  let c64_i32_177 : BitVec 32 := 64#32
  let v305 : BitVec 32 := Scalar.subi arg12 c64_i32_177
  let v306 : BitVec 32 := Scalar.addi v17 v305
  let v307 : Index := Scalar.indexCast v306
  ![v307.toNat]
def k0_cond55 (d0 : Dev nD) (v10 : BitVec 32) (k0_t66 : Fin (k0_t66_loop d0 v10).trips) : BitVec 1 :=
  let c1280_i32_161 : BitVec 32 := 1280#32
  let c1408_i32 : BitVec 32 := 1408#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1408_i32 v18
  let v278 : BitVec 32 := Scalar.subi v277 c1280_i32_161
  let c1_i32_163 : BitVec 32 := 1#32
  let v280 : BitVec 32 := Scalar.divsi v278 c1_i32_163
  let v281 : BitVec 32 := Scalar.muli v280 c1_i32_163
  let v282 : BitVec 32 := Scalar.addi c1280_i32_161 v281
  let c1_i32_165 : BitVec 32 := 1#32
  let arg12 : BitVec 32 := Scf.iv v282 c1_i32_165 k0_t66
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off354 (d0 : Dev nD) (v10 : BitVec 32) (k0_t66 : Fin (k0_t66_loop d0 v10).trips) : Fin 1 → Nat :=
  let c1280_i32_161 : BitVec 32 := 1280#32
  let c1408_i32 : BitVec 32 := 1408#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1408_i32 v18
  let v278 : BitVec 32 := Scalar.subi v277 c1280_i32_161
  let c1_i32_163 : BitVec 32 := 1#32
  let v280 : BitVec 32 := Scalar.divsi v278 c1_i32_163
  let v281 : BitVec 32 := Scalar.muli v280 c1_i32_163
  let v282 : BitVec 32 := Scalar.addi c1280_i32_161 v281
  let c1_i32_165 : BitVec 32 := 1#32
  let arg12 : BitVec 32 := Scf.iv v282 c1_i32_165 k0_t66
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off355 (v308 : BitVec 32) : Fin 2 → Nat :=
  let c0_i32_184 : BitVec 32 := 0#32
  ![v308.toNat, 0]

def k0_chk90 (d0 : Dev nD) (v10 : BitVec 32) (k0_t66 : Fin (k0_t66_loop d0 v10).trips) (v308 : BitVec 32) : Prop :=
  (∀ (k0_h53 : k0_cond53 d0 v10 = 1#1), ∀ (k0_h55 : k0_cond55 d0 v10 k0_t66 = 1#1), ∀ a, (k0_off355 v308) a + S1x2048.size a ≤ S4096x2048.size a)
theorem k0_off355_inb : ∀ (d0 : Dev nD) (v10 : BitVec 32) (k0_t66 : Fin (k0_t66_loop d0 v10).trips) (v308 : BitVec 32) (k0_hw90 : k0_chk90 d0 v10 k0_t66 v308), ∀ (k0_h53 : k0_cond53 d0 v10 = 1#1), ∀ (k0_h55 : k0_cond55 d0 v10 k0_t66 = 1#1), ∀ a, (k0_off355 v308) a + S1x2048.size a ≤ S4096x2048.size a := fun d0 v10 k0_t66 v308 k0_hw90 k0_h53 k0_h55 => k0_hw90 k0_h53 k0_h55

def k0_off356 (d0 : Dev nD) (v10 : BitVec 32) (k0_t66 : Fin (k0_t66_loop d0 v10).trips) : Fin 2 → Nat :=
  let c1280_i32_161 : BitVec 32 := 1280#32
  let c1408_i32 : BitVec 32 := 1408#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1408_i32 v18
  let v278 : BitVec 32 := Scalar.subi v277 c1280_i32_161
  let c1_i32_163 : BitVec 32 := 1#32
  let v280 : BitVec 32 := Scalar.divsi v278 c1_i32_163
  let v281 : BitVec 32 := Scalar.muli v280 c1_i32_163
  let v282 : BitVec 32 := Scalar.addi c1280_i32_161 v281
  let c1_i32_165 : BitVec 32 := 1#32
  let arg12 : BitVec 32 := Scf.iv v282 c1_i32_165 k0_t66
  let c64_i32_177 : BitVec 32 := 64#32
  let v305 : BitVec 32 := Scalar.subi arg12 c64_i32_177
  let c0_i32_185 : BitVec 32 := 0#32
  ![v305.toNat, 0]
def k0_off357 (d0 : Dev nD) (v10 : BitVec 32) (k0_t66 : Fin (k0_t66_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1280_i32_161 : BitVec 32 := 1280#32
  let c1408_i32 : BitVec 32 := 1408#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1408_i32 v18
  let v278 : BitVec 32 := Scalar.subi v277 c1280_i32_161
  let c1_i32_163 : BitVec 32 := 1#32
  let v280 : BitVec 32 := Scalar.divsi v278 c1_i32_163
  let v281 : BitVec 32 := Scalar.muli v280 c1_i32_163
  let v282 : BitVec 32 := Scalar.addi c1280_i32_161 v281
  let c1_i32_165 : BitVec 32 := 1#32
  let arg12 : BitVec 32 := Scf.iv v282 c1_i32_165 k0_t66
  let v288 : BitVec 32 := Scalar.addi v17 arg12
  let v289 : Index := Scalar.indexCast v288
  ![v289.toNat]
def k0_off358 (d0 : Dev nD) (v10 : BitVec 32) (k0_t66 : Fin (k0_t66_loop d0 v10).trips) : Fin 1 → Nat :=
  let c1280_i32_161 : BitVec 32 := 1280#32
  let c1408_i32 : BitVec 32 := 1408#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1408_i32 v18
  let v278 : BitVec 32 := Scalar.subi v277 c1280_i32_161
  let c1_i32_163 : BitVec 32 := 1#32
  let v280 : BitVec 32 := Scalar.divsi v278 c1_i32_163
  let v281 : BitVec 32 := Scalar.muli v280 c1_i32_163
  let v282 : BitVec 32 := Scalar.addi c1280_i32_161 v281
  let c1_i32_165 : BitVec 32 := 1#32
  let arg12 : BitVec 32 := Scf.iv v282 c1_i32_165 k0_t66
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off359 (v290 : BitVec 32) : Fin 2 → Nat :=
  let c0_i32_174 : BitVec 32 := 0#32
  ![v290.toNat, 0]

def k0_chk91 (d0 : Dev nD) (v10 : BitVec 32) (v290 : BitVec 32) : Prop :=
  (∀ (k0_h53 : k0_cond53 d0 v10 = 1#1), ∀ a, (k0_off359 v290) a + S1x2048.size a ≤ S4096x2048.size a)
theorem k0_off359_inb : ∀ (d0 : Dev nD) (v10 : BitVec 32) (v290 : BitVec 32) (k0_hw91 : k0_chk91 d0 v10 v290), ∀ (k0_h53 : k0_cond53 d0 v10 = 1#1), ∀ a, (k0_off359 v290) a + S1x2048.size a ≤ S4096x2048.size a := fun d0 v10 v290 k0_hw91 k0_h53 => k0_hw91 k0_h53

def k0_off360 (d0 : Dev nD) (v10 : BitVec 32) (k0_t66 : Fin (k0_t66_loop d0 v10).trips) : Fin 2 → Nat :=
  let c1280_i32_161 : BitVec 32 := 1280#32
  let c1408_i32 : BitVec 32 := 1408#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1408_i32 v18
  let v278 : BitVec 32 := Scalar.subi v277 c1280_i32_161
  let c1_i32_163 : BitVec 32 := 1#32
  let v280 : BitVec 32 := Scalar.divsi v278 c1_i32_163
  let v281 : BitVec 32 := Scalar.muli v280 c1_i32_163
  let v282 : BitVec 32 := Scalar.addi c1280_i32_161 v281
  let c1_i32_165 : BitVec 32 := 1#32
  let arg12 : BitVec 32 := Scf.iv v282 c1_i32_165 k0_t66
  let c0_i32_175 : BitVec 32 := 0#32
  ![arg12.toNat, 0]
@[reducible] def k0_t67_loop (d0 : Dev nD) (v10 : BitVec 32) : Scf.Loop 32 :=
  let c1408_i32_161 : BitVec 32 := 1408#32
  let c1536_i32 : BitVec 32 := 1536#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1536_i32 v18
  let v278 : BitVec 32 := Scalar.subi v277 c1408_i32_161
  let c1_i32_163 : BitVec 32 := 1#32
  let v280 : BitVec 32 := Scalar.divsi v278 c1_i32_163
  let v281 : BitVec 32 := Scalar.muli v280 c1_i32_163
  let v282 : BitVec 32 := Scalar.addi c1408_i32_161 v281
  let c1_i32_164 : BitVec 32 := 1#32
  ⟨c1408_i32_161, v282, c1_i32_164⟩
def k0_cond56 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c11_i32_88 : BitVec 32 := 11#32
  let v172 : BitVec 1 := Scalar.cmpi .sgt v56 c11_i32_88
  let v173 : BitVec 32 := Scalar.extui v172
  let c0_i32_89 : BitVec 32 := 0#32
  let v174 : BitVec 1 := Scalar.cmpi .ne v173 c0_i32_89
  v174

def k0_cond57 (d0 : Dev nD) (v10 : BitVec 32) (k0_t67 : Fin (k0_t67_loop d0 v10).trips) : BitVec 1 :=
  let c1408_i32_161 : BitVec 32 := 1408#32
  let c1_i32_164 : BitVec 32 := 1#32
  let arg12 : BitVec 32 := Scf.iv c1408_i32_161 c1_i32_164 k0_t67
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off361 (d0 : Dev nD) (v10 : BitVec 32) (k0_t67 : Fin (k0_t67_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1408_i32_161 : BitVec 32 := 1408#32
  let c1_i32_164 : BitVec 32 := 1#32
  let arg12 : BitVec 32 := Scf.iv c1408_i32_161 c1_i32_164 k0_t67
  let c64_i32_177 : BitVec 32 := 64#32
  let v305 : BitVec 32 := Scalar.subi arg12 c64_i32_177
  let v306 : BitVec 32 := Scalar.addi v17 v305
  let v307 : Index := Scalar.indexCast v306
  ![v307.toNat]
def k0_off362 (d0 : Dev nD) (v10 : BitVec 32) (k0_t67 : Fin (k0_t67_loop d0 v10).trips) : Fin 1 → Nat :=
  let c1408_i32_161 : BitVec 32 := 1408#32
  let c1_i32_164 : BitVec 32 := 1#32
  let arg12 : BitVec 32 := Scf.iv c1408_i32_161 c1_i32_164 k0_t67
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off363 (v308 : BitVec 32) : Fin 2 → Nat :=
  let c0_i32_184 : BitVec 32 := 0#32
  ![v308.toNat, 0]

def k0_chk92 (d0 : Dev nD) (v10 : BitVec 32) (k0_t67 : Fin (k0_t67_loop d0 v10).trips) (v308 : BitVec 32) : Prop :=
  (∀ (k0_h56 : k0_cond56 d0 v10 = 1#1), ∀ (k0_h57 : k0_cond57 d0 v10 k0_t67 = 1#1), ∀ a, (k0_off363 v308) a + S1x2048.size a ≤ S4096x2048.size a)
theorem k0_off363_inb : ∀ (d0 : Dev nD) (v10 : BitVec 32) (k0_t67 : Fin (k0_t67_loop d0 v10).trips) (v308 : BitVec 32) (k0_hw92 : k0_chk92 d0 v10 k0_t67 v308), ∀ (k0_h56 : k0_cond56 d0 v10 = 1#1), ∀ (k0_h57 : k0_cond57 d0 v10 k0_t67 = 1#1), ∀ a, (k0_off363 v308) a + S1x2048.size a ≤ S4096x2048.size a := fun d0 v10 k0_t67 v308 k0_hw92 k0_h56 k0_h57 => k0_hw92 k0_h56 k0_h57

def k0_off364 (d0 : Dev nD) (v10 : BitVec 32) (k0_t67 : Fin (k0_t67_loop d0 v10).trips) : Fin 2 → Nat :=
  let c1408_i32_161 : BitVec 32 := 1408#32
  let c1_i32_164 : BitVec 32 := 1#32
  let arg12 : BitVec 32 := Scf.iv c1408_i32_161 c1_i32_164 k0_t67
  let c64_i32_177 : BitVec 32 := 64#32
  let v305 : BitVec 32 := Scalar.subi arg12 c64_i32_177
  let c0_i32_185 : BitVec 32 := 0#32
  ![v305.toNat, 0]
def k0_off365 (d0 : Dev nD) (v10 : BitVec 32) (k0_t67 : Fin (k0_t67_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1408_i32_161 : BitVec 32 := 1408#32
  let c1_i32_164 : BitVec 32 := 1#32
  let arg12 : BitVec 32 := Scf.iv c1408_i32_161 c1_i32_164 k0_t67
  let v288 : BitVec 32 := Scalar.addi v17 arg12
  let v289 : Index := Scalar.indexCast v288
  ![v289.toNat]
def k0_off366 (d0 : Dev nD) (v10 : BitVec 32) (k0_t67 : Fin (k0_t67_loop d0 v10).trips) : Fin 1 → Nat :=
  let c1408_i32_161 : BitVec 32 := 1408#32
  let c1_i32_164 : BitVec 32 := 1#32
  let arg12 : BitVec 32 := Scf.iv c1408_i32_161 c1_i32_164 k0_t67
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off367 (v290 : BitVec 32) : Fin 2 → Nat :=
  let c0_i32_174 : BitVec 32 := 0#32
  ![v290.toNat, 0]

def k0_chk93 (d0 : Dev nD) (v10 : BitVec 32) (v290 : BitVec 32) : Prop :=
  (∀ (k0_h56 : k0_cond56 d0 v10 = 1#1), ∀ a, (k0_off367 v290) a + S1x2048.size a ≤ S4096x2048.size a)
theorem k0_off367_inb : ∀ (d0 : Dev nD) (v10 : BitVec 32) (v290 : BitVec 32) (k0_hw93 : k0_chk93 d0 v10 v290), ∀ (k0_h56 : k0_cond56 d0 v10 = 1#1), ∀ a, (k0_off367 v290) a + S1x2048.size a ≤ S4096x2048.size a := fun d0 v10 v290 k0_hw93 k0_h56 => k0_hw93 k0_h56

def k0_off368 (d0 : Dev nD) (v10 : BitVec 32) (k0_t67 : Fin (k0_t67_loop d0 v10).trips) : Fin 2 → Nat :=
  let c1408_i32_161 : BitVec 32 := 1408#32
  let c1_i32_164 : BitVec 32 := 1#32
  let arg12 : BitVec 32 := Scf.iv c1408_i32_161 c1_i32_164 k0_t67
  let c0_i32_175 : BitVec 32 := 0#32
  ![arg12.toNat, 0]
@[reducible] def k0_t68_loop (d0 : Dev nD) (v10 : BitVec 32) : Scf.Loop 32 :=
  let c1408_i32_161 : BitVec 32 := 1408#32
  let c1536_i32 : BitVec 32 := 1536#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1536_i32 v18
  let v278 : BitVec 32 := Scalar.subi v277 c1408_i32_161
  let c1_i32_163 : BitVec 32 := 1#32
  let v280 : BitVec 32 := Scalar.divsi v278 c1_i32_163
  let v281 : BitVec 32 := Scalar.muli v280 c1_i32_163
  let v282 : BitVec 32 := Scalar.addi c1408_i32_161 v281
  let v279 : BitVec 32 := Scalar.addi c1408_i32_161 v278
  let c1_i32_165 : BitVec 32 := 1#32
  ⟨v282, v279, c1_i32_165⟩
def k0_off369 (d0 : Dev nD) (v10 : BitVec 32) (k0_t68 : Fin (k0_t68_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1408_i32_161 : BitVec 32 := 1408#32
  let c1536_i32 : BitVec 32 := 1536#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1536_i32 v18
  let v278 : BitVec 32 := Scalar.subi v277 c1408_i32_161
  let c1_i32_163 : BitVec 32 := 1#32
  let v280 : BitVec 32 := Scalar.divsi v278 c1_i32_163
  let v281 : BitVec 32 := Scalar.muli v280 c1_i32_163
  let v282 : BitVec 32 := Scalar.addi c1408_i32_161 v281
  let c1_i32_165 : BitVec 32 := 1#32
  let arg12 : BitVec 32 := Scf.iv v282 c1_i32_165 k0_t68
  let c64_i32_177 : BitVec 32 := 64#32
  let v305 : BitVec 32 := Scalar.subi arg12 c64_i32_177
  let v306 : BitVec 32 := Scalar.addi v17 v305
  let v307 : Index := Scalar.indexCast v306
  ![v307.toNat]
def k0_cond58 (d0 : Dev nD) (v10 : BitVec 32) (k0_t68 : Fin (k0_t68_loop d0 v10).trips) : BitVec 1 :=
  let c1408_i32_161 : BitVec 32 := 1408#32
  let c1536_i32 : BitVec 32 := 1536#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1536_i32 v18
  let v278 : BitVec 32 := Scalar.subi v277 c1408_i32_161
  let c1_i32_163 : BitVec 32 := 1#32
  let v280 : BitVec 32 := Scalar.divsi v278 c1_i32_163
  let v281 : BitVec 32 := Scalar.muli v280 c1_i32_163
  let v282 : BitVec 32 := Scalar.addi c1408_i32_161 v281
  let c1_i32_165 : BitVec 32 := 1#32
  let arg12 : BitVec 32 := Scf.iv v282 c1_i32_165 k0_t68
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off370 (d0 : Dev nD) (v10 : BitVec 32) (k0_t68 : Fin (k0_t68_loop d0 v10).trips) : Fin 1 → Nat :=
  let c1408_i32_161 : BitVec 32 := 1408#32
  let c1536_i32 : BitVec 32 := 1536#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1536_i32 v18
  let v278 : BitVec 32 := Scalar.subi v277 c1408_i32_161
  let c1_i32_163 : BitVec 32 := 1#32
  let v280 : BitVec 32 := Scalar.divsi v278 c1_i32_163
  let v281 : BitVec 32 := Scalar.muli v280 c1_i32_163
  let v282 : BitVec 32 := Scalar.addi c1408_i32_161 v281
  let c1_i32_165 : BitVec 32 := 1#32
  let arg12 : BitVec 32 := Scf.iv v282 c1_i32_165 k0_t68
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off371 (v308 : BitVec 32) : Fin 2 → Nat :=
  let c0_i32_184 : BitVec 32 := 0#32
  ![v308.toNat, 0]

def k0_chk94 (d0 : Dev nD) (v10 : BitVec 32) (k0_t68 : Fin (k0_t68_loop d0 v10).trips) (v308 : BitVec 32) : Prop :=
  (∀ (k0_h56 : k0_cond56 d0 v10 = 1#1), ∀ (k0_h58 : k0_cond58 d0 v10 k0_t68 = 1#1), ∀ a, (k0_off371 v308) a + S1x2048.size a ≤ S4096x2048.size a)
theorem k0_off371_inb : ∀ (d0 : Dev nD) (v10 : BitVec 32) (k0_t68 : Fin (k0_t68_loop d0 v10).trips) (v308 : BitVec 32) (k0_hw94 : k0_chk94 d0 v10 k0_t68 v308), ∀ (k0_h56 : k0_cond56 d0 v10 = 1#1), ∀ (k0_h58 : k0_cond58 d0 v10 k0_t68 = 1#1), ∀ a, (k0_off371 v308) a + S1x2048.size a ≤ S4096x2048.size a := fun d0 v10 k0_t68 v308 k0_hw94 k0_h56 k0_h58 => k0_hw94 k0_h56 k0_h58

def k0_off372 (d0 : Dev nD) (v10 : BitVec 32) (k0_t68 : Fin (k0_t68_loop d0 v10).trips) : Fin 2 → Nat :=
  let c1408_i32_161 : BitVec 32 := 1408#32
  let c1536_i32 : BitVec 32 := 1536#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1536_i32 v18
  let v278 : BitVec 32 := Scalar.subi v277 c1408_i32_161
  let c1_i32_163 : BitVec 32 := 1#32
  let v280 : BitVec 32 := Scalar.divsi v278 c1_i32_163
  let v281 : BitVec 32 := Scalar.muli v280 c1_i32_163
  let v282 : BitVec 32 := Scalar.addi c1408_i32_161 v281
  let c1_i32_165 : BitVec 32 := 1#32
  let arg12 : BitVec 32 := Scf.iv v282 c1_i32_165 k0_t68
  let c64_i32_177 : BitVec 32 := 64#32
  let v305 : BitVec 32 := Scalar.subi arg12 c64_i32_177
  let c0_i32_185 : BitVec 32 := 0#32
  ![v305.toNat, 0]
def k0_off373 (d0 : Dev nD) (v10 : BitVec 32) (k0_t68 : Fin (k0_t68_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1408_i32_161 : BitVec 32 := 1408#32
  let c1536_i32 : BitVec 32 := 1536#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1536_i32 v18
  let v278 : BitVec 32 := Scalar.subi v277 c1408_i32_161
  let c1_i32_163 : BitVec 32 := 1#32
  let v280 : BitVec 32 := Scalar.divsi v278 c1_i32_163
  let v281 : BitVec 32 := Scalar.muli v280 c1_i32_163
  let v282 : BitVec 32 := Scalar.addi c1408_i32_161 v281
  let c1_i32_165 : BitVec 32 := 1#32
  let arg12 : BitVec 32 := Scf.iv v282 c1_i32_165 k0_t68
  let v288 : BitVec 32 := Scalar.addi v17 arg12
  let v289 : Index := Scalar.indexCast v288
  ![v289.toNat]
def k0_off374 (d0 : Dev nD) (v10 : BitVec 32) (k0_t68 : Fin (k0_t68_loop d0 v10).trips) : Fin 1 → Nat :=
  let c1408_i32_161 : BitVec 32 := 1408#32
  let c1536_i32 : BitVec 32 := 1536#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1536_i32 v18
  let v278 : BitVec 32 := Scalar.subi v277 c1408_i32_161
  let c1_i32_163 : BitVec 32 := 1#32
  let v280 : BitVec 32 := Scalar.divsi v278 c1_i32_163
  let v281 : BitVec 32 := Scalar.muli v280 c1_i32_163
  let v282 : BitVec 32 := Scalar.addi c1408_i32_161 v281
  let c1_i32_165 : BitVec 32 := 1#32
  let arg12 : BitVec 32 := Scf.iv v282 c1_i32_165 k0_t68
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off375 (v290 : BitVec 32) : Fin 2 → Nat :=
  let c0_i32_174 : BitVec 32 := 0#32
  ![v290.toNat, 0]

def k0_chk95 (d0 : Dev nD) (v10 : BitVec 32) (v290 : BitVec 32) : Prop :=
  (∀ (k0_h56 : k0_cond56 d0 v10 = 1#1), ∀ a, (k0_off375 v290) a + S1x2048.size a ≤ S4096x2048.size a)
theorem k0_off375_inb : ∀ (d0 : Dev nD) (v10 : BitVec 32) (v290 : BitVec 32) (k0_hw95 : k0_chk95 d0 v10 v290), ∀ (k0_h56 : k0_cond56 d0 v10 = 1#1), ∀ a, (k0_off375 v290) a + S1x2048.size a ≤ S4096x2048.size a := fun d0 v10 v290 k0_hw95 k0_h56 => k0_hw95 k0_h56

def k0_off376 (d0 : Dev nD) (v10 : BitVec 32) (k0_t68 : Fin (k0_t68_loop d0 v10).trips) : Fin 2 → Nat :=
  let c1408_i32_161 : BitVec 32 := 1408#32
  let c1536_i32 : BitVec 32 := 1536#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1536_i32 v18
  let v278 : BitVec 32 := Scalar.subi v277 c1408_i32_161
  let c1_i32_163 : BitVec 32 := 1#32
  let v280 : BitVec 32 := Scalar.divsi v278 c1_i32_163
  let v281 : BitVec 32 := Scalar.muli v280 c1_i32_163
  let v282 : BitVec 32 := Scalar.addi c1408_i32_161 v281
  let c1_i32_165 : BitVec 32 := 1#32
  let arg12 : BitVec 32 := Scf.iv v282 c1_i32_165 k0_t68
  let c0_i32_175 : BitVec 32 := 0#32
  ![arg12.toNat, 0]
@[reducible] def k0_t69_loop (d0 : Dev nD) (v10 : BitVec 32) : Scf.Loop 32 :=
  let c1536_i32_161 : BitVec 32 := 1536#32
  let c1664_i32 : BitVec 32 := 1664#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1664_i32 v18
  let v278 : BitVec 32 := Scalar.subi v277 c1536_i32_161
  let c1_i32_163 : BitVec 32 := 1#32
  let v280 : BitVec 32 := Scalar.divsi v278 c1_i32_163
  let v281 : BitVec 32 := Scalar.muli v280 c1_i32_163
  let v282 : BitVec 32 := Scalar.addi c1536_i32_161 v281
  let c1_i32_164 : BitVec 32 := 1#32
  ⟨c1536_i32_161, v282, c1_i32_164⟩
def k0_cond59 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c12_i32_90 : BitVec 32 := 12#32
  let v175 : BitVec 1 := Scalar.cmpi .sgt v56 c12_i32_90
  let v176 : BitVec 32 := Scalar.extui v175
  let c0_i32_91 : BitVec 32 := 0#32
  let v177 : BitVec 1 := Scalar.cmpi .ne v176 c0_i32_91
  v177

def k0_cond60 (d0 : Dev nD) (v10 : BitVec 32) (k0_t69 : Fin (k0_t69_loop d0 v10).trips) : BitVec 1 :=
  let c1536_i32_161 : BitVec 32 := 1536#32
  let c1_i32_164 : BitVec 32 := 1#32
  let arg12 : BitVec 32 := Scf.iv c1536_i32_161 c1_i32_164 k0_t69
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off377 (d0 : Dev nD) (v10 : BitVec 32) (k0_t69 : Fin (k0_t69_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1536_i32_161 : BitVec 32 := 1536#32
  let c1_i32_164 : BitVec 32 := 1#32
  let arg12 : BitVec 32 := Scf.iv c1536_i32_161 c1_i32_164 k0_t69
  let c64_i32_177 : BitVec 32 := 64#32
  let v305 : BitVec 32 := Scalar.subi arg12 c64_i32_177
  let v306 : BitVec 32 := Scalar.addi v17 v305
  let v307 : Index := Scalar.indexCast v306
  ![v307.toNat]
def k0_off378 (d0 : Dev nD) (v10 : BitVec 32) (k0_t69 : Fin (k0_t69_loop d0 v10).trips) : Fin 1 → Nat :=
  let c1536_i32_161 : BitVec 32 := 1536#32
  let c1_i32_164 : BitVec 32 := 1#32
  let arg12 : BitVec 32 := Scf.iv c1536_i32_161 c1_i32_164 k0_t69
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off379 (v308 : BitVec 32) : Fin 2 → Nat :=
  let c0_i32_184 : BitVec 32 := 0#32
  ![v308.toNat, 0]

def k0_chk96 (d0 : Dev nD) (v10 : BitVec 32) (k0_t69 : Fin (k0_t69_loop d0 v10).trips) (v308 : BitVec 32) : Prop :=
  (∀ (k0_h59 : k0_cond59 d0 v10 = 1#1), ∀ (k0_h60 : k0_cond60 d0 v10 k0_t69 = 1#1), ∀ a, (k0_off379 v308) a + S1x2048.size a ≤ S4096x2048.size a)
theorem k0_off379_inb : ∀ (d0 : Dev nD) (v10 : BitVec 32) (k0_t69 : Fin (k0_t69_loop d0 v10).trips) (v308 : BitVec 32) (k0_hw96 : k0_chk96 d0 v10 k0_t69 v308), ∀ (k0_h59 : k0_cond59 d0 v10 = 1#1), ∀ (k0_h60 : k0_cond60 d0 v10 k0_t69 = 1#1), ∀ a, (k0_off379 v308) a + S1x2048.size a ≤ S4096x2048.size a := fun d0 v10 k0_t69 v308 k0_hw96 k0_h59 k0_h60 => k0_hw96 k0_h59 k0_h60

def k0_off380 (d0 : Dev nD) (v10 : BitVec 32) (k0_t69 : Fin (k0_t69_loop d0 v10).trips) : Fin 2 → Nat :=
  let c1536_i32_161 : BitVec 32 := 1536#32
  let c1_i32_164 : BitVec 32 := 1#32
  let arg12 : BitVec 32 := Scf.iv c1536_i32_161 c1_i32_164 k0_t69
  let c64_i32_177 : BitVec 32 := 64#32
  let v305 : BitVec 32 := Scalar.subi arg12 c64_i32_177
  let c0_i32_185 : BitVec 32 := 0#32
  ![v305.toNat, 0]
def k0_off381 (d0 : Dev nD) (v10 : BitVec 32) (k0_t69 : Fin (k0_t69_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1536_i32_161 : BitVec 32 := 1536#32
  let c1_i32_164 : BitVec 32 := 1#32
  let arg12 : BitVec 32 := Scf.iv c1536_i32_161 c1_i32_164 k0_t69
  let v288 : BitVec 32 := Scalar.addi v17 arg12
  let v289 : Index := Scalar.indexCast v288
  ![v289.toNat]
def k0_off382 (d0 : Dev nD) (v10 : BitVec 32) (k0_t69 : Fin (k0_t69_loop d0 v10).trips) : Fin 1 → Nat :=
  let c1536_i32_161 : BitVec 32 := 1536#32
  let c1_i32_164 : BitVec 32 := 1#32
  let arg12 : BitVec 32 := Scf.iv c1536_i32_161 c1_i32_164 k0_t69
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off383 (v290 : BitVec 32) : Fin 2 → Nat :=
  let c0_i32_174 : BitVec 32 := 0#32
  ![v290.toNat, 0]

def k0_chk97 (d0 : Dev nD) (v10 : BitVec 32) (v290 : BitVec 32) : Prop :=
  (∀ (k0_h59 : k0_cond59 d0 v10 = 1#1), ∀ a, (k0_off383 v290) a + S1x2048.size a ≤ S4096x2048.size a)
theorem k0_off383_inb : ∀ (d0 : Dev nD) (v10 : BitVec 32) (v290 : BitVec 32) (k0_hw97 : k0_chk97 d0 v10 v290), ∀ (k0_h59 : k0_cond59 d0 v10 = 1#1), ∀ a, (k0_off383 v290) a + S1x2048.size a ≤ S4096x2048.size a := fun d0 v10 v290 k0_hw97 k0_h59 => k0_hw97 k0_h59

def k0_off384 (d0 : Dev nD) (v10 : BitVec 32) (k0_t69 : Fin (k0_t69_loop d0 v10).trips) : Fin 2 → Nat :=
  let c1536_i32_161 : BitVec 32 := 1536#32
  let c1_i32_164 : BitVec 32 := 1#32
  let arg12 : BitVec 32 := Scf.iv c1536_i32_161 c1_i32_164 k0_t69
  let c0_i32_175 : BitVec 32 := 0#32
  ![arg12.toNat, 0]
@[reducible] def k0_t70_loop (d0 : Dev nD) (v10 : BitVec 32) : Scf.Loop 32 :=
  let c1536_i32_161 : BitVec 32 := 1536#32
  let c1664_i32 : BitVec 32 := 1664#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1664_i32 v18
  let v278 : BitVec 32 := Scalar.subi v277 c1536_i32_161
  let c1_i32_163 : BitVec 32 := 1#32
  let v280 : BitVec 32 := Scalar.divsi v278 c1_i32_163
  let v281 : BitVec 32 := Scalar.muli v280 c1_i32_163
  let v282 : BitVec 32 := Scalar.addi c1536_i32_161 v281
  let v279 : BitVec 32 := Scalar.addi c1536_i32_161 v278
  let c1_i32_165 : BitVec 32 := 1#32
  ⟨v282, v279, c1_i32_165⟩
def k0_off385 (d0 : Dev nD) (v10 : BitVec 32) (k0_t70 : Fin (k0_t70_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1536_i32_161 : BitVec 32 := 1536#32
  let c1664_i32 : BitVec 32 := 1664#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1664_i32 v18
  let v278 : BitVec 32 := Scalar.subi v277 c1536_i32_161
  let c1_i32_163 : BitVec 32 := 1#32
  let v280 : BitVec 32 := Scalar.divsi v278 c1_i32_163
  let v281 : BitVec 32 := Scalar.muli v280 c1_i32_163
  let v282 : BitVec 32 := Scalar.addi c1536_i32_161 v281
  let c1_i32_165 : BitVec 32 := 1#32
  let arg12 : BitVec 32 := Scf.iv v282 c1_i32_165 k0_t70
  let c64_i32_177 : BitVec 32 := 64#32
  let v305 : BitVec 32 := Scalar.subi arg12 c64_i32_177
  let v306 : BitVec 32 := Scalar.addi v17 v305
  let v307 : Index := Scalar.indexCast v306
  ![v307.toNat]
def k0_cond61 (d0 : Dev nD) (v10 : BitVec 32) (k0_t70 : Fin (k0_t70_loop d0 v10).trips) : BitVec 1 :=
  let c1536_i32_161 : BitVec 32 := 1536#32
  let c1664_i32 : BitVec 32 := 1664#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1664_i32 v18
  let v278 : BitVec 32 := Scalar.subi v277 c1536_i32_161
  let c1_i32_163 : BitVec 32 := 1#32
  let v280 : BitVec 32 := Scalar.divsi v278 c1_i32_163
  let v281 : BitVec 32 := Scalar.muli v280 c1_i32_163
  let v282 : BitVec 32 := Scalar.addi c1536_i32_161 v281
  let c1_i32_165 : BitVec 32 := 1#32
  let arg12 : BitVec 32 := Scf.iv v282 c1_i32_165 k0_t70
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off386 (d0 : Dev nD) (v10 : BitVec 32) (k0_t70 : Fin (k0_t70_loop d0 v10).trips) : Fin 1 → Nat :=
  let c1536_i32_161 : BitVec 32 := 1536#32
  let c1664_i32 : BitVec 32 := 1664#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1664_i32 v18
  let v278 : BitVec 32 := Scalar.subi v277 c1536_i32_161
  let c1_i32_163 : BitVec 32 := 1#32
  let v280 : BitVec 32 := Scalar.divsi v278 c1_i32_163
  let v281 : BitVec 32 := Scalar.muli v280 c1_i32_163
  let v282 : BitVec 32 := Scalar.addi c1536_i32_161 v281
  let c1_i32_165 : BitVec 32 := 1#32
  let arg12 : BitVec 32 := Scf.iv v282 c1_i32_165 k0_t70
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off387 (v308 : BitVec 32) : Fin 2 → Nat :=
  let c0_i32_184 : BitVec 32 := 0#32
  ![v308.toNat, 0]

def k0_chk98 (d0 : Dev nD) (v10 : BitVec 32) (k0_t70 : Fin (k0_t70_loop d0 v10).trips) (v308 : BitVec 32) : Prop :=
  (∀ (k0_h59 : k0_cond59 d0 v10 = 1#1), ∀ (k0_h61 : k0_cond61 d0 v10 k0_t70 = 1#1), ∀ a, (k0_off387 v308) a + S1x2048.size a ≤ S4096x2048.size a)
theorem k0_off387_inb : ∀ (d0 : Dev nD) (v10 : BitVec 32) (k0_t70 : Fin (k0_t70_loop d0 v10).trips) (v308 : BitVec 32) (k0_hw98 : k0_chk98 d0 v10 k0_t70 v308), ∀ (k0_h59 : k0_cond59 d0 v10 = 1#1), ∀ (k0_h61 : k0_cond61 d0 v10 k0_t70 = 1#1), ∀ a, (k0_off387 v308) a + S1x2048.size a ≤ S4096x2048.size a := fun d0 v10 k0_t70 v308 k0_hw98 k0_h59 k0_h61 => k0_hw98 k0_h59 k0_h61

def k0_off388 (d0 : Dev nD) (v10 : BitVec 32) (k0_t70 : Fin (k0_t70_loop d0 v10).trips) : Fin 2 → Nat :=
  let c1536_i32_161 : BitVec 32 := 1536#32
  let c1664_i32 : BitVec 32 := 1664#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1664_i32 v18
  let v278 : BitVec 32 := Scalar.subi v277 c1536_i32_161
  let c1_i32_163 : BitVec 32 := 1#32
  let v280 : BitVec 32 := Scalar.divsi v278 c1_i32_163
  let v281 : BitVec 32 := Scalar.muli v280 c1_i32_163
  let v282 : BitVec 32 := Scalar.addi c1536_i32_161 v281
  let c1_i32_165 : BitVec 32 := 1#32
  let arg12 : BitVec 32 := Scf.iv v282 c1_i32_165 k0_t70
  let c64_i32_177 : BitVec 32 := 64#32
  let v305 : BitVec 32 := Scalar.subi arg12 c64_i32_177
  let c0_i32_185 : BitVec 32 := 0#32
  ![v305.toNat, 0]
def k0_off389 (d0 : Dev nD) (v10 : BitVec 32) (k0_t70 : Fin (k0_t70_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1536_i32_161 : BitVec 32 := 1536#32
  let c1664_i32 : BitVec 32 := 1664#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1664_i32 v18
  let v278 : BitVec 32 := Scalar.subi v277 c1536_i32_161
  let c1_i32_163 : BitVec 32 := 1#32
  let v280 : BitVec 32 := Scalar.divsi v278 c1_i32_163
  let v281 : BitVec 32 := Scalar.muli v280 c1_i32_163
  let v282 : BitVec 32 := Scalar.addi c1536_i32_161 v281
  let c1_i32_165 : BitVec 32 := 1#32
  let arg12 : BitVec 32 := Scf.iv v282 c1_i32_165 k0_t70
  let v288 : BitVec 32 := Scalar.addi v17 arg12
  let v289 : Index := Scalar.indexCast v288
  ![v289.toNat]
def k0_off390 (d0 : Dev nD) (v10 : BitVec 32) (k0_t70 : Fin (k0_t70_loop d0 v10).trips) : Fin 1 → Nat :=
  let c1536_i32_161 : BitVec 32 := 1536#32
  let c1664_i32 : BitVec 32 := 1664#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1664_i32 v18
  let v278 : BitVec 32 := Scalar.subi v277 c1536_i32_161
  let c1_i32_163 : BitVec 32 := 1#32
  let v280 : BitVec 32 := Scalar.divsi v278 c1_i32_163
  let v281 : BitVec 32 := Scalar.muli v280 c1_i32_163
  let v282 : BitVec 32 := Scalar.addi c1536_i32_161 v281
  let c1_i32_165 : BitVec 32 := 1#32
  let arg12 : BitVec 32 := Scf.iv v282 c1_i32_165 k0_t70
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off391 (v290 : BitVec 32) : Fin 2 → Nat :=
  let c0_i32_174 : BitVec 32 := 0#32
  ![v290.toNat, 0]

def k0_chk99 (d0 : Dev nD) (v10 : BitVec 32) (v290 : BitVec 32) : Prop :=
  (∀ (k0_h59 : k0_cond59 d0 v10 = 1#1), ∀ a, (k0_off391 v290) a + S1x2048.size a ≤ S4096x2048.size a)
theorem k0_off391_inb : ∀ (d0 : Dev nD) (v10 : BitVec 32) (v290 : BitVec 32) (k0_hw99 : k0_chk99 d0 v10 v290), ∀ (k0_h59 : k0_cond59 d0 v10 = 1#1), ∀ a, (k0_off391 v290) a + S1x2048.size a ≤ S4096x2048.size a := fun d0 v10 v290 k0_hw99 k0_h59 => k0_hw99 k0_h59

def k0_off392 (d0 : Dev nD) (v10 : BitVec 32) (k0_t70 : Fin (k0_t70_loop d0 v10).trips) : Fin 2 → Nat :=
  let c1536_i32_161 : BitVec 32 := 1536#32
  let c1664_i32 : BitVec 32 := 1664#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1664_i32 v18
  let v278 : BitVec 32 := Scalar.subi v277 c1536_i32_161
  let c1_i32_163 : BitVec 32 := 1#32
  let v280 : BitVec 32 := Scalar.divsi v278 c1_i32_163
  let v281 : BitVec 32 := Scalar.muli v280 c1_i32_163
  let v282 : BitVec 32 := Scalar.addi c1536_i32_161 v281
  let c1_i32_165 : BitVec 32 := 1#32
  let arg12 : BitVec 32 := Scf.iv v282 c1_i32_165 k0_t70
  let c0_i32_175 : BitVec 32 := 0#32
  ![arg12.toNat, 0]
@[reducible] def k0_t71_loop (d0 : Dev nD) (v10 : BitVec 32) : Scf.Loop 32 :=
  let c1664_i32_161 : BitVec 32 := 1664#32
  let c1792_i32 : BitVec 32 := 1792#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1792_i32 v18
  let v278 : BitVec 32 := Scalar.subi v277 c1664_i32_161
  let c1_i32_163 : BitVec 32 := 1#32
  let v280 : BitVec 32 := Scalar.divsi v278 c1_i32_163
  let v281 : BitVec 32 := Scalar.muli v280 c1_i32_163
  let v282 : BitVec 32 := Scalar.addi c1664_i32_161 v281
  let c1_i32_164 : BitVec 32 := 1#32
  ⟨c1664_i32_161, v282, c1_i32_164⟩
def k0_cond62 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c13_i32_92 : BitVec 32 := 13#32
  let v178 : BitVec 1 := Scalar.cmpi .sgt v56 c13_i32_92
  let v179 : BitVec 32 := Scalar.extui v178
  let c0_i32_93 : BitVec 32 := 0#32
  let v180 : BitVec 1 := Scalar.cmpi .ne v179 c0_i32_93
  v180

def k0_cond63 (d0 : Dev nD) (v10 : BitVec 32) (k0_t71 : Fin (k0_t71_loop d0 v10).trips) : BitVec 1 :=
  let c1664_i32_161 : BitVec 32 := 1664#32
  let c1_i32_164 : BitVec 32 := 1#32
  let arg12 : BitVec 32 := Scf.iv c1664_i32_161 c1_i32_164 k0_t71
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off393 (d0 : Dev nD) (v10 : BitVec 32) (k0_t71 : Fin (k0_t71_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1664_i32_161 : BitVec 32 := 1664#32
  let c1_i32_164 : BitVec 32 := 1#32
  let arg12 : BitVec 32 := Scf.iv c1664_i32_161 c1_i32_164 k0_t71
  let c64_i32_177 : BitVec 32 := 64#32
  let v305 : BitVec 32 := Scalar.subi arg12 c64_i32_177
  let v306 : BitVec 32 := Scalar.addi v17 v305
  let v307 : Index := Scalar.indexCast v306
  ![v307.toNat]
def k0_off394 (d0 : Dev nD) (v10 : BitVec 32) (k0_t71 : Fin (k0_t71_loop d0 v10).trips) : Fin 1 → Nat :=
  let c1664_i32_161 : BitVec 32 := 1664#32
  let c1_i32_164 : BitVec 32 := 1#32
  let arg12 : BitVec 32 := Scf.iv c1664_i32_161 c1_i32_164 k0_t71
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off395 (v308 : BitVec 32) : Fin 2 → Nat :=
  let c0_i32_184 : BitVec 32 := 0#32
  ![v308.toNat, 0]

def k0_chk100 (d0 : Dev nD) (v10 : BitVec 32) (k0_t71 : Fin (k0_t71_loop d0 v10).trips) (v308 : BitVec 32) : Prop :=
  (∀ (k0_h62 : k0_cond62 d0 v10 = 1#1), ∀ (k0_h63 : k0_cond63 d0 v10 k0_t71 = 1#1), ∀ a, (k0_off395 v308) a + S1x2048.size a ≤ S4096x2048.size a)
theorem k0_off395_inb : ∀ (d0 : Dev nD) (v10 : BitVec 32) (k0_t71 : Fin (k0_t71_loop d0 v10).trips) (v308 : BitVec 32) (k0_hw100 : k0_chk100 d0 v10 k0_t71 v308), ∀ (k0_h62 : k0_cond62 d0 v10 = 1#1), ∀ (k0_h63 : k0_cond63 d0 v10 k0_t71 = 1#1), ∀ a, (k0_off395 v308) a + S1x2048.size a ≤ S4096x2048.size a := fun d0 v10 k0_t71 v308 k0_hw100 k0_h62 k0_h63 => k0_hw100 k0_h62 k0_h63

def k0_off396 (d0 : Dev nD) (v10 : BitVec 32) (k0_t71 : Fin (k0_t71_loop d0 v10).trips) : Fin 2 → Nat :=
  let c1664_i32_161 : BitVec 32 := 1664#32
  let c1_i32_164 : BitVec 32 := 1#32
  let arg12 : BitVec 32 := Scf.iv c1664_i32_161 c1_i32_164 k0_t71
  let c64_i32_177 : BitVec 32 := 64#32
  let v305 : BitVec 32 := Scalar.subi arg12 c64_i32_177
  let c0_i32_185 : BitVec 32 := 0#32
  ![v305.toNat, 0]
def k0_off397 (d0 : Dev nD) (v10 : BitVec 32) (k0_t71 : Fin (k0_t71_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1664_i32_161 : BitVec 32 := 1664#32
  let c1_i32_164 : BitVec 32 := 1#32
  let arg12 : BitVec 32 := Scf.iv c1664_i32_161 c1_i32_164 k0_t71
  let v288 : BitVec 32 := Scalar.addi v17 arg12
  let v289 : Index := Scalar.indexCast v288
  ![v289.toNat]
def k0_off398 (d0 : Dev nD) (v10 : BitVec 32) (k0_t71 : Fin (k0_t71_loop d0 v10).trips) : Fin 1 → Nat :=
  let c1664_i32_161 : BitVec 32 := 1664#32
  let c1_i32_164 : BitVec 32 := 1#32
  let arg12 : BitVec 32 := Scf.iv c1664_i32_161 c1_i32_164 k0_t71
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off399 (v290 : BitVec 32) : Fin 2 → Nat :=
  let c0_i32_174 : BitVec 32 := 0#32
  ![v290.toNat, 0]

def k0_chk101 (d0 : Dev nD) (v10 : BitVec 32) (v290 : BitVec 32) : Prop :=
  (∀ (k0_h62 : k0_cond62 d0 v10 = 1#1), ∀ a, (k0_off399 v290) a + S1x2048.size a ≤ S4096x2048.size a)
theorem k0_off399_inb : ∀ (d0 : Dev nD) (v10 : BitVec 32) (v290 : BitVec 32) (k0_hw101 : k0_chk101 d0 v10 v290), ∀ (k0_h62 : k0_cond62 d0 v10 = 1#1), ∀ a, (k0_off399 v290) a + S1x2048.size a ≤ S4096x2048.size a := fun d0 v10 v290 k0_hw101 k0_h62 => k0_hw101 k0_h62

def k0_off400 (d0 : Dev nD) (v10 : BitVec 32) (k0_t71 : Fin (k0_t71_loop d0 v10).trips) : Fin 2 → Nat :=
  let c1664_i32_161 : BitVec 32 := 1664#32
  let c1_i32_164 : BitVec 32 := 1#32
  let arg12 : BitVec 32 := Scf.iv c1664_i32_161 c1_i32_164 k0_t71
  let c0_i32_175 : BitVec 32 := 0#32
  ![arg12.toNat, 0]
@[reducible] def k0_t72_loop (d0 : Dev nD) (v10 : BitVec 32) : Scf.Loop 32 :=
  let c1664_i32_161 : BitVec 32 := 1664#32
  let c1792_i32 : BitVec 32 := 1792#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1792_i32 v18
  let v278 : BitVec 32 := Scalar.subi v277 c1664_i32_161
  let c1_i32_163 : BitVec 32 := 1#32
  let v280 : BitVec 32 := Scalar.divsi v278 c1_i32_163
  let v281 : BitVec 32 := Scalar.muli v280 c1_i32_163
  let v282 : BitVec 32 := Scalar.addi c1664_i32_161 v281
  let v279 : BitVec 32 := Scalar.addi c1664_i32_161 v278
  let c1_i32_165 : BitVec 32 := 1#32
  ⟨v282, v279, c1_i32_165⟩
def k0_off401 (d0 : Dev nD) (v10 : BitVec 32) (k0_t72 : Fin (k0_t72_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1664_i32_161 : BitVec 32 := 1664#32
  let c1792_i32 : BitVec 32 := 1792#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1792_i32 v18
  let v278 : BitVec 32 := Scalar.subi v277 c1664_i32_161
  let c1_i32_163 : BitVec 32 := 1#32
  let v280 : BitVec 32 := Scalar.divsi v278 c1_i32_163
  let v281 : BitVec 32 := Scalar.muli v280 c1_i32_163
  let v282 : BitVec 32 := Scalar.addi c1664_i32_161 v281
  let c1_i32_165 : BitVec 32 := 1#32
  let arg12 : BitVec 32 := Scf.iv v282 c1_i32_165 k0_t72
  let c64_i32_177 : BitVec 32 := 64#32
  let v305 : BitVec 32 := Scalar.subi arg12 c64_i32_177
  let v306 : BitVec 32 := Scalar.addi v17 v305
  let v307 : Index := Scalar.indexCast v306
  ![v307.toNat]
def k0_cond64 (d0 : Dev nD) (v10 : BitVec 32) (k0_t72 : Fin (k0_t72_loop d0 v10).trips) : BitVec 1 :=
  let c1664_i32_161 : BitVec 32 := 1664#32
  let c1792_i32 : BitVec 32 := 1792#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1792_i32 v18
  let v278 : BitVec 32 := Scalar.subi v277 c1664_i32_161
  let c1_i32_163 : BitVec 32 := 1#32
  let v280 : BitVec 32 := Scalar.divsi v278 c1_i32_163
  let v281 : BitVec 32 := Scalar.muli v280 c1_i32_163
  let v282 : BitVec 32 := Scalar.addi c1664_i32_161 v281
  let c1_i32_165 : BitVec 32 := 1#32
  let arg12 : BitVec 32 := Scf.iv v282 c1_i32_165 k0_t72
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off402 (d0 : Dev nD) (v10 : BitVec 32) (k0_t72 : Fin (k0_t72_loop d0 v10).trips) : Fin 1 → Nat :=
  let c1664_i32_161 : BitVec 32 := 1664#32
  let c1792_i32 : BitVec 32 := 1792#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1792_i32 v18
  let v278 : BitVec 32 := Scalar.subi v277 c1664_i32_161
  let c1_i32_163 : BitVec 32 := 1#32
  let v280 : BitVec 32 := Scalar.divsi v278 c1_i32_163
  let v281 : BitVec 32 := Scalar.muli v280 c1_i32_163
  let v282 : BitVec 32 := Scalar.addi c1664_i32_161 v281
  let c1_i32_165 : BitVec 32 := 1#32
  let arg12 : BitVec 32 := Scf.iv v282 c1_i32_165 k0_t72
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off403 (v308 : BitVec 32) : Fin 2 → Nat :=
  let c0_i32_184 : BitVec 32 := 0#32
  ![v308.toNat, 0]

def k0_chk102 (d0 : Dev nD) (v10 : BitVec 32) (k0_t72 : Fin (k0_t72_loop d0 v10).trips) (v308 : BitVec 32) : Prop :=
  (∀ (k0_h62 : k0_cond62 d0 v10 = 1#1), ∀ (k0_h64 : k0_cond64 d0 v10 k0_t72 = 1#1), ∀ a, (k0_off403 v308) a + S1x2048.size a ≤ S4096x2048.size a)
theorem k0_off403_inb : ∀ (d0 : Dev nD) (v10 : BitVec 32) (k0_t72 : Fin (k0_t72_loop d0 v10).trips) (v308 : BitVec 32) (k0_hw102 : k0_chk102 d0 v10 k0_t72 v308), ∀ (k0_h62 : k0_cond62 d0 v10 = 1#1), ∀ (k0_h64 : k0_cond64 d0 v10 k0_t72 = 1#1), ∀ a, (k0_off403 v308) a + S1x2048.size a ≤ S4096x2048.size a := fun d0 v10 k0_t72 v308 k0_hw102 k0_h62 k0_h64 => k0_hw102 k0_h62 k0_h64

def k0_off404 (d0 : Dev nD) (v10 : BitVec 32) (k0_t72 : Fin (k0_t72_loop d0 v10).trips) : Fin 2 → Nat :=
  let c1664_i32_161 : BitVec 32 := 1664#32
  let c1792_i32 : BitVec 32 := 1792#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1792_i32 v18
  let v278 : BitVec 32 := Scalar.subi v277 c1664_i32_161
  let c1_i32_163 : BitVec 32 := 1#32
  let v280 : BitVec 32 := Scalar.divsi v278 c1_i32_163
  let v281 : BitVec 32 := Scalar.muli v280 c1_i32_163
  let v282 : BitVec 32 := Scalar.addi c1664_i32_161 v281
  let c1_i32_165 : BitVec 32 := 1#32
  let arg12 : BitVec 32 := Scf.iv v282 c1_i32_165 k0_t72
  let c64_i32_177 : BitVec 32 := 64#32
  let v305 : BitVec 32 := Scalar.subi arg12 c64_i32_177
  let c0_i32_185 : BitVec 32 := 0#32
  ![v305.toNat, 0]
def k0_off405 (d0 : Dev nD) (v10 : BitVec 32) (k0_t72 : Fin (k0_t72_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1664_i32_161 : BitVec 32 := 1664#32
  let c1792_i32 : BitVec 32 := 1792#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1792_i32 v18
  let v278 : BitVec 32 := Scalar.subi v277 c1664_i32_161
  let c1_i32_163 : BitVec 32 := 1#32
  let v280 : BitVec 32 := Scalar.divsi v278 c1_i32_163
  let v281 : BitVec 32 := Scalar.muli v280 c1_i32_163
  let v282 : BitVec 32 := Scalar.addi c1664_i32_161 v281
  let c1_i32_165 : BitVec 32 := 1#32
  let arg12 : BitVec 32 := Scf.iv v282 c1_i32_165 k0_t72
  let v288 : BitVec 32 := Scalar.addi v17 arg12
  let v289 : Index := Scalar.indexCast v288
  ![v289.toNat]
def k0_off406 (d0 : Dev nD) (v10 : BitVec 32) (k0_t72 : Fin (k0_t72_loop d0 v10).trips) : Fin 1 → Nat :=
  let c1664_i32_161 : BitVec 32 := 1664#32
  let c1792_i32 : BitVec 32 := 1792#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1792_i32 v18
  let v278 : BitVec 32 := Scalar.subi v277 c1664_i32_161
  let c1_i32_163 : BitVec 32 := 1#32
  let v280 : BitVec 32 := Scalar.divsi v278 c1_i32_163
  let v281 : BitVec 32 := Scalar.muli v280 c1_i32_163
  let v282 : BitVec 32 := Scalar.addi c1664_i32_161 v281
  let c1_i32_165 : BitVec 32 := 1#32
  let arg12 : BitVec 32 := Scf.iv v282 c1_i32_165 k0_t72
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off407 (v290 : BitVec 32) : Fin 2 → Nat :=
  let c0_i32_174 : BitVec 32 := 0#32
  ![v290.toNat, 0]

def k0_chk103 (d0 : Dev nD) (v10 : BitVec 32) (v290 : BitVec 32) : Prop :=
  (∀ (k0_h62 : k0_cond62 d0 v10 = 1#1), ∀ a, (k0_off407 v290) a + S1x2048.size a ≤ S4096x2048.size a)
theorem k0_off407_inb : ∀ (d0 : Dev nD) (v10 : BitVec 32) (v290 : BitVec 32) (k0_hw103 : k0_chk103 d0 v10 v290), ∀ (k0_h62 : k0_cond62 d0 v10 = 1#1), ∀ a, (k0_off407 v290) a + S1x2048.size a ≤ S4096x2048.size a := fun d0 v10 v290 k0_hw103 k0_h62 => k0_hw103 k0_h62

def k0_off408 (d0 : Dev nD) (v10 : BitVec 32) (k0_t72 : Fin (k0_t72_loop d0 v10).trips) : Fin 2 → Nat :=
  let c1664_i32_161 : BitVec 32 := 1664#32
  let c1792_i32 : BitVec 32 := 1792#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1792_i32 v18
  let v278 : BitVec 32 := Scalar.subi v277 c1664_i32_161
  let c1_i32_163 : BitVec 32 := 1#32
  let v280 : BitVec 32 := Scalar.divsi v278 c1_i32_163
  let v281 : BitVec 32 := Scalar.muli v280 c1_i32_163
  let v282 : BitVec 32 := Scalar.addi c1664_i32_161 v281
  let c1_i32_165 : BitVec 32 := 1#32
  let arg12 : BitVec 32 := Scf.iv v282 c1_i32_165 k0_t72
  let c0_i32_175 : BitVec 32 := 0#32
  ![arg12.toNat, 0]
@[reducible] def k0_t73_loop (d0 : Dev nD) (v10 : BitVec 32) : Scf.Loop 32 :=
  let c1792_i32_161 : BitVec 32 := 1792#32
  let c1920_i32 : BitVec 32 := 1920#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1920_i32 v18
  let v278 : BitVec 32 := Scalar.subi v277 c1792_i32_161
  let c1_i32_163 : BitVec 32 := 1#32
  let v280 : BitVec 32 := Scalar.divsi v278 c1_i32_163
  let v281 : BitVec 32 := Scalar.muli v280 c1_i32_163
  let v282 : BitVec 32 := Scalar.addi c1792_i32_161 v281
  let c1_i32_164 : BitVec 32 := 1#32
  ⟨c1792_i32_161, v282, c1_i32_164⟩
def k0_cond65 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c14_i32_94 : BitVec 32 := 14#32
  let v181 : BitVec 1 := Scalar.cmpi .sgt v56 c14_i32_94
  let v182 : BitVec 32 := Scalar.extui v181
  let c0_i32_95 : BitVec 32 := 0#32
  let v183 : BitVec 1 := Scalar.cmpi .ne v182 c0_i32_95
  v183

def k0_cond66 (d0 : Dev nD) (v10 : BitVec 32) (k0_t73 : Fin (k0_t73_loop d0 v10).trips) : BitVec 1 :=
  let c1792_i32_161 : BitVec 32 := 1792#32
  let c1_i32_164 : BitVec 32 := 1#32
  let arg12 : BitVec 32 := Scf.iv c1792_i32_161 c1_i32_164 k0_t73
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off409 (d0 : Dev nD) (v10 : BitVec 32) (k0_t73 : Fin (k0_t73_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1792_i32_161 : BitVec 32 := 1792#32
  let c1_i32_164 : BitVec 32 := 1#32
  let arg12 : BitVec 32 := Scf.iv c1792_i32_161 c1_i32_164 k0_t73
  let c64_i32_177 : BitVec 32 := 64#32
  let v305 : BitVec 32 := Scalar.subi arg12 c64_i32_177
  let v306 : BitVec 32 := Scalar.addi v17 v305
  let v307 : Index := Scalar.indexCast v306
  ![v307.toNat]
def k0_off410 (d0 : Dev nD) (v10 : BitVec 32) (k0_t73 : Fin (k0_t73_loop d0 v10).trips) : Fin 1 → Nat :=
  let c1792_i32_161 : BitVec 32 := 1792#32
  let c1_i32_164 : BitVec 32 := 1#32
  let arg12 : BitVec 32 := Scf.iv c1792_i32_161 c1_i32_164 k0_t73
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off411 (v308 : BitVec 32) : Fin 2 → Nat :=
  let c0_i32_184 : BitVec 32 := 0#32
  ![v308.toNat, 0]

def k0_chk104 (d0 : Dev nD) (v10 : BitVec 32) (k0_t73 : Fin (k0_t73_loop d0 v10).trips) (v308 : BitVec 32) : Prop :=
  (∀ (k0_h65 : k0_cond65 d0 v10 = 1#1), ∀ (k0_h66 : k0_cond66 d0 v10 k0_t73 = 1#1), ∀ a, (k0_off411 v308) a + S1x2048.size a ≤ S4096x2048.size a)
theorem k0_off411_inb : ∀ (d0 : Dev nD) (v10 : BitVec 32) (k0_t73 : Fin (k0_t73_loop d0 v10).trips) (v308 : BitVec 32) (k0_hw104 : k0_chk104 d0 v10 k0_t73 v308), ∀ (k0_h65 : k0_cond65 d0 v10 = 1#1), ∀ (k0_h66 : k0_cond66 d0 v10 k0_t73 = 1#1), ∀ a, (k0_off411 v308) a + S1x2048.size a ≤ S4096x2048.size a := fun d0 v10 k0_t73 v308 k0_hw104 k0_h65 k0_h66 => k0_hw104 k0_h65 k0_h66

def k0_off412 (d0 : Dev nD) (v10 : BitVec 32) (k0_t73 : Fin (k0_t73_loop d0 v10).trips) : Fin 2 → Nat :=
  let c1792_i32_161 : BitVec 32 := 1792#32
  let c1_i32_164 : BitVec 32 := 1#32
  let arg12 : BitVec 32 := Scf.iv c1792_i32_161 c1_i32_164 k0_t73
  let c64_i32_177 : BitVec 32 := 64#32
  let v305 : BitVec 32 := Scalar.subi arg12 c64_i32_177
  let c0_i32_185 : BitVec 32 := 0#32
  ![v305.toNat, 0]
def k0_off413 (d0 : Dev nD) (v10 : BitVec 32) (k0_t73 : Fin (k0_t73_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1792_i32_161 : BitVec 32 := 1792#32
  let c1_i32_164 : BitVec 32 := 1#32
  let arg12 : BitVec 32 := Scf.iv c1792_i32_161 c1_i32_164 k0_t73
  let v288 : BitVec 32 := Scalar.addi v17 arg12
  let v289 : Index := Scalar.indexCast v288
  ![v289.toNat]
def k0_off414 (d0 : Dev nD) (v10 : BitVec 32) (k0_t73 : Fin (k0_t73_loop d0 v10).trips) : Fin 1 → Nat :=
  let c1792_i32_161 : BitVec 32 := 1792#32
  let c1_i32_164 : BitVec 32 := 1#32
  let arg12 : BitVec 32 := Scf.iv c1792_i32_161 c1_i32_164 k0_t73
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off415 (v290 : BitVec 32) : Fin 2 → Nat :=
  let c0_i32_174 : BitVec 32 := 0#32
  ![v290.toNat, 0]

def k0_chk105 (d0 : Dev nD) (v10 : BitVec 32) (v290 : BitVec 32) : Prop :=
  (∀ (k0_h65 : k0_cond65 d0 v10 = 1#1), ∀ a, (k0_off415 v290) a + S1x2048.size a ≤ S4096x2048.size a)
theorem k0_off415_inb : ∀ (d0 : Dev nD) (v10 : BitVec 32) (v290 : BitVec 32) (k0_hw105 : k0_chk105 d0 v10 v290), ∀ (k0_h65 : k0_cond65 d0 v10 = 1#1), ∀ a, (k0_off415 v290) a + S1x2048.size a ≤ S4096x2048.size a := fun d0 v10 v290 k0_hw105 k0_h65 => k0_hw105 k0_h65

def k0_off416 (d0 : Dev nD) (v10 : BitVec 32) (k0_t73 : Fin (k0_t73_loop d0 v10).trips) : Fin 2 → Nat :=
  let c1792_i32_161 : BitVec 32 := 1792#32
  let c1_i32_164 : BitVec 32 := 1#32
  let arg12 : BitVec 32 := Scf.iv c1792_i32_161 c1_i32_164 k0_t73
  let c0_i32_175 : BitVec 32 := 0#32
  ![arg12.toNat, 0]
@[reducible] def k0_t74_loop (d0 : Dev nD) (v10 : BitVec 32) : Scf.Loop 32 :=
  let c1792_i32_161 : BitVec 32 := 1792#32
  let c1920_i32 : BitVec 32 := 1920#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1920_i32 v18
  let v278 : BitVec 32 := Scalar.subi v277 c1792_i32_161
  let c1_i32_163 : BitVec 32 := 1#32
  let v280 : BitVec 32 := Scalar.divsi v278 c1_i32_163
  let v281 : BitVec 32 := Scalar.muli v280 c1_i32_163
  let v282 : BitVec 32 := Scalar.addi c1792_i32_161 v281
  let v279 : BitVec 32 := Scalar.addi c1792_i32_161 v278
  let c1_i32_165 : BitVec 32 := 1#32
  ⟨v282, v279, c1_i32_165⟩
def k0_off417 (d0 : Dev nD) (v10 : BitVec 32) (k0_t74 : Fin (k0_t74_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1792_i32_161 : BitVec 32 := 1792#32
  let c1920_i32 : BitVec 32 := 1920#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1920_i32 v18
  let v278 : BitVec 32 := Scalar.subi v277 c1792_i32_161
  let c1_i32_163 : BitVec 32 := 1#32
  let v280 : BitVec 32 := Scalar.divsi v278 c1_i32_163
  let v281 : BitVec 32 := Scalar.muli v280 c1_i32_163
  let v282 : BitVec 32 := Scalar.addi c1792_i32_161 v281
  let c1_i32_165 : BitVec 32 := 1#32
  let arg12 : BitVec 32 := Scf.iv v282 c1_i32_165 k0_t74
  let c64_i32_177 : BitVec 32 := 64#32
  let v305 : BitVec 32 := Scalar.subi arg12 c64_i32_177
  let v306 : BitVec 32 := Scalar.addi v17 v305
  let v307 : Index := Scalar.indexCast v306
  ![v307.toNat]
def k0_cond67 (d0 : Dev nD) (v10 : BitVec 32) (k0_t74 : Fin (k0_t74_loop d0 v10).trips) : BitVec 1 :=
  let c1792_i32_161 : BitVec 32 := 1792#32
  let c1920_i32 : BitVec 32 := 1920#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1920_i32 v18
  let v278 : BitVec 32 := Scalar.subi v277 c1792_i32_161
  let c1_i32_163 : BitVec 32 := 1#32
  let v280 : BitVec 32 := Scalar.divsi v278 c1_i32_163
  let v281 : BitVec 32 := Scalar.muli v280 c1_i32_163
  let v282 : BitVec 32 := Scalar.addi c1792_i32_161 v281
  let c1_i32_165 : BitVec 32 := 1#32
  let arg12 : BitVec 32 := Scf.iv v282 c1_i32_165 k0_t74
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off418 (d0 : Dev nD) (v10 : BitVec 32) (k0_t74 : Fin (k0_t74_loop d0 v10).trips) : Fin 1 → Nat :=
  let c1792_i32_161 : BitVec 32 := 1792#32
  let c1920_i32 : BitVec 32 := 1920#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1920_i32 v18
  let v278 : BitVec 32 := Scalar.subi v277 c1792_i32_161
  let c1_i32_163 : BitVec 32 := 1#32
  let v280 : BitVec 32 := Scalar.divsi v278 c1_i32_163
  let v281 : BitVec 32 := Scalar.muli v280 c1_i32_163
  let v282 : BitVec 32 := Scalar.addi c1792_i32_161 v281
  let c1_i32_165 : BitVec 32 := 1#32
  let arg12 : BitVec 32 := Scf.iv v282 c1_i32_165 k0_t74
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off419 (v308 : BitVec 32) : Fin 2 → Nat :=
  let c0_i32_184 : BitVec 32 := 0#32
  ![v308.toNat, 0]

def k0_chk106 (d0 : Dev nD) (v10 : BitVec 32) (k0_t74 : Fin (k0_t74_loop d0 v10).trips) (v308 : BitVec 32) : Prop :=
  (∀ (k0_h65 : k0_cond65 d0 v10 = 1#1), ∀ (k0_h67 : k0_cond67 d0 v10 k0_t74 = 1#1), ∀ a, (k0_off419 v308) a + S1x2048.size a ≤ S4096x2048.size a)
theorem k0_off419_inb : ∀ (d0 : Dev nD) (v10 : BitVec 32) (k0_t74 : Fin (k0_t74_loop d0 v10).trips) (v308 : BitVec 32) (k0_hw106 : k0_chk106 d0 v10 k0_t74 v308), ∀ (k0_h65 : k0_cond65 d0 v10 = 1#1), ∀ (k0_h67 : k0_cond67 d0 v10 k0_t74 = 1#1), ∀ a, (k0_off419 v308) a + S1x2048.size a ≤ S4096x2048.size a := fun d0 v10 k0_t74 v308 k0_hw106 k0_h65 k0_h67 => k0_hw106 k0_h65 k0_h67

def k0_off420 (d0 : Dev nD) (v10 : BitVec 32) (k0_t74 : Fin (k0_t74_loop d0 v10).trips) : Fin 2 → Nat :=
  let c1792_i32_161 : BitVec 32 := 1792#32
  let c1920_i32 : BitVec 32 := 1920#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1920_i32 v18
  let v278 : BitVec 32 := Scalar.subi v277 c1792_i32_161
  let c1_i32_163 : BitVec 32 := 1#32
  let v280 : BitVec 32 := Scalar.divsi v278 c1_i32_163
  let v281 : BitVec 32 := Scalar.muli v280 c1_i32_163
  let v282 : BitVec 32 := Scalar.addi c1792_i32_161 v281
  let c1_i32_165 : BitVec 32 := 1#32
  let arg12 : BitVec 32 := Scf.iv v282 c1_i32_165 k0_t74
  let c64_i32_177 : BitVec 32 := 64#32
  let v305 : BitVec 32 := Scalar.subi arg12 c64_i32_177
  let c0_i32_185 : BitVec 32 := 0#32
  ![v305.toNat, 0]
def k0_off421 (d0 : Dev nD) (v10 : BitVec 32) (k0_t74 : Fin (k0_t74_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1792_i32_161 : BitVec 32 := 1792#32
  let c1920_i32 : BitVec 32 := 1920#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1920_i32 v18
  let v278 : BitVec 32 := Scalar.subi v277 c1792_i32_161
  let c1_i32_163 : BitVec 32 := 1#32
  let v280 : BitVec 32 := Scalar.divsi v278 c1_i32_163
  let v281 : BitVec 32 := Scalar.muli v280 c1_i32_163
  let v282 : BitVec 32 := Scalar.addi c1792_i32_161 v281
  let c1_i32_165 : BitVec 32 := 1#32
  let arg12 : BitVec 32 := Scf.iv v282 c1_i32_165 k0_t74
  let v288 : BitVec 32 := Scalar.addi v17 arg12
  let v289 : Index := Scalar.indexCast v288
  ![v289.toNat]
def k0_off422 (d0 : Dev nD) (v10 : BitVec 32) (k0_t74 : Fin (k0_t74_loop d0 v10).trips) : Fin 1 → Nat :=
  let c1792_i32_161 : BitVec 32 := 1792#32
  let c1920_i32 : BitVec 32 := 1920#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1920_i32 v18
  let v278 : BitVec 32 := Scalar.subi v277 c1792_i32_161
  let c1_i32_163 : BitVec 32 := 1#32
  let v280 : BitVec 32 := Scalar.divsi v278 c1_i32_163
  let v281 : BitVec 32 := Scalar.muli v280 c1_i32_163
  let v282 : BitVec 32 := Scalar.addi c1792_i32_161 v281
  let c1_i32_165 : BitVec 32 := 1#32
  let arg12 : BitVec 32 := Scf.iv v282 c1_i32_165 k0_t74
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off423 (v290 : BitVec 32) : Fin 2 → Nat :=
  let c0_i32_174 : BitVec 32 := 0#32
  ![v290.toNat, 0]

def k0_chk107 (d0 : Dev nD) (v10 : BitVec 32) (v290 : BitVec 32) : Prop :=
  (∀ (k0_h65 : k0_cond65 d0 v10 = 1#1), ∀ a, (k0_off423 v290) a + S1x2048.size a ≤ S4096x2048.size a)
theorem k0_off423_inb : ∀ (d0 : Dev nD) (v10 : BitVec 32) (v290 : BitVec 32) (k0_hw107 : k0_chk107 d0 v10 v290), ∀ (k0_h65 : k0_cond65 d0 v10 = 1#1), ∀ a, (k0_off423 v290) a + S1x2048.size a ≤ S4096x2048.size a := fun d0 v10 v290 k0_hw107 k0_h65 => k0_hw107 k0_h65

def k0_off424 (d0 : Dev nD) (v10 : BitVec 32) (k0_t74 : Fin (k0_t74_loop d0 v10).trips) : Fin 2 → Nat :=
  let c1792_i32_161 : BitVec 32 := 1792#32
  let c1920_i32 : BitVec 32 := 1920#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c1920_i32 v18
  let v278 : BitVec 32 := Scalar.subi v277 c1792_i32_161
  let c1_i32_163 : BitVec 32 := 1#32
  let v280 : BitVec 32 := Scalar.divsi v278 c1_i32_163
  let v281 : BitVec 32 := Scalar.muli v280 c1_i32_163
  let v282 : BitVec 32 := Scalar.addi c1792_i32_161 v281
  let c1_i32_165 : BitVec 32 := 1#32
  let arg12 : BitVec 32 := Scf.iv v282 c1_i32_165 k0_t74
  let c0_i32_175 : BitVec 32 := 0#32
  ![arg12.toNat, 0]
@[reducible] def k0_t75_loop (d0 : Dev nD) (v10 : BitVec 32) : Scf.Loop 32 :=
  let c1920_i32_161 : BitVec 32 := 1920#32
  let c2048_i32 : BitVec 32 := 2048#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2048_i32 v18
  let v278 : BitVec 32 := Scalar.subi v277 c1920_i32_161
  let c1_i32_163 : BitVec 32 := 1#32
  let v280 : BitVec 32 := Scalar.divsi v278 c1_i32_163
  let v281 : BitVec 32 := Scalar.muli v280 c1_i32_163
  let v282 : BitVec 32 := Scalar.addi c1920_i32_161 v281
  let c1_i32_164 : BitVec 32 := 1#32
  ⟨c1920_i32_161, v282, c1_i32_164⟩
def k0_cond68 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c15_i32_96 : BitVec 32 := 15#32
  let v184 : BitVec 1 := Scalar.cmpi .sgt v56 c15_i32_96
  let v185 : BitVec 32 := Scalar.extui v184
  let c0_i32_97 : BitVec 32 := 0#32
  let v186 : BitVec 1 := Scalar.cmpi .ne v185 c0_i32_97
  v186

def k0_cond69 (d0 : Dev nD) (v10 : BitVec 32) (k0_t75 : Fin (k0_t75_loop d0 v10).trips) : BitVec 1 :=
  let c1920_i32_161 : BitVec 32 := 1920#32
  let c1_i32_164 : BitVec 32 := 1#32
  let arg12 : BitVec 32 := Scf.iv c1920_i32_161 c1_i32_164 k0_t75
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off425 (d0 : Dev nD) (v10 : BitVec 32) (k0_t75 : Fin (k0_t75_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1920_i32_161 : BitVec 32 := 1920#32
  let c1_i32_164 : BitVec 32 := 1#32
  let arg12 : BitVec 32 := Scf.iv c1920_i32_161 c1_i32_164 k0_t75
  let c64_i32_177 : BitVec 32 := 64#32
  let v305 : BitVec 32 := Scalar.subi arg12 c64_i32_177
  let v306 : BitVec 32 := Scalar.addi v17 v305
  let v307 : Index := Scalar.indexCast v306
  ![v307.toNat]
def k0_off426 (d0 : Dev nD) (v10 : BitVec 32) (k0_t75 : Fin (k0_t75_loop d0 v10).trips) : Fin 1 → Nat :=
  let c1920_i32_161 : BitVec 32 := 1920#32
  let c1_i32_164 : BitVec 32 := 1#32
  let arg12 : BitVec 32 := Scf.iv c1920_i32_161 c1_i32_164 k0_t75
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off427 (v308 : BitVec 32) : Fin 2 → Nat :=
  let c0_i32_184 : BitVec 32 := 0#32
  ![v308.toNat, 0]

def k0_chk108 (d0 : Dev nD) (v10 : BitVec 32) (k0_t75 : Fin (k0_t75_loop d0 v10).trips) (v308 : BitVec 32) : Prop :=
  (∀ (k0_h68 : k0_cond68 d0 v10 = 1#1), ∀ (k0_h69 : k0_cond69 d0 v10 k0_t75 = 1#1), ∀ a, (k0_off427 v308) a + S1x2048.size a ≤ S4096x2048.size a)
theorem k0_off427_inb : ∀ (d0 : Dev nD) (v10 : BitVec 32) (k0_t75 : Fin (k0_t75_loop d0 v10).trips) (v308 : BitVec 32) (k0_hw108 : k0_chk108 d0 v10 k0_t75 v308), ∀ (k0_h68 : k0_cond68 d0 v10 = 1#1), ∀ (k0_h69 : k0_cond69 d0 v10 k0_t75 = 1#1), ∀ a, (k0_off427 v308) a + S1x2048.size a ≤ S4096x2048.size a := fun d0 v10 k0_t75 v308 k0_hw108 k0_h68 k0_h69 => k0_hw108 k0_h68 k0_h69

def k0_off428 (d0 : Dev nD) (v10 : BitVec 32) (k0_t75 : Fin (k0_t75_loop d0 v10).trips) : Fin 2 → Nat :=
  let c1920_i32_161 : BitVec 32 := 1920#32
  let c1_i32_164 : BitVec 32 := 1#32
  let arg12 : BitVec 32 := Scf.iv c1920_i32_161 c1_i32_164 k0_t75
  let c64_i32_177 : BitVec 32 := 64#32
  let v305 : BitVec 32 := Scalar.subi arg12 c64_i32_177
  let c0_i32_185 : BitVec 32 := 0#32
  ![v305.toNat, 0]
def k0_off429 (d0 : Dev nD) (v10 : BitVec 32) (k0_t75 : Fin (k0_t75_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1920_i32_161 : BitVec 32 := 1920#32
  let c1_i32_164 : BitVec 32 := 1#32
  let arg12 : BitVec 32 := Scf.iv c1920_i32_161 c1_i32_164 k0_t75
  let v288 : BitVec 32 := Scalar.addi v17 arg12
  let v289 : Index := Scalar.indexCast v288
  ![v289.toNat]
def k0_off430 (d0 : Dev nD) (v10 : BitVec 32) (k0_t75 : Fin (k0_t75_loop d0 v10).trips) : Fin 1 → Nat :=
  let c1920_i32_161 : BitVec 32 := 1920#32
  let c1_i32_164 : BitVec 32 := 1#32
  let arg12 : BitVec 32 := Scf.iv c1920_i32_161 c1_i32_164 k0_t75
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off431 (v290 : BitVec 32) : Fin 2 → Nat :=
  let c0_i32_174 : BitVec 32 := 0#32
  ![v290.toNat, 0]

def k0_chk109 (d0 : Dev nD) (v10 : BitVec 32) (v290 : BitVec 32) : Prop :=
  (∀ (k0_h68 : k0_cond68 d0 v10 = 1#1), ∀ a, (k0_off431 v290) a + S1x2048.size a ≤ S4096x2048.size a)
theorem k0_off431_inb : ∀ (d0 : Dev nD) (v10 : BitVec 32) (v290 : BitVec 32) (k0_hw109 : k0_chk109 d0 v10 v290), ∀ (k0_h68 : k0_cond68 d0 v10 = 1#1), ∀ a, (k0_off431 v290) a + S1x2048.size a ≤ S4096x2048.size a := fun d0 v10 v290 k0_hw109 k0_h68 => k0_hw109 k0_h68

def k0_off432 (d0 : Dev nD) (v10 : BitVec 32) (k0_t75 : Fin (k0_t75_loop d0 v10).trips) : Fin 2 → Nat :=
  let c1920_i32_161 : BitVec 32 := 1920#32
  let c1_i32_164 : BitVec 32 := 1#32
  let arg12 : BitVec 32 := Scf.iv c1920_i32_161 c1_i32_164 k0_t75
  let c0_i32_175 : BitVec 32 := 0#32
  ![arg12.toNat, 0]
@[reducible] def k0_t76_loop (d0 : Dev nD) (v10 : BitVec 32) : Scf.Loop 32 :=
  let c1920_i32_161 : BitVec 32 := 1920#32
  let c2048_i32 : BitVec 32 := 2048#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2048_i32 v18
  let v278 : BitVec 32 := Scalar.subi v277 c1920_i32_161
  let c1_i32_163 : BitVec 32 := 1#32
  let v280 : BitVec 32 := Scalar.divsi v278 c1_i32_163
  let v281 : BitVec 32 := Scalar.muli v280 c1_i32_163
  let v282 : BitVec 32 := Scalar.addi c1920_i32_161 v281
  let v279 : BitVec 32 := Scalar.addi c1920_i32_161 v278
  let c1_i32_165 : BitVec 32 := 1#32
  ⟨v282, v279, c1_i32_165⟩
def k0_off433 (d0 : Dev nD) (v10 : BitVec 32) (k0_t76 : Fin (k0_t76_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1920_i32_161 : BitVec 32 := 1920#32
  let c2048_i32 : BitVec 32 := 2048#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2048_i32 v18
  let v278 : BitVec 32 := Scalar.subi v277 c1920_i32_161
  let c1_i32_163 : BitVec 32 := 1#32
  let v280 : BitVec 32 := Scalar.divsi v278 c1_i32_163
  let v281 : BitVec 32 := Scalar.muli v280 c1_i32_163
  let v282 : BitVec 32 := Scalar.addi c1920_i32_161 v281
  let c1_i32_165 : BitVec 32 := 1#32
  let arg12 : BitVec 32 := Scf.iv v282 c1_i32_165 k0_t76
  let c64_i32_177 : BitVec 32 := 64#32
  let v305 : BitVec 32 := Scalar.subi arg12 c64_i32_177
  let v306 : BitVec 32 := Scalar.addi v17 v305
  let v307 : Index := Scalar.indexCast v306
  ![v307.toNat]
def k0_cond70 (d0 : Dev nD) (v10 : BitVec 32) (k0_t76 : Fin (k0_t76_loop d0 v10).trips) : BitVec 1 :=
  let c1920_i32_161 : BitVec 32 := 1920#32
  let c2048_i32 : BitVec 32 := 2048#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2048_i32 v18
  let v278 : BitVec 32 := Scalar.subi v277 c1920_i32_161
  let c1_i32_163 : BitVec 32 := 1#32
  let v280 : BitVec 32 := Scalar.divsi v278 c1_i32_163
  let v281 : BitVec 32 := Scalar.muli v280 c1_i32_163
  let v282 : BitVec 32 := Scalar.addi c1920_i32_161 v281
  let c1_i32_165 : BitVec 32 := 1#32
  let arg12 : BitVec 32 := Scf.iv v282 c1_i32_165 k0_t76
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off434 (d0 : Dev nD) (v10 : BitVec 32) (k0_t76 : Fin (k0_t76_loop d0 v10).trips) : Fin 1 → Nat :=
  let c1920_i32_161 : BitVec 32 := 1920#32
  let c2048_i32 : BitVec 32 := 2048#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2048_i32 v18
  let v278 : BitVec 32 := Scalar.subi v277 c1920_i32_161
  let c1_i32_163 : BitVec 32 := 1#32
  let v280 : BitVec 32 := Scalar.divsi v278 c1_i32_163
  let v281 : BitVec 32 := Scalar.muli v280 c1_i32_163
  let v282 : BitVec 32 := Scalar.addi c1920_i32_161 v281
  let c1_i32_165 : BitVec 32 := 1#32
  let arg12 : BitVec 32 := Scf.iv v282 c1_i32_165 k0_t76
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off435 (v308 : BitVec 32) : Fin 2 → Nat :=
  let c0_i32_184 : BitVec 32 := 0#32
  ![v308.toNat, 0]

def k0_chk110 (d0 : Dev nD) (v10 : BitVec 32) (k0_t76 : Fin (k0_t76_loop d0 v10).trips) (v308 : BitVec 32) : Prop :=
  (∀ (k0_h68 : k0_cond68 d0 v10 = 1#1), ∀ (k0_h70 : k0_cond70 d0 v10 k0_t76 = 1#1), ∀ a, (k0_off435 v308) a + S1x2048.size a ≤ S4096x2048.size a)
theorem k0_off435_inb : ∀ (d0 : Dev nD) (v10 : BitVec 32) (k0_t76 : Fin (k0_t76_loop d0 v10).trips) (v308 : BitVec 32) (k0_hw110 : k0_chk110 d0 v10 k0_t76 v308), ∀ (k0_h68 : k0_cond68 d0 v10 = 1#1), ∀ (k0_h70 : k0_cond70 d0 v10 k0_t76 = 1#1), ∀ a, (k0_off435 v308) a + S1x2048.size a ≤ S4096x2048.size a := fun d0 v10 k0_t76 v308 k0_hw110 k0_h68 k0_h70 => k0_hw110 k0_h68 k0_h70

def k0_off436 (d0 : Dev nD) (v10 : BitVec 32) (k0_t76 : Fin (k0_t76_loop d0 v10).trips) : Fin 2 → Nat :=
  let c1920_i32_161 : BitVec 32 := 1920#32
  let c2048_i32 : BitVec 32 := 2048#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2048_i32 v18
  let v278 : BitVec 32 := Scalar.subi v277 c1920_i32_161
  let c1_i32_163 : BitVec 32 := 1#32
  let v280 : BitVec 32 := Scalar.divsi v278 c1_i32_163
  let v281 : BitVec 32 := Scalar.muli v280 c1_i32_163
  let v282 : BitVec 32 := Scalar.addi c1920_i32_161 v281
  let c1_i32_165 : BitVec 32 := 1#32
  let arg12 : BitVec 32 := Scf.iv v282 c1_i32_165 k0_t76
  let c64_i32_177 : BitVec 32 := 64#32
  let v305 : BitVec 32 := Scalar.subi arg12 c64_i32_177
  let c0_i32_185 : BitVec 32 := 0#32
  ![v305.toNat, 0]
def k0_off437 (d0 : Dev nD) (v10 : BitVec 32) (k0_t76 : Fin (k0_t76_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c1920_i32_161 : BitVec 32 := 1920#32
  let c2048_i32 : BitVec 32 := 2048#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2048_i32 v18
  let v278 : BitVec 32 := Scalar.subi v277 c1920_i32_161
  let c1_i32_163 : BitVec 32 := 1#32
  let v280 : BitVec 32 := Scalar.divsi v278 c1_i32_163
  let v281 : BitVec 32 := Scalar.muli v280 c1_i32_163
  let v282 : BitVec 32 := Scalar.addi c1920_i32_161 v281
  let c1_i32_165 : BitVec 32 := 1#32
  let arg12 : BitVec 32 := Scf.iv v282 c1_i32_165 k0_t76
  let v288 : BitVec 32 := Scalar.addi v17 arg12
  let v289 : Index := Scalar.indexCast v288
  ![v289.toNat]
def k0_off438 (d0 : Dev nD) (v10 : BitVec 32) (k0_t76 : Fin (k0_t76_loop d0 v10).trips) : Fin 1 → Nat :=
  let c1920_i32_161 : BitVec 32 := 1920#32
  let c2048_i32 : BitVec 32 := 2048#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2048_i32 v18
  let v278 : BitVec 32 := Scalar.subi v277 c1920_i32_161
  let c1_i32_163 : BitVec 32 := 1#32
  let v280 : BitVec 32 := Scalar.divsi v278 c1_i32_163
  let v281 : BitVec 32 := Scalar.muli v280 c1_i32_163
  let v282 : BitVec 32 := Scalar.addi c1920_i32_161 v281
  let c1_i32_165 : BitVec 32 := 1#32
  let arg12 : BitVec 32 := Scf.iv v282 c1_i32_165 k0_t76
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off439 (v290 : BitVec 32) : Fin 2 → Nat :=
  let c0_i32_174 : BitVec 32 := 0#32
  ![v290.toNat, 0]

def k0_chk111 (d0 : Dev nD) (v10 : BitVec 32) (v290 : BitVec 32) : Prop :=
  (∀ (k0_h68 : k0_cond68 d0 v10 = 1#1), ∀ a, (k0_off439 v290) a + S1x2048.size a ≤ S4096x2048.size a)
theorem k0_off439_inb : ∀ (d0 : Dev nD) (v10 : BitVec 32) (v290 : BitVec 32) (k0_hw111 : k0_chk111 d0 v10 v290), ∀ (k0_h68 : k0_cond68 d0 v10 = 1#1), ∀ a, (k0_off439 v290) a + S1x2048.size a ≤ S4096x2048.size a := fun d0 v10 v290 k0_hw111 k0_h68 => k0_hw111 k0_h68

def k0_off440 (d0 : Dev nD) (v10 : BitVec 32) (k0_t76 : Fin (k0_t76_loop d0 v10).trips) : Fin 2 → Nat :=
  let c1920_i32_161 : BitVec 32 := 1920#32
  let c2048_i32 : BitVec 32 := 2048#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2048_i32 v18
  let v278 : BitVec 32 := Scalar.subi v277 c1920_i32_161
  let c1_i32_163 : BitVec 32 := 1#32
  let v280 : BitVec 32 := Scalar.divsi v278 c1_i32_163
  let v281 : BitVec 32 := Scalar.muli v280 c1_i32_163
  let v282 : BitVec 32 := Scalar.addi c1920_i32_161 v281
  let c1_i32_165 : BitVec 32 := 1#32
  let arg12 : BitVec 32 := Scf.iv v282 c1_i32_165 k0_t76
  let c0_i32_175 : BitVec 32 := 0#32
  ![arg12.toNat, 0]
@[reducible] def k0_t77_loop (d0 : Dev nD) (v10 : BitVec 32) : Scf.Loop 32 :=
  let c2048_i32_161 : BitVec 32 := 2048#32
  let c2176_i32 : BitVec 32 := 2176#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2176_i32 v18
  let v278 : BitVec 32 := Scalar.subi v277 c2048_i32_161
  let c1_i32_163 : BitVec 32 := 1#32
  let v280 : BitVec 32 := Scalar.divsi v278 c1_i32_163
  let v281 : BitVec 32 := Scalar.muli v280 c1_i32_163
  let v282 : BitVec 32 := Scalar.addi c2048_i32_161 v281
  let c1_i32_164 : BitVec 32 := 1#32
  ⟨c2048_i32_161, v282, c1_i32_164⟩
def k0_cond71 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c16_i32_98 : BitVec 32 := 16#32
  let v187 : BitVec 1 := Scalar.cmpi .sgt v56 c16_i32_98
  let v188 : BitVec 32 := Scalar.extui v187
  let c0_i32_99 : BitVec 32 := 0#32
  let v189 : BitVec 1 := Scalar.cmpi .ne v188 c0_i32_99
  v189

def k0_cond72 (d0 : Dev nD) (v10 : BitVec 32) (k0_t77 : Fin (k0_t77_loop d0 v10).trips) : BitVec 1 :=
  let c2048_i32_161 : BitVec 32 := 2048#32
  let c1_i32_164 : BitVec 32 := 1#32
  let arg12 : BitVec 32 := Scf.iv c2048_i32_161 c1_i32_164 k0_t77
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off441 (d0 : Dev nD) (v10 : BitVec 32) (k0_t77 : Fin (k0_t77_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2048_i32_161 : BitVec 32 := 2048#32
  let c1_i32_164 : BitVec 32 := 1#32
  let arg12 : BitVec 32 := Scf.iv c2048_i32_161 c1_i32_164 k0_t77
  let c64_i32_177 : BitVec 32 := 64#32
  let v305 : BitVec 32 := Scalar.subi arg12 c64_i32_177
  let v306 : BitVec 32 := Scalar.addi v17 v305
  let v307 : Index := Scalar.indexCast v306
  ![v307.toNat]
def k0_off442 (d0 : Dev nD) (v10 : BitVec 32) (k0_t77 : Fin (k0_t77_loop d0 v10).trips) : Fin 1 → Nat :=
  let c2048_i32_161 : BitVec 32 := 2048#32
  let c1_i32_164 : BitVec 32 := 1#32
  let arg12 : BitVec 32 := Scf.iv c2048_i32_161 c1_i32_164 k0_t77
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off443 (v308 : BitVec 32) : Fin 2 → Nat :=
  let c0_i32_184 : BitVec 32 := 0#32
  ![v308.toNat, 0]

def k0_chk112 (d0 : Dev nD) (v10 : BitVec 32) (k0_t77 : Fin (k0_t77_loop d0 v10).trips) (v308 : BitVec 32) : Prop :=
  (∀ (k0_h71 : k0_cond71 d0 v10 = 1#1), ∀ (k0_h72 : k0_cond72 d0 v10 k0_t77 = 1#1), ∀ a, (k0_off443 v308) a + S1x2048.size a ≤ S4096x2048.size a)
theorem k0_off443_inb : ∀ (d0 : Dev nD) (v10 : BitVec 32) (k0_t77 : Fin (k0_t77_loop d0 v10).trips) (v308 : BitVec 32) (k0_hw112 : k0_chk112 d0 v10 k0_t77 v308), ∀ (k0_h71 : k0_cond71 d0 v10 = 1#1), ∀ (k0_h72 : k0_cond72 d0 v10 k0_t77 = 1#1), ∀ a, (k0_off443 v308) a + S1x2048.size a ≤ S4096x2048.size a := fun d0 v10 k0_t77 v308 k0_hw112 k0_h71 k0_h72 => k0_hw112 k0_h71 k0_h72

def k0_off444 (d0 : Dev nD) (v10 : BitVec 32) (k0_t77 : Fin (k0_t77_loop d0 v10).trips) : Fin 2 → Nat :=
  let c2048_i32_161 : BitVec 32 := 2048#32
  let c1_i32_164 : BitVec 32 := 1#32
  let arg12 : BitVec 32 := Scf.iv c2048_i32_161 c1_i32_164 k0_t77
  let c64_i32_177 : BitVec 32 := 64#32
  let v305 : BitVec 32 := Scalar.subi arg12 c64_i32_177
  let c0_i32_185 : BitVec 32 := 0#32
  ![v305.toNat, 0]
def k0_off445 (d0 : Dev nD) (v10 : BitVec 32) (k0_t77 : Fin (k0_t77_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2048_i32_161 : BitVec 32 := 2048#32
  let c1_i32_164 : BitVec 32 := 1#32
  let arg12 : BitVec 32 := Scf.iv c2048_i32_161 c1_i32_164 k0_t77
  let v288 : BitVec 32 := Scalar.addi v17 arg12
  let v289 : Index := Scalar.indexCast v288
  ![v289.toNat]
def k0_off446 (d0 : Dev nD) (v10 : BitVec 32) (k0_t77 : Fin (k0_t77_loop d0 v10).trips) : Fin 1 → Nat :=
  let c2048_i32_161 : BitVec 32 := 2048#32
  let c1_i32_164 : BitVec 32 := 1#32
  let arg12 : BitVec 32 := Scf.iv c2048_i32_161 c1_i32_164 k0_t77
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off447 (v290 : BitVec 32) : Fin 2 → Nat :=
  let c0_i32_174 : BitVec 32 := 0#32
  ![v290.toNat, 0]

def k0_chk113 (d0 : Dev nD) (v10 : BitVec 32) (v290 : BitVec 32) : Prop :=
  (∀ (k0_h71 : k0_cond71 d0 v10 = 1#1), ∀ a, (k0_off447 v290) a + S1x2048.size a ≤ S4096x2048.size a)
theorem k0_off447_inb : ∀ (d0 : Dev nD) (v10 : BitVec 32) (v290 : BitVec 32) (k0_hw113 : k0_chk113 d0 v10 v290), ∀ (k0_h71 : k0_cond71 d0 v10 = 1#1), ∀ a, (k0_off447 v290) a + S1x2048.size a ≤ S4096x2048.size a := fun d0 v10 v290 k0_hw113 k0_h71 => k0_hw113 k0_h71

def k0_off448 (d0 : Dev nD) (v10 : BitVec 32) (k0_t77 : Fin (k0_t77_loop d0 v10).trips) : Fin 2 → Nat :=
  let c2048_i32_161 : BitVec 32 := 2048#32
  let c1_i32_164 : BitVec 32 := 1#32
  let arg12 : BitVec 32 := Scf.iv c2048_i32_161 c1_i32_164 k0_t77
  let c0_i32_175 : BitVec 32 := 0#32
  ![arg12.toNat, 0]
@[reducible] def k0_t78_loop (d0 : Dev nD) (v10 : BitVec 32) : Scf.Loop 32 :=
  let c2048_i32_161 : BitVec 32 := 2048#32
  let c2176_i32 : BitVec 32 := 2176#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2176_i32 v18
  let v278 : BitVec 32 := Scalar.subi v277 c2048_i32_161
  let c1_i32_163 : BitVec 32 := 1#32
  let v280 : BitVec 32 := Scalar.divsi v278 c1_i32_163
  let v281 : BitVec 32 := Scalar.muli v280 c1_i32_163
  let v282 : BitVec 32 := Scalar.addi c2048_i32_161 v281
  let v279 : BitVec 32 := Scalar.addi c2048_i32_161 v278
  let c1_i32_165 : BitVec 32 := 1#32
  ⟨v282, v279, c1_i32_165⟩
def k0_off449 (d0 : Dev nD) (v10 : BitVec 32) (k0_t78 : Fin (k0_t78_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2048_i32_161 : BitVec 32 := 2048#32
  let c2176_i32 : BitVec 32 := 2176#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2176_i32 v18
  let v278 : BitVec 32 := Scalar.subi v277 c2048_i32_161
  let c1_i32_163 : BitVec 32 := 1#32
  let v280 : BitVec 32 := Scalar.divsi v278 c1_i32_163
  let v281 : BitVec 32 := Scalar.muli v280 c1_i32_163
  let v282 : BitVec 32 := Scalar.addi c2048_i32_161 v281
  let c1_i32_165 : BitVec 32 := 1#32
  let arg12 : BitVec 32 := Scf.iv v282 c1_i32_165 k0_t78
  let c64_i32_177 : BitVec 32 := 64#32
  let v305 : BitVec 32 := Scalar.subi arg12 c64_i32_177
  let v306 : BitVec 32 := Scalar.addi v17 v305
  let v307 : Index := Scalar.indexCast v306
  ![v307.toNat]
def k0_cond73 (d0 : Dev nD) (v10 : BitVec 32) (k0_t78 : Fin (k0_t78_loop d0 v10).trips) : BitVec 1 :=
  let c2048_i32_161 : BitVec 32 := 2048#32
  let c2176_i32 : BitVec 32 := 2176#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2176_i32 v18
  let v278 : BitVec 32 := Scalar.subi v277 c2048_i32_161
  let c1_i32_163 : BitVec 32 := 1#32
  let v280 : BitVec 32 := Scalar.divsi v278 c1_i32_163
  let v281 : BitVec 32 := Scalar.muli v280 c1_i32_163
  let v282 : BitVec 32 := Scalar.addi c2048_i32_161 v281
  let c1_i32_165 : BitVec 32 := 1#32
  let arg12 : BitVec 32 := Scf.iv v282 c1_i32_165 k0_t78
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off450 (d0 : Dev nD) (v10 : BitVec 32) (k0_t78 : Fin (k0_t78_loop d0 v10).trips) : Fin 1 → Nat :=
  let c2048_i32_161 : BitVec 32 := 2048#32
  let c2176_i32 : BitVec 32 := 2176#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2176_i32 v18
  let v278 : BitVec 32 := Scalar.subi v277 c2048_i32_161
  let c1_i32_163 : BitVec 32 := 1#32
  let v280 : BitVec 32 := Scalar.divsi v278 c1_i32_163
  let v281 : BitVec 32 := Scalar.muli v280 c1_i32_163
  let v282 : BitVec 32 := Scalar.addi c2048_i32_161 v281
  let c1_i32_165 : BitVec 32 := 1#32
  let arg12 : BitVec 32 := Scf.iv v282 c1_i32_165 k0_t78
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off451 (v308 : BitVec 32) : Fin 2 → Nat :=
  let c0_i32_184 : BitVec 32 := 0#32
  ![v308.toNat, 0]

def k0_chk114 (d0 : Dev nD) (v10 : BitVec 32) (k0_t78 : Fin (k0_t78_loop d0 v10).trips) (v308 : BitVec 32) : Prop :=
  (∀ (k0_h71 : k0_cond71 d0 v10 = 1#1), ∀ (k0_h73 : k0_cond73 d0 v10 k0_t78 = 1#1), ∀ a, (k0_off451 v308) a + S1x2048.size a ≤ S4096x2048.size a)
theorem k0_off451_inb : ∀ (d0 : Dev nD) (v10 : BitVec 32) (k0_t78 : Fin (k0_t78_loop d0 v10).trips) (v308 : BitVec 32) (k0_hw114 : k0_chk114 d0 v10 k0_t78 v308), ∀ (k0_h71 : k0_cond71 d0 v10 = 1#1), ∀ (k0_h73 : k0_cond73 d0 v10 k0_t78 = 1#1), ∀ a, (k0_off451 v308) a + S1x2048.size a ≤ S4096x2048.size a := fun d0 v10 k0_t78 v308 k0_hw114 k0_h71 k0_h73 => k0_hw114 k0_h71 k0_h73

def k0_off452 (d0 : Dev nD) (v10 : BitVec 32) (k0_t78 : Fin (k0_t78_loop d0 v10).trips) : Fin 2 → Nat :=
  let c2048_i32_161 : BitVec 32 := 2048#32
  let c2176_i32 : BitVec 32 := 2176#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2176_i32 v18
  let v278 : BitVec 32 := Scalar.subi v277 c2048_i32_161
  let c1_i32_163 : BitVec 32 := 1#32
  let v280 : BitVec 32 := Scalar.divsi v278 c1_i32_163
  let v281 : BitVec 32 := Scalar.muli v280 c1_i32_163
  let v282 : BitVec 32 := Scalar.addi c2048_i32_161 v281
  let c1_i32_165 : BitVec 32 := 1#32
  let arg12 : BitVec 32 := Scf.iv v282 c1_i32_165 k0_t78
  let c64_i32_177 : BitVec 32 := 64#32
  let v305 : BitVec 32 := Scalar.subi arg12 c64_i32_177
  let c0_i32_185 : BitVec 32 := 0#32
  ![v305.toNat, 0]
def k0_off453 (d0 : Dev nD) (v10 : BitVec 32) (k0_t78 : Fin (k0_t78_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2048_i32_161 : BitVec 32 := 2048#32
  let c2176_i32 : BitVec 32 := 2176#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2176_i32 v18
  let v278 : BitVec 32 := Scalar.subi v277 c2048_i32_161
  let c1_i32_163 : BitVec 32 := 1#32
  let v280 : BitVec 32 := Scalar.divsi v278 c1_i32_163
  let v281 : BitVec 32 := Scalar.muli v280 c1_i32_163
  let v282 : BitVec 32 := Scalar.addi c2048_i32_161 v281
  let c1_i32_165 : BitVec 32 := 1#32
  let arg12 : BitVec 32 := Scf.iv v282 c1_i32_165 k0_t78
  let v288 : BitVec 32 := Scalar.addi v17 arg12
  let v289 : Index := Scalar.indexCast v288
  ![v289.toNat]
def k0_off454 (d0 : Dev nD) (v10 : BitVec 32) (k0_t78 : Fin (k0_t78_loop d0 v10).trips) : Fin 1 → Nat :=
  let c2048_i32_161 : BitVec 32 := 2048#32
  let c2176_i32 : BitVec 32 := 2176#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2176_i32 v18
  let v278 : BitVec 32 := Scalar.subi v277 c2048_i32_161
  let c1_i32_163 : BitVec 32 := 1#32
  let v280 : BitVec 32 := Scalar.divsi v278 c1_i32_163
  let v281 : BitVec 32 := Scalar.muli v280 c1_i32_163
  let v282 : BitVec 32 := Scalar.addi c2048_i32_161 v281
  let c1_i32_165 : BitVec 32 := 1#32
  let arg12 : BitVec 32 := Scf.iv v282 c1_i32_165 k0_t78
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off455 (v290 : BitVec 32) : Fin 2 → Nat :=
  let c0_i32_174 : BitVec 32 := 0#32
  ![v290.toNat, 0]

def k0_chk115 (d0 : Dev nD) (v10 : BitVec 32) (v290 : BitVec 32) : Prop :=
  (∀ (k0_h71 : k0_cond71 d0 v10 = 1#1), ∀ a, (k0_off455 v290) a + S1x2048.size a ≤ S4096x2048.size a)
theorem k0_off455_inb : ∀ (d0 : Dev nD) (v10 : BitVec 32) (v290 : BitVec 32) (k0_hw115 : k0_chk115 d0 v10 v290), ∀ (k0_h71 : k0_cond71 d0 v10 = 1#1), ∀ a, (k0_off455 v290) a + S1x2048.size a ≤ S4096x2048.size a := fun d0 v10 v290 k0_hw115 k0_h71 => k0_hw115 k0_h71

def k0_off456 (d0 : Dev nD) (v10 : BitVec 32) (k0_t78 : Fin (k0_t78_loop d0 v10).trips) : Fin 2 → Nat :=
  let c2048_i32_161 : BitVec 32 := 2048#32
  let c2176_i32 : BitVec 32 := 2176#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2176_i32 v18
  let v278 : BitVec 32 := Scalar.subi v277 c2048_i32_161
  let c1_i32_163 : BitVec 32 := 1#32
  let v280 : BitVec 32 := Scalar.divsi v278 c1_i32_163
  let v281 : BitVec 32 := Scalar.muli v280 c1_i32_163
  let v282 : BitVec 32 := Scalar.addi c2048_i32_161 v281
  let c1_i32_165 : BitVec 32 := 1#32
  let arg12 : BitVec 32 := Scf.iv v282 c1_i32_165 k0_t78
  let c0_i32_175 : BitVec 32 := 0#32
  ![arg12.toNat, 0]
@[reducible] def k0_t79_loop (d0 : Dev nD) (v10 : BitVec 32) : Scf.Loop 32 :=
  let c2176_i32_161 : BitVec 32 := 2176#32
  let c2304_i32 : BitVec 32 := 2304#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2304_i32 v18
  let v278 : BitVec 32 := Scalar.subi v277 c2176_i32_161
  let c1_i32_163 : BitVec 32 := 1#32
  let v280 : BitVec 32 := Scalar.divsi v278 c1_i32_163
  let v281 : BitVec 32 := Scalar.muli v280 c1_i32_163
  let v282 : BitVec 32 := Scalar.addi c2176_i32_161 v281
  let c1_i32_164 : BitVec 32 := 1#32
  ⟨c2176_i32_161, v282, c1_i32_164⟩
def k0_cond74 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c17_i32_100 : BitVec 32 := 17#32
  let v190 : BitVec 1 := Scalar.cmpi .sgt v56 c17_i32_100
  let v191 : BitVec 32 := Scalar.extui v190
  let c0_i32_101 : BitVec 32 := 0#32
  let v192 : BitVec 1 := Scalar.cmpi .ne v191 c0_i32_101
  v192

def k0_cond75 (d0 : Dev nD) (v10 : BitVec 32) (k0_t79 : Fin (k0_t79_loop d0 v10).trips) : BitVec 1 :=
  let c2176_i32_161 : BitVec 32 := 2176#32
  let c1_i32_164 : BitVec 32 := 1#32
  let arg12 : BitVec 32 := Scf.iv c2176_i32_161 c1_i32_164 k0_t79
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off457 (d0 : Dev nD) (v10 : BitVec 32) (k0_t79 : Fin (k0_t79_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2176_i32_161 : BitVec 32 := 2176#32
  let c1_i32_164 : BitVec 32 := 1#32
  let arg12 : BitVec 32 := Scf.iv c2176_i32_161 c1_i32_164 k0_t79
  let c64_i32_177 : BitVec 32 := 64#32
  let v305 : BitVec 32 := Scalar.subi arg12 c64_i32_177
  let v306 : BitVec 32 := Scalar.addi v17 v305
  let v307 : Index := Scalar.indexCast v306
  ![v307.toNat]
def k0_off458 (d0 : Dev nD) (v10 : BitVec 32) (k0_t79 : Fin (k0_t79_loop d0 v10).trips) : Fin 1 → Nat :=
  let c2176_i32_161 : BitVec 32 := 2176#32
  let c1_i32_164 : BitVec 32 := 1#32
  let arg12 : BitVec 32 := Scf.iv c2176_i32_161 c1_i32_164 k0_t79
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off459 (v308 : BitVec 32) : Fin 2 → Nat :=
  let c0_i32_184 : BitVec 32 := 0#32
  ![v308.toNat, 0]

def k0_chk116 (d0 : Dev nD) (v10 : BitVec 32) (k0_t79 : Fin (k0_t79_loop d0 v10).trips) (v308 : BitVec 32) : Prop :=
  (∀ (k0_h74 : k0_cond74 d0 v10 = 1#1), ∀ (k0_h75 : k0_cond75 d0 v10 k0_t79 = 1#1), ∀ a, (k0_off459 v308) a + S1x2048.size a ≤ S4096x2048.size a)
theorem k0_off459_inb : ∀ (d0 : Dev nD) (v10 : BitVec 32) (k0_t79 : Fin (k0_t79_loop d0 v10).trips) (v308 : BitVec 32) (k0_hw116 : k0_chk116 d0 v10 k0_t79 v308), ∀ (k0_h74 : k0_cond74 d0 v10 = 1#1), ∀ (k0_h75 : k0_cond75 d0 v10 k0_t79 = 1#1), ∀ a, (k0_off459 v308) a + S1x2048.size a ≤ S4096x2048.size a := fun d0 v10 k0_t79 v308 k0_hw116 k0_h74 k0_h75 => k0_hw116 k0_h74 k0_h75

def k0_off460 (d0 : Dev nD) (v10 : BitVec 32) (k0_t79 : Fin (k0_t79_loop d0 v10).trips) : Fin 2 → Nat :=
  let c2176_i32_161 : BitVec 32 := 2176#32
  let c1_i32_164 : BitVec 32 := 1#32
  let arg12 : BitVec 32 := Scf.iv c2176_i32_161 c1_i32_164 k0_t79
  let c64_i32_177 : BitVec 32 := 64#32
  let v305 : BitVec 32 := Scalar.subi arg12 c64_i32_177
  let c0_i32_185 : BitVec 32 := 0#32
  ![v305.toNat, 0]
def k0_off461 (d0 : Dev nD) (v10 : BitVec 32) (k0_t79 : Fin (k0_t79_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2176_i32_161 : BitVec 32 := 2176#32
  let c1_i32_164 : BitVec 32 := 1#32
  let arg12 : BitVec 32 := Scf.iv c2176_i32_161 c1_i32_164 k0_t79
  let v288 : BitVec 32 := Scalar.addi v17 arg12
  let v289 : Index := Scalar.indexCast v288
  ![v289.toNat]
def k0_off462 (d0 : Dev nD) (v10 : BitVec 32) (k0_t79 : Fin (k0_t79_loop d0 v10).trips) : Fin 1 → Nat :=
  let c2176_i32_161 : BitVec 32 := 2176#32
  let c1_i32_164 : BitVec 32 := 1#32
  let arg12 : BitVec 32 := Scf.iv c2176_i32_161 c1_i32_164 k0_t79
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off463 (v290 : BitVec 32) : Fin 2 → Nat :=
  let c0_i32_174 : BitVec 32 := 0#32
  ![v290.toNat, 0]

def k0_chk117 (d0 : Dev nD) (v10 : BitVec 32) (v290 : BitVec 32) : Prop :=
  (∀ (k0_h74 : k0_cond74 d0 v10 = 1#1), ∀ a, (k0_off463 v290) a + S1x2048.size a ≤ S4096x2048.size a)
theorem k0_off463_inb : ∀ (d0 : Dev nD) (v10 : BitVec 32) (v290 : BitVec 32) (k0_hw117 : k0_chk117 d0 v10 v290), ∀ (k0_h74 : k0_cond74 d0 v10 = 1#1), ∀ a, (k0_off463 v290) a + S1x2048.size a ≤ S4096x2048.size a := fun d0 v10 v290 k0_hw117 k0_h74 => k0_hw117 k0_h74

def k0_off464 (d0 : Dev nD) (v10 : BitVec 32) (k0_t79 : Fin (k0_t79_loop d0 v10).trips) : Fin 2 → Nat :=
  let c2176_i32_161 : BitVec 32 := 2176#32
  let c1_i32_164 : BitVec 32 := 1#32
  let arg12 : BitVec 32 := Scf.iv c2176_i32_161 c1_i32_164 k0_t79
  let c0_i32_175 : BitVec 32 := 0#32
  ![arg12.toNat, 0]
@[reducible] def k0_t80_loop (d0 : Dev nD) (v10 : BitVec 32) : Scf.Loop 32 :=
  let c2176_i32_161 : BitVec 32 := 2176#32
  let c2304_i32 : BitVec 32 := 2304#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2304_i32 v18
  let v278 : BitVec 32 := Scalar.subi v277 c2176_i32_161
  let c1_i32_163 : BitVec 32 := 1#32
  let v280 : BitVec 32 := Scalar.divsi v278 c1_i32_163
  let v281 : BitVec 32 := Scalar.muli v280 c1_i32_163
  let v282 : BitVec 32 := Scalar.addi c2176_i32_161 v281
  let v279 : BitVec 32 := Scalar.addi c2176_i32_161 v278
  let c1_i32_165 : BitVec 32 := 1#32
  ⟨v282, v279, c1_i32_165⟩
def k0_off465 (d0 : Dev nD) (v10 : BitVec 32) (k0_t80 : Fin (k0_t80_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2176_i32_161 : BitVec 32 := 2176#32
  let c2304_i32 : BitVec 32 := 2304#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2304_i32 v18
  let v278 : BitVec 32 := Scalar.subi v277 c2176_i32_161
  let c1_i32_163 : BitVec 32 := 1#32
  let v280 : BitVec 32 := Scalar.divsi v278 c1_i32_163
  let v281 : BitVec 32 := Scalar.muli v280 c1_i32_163
  let v282 : BitVec 32 := Scalar.addi c2176_i32_161 v281
  let c1_i32_165 : BitVec 32 := 1#32
  let arg12 : BitVec 32 := Scf.iv v282 c1_i32_165 k0_t80
  let c64_i32_177 : BitVec 32 := 64#32
  let v305 : BitVec 32 := Scalar.subi arg12 c64_i32_177
  let v306 : BitVec 32 := Scalar.addi v17 v305
  let v307 : Index := Scalar.indexCast v306
  ![v307.toNat]
def k0_cond76 (d0 : Dev nD) (v10 : BitVec 32) (k0_t80 : Fin (k0_t80_loop d0 v10).trips) : BitVec 1 :=
  let c2176_i32_161 : BitVec 32 := 2176#32
  let c2304_i32 : BitVec 32 := 2304#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2304_i32 v18
  let v278 : BitVec 32 := Scalar.subi v277 c2176_i32_161
  let c1_i32_163 : BitVec 32 := 1#32
  let v280 : BitVec 32 := Scalar.divsi v278 c1_i32_163
  let v281 : BitVec 32 := Scalar.muli v280 c1_i32_163
  let v282 : BitVec 32 := Scalar.addi c2176_i32_161 v281
  let c1_i32_165 : BitVec 32 := 1#32
  let arg12 : BitVec 32 := Scf.iv v282 c1_i32_165 k0_t80
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off466 (d0 : Dev nD) (v10 : BitVec 32) (k0_t80 : Fin (k0_t80_loop d0 v10).trips) : Fin 1 → Nat :=
  let c2176_i32_161 : BitVec 32 := 2176#32
  let c2304_i32 : BitVec 32 := 2304#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2304_i32 v18
  let v278 : BitVec 32 := Scalar.subi v277 c2176_i32_161
  let c1_i32_163 : BitVec 32 := 1#32
  let v280 : BitVec 32 := Scalar.divsi v278 c1_i32_163
  let v281 : BitVec 32 := Scalar.muli v280 c1_i32_163
  let v282 : BitVec 32 := Scalar.addi c2176_i32_161 v281
  let c1_i32_165 : BitVec 32 := 1#32
  let arg12 : BitVec 32 := Scf.iv v282 c1_i32_165 k0_t80
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off467 (v308 : BitVec 32) : Fin 2 → Nat :=
  let c0_i32_184 : BitVec 32 := 0#32
  ![v308.toNat, 0]

def k0_chk118 (d0 : Dev nD) (v10 : BitVec 32) (k0_t80 : Fin (k0_t80_loop d0 v10).trips) (v308 : BitVec 32) : Prop :=
  (∀ (k0_h74 : k0_cond74 d0 v10 = 1#1), ∀ (k0_h76 : k0_cond76 d0 v10 k0_t80 = 1#1), ∀ a, (k0_off467 v308) a + S1x2048.size a ≤ S4096x2048.size a)
theorem k0_off467_inb : ∀ (d0 : Dev nD) (v10 : BitVec 32) (k0_t80 : Fin (k0_t80_loop d0 v10).trips) (v308 : BitVec 32) (k0_hw118 : k0_chk118 d0 v10 k0_t80 v308), ∀ (k0_h74 : k0_cond74 d0 v10 = 1#1), ∀ (k0_h76 : k0_cond76 d0 v10 k0_t80 = 1#1), ∀ a, (k0_off467 v308) a + S1x2048.size a ≤ S4096x2048.size a := fun d0 v10 k0_t80 v308 k0_hw118 k0_h74 k0_h76 => k0_hw118 k0_h74 k0_h76

def k0_off468 (d0 : Dev nD) (v10 : BitVec 32) (k0_t80 : Fin (k0_t80_loop d0 v10).trips) : Fin 2 → Nat :=
  let c2176_i32_161 : BitVec 32 := 2176#32
  let c2304_i32 : BitVec 32 := 2304#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2304_i32 v18
  let v278 : BitVec 32 := Scalar.subi v277 c2176_i32_161
  let c1_i32_163 : BitVec 32 := 1#32
  let v280 : BitVec 32 := Scalar.divsi v278 c1_i32_163
  let v281 : BitVec 32 := Scalar.muli v280 c1_i32_163
  let v282 : BitVec 32 := Scalar.addi c2176_i32_161 v281
  let c1_i32_165 : BitVec 32 := 1#32
  let arg12 : BitVec 32 := Scf.iv v282 c1_i32_165 k0_t80
  let c64_i32_177 : BitVec 32 := 64#32
  let v305 : BitVec 32 := Scalar.subi arg12 c64_i32_177
  let c0_i32_185 : BitVec 32 := 0#32
  ![v305.toNat, 0]
def k0_off469 (d0 : Dev nD) (v10 : BitVec 32) (k0_t80 : Fin (k0_t80_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2176_i32_161 : BitVec 32 := 2176#32
  let c2304_i32 : BitVec 32 := 2304#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2304_i32 v18
  let v278 : BitVec 32 := Scalar.subi v277 c2176_i32_161
  let c1_i32_163 : BitVec 32 := 1#32
  let v280 : BitVec 32 := Scalar.divsi v278 c1_i32_163
  let v281 : BitVec 32 := Scalar.muli v280 c1_i32_163
  let v282 : BitVec 32 := Scalar.addi c2176_i32_161 v281
  let c1_i32_165 : BitVec 32 := 1#32
  let arg12 : BitVec 32 := Scf.iv v282 c1_i32_165 k0_t80
  let v288 : BitVec 32 := Scalar.addi v17 arg12
  let v289 : Index := Scalar.indexCast v288
  ![v289.toNat]
def k0_off470 (d0 : Dev nD) (v10 : BitVec 32) (k0_t80 : Fin (k0_t80_loop d0 v10).trips) : Fin 1 → Nat :=
  let c2176_i32_161 : BitVec 32 := 2176#32
  let c2304_i32 : BitVec 32 := 2304#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2304_i32 v18
  let v278 : BitVec 32 := Scalar.subi v277 c2176_i32_161
  let c1_i32_163 : BitVec 32 := 1#32
  let v280 : BitVec 32 := Scalar.divsi v278 c1_i32_163
  let v281 : BitVec 32 := Scalar.muli v280 c1_i32_163
  let v282 : BitVec 32 := Scalar.addi c2176_i32_161 v281
  let c1_i32_165 : BitVec 32 := 1#32
  let arg12 : BitVec 32 := Scf.iv v282 c1_i32_165 k0_t80
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off471 (v290 : BitVec 32) : Fin 2 → Nat :=
  let c0_i32_174 : BitVec 32 := 0#32
  ![v290.toNat, 0]

def k0_chk119 (d0 : Dev nD) (v10 : BitVec 32) (v290 : BitVec 32) : Prop :=
  (∀ (k0_h74 : k0_cond74 d0 v10 = 1#1), ∀ a, (k0_off471 v290) a + S1x2048.size a ≤ S4096x2048.size a)
theorem k0_off471_inb : ∀ (d0 : Dev nD) (v10 : BitVec 32) (v290 : BitVec 32) (k0_hw119 : k0_chk119 d0 v10 v290), ∀ (k0_h74 : k0_cond74 d0 v10 = 1#1), ∀ a, (k0_off471 v290) a + S1x2048.size a ≤ S4096x2048.size a := fun d0 v10 v290 k0_hw119 k0_h74 => k0_hw119 k0_h74

def k0_off472 (d0 : Dev nD) (v10 : BitVec 32) (k0_t80 : Fin (k0_t80_loop d0 v10).trips) : Fin 2 → Nat :=
  let c2176_i32_161 : BitVec 32 := 2176#32
  let c2304_i32 : BitVec 32 := 2304#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2304_i32 v18
  let v278 : BitVec 32 := Scalar.subi v277 c2176_i32_161
  let c1_i32_163 : BitVec 32 := 1#32
  let v280 : BitVec 32 := Scalar.divsi v278 c1_i32_163
  let v281 : BitVec 32 := Scalar.muli v280 c1_i32_163
  let v282 : BitVec 32 := Scalar.addi c2176_i32_161 v281
  let c1_i32_165 : BitVec 32 := 1#32
  let arg12 : BitVec 32 := Scf.iv v282 c1_i32_165 k0_t80
  let c0_i32_175 : BitVec 32 := 0#32
  ![arg12.toNat, 0]
@[reducible] def k0_t81_loop (d0 : Dev nD) (v10 : BitVec 32) : Scf.Loop 32 :=
  let c2304_i32_161 : BitVec 32 := 2304#32
  let c2432_i32 : BitVec 32 := 2432#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2432_i32 v18
  let v278 : BitVec 32 := Scalar.subi v277 c2304_i32_161
  let c1_i32_163 : BitVec 32 := 1#32
  let v280 : BitVec 32 := Scalar.divsi v278 c1_i32_163
  let v281 : BitVec 32 := Scalar.muli v280 c1_i32_163
  let v282 : BitVec 32 := Scalar.addi c2304_i32_161 v281
  let c1_i32_164 : BitVec 32 := 1#32
  ⟨c2304_i32_161, v282, c1_i32_164⟩
def k0_cond77 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c18_i32_102 : BitVec 32 := 18#32
  let v193 : BitVec 1 := Scalar.cmpi .sgt v56 c18_i32_102
  let v194 : BitVec 32 := Scalar.extui v193
  let c0_i32_103 : BitVec 32 := 0#32
  let v195 : BitVec 1 := Scalar.cmpi .ne v194 c0_i32_103
  v195

def k0_cond78 (d0 : Dev nD) (v10 : BitVec 32) (k0_t81 : Fin (k0_t81_loop d0 v10).trips) : BitVec 1 :=
  let c2304_i32_161 : BitVec 32 := 2304#32
  let c1_i32_164 : BitVec 32 := 1#32
  let arg12 : BitVec 32 := Scf.iv c2304_i32_161 c1_i32_164 k0_t81
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off473 (d0 : Dev nD) (v10 : BitVec 32) (k0_t81 : Fin (k0_t81_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2304_i32_161 : BitVec 32 := 2304#32
  let c1_i32_164 : BitVec 32 := 1#32
  let arg12 : BitVec 32 := Scf.iv c2304_i32_161 c1_i32_164 k0_t81
  let c64_i32_177 : BitVec 32 := 64#32
  let v305 : BitVec 32 := Scalar.subi arg12 c64_i32_177
  let v306 : BitVec 32 := Scalar.addi v17 v305
  let v307 : Index := Scalar.indexCast v306
  ![v307.toNat]
def k0_off474 (d0 : Dev nD) (v10 : BitVec 32) (k0_t81 : Fin (k0_t81_loop d0 v10).trips) : Fin 1 → Nat :=
  let c2304_i32_161 : BitVec 32 := 2304#32
  let c1_i32_164 : BitVec 32 := 1#32
  let arg12 : BitVec 32 := Scf.iv c2304_i32_161 c1_i32_164 k0_t81
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off475 (v308 : BitVec 32) : Fin 2 → Nat :=
  let c0_i32_184 : BitVec 32 := 0#32
  ![v308.toNat, 0]

def k0_chk120 (d0 : Dev nD) (v10 : BitVec 32) (k0_t81 : Fin (k0_t81_loop d0 v10).trips) (v308 : BitVec 32) : Prop :=
  (∀ (k0_h77 : k0_cond77 d0 v10 = 1#1), ∀ (k0_h78 : k0_cond78 d0 v10 k0_t81 = 1#1), ∀ a, (k0_off475 v308) a + S1x2048.size a ≤ S4096x2048.size a)
theorem k0_off475_inb : ∀ (d0 : Dev nD) (v10 : BitVec 32) (k0_t81 : Fin (k0_t81_loop d0 v10).trips) (v308 : BitVec 32) (k0_hw120 : k0_chk120 d0 v10 k0_t81 v308), ∀ (k0_h77 : k0_cond77 d0 v10 = 1#1), ∀ (k0_h78 : k0_cond78 d0 v10 k0_t81 = 1#1), ∀ a, (k0_off475 v308) a + S1x2048.size a ≤ S4096x2048.size a := fun d0 v10 k0_t81 v308 k0_hw120 k0_h77 k0_h78 => k0_hw120 k0_h77 k0_h78

def k0_off476 (d0 : Dev nD) (v10 : BitVec 32) (k0_t81 : Fin (k0_t81_loop d0 v10).trips) : Fin 2 → Nat :=
  let c2304_i32_161 : BitVec 32 := 2304#32
  let c1_i32_164 : BitVec 32 := 1#32
  let arg12 : BitVec 32 := Scf.iv c2304_i32_161 c1_i32_164 k0_t81
  let c64_i32_177 : BitVec 32 := 64#32
  let v305 : BitVec 32 := Scalar.subi arg12 c64_i32_177
  let c0_i32_185 : BitVec 32 := 0#32
  ![v305.toNat, 0]
def k0_off477 (d0 : Dev nD) (v10 : BitVec 32) (k0_t81 : Fin (k0_t81_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2304_i32_161 : BitVec 32 := 2304#32
  let c1_i32_164 : BitVec 32 := 1#32
  let arg12 : BitVec 32 := Scf.iv c2304_i32_161 c1_i32_164 k0_t81
  let v288 : BitVec 32 := Scalar.addi v17 arg12
  let v289 : Index := Scalar.indexCast v288
  ![v289.toNat]
def k0_off478 (d0 : Dev nD) (v10 : BitVec 32) (k0_t81 : Fin (k0_t81_loop d0 v10).trips) : Fin 1 → Nat :=
  let c2304_i32_161 : BitVec 32 := 2304#32
  let c1_i32_164 : BitVec 32 := 1#32
  let arg12 : BitVec 32 := Scf.iv c2304_i32_161 c1_i32_164 k0_t81
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off479 (v290 : BitVec 32) : Fin 2 → Nat :=
  let c0_i32_174 : BitVec 32 := 0#32
  ![v290.toNat, 0]

def k0_chk121 (d0 : Dev nD) (v10 : BitVec 32) (v290 : BitVec 32) : Prop :=
  (∀ (k0_h77 : k0_cond77 d0 v10 = 1#1), ∀ a, (k0_off479 v290) a + S1x2048.size a ≤ S4096x2048.size a)
theorem k0_off479_inb : ∀ (d0 : Dev nD) (v10 : BitVec 32) (v290 : BitVec 32) (k0_hw121 : k0_chk121 d0 v10 v290), ∀ (k0_h77 : k0_cond77 d0 v10 = 1#1), ∀ a, (k0_off479 v290) a + S1x2048.size a ≤ S4096x2048.size a := fun d0 v10 v290 k0_hw121 k0_h77 => k0_hw121 k0_h77

def k0_off480 (d0 : Dev nD) (v10 : BitVec 32) (k0_t81 : Fin (k0_t81_loop d0 v10).trips) : Fin 2 → Nat :=
  let c2304_i32_161 : BitVec 32 := 2304#32
  let c1_i32_164 : BitVec 32 := 1#32
  let arg12 : BitVec 32 := Scf.iv c2304_i32_161 c1_i32_164 k0_t81
  let c0_i32_175 : BitVec 32 := 0#32
  ![arg12.toNat, 0]
@[reducible] def k0_t82_loop (d0 : Dev nD) (v10 : BitVec 32) : Scf.Loop 32 :=
  let c2304_i32_161 : BitVec 32 := 2304#32
  let c2432_i32 : BitVec 32 := 2432#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2432_i32 v18
  let v278 : BitVec 32 := Scalar.subi v277 c2304_i32_161
  let c1_i32_163 : BitVec 32 := 1#32
  let v280 : BitVec 32 := Scalar.divsi v278 c1_i32_163
  let v281 : BitVec 32 := Scalar.muli v280 c1_i32_163
  let v282 : BitVec 32 := Scalar.addi c2304_i32_161 v281
  let v279 : BitVec 32 := Scalar.addi c2304_i32_161 v278
  let c1_i32_165 : BitVec 32 := 1#32
  ⟨v282, v279, c1_i32_165⟩
def k0_off481 (d0 : Dev nD) (v10 : BitVec 32) (k0_t82 : Fin (k0_t82_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2304_i32_161 : BitVec 32 := 2304#32
  let c2432_i32 : BitVec 32 := 2432#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2432_i32 v18
  let v278 : BitVec 32 := Scalar.subi v277 c2304_i32_161
  let c1_i32_163 : BitVec 32 := 1#32
  let v280 : BitVec 32 := Scalar.divsi v278 c1_i32_163
  let v281 : BitVec 32 := Scalar.muli v280 c1_i32_163
  let v282 : BitVec 32 := Scalar.addi c2304_i32_161 v281
  let c1_i32_165 : BitVec 32 := 1#32
  let arg12 : BitVec 32 := Scf.iv v282 c1_i32_165 k0_t82
  let c64_i32_177 : BitVec 32 := 64#32
  let v305 : BitVec 32 := Scalar.subi arg12 c64_i32_177
  let v306 : BitVec 32 := Scalar.addi v17 v305
  let v307 : Index := Scalar.indexCast v306
  ![v307.toNat]
def k0_cond79 (d0 : Dev nD) (v10 : BitVec 32) (k0_t82 : Fin (k0_t82_loop d0 v10).trips) : BitVec 1 :=
  let c2304_i32_161 : BitVec 32 := 2304#32
  let c2432_i32 : BitVec 32 := 2432#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2432_i32 v18
  let v278 : BitVec 32 := Scalar.subi v277 c2304_i32_161
  let c1_i32_163 : BitVec 32 := 1#32
  let v280 : BitVec 32 := Scalar.divsi v278 c1_i32_163
  let v281 : BitVec 32 := Scalar.muli v280 c1_i32_163
  let v282 : BitVec 32 := Scalar.addi c2304_i32_161 v281
  let c1_i32_165 : BitVec 32 := 1#32
  let arg12 : BitVec 32 := Scf.iv v282 c1_i32_165 k0_t82
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off482 (d0 : Dev nD) (v10 : BitVec 32) (k0_t82 : Fin (k0_t82_loop d0 v10).trips) : Fin 1 → Nat :=
  let c2304_i32_161 : BitVec 32 := 2304#32
  let c2432_i32 : BitVec 32 := 2432#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2432_i32 v18
  let v278 : BitVec 32 := Scalar.subi v277 c2304_i32_161
  let c1_i32_163 : BitVec 32 := 1#32
  let v280 : BitVec 32 := Scalar.divsi v278 c1_i32_163
  let v281 : BitVec 32 := Scalar.muli v280 c1_i32_163
  let v282 : BitVec 32 := Scalar.addi c2304_i32_161 v281
  let c1_i32_165 : BitVec 32 := 1#32
  let arg12 : BitVec 32 := Scf.iv v282 c1_i32_165 k0_t82
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off483 (v308 : BitVec 32) : Fin 2 → Nat :=
  let c0_i32_184 : BitVec 32 := 0#32
  ![v308.toNat, 0]

def k0_chk122 (d0 : Dev nD) (v10 : BitVec 32) (k0_t82 : Fin (k0_t82_loop d0 v10).trips) (v308 : BitVec 32) : Prop :=
  (∀ (k0_h77 : k0_cond77 d0 v10 = 1#1), ∀ (k0_h79 : k0_cond79 d0 v10 k0_t82 = 1#1), ∀ a, (k0_off483 v308) a + S1x2048.size a ≤ S4096x2048.size a)
theorem k0_off483_inb : ∀ (d0 : Dev nD) (v10 : BitVec 32) (k0_t82 : Fin (k0_t82_loop d0 v10).trips) (v308 : BitVec 32) (k0_hw122 : k0_chk122 d0 v10 k0_t82 v308), ∀ (k0_h77 : k0_cond77 d0 v10 = 1#1), ∀ (k0_h79 : k0_cond79 d0 v10 k0_t82 = 1#1), ∀ a, (k0_off483 v308) a + S1x2048.size a ≤ S4096x2048.size a := fun d0 v10 k0_t82 v308 k0_hw122 k0_h77 k0_h79 => k0_hw122 k0_h77 k0_h79

def k0_off484 (d0 : Dev nD) (v10 : BitVec 32) (k0_t82 : Fin (k0_t82_loop d0 v10).trips) : Fin 2 → Nat :=
  let c2304_i32_161 : BitVec 32 := 2304#32
  let c2432_i32 : BitVec 32 := 2432#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2432_i32 v18
  let v278 : BitVec 32 := Scalar.subi v277 c2304_i32_161
  let c1_i32_163 : BitVec 32 := 1#32
  let v280 : BitVec 32 := Scalar.divsi v278 c1_i32_163
  let v281 : BitVec 32 := Scalar.muli v280 c1_i32_163
  let v282 : BitVec 32 := Scalar.addi c2304_i32_161 v281
  let c1_i32_165 : BitVec 32 := 1#32
  let arg12 : BitVec 32 := Scf.iv v282 c1_i32_165 k0_t82
  let c64_i32_177 : BitVec 32 := 64#32
  let v305 : BitVec 32 := Scalar.subi arg12 c64_i32_177
  let c0_i32_185 : BitVec 32 := 0#32
  ![v305.toNat, 0]
def k0_off485 (d0 : Dev nD) (v10 : BitVec 32) (k0_t82 : Fin (k0_t82_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2304_i32_161 : BitVec 32 := 2304#32
  let c2432_i32 : BitVec 32 := 2432#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2432_i32 v18
  let v278 : BitVec 32 := Scalar.subi v277 c2304_i32_161
  let c1_i32_163 : BitVec 32 := 1#32
  let v280 : BitVec 32 := Scalar.divsi v278 c1_i32_163
  let v281 : BitVec 32 := Scalar.muli v280 c1_i32_163
  let v282 : BitVec 32 := Scalar.addi c2304_i32_161 v281
  let c1_i32_165 : BitVec 32 := 1#32
  let arg12 : BitVec 32 := Scf.iv v282 c1_i32_165 k0_t82
  let v288 : BitVec 32 := Scalar.addi v17 arg12
  let v289 : Index := Scalar.indexCast v288
  ![v289.toNat]
def k0_off486 (d0 : Dev nD) (v10 : BitVec 32) (k0_t82 : Fin (k0_t82_loop d0 v10).trips) : Fin 1 → Nat :=
  let c2304_i32_161 : BitVec 32 := 2304#32
  let c2432_i32 : BitVec 32 := 2432#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2432_i32 v18
  let v278 : BitVec 32 := Scalar.subi v277 c2304_i32_161
  let c1_i32_163 : BitVec 32 := 1#32
  let v280 : BitVec 32 := Scalar.divsi v278 c1_i32_163
  let v281 : BitVec 32 := Scalar.muli v280 c1_i32_163
  let v282 : BitVec 32 := Scalar.addi c2304_i32_161 v281
  let c1_i32_165 : BitVec 32 := 1#32
  let arg12 : BitVec 32 := Scf.iv v282 c1_i32_165 k0_t82
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off487 (v290 : BitVec 32) : Fin 2 → Nat :=
  let c0_i32_174 : BitVec 32 := 0#32
  ![v290.toNat, 0]

def k0_chk123 (d0 : Dev nD) (v10 : BitVec 32) (v290 : BitVec 32) : Prop :=
  (∀ (k0_h77 : k0_cond77 d0 v10 = 1#1), ∀ a, (k0_off487 v290) a + S1x2048.size a ≤ S4096x2048.size a)
theorem k0_off487_inb : ∀ (d0 : Dev nD) (v10 : BitVec 32) (v290 : BitVec 32) (k0_hw123 : k0_chk123 d0 v10 v290), ∀ (k0_h77 : k0_cond77 d0 v10 = 1#1), ∀ a, (k0_off487 v290) a + S1x2048.size a ≤ S4096x2048.size a := fun d0 v10 v290 k0_hw123 k0_h77 => k0_hw123 k0_h77

def k0_off488 (d0 : Dev nD) (v10 : BitVec 32) (k0_t82 : Fin (k0_t82_loop d0 v10).trips) : Fin 2 → Nat :=
  let c2304_i32_161 : BitVec 32 := 2304#32
  let c2432_i32 : BitVec 32 := 2432#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2432_i32 v18
  let v278 : BitVec 32 := Scalar.subi v277 c2304_i32_161
  let c1_i32_163 : BitVec 32 := 1#32
  let v280 : BitVec 32 := Scalar.divsi v278 c1_i32_163
  let v281 : BitVec 32 := Scalar.muli v280 c1_i32_163
  let v282 : BitVec 32 := Scalar.addi c2304_i32_161 v281
  let c1_i32_165 : BitVec 32 := 1#32
  let arg12 : BitVec 32 := Scf.iv v282 c1_i32_165 k0_t82
  let c0_i32_175 : BitVec 32 := 0#32
  ![arg12.toNat, 0]
@[reducible] def k0_t83_loop (d0 : Dev nD) (v10 : BitVec 32) : Scf.Loop 32 :=
  let c2432_i32_161 : BitVec 32 := 2432#32
  let c2560_i32 : BitVec 32 := 2560#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2560_i32 v18
  let v278 : BitVec 32 := Scalar.subi v277 c2432_i32_161
  let c1_i32_163 : BitVec 32 := 1#32
  let v280 : BitVec 32 := Scalar.divsi v278 c1_i32_163
  let v281 : BitVec 32 := Scalar.muli v280 c1_i32_163
  let v282 : BitVec 32 := Scalar.addi c2432_i32_161 v281
  let c1_i32_164 : BitVec 32 := 1#32
  ⟨c2432_i32_161, v282, c1_i32_164⟩
def k0_cond80 (d0 : Dev nD) (v10 : BitVec 32) : BitVec 1 :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c128_i32_16 : BitVec 32 := 128#32
  let v38 : BitVec 32 := Scalar.addi v18 c128_i32_16
  let c1_i32_17 : BitVec 32 := 1#32
  let v39 : BitVec 32 := Scalar.subi v38 c1_i32_17
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c128_i32_18 : BitVec 32 := 128#32
  let c0_i32_21 : BitVec 32 := 0#32
  let v46 : BitVec 1 := Scalar.cmpi .sgt c128_i32_18 c0_i32_21
  let v47 : BitVec 32 := Scalar.extui v46
  let c0_i32_22 : BitVec 32 := 0#32
  let v48 : BitVec 1 := Scalar.cmpi .slt c128_i32_18 c0_i32_22
  let v49 : BitVec 32 := Scalar.extui v48
  let v50 : BitVec 32 := Scalar.subi v47 v49
  let v51 : BitVec 1 := Scalar.cmpi .ne v45 v50
  let v52 : BitVec 32 := Scalar.remsi v39 c128_i32_18
  let c0_i32_23 : BitVec 32 := 0#32
  let v53 : BitVec 1 := Scalar.cmpi .ne v52 c0_i32_23
  let v54 : BitVec 1 := Scalar.andi v51 v53
  let v40 : BitVec 32 := Scalar.divsi v39 c128_i32_18
  let c1_i32_24 : BitVec 32 := 1#32
  let v55 : BitVec 32 := Scalar.subi v40 c1_i32_24
  let v56 : BitVec 32 := Scalar.select v54 v55 v40
  let c19_i32_104 : BitVec 32 := 19#32
  let v196 : BitVec 1 := Scalar.cmpi .sgt v56 c19_i32_104
  let v197 : BitVec 32 := Scalar.extui v196
  let c0_i32_105 : BitVec 32 := 0#32
  let v198 : BitVec 1 := Scalar.cmpi .ne v197 c0_i32_105
  v198

def k0_cond81 (d0 : Dev nD) (v10 : BitVec 32) (k0_t83 : Fin (k0_t83_loop d0 v10).trips) : BitVec 1 :=
  let c2432_i32_161 : BitVec 32 := 2432#32
  let c1_i32_164 : BitVec 32 := 1#32
  let arg12 : BitVec 32 := Scf.iv c2432_i32_161 c1_i32_164 k0_t83
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off489 (d0 : Dev nD) (v10 : BitVec 32) (k0_t83 : Fin (k0_t83_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2432_i32_161 : BitVec 32 := 2432#32
  let c1_i32_164 : BitVec 32 := 1#32
  let arg12 : BitVec 32 := Scf.iv c2432_i32_161 c1_i32_164 k0_t83
  let c64_i32_177 : BitVec 32 := 64#32
  let v305 : BitVec 32 := Scalar.subi arg12 c64_i32_177
  let v306 : BitVec 32 := Scalar.addi v17 v305
  let v307 : Index := Scalar.indexCast v306
  ![v307.toNat]
def k0_off490 (d0 : Dev nD) (v10 : BitVec 32) (k0_t83 : Fin (k0_t83_loop d0 v10).trips) : Fin 1 → Nat :=
  let c2432_i32_161 : BitVec 32 := 2432#32
  let c1_i32_164 : BitVec 32 := 1#32
  let arg12 : BitVec 32 := Scf.iv c2432_i32_161 c1_i32_164 k0_t83
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off491 (v308 : BitVec 32) : Fin 2 → Nat :=
  let c0_i32_184 : BitVec 32 := 0#32
  ![v308.toNat, 0]

def k0_chk124 (d0 : Dev nD) (v10 : BitVec 32) (k0_t83 : Fin (k0_t83_loop d0 v10).trips) (v308 : BitVec 32) : Prop :=
  (∀ (k0_h80 : k0_cond80 d0 v10 = 1#1), ∀ (k0_h81 : k0_cond81 d0 v10 k0_t83 = 1#1), ∀ a, (k0_off491 v308) a + S1x2048.size a ≤ S4096x2048.size a)
theorem k0_off491_inb : ∀ (d0 : Dev nD) (v10 : BitVec 32) (k0_t83 : Fin (k0_t83_loop d0 v10).trips) (v308 : BitVec 32) (k0_hw124 : k0_chk124 d0 v10 k0_t83 v308), ∀ (k0_h80 : k0_cond80 d0 v10 = 1#1), ∀ (k0_h81 : k0_cond81 d0 v10 k0_t83 = 1#1), ∀ a, (k0_off491 v308) a + S1x2048.size a ≤ S4096x2048.size a := fun d0 v10 k0_t83 v308 k0_hw124 k0_h80 k0_h81 => k0_hw124 k0_h80 k0_h81

def k0_off492 (d0 : Dev nD) (v10 : BitVec 32) (k0_t83 : Fin (k0_t83_loop d0 v10).trips) : Fin 2 → Nat :=
  let c2432_i32_161 : BitVec 32 := 2432#32
  let c1_i32_164 : BitVec 32 := 1#32
  let arg12 : BitVec 32 := Scf.iv c2432_i32_161 c1_i32_164 k0_t83
  let c64_i32_177 : BitVec 32 := 64#32
  let v305 : BitVec 32 := Scalar.subi arg12 c64_i32_177
  let c0_i32_185 : BitVec 32 := 0#32
  ![v305.toNat, 0]
def k0_off493 (d0 : Dev nD) (v10 : BitVec 32) (k0_t83 : Fin (k0_t83_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2432_i32_161 : BitVec 32 := 2432#32
  let c1_i32_164 : BitVec 32 := 1#32
  let arg12 : BitVec 32 := Scf.iv c2432_i32_161 c1_i32_164 k0_t83
  let v288 : BitVec 32 := Scalar.addi v17 arg12
  let v289 : Index := Scalar.indexCast v288
  ![v289.toNat]
def k0_off494 (d0 : Dev nD) (v10 : BitVec 32) (k0_t83 : Fin (k0_t83_loop d0 v10).trips) : Fin 1 → Nat :=
  let c2432_i32_161 : BitVec 32 := 2432#32
  let c1_i32_164 : BitVec 32 := 1#32
  let arg12 : BitVec 32 := Scf.iv c2432_i32_161 c1_i32_164 k0_t83
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off495 (v290 : BitVec 32) : Fin 2 → Nat :=
  let c0_i32_174 : BitVec 32 := 0#32
  ![v290.toNat, 0]

def k0_chk125 (d0 : Dev nD) (v10 : BitVec 32) (v290 : BitVec 32) : Prop :=
  (∀ (k0_h80 : k0_cond80 d0 v10 = 1#1), ∀ a, (k0_off495 v290) a + S1x2048.size a ≤ S4096x2048.size a)
theorem k0_off495_inb : ∀ (d0 : Dev nD) (v10 : BitVec 32) (v290 : BitVec 32) (k0_hw125 : k0_chk125 d0 v10 v290), ∀ (k0_h80 : k0_cond80 d0 v10 = 1#1), ∀ a, (k0_off495 v290) a + S1x2048.size a ≤ S4096x2048.size a := fun d0 v10 v290 k0_hw125 k0_h80 => k0_hw125 k0_h80

def k0_off496 (d0 : Dev nD) (v10 : BitVec 32) (k0_t83 : Fin (k0_t83_loop d0 v10).trips) : Fin 2 → Nat :=
  let c2432_i32_161 : BitVec 32 := 2432#32
  let c1_i32_164 : BitVec 32 := 1#32
  let arg12 : BitVec 32 := Scf.iv c2432_i32_161 c1_i32_164 k0_t83
  let c0_i32_175 : BitVec 32 := 0#32
  ![arg12.toNat, 0]
@[reducible] def k0_t84_loop (d0 : Dev nD) (v10 : BitVec 32) : Scf.Loop 32 :=
  let c2432_i32_161 : BitVec 32 := 2432#32
  let c2560_i32 : BitVec 32 := 2560#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2560_i32 v18
  let v278 : BitVec 32 := Scalar.subi v277 c2432_i32_161
  let c1_i32_163 : BitVec 32 := 1#32
  let v280 : BitVec 32 := Scalar.divsi v278 c1_i32_163
  let v281 : BitVec 32 := Scalar.muli v280 c1_i32_163
  let v282 : BitVec 32 := Scalar.addi c2432_i32_161 v281
  let v279 : BitVec 32 := Scalar.addi c2432_i32_161 v278
  let c1_i32_165 : BitVec 32 := 1#32
  ⟨v282, v279, c1_i32_165⟩
def k0_off497 (d0 : Dev nD) (v10 : BitVec 32) (k0_t84 : Fin (k0_t84_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2432_i32_161 : BitVec 32 := 2432#32
  let c2560_i32 : BitVec 32 := 2560#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2560_i32 v18
  let v278 : BitVec 32 := Scalar.subi v277 c2432_i32_161
  let c1_i32_163 : BitVec 32 := 1#32
  let v280 : BitVec 32 := Scalar.divsi v278 c1_i32_163
  let v281 : BitVec 32 := Scalar.muli v280 c1_i32_163
  let v282 : BitVec 32 := Scalar.addi c2432_i32_161 v281
  let c1_i32_165 : BitVec 32 := 1#32
  let arg12 : BitVec 32 := Scf.iv v282 c1_i32_165 k0_t84
  let c64_i32_177 : BitVec 32 := 64#32
  let v305 : BitVec 32 := Scalar.subi arg12 c64_i32_177
  let v306 : BitVec 32 := Scalar.addi v17 v305
  let v307 : Index := Scalar.indexCast v306
  ![v307.toNat]
def k0_cond82 (d0 : Dev nD) (v10 : BitVec 32) (k0_t84 : Fin (k0_t84_loop d0 v10).trips) : BitVec 1 :=
  let c2432_i32_161 : BitVec 32 := 2432#32
  let c2560_i32 : BitVec 32 := 2560#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2560_i32 v18
  let v278 : BitVec 32 := Scalar.subi v277 c2432_i32_161
  let c1_i32_163 : BitVec 32 := 1#32
  let v280 : BitVec 32 := Scalar.divsi v278 c1_i32_163
  let v281 : BitVec 32 := Scalar.muli v280 c1_i32_163
  let v282 : BitVec 32 := Scalar.addi c2432_i32_161 v281
  let c1_i32_165 : BitVec 32 := 1#32
  let arg12 : BitVec 32 := Scf.iv v282 c1_i32_165 k0_t84
  let c64_i32_166 : BitVec 32 := 64#32
  let v285 : BitVec 1 := Scalar.cmpi .sge arg12 c64_i32_166
  let v286 : BitVec 32 := Scalar.extui v285
  let c0_i32_167 : BitVec 32 := 0#32
  let v287 : BitVec 1 := Scalar.cmpi .ne v286 c0_i32_167
  v287

def k0_off498 (d0 : Dev nD) (v10 : BitVec 32) (k0_t84 : Fin (k0_t84_loop d0 v10).trips) : Fin 1 → Nat :=
  let c2432_i32_161 : BitVec 32 := 2432#32
  let c2560_i32 : BitVec 32 := 2560#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2560_i32 v18
  let v278 : BitVec 32 := Scalar.subi v277 c2432_i32_161
  let c1_i32_163 : BitVec 32 := 1#32
  let v280 : BitVec 32 := Scalar.divsi v278 c1_i32_163
  let v281 : BitVec 32 := Scalar.muli v280 c1_i32_163
  let v282 : BitVec 32 := Scalar.addi c2432_i32_161 v281
  let c1_i32_165 : BitVec 32 := 1#32
  let arg12 : BitVec 32 := Scf.iv v282 c1_i32_165 k0_t84
  let c64_i32_177 : BitVec 32 := 64#32
  let v305 : BitVec 32 := Scalar.subi arg12 c64_i32_177
  let c64_i32_178 : BitVec 32 := 64#32
  let c0_i32_179 : BitVec 32 := 0#32
  let v309 : BitVec 1 := Scalar.cmpi .eq c64_i32_178 c0_i32_179
  let c1_i32_180 : BitVec 32 := 1#32
  let v310 : BitVec 32 := Scalar.select v309 c1_i32_180 c64_i32_178
  let v311 : BitVec 32 := Scalar.remsi v305 v310
  let c0_i32_182 : BitVec 32 := 0#32
  let v313 : BitVec 1 := Scalar.cmpi .slt v311 c0_i32_182
  let c0_i32_183 : BitVec 32 := 0#32
  let v314 : BitVec 1 := Scalar.cmpi .slt v310 c0_i32_183
  let v315 : BitVec 1 := Scalar.xori v313 v314
  let c0_i32_181 : BitVec 32 := 0#32
  let v312 : BitVec 1 := Scalar.cmpi .ne v311 c0_i32_181
  let v316 : BitVec 1 := Scalar.andi v315 v312
  let v317 : BitVec 32 := Scalar.addi v311 v310
  let v318 : BitVec 32 := Scalar.select v316 v317 v311
  ![v318.toNat]
def k0_off499 (v308 : BitVec 32) : Fin 2 → Nat :=
  let c0_i32_184 : BitVec 32 := 0#32
  ![v308.toNat, 0]

def k0_chk126 (d0 : Dev nD) (v10 : BitVec 32) (k0_t84 : Fin (k0_t84_loop d0 v10).trips) (v308 : BitVec 32) : Prop :=
  (∀ (k0_h80 : k0_cond80 d0 v10 = 1#1), ∀ (k0_h82 : k0_cond82 d0 v10 k0_t84 = 1#1), ∀ a, (k0_off499 v308) a + S1x2048.size a ≤ S4096x2048.size a)
theorem k0_off499_inb : ∀ (d0 : Dev nD) (v10 : BitVec 32) (k0_t84 : Fin (k0_t84_loop d0 v10).trips) (v308 : BitVec 32) (k0_hw126 : k0_chk126 d0 v10 k0_t84 v308), ∀ (k0_h80 : k0_cond80 d0 v10 = 1#1), ∀ (k0_h82 : k0_cond82 d0 v10 k0_t84 = 1#1), ∀ a, (k0_off499 v308) a + S1x2048.size a ≤ S4096x2048.size a := fun d0 v10 k0_t84 v308 k0_hw126 k0_h80 k0_h82 => k0_hw126 k0_h80 k0_h82

def k0_off500 (d0 : Dev nD) (v10 : BitVec 32) (k0_t84 : Fin (k0_t84_loop d0 v10).trips) : Fin 2 → Nat :=
  let c2432_i32_161 : BitVec 32 := 2432#32
  let c2560_i32 : BitVec 32 := 2560#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2560_i32 v18
  let v278 : BitVec 32 := Scalar.subi v277 c2432_i32_161
  let c1_i32_163 : BitVec 32 := 1#32
  let v280 : BitVec 32 := Scalar.divsi v278 c1_i32_163
  let v281 : BitVec 32 := Scalar.muli v280 c1_i32_163
  let v282 : BitVec 32 := Scalar.addi c2432_i32_161 v281
  let c1_i32_165 : BitVec 32 := 1#32
  let arg12 : BitVec 32 := Scf.iv v282 c1_i32_165 k0_t84
  let c64_i32_177 : BitVec 32 := 64#32
  let v305 : BitVec 32 := Scalar.subi arg12 c64_i32_177
  let c0_i32_185 : BitVec 32 := 0#32
  ![v305.toNat, 0]
def k0_off501 (d0 : Dev nD) (v10 : BitVec 32) (k0_t84 : Fin (k0_t84_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c2432_i32_161 : BitVec 32 := 2432#32
  let c2560_i32 : BitVec 32 := 2560#32
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2560_i32 v18
  let v278 : BitVec 32 := Scalar.subi v277 c2432_i32_161
  let c1_i32_163 : BitVec 32 := 1#32
  let v280 : BitVec 32 := Scalar.divsi v278 c1_i32_163
  let v281 : BitVec 32 := Scalar.muli v280 c1_i32_163
  let v282 : BitVec 32 := Scalar.addi c2432_i32_161 v281
  let c1_i32_165 : BitVec 32 := 1#32
  let arg12 : BitVec 32 := Scf.iv v282 c1_i32_165 k0_t84
  let v288 : BitVec 32 := Scalar.addi v17 arg12
  let v289 : Index := Scalar.indexCast v288
  ![v289.toNat]
def k0_off502 (d0 : Dev nD) (v10 : BitVec 32) (k0_t84 : Fin (k0_t84_loop d0 v10).trips) : Fin 1 → Nat :=
  let c2432_i32_161 : BitVec 32 := 2432#32
  let c2560_i32 : BitVec 32 := 2560#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2560_i32 v18
  let v278 : BitVec 32 := Scalar.subi v277 c2432_i32_161
  let c1_i32_163 : BitVec 32 := 1#32
  let v280 : BitVec 32 := Scalar.divsi v278 c1_i32_163
  let v281 : BitVec 32 := Scalar.muli v280 c1_i32_163
  let v282 : BitVec 32 := Scalar.addi c2432_i32_161 v281
  let c1_i32_165 : BitVec 32 := 1#32
  let arg12 : BitVec 32 := Scf.iv v282 c1_i32_165 k0_t84
  let c64_i32_168 : BitVec 32 := 64#32
  let c0_i32_169 : BitVec 32 := 0#32
  let v291 : BitVec 1 := Scalar.cmpi .eq c64_i32_168 c0_i32_169
  let c1_i32_170 : BitVec 32 := 1#32
  let v292 : BitVec 32 := Scalar.select v291 c1_i32_170 c64_i32_168
  let v293 : BitVec 32 := Scalar.remsi arg12 v292
  let c0_i32_172 : BitVec 32 := 0#32
  let v295 : BitVec 1 := Scalar.cmpi .slt v293 c0_i32_172
  let c0_i32_173 : BitVec 32 := 0#32
  let v296 : BitVec 1 := Scalar.cmpi .slt v292 c0_i32_173
  let v297 : BitVec 1 := Scalar.xori v295 v296
  let c0_i32_171 : BitVec 32 := 0#32
  let v294 : BitVec 1 := Scalar.cmpi .ne v293 c0_i32_171
  let v298 : BitVec 1 := Scalar.andi v297 v294
  let v299 : BitVec 32 := Scalar.addi v293 v292
  let v300 : BitVec 32 := Scalar.select v298 v299 v293
  ![v300.toNat]
def k0_off503 (v290 : BitVec 32) : Fin 2 → Nat :=
  let c0_i32_174 : BitVec 32 := 0#32
  ![v290.toNat, 0]

def k0_chk127 (d0 : Dev nD) (v10 : BitVec 32) (v290 : BitVec 32) : Prop :=
  (∀ (k0_h80 : k0_cond80 d0 v10 = 1#1), ∀ a, (k0_off503 v290) a + S1x2048.size a ≤ S4096x2048.size a)
theorem k0_off503_inb : ∀ (d0 : Dev nD) (v10 : BitVec 32) (v290 : BitVec 32) (k0_hw127 : k0_chk127 d0 v10 v290), ∀ (k0_h80 : k0_cond80 d0 v10 = 1#1), ∀ a, (k0_off503 v290) a + S1x2048.size a ≤ S4096x2048.size a := fun d0 v10 v290 k0_hw127 k0_h80 => k0_hw127 k0_h80

def k0_off504 (d0 : Dev nD) (v10 : BitVec 32) (k0_t84 : Fin (k0_t84_loop d0 v10).trips) : Fin 2 → Nat :=
  let c2432_i32_161 : BitVec 32 := 2432#32
  let c2560_i32 : BitVec 32 := 2560#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let v277 : BitVec 32 := Scalar.minsi c2560_i32 v18
  let v278 : BitVec 32 := Scalar.subi v277 c2432_i32_161
  let c1_i32_163 : BitVec 32 := 1#32
  let v280 : BitVec 32 := Scalar.divsi v278 c1_i32_163
  let v281 : BitVec 32 := Scalar.muli v280 c1_i32_163
  let v282 : BitVec 32 := Scalar.addi c2432_i32_161 v281
  let c1_i32_165 : BitVec 32 := 1#32
  let arg12 : BitVec 32 := Scf.iv v282 c1_i32_165 k0_t84
  let c0_i32_175 : BitVec 32 := 0#32
  ![arg12.toNat, 0]
@[reducible] def k0_t85_loop (d0 : Dev nD) (v10 : BitVec 32) : Scf.Loop 32 :=
  let c0_i32_107 : BitVec 32 := 0#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c64_i32_106 : BitVec 32 := 64#32
  let v199 : BitVec 32 := Scalar.minsi v18 c64_i32_106
  let v200 : BitVec 32 := Scalar.subi v199 c0_i32_107
  let c1_i32_109 : BitVec 32 := 1#32
  let v202 : BitVec 32 := Scalar.divsi v200 c1_i32_109
  let v203 : BitVec 32 := Scalar.muli v202 c1_i32_109
  let v204 : BitVec 32 := Scalar.addi c0_i32_107 v203
  let c1_i32_110 : BitVec 32 := 1#32
  ⟨c0_i32_107, v204, c1_i32_110⟩
def k0_off505 (d0 : Dev nD) (v10 : BitVec 32) (k0_t85 : Fin (k0_t85_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c64_i32_106 : BitVec 32 := 64#32
  let v199 : BitVec 32 := Scalar.minsi v18 c64_i32_106
  let v267 : BitVec 32 := Scalar.subi v18 v199
  let c0_i32_107 : BitVec 32 := 0#32
  let c1_i32_110 : BitVec 32 := 1#32
  let arg12 : BitVec 32 := Scf.iv c0_i32_107 c1_i32_110 k0_t85
  let v268 : BitVec 32 := Scalar.addi v267 arg12
  let v269 : BitVec 32 := Scalar.addi v17 v268
  let v270 : Index := Scalar.indexCast v269
  ![v270.toNat]
def k0_off506 (d0 : Dev nD) (v10 : BitVec 32) (k0_t85 : Fin (k0_t85_loop d0 v10).trips) : Fin 1 → Nat :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c64_i32_106 : BitVec 32 := 64#32
  let v199 : BitVec 32 := Scalar.minsi v18 c64_i32_106
  let v267 : BitVec 32 := Scalar.subi v18 v199
  let c0_i32_107 : BitVec 32 := 0#32
  let c1_i32_110 : BitVec 32 := 1#32
  let arg12 : BitVec 32 := Scf.iv c0_i32_107 c1_i32_110 k0_t85
  let v268 : BitVec 32 := Scalar.addi v267 arg12
  let c64_i32_152 : BitVec 32 := 64#32
  let c0_i32_153 : BitVec 32 := 0#32
  let v272 : BitVec 1 := Scalar.cmpi .eq c64_i32_152 c0_i32_153
  let c1_i32_154 : BitVec 32 := 1#32
  let v273 : BitVec 32 := Scalar.select v272 c1_i32_154 c64_i32_152
  let v274 : BitVec 32 := Scalar.remsi v268 v273
  let c0_i32_156 : BitVec 32 := 0#32
  let v276 : BitVec 1 := Scalar.cmpi .slt v274 c0_i32_156
  let c0_i32_157 : BitVec 32 := 0#32
  let v277 : BitVec 1 := Scalar.cmpi .slt v273 c0_i32_157
  let v278 : BitVec 1 := Scalar.xori v276 v277
  let c0_i32_155 : BitVec 32 := 0#32
  let v275 : BitVec 1 := Scalar.cmpi .ne v274 c0_i32_155
  let v279 : BitVec 1 := Scalar.andi v278 v275
  let v280 : BitVec 32 := Scalar.addi v274 v273
  let v281 : BitVec 32 := Scalar.select v279 v280 v274
  ![v281.toNat]
def k0_off507 (v271 : BitVec 32) : Fin 2 → Nat :=
  let c0_i32_158 : BitVec 32 := 0#32
  ![v271.toNat, 0]

def k0_chk128 (v271 : BitVec 32) : Prop :=
  (∀ a, (k0_off507 v271) a + S1x2048.size a ≤ S4096x2048.size a)
theorem k0_off507_inb : ∀ (v271 : BitVec 32) (k0_hw128 : k0_chk128 v271), ∀ a, (k0_off507 v271) a + S1x2048.size a ≤ S4096x2048.size a := fun v271 k0_hw128 => k0_hw128

def k0_off508 (d0 : Dev nD) (v10 : BitVec 32) (k0_t85 : Fin (k0_t85_loop d0 v10).trips) : Fin 2 → Nat :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c64_i32_106 : BitVec 32 := 64#32
  let v199 : BitVec 32 := Scalar.minsi v18 c64_i32_106
  let v267 : BitVec 32 := Scalar.subi v18 v199
  let c0_i32_107 : BitVec 32 := 0#32
  let c1_i32_110 : BitVec 32 := 1#32
  let arg12 : BitVec 32 := Scf.iv c0_i32_107 c1_i32_110 k0_t85
  let v268 : BitVec 32 := Scalar.addi v267 arg12
  let c0_i32_159 : BitVec 32 := 0#32
  ![v268.toNat, 0]
@[reducible] def k0_t86_loop (d0 : Dev nD) (v10 : BitVec 32) : Scf.Loop 32 :=
  let c0_i32_107 : BitVec 32 := 0#32
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c64_i32_106 : BitVec 32 := 64#32
  let v199 : BitVec 32 := Scalar.minsi v18 c64_i32_106
  let v200 : BitVec 32 := Scalar.subi v199 c0_i32_107
  let c1_i32_109 : BitVec 32 := 1#32
  let v202 : BitVec 32 := Scalar.divsi v200 c1_i32_109
  let v203 : BitVec 32 := Scalar.muli v202 c1_i32_109
  let v204 : BitVec 32 := Scalar.addi c0_i32_107 v203
  let v201 : BitVec 32 := Scalar.addi c0_i32_107 v200
  let c1_i32_111 : BitVec 32 := 1#32
  ⟨v204, v201, c1_i32_111⟩
def k0_off509 (d0 : Dev nD) (v10 : BitVec 32) (k0_t86 : Fin (k0_t86_loop d0 v10).trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v16 : BitVec 1 := Scalar.cmpi .eq v2 c0_i32_5
  let c0_i32_6 : BitVec 32 := 0#32
  let v17 : BitVec 32 := Scalar.select v16 v10 c0_i32_6
  let c4096_i32_7 : BitVec 32 := 4096#32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c64_i32_106 : BitVec 32 := 64#32
  let v199 : BitVec 32 := Scalar.minsi v18 c64_i32_106
  let v267 : BitVec 32 := Scalar.subi v18 v199
  let c0_i32_107 : BitVec 32 := 0#32
  let v200 : BitVec 32 := Scalar.subi v199 c0_i32_107
  let c1_i32_109 : BitVec 32 := 1#32
  let v202 : BitVec 32 := Scalar.divsi v200 c1_i32_109
  let v203 : BitVec 32 := Scalar.muli v202 c1_i32_109
  let v204 : BitVec 32 := Scalar.addi c0_i32_107 v203
  let c1_i32_111 : BitVec 32 := 1#32
  let arg12 : BitVec 32 := Scf.iv v204 c1_i32_111 k0_t86
  let v268 : BitVec 32 := Scalar.addi v267 arg12
  let v269 : BitVec 32 := Scalar.addi v17 v268
  let v270 : Index := Scalar.indexCast v269
  ![v270.toNat]
def k0_off510 (d0 : Dev nD) (v10 : BitVec 32) (k0_t86 : Fin (k0_t86_loop d0 v10).trips) : Fin 1 → Nat :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c64_i32_106 : BitVec 32 := 64#32
  let v199 : BitVec 32 := Scalar.minsi v18 c64_i32_106
  let v267 : BitVec 32 := Scalar.subi v18 v199
  let c0_i32_107 : BitVec 32 := 0#32
  let v200 : BitVec 32 := Scalar.subi v199 c0_i32_107
  let c1_i32_109 : BitVec 32 := 1#32
  let v202 : BitVec 32 := Scalar.divsi v200 c1_i32_109
  let v203 : BitVec 32 := Scalar.muli v202 c1_i32_109
  let v204 : BitVec 32 := Scalar.addi c0_i32_107 v203
  let c1_i32_111 : BitVec 32 := 1#32
  let arg12 : BitVec 32 := Scf.iv v204 c1_i32_111 k0_t86
  let v268 : BitVec 32 := Scalar.addi v267 arg12
  let c64_i32_152 : BitVec 32 := 64#32
  let c0_i32_153 : BitVec 32 := 0#32
  let v272 : BitVec 1 := Scalar.cmpi .eq c64_i32_152 c0_i32_153
  let c1_i32_154 : BitVec 32 := 1#32
  let v273 : BitVec 32 := Scalar.select v272 c1_i32_154 c64_i32_152
  let v274 : BitVec 32 := Scalar.remsi v268 v273
  let c0_i32_156 : BitVec 32 := 0#32
  let v276 : BitVec 1 := Scalar.cmpi .slt v274 c0_i32_156
  let c0_i32_157 : BitVec 32 := 0#32
  let v277 : BitVec 1 := Scalar.cmpi .slt v273 c0_i32_157
  let v278 : BitVec 1 := Scalar.xori v276 v277
  let c0_i32_155 : BitVec 32 := 0#32
  let v275 : BitVec 1 := Scalar.cmpi .ne v274 c0_i32_155
  let v279 : BitVec 1 := Scalar.andi v278 v275
  let v280 : BitVec 32 := Scalar.addi v274 v273
  let v281 : BitVec 32 := Scalar.select v279 v280 v274
  ![v281.toNat]
def k0_off511 (v271 : BitVec 32) : Fin 2 → Nat :=
  let c0_i32_158 : BitVec 32 := 0#32
  ![v271.toNat, 0]

def k0_chk129 (v271 : BitVec 32) : Prop :=
  (∀ a, (k0_off511 v271) a + S1x2048.size a ≤ S4096x2048.size a)
theorem k0_off511_inb : ∀ (v271 : BitVec 32) (k0_hw129 : k0_chk129 v271), ∀ a, (k0_off511 v271) a + S1x2048.size a ≤ S4096x2048.size a := fun v271 k0_hw129 => k0_hw129

def k0_off512 (d0 : Dev nD) (v10 : BitVec 32) (k0_t86 : Fin (k0_t86_loop d0 v10).trips) : Fin 2 → Nat :=
  let c4096_i32_7 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_4 : BitVec 32 := 0#32
  let v13 : BitVec 1 := Scalar.cmpi .eq v2 c0_i32_4
  let c4096_i32 : BitVec 32 := 4096#32
  let v14 : BitVec 32 := Scalar.subi c4096_i32 v10
  let v15 : BitVec 32 := Scalar.select v13 v10 v14
  let v18 : BitVec 32 := Scalar.subi c4096_i32_7 v15
  let c64_i32_106 : BitVec 32 := 64#32
  let v199 : BitVec 32 := Scalar.minsi v18 c64_i32_106
  let v267 : BitVec 32 := Scalar.subi v18 v199
  let c0_i32_107 : BitVec 32 := 0#32
  let v200 : BitVec 32 := Scalar.subi v199 c0_i32_107
  let c1_i32_109 : BitVec 32 := 1#32
  let v202 : BitVec 32 := Scalar.divsi v200 c1_i32_109
  let v203 : BitVec 32 := Scalar.muli v202 c1_i32_109
  let v204 : BitVec 32 := Scalar.addi c0_i32_107 v203
  let c1_i32_111 : BitVec 32 := 1#32
  let arg12 : BitVec 32 := Scf.iv v204 c1_i32_111 k0_t86
  let v268 : BitVec 32 := Scalar.addi v267 arg12
  let c0_i32_159 : BitVec 32 := 0#32
  ![v268.toNat, 0]

def k0_chk1_0 (d0 : Dev nD) (v10 : BitVec 32) : Prop :=
  (∀ k0_t1 : Fin k0_t1_loop.trips, ∀ (k0_h1 : k0_cond1 d0 v10 = 1#1), ∀ a, (k0_off1 d0 v10 k0_t1) a + S1.size a ≤ S4096.size a) ∧
  (∀ k0_t2 : Fin k0_t2_loop.trips, ∀ (k0_h1 : k0_cond1 d0 v10 = 1#1), ∀ a, (k0_off5 d0 v10 k0_t2) a + S1.size a ≤ S4096.size a) ∧
  (∀ k0_t3 : Fin k0_t3_loop.trips, ∀ (k0_h2 : k0_cond2 d0 v10 = 1#1), ∀ a, (k0_off9 d0 v10 k0_t3) a + S1.size a ≤ S4096.size a) ∧
  (∀ k0_t4 : Fin k0_t4_loop.trips, ∀ (k0_h2 : k0_cond2 d0 v10 = 1#1), ∀ a, (k0_off13 d0 v10 k0_t4) a + S1.size a ≤ S4096.size a) ∧
  (∀ k0_t5 : Fin k0_t5_loop.trips, ∀ (k0_h3 : k0_cond3 d0 v10 = 1#1), ∀ a, (k0_off17 d0 v10 k0_t5) a + S1.size a ≤ S4096.size a) ∧
  (∀ k0_t6 : Fin k0_t6_loop.trips, ∀ (k0_h3 : k0_cond3 d0 v10 = 1#1), ∀ a, (k0_off21 d0 v10 k0_t6) a + S1.size a ≤ S4096.size a) ∧
  (∀ k0_t7 : Fin k0_t7_loop.trips, ∀ (k0_h4 : k0_cond4 d0 v10 = 1#1), ∀ a, (k0_off25 d0 v10 k0_t7) a + S1.size a ≤ S4096.size a) ∧
  (∀ k0_t8 : Fin k0_t8_loop.trips, ∀ (k0_h4 : k0_cond4 d0 v10 = 1#1), ∀ a, (k0_off29 d0 v10 k0_t8) a + S1.size a ≤ S4096.size a) ∧
  (∀ k0_t9 : Fin k0_t9_loop.trips, ∀ (k0_h5 : k0_cond5 d0 v10 = 1#1), ∀ a, (k0_off33 d0 v10 k0_t9) a + S1.size a ≤ S4096.size a) ∧
  (∀ k0_t10 : Fin k0_t10_loop.trips, ∀ (k0_h5 : k0_cond5 d0 v10 = 1#1), ∀ a, (k0_off37 d0 v10 k0_t10) a + S1.size a ≤ S4096.size a) ∧
  (∀ k0_t11 : Fin k0_t11_loop.trips, ∀ (k0_h6 : k0_cond6 d0 v10 = 1#1), ∀ a, (k0_off41 d0 v10 k0_t11) a + S1.size a ≤ S4096.size a) ∧
  (∀ k0_t12 : Fin k0_t12_loop.trips, ∀ (k0_h6 : k0_cond6 d0 v10 = 1#1), ∀ a, (k0_off45 d0 v10 k0_t12) a + S1.size a ≤ S4096.size a) ∧
  (∀ k0_t13 : Fin k0_t13_loop.trips, ∀ (k0_h7 : k0_cond7 d0 v10 = 1#1), ∀ a, (k0_off49 d0 v10 k0_t13) a + S1.size a ≤ S4096.size a) ∧
  (∀ k0_t14 : Fin k0_t14_loop.trips, ∀ (k0_h7 : k0_cond7 d0 v10 = 1#1), ∀ a, (k0_off53 d0 v10 k0_t14) a + S1.size a ≤ S4096.size a) ∧
  (∀ k0_t15 : Fin k0_t15_loop.trips, ∀ (k0_h8 : k0_cond8 d0 v10 = 1#1), ∀ a, (k0_off57 d0 v10 k0_t15) a + S1.size a ≤ S4096.size a) ∧
  (∀ k0_t16 : Fin k0_t16_loop.trips, ∀ (k0_h8 : k0_cond8 d0 v10 = 1#1), ∀ a, (k0_off61 d0 v10 k0_t16) a + S1.size a ≤ S4096.size a) ∧
  (∀ k0_t17 : Fin k0_t17_loop.trips, ∀ (k0_h9 : k0_cond9 d0 v10 = 1#1), ∀ a, (k0_off65 d0 v10 k0_t17) a + S1.size a ≤ S4096.size a) ∧
  (∀ k0_t18 : Fin k0_t18_loop.trips, ∀ (k0_h9 : k0_cond9 d0 v10 = 1#1), ∀ a, (k0_off69 d0 v10 k0_t18) a + S1.size a ≤ S4096.size a) ∧
  (∀ k0_t19 : Fin k0_t19_loop.trips, ∀ (k0_h10 : k0_cond10 d0 v10 = 1#1), ∀ a, (k0_off73 d0 v10 k0_t19) a + S1.size a ≤ S4096.size a) ∧
  (∀ k0_t20 : Fin k0_t20_loop.trips, ∀ (k0_h10 : k0_cond10 d0 v10 = 1#1), ∀ a, (k0_off77 d0 v10 k0_t20) a + S1.size a ≤ S4096.size a) ∧
  (∀ k0_t21 : Fin k0_t21_loop.trips, ∀ (k0_h11 : k0_cond11 d0 v10 = 1#1), ∀ a, (k0_off81 d0 v10 k0_t21) a + S1.size a ≤ S4096.size a) ∧
  (∀ k0_t22 : Fin k0_t22_loop.trips, ∀ (k0_h11 : k0_cond11 d0 v10 = 1#1), ∀ a, (k0_off85 d0 v10 k0_t22) a + S1.size a ≤ S4096.size a) ∧
  (∀ k0_t23 : Fin k0_t23_loop.trips, ∀ (k0_h12 : k0_cond12 d0 v10 = 1#1), ∀ a, (k0_off89 d0 v10 k0_t23) a + S1.size a ≤ S4096.size a) ∧
  (∀ k0_t24 : Fin k0_t24_loop.trips, ∀ (k0_h12 : k0_cond12 d0 v10 = 1#1), ∀ a, (k0_off93 d0 v10 k0_t24) a + S1.size a ≤ S4096.size a) ∧
  (∀ k0_t25 : Fin k0_t25_loop.trips, ∀ (k0_h13 : k0_cond13 d0 v10 = 1#1), ∀ a, (k0_off97 d0 v10 k0_t25) a + S1.size a ≤ S4096.size a) ∧
  (∀ k0_t26 : Fin k0_t26_loop.trips, ∀ (k0_h13 : k0_cond13 d0 v10 = 1#1), ∀ a, (k0_off101 d0 v10 k0_t26) a + S1.size a ≤ S4096.size a) ∧
  (∀ k0_t27 : Fin k0_t27_loop.trips, ∀ (k0_h14 : k0_cond14 d0 v10 = 1#1), ∀ a, (k0_off105 d0 v10 k0_t27) a + S1.size a ≤ S4096.size a) ∧
  (∀ k0_t28 : Fin k0_t28_loop.trips, ∀ (k0_h14 : k0_cond14 d0 v10 = 1#1), ∀ a, (k0_off109 d0 v10 k0_t28) a + S1.size a ≤ S4096.size a) ∧
  (∀ k0_t29 : Fin k0_t29_loop.trips, ∀ (k0_h15 : k0_cond15 d0 v10 = 1#1), ∀ a, (k0_off113 d0 v10 k0_t29) a + S1.size a ≤ S4096.size a) ∧
  (∀ k0_t30 : Fin k0_t30_loop.trips, ∀ (k0_h15 : k0_cond15 d0 v10 = 1#1), ∀ a, (k0_off117 d0 v10 k0_t30) a + S1.size a ≤ S4096.size a) ∧
  (∀ k0_t31 : Fin k0_t31_loop.trips, ∀ (k0_h16 : k0_cond16 d0 v10 = 1#1), ∀ a, (k0_off121 d0 v10 k0_t31) a + S1.size a ≤ S4096.size a) ∧
  (∀ k0_t32 : Fin k0_t32_loop.trips, ∀ (k0_h16 : k0_cond16 d0 v10 = 1#1), ∀ a, (k0_off125 d0 v10 k0_t32) a + S1.size a ≤ S4096.size a)
def k0_chk1_1 (d0 : Dev nD) (v10 : BitVec 32) : Prop :=
  (∀ k0_t33 : Fin k0_t33_loop.trips, ∀ (k0_h17 : k0_cond17 d0 v10 = 1#1), ∀ a, (k0_off129 d0 v10 k0_t33) a + S1.size a ≤ S4096.size a) ∧
  (∀ k0_t34 : Fin k0_t34_loop.trips, ∀ (k0_h17 : k0_cond17 d0 v10 = 1#1), ∀ a, (k0_off133 d0 v10 k0_t34) a + S1.size a ≤ S4096.size a) ∧
  (∀ k0_t35 : Fin k0_t35_loop.trips, ∀ (k0_h18 : k0_cond18 d0 v10 = 1#1), ∀ a, (k0_off137 d0 v10 k0_t35) a + S1.size a ≤ S4096.size a) ∧
  (∀ k0_t36 : Fin k0_t36_loop.trips, ∀ (k0_h18 : k0_cond18 d0 v10 = 1#1), ∀ a, (k0_off141 d0 v10 k0_t36) a + S1.size a ≤ S4096.size a) ∧
  (∀ k0_t37 : Fin k0_t37_loop.trips, ∀ (k0_h19 : k0_cond19 d0 v10 = 1#1), ∀ a, (k0_off145 d0 v10 k0_t37) a + S1.size a ≤ S4096.size a) ∧
  (∀ k0_t38 : Fin k0_t38_loop.trips, ∀ (k0_h19 : k0_cond19 d0 v10 = 1#1), ∀ a, (k0_off149 d0 v10 k0_t38) a + S1.size a ≤ S4096.size a) ∧
  (∀ k0_t39 : Fin k0_t39_loop.trips, ∀ (k0_h20 : k0_cond20 d0 v10 = 1#1), ∀ a, (k0_off153 d0 v10 k0_t39) a + S1.size a ≤ S4096.size a) ∧
  (∀ k0_t40 : Fin k0_t40_loop.trips, ∀ (k0_h20 : k0_cond20 d0 v10 = 1#1), ∀ a, (k0_off157 d0 v10 k0_t40) a + S1.size a ≤ S4096.size a) ∧
  ((k0_t41_loop d0 v10).OK) ∧
  (∀ k0_t41 : Fin (k0_t41_loop d0 v10).trips, ∀ (k0_h21 : k0_cond21 d0 v10 k0_t41 = 1#1), ∀ a, (k0_off161 d0 v10 k0_t41) a + S1.size a ≤ S4096.size a) ∧
  (∀ k0_t41 : Fin (k0_t41_loop d0 v10).trips, ∀ (k0_h21 : k0_cond21 d0 v10 k0_t41 = 1#1), ∀ a, (k0_off162 d0 v10 k0_t41) a + S1.size a ≤ S64.size a) ∧
  (∀ k0_t41 : Fin (k0_t41_loop d0 v10).trips, ∀ (k0_h21 : k0_cond21 d0 v10 k0_t41 = 1#1), ∀ a, (k0_off164 d0 v10 k0_t41) a + S1x2048.size a ≤ S2560x2048.size a) ∧
  (∀ k0_t41 : Fin (k0_t41_loop d0 v10).trips, ∀ a, (k0_off165 d0 v10 k0_t41) a + S1.size a ≤ S4096.size a) ∧
  (∀ k0_t41 : Fin (k0_t41_loop d0 v10).trips, ∀ a, (k0_off166 d0 v10 k0_t41) a + S1.size a ≤ S64.size a) ∧
  (∀ k0_t41 : Fin (k0_t41_loop d0 v10).trips, ∀ a, (k0_off168 d0 v10 k0_t41) a + S1x2048.size a ≤ S2560x2048.size a) ∧
  ((k0_t42_loop d0 v10).OK) ∧
  (∀ k0_t42 : Fin (k0_t42_loop d0 v10).trips, ∀ (k0_h22 : k0_cond22 d0 v10 k0_t42 = 1#1), ∀ a, (k0_off169 d0 v10 k0_t42) a + S1.size a ≤ S4096.size a) ∧
  (∀ k0_t42 : Fin (k0_t42_loop d0 v10).trips, ∀ (k0_h22 : k0_cond22 d0 v10 k0_t42 = 1#1), ∀ a, (k0_off170 d0 v10 k0_t42) a + S1.size a ≤ S64.size a) ∧
  (∀ k0_t42 : Fin (k0_t42_loop d0 v10).trips, ∀ (k0_h22 : k0_cond22 d0 v10 k0_t42 = 1#1), ∀ a, (k0_off172 d0 v10 k0_t42) a + S1x2048.size a ≤ S2560x2048.size a) ∧
  (∀ k0_t42 : Fin (k0_t42_loop d0 v10).trips, ∀ a, (k0_off173 d0 v10 k0_t42) a + S1.size a ≤ S4096.size a) ∧
  (∀ k0_t42 : Fin (k0_t42_loop d0 v10).trips, ∀ a, (k0_off174 d0 v10 k0_t42) a + S1.size a ≤ S64.size a) ∧
  (∀ k0_t42 : Fin (k0_t42_loop d0 v10).trips, ∀ a, (k0_off176 d0 v10 k0_t42) a + S1x2048.size a ≤ S2560x2048.size a) ∧
  ((k0_t43_loop d0 v10).OK) ∧
  (∀ k0_t43 : Fin (k0_t43_loop d0 v10).trips, ∀ a, (k0_off177 d0 v10 k0_t43) a + S1.size a ≤ S4096.size a) ∧
  (∀ k0_t43 : Fin (k0_t43_loop d0 v10).trips, ∀ a, (k0_off178 d0 v10 k0_t43) a + S1.size a ≤ S64.size a) ∧
  (∀ k0_t43 : Fin (k0_t43_loop d0 v10).trips, ∀ a, (k0_off180 d0 v10 k0_t43) a + S1x2048.size a ≤ S2560x2048.size a) ∧
  ((k0_t44_loop d0 v10).OK) ∧
  (∀ k0_t44 : Fin (k0_t44_loop d0 v10).trips, ∀ a, (k0_off181 d0 v10 k0_t44) a + S1.size a ≤ S4096.size a) ∧
  (∀ k0_t44 : Fin (k0_t44_loop d0 v10).trips, ∀ a, (k0_off182 d0 v10 k0_t44) a + S1.size a ≤ S64.size a) ∧
  (∀ k0_t44 : Fin (k0_t44_loop d0 v10).trips, ∀ a, (k0_off184 d0 v10 k0_t44) a + S1x2048.size a ≤ S2560x2048.size a) ∧
  (∀ (k0_h23 : k0_cond23 d0 v10 = 1#1), (k0_t45_loop d0 v10).OK) ∧
  (∀ k0_t45 : Fin (k0_t45_loop d0 v10).trips, ∀ (k0_h23 : k0_cond23 d0 v10 = 1#1), ∀ (k0_h24 : k0_cond24 d0 v10 k0_t45 = 1#1), ∀ a, (k0_off185 d0 v10 k0_t45) a + S1.size a ≤ S4096.size a)
def k0_chk1_2 (d0 : Dev nD) (v10 : BitVec 32) : Prop :=
  (∀ k0_t45 : Fin (k0_t45_loop d0 v10).trips, ∀ (k0_h23 : k0_cond23 d0 v10 = 1#1), ∀ (k0_h24 : k0_cond24 d0 v10 k0_t45 = 1#1), ∀ a, (k0_off186 d0 v10 k0_t45) a + S1.size a ≤ S64.size a) ∧
  (∀ k0_t45 : Fin (k0_t45_loop d0 v10).trips, ∀ (k0_h23 : k0_cond23 d0 v10 = 1#1), ∀ (k0_h24 : k0_cond24 d0 v10 k0_t45 = 1#1), ∀ a, (k0_off188 d0 v10 k0_t45) a + S1x2048.size a ≤ S2560x2048.size a) ∧
  (∀ k0_t45 : Fin (k0_t45_loop d0 v10).trips, ∀ (k0_h23 : k0_cond23 d0 v10 = 1#1), ∀ a, (k0_off189 d0 v10 k0_t45) a + S1.size a ≤ S4096.size a) ∧
  (∀ k0_t45 : Fin (k0_t45_loop d0 v10).trips, ∀ (k0_h23 : k0_cond23 d0 v10 = 1#1), ∀ a, (k0_off190 d0 v10 k0_t45) a + S1.size a ≤ S64.size a) ∧
  (∀ k0_t45 : Fin (k0_t45_loop d0 v10).trips, ∀ (k0_h23 : k0_cond23 d0 v10 = 1#1), ∀ a, (k0_off192 d0 v10 k0_t45) a + S1x2048.size a ≤ S2560x2048.size a) ∧
  (∀ (k0_h23 : k0_cond23 d0 v10 = 1#1), (k0_t46_loop d0 v10).OK) ∧
  (∀ k0_t46 : Fin (k0_t46_loop d0 v10).trips, ∀ (k0_h23 : k0_cond23 d0 v10 = 1#1), ∀ (k0_h25 : k0_cond25 d0 v10 k0_t46 = 1#1), ∀ a, (k0_off193 d0 v10 k0_t46) a + S1.size a ≤ S4096.size a) ∧
  (∀ k0_t46 : Fin (k0_t46_loop d0 v10).trips, ∀ (k0_h23 : k0_cond23 d0 v10 = 1#1), ∀ (k0_h25 : k0_cond25 d0 v10 k0_t46 = 1#1), ∀ a, (k0_off194 d0 v10 k0_t46) a + S1.size a ≤ S64.size a) ∧
  (∀ k0_t46 : Fin (k0_t46_loop d0 v10).trips, ∀ (k0_h23 : k0_cond23 d0 v10 = 1#1), ∀ (k0_h25 : k0_cond25 d0 v10 k0_t46 = 1#1), ∀ a, (k0_off196 d0 v10 k0_t46) a + S1x2048.size a ≤ S2560x2048.size a) ∧
  (∀ k0_t46 : Fin (k0_t46_loop d0 v10).trips, ∀ (k0_h23 : k0_cond23 d0 v10 = 1#1), ∀ a, (k0_off197 d0 v10 k0_t46) a + S1.size a ≤ S4096.size a) ∧
  (∀ k0_t46 : Fin (k0_t46_loop d0 v10).trips, ∀ (k0_h23 : k0_cond23 d0 v10 = 1#1), ∀ a, (k0_off198 d0 v10 k0_t46) a + S1.size a ≤ S64.size a) ∧
  (∀ k0_t46 : Fin (k0_t46_loop d0 v10).trips, ∀ (k0_h23 : k0_cond23 d0 v10 = 1#1), ∀ a, (k0_off200 d0 v10 k0_t46) a + S1x2048.size a ≤ S2560x2048.size a) ∧
  (∀ (k0_h26 : k0_cond26 d0 v10 = 1#1), (k0_t47_loop d0 v10).OK) ∧
  (∀ k0_t47 : Fin (k0_t47_loop d0 v10).trips, ∀ (k0_h26 : k0_cond26 d0 v10 = 1#1), ∀ (k0_h27 : k0_cond27 d0 v10 k0_t47 = 1#1), ∀ a, (k0_off201 d0 v10 k0_t47) a + S1.size a ≤ S4096.size a) ∧
  (∀ k0_t47 : Fin (k0_t47_loop d0 v10).trips, ∀ (k0_h26 : k0_cond26 d0 v10 = 1#1), ∀ (k0_h27 : k0_cond27 d0 v10 k0_t47 = 1#1), ∀ a, (k0_off202 d0 v10 k0_t47) a + S1.size a ≤ S64.size a) ∧
  (∀ k0_t47 : Fin (k0_t47_loop d0 v10).trips, ∀ (k0_h26 : k0_cond26 d0 v10 = 1#1), ∀ (k0_h27 : k0_cond27 d0 v10 k0_t47 = 1#1), ∀ a, (k0_off204 d0 v10 k0_t47) a + S1x2048.size a ≤ S2560x2048.size a) ∧
  (∀ k0_t47 : Fin (k0_t47_loop d0 v10).trips, ∀ (k0_h26 : k0_cond26 d0 v10 = 1#1), ∀ a, (k0_off205 d0 v10 k0_t47) a + S1.size a ≤ S4096.size a) ∧
  (∀ k0_t47 : Fin (k0_t47_loop d0 v10).trips, ∀ (k0_h26 : k0_cond26 d0 v10 = 1#1), ∀ a, (k0_off206 d0 v10 k0_t47) a + S1.size a ≤ S64.size a) ∧
  (∀ k0_t47 : Fin (k0_t47_loop d0 v10).trips, ∀ (k0_h26 : k0_cond26 d0 v10 = 1#1), ∀ a, (k0_off208 d0 v10 k0_t47) a + S1x2048.size a ≤ S2560x2048.size a) ∧
  (∀ (k0_h26 : k0_cond26 d0 v10 = 1#1), (k0_t48_loop d0 v10).OK) ∧
  (∀ k0_t48 : Fin (k0_t48_loop d0 v10).trips, ∀ (k0_h26 : k0_cond26 d0 v10 = 1#1), ∀ (k0_h28 : k0_cond28 d0 v10 k0_t48 = 1#1), ∀ a, (k0_off209 d0 v10 k0_t48) a + S1.size a ≤ S4096.size a) ∧
  (∀ k0_t48 : Fin (k0_t48_loop d0 v10).trips, ∀ (k0_h26 : k0_cond26 d0 v10 = 1#1), ∀ (k0_h28 : k0_cond28 d0 v10 k0_t48 = 1#1), ∀ a, (k0_off210 d0 v10 k0_t48) a + S1.size a ≤ S64.size a) ∧
  (∀ k0_t48 : Fin (k0_t48_loop d0 v10).trips, ∀ (k0_h26 : k0_cond26 d0 v10 = 1#1), ∀ (k0_h28 : k0_cond28 d0 v10 k0_t48 = 1#1), ∀ a, (k0_off212 d0 v10 k0_t48) a + S1x2048.size a ≤ S2560x2048.size a) ∧
  (∀ k0_t48 : Fin (k0_t48_loop d0 v10).trips, ∀ (k0_h26 : k0_cond26 d0 v10 = 1#1), ∀ a, (k0_off213 d0 v10 k0_t48) a + S1.size a ≤ S4096.size a) ∧
  (∀ k0_t48 : Fin (k0_t48_loop d0 v10).trips, ∀ (k0_h26 : k0_cond26 d0 v10 = 1#1), ∀ a, (k0_off214 d0 v10 k0_t48) a + S1.size a ≤ S64.size a) ∧
  (∀ k0_t48 : Fin (k0_t48_loop d0 v10).trips, ∀ (k0_h26 : k0_cond26 d0 v10 = 1#1), ∀ a, (k0_off216 d0 v10 k0_t48) a + S1x2048.size a ≤ S2560x2048.size a) ∧
  (∀ (k0_h29 : k0_cond29 d0 v10 = 1#1), (k0_t49_loop d0 v10).OK) ∧
  (∀ k0_t49 : Fin (k0_t49_loop d0 v10).trips, ∀ (k0_h29 : k0_cond29 d0 v10 = 1#1), ∀ (k0_h30 : k0_cond30 d0 v10 k0_t49 = 1#1), ∀ a, (k0_off217 d0 v10 k0_t49) a + S1.size a ≤ S4096.size a) ∧
  (∀ k0_t49 : Fin (k0_t49_loop d0 v10).trips, ∀ (k0_h29 : k0_cond29 d0 v10 = 1#1), ∀ (k0_h30 : k0_cond30 d0 v10 k0_t49 = 1#1), ∀ a, (k0_off218 d0 v10 k0_t49) a + S1.size a ≤ S64.size a) ∧
  (∀ k0_t49 : Fin (k0_t49_loop d0 v10).trips, ∀ (k0_h29 : k0_cond29 d0 v10 = 1#1), ∀ (k0_h30 : k0_cond30 d0 v10 k0_t49 = 1#1), ∀ a, (k0_off220 d0 v10 k0_t49) a + S1x2048.size a ≤ S2560x2048.size a) ∧
  (∀ k0_t49 : Fin (k0_t49_loop d0 v10).trips, ∀ (k0_h29 : k0_cond29 d0 v10 = 1#1), ∀ a, (k0_off221 d0 v10 k0_t49) a + S1.size a ≤ S4096.size a) ∧
  (∀ k0_t49 : Fin (k0_t49_loop d0 v10).trips, ∀ (k0_h29 : k0_cond29 d0 v10 = 1#1), ∀ a, (k0_off222 d0 v10 k0_t49) a + S1.size a ≤ S64.size a)
def k0_chk1_3 (d0 : Dev nD) (v10 : BitVec 32) : Prop :=
  (∀ k0_t49 : Fin (k0_t49_loop d0 v10).trips, ∀ (k0_h29 : k0_cond29 d0 v10 = 1#1), ∀ a, (k0_off224 d0 v10 k0_t49) a + S1x2048.size a ≤ S2560x2048.size a) ∧
  (∀ (k0_h29 : k0_cond29 d0 v10 = 1#1), (k0_t50_loop d0 v10).OK) ∧
  (∀ k0_t50 : Fin (k0_t50_loop d0 v10).trips, ∀ (k0_h29 : k0_cond29 d0 v10 = 1#1), ∀ (k0_h31 : k0_cond31 d0 v10 k0_t50 = 1#1), ∀ a, (k0_off225 d0 v10 k0_t50) a + S1.size a ≤ S4096.size a) ∧
  (∀ k0_t50 : Fin (k0_t50_loop d0 v10).trips, ∀ (k0_h29 : k0_cond29 d0 v10 = 1#1), ∀ (k0_h31 : k0_cond31 d0 v10 k0_t50 = 1#1), ∀ a, (k0_off226 d0 v10 k0_t50) a + S1.size a ≤ S64.size a) ∧
  (∀ k0_t50 : Fin (k0_t50_loop d0 v10).trips, ∀ (k0_h29 : k0_cond29 d0 v10 = 1#1), ∀ (k0_h31 : k0_cond31 d0 v10 k0_t50 = 1#1), ∀ a, (k0_off228 d0 v10 k0_t50) a + S1x2048.size a ≤ S2560x2048.size a) ∧
  (∀ k0_t50 : Fin (k0_t50_loop d0 v10).trips, ∀ (k0_h29 : k0_cond29 d0 v10 = 1#1), ∀ a, (k0_off229 d0 v10 k0_t50) a + S1.size a ≤ S4096.size a) ∧
  (∀ k0_t50 : Fin (k0_t50_loop d0 v10).trips, ∀ (k0_h29 : k0_cond29 d0 v10 = 1#1), ∀ a, (k0_off230 d0 v10 k0_t50) a + S1.size a ≤ S64.size a) ∧
  (∀ k0_t50 : Fin (k0_t50_loop d0 v10).trips, ∀ (k0_h29 : k0_cond29 d0 v10 = 1#1), ∀ a, (k0_off232 d0 v10 k0_t50) a + S1x2048.size a ≤ S2560x2048.size a) ∧
  (∀ (k0_h32 : k0_cond32 d0 v10 = 1#1), (k0_t51_loop d0 v10).OK) ∧
  (∀ k0_t51 : Fin (k0_t51_loop d0 v10).trips, ∀ (k0_h32 : k0_cond32 d0 v10 = 1#1), ∀ (k0_h33 : k0_cond33 d0 v10 k0_t51 = 1#1), ∀ a, (k0_off233 d0 v10 k0_t51) a + S1.size a ≤ S4096.size a) ∧
  (∀ k0_t51 : Fin (k0_t51_loop d0 v10).trips, ∀ (k0_h32 : k0_cond32 d0 v10 = 1#1), ∀ (k0_h33 : k0_cond33 d0 v10 k0_t51 = 1#1), ∀ a, (k0_off234 d0 v10 k0_t51) a + S1.size a ≤ S64.size a) ∧
  (∀ k0_t51 : Fin (k0_t51_loop d0 v10).trips, ∀ (k0_h32 : k0_cond32 d0 v10 = 1#1), ∀ (k0_h33 : k0_cond33 d0 v10 k0_t51 = 1#1), ∀ a, (k0_off236 d0 v10 k0_t51) a + S1x2048.size a ≤ S2560x2048.size a) ∧
  (∀ k0_t51 : Fin (k0_t51_loop d0 v10).trips, ∀ (k0_h32 : k0_cond32 d0 v10 = 1#1), ∀ a, (k0_off237 d0 v10 k0_t51) a + S1.size a ≤ S4096.size a) ∧
  (∀ k0_t51 : Fin (k0_t51_loop d0 v10).trips, ∀ (k0_h32 : k0_cond32 d0 v10 = 1#1), ∀ a, (k0_off238 d0 v10 k0_t51) a + S1.size a ≤ S64.size a) ∧
  (∀ k0_t51 : Fin (k0_t51_loop d0 v10).trips, ∀ (k0_h32 : k0_cond32 d0 v10 = 1#1), ∀ a, (k0_off240 d0 v10 k0_t51) a + S1x2048.size a ≤ S2560x2048.size a) ∧
  (∀ (k0_h32 : k0_cond32 d0 v10 = 1#1), (k0_t52_loop d0 v10).OK) ∧
  (∀ k0_t52 : Fin (k0_t52_loop d0 v10).trips, ∀ (k0_h32 : k0_cond32 d0 v10 = 1#1), ∀ (k0_h34 : k0_cond34 d0 v10 k0_t52 = 1#1), ∀ a, (k0_off241 d0 v10 k0_t52) a + S1.size a ≤ S4096.size a) ∧
  (∀ k0_t52 : Fin (k0_t52_loop d0 v10).trips, ∀ (k0_h32 : k0_cond32 d0 v10 = 1#1), ∀ (k0_h34 : k0_cond34 d0 v10 k0_t52 = 1#1), ∀ a, (k0_off242 d0 v10 k0_t52) a + S1.size a ≤ S64.size a) ∧
  (∀ k0_t52 : Fin (k0_t52_loop d0 v10).trips, ∀ (k0_h32 : k0_cond32 d0 v10 = 1#1), ∀ (k0_h34 : k0_cond34 d0 v10 k0_t52 = 1#1), ∀ a, (k0_off244 d0 v10 k0_t52) a + S1x2048.size a ≤ S2560x2048.size a) ∧
  (∀ k0_t52 : Fin (k0_t52_loop d0 v10).trips, ∀ (k0_h32 : k0_cond32 d0 v10 = 1#1), ∀ a, (k0_off245 d0 v10 k0_t52) a + S1.size a ≤ S4096.size a) ∧
  (∀ k0_t52 : Fin (k0_t52_loop d0 v10).trips, ∀ (k0_h32 : k0_cond32 d0 v10 = 1#1), ∀ a, (k0_off246 d0 v10 k0_t52) a + S1.size a ≤ S64.size a) ∧
  (∀ k0_t52 : Fin (k0_t52_loop d0 v10).trips, ∀ (k0_h32 : k0_cond32 d0 v10 = 1#1), ∀ a, (k0_off248 d0 v10 k0_t52) a + S1x2048.size a ≤ S2560x2048.size a) ∧
  (∀ (k0_h35 : k0_cond35 d0 v10 = 1#1), (k0_t53_loop d0 v10).OK) ∧
  (∀ k0_t53 : Fin (k0_t53_loop d0 v10).trips, ∀ (k0_h35 : k0_cond35 d0 v10 = 1#1), ∀ (k0_h36 : k0_cond36 d0 v10 k0_t53 = 1#1), ∀ a, (k0_off249 d0 v10 k0_t53) a + S1.size a ≤ S4096.size a) ∧
  (∀ k0_t53 : Fin (k0_t53_loop d0 v10).trips, ∀ (k0_h35 : k0_cond35 d0 v10 = 1#1), ∀ (k0_h36 : k0_cond36 d0 v10 k0_t53 = 1#1), ∀ a, (k0_off250 d0 v10 k0_t53) a + S1.size a ≤ S64.size a) ∧
  (∀ k0_t53 : Fin (k0_t53_loop d0 v10).trips, ∀ (k0_h35 : k0_cond35 d0 v10 = 1#1), ∀ (k0_h36 : k0_cond36 d0 v10 k0_t53 = 1#1), ∀ a, (k0_off252 d0 v10 k0_t53) a + S1x2048.size a ≤ S2560x2048.size a) ∧
  (∀ k0_t53 : Fin (k0_t53_loop d0 v10).trips, ∀ (k0_h35 : k0_cond35 d0 v10 = 1#1), ∀ a, (k0_off253 d0 v10 k0_t53) a + S1.size a ≤ S4096.size a) ∧
  (∀ k0_t53 : Fin (k0_t53_loop d0 v10).trips, ∀ (k0_h35 : k0_cond35 d0 v10 = 1#1), ∀ a, (k0_off254 d0 v10 k0_t53) a + S1.size a ≤ S64.size a) ∧
  (∀ k0_t53 : Fin (k0_t53_loop d0 v10).trips, ∀ (k0_h35 : k0_cond35 d0 v10 = 1#1), ∀ a, (k0_off256 d0 v10 k0_t53) a + S1x2048.size a ≤ S2560x2048.size a) ∧
  (∀ (k0_h35 : k0_cond35 d0 v10 = 1#1), (k0_t54_loop d0 v10).OK) ∧
  (∀ k0_t54 : Fin (k0_t54_loop d0 v10).trips, ∀ (k0_h35 : k0_cond35 d0 v10 = 1#1), ∀ (k0_h37 : k0_cond37 d0 v10 k0_t54 = 1#1), ∀ a, (k0_off257 d0 v10 k0_t54) a + S1.size a ≤ S4096.size a) ∧
  (∀ k0_t54 : Fin (k0_t54_loop d0 v10).trips, ∀ (k0_h35 : k0_cond35 d0 v10 = 1#1), ∀ (k0_h37 : k0_cond37 d0 v10 k0_t54 = 1#1), ∀ a, (k0_off258 d0 v10 k0_t54) a + S1.size a ≤ S64.size a)
def k0_chk1_4 (d0 : Dev nD) (v10 : BitVec 32) : Prop :=
  (∀ k0_t54 : Fin (k0_t54_loop d0 v10).trips, ∀ (k0_h35 : k0_cond35 d0 v10 = 1#1), ∀ (k0_h37 : k0_cond37 d0 v10 k0_t54 = 1#1), ∀ a, (k0_off260 d0 v10 k0_t54) a + S1x2048.size a ≤ S2560x2048.size a) ∧
  (∀ k0_t54 : Fin (k0_t54_loop d0 v10).trips, ∀ (k0_h35 : k0_cond35 d0 v10 = 1#1), ∀ a, (k0_off261 d0 v10 k0_t54) a + S1.size a ≤ S4096.size a) ∧
  (∀ k0_t54 : Fin (k0_t54_loop d0 v10).trips, ∀ (k0_h35 : k0_cond35 d0 v10 = 1#1), ∀ a, (k0_off262 d0 v10 k0_t54) a + S1.size a ≤ S64.size a) ∧
  (∀ k0_t54 : Fin (k0_t54_loop d0 v10).trips, ∀ (k0_h35 : k0_cond35 d0 v10 = 1#1), ∀ a, (k0_off264 d0 v10 k0_t54) a + S1x2048.size a ≤ S2560x2048.size a) ∧
  (∀ (k0_h38 : k0_cond38 d0 v10 = 1#1), (k0_t55_loop d0 v10).OK) ∧
  (∀ k0_t55 : Fin (k0_t55_loop d0 v10).trips, ∀ (k0_h38 : k0_cond38 d0 v10 = 1#1), ∀ (k0_h39 : k0_cond39 d0 v10 k0_t55 = 1#1), ∀ a, (k0_off265 d0 v10 k0_t55) a + S1.size a ≤ S4096.size a) ∧
  (∀ k0_t55 : Fin (k0_t55_loop d0 v10).trips, ∀ (k0_h38 : k0_cond38 d0 v10 = 1#1), ∀ (k0_h39 : k0_cond39 d0 v10 k0_t55 = 1#1), ∀ a, (k0_off266 d0 v10 k0_t55) a + S1.size a ≤ S64.size a) ∧
  (∀ k0_t55 : Fin (k0_t55_loop d0 v10).trips, ∀ (k0_h38 : k0_cond38 d0 v10 = 1#1), ∀ (k0_h39 : k0_cond39 d0 v10 k0_t55 = 1#1), ∀ a, (k0_off268 d0 v10 k0_t55) a + S1x2048.size a ≤ S2560x2048.size a) ∧
  (∀ k0_t55 : Fin (k0_t55_loop d0 v10).trips, ∀ (k0_h38 : k0_cond38 d0 v10 = 1#1), ∀ a, (k0_off269 d0 v10 k0_t55) a + S1.size a ≤ S4096.size a) ∧
  (∀ k0_t55 : Fin (k0_t55_loop d0 v10).trips, ∀ (k0_h38 : k0_cond38 d0 v10 = 1#1), ∀ a, (k0_off270 d0 v10 k0_t55) a + S1.size a ≤ S64.size a) ∧
  (∀ k0_t55 : Fin (k0_t55_loop d0 v10).trips, ∀ (k0_h38 : k0_cond38 d0 v10 = 1#1), ∀ a, (k0_off272 d0 v10 k0_t55) a + S1x2048.size a ≤ S2560x2048.size a) ∧
  (∀ (k0_h38 : k0_cond38 d0 v10 = 1#1), (k0_t56_loop d0 v10).OK) ∧
  (∀ k0_t56 : Fin (k0_t56_loop d0 v10).trips, ∀ (k0_h38 : k0_cond38 d0 v10 = 1#1), ∀ (k0_h40 : k0_cond40 d0 v10 k0_t56 = 1#1), ∀ a, (k0_off273 d0 v10 k0_t56) a + S1.size a ≤ S4096.size a) ∧
  (∀ k0_t56 : Fin (k0_t56_loop d0 v10).trips, ∀ (k0_h38 : k0_cond38 d0 v10 = 1#1), ∀ (k0_h40 : k0_cond40 d0 v10 k0_t56 = 1#1), ∀ a, (k0_off274 d0 v10 k0_t56) a + S1.size a ≤ S64.size a) ∧
  (∀ k0_t56 : Fin (k0_t56_loop d0 v10).trips, ∀ (k0_h38 : k0_cond38 d0 v10 = 1#1), ∀ (k0_h40 : k0_cond40 d0 v10 k0_t56 = 1#1), ∀ a, (k0_off276 d0 v10 k0_t56) a + S1x2048.size a ≤ S2560x2048.size a) ∧
  (∀ k0_t56 : Fin (k0_t56_loop d0 v10).trips, ∀ (k0_h38 : k0_cond38 d0 v10 = 1#1), ∀ a, (k0_off277 d0 v10 k0_t56) a + S1.size a ≤ S4096.size a) ∧
  (∀ k0_t56 : Fin (k0_t56_loop d0 v10).trips, ∀ (k0_h38 : k0_cond38 d0 v10 = 1#1), ∀ a, (k0_off278 d0 v10 k0_t56) a + S1.size a ≤ S64.size a) ∧
  (∀ k0_t56 : Fin (k0_t56_loop d0 v10).trips, ∀ (k0_h38 : k0_cond38 d0 v10 = 1#1), ∀ a, (k0_off280 d0 v10 k0_t56) a + S1x2048.size a ≤ S2560x2048.size a) ∧
  (∀ (k0_h41 : k0_cond41 d0 v10 = 1#1), (k0_t57_loop d0 v10).OK) ∧
  (∀ k0_t57 : Fin (k0_t57_loop d0 v10).trips, ∀ (k0_h41 : k0_cond41 d0 v10 = 1#1), ∀ (k0_h42 : k0_cond42 d0 v10 k0_t57 = 1#1), ∀ a, (k0_off281 d0 v10 k0_t57) a + S1.size a ≤ S4096.size a) ∧
  (∀ k0_t57 : Fin (k0_t57_loop d0 v10).trips, ∀ (k0_h41 : k0_cond41 d0 v10 = 1#1), ∀ (k0_h42 : k0_cond42 d0 v10 k0_t57 = 1#1), ∀ a, (k0_off282 d0 v10 k0_t57) a + S1.size a ≤ S64.size a) ∧
  (∀ k0_t57 : Fin (k0_t57_loop d0 v10).trips, ∀ (k0_h41 : k0_cond41 d0 v10 = 1#1), ∀ (k0_h42 : k0_cond42 d0 v10 k0_t57 = 1#1), ∀ a, (k0_off284 d0 v10 k0_t57) a + S1x2048.size a ≤ S2560x2048.size a) ∧
  (∀ k0_t57 : Fin (k0_t57_loop d0 v10).trips, ∀ (k0_h41 : k0_cond41 d0 v10 = 1#1), ∀ a, (k0_off285 d0 v10 k0_t57) a + S1.size a ≤ S4096.size a) ∧
  (∀ k0_t57 : Fin (k0_t57_loop d0 v10).trips, ∀ (k0_h41 : k0_cond41 d0 v10 = 1#1), ∀ a, (k0_off286 d0 v10 k0_t57) a + S1.size a ≤ S64.size a) ∧
  (∀ k0_t57 : Fin (k0_t57_loop d0 v10).trips, ∀ (k0_h41 : k0_cond41 d0 v10 = 1#1), ∀ a, (k0_off288 d0 v10 k0_t57) a + S1x2048.size a ≤ S2560x2048.size a) ∧
  (∀ (k0_h41 : k0_cond41 d0 v10 = 1#1), (k0_t58_loop d0 v10).OK) ∧
  (∀ k0_t58 : Fin (k0_t58_loop d0 v10).trips, ∀ (k0_h41 : k0_cond41 d0 v10 = 1#1), ∀ (k0_h43 : k0_cond43 d0 v10 k0_t58 = 1#1), ∀ a, (k0_off289 d0 v10 k0_t58) a + S1.size a ≤ S4096.size a) ∧
  (∀ k0_t58 : Fin (k0_t58_loop d0 v10).trips, ∀ (k0_h41 : k0_cond41 d0 v10 = 1#1), ∀ (k0_h43 : k0_cond43 d0 v10 k0_t58 = 1#1), ∀ a, (k0_off290 d0 v10 k0_t58) a + S1.size a ≤ S64.size a) ∧
  (∀ k0_t58 : Fin (k0_t58_loop d0 v10).trips, ∀ (k0_h41 : k0_cond41 d0 v10 = 1#1), ∀ (k0_h43 : k0_cond43 d0 v10 k0_t58 = 1#1), ∀ a, (k0_off292 d0 v10 k0_t58) a + S1x2048.size a ≤ S2560x2048.size a) ∧
  (∀ k0_t58 : Fin (k0_t58_loop d0 v10).trips, ∀ (k0_h41 : k0_cond41 d0 v10 = 1#1), ∀ a, (k0_off293 d0 v10 k0_t58) a + S1.size a ≤ S4096.size a) ∧
  (∀ k0_t58 : Fin (k0_t58_loop d0 v10).trips, ∀ (k0_h41 : k0_cond41 d0 v10 = 1#1), ∀ a, (k0_off294 d0 v10 k0_t58) a + S1.size a ≤ S64.size a) ∧
  (∀ k0_t58 : Fin (k0_t58_loop d0 v10).trips, ∀ (k0_h41 : k0_cond41 d0 v10 = 1#1), ∀ a, (k0_off296 d0 v10 k0_t58) a + S1x2048.size a ≤ S2560x2048.size a)
def k0_chk1_5 (d0 : Dev nD) (v10 : BitVec 32) : Prop :=
  (∀ (k0_h44 : k0_cond44 d0 v10 = 1#1), (k0_t59_loop d0 v10).OK) ∧
  (∀ k0_t59 : Fin (k0_t59_loop d0 v10).trips, ∀ (k0_h44 : k0_cond44 d0 v10 = 1#1), ∀ (k0_h45 : k0_cond45 d0 v10 k0_t59 = 1#1), ∀ a, (k0_off297 d0 v10 k0_t59) a + S1.size a ≤ S4096.size a) ∧
  (∀ k0_t59 : Fin (k0_t59_loop d0 v10).trips, ∀ (k0_h44 : k0_cond44 d0 v10 = 1#1), ∀ (k0_h45 : k0_cond45 d0 v10 k0_t59 = 1#1), ∀ a, (k0_off298 d0 v10 k0_t59) a + S1.size a ≤ S64.size a) ∧
  (∀ k0_t59 : Fin (k0_t59_loop d0 v10).trips, ∀ (k0_h44 : k0_cond44 d0 v10 = 1#1), ∀ (k0_h45 : k0_cond45 d0 v10 k0_t59 = 1#1), ∀ a, (k0_off300 d0 v10 k0_t59) a + S1x2048.size a ≤ S2560x2048.size a) ∧
  (∀ k0_t59 : Fin (k0_t59_loop d0 v10).trips, ∀ (k0_h44 : k0_cond44 d0 v10 = 1#1), ∀ a, (k0_off301 d0 v10 k0_t59) a + S1.size a ≤ S4096.size a) ∧
  (∀ k0_t59 : Fin (k0_t59_loop d0 v10).trips, ∀ (k0_h44 : k0_cond44 d0 v10 = 1#1), ∀ a, (k0_off302 d0 v10 k0_t59) a + S1.size a ≤ S64.size a) ∧
  (∀ k0_t59 : Fin (k0_t59_loop d0 v10).trips, ∀ (k0_h44 : k0_cond44 d0 v10 = 1#1), ∀ a, (k0_off304 d0 v10 k0_t59) a + S1x2048.size a ≤ S2560x2048.size a) ∧
  (∀ (k0_h44 : k0_cond44 d0 v10 = 1#1), (k0_t60_loop d0 v10).OK) ∧
  (∀ k0_t60 : Fin (k0_t60_loop d0 v10).trips, ∀ (k0_h44 : k0_cond44 d0 v10 = 1#1), ∀ (k0_h46 : k0_cond46 d0 v10 k0_t60 = 1#1), ∀ a, (k0_off305 d0 v10 k0_t60) a + S1.size a ≤ S4096.size a) ∧
  (∀ k0_t60 : Fin (k0_t60_loop d0 v10).trips, ∀ (k0_h44 : k0_cond44 d0 v10 = 1#1), ∀ (k0_h46 : k0_cond46 d0 v10 k0_t60 = 1#1), ∀ a, (k0_off306 d0 v10 k0_t60) a + S1.size a ≤ S64.size a) ∧
  (∀ k0_t60 : Fin (k0_t60_loop d0 v10).trips, ∀ (k0_h44 : k0_cond44 d0 v10 = 1#1), ∀ (k0_h46 : k0_cond46 d0 v10 k0_t60 = 1#1), ∀ a, (k0_off308 d0 v10 k0_t60) a + S1x2048.size a ≤ S2560x2048.size a) ∧
  (∀ k0_t60 : Fin (k0_t60_loop d0 v10).trips, ∀ (k0_h44 : k0_cond44 d0 v10 = 1#1), ∀ a, (k0_off309 d0 v10 k0_t60) a + S1.size a ≤ S4096.size a) ∧
  (∀ k0_t60 : Fin (k0_t60_loop d0 v10).trips, ∀ (k0_h44 : k0_cond44 d0 v10 = 1#1), ∀ a, (k0_off310 d0 v10 k0_t60) a + S1.size a ≤ S64.size a) ∧
  (∀ k0_t60 : Fin (k0_t60_loop d0 v10).trips, ∀ (k0_h44 : k0_cond44 d0 v10 = 1#1), ∀ a, (k0_off312 d0 v10 k0_t60) a + S1x2048.size a ≤ S2560x2048.size a) ∧
  (∀ (k0_h47 : k0_cond47 d0 v10 = 1#1), (k0_t61_loop d0 v10).OK) ∧
  (∀ k0_t61 : Fin (k0_t61_loop d0 v10).trips, ∀ (k0_h47 : k0_cond47 d0 v10 = 1#1), ∀ (k0_h48 : k0_cond48 d0 v10 k0_t61 = 1#1), ∀ a, (k0_off313 d0 v10 k0_t61) a + S1.size a ≤ S4096.size a) ∧
  (∀ k0_t61 : Fin (k0_t61_loop d0 v10).trips, ∀ (k0_h47 : k0_cond47 d0 v10 = 1#1), ∀ (k0_h48 : k0_cond48 d0 v10 k0_t61 = 1#1), ∀ a, (k0_off314 d0 v10 k0_t61) a + S1.size a ≤ S64.size a) ∧
  (∀ k0_t61 : Fin (k0_t61_loop d0 v10).trips, ∀ (k0_h47 : k0_cond47 d0 v10 = 1#1), ∀ (k0_h48 : k0_cond48 d0 v10 k0_t61 = 1#1), ∀ a, (k0_off316 d0 v10 k0_t61) a + S1x2048.size a ≤ S2560x2048.size a) ∧
  (∀ k0_t61 : Fin (k0_t61_loop d0 v10).trips, ∀ (k0_h47 : k0_cond47 d0 v10 = 1#1), ∀ a, (k0_off317 d0 v10 k0_t61) a + S1.size a ≤ S4096.size a) ∧
  (∀ k0_t61 : Fin (k0_t61_loop d0 v10).trips, ∀ (k0_h47 : k0_cond47 d0 v10 = 1#1), ∀ a, (k0_off318 d0 v10 k0_t61) a + S1.size a ≤ S64.size a) ∧
  (∀ k0_t61 : Fin (k0_t61_loop d0 v10).trips, ∀ (k0_h47 : k0_cond47 d0 v10 = 1#1), ∀ a, (k0_off320 d0 v10 k0_t61) a + S1x2048.size a ≤ S2560x2048.size a) ∧
  (∀ (k0_h47 : k0_cond47 d0 v10 = 1#1), (k0_t62_loop d0 v10).OK) ∧
  (∀ k0_t62 : Fin (k0_t62_loop d0 v10).trips, ∀ (k0_h47 : k0_cond47 d0 v10 = 1#1), ∀ (k0_h49 : k0_cond49 d0 v10 k0_t62 = 1#1), ∀ a, (k0_off321 d0 v10 k0_t62) a + S1.size a ≤ S4096.size a) ∧
  (∀ k0_t62 : Fin (k0_t62_loop d0 v10).trips, ∀ (k0_h47 : k0_cond47 d0 v10 = 1#1), ∀ (k0_h49 : k0_cond49 d0 v10 k0_t62 = 1#1), ∀ a, (k0_off322 d0 v10 k0_t62) a + S1.size a ≤ S64.size a) ∧
  (∀ k0_t62 : Fin (k0_t62_loop d0 v10).trips, ∀ (k0_h47 : k0_cond47 d0 v10 = 1#1), ∀ (k0_h49 : k0_cond49 d0 v10 k0_t62 = 1#1), ∀ a, (k0_off324 d0 v10 k0_t62) a + S1x2048.size a ≤ S2560x2048.size a) ∧
  (∀ k0_t62 : Fin (k0_t62_loop d0 v10).trips, ∀ (k0_h47 : k0_cond47 d0 v10 = 1#1), ∀ a, (k0_off325 d0 v10 k0_t62) a + S1.size a ≤ S4096.size a) ∧
  (∀ k0_t62 : Fin (k0_t62_loop d0 v10).trips, ∀ (k0_h47 : k0_cond47 d0 v10 = 1#1), ∀ a, (k0_off326 d0 v10 k0_t62) a + S1.size a ≤ S64.size a) ∧
  (∀ k0_t62 : Fin (k0_t62_loop d0 v10).trips, ∀ (k0_h47 : k0_cond47 d0 v10 = 1#1), ∀ a, (k0_off328 d0 v10 k0_t62) a + S1x2048.size a ≤ S2560x2048.size a) ∧
  (∀ (k0_h50 : k0_cond50 d0 v10 = 1#1), (k0_t63_loop d0 v10).OK) ∧
  (∀ k0_t63 : Fin (k0_t63_loop d0 v10).trips, ∀ (k0_h50 : k0_cond50 d0 v10 = 1#1), ∀ (k0_h51 : k0_cond51 d0 v10 k0_t63 = 1#1), ∀ a, (k0_off329 d0 v10 k0_t63) a + S1.size a ≤ S4096.size a) ∧
  (∀ k0_t63 : Fin (k0_t63_loop d0 v10).trips, ∀ (k0_h50 : k0_cond50 d0 v10 = 1#1), ∀ (k0_h51 : k0_cond51 d0 v10 k0_t63 = 1#1), ∀ a, (k0_off330 d0 v10 k0_t63) a + S1.size a ≤ S64.size a) ∧
  (∀ k0_t63 : Fin (k0_t63_loop d0 v10).trips, ∀ (k0_h50 : k0_cond50 d0 v10 = 1#1), ∀ (k0_h51 : k0_cond51 d0 v10 k0_t63 = 1#1), ∀ a, (k0_off332 d0 v10 k0_t63) a + S1x2048.size a ≤ S2560x2048.size a)
def k0_chk1_6 (d0 : Dev nD) (v10 : BitVec 32) : Prop :=
  (∀ k0_t63 : Fin (k0_t63_loop d0 v10).trips, ∀ (k0_h50 : k0_cond50 d0 v10 = 1#1), ∀ a, (k0_off333 d0 v10 k0_t63) a + S1.size a ≤ S4096.size a) ∧
  (∀ k0_t63 : Fin (k0_t63_loop d0 v10).trips, ∀ (k0_h50 : k0_cond50 d0 v10 = 1#1), ∀ a, (k0_off334 d0 v10 k0_t63) a + S1.size a ≤ S64.size a) ∧
  (∀ k0_t63 : Fin (k0_t63_loop d0 v10).trips, ∀ (k0_h50 : k0_cond50 d0 v10 = 1#1), ∀ a, (k0_off336 d0 v10 k0_t63) a + S1x2048.size a ≤ S2560x2048.size a) ∧
  (∀ (k0_h50 : k0_cond50 d0 v10 = 1#1), (k0_t64_loop d0 v10).OK) ∧
  (∀ k0_t64 : Fin (k0_t64_loop d0 v10).trips, ∀ (k0_h50 : k0_cond50 d0 v10 = 1#1), ∀ (k0_h52 : k0_cond52 d0 v10 k0_t64 = 1#1), ∀ a, (k0_off337 d0 v10 k0_t64) a + S1.size a ≤ S4096.size a) ∧
  (∀ k0_t64 : Fin (k0_t64_loop d0 v10).trips, ∀ (k0_h50 : k0_cond50 d0 v10 = 1#1), ∀ (k0_h52 : k0_cond52 d0 v10 k0_t64 = 1#1), ∀ a, (k0_off338 d0 v10 k0_t64) a + S1.size a ≤ S64.size a) ∧
  (∀ k0_t64 : Fin (k0_t64_loop d0 v10).trips, ∀ (k0_h50 : k0_cond50 d0 v10 = 1#1), ∀ (k0_h52 : k0_cond52 d0 v10 k0_t64 = 1#1), ∀ a, (k0_off340 d0 v10 k0_t64) a + S1x2048.size a ≤ S2560x2048.size a) ∧
  (∀ k0_t64 : Fin (k0_t64_loop d0 v10).trips, ∀ (k0_h50 : k0_cond50 d0 v10 = 1#1), ∀ a, (k0_off341 d0 v10 k0_t64) a + S1.size a ≤ S4096.size a) ∧
  (∀ k0_t64 : Fin (k0_t64_loop d0 v10).trips, ∀ (k0_h50 : k0_cond50 d0 v10 = 1#1), ∀ a, (k0_off342 d0 v10 k0_t64) a + S1.size a ≤ S64.size a) ∧
  (∀ k0_t64 : Fin (k0_t64_loop d0 v10).trips, ∀ (k0_h50 : k0_cond50 d0 v10 = 1#1), ∀ a, (k0_off344 d0 v10 k0_t64) a + S1x2048.size a ≤ S2560x2048.size a) ∧
  (∀ (k0_h53 : k0_cond53 d0 v10 = 1#1), (k0_t65_loop d0 v10).OK) ∧
  (∀ k0_t65 : Fin (k0_t65_loop d0 v10).trips, ∀ (k0_h53 : k0_cond53 d0 v10 = 1#1), ∀ (k0_h54 : k0_cond54 d0 v10 k0_t65 = 1#1), ∀ a, (k0_off345 d0 v10 k0_t65) a + S1.size a ≤ S4096.size a) ∧
  (∀ k0_t65 : Fin (k0_t65_loop d0 v10).trips, ∀ (k0_h53 : k0_cond53 d0 v10 = 1#1), ∀ (k0_h54 : k0_cond54 d0 v10 k0_t65 = 1#1), ∀ a, (k0_off346 d0 v10 k0_t65) a + S1.size a ≤ S64.size a) ∧
  (∀ k0_t65 : Fin (k0_t65_loop d0 v10).trips, ∀ (k0_h53 : k0_cond53 d0 v10 = 1#1), ∀ (k0_h54 : k0_cond54 d0 v10 k0_t65 = 1#1), ∀ a, (k0_off348 d0 v10 k0_t65) a + S1x2048.size a ≤ S2560x2048.size a) ∧
  (∀ k0_t65 : Fin (k0_t65_loop d0 v10).trips, ∀ (k0_h53 : k0_cond53 d0 v10 = 1#1), ∀ a, (k0_off349 d0 v10 k0_t65) a + S1.size a ≤ S4096.size a) ∧
  (∀ k0_t65 : Fin (k0_t65_loop d0 v10).trips, ∀ (k0_h53 : k0_cond53 d0 v10 = 1#1), ∀ a, (k0_off350 d0 v10 k0_t65) a + S1.size a ≤ S64.size a) ∧
  (∀ k0_t65 : Fin (k0_t65_loop d0 v10).trips, ∀ (k0_h53 : k0_cond53 d0 v10 = 1#1), ∀ a, (k0_off352 d0 v10 k0_t65) a + S1x2048.size a ≤ S2560x2048.size a) ∧
  (∀ (k0_h53 : k0_cond53 d0 v10 = 1#1), (k0_t66_loop d0 v10).OK) ∧
  (∀ k0_t66 : Fin (k0_t66_loop d0 v10).trips, ∀ (k0_h53 : k0_cond53 d0 v10 = 1#1), ∀ (k0_h55 : k0_cond55 d0 v10 k0_t66 = 1#1), ∀ a, (k0_off353 d0 v10 k0_t66) a + S1.size a ≤ S4096.size a) ∧
  (∀ k0_t66 : Fin (k0_t66_loop d0 v10).trips, ∀ (k0_h53 : k0_cond53 d0 v10 = 1#1), ∀ (k0_h55 : k0_cond55 d0 v10 k0_t66 = 1#1), ∀ a, (k0_off354 d0 v10 k0_t66) a + S1.size a ≤ S64.size a) ∧
  (∀ k0_t66 : Fin (k0_t66_loop d0 v10).trips, ∀ (k0_h53 : k0_cond53 d0 v10 = 1#1), ∀ (k0_h55 : k0_cond55 d0 v10 k0_t66 = 1#1), ∀ a, (k0_off356 d0 v10 k0_t66) a + S1x2048.size a ≤ S2560x2048.size a) ∧
  (∀ k0_t66 : Fin (k0_t66_loop d0 v10).trips, ∀ (k0_h53 : k0_cond53 d0 v10 = 1#1), ∀ a, (k0_off357 d0 v10 k0_t66) a + S1.size a ≤ S4096.size a) ∧
  (∀ k0_t66 : Fin (k0_t66_loop d0 v10).trips, ∀ (k0_h53 : k0_cond53 d0 v10 = 1#1), ∀ a, (k0_off358 d0 v10 k0_t66) a + S1.size a ≤ S64.size a) ∧
  (∀ k0_t66 : Fin (k0_t66_loop d0 v10).trips, ∀ (k0_h53 : k0_cond53 d0 v10 = 1#1), ∀ a, (k0_off360 d0 v10 k0_t66) a + S1x2048.size a ≤ S2560x2048.size a) ∧
  (∀ (k0_h56 : k0_cond56 d0 v10 = 1#1), (k0_t67_loop d0 v10).OK) ∧
  (∀ k0_t67 : Fin (k0_t67_loop d0 v10).trips, ∀ (k0_h56 : k0_cond56 d0 v10 = 1#1), ∀ (k0_h57 : k0_cond57 d0 v10 k0_t67 = 1#1), ∀ a, (k0_off361 d0 v10 k0_t67) a + S1.size a ≤ S4096.size a) ∧
  (∀ k0_t67 : Fin (k0_t67_loop d0 v10).trips, ∀ (k0_h56 : k0_cond56 d0 v10 = 1#1), ∀ (k0_h57 : k0_cond57 d0 v10 k0_t67 = 1#1), ∀ a, (k0_off362 d0 v10 k0_t67) a + S1.size a ≤ S64.size a) ∧
  (∀ k0_t67 : Fin (k0_t67_loop d0 v10).trips, ∀ (k0_h56 : k0_cond56 d0 v10 = 1#1), ∀ (k0_h57 : k0_cond57 d0 v10 k0_t67 = 1#1), ∀ a, (k0_off364 d0 v10 k0_t67) a + S1x2048.size a ≤ S2560x2048.size a) ∧
  (∀ k0_t67 : Fin (k0_t67_loop d0 v10).trips, ∀ (k0_h56 : k0_cond56 d0 v10 = 1#1), ∀ a, (k0_off365 d0 v10 k0_t67) a + S1.size a ≤ S4096.size a) ∧
  (∀ k0_t67 : Fin (k0_t67_loop d0 v10).trips, ∀ (k0_h56 : k0_cond56 d0 v10 = 1#1), ∀ a, (k0_off366 d0 v10 k0_t67) a + S1.size a ≤ S64.size a) ∧
  (∀ k0_t67 : Fin (k0_t67_loop d0 v10).trips, ∀ (k0_h56 : k0_cond56 d0 v10 = 1#1), ∀ a, (k0_off368 d0 v10 k0_t67) a + S1x2048.size a ≤ S2560x2048.size a) ∧
  (∀ (k0_h56 : k0_cond56 d0 v10 = 1#1), (k0_t68_loop d0 v10).OK)
def k0_chk1_7 (d0 : Dev nD) (v10 : BitVec 32) : Prop :=
  (∀ k0_t68 : Fin (k0_t68_loop d0 v10).trips, ∀ (k0_h56 : k0_cond56 d0 v10 = 1#1), ∀ (k0_h58 : k0_cond58 d0 v10 k0_t68 = 1#1), ∀ a, (k0_off369 d0 v10 k0_t68) a + S1.size a ≤ S4096.size a) ∧
  (∀ k0_t68 : Fin (k0_t68_loop d0 v10).trips, ∀ (k0_h56 : k0_cond56 d0 v10 = 1#1), ∀ (k0_h58 : k0_cond58 d0 v10 k0_t68 = 1#1), ∀ a, (k0_off370 d0 v10 k0_t68) a + S1.size a ≤ S64.size a) ∧
  (∀ k0_t68 : Fin (k0_t68_loop d0 v10).trips, ∀ (k0_h56 : k0_cond56 d0 v10 = 1#1), ∀ (k0_h58 : k0_cond58 d0 v10 k0_t68 = 1#1), ∀ a, (k0_off372 d0 v10 k0_t68) a + S1x2048.size a ≤ S2560x2048.size a) ∧
  (∀ k0_t68 : Fin (k0_t68_loop d0 v10).trips, ∀ (k0_h56 : k0_cond56 d0 v10 = 1#1), ∀ a, (k0_off373 d0 v10 k0_t68) a + S1.size a ≤ S4096.size a) ∧
  (∀ k0_t68 : Fin (k0_t68_loop d0 v10).trips, ∀ (k0_h56 : k0_cond56 d0 v10 = 1#1), ∀ a, (k0_off374 d0 v10 k0_t68) a + S1.size a ≤ S64.size a) ∧
  (∀ k0_t68 : Fin (k0_t68_loop d0 v10).trips, ∀ (k0_h56 : k0_cond56 d0 v10 = 1#1), ∀ a, (k0_off376 d0 v10 k0_t68) a + S1x2048.size a ≤ S2560x2048.size a) ∧
  (∀ (k0_h59 : k0_cond59 d0 v10 = 1#1), (k0_t69_loop d0 v10).OK) ∧
  (∀ k0_t69 : Fin (k0_t69_loop d0 v10).trips, ∀ (k0_h59 : k0_cond59 d0 v10 = 1#1), ∀ (k0_h60 : k0_cond60 d0 v10 k0_t69 = 1#1), ∀ a, (k0_off377 d0 v10 k0_t69) a + S1.size a ≤ S4096.size a) ∧
  (∀ k0_t69 : Fin (k0_t69_loop d0 v10).trips, ∀ (k0_h59 : k0_cond59 d0 v10 = 1#1), ∀ (k0_h60 : k0_cond60 d0 v10 k0_t69 = 1#1), ∀ a, (k0_off378 d0 v10 k0_t69) a + S1.size a ≤ S64.size a) ∧
  (∀ k0_t69 : Fin (k0_t69_loop d0 v10).trips, ∀ (k0_h59 : k0_cond59 d0 v10 = 1#1), ∀ (k0_h60 : k0_cond60 d0 v10 k0_t69 = 1#1), ∀ a, (k0_off380 d0 v10 k0_t69) a + S1x2048.size a ≤ S2560x2048.size a) ∧
  (∀ k0_t69 : Fin (k0_t69_loop d0 v10).trips, ∀ (k0_h59 : k0_cond59 d0 v10 = 1#1), ∀ a, (k0_off381 d0 v10 k0_t69) a + S1.size a ≤ S4096.size a) ∧
  (∀ k0_t69 : Fin (k0_t69_loop d0 v10).trips, ∀ (k0_h59 : k0_cond59 d0 v10 = 1#1), ∀ a, (k0_off382 d0 v10 k0_t69) a + S1.size a ≤ S64.size a) ∧
  (∀ k0_t69 : Fin (k0_t69_loop d0 v10).trips, ∀ (k0_h59 : k0_cond59 d0 v10 = 1#1), ∀ a, (k0_off384 d0 v10 k0_t69) a + S1x2048.size a ≤ S2560x2048.size a) ∧
  (∀ (k0_h59 : k0_cond59 d0 v10 = 1#1), (k0_t70_loop d0 v10).OK) ∧
  (∀ k0_t70 : Fin (k0_t70_loop d0 v10).trips, ∀ (k0_h59 : k0_cond59 d0 v10 = 1#1), ∀ (k0_h61 : k0_cond61 d0 v10 k0_t70 = 1#1), ∀ a, (k0_off385 d0 v10 k0_t70) a + S1.size a ≤ S4096.size a) ∧
  (∀ k0_t70 : Fin (k0_t70_loop d0 v10).trips, ∀ (k0_h59 : k0_cond59 d0 v10 = 1#1), ∀ (k0_h61 : k0_cond61 d0 v10 k0_t70 = 1#1), ∀ a, (k0_off386 d0 v10 k0_t70) a + S1.size a ≤ S64.size a) ∧
  (∀ k0_t70 : Fin (k0_t70_loop d0 v10).trips, ∀ (k0_h59 : k0_cond59 d0 v10 = 1#1), ∀ (k0_h61 : k0_cond61 d0 v10 k0_t70 = 1#1), ∀ a, (k0_off388 d0 v10 k0_t70) a + S1x2048.size a ≤ S2560x2048.size a) ∧
  (∀ k0_t70 : Fin (k0_t70_loop d0 v10).trips, ∀ (k0_h59 : k0_cond59 d0 v10 = 1#1), ∀ a, (k0_off389 d0 v10 k0_t70) a + S1.size a ≤ S4096.size a) ∧
  (∀ k0_t70 : Fin (k0_t70_loop d0 v10).trips, ∀ (k0_h59 : k0_cond59 d0 v10 = 1#1), ∀ a, (k0_off390 d0 v10 k0_t70) a + S1.size a ≤ S64.size a) ∧
  (∀ k0_t70 : Fin (k0_t70_loop d0 v10).trips, ∀ (k0_h59 : k0_cond59 d0 v10 = 1#1), ∀ a, (k0_off392 d0 v10 k0_t70) a + S1x2048.size a ≤ S2560x2048.size a) ∧
  (∀ (k0_h62 : k0_cond62 d0 v10 = 1#1), (k0_t71_loop d0 v10).OK) ∧
  (∀ k0_t71 : Fin (k0_t71_loop d0 v10).trips, ∀ (k0_h62 : k0_cond62 d0 v10 = 1#1), ∀ (k0_h63 : k0_cond63 d0 v10 k0_t71 = 1#1), ∀ a, (k0_off393 d0 v10 k0_t71) a + S1.size a ≤ S4096.size a) ∧
  (∀ k0_t71 : Fin (k0_t71_loop d0 v10).trips, ∀ (k0_h62 : k0_cond62 d0 v10 = 1#1), ∀ (k0_h63 : k0_cond63 d0 v10 k0_t71 = 1#1), ∀ a, (k0_off394 d0 v10 k0_t71) a + S1.size a ≤ S64.size a) ∧
  (∀ k0_t71 : Fin (k0_t71_loop d0 v10).trips, ∀ (k0_h62 : k0_cond62 d0 v10 = 1#1), ∀ (k0_h63 : k0_cond63 d0 v10 k0_t71 = 1#1), ∀ a, (k0_off396 d0 v10 k0_t71) a + S1x2048.size a ≤ S2560x2048.size a) ∧
  (∀ k0_t71 : Fin (k0_t71_loop d0 v10).trips, ∀ (k0_h62 : k0_cond62 d0 v10 = 1#1), ∀ a, (k0_off397 d0 v10 k0_t71) a + S1.size a ≤ S4096.size a) ∧
  (∀ k0_t71 : Fin (k0_t71_loop d0 v10).trips, ∀ (k0_h62 : k0_cond62 d0 v10 = 1#1), ∀ a, (k0_off398 d0 v10 k0_t71) a + S1.size a ≤ S64.size a) ∧
  (∀ k0_t71 : Fin (k0_t71_loop d0 v10).trips, ∀ (k0_h62 : k0_cond62 d0 v10 = 1#1), ∀ a, (k0_off400 d0 v10 k0_t71) a + S1x2048.size a ≤ S2560x2048.size a) ∧
  (∀ (k0_h62 : k0_cond62 d0 v10 = 1#1), (k0_t72_loop d0 v10).OK) ∧
  (∀ k0_t72 : Fin (k0_t72_loop d0 v10).trips, ∀ (k0_h62 : k0_cond62 d0 v10 = 1#1), ∀ (k0_h64 : k0_cond64 d0 v10 k0_t72 = 1#1), ∀ a, (k0_off401 d0 v10 k0_t72) a + S1.size a ≤ S4096.size a) ∧
  (∀ k0_t72 : Fin (k0_t72_loop d0 v10).trips, ∀ (k0_h62 : k0_cond62 d0 v10 = 1#1), ∀ (k0_h64 : k0_cond64 d0 v10 k0_t72 = 1#1), ∀ a, (k0_off402 d0 v10 k0_t72) a + S1.size a ≤ S64.size a) ∧
  (∀ k0_t72 : Fin (k0_t72_loop d0 v10).trips, ∀ (k0_h62 : k0_cond62 d0 v10 = 1#1), ∀ (k0_h64 : k0_cond64 d0 v10 k0_t72 = 1#1), ∀ a, (k0_off404 d0 v10 k0_t72) a + S1x2048.size a ≤ S2560x2048.size a) ∧
  (∀ k0_t72 : Fin (k0_t72_loop d0 v10).trips, ∀ (k0_h62 : k0_cond62 d0 v10 = 1#1), ∀ a, (k0_off405 d0 v10 k0_t72) a + S1.size a ≤ S4096.size a)
def k0_chk1_8 (d0 : Dev nD) (v10 : BitVec 32) : Prop :=
  (∀ k0_t72 : Fin (k0_t72_loop d0 v10).trips, ∀ (k0_h62 : k0_cond62 d0 v10 = 1#1), ∀ a, (k0_off406 d0 v10 k0_t72) a + S1.size a ≤ S64.size a) ∧
  (∀ k0_t72 : Fin (k0_t72_loop d0 v10).trips, ∀ (k0_h62 : k0_cond62 d0 v10 = 1#1), ∀ a, (k0_off408 d0 v10 k0_t72) a + S1x2048.size a ≤ S2560x2048.size a) ∧
  (∀ (k0_h65 : k0_cond65 d0 v10 = 1#1), (k0_t73_loop d0 v10).OK) ∧
  (∀ k0_t73 : Fin (k0_t73_loop d0 v10).trips, ∀ (k0_h65 : k0_cond65 d0 v10 = 1#1), ∀ (k0_h66 : k0_cond66 d0 v10 k0_t73 = 1#1), ∀ a, (k0_off409 d0 v10 k0_t73) a + S1.size a ≤ S4096.size a) ∧
  (∀ k0_t73 : Fin (k0_t73_loop d0 v10).trips, ∀ (k0_h65 : k0_cond65 d0 v10 = 1#1), ∀ (k0_h66 : k0_cond66 d0 v10 k0_t73 = 1#1), ∀ a, (k0_off410 d0 v10 k0_t73) a + S1.size a ≤ S64.size a) ∧
  (∀ k0_t73 : Fin (k0_t73_loop d0 v10).trips, ∀ (k0_h65 : k0_cond65 d0 v10 = 1#1), ∀ (k0_h66 : k0_cond66 d0 v10 k0_t73 = 1#1), ∀ a, (k0_off412 d0 v10 k0_t73) a + S1x2048.size a ≤ S2560x2048.size a) ∧
  (∀ k0_t73 : Fin (k0_t73_loop d0 v10).trips, ∀ (k0_h65 : k0_cond65 d0 v10 = 1#1), ∀ a, (k0_off413 d0 v10 k0_t73) a + S1.size a ≤ S4096.size a) ∧
  (∀ k0_t73 : Fin (k0_t73_loop d0 v10).trips, ∀ (k0_h65 : k0_cond65 d0 v10 = 1#1), ∀ a, (k0_off414 d0 v10 k0_t73) a + S1.size a ≤ S64.size a) ∧
  (∀ k0_t73 : Fin (k0_t73_loop d0 v10).trips, ∀ (k0_h65 : k0_cond65 d0 v10 = 1#1), ∀ a, (k0_off416 d0 v10 k0_t73) a + S1x2048.size a ≤ S2560x2048.size a) ∧
  (∀ (k0_h65 : k0_cond65 d0 v10 = 1#1), (k0_t74_loop d0 v10).OK) ∧
  (∀ k0_t74 : Fin (k0_t74_loop d0 v10).trips, ∀ (k0_h65 : k0_cond65 d0 v10 = 1#1), ∀ (k0_h67 : k0_cond67 d0 v10 k0_t74 = 1#1), ∀ a, (k0_off417 d0 v10 k0_t74) a + S1.size a ≤ S4096.size a) ∧
  (∀ k0_t74 : Fin (k0_t74_loop d0 v10).trips, ∀ (k0_h65 : k0_cond65 d0 v10 = 1#1), ∀ (k0_h67 : k0_cond67 d0 v10 k0_t74 = 1#1), ∀ a, (k0_off418 d0 v10 k0_t74) a + S1.size a ≤ S64.size a) ∧
  (∀ k0_t74 : Fin (k0_t74_loop d0 v10).trips, ∀ (k0_h65 : k0_cond65 d0 v10 = 1#1), ∀ (k0_h67 : k0_cond67 d0 v10 k0_t74 = 1#1), ∀ a, (k0_off420 d0 v10 k0_t74) a + S1x2048.size a ≤ S2560x2048.size a) ∧
  (∀ k0_t74 : Fin (k0_t74_loop d0 v10).trips, ∀ (k0_h65 : k0_cond65 d0 v10 = 1#1), ∀ a, (k0_off421 d0 v10 k0_t74) a + S1.size a ≤ S4096.size a) ∧
  (∀ k0_t74 : Fin (k0_t74_loop d0 v10).trips, ∀ (k0_h65 : k0_cond65 d0 v10 = 1#1), ∀ a, (k0_off422 d0 v10 k0_t74) a + S1.size a ≤ S64.size a) ∧
  (∀ k0_t74 : Fin (k0_t74_loop d0 v10).trips, ∀ (k0_h65 : k0_cond65 d0 v10 = 1#1), ∀ a, (k0_off424 d0 v10 k0_t74) a + S1x2048.size a ≤ S2560x2048.size a) ∧
  (∀ (k0_h68 : k0_cond68 d0 v10 = 1#1), (k0_t75_loop d0 v10).OK) ∧
  (∀ k0_t75 : Fin (k0_t75_loop d0 v10).trips, ∀ (k0_h68 : k0_cond68 d0 v10 = 1#1), ∀ (k0_h69 : k0_cond69 d0 v10 k0_t75 = 1#1), ∀ a, (k0_off425 d0 v10 k0_t75) a + S1.size a ≤ S4096.size a) ∧
  (∀ k0_t75 : Fin (k0_t75_loop d0 v10).trips, ∀ (k0_h68 : k0_cond68 d0 v10 = 1#1), ∀ (k0_h69 : k0_cond69 d0 v10 k0_t75 = 1#1), ∀ a, (k0_off426 d0 v10 k0_t75) a + S1.size a ≤ S64.size a) ∧
  (∀ k0_t75 : Fin (k0_t75_loop d0 v10).trips, ∀ (k0_h68 : k0_cond68 d0 v10 = 1#1), ∀ (k0_h69 : k0_cond69 d0 v10 k0_t75 = 1#1), ∀ a, (k0_off428 d0 v10 k0_t75) a + S1x2048.size a ≤ S2560x2048.size a) ∧
  (∀ k0_t75 : Fin (k0_t75_loop d0 v10).trips, ∀ (k0_h68 : k0_cond68 d0 v10 = 1#1), ∀ a, (k0_off429 d0 v10 k0_t75) a + S1.size a ≤ S4096.size a) ∧
  (∀ k0_t75 : Fin (k0_t75_loop d0 v10).trips, ∀ (k0_h68 : k0_cond68 d0 v10 = 1#1), ∀ a, (k0_off430 d0 v10 k0_t75) a + S1.size a ≤ S64.size a) ∧
  (∀ k0_t75 : Fin (k0_t75_loop d0 v10).trips, ∀ (k0_h68 : k0_cond68 d0 v10 = 1#1), ∀ a, (k0_off432 d0 v10 k0_t75) a + S1x2048.size a ≤ S2560x2048.size a) ∧
  (∀ (k0_h68 : k0_cond68 d0 v10 = 1#1), (k0_t76_loop d0 v10).OK) ∧
  (∀ k0_t76 : Fin (k0_t76_loop d0 v10).trips, ∀ (k0_h68 : k0_cond68 d0 v10 = 1#1), ∀ (k0_h70 : k0_cond70 d0 v10 k0_t76 = 1#1), ∀ a, (k0_off433 d0 v10 k0_t76) a + S1.size a ≤ S4096.size a) ∧
  (∀ k0_t76 : Fin (k0_t76_loop d0 v10).trips, ∀ (k0_h68 : k0_cond68 d0 v10 = 1#1), ∀ (k0_h70 : k0_cond70 d0 v10 k0_t76 = 1#1), ∀ a, (k0_off434 d0 v10 k0_t76) a + S1.size a ≤ S64.size a) ∧
  (∀ k0_t76 : Fin (k0_t76_loop d0 v10).trips, ∀ (k0_h68 : k0_cond68 d0 v10 = 1#1), ∀ (k0_h70 : k0_cond70 d0 v10 k0_t76 = 1#1), ∀ a, (k0_off436 d0 v10 k0_t76) a + S1x2048.size a ≤ S2560x2048.size a) ∧
  (∀ k0_t76 : Fin (k0_t76_loop d0 v10).trips, ∀ (k0_h68 : k0_cond68 d0 v10 = 1#1), ∀ a, (k0_off437 d0 v10 k0_t76) a + S1.size a ≤ S4096.size a) ∧
  (∀ k0_t76 : Fin (k0_t76_loop d0 v10).trips, ∀ (k0_h68 : k0_cond68 d0 v10 = 1#1), ∀ a, (k0_off438 d0 v10 k0_t76) a + S1.size a ≤ S64.size a) ∧
  (∀ k0_t76 : Fin (k0_t76_loop d0 v10).trips, ∀ (k0_h68 : k0_cond68 d0 v10 = 1#1), ∀ a, (k0_off440 d0 v10 k0_t76) a + S1x2048.size a ≤ S2560x2048.size a) ∧
  (∀ (k0_h71 : k0_cond71 d0 v10 = 1#1), (k0_t77_loop d0 v10).OK) ∧
  (∀ k0_t77 : Fin (k0_t77_loop d0 v10).trips, ∀ (k0_h71 : k0_cond71 d0 v10 = 1#1), ∀ (k0_h72 : k0_cond72 d0 v10 k0_t77 = 1#1), ∀ a, (k0_off441 d0 v10 k0_t77) a + S1.size a ≤ S4096.size a)
def k0_chk1_9 (d0 : Dev nD) (v10 : BitVec 32) : Prop :=
  (∀ k0_t77 : Fin (k0_t77_loop d0 v10).trips, ∀ (k0_h71 : k0_cond71 d0 v10 = 1#1), ∀ (k0_h72 : k0_cond72 d0 v10 k0_t77 = 1#1), ∀ a, (k0_off442 d0 v10 k0_t77) a + S1.size a ≤ S64.size a) ∧
  (∀ k0_t77 : Fin (k0_t77_loop d0 v10).trips, ∀ (k0_h71 : k0_cond71 d0 v10 = 1#1), ∀ (k0_h72 : k0_cond72 d0 v10 k0_t77 = 1#1), ∀ a, (k0_off444 d0 v10 k0_t77) a + S1x2048.size a ≤ S2560x2048.size a) ∧
  (∀ k0_t77 : Fin (k0_t77_loop d0 v10).trips, ∀ (k0_h71 : k0_cond71 d0 v10 = 1#1), ∀ a, (k0_off445 d0 v10 k0_t77) a + S1.size a ≤ S4096.size a) ∧
  (∀ k0_t77 : Fin (k0_t77_loop d0 v10).trips, ∀ (k0_h71 : k0_cond71 d0 v10 = 1#1), ∀ a, (k0_off446 d0 v10 k0_t77) a + S1.size a ≤ S64.size a) ∧
  (∀ k0_t77 : Fin (k0_t77_loop d0 v10).trips, ∀ (k0_h71 : k0_cond71 d0 v10 = 1#1), ∀ a, (k0_off448 d0 v10 k0_t77) a + S1x2048.size a ≤ S2560x2048.size a) ∧
  (∀ (k0_h71 : k0_cond71 d0 v10 = 1#1), (k0_t78_loop d0 v10).OK) ∧
  (∀ k0_t78 : Fin (k0_t78_loop d0 v10).trips, ∀ (k0_h71 : k0_cond71 d0 v10 = 1#1), ∀ (k0_h73 : k0_cond73 d0 v10 k0_t78 = 1#1), ∀ a, (k0_off449 d0 v10 k0_t78) a + S1.size a ≤ S4096.size a) ∧
  (∀ k0_t78 : Fin (k0_t78_loop d0 v10).trips, ∀ (k0_h71 : k0_cond71 d0 v10 = 1#1), ∀ (k0_h73 : k0_cond73 d0 v10 k0_t78 = 1#1), ∀ a, (k0_off450 d0 v10 k0_t78) a + S1.size a ≤ S64.size a) ∧
  (∀ k0_t78 : Fin (k0_t78_loop d0 v10).trips, ∀ (k0_h71 : k0_cond71 d0 v10 = 1#1), ∀ (k0_h73 : k0_cond73 d0 v10 k0_t78 = 1#1), ∀ a, (k0_off452 d0 v10 k0_t78) a + S1x2048.size a ≤ S2560x2048.size a) ∧
  (∀ k0_t78 : Fin (k0_t78_loop d0 v10).trips, ∀ (k0_h71 : k0_cond71 d0 v10 = 1#1), ∀ a, (k0_off453 d0 v10 k0_t78) a + S1.size a ≤ S4096.size a) ∧
  (∀ k0_t78 : Fin (k0_t78_loop d0 v10).trips, ∀ (k0_h71 : k0_cond71 d0 v10 = 1#1), ∀ a, (k0_off454 d0 v10 k0_t78) a + S1.size a ≤ S64.size a) ∧
  (∀ k0_t78 : Fin (k0_t78_loop d0 v10).trips, ∀ (k0_h71 : k0_cond71 d0 v10 = 1#1), ∀ a, (k0_off456 d0 v10 k0_t78) a + S1x2048.size a ≤ S2560x2048.size a) ∧
  (∀ (k0_h74 : k0_cond74 d0 v10 = 1#1), (k0_t79_loop d0 v10).OK) ∧
  (∀ k0_t79 : Fin (k0_t79_loop d0 v10).trips, ∀ (k0_h74 : k0_cond74 d0 v10 = 1#1), ∀ (k0_h75 : k0_cond75 d0 v10 k0_t79 = 1#1), ∀ a, (k0_off457 d0 v10 k0_t79) a + S1.size a ≤ S4096.size a) ∧
  (∀ k0_t79 : Fin (k0_t79_loop d0 v10).trips, ∀ (k0_h74 : k0_cond74 d0 v10 = 1#1), ∀ (k0_h75 : k0_cond75 d0 v10 k0_t79 = 1#1), ∀ a, (k0_off458 d0 v10 k0_t79) a + S1.size a ≤ S64.size a) ∧
  (∀ k0_t79 : Fin (k0_t79_loop d0 v10).trips, ∀ (k0_h74 : k0_cond74 d0 v10 = 1#1), ∀ (k0_h75 : k0_cond75 d0 v10 k0_t79 = 1#1), ∀ a, (k0_off460 d0 v10 k0_t79) a + S1x2048.size a ≤ S2560x2048.size a) ∧
  (∀ k0_t79 : Fin (k0_t79_loop d0 v10).trips, ∀ (k0_h74 : k0_cond74 d0 v10 = 1#1), ∀ a, (k0_off461 d0 v10 k0_t79) a + S1.size a ≤ S4096.size a) ∧
  (∀ k0_t79 : Fin (k0_t79_loop d0 v10).trips, ∀ (k0_h74 : k0_cond74 d0 v10 = 1#1), ∀ a, (k0_off462 d0 v10 k0_t79) a + S1.size a ≤ S64.size a) ∧
  (∀ k0_t79 : Fin (k0_t79_loop d0 v10).trips, ∀ (k0_h74 : k0_cond74 d0 v10 = 1#1), ∀ a, (k0_off464 d0 v10 k0_t79) a + S1x2048.size a ≤ S2560x2048.size a) ∧
  (∀ (k0_h74 : k0_cond74 d0 v10 = 1#1), (k0_t80_loop d0 v10).OK) ∧
  (∀ k0_t80 : Fin (k0_t80_loop d0 v10).trips, ∀ (k0_h74 : k0_cond74 d0 v10 = 1#1), ∀ (k0_h76 : k0_cond76 d0 v10 k0_t80 = 1#1), ∀ a, (k0_off465 d0 v10 k0_t80) a + S1.size a ≤ S4096.size a) ∧
  (∀ k0_t80 : Fin (k0_t80_loop d0 v10).trips, ∀ (k0_h74 : k0_cond74 d0 v10 = 1#1), ∀ (k0_h76 : k0_cond76 d0 v10 k0_t80 = 1#1), ∀ a, (k0_off466 d0 v10 k0_t80) a + S1.size a ≤ S64.size a) ∧
  (∀ k0_t80 : Fin (k0_t80_loop d0 v10).trips, ∀ (k0_h74 : k0_cond74 d0 v10 = 1#1), ∀ (k0_h76 : k0_cond76 d0 v10 k0_t80 = 1#1), ∀ a, (k0_off468 d0 v10 k0_t80) a + S1x2048.size a ≤ S2560x2048.size a) ∧
  (∀ k0_t80 : Fin (k0_t80_loop d0 v10).trips, ∀ (k0_h74 : k0_cond74 d0 v10 = 1#1), ∀ a, (k0_off469 d0 v10 k0_t80) a + S1.size a ≤ S4096.size a) ∧
  (∀ k0_t80 : Fin (k0_t80_loop d0 v10).trips, ∀ (k0_h74 : k0_cond74 d0 v10 = 1#1), ∀ a, (k0_off470 d0 v10 k0_t80) a + S1.size a ≤ S64.size a) ∧
  (∀ k0_t80 : Fin (k0_t80_loop d0 v10).trips, ∀ (k0_h74 : k0_cond74 d0 v10 = 1#1), ∀ a, (k0_off472 d0 v10 k0_t80) a + S1x2048.size a ≤ S2560x2048.size a) ∧
  (∀ (k0_h77 : k0_cond77 d0 v10 = 1#1), (k0_t81_loop d0 v10).OK) ∧
  (∀ k0_t81 : Fin (k0_t81_loop d0 v10).trips, ∀ (k0_h77 : k0_cond77 d0 v10 = 1#1), ∀ (k0_h78 : k0_cond78 d0 v10 k0_t81 = 1#1), ∀ a, (k0_off473 d0 v10 k0_t81) a + S1.size a ≤ S4096.size a) ∧
  (∀ k0_t81 : Fin (k0_t81_loop d0 v10).trips, ∀ (k0_h77 : k0_cond77 d0 v10 = 1#1), ∀ (k0_h78 : k0_cond78 d0 v10 k0_t81 = 1#1), ∀ a, (k0_off474 d0 v10 k0_t81) a + S1.size a ≤ S64.size a) ∧
  (∀ k0_t81 : Fin (k0_t81_loop d0 v10).trips, ∀ (k0_h77 : k0_cond77 d0 v10 = 1#1), ∀ (k0_h78 : k0_cond78 d0 v10 k0_t81 = 1#1), ∀ a, (k0_off476 d0 v10 k0_t81) a + S1x2048.size a ≤ S2560x2048.size a) ∧
  (∀ k0_t81 : Fin (k0_t81_loop d0 v10).trips, ∀ (k0_h77 : k0_cond77 d0 v10 = 1#1), ∀ a, (k0_off477 d0 v10 k0_t81) a + S1.size a ≤ S4096.size a) ∧
  (∀ k0_t81 : Fin (k0_t81_loop d0 v10).trips, ∀ (k0_h77 : k0_cond77 d0 v10 = 1#1), ∀ a, (k0_off478 d0 v10 k0_t81) a + S1.size a ≤ S64.size a)
def k0_chk1_10 (d0 : Dev nD) (v10 : BitVec 32) : Prop :=
  (∀ k0_t81 : Fin (k0_t81_loop d0 v10).trips, ∀ (k0_h77 : k0_cond77 d0 v10 = 1#1), ∀ a, (k0_off480 d0 v10 k0_t81) a + S1x2048.size a ≤ S2560x2048.size a) ∧
  (∀ (k0_h77 : k0_cond77 d0 v10 = 1#1), (k0_t82_loop d0 v10).OK) ∧
  (∀ k0_t82 : Fin (k0_t82_loop d0 v10).trips, ∀ (k0_h77 : k0_cond77 d0 v10 = 1#1), ∀ (k0_h79 : k0_cond79 d0 v10 k0_t82 = 1#1), ∀ a, (k0_off481 d0 v10 k0_t82) a + S1.size a ≤ S4096.size a) ∧
  (∀ k0_t82 : Fin (k0_t82_loop d0 v10).trips, ∀ (k0_h77 : k0_cond77 d0 v10 = 1#1), ∀ (k0_h79 : k0_cond79 d0 v10 k0_t82 = 1#1), ∀ a, (k0_off482 d0 v10 k0_t82) a + S1.size a ≤ S64.size a) ∧
  (∀ k0_t82 : Fin (k0_t82_loop d0 v10).trips, ∀ (k0_h77 : k0_cond77 d0 v10 = 1#1), ∀ (k0_h79 : k0_cond79 d0 v10 k0_t82 = 1#1), ∀ a, (k0_off484 d0 v10 k0_t82) a + S1x2048.size a ≤ S2560x2048.size a) ∧
  (∀ k0_t82 : Fin (k0_t82_loop d0 v10).trips, ∀ (k0_h77 : k0_cond77 d0 v10 = 1#1), ∀ a, (k0_off485 d0 v10 k0_t82) a + S1.size a ≤ S4096.size a) ∧
  (∀ k0_t82 : Fin (k0_t82_loop d0 v10).trips, ∀ (k0_h77 : k0_cond77 d0 v10 = 1#1), ∀ a, (k0_off486 d0 v10 k0_t82) a + S1.size a ≤ S64.size a) ∧
  (∀ k0_t82 : Fin (k0_t82_loop d0 v10).trips, ∀ (k0_h77 : k0_cond77 d0 v10 = 1#1), ∀ a, (k0_off488 d0 v10 k0_t82) a + S1x2048.size a ≤ S2560x2048.size a) ∧
  (∀ (k0_h80 : k0_cond80 d0 v10 = 1#1), (k0_t83_loop d0 v10).OK) ∧
  (∀ k0_t83 : Fin (k0_t83_loop d0 v10).trips, ∀ (k0_h80 : k0_cond80 d0 v10 = 1#1), ∀ (k0_h81 : k0_cond81 d0 v10 k0_t83 = 1#1), ∀ a, (k0_off489 d0 v10 k0_t83) a + S1.size a ≤ S4096.size a) ∧
  (∀ k0_t83 : Fin (k0_t83_loop d0 v10).trips, ∀ (k0_h80 : k0_cond80 d0 v10 = 1#1), ∀ (k0_h81 : k0_cond81 d0 v10 k0_t83 = 1#1), ∀ a, (k0_off490 d0 v10 k0_t83) a + S1.size a ≤ S64.size a) ∧
  (∀ k0_t83 : Fin (k0_t83_loop d0 v10).trips, ∀ (k0_h80 : k0_cond80 d0 v10 = 1#1), ∀ (k0_h81 : k0_cond81 d0 v10 k0_t83 = 1#1), ∀ a, (k0_off492 d0 v10 k0_t83) a + S1x2048.size a ≤ S2560x2048.size a) ∧
  (∀ k0_t83 : Fin (k0_t83_loop d0 v10).trips, ∀ (k0_h80 : k0_cond80 d0 v10 = 1#1), ∀ a, (k0_off493 d0 v10 k0_t83) a + S1.size a ≤ S4096.size a) ∧
  (∀ k0_t83 : Fin (k0_t83_loop d0 v10).trips, ∀ (k0_h80 : k0_cond80 d0 v10 = 1#1), ∀ a, (k0_off494 d0 v10 k0_t83) a + S1.size a ≤ S64.size a) ∧
  (∀ k0_t83 : Fin (k0_t83_loop d0 v10).trips, ∀ (k0_h80 : k0_cond80 d0 v10 = 1#1), ∀ a, (k0_off496 d0 v10 k0_t83) a + S1x2048.size a ≤ S2560x2048.size a) ∧
  (∀ (k0_h80 : k0_cond80 d0 v10 = 1#1), (k0_t84_loop d0 v10).OK) ∧
  (∀ k0_t84 : Fin (k0_t84_loop d0 v10).trips, ∀ (k0_h80 : k0_cond80 d0 v10 = 1#1), ∀ (k0_h82 : k0_cond82 d0 v10 k0_t84 = 1#1), ∀ a, (k0_off497 d0 v10 k0_t84) a + S1.size a ≤ S4096.size a) ∧
  (∀ k0_t84 : Fin (k0_t84_loop d0 v10).trips, ∀ (k0_h80 : k0_cond80 d0 v10 = 1#1), ∀ (k0_h82 : k0_cond82 d0 v10 k0_t84 = 1#1), ∀ a, (k0_off498 d0 v10 k0_t84) a + S1.size a ≤ S64.size a) ∧
  (∀ k0_t84 : Fin (k0_t84_loop d0 v10).trips, ∀ (k0_h80 : k0_cond80 d0 v10 = 1#1), ∀ (k0_h82 : k0_cond82 d0 v10 k0_t84 = 1#1), ∀ a, (k0_off500 d0 v10 k0_t84) a + S1x2048.size a ≤ S2560x2048.size a) ∧
  (∀ k0_t84 : Fin (k0_t84_loop d0 v10).trips, ∀ (k0_h80 : k0_cond80 d0 v10 = 1#1), ∀ a, (k0_off501 d0 v10 k0_t84) a + S1.size a ≤ S4096.size a) ∧
  (∀ k0_t84 : Fin (k0_t84_loop d0 v10).trips, ∀ (k0_h80 : k0_cond80 d0 v10 = 1#1), ∀ a, (k0_off502 d0 v10 k0_t84) a + S1.size a ≤ S64.size a) ∧
  (∀ k0_t84 : Fin (k0_t84_loop d0 v10).trips, ∀ (k0_h80 : k0_cond80 d0 v10 = 1#1), ∀ a, (k0_off504 d0 v10 k0_t84) a + S1x2048.size a ≤ S2560x2048.size a) ∧
  ((k0_t85_loop d0 v10).OK) ∧
  (∀ k0_t85 : Fin (k0_t85_loop d0 v10).trips, ∀ a, (k0_off505 d0 v10 k0_t85) a + S1.size a ≤ S4096.size a) ∧
  (∀ k0_t85 : Fin (k0_t85_loop d0 v10).trips, ∀ a, (k0_off506 d0 v10 k0_t85) a + S1.size a ≤ S64.size a) ∧
  (∀ k0_t85 : Fin (k0_t85_loop d0 v10).trips, ∀ a, (k0_off508 d0 v10 k0_t85) a + S1x2048.size a ≤ S2560x2048.size a) ∧
  ((k0_t86_loop d0 v10).OK) ∧
  (∀ k0_t86 : Fin (k0_t86_loop d0 v10).trips, ∀ a, (k0_off509 d0 v10 k0_t86) a + S1.size a ≤ S4096.size a) ∧
  (∀ k0_t86 : Fin (k0_t86_loop d0 v10).trips, ∀ a, (k0_off510 d0 v10 k0_t86) a + S1.size a ≤ S64.size a) ∧
  (∀ k0_t86 : Fin (k0_t86_loop d0 v10).trips, ∀ a, (k0_off512 d0 v10 k0_t86) a + S1x2048.size a ≤ S2560x2048.size a)
def k0_chk1 (d0 : Dev nD) (v10 : BitVec 32) : Prop :=
  k0_chk1_0 d0 v10 ∧
  k0_chk1_1 d0 v10 ∧
  k0_chk1_2 d0 v10 ∧
  k0_chk1_3 d0 v10 ∧
  k0_chk1_4 d0 v10 ∧
  k0_chk1_5 d0 v10 ∧
  k0_chk1_6 d0 v10 ∧
  k0_chk1_7 d0 v10 ∧
  k0_chk1_8 d0 v10 ∧
  k0_chk1_9 d0 v10 ∧
  k0_chk1_10 d0 v10
theorem k0_off1_inb : ∀ (d0 : Dev nD) (v10 : BitVec 32) (k0_hw1 : k0_chk1 d0 v10) (k0_t1 : Fin k0_t1_loop.trips), ∀ (k0_h1 : k0_cond1 d0 v10 = 1#1), ∀ a, (k0_off1 d0 v10 k0_t1) a + S1.size a ≤ S4096.size a := fun d0 v10 k0_hw1 k0_t1 k0_h1 => k0_hw1.1.1 k0_t1 k0_h1
theorem k0_off5_inb : ∀ (d0 : Dev nD) (v10 : BitVec 32) (k0_hw1 : k0_chk1 d0 v10) (k0_t2 : Fin k0_t2_loop.trips), ∀ (k0_h1 : k0_cond1 d0 v10 = 1#1), ∀ a, (k0_off5 d0 v10 k0_t2) a + S1.size a ≤ S4096.size a := fun d0 v10 k0_hw1 k0_t2 k0_h1 => k0_hw1.1.2.1 k0_t2 k0_h1
theorem k0_off9_inb : ∀ (d0 : Dev nD) (v10 : BitVec 32) (k0_hw1 : k0_chk1 d0 v10) (k0_t3 : Fin k0_t3_loop.trips), ∀ (k0_h2 : k0_cond2 d0 v10 = 1#1), ∀ a, (k0_off9 d0 v10 k0_t3) a + S1.size a ≤ S4096.size a := fun d0 v10 k0_hw1 k0_t3 k0_h2 => k0_hw1.1.2.2.1 k0_t3 k0_h2
theorem k0_off13_inb : ∀ (d0 : Dev nD) (v10 : BitVec 32) (k0_hw1 : k0_chk1 d0 v10) (k0_t4 : Fin k0_t4_loop.trips), ∀ (k0_h2 : k0_cond2 d0 v10 = 1#1), ∀ a, (k0_off13 d0 v10 k0_t4) a + S1.size a ≤ S4096.size a := fun d0 v10 k0_hw1 k0_t4 k0_h2 => k0_hw1.1.2.2.2.1 k0_t4 k0_h2
theorem k0_off17_inb : ∀ (d0 : Dev nD) (v10 : BitVec 32) (k0_hw1 : k0_chk1 d0 v10) (k0_t5 : Fin k0_t5_loop.trips), ∀ (k0_h3 : k0_cond3 d0 v10 = 1#1), ∀ a, (k0_off17 d0 v10 k0_t5) a + S1.size a ≤ S4096.size a := fun d0 v10 k0_hw1 k0_t5 k0_h3 => k0_hw1.1.2.2.2.2.1 k0_t5 k0_h3
theorem k0_off21_inb : ∀ (d0 : Dev nD) (v10 : BitVec 32) (k0_hw1 : k0_chk1 d0 v10) (k0_t6 : Fin k0_t6_loop.trips), ∀ (k0_h3 : k0_cond3 d0 v10 = 1#1), ∀ a, (k0_off21 d0 v10 k0_t6) a + S1.size a ≤ S4096.size a := fun d0 v10 k0_hw1 k0_t6 k0_h3 => k0_hw1.1.2.2.2.2.2.1 k0_t6 k0_h3
theorem k0_off25_inb : ∀ (d0 : Dev nD) (v10 : BitVec 32) (k0_hw1 : k0_chk1 d0 v10) (k0_t7 : Fin k0_t7_loop.trips), ∀ (k0_h4 : k0_cond4 d0 v10 = 1#1), ∀ a, (k0_off25 d0 v10 k0_t7) a + S1.size a ≤ S4096.size a := fun d0 v10 k0_hw1 k0_t7 k0_h4 => k0_hw1.1.2.2.2.2.2.2.1 k0_t7 k0_h4
theorem k0_off29_inb : ∀ (d0 : Dev nD) (v10 : BitVec 32) (k0_hw1 : k0_chk1 d0 v10) (k0_t8 : Fin k0_t8_loop.trips), ∀ (k0_h4 : k0_cond4 d0 v10 = 1#1), ∀ a, (k0_off29 d0 v10 k0_t8) a + S1.size a ≤ S4096.size a := fun d0 v10 k0_hw1 k0_t8 k0_h4 => k0_hw1.1.2.2.2.2.2.2.2.1 k0_t8 k0_h4
theorem k0_off33_inb : ∀ (d0 : Dev nD) (v10 : BitVec 32) (k0_hw1 : k0_chk1 d0 v10) (k0_t9 : Fin k0_t9_loop.trips), ∀ (k0_h5 : k0_cond5 d0 v10 = 1#1), ∀ a, (k0_off33 d0 v10 k0_t9) a + S1.size a ≤ S4096.size a := fun d0 v10 k0_hw1 k0_t9 k0_h5 => k0_hw1.1.2.2.2.2.2.2.2.2.1 k0_t9 k0_h5
theorem k0_off37_inb : ∀ (d0 : Dev nD) (v10 : BitVec 32) (k0_hw1 : k0_chk1 d0 v10) (k0_t10 : Fin k0_t10_loop.trips), ∀ (k0_h5 : k0_cond5 d0 v10 = 1#1), ∀ a, (k0_off37 d0 v10 k0_t10) a + S1.size a ≤ S4096.size a := fun d0 v10 k0_hw1 k0_t10 k0_h5 => k0_hw1.1.2.2.2.2.2.2.2.2.2.1 k0_t10 k0_h5
theorem k0_off41_inb : ∀ (d0 : Dev nD) (v10 : BitVec 32) (k0_hw1 : k0_chk1 d0 v10) (k0_t11 : Fin k0_t11_loop.trips), ∀ (k0_h6 : k0_cond6 d0 v10 = 1#1), ∀ a, (k0_off41 d0 v10 k0_t11) a + S1.size a ≤ S4096.size a := fun d0 v10 k0_hw1 k0_t11 k0_h6 => k0_hw1.1.2.2.2.2.2.2.2.2.2.2.1 k0_t11 k0_h6
theorem k0_off45_inb : ∀ (d0 : Dev nD) (v10 : BitVec 32) (k0_hw1 : k0_chk1 d0 v10) (k0_t12 : Fin k0_t12_loop.trips), ∀ (k0_h6 : k0_cond6 d0 v10 = 1#1), ∀ a, (k0_off45 d0 v10 k0_t12) a + S1.size a ≤ S4096.size a := fun d0 v10 k0_hw1 k0_t12 k0_h6 => k0_hw1.1.2.2.2.2.2.2.2.2.2.2.2.1 k0_t12 k0_h6
theorem k0_off49_inb : ∀ (d0 : Dev nD) (v10 : BitVec 32) (k0_hw1 : k0_chk1 d0 v10) (k0_t13 : Fin k0_t13_loop.trips), ∀ (k0_h7 : k0_cond7 d0 v10 = 1#1), ∀ a, (k0_off49 d0 v10 k0_t13) a + S1.size a ≤ S4096.size a := fun d0 v10 k0_hw1 k0_t13 k0_h7 => k0_hw1.1.2.2.2.2.2.2.2.2.2.2.2.2.1 k0_t13 k0_h7
theorem k0_off53_inb : ∀ (d0 : Dev nD) (v10 : BitVec 32) (k0_hw1 : k0_chk1 d0 v10) (k0_t14 : Fin k0_t14_loop.trips), ∀ (k0_h7 : k0_cond7 d0 v10 = 1#1), ∀ a, (k0_off53 d0 v10 k0_t14) a + S1.size a ≤ S4096.size a := fun d0 v10 k0_hw1 k0_t14 k0_h7 => k0_hw1.1.2.2.2.2.2.2.2.2.2.2.2.2.2.1 k0_t14 k0_h7
theorem k0_off57_inb : ∀ (d0 : Dev nD) (v10 : BitVec 32) (k0_hw1 : k0_chk1 d0 v10) (k0_t15 : Fin k0_t15_loop.trips), ∀ (k0_h8 : k0_cond8 d0 v10 = 1#1), ∀ a, (k0_off57 d0 v10 k0_t15) a + S1.size a ≤ S4096.size a := fun d0 v10 k0_hw1 k0_t15 k0_h8 => k0_hw1.1.2.2.2.2.2.2.2.2.2.2.2.2.2.2.1 k0_t15 k0_h8
theorem k0_off61_inb : ∀ (d0 : Dev nD) (v10 : BitVec 32) (k0_hw1 : k0_chk1 d0 v10) (k0_t16 : Fin k0_t16_loop.trips), ∀ (k0_h8 : k0_cond8 d0 v10 = 1#1), ∀ a, (k0_off61 d0 v10 k0_t16) a + S1.size a ≤ S4096.size a := fun d0 v10 k0_hw1 k0_t16 k0_h8 => k0_hw1.1.2.2.2.2.2.2.2.2.2.2.2.2.2.2.2.1 k0_t16 k0_h8
theorem k0_off65_inb : ∀ (d0 : Dev nD) (v10 : BitVec 32) (k0_hw1 : k0_chk1 d0 v10) (k0_t17 : Fin k0_t17_loop.trips), ∀ (k0_h9 : k0_cond9 d0 v10 = 1#1), ∀ a, (k0_off65 d0 v10 k0_t17) a + S1.size a ≤ S4096.size a := fun d0 v10 k0_hw1 k0_t17 k0_h9 => k0_hw1.1.2.2.2.2.2.2.2.2.2.2.2.2.2.2.2.2.1 k0_t17 k0_h9
theorem k0_off69_inb : ∀ (d0 : Dev nD) (v10 : BitVec 32) (k0_hw1 : k0_chk1 d0 v10) (k0_t18 : Fin k0_t18_loop.trips), ∀ (k0_h9 : k0_cond9 d0 v10 = 1#1), ∀ a, (k0_off69 d0 v10 k0_t18) a + S1.size a ≤ S4096.size a := fun d0 v10 k0_hw1 k0_t18 k0_h9 => k0_hw1.1.2.2.2.2.2.2.2.2.2.2.2.2.2.2.2.2.2.1 k0_t18 k0_h9
theorem k0_off73_inb : ∀ (d0 : Dev nD) (v10 : BitVec 32) (k0_hw1 : k0_chk1 d0 v10) (k0_t19 : Fin k0_t19_loop.trips), ∀ (k0_h10 : k0_cond10 d0 v10 = 1#1), ∀ a, (k0_off73 d0 v10 k0_t19) a + S1.size a ≤ S4096.size a := fun d0 v10 k0_hw1 k0_t19 k0_h10 => k0_hw1.1.2.2.2.2.2.2.2.2.2.2.2.2.2.2.2.2.2.2.1 k0_t19 k0_h10
theorem k0_off77_inb : ∀ (d0 : Dev nD) (v10 : BitVec 32) (k0_hw1 : k0_chk1 d0 v10) (k0_t20 : Fin k0_t20_loop.trips), ∀ (k0_h10 : k0_cond10 d0 v10 = 1#1), ∀ a, (k0_off77 d0 v10 k0_t20) a + S1.size a ≤ S4096.size a := fun d0 v10 k0_hw1 k0_t20 k0_h10 => k0_hw1.1.2.2.2.2.2.2.2.2.2.2.2.2.2.2.2.2.2.2.2.1 k0_t20 k0_h10
theorem k0_off81_inb : ∀ (d0 : Dev nD) (v10 : BitVec 32) (k0_hw1 : k0_chk1 d0 v10) (k0_t21 : Fin k0_t21_loop.trips), ∀ (k0_h11 : k0_cond11 d0 v10 = 1#1), ∀ a, (k0_off81 d0 v10 k0_t21) a + S1.size a ≤ S4096.size a := fun d0 v10 k0_hw1 k0_t21 k0_h11 => k0_hw1.1.2.2.2.2.2.2.2.2.2.2.2.2.2.2.2.2.2.2.2.2.1 k0_t21 k0_h11
theorem k0_off85_inb : ∀ (d0 : Dev nD) (v10 : BitVec 32) (k0_hw1 : k0_chk1 d0 v10) (k0_t22 : Fin k0_t22_loop.trips), ∀ (k0_h11 : k0_cond11 d0 v10 = 1#1), ∀ a, (k0_off85 d0 v10 k0_t22) a + S1.size a ≤ S4096.size a := fun d0 v10 k0_hw1 k0_t22 k0_h11 => k0_hw1.1.2.2.2.2.2.2.2.2.2.2.2.2.2.2.2.2.2.2.2.2.2.1 k0_t22 k0_h11
theorem k0_off89_inb : ∀ (d0 : Dev nD) (v10 : BitVec 32) (k0_hw1 : k0_chk1 d0 v10) (k0_t23 : Fin k0_t23_loop.trips), ∀ (k0_h12 : k0_cond12 d0 v10 = 1#1), ∀ a, (k0_off89 d0 v10 k0_t23) a + S1.size a ≤ S4096.size a := fun d0 v10 k0_hw1 k0_t23 k0_h12 => k0_hw1.1.2.2.2.2.2.2.2.2.2.2.2.2.2.2.2.2.2.2.2.2.2.2.1 k0_t23 k0_h12
theorem k0_off93_inb : ∀ (d0 : Dev nD) (v10 : BitVec 32) (k0_hw1 : k0_chk1 d0 v10) (k0_t24 : Fin k0_t24_loop.trips), ∀ (k0_h12 : k0_cond12 d0 v10 = 1#1), ∀ a, (k0_off93 d0 v10 k0_t24) a + S1.size a ≤ S4096.size a := fun d0 v10 k0_hw1 k0_t24 k0_h12 => k0_hw1.1.2.2.2.2.2.2.2.2.2.2.2.2.2.2.2.2.2.2.2.2.2.2.2.1 k0_t24 k0_h12
theorem k0_off97_inb : ∀ (d0 : Dev nD) (v10 : BitVec 32) (k0_hw1 : k0_chk1 d0 v10) (k0_t25 : Fin k0_t25_loop.trips), ∀ (k0_h13 : k0_cond13 d0 v10 = 1#1), ∀ a, (k0_off97 d0 v10 k0_t25) a + S1.size a ≤ S4096.size a := fun d0 v10 k0_hw1 k0_t25 k0_h13 => k0_hw1.1.2.2.2.2.2.2.2.2.2.2.2.2.2.2.2.2.2.2.2.2.2.2.2.2.1 k0_t25 k0_h13
theorem k0_off101_inb : ∀ (d0 : Dev nD) (v10 : BitVec 32) (k0_hw1 : k0_chk1 d0 v10) (k0_t26 : Fin k0_t26_loop.trips), ∀ (k0_h13 : k0_cond13 d0 v10 = 1#1), ∀ a, (k0_off101 d0 v10 k0_t26) a + S1.size a ≤ S4096.size a := fun d0 v10 k0_hw1 k0_t26 k0_h13 => k0_hw1.1.2.2.2.2.2.2.2.2.2.2.2.2.2.2.2.2.2.2.2.2.2.2.2.2.2.1 k0_t26 k0_h13
theorem k0_off105_inb : ∀ (d0 : Dev nD) (v10 : BitVec 32) (k0_hw1 : k0_chk1 d0 v10) (k0_t27 : Fin k0_t27_loop.trips), ∀ (k0_h14 : k0_cond14 d0 v10 = 1#1), ∀ a, (k0_off105 d0 v10 k0_t27) a + S1.size a ≤ S4096.size a := fun d0 v10 k0_hw1 k0_t27 k0_h14 => k0_hw1.1.2.2.2.2.2.2.2.2.2.2.2.2.2.2.2.2.2.2.2.2.2.2.2.2.2.2.1 k0_t27 k0_h14
theorem k0_off109_inb : ∀ (d0 : Dev nD) (v10 : BitVec 32) (k0_hw1 : k0_chk1 d0 v10) (k0_t28 : Fin k0_t28_loop.trips), ∀ (k0_h14 : k0_cond14 d0 v10 = 1#1), ∀ a, (k0_off109 d0 v10 k0_t28) a + S1.size a ≤ S4096.size a := fun d0 v10 k0_hw1 k0_t28 k0_h14 => k0_hw1.1.2.2.2.2.2.2.2.2.2.2.2.2.2.2.2.2.2.2.2.2.2.2.2.2.2.2.2.1 k0_t28 k0_h14
theorem k0_off113_inb : ∀ (d0 : Dev nD) (v10 : BitVec 32) (k0_hw1 : k0_chk1 d0 v10) (k0_t29 : Fin k0_t29_loop.trips), ∀ (k0_h15 : k0_cond15 d0 v10 = 1#1), ∀ a, (k0_off113 d0 v10 k0_t29) a + S1.size a ≤ S4096.size a := fun d0 v10 k0_hw1 k0_t29 k0_h15 => k0_hw1.1.2.2.2.2.2.2.2.2.2.2.2.2.2.2.2.2.2.2.2.2.2.2.2.2.2.2.2.2.1 k0_t29 k0_h15
theorem k0_off117_inb : ∀ (d0 : Dev nD) (v10 : BitVec 32) (k0_hw1 : k0_chk1 d0 v10) (k0_t30 : Fin k0_t30_loop.trips), ∀ (k0_h15 : k0_cond15 d0 v10 = 1#1), ∀ a, (k0_off117 d0 v10 k0_t30) a + S1.size a ≤ S4096.size a := fun d0 v10 k0_hw1 k0_t30 k0_h15 => k0_hw1.1.2.2.2.2.2.2.2.2.2.2.2.2.2.2.2.2.2.2.2.2.2.2.2.2.2.2.2.2.2.1 k0_t30 k0_h15
theorem k0_off121_inb : ∀ (d0 : Dev nD) (v10 : BitVec 32) (k0_hw1 : k0_chk1 d0 v10) (k0_t31 : Fin k0_t31_loop.trips), ∀ (k0_h16 : k0_cond16 d0 v10 = 1#1), ∀ a, (k0_off121 d0 v10 k0_t31) a + S1.size a ≤ S4096.size a := fun d0 v10 k0_hw1 k0_t31 k0_h16 => k0_hw1.1.2.2.2.2.2.2.2.2.2.2.2.2.2.2.2.2.2.2.2.2.2.2.2.2.2.2.2.2.2.2.1 k0_t31 k0_h16
theorem k0_off125_inb : ∀ (d0 : Dev nD) (v10 : BitVec 32) (k0_hw1 : k0_chk1 d0 v10) (k0_t32 : Fin k0_t32_loop.trips), ∀ (k0_h16 : k0_cond16 d0 v10 = 1#1), ∀ a, (k0_off125 d0 v10 k0_t32) a + S1.size a ≤ S4096.size a := fun d0 v10 k0_hw1 k0_t32 k0_h16 => k0_hw1.1.2.2.2.2.2.2.2.2.2.2.2.2.2.2.2.2.2.2.2.2.2.2.2.2.2.2.2.2.2.2.2 k0_t32 k0_h16
theorem k0_off129_inb : ∀ (d0 : Dev nD) (v10 : BitVec 32) (k0_hw1 : k0_chk1 d0 v10) (k0_t33 : Fin k0_t33_loop.trips), ∀ (k0_h17 : k0_cond17 d0 v10 = 1#1), ∀ a, (k0_off129 d0 v10 k0_t33) a + S1.size a ≤ S4096.size a := fun d0 v10 k0_hw1 k0_t33 k0_h17 => k0_hw1.2.1.1 k0_t33 k0_h17
theorem k0_off133_inb : ∀ (d0 : Dev nD) (v10 : BitVec 32) (k0_hw1 : k0_chk1 d0 v10) (k0_t34 : Fin k0_t34_loop.trips), ∀ (k0_h17 : k0_cond17 d0 v10 = 1#1), ∀ a, (k0_off133 d0 v10 k0_t34) a + S1.size a ≤ S4096.size a := fun d0 v10 k0_hw1 k0_t34 k0_h17 => k0_hw1.2.1.2.1 k0_t34 k0_h17
theorem k0_off137_inb : ∀ (d0 : Dev nD) (v10 : BitVec 32) (k0_hw1 : k0_chk1 d0 v10) (k0_t35 : Fin k0_t35_loop.trips), ∀ (k0_h18 : k0_cond18 d0 v10 = 1#1), ∀ a, (k0_off137 d0 v10 k0_t35) a + S1.size a ≤ S4096.size a := fun d0 v10 k0_hw1 k0_t35 k0_h18 => k0_hw1.2.1.2.2.1 k0_t35 k0_h18
theorem k0_off141_inb : ∀ (d0 : Dev nD) (v10 : BitVec 32) (k0_hw1 : k0_chk1 d0 v10) (k0_t36 : Fin k0_t36_loop.trips), ∀ (k0_h18 : k0_cond18 d0 v10 = 1#1), ∀ a, (k0_off141 d0 v10 k0_t36) a + S1.size a ≤ S4096.size a := fun d0 v10 k0_hw1 k0_t36 k0_h18 => k0_hw1.2.1.2.2.2.1 k0_t36 k0_h18
theorem k0_off145_inb : ∀ (d0 : Dev nD) (v10 : BitVec 32) (k0_hw1 : k0_chk1 d0 v10) (k0_t37 : Fin k0_t37_loop.trips), ∀ (k0_h19 : k0_cond19 d0 v10 = 1#1), ∀ a, (k0_off145 d0 v10 k0_t37) a + S1.size a ≤ S4096.size a := fun d0 v10 k0_hw1 k0_t37 k0_h19 => k0_hw1.2.1.2.2.2.2.1 k0_t37 k0_h19
theorem k0_off149_inb : ∀ (d0 : Dev nD) (v10 : BitVec 32) (k0_hw1 : k0_chk1 d0 v10) (k0_t38 : Fin k0_t38_loop.trips), ∀ (k0_h19 : k0_cond19 d0 v10 = 1#1), ∀ a, (k0_off149 d0 v10 k0_t38) a + S1.size a ≤ S4096.size a := fun d0 v10 k0_hw1 k0_t38 k0_h19 => k0_hw1.2.1.2.2.2.2.2.1 k0_t38 k0_h19
theorem k0_off153_inb : ∀ (d0 : Dev nD) (v10 : BitVec 32) (k0_hw1 : k0_chk1 d0 v10) (k0_t39 : Fin k0_t39_loop.trips), ∀ (k0_h20 : k0_cond20 d0 v10 = 1#1), ∀ a, (k0_off153 d0 v10 k0_t39) a + S1.size a ≤ S4096.size a := fun d0 v10 k0_hw1 k0_t39 k0_h20 => k0_hw1.2.1.2.2.2.2.2.2.1 k0_t39 k0_h20
theorem k0_off157_inb : ∀ (d0 : Dev nD) (v10 : BitVec 32) (k0_hw1 : k0_chk1 d0 v10) (k0_t40 : Fin k0_t40_loop.trips), ∀ (k0_h20 : k0_cond20 d0 v10 = 1#1), ∀ a, (k0_off157 d0 v10 k0_t40) a + S1.size a ≤ S4096.size a := fun d0 v10 k0_hw1 k0_t40 k0_h20 => k0_hw1.2.1.2.2.2.2.2.2.2.1 k0_t40 k0_h20
theorem k0_t41_ok : ∀ (d0 : Dev nD) (v10 : BitVec 32) (k0_hw1 : k0_chk1 d0 v10), (k0_t41_loop d0 v10).OK := fun d0 v10 k0_hw1 => k0_hw1.2.1.2.2.2.2.2.2.2.2.1
theorem k0_off161_inb : ∀ (d0 : Dev nD) (v10 : BitVec 32) (k0_hw1 : k0_chk1 d0 v10) (k0_t41 : Fin (k0_t41_loop d0 v10).trips), ∀ (k0_h21 : k0_cond21 d0 v10 k0_t41 = 1#1), ∀ a, (k0_off161 d0 v10 k0_t41) a + S1.size a ≤ S4096.size a := fun d0 v10 k0_hw1 k0_t41 k0_h21 => k0_hw1.2.1.2.2.2.2.2.2.2.2.2.1 k0_t41 k0_h21
theorem k0_off162_inb : ∀ (d0 : Dev nD) (v10 : BitVec 32) (k0_hw1 : k0_chk1 d0 v10) (k0_t41 : Fin (k0_t41_loop d0 v10).trips), ∀ (k0_h21 : k0_cond21 d0 v10 k0_t41 = 1#1), ∀ a, (k0_off162 d0 v10 k0_t41) a + S1.size a ≤ S64.size a := fun d0 v10 k0_hw1 k0_t41 k0_h21 => k0_hw1.2.1.2.2.2.2.2.2.2.2.2.2.1 k0_t41 k0_h21
theorem k0_off164_inb : ∀ (d0 : Dev nD) (v10 : BitVec 32) (k0_hw1 : k0_chk1 d0 v10) (k0_t41 : Fin (k0_t41_loop d0 v10).trips), ∀ (k0_h21 : k0_cond21 d0 v10 k0_t41 = 1#1), ∀ a, (k0_off164 d0 v10 k0_t41) a + S1x2048.size a ≤ S2560x2048.size a := fun d0 v10 k0_hw1 k0_t41 k0_h21 => k0_hw1.2.1.2.2.2.2.2.2.2.2.2.2.2.1 k0_t41 k0_h21
theorem k0_off165_inb : ∀ (d0 : Dev nD) (v10 : BitVec 32) (k0_hw1 : k0_chk1 d0 v10) (k0_t41 : Fin (k0_t41_loop d0 v10).trips), ∀ a, (k0_off165 d0 v10 k0_t41) a + S1.size a ≤ S4096.size a := fun d0 v10 k0_hw1 k0_t41 => k0_hw1.2.1.2.2.2.2.2.2.2.2.2.2.2.2.1 k0_t41
theorem k0_off166_inb : ∀ (d0 : Dev nD) (v10 : BitVec 32) (k0_hw1 : k0_chk1 d0 v10) (k0_t41 : Fin (k0_t41_loop d0 v10).trips), ∀ a, (k0_off166 d0 v10 k0_t41) a + S1.size a ≤ S64.size a := fun d0 v10 k0_hw1 k0_t41 => k0_hw1.2.1.2.2.2.2.2.2.2.2.2.2.2.2.2.1 k0_t41
theorem k0_off168_inb : ∀ (d0 : Dev nD) (v10 : BitVec 32) (k0_hw1 : k0_chk1 d0 v10) (k0_t41 : Fin (k0_t41_loop d0 v10).trips), ∀ a, (k0_off168 d0 v10 k0_t41) a + S1x2048.size a ≤ S2560x2048.size a := fun d0 v10 k0_hw1 k0_t41 => k0_hw1.2.1.2.2.2.2.2.2.2.2.2.2.2.2.2.2.1 k0_t41
theorem k0_t42_ok : ∀ (d0 : Dev nD) (v10 : BitVec 32) (k0_hw1 : k0_chk1 d0 v10), (k0_t42_loop d0 v10).OK := fun d0 v10 k0_hw1 => k0_hw1.2.1.2.2.2.2.2.2.2.2.2.2.2.2.2.2.2.1
theorem k0_off169_inb : ∀ (d0 : Dev nD) (v10 : BitVec 32) (k0_hw1 : k0_chk1 d0 v10) (k0_t42 : Fin (k0_t42_loop d0 v10).trips), ∀ (k0_h22 : k0_cond22 d0 v10 k0_t42 = 1#1), ∀ a, (k0_off169 d0 v10 k0_t42) a + S1.size a ≤ S4096.size a := fun d0 v10 k0_hw1 k0_t42 k0_h22 => k0_hw1.2.1.2.2.2.2.2.2.2.2.2.2.2.2.2.2.2.2.1 k0_t42 k0_h22
theorem k0_off170_inb : ∀ (d0 : Dev nD) (v10 : BitVec 32) (k0_hw1 : k0_chk1 d0 v10) (k0_t42 : Fin (k0_t42_loop d0 v10).trips), ∀ (k0_h22 : k0_cond22 d0 v10 k0_t42 = 1#1), ∀ a, (k0_off170 d0 v10 k0_t42) a + S1.size a ≤ S64.size a := fun d0 v10 k0_hw1 k0_t42 k0_h22 => k0_hw1.2.1.2.2.2.2.2.2.2.2.2.2.2.2.2.2.2.2.2.1 k0_t42 k0_h22
theorem k0_off172_inb : ∀ (d0 : Dev nD) (v10 : BitVec 32) (k0_hw1 : k0_chk1 d0 v10) (k0_t42 : Fin (k0_t42_loop d0 v10).trips), ∀ (k0_h22 : k0_cond22 d0 v10 k0_t42 = 1#1), ∀ a, (k0_off172 d0 v10 k0_t42) a + S1x2048.size a ≤ S2560x2048.size a := fun d0 v10 k0_hw1 k0_t42 k0_h22 => k0_hw1.2.1.2.2.2.2.2.2.2.2.2.2.2.2.2.2.2.2.2.2.1 k0_t42 k0_h22
theorem k0_off173_inb : ∀ (d0 : Dev nD) (v10 : BitVec 32) (k0_hw1 : k0_chk1 d0 v10) (k0_t42 : Fin (k0_t42_loop d0 v10).trips), ∀ a, (k0_off173 d0 v10 k0_t42) a + S1.size a ≤ S4096.size a := fun d0 v10 k0_hw1 k0_t42 => k0_hw1.2.1.2.2.2.2.2.2.2.2.2.2.2.2.2.2.2.2.2.2.2.1 k0_t42
theorem k0_off174_inb : ∀ (d0 : Dev nD) (v10 : BitVec 32) (k0_hw1 : k0_chk1 d0 v10) (k0_t42 : Fin (k0_t42_loop d0 v10).trips), ∀ a, (k0_off174 d0 v10 k0_t42) a + S1.size a ≤ S64.size a := fun d0 v10 k0_hw1 k0_t42 => k0_hw1.2.1.2.2.2.2.2.2.2.2.2.2.2.2.2.2.2.2.2.2.2.2.1 k0_t42
theorem k0_off176_inb : ∀ (d0 : Dev nD) (v10 : BitVec 32) (k0_hw1 : k0_chk1 d0 v10) (k0_t42 : Fin (k0_t42_loop d0 v10).trips), ∀ a, (k0_off176 d0 v10 k0_t42) a + S1x2048.size a ≤ S2560x2048.size a := fun d0 v10 k0_hw1 k0_t42 => k0_hw1.2.1.2.2.2.2.2.2.2.2.2.2.2.2.2.2.2.2.2.2.2.2.2.1 k0_t42
theorem k0_t43_ok : ∀ (d0 : Dev nD) (v10 : BitVec 32) (k0_hw1 : k0_chk1 d0 v10), (k0_t43_loop d0 v10).OK := fun d0 v10 k0_hw1 => k0_hw1.2.1.2.2.2.2.2.2.2.2.2.2.2.2.2.2.2.2.2.2.2.2.2.2.1
theorem k0_off177_inb : ∀ (d0 : Dev nD) (v10 : BitVec 32) (k0_hw1 : k0_chk1 d0 v10) (k0_t43 : Fin (k0_t43_loop d0 v10).trips), ∀ a, (k0_off177 d0 v10 k0_t43) a + S1.size a ≤ S4096.size a := fun d0 v10 k0_hw1 k0_t43 => k0_hw1.2.1.2.2.2.2.2.2.2.2.2.2.2.2.2.2.2.2.2.2.2.2.2.2.2.1 k0_t43
theorem k0_off178_inb : ∀ (d0 : Dev nD) (v10 : BitVec 32) (k0_hw1 : k0_chk1 d0 v10) (k0_t43 : Fin (k0_t43_loop d0 v10).trips), ∀ a, (k0_off178 d0 v10 k0_t43) a + S1.size a ≤ S64.size a := fun d0 v10 k0_hw1 k0_t43 => k0_hw1.2.1.2.2.2.2.2.2.2.2.2.2.2.2.2.2.2.2.2.2.2.2.2.2.2.2.1 k0_t43
theorem k0_off180_inb : ∀ (d0 : Dev nD) (v10 : BitVec 32) (k0_hw1 : k0_chk1 d0 v10) (k0_t43 : Fin (k0_t43_loop d0 v10).trips), ∀ a, (k0_off180 d0 v10 k0_t43) a + S1x2048.size a ≤ S2560x2048.size a := fun d0 v10 k0_hw1 k0_t43 => k0_hw1.2.1.2.2.2.2.2.2.2.2.2.2.2.2.2.2.2.2.2.2.2.2.2.2.2.2.2.1 k0_t43
theorem k0_t44_ok : ∀ (d0 : Dev nD) (v10 : BitVec 32) (k0_hw1 : k0_chk1 d0 v10), (k0_t44_loop d0 v10).OK := fun d0 v10 k0_hw1 => k0_hw1.2.1.2.2.2.2.2.2.2.2.2.2.2.2.2.2.2.2.2.2.2.2.2.2.2.2.2.2.1
theorem k0_off181_inb : ∀ (d0 : Dev nD) (v10 : BitVec 32) (k0_hw1 : k0_chk1 d0 v10) (k0_t44 : Fin (k0_t44_loop d0 v10).trips), ∀ a, (k0_off181 d0 v10 k0_t44) a + S1.size a ≤ S4096.size a := fun d0 v10 k0_hw1 k0_t44 => k0_hw1.2.1.2.2.2.2.2.2.2.2.2.2.2.2.2.2.2.2.2.2.2.2.2.2.2.2.2.2.2.1 k0_t44
theorem k0_off182_inb : ∀ (d0 : Dev nD) (v10 : BitVec 32) (k0_hw1 : k0_chk1 d0 v10) (k0_t44 : Fin (k0_t44_loop d0 v10).trips), ∀ a, (k0_off182 d0 v10 k0_t44) a + S1.size a ≤ S64.size a := fun d0 v10 k0_hw1 k0_t44 => k0_hw1.2.1.2.2.2.2.2.2.2.2.2.2.2.2.2.2.2.2.2.2.2.2.2.2.2.2.2.2.2.2.1 k0_t44
theorem k0_off184_inb : ∀ (d0 : Dev nD) (v10 : BitVec 32) (k0_hw1 : k0_chk1 d0 v10) (k0_t44 : Fin (k0_t44_loop d0 v10).trips), ∀ a, (k0_off184 d0 v10 k0_t44) a + S1x2048.size a ≤ S2560x2048.size a := fun d0 v10 k0_hw1 k0_t44 => k0_hw1.2.1.2.2.2.2.2.2.2.2.2.2.2.2.2.2.2.2.2.2.2.2.2.2.2.2.2.2.2.2.2.1 k0_t44
theorem k0_t45_ok : ∀ (d0 : Dev nD) (v10 : BitVec 32) (k0_hw1 : k0_chk1 d0 v10), ∀ (k0_h23 : k0_cond23 d0 v10 = 1#1), (k0_t45_loop d0 v10).OK := fun d0 v10 k0_hw1 k0_h23 => k0_hw1.2.1.2.2.2.2.2.2.2.2.2.2.2.2.2.2.2.2.2.2.2.2.2.2.2.2.2.2.2.2.2.2.1 k0_h23
theorem k0_off185_inb : ∀ (d0 : Dev nD) (v10 : BitVec 32) (k0_hw1 : k0_chk1 d0 v10) (k0_t45 : Fin (k0_t45_loop d0 v10).trips), ∀ (k0_h23 : k0_cond23 d0 v10 = 1#1), ∀ (k0_h24 : k0_cond24 d0 v10 k0_t45 = 1#1), ∀ a, (k0_off185 d0 v10 k0_t45) a + S1.size a ≤ S4096.size a := fun d0 v10 k0_hw1 k0_t45 k0_h23 k0_h24 => k0_hw1.2.1.2.2.2.2.2.2.2.2.2.2.2.2.2.2.2.2.2.2.2.2.2.2.2.2.2.2.2.2.2.2.2 k0_t45 k0_h23 k0_h24
theorem k0_off186_inb : ∀ (d0 : Dev nD) (v10 : BitVec 32) (k0_hw1 : k0_chk1 d0 v10) (k0_t45 : Fin (k0_t45_loop d0 v10).trips), ∀ (k0_h23 : k0_cond23 d0 v10 = 1#1), ∀ (k0_h24 : k0_cond24 d0 v10 k0_t45 = 1#1), ∀ a, (k0_off186 d0 v10 k0_t45) a + S1.size a ≤ S64.size a := fun d0 v10 k0_hw1 k0_t45 k0_h23 k0_h24 => k0_hw1.2.2.1.1 k0_t45 k0_h23 k0_h24
theorem k0_off188_inb : ∀ (d0 : Dev nD) (v10 : BitVec 32) (k0_hw1 : k0_chk1 d0 v10) (k0_t45 : Fin (k0_t45_loop d0 v10).trips), ∀ (k0_h23 : k0_cond23 d0 v10 = 1#1), ∀ (k0_h24 : k0_cond24 d0 v10 k0_t45 = 1#1), ∀ a, (k0_off188 d0 v10 k0_t45) a + S1x2048.size a ≤ S2560x2048.size a := fun d0 v10 k0_hw1 k0_t45 k0_h23 k0_h24 => k0_hw1.2.2.1.2.1 k0_t45 k0_h23 k0_h24
theorem k0_off189_inb : ∀ (d0 : Dev nD) (v10 : BitVec 32) (k0_hw1 : k0_chk1 d0 v10) (k0_t45 : Fin (k0_t45_loop d0 v10).trips), ∀ (k0_h23 : k0_cond23 d0 v10 = 1#1), ∀ a, (k0_off189 d0 v10 k0_t45) a + S1.size a ≤ S4096.size a := fun d0 v10 k0_hw1 k0_t45 k0_h23 => k0_hw1.2.2.1.2.2.1 k0_t45 k0_h23
theorem k0_off190_inb : ∀ (d0 : Dev nD) (v10 : BitVec 32) (k0_hw1 : k0_chk1 d0 v10) (k0_t45 : Fin (k0_t45_loop d0 v10).trips), ∀ (k0_h23 : k0_cond23 d0 v10 = 1#1), ∀ a, (k0_off190 d0 v10 k0_t45) a + S1.size a ≤ S64.size a := fun d0 v10 k0_hw1 k0_t45 k0_h23 => k0_hw1.2.2.1.2.2.2.1 k0_t45 k0_h23
theorem k0_off192_inb : ∀ (d0 : Dev nD) (v10 : BitVec 32) (k0_hw1 : k0_chk1 d0 v10) (k0_t45 : Fin (k0_t45_loop d0 v10).trips), ∀ (k0_h23 : k0_cond23 d0 v10 = 1#1), ∀ a, (k0_off192 d0 v10 k0_t45) a + S1x2048.size a ≤ S2560x2048.size a := fun d0 v10 k0_hw1 k0_t45 k0_h23 => k0_hw1.2.2.1.2.2.2.2.1 k0_t45 k0_h23
theorem k0_t46_ok : ∀ (d0 : Dev nD) (v10 : BitVec 32) (k0_hw1 : k0_chk1 d0 v10), ∀ (k0_h23 : k0_cond23 d0 v10 = 1#1), (k0_t46_loop d0 v10).OK := fun d0 v10 k0_hw1 k0_h23 => k0_hw1.2.2.1.2.2.2.2.2.1 k0_h23
theorem k0_off193_inb : ∀ (d0 : Dev nD) (v10 : BitVec 32) (k0_hw1 : k0_chk1 d0 v10) (k0_t46 : Fin (k0_t46_loop d0 v10).trips), ∀ (k0_h23 : k0_cond23 d0 v10 = 1#1), ∀ (k0_h25 : k0_cond25 d0 v10 k0_t46 = 1#1), ∀ a, (k0_off193 d0 v10 k0_t46) a + S1.size a ≤ S4096.size a := fun d0 v10 k0_hw1 k0_t46 k0_h23 k0_h25 => k0_hw1.2.2.1.2.2.2.2.2.2.1 k0_t46 k0_h23 k0_h25
theorem k0_off194_inb : ∀ (d0 : Dev nD) (v10 : BitVec 32) (k0_hw1 : k0_chk1 d0 v10) (k0_t46 : Fin (k0_t46_loop d0 v10).trips), ∀ (k0_h23 : k0_cond23 d0 v10 = 1#1), ∀ (k0_h25 : k0_cond25 d0 v10 k0_t46 = 1#1), ∀ a, (k0_off194 d0 v10 k0_t46) a + S1.size a ≤ S64.size a := fun d0 v10 k0_hw1 k0_t46 k0_h23 k0_h25 => k0_hw1.2.2.1.2.2.2.2.2.2.2.1 k0_t46 k0_h23 k0_h25
theorem k0_off196_inb : ∀ (d0 : Dev nD) (v10 : BitVec 32) (k0_hw1 : k0_chk1 d0 v10) (k0_t46 : Fin (k0_t46_loop d0 v10).trips), ∀ (k0_h23 : k0_cond23 d0 v10 = 1#1), ∀ (k0_h25 : k0_cond25 d0 v10 k0_t46 = 1#1), ∀ a, (k0_off196 d0 v10 k0_t46) a + S1x2048.size a ≤ S2560x2048.size a := fun d0 v10 k0_hw1 k0_t46 k0_h23 k0_h25 => k0_hw1.2.2.1.2.2.2.2.2.2.2.2.1 k0_t46 k0_h23 k0_h25
theorem k0_off197_inb : ∀ (d0 : Dev nD) (v10 : BitVec 32) (k0_hw1 : k0_chk1 d0 v10) (k0_t46 : Fin (k0_t46_loop d0 v10).trips), ∀ (k0_h23 : k0_cond23 d0 v10 = 1#1), ∀ a, (k0_off197 d0 v10 k0_t46) a + S1.size a ≤ S4096.size a := fun d0 v10 k0_hw1 k0_t46 k0_h23 => k0_hw1.2.2.1.2.2.2.2.2.2.2.2.2.1 k0_t46 k0_h23
theorem k0_off198_inb : ∀ (d0 : Dev nD) (v10 : BitVec 32) (k0_hw1 : k0_chk1 d0 v10) (k0_t46 : Fin (k0_t46_loop d0 v10).trips), ∀ (k0_h23 : k0_cond23 d0 v10 = 1#1), ∀ a, (k0_off198 d0 v10 k0_t46) a + S1.size a ≤ S64.size a := fun d0 v10 k0_hw1 k0_t46 k0_h23 => k0_hw1.2.2.1.2.2.2.2.2.2.2.2.2.2.1 k0_t46 k0_h23
theorem k0_off200_inb : ∀ (d0 : Dev nD) (v10 : BitVec 32) (k0_hw1 : k0_chk1 d0 v10) (k0_t46 : Fin (k0_t46_loop d0 v10).trips), ∀ (k0_h23 : k0_cond23 d0 v10 = 1#1), ∀ a, (k0_off200 d0 v10 k0_t46) a + S1x2048.size a ≤ S2560x2048.size a := fun d0 v10 k0_hw1 k0_t46 k0_h23 => k0_hw1.2.2.1.2.2.2.2.2.2.2.2.2.2.2.1 k0_t46 k0_h23
theorem k0_t47_ok : ∀ (d0 : Dev nD) (v10 : BitVec 32) (k0_hw1 : k0_chk1 d0 v10), ∀ (k0_h26 : k0_cond26 d0 v10 = 1#1), (k0_t47_loop d0 v10).OK := fun d0 v10 k0_hw1 k0_h26 => k0_hw1.2.2.1.2.2.2.2.2.2.2.2.2.2.2.2.1 k0_h26
theorem k0_off201_inb : ∀ (d0 : Dev nD) (v10 : BitVec 32) (k0_hw1 : k0_chk1 d0 v10) (k0_t47 : Fin (k0_t47_loop d0 v10).trips), ∀ (k0_h26 : k0_cond26 d0 v10 = 1#1), ∀ (k0_h27 : k0_cond27 d0 v10 k0_t47 = 1#1), ∀ a, (k0_off201 d0 v10 k0_t47) a + S1.size a ≤ S4096.size a := fun d0 v10 k0_hw1 k0_t47 k0_h26 k0_h27 => k0_hw1.2.2.1.2.2.2.2.2.2.2.2.2.2.2.2.2.1 k0_t47 k0_h26 k0_h27
theorem k0_off202_inb : ∀ (d0 : Dev nD) (v10 : BitVec 32) (k0_hw1 : k0_chk1 d0 v10) (k0_t47 : Fin (k0_t47_loop d0 v10).trips), ∀ (k0_h26 : k0_cond26 d0 v10 = 1#1), ∀ (k0_h27 : k0_cond27 d0 v10 k0_t47 = 1#1), ∀ a, (k0_off202 d0 v10 k0_t47) a + S1.size a ≤ S64.size a := fun d0 v10 k0_hw1 k0_t47 k0_h26 k0_h27 => k0_hw1.2.2.1.2.2.2.2.2.2.2.2.2.2.2.2.2.2.1 k0_t47 k0_h26 k0_h27
theorem k0_off204_inb : ∀ (d0 : Dev nD) (v10 : BitVec 32) (k0_hw1 : k0_chk1 d0 v10) (k0_t47 : Fin (k0_t47_loop d0 v10).trips), ∀ (k0_h26 : k0_cond26 d0 v10 = 1#1), ∀ (k0_h27 : k0_cond27 d0 v10 k0_t47 = 1#1), ∀ a, (k0_off204 d0 v10 k0_t47) a + S1x2048.size a ≤ S2560x2048.size a := fun d0 v10 k0_hw1 k0_t47 k0_h26 k0_h27 => k0_hw1.2.2.1.2.2.2.2.2.2.2.2.2.2.2.2.2.2.2.1 k0_t47 k0_h26 k0_h27
theorem k0_off205_inb : ∀ (d0 : Dev nD) (v10 : BitVec 32) (k0_hw1 : k0_chk1 d0 v10) (k0_t47 : Fin (k0_t47_loop d0 v10).trips), ∀ (k0_h26 : k0_cond26 d0 v10 = 1#1), ∀ a, (k0_off205 d0 v10 k0_t47) a + S1.size a ≤ S4096.size a := fun d0 v10 k0_hw1 k0_t47 k0_h26 => k0_hw1.2.2.1.2.2.2.2.2.2.2.2.2.2.2.2.2.2.2.2.1 k0_t47 k0_h26
theorem k0_off206_inb : ∀ (d0 : Dev nD) (v10 : BitVec 32) (k0_hw1 : k0_chk1 d0 v10) (k0_t47 : Fin (k0_t47_loop d0 v10).trips), ∀ (k0_h26 : k0_cond26 d0 v10 = 1#1), ∀ a, (k0_off206 d0 v10 k0_t47) a + S1.size a ≤ S64.size a := fun d0 v10 k0_hw1 k0_t47 k0_h26 => k0_hw1.2.2.1.2.2.2.2.2.2.2.2.2.2.2.2.2.2.2.2.2.1 k0_t47 k0_h26
theorem k0_off208_inb : ∀ (d0 : Dev nD) (v10 : BitVec 32) (k0_hw1 : k0_chk1 d0 v10) (k0_t47 : Fin (k0_t47_loop d0 v10).trips), ∀ (k0_h26 : k0_cond26 d0 v10 = 1#1), ∀ a, (k0_off208 d0 v10 k0_t47) a + S1x2048.size a ≤ S2560x2048.size a := fun d0 v10 k0_hw1 k0_t47 k0_h26 => k0_hw1.2.2.1.2.2.2.2.2.2.2.2.2.2.2.2.2.2.2.2.2.2.1 k0_t47 k0_h26
theorem k0_t48_ok : ∀ (d0 : Dev nD) (v10 : BitVec 32) (k0_hw1 : k0_chk1 d0 v10), ∀ (k0_h26 : k0_cond26 d0 v10 = 1#1), (k0_t48_loop d0 v10).OK := fun d0 v10 k0_hw1 k0_h26 => k0_hw1.2.2.1.2.2.2.2.2.2.2.2.2.2.2.2.2.2.2.2.2.2.2.1 k0_h26
theorem k0_off209_inb : ∀ (d0 : Dev nD) (v10 : BitVec 32) (k0_hw1 : k0_chk1 d0 v10) (k0_t48 : Fin (k0_t48_loop d0 v10).trips), ∀ (k0_h26 : k0_cond26 d0 v10 = 1#1), ∀ (k0_h28 : k0_cond28 d0 v10 k0_t48 = 1#1), ∀ a, (k0_off209 d0 v10 k0_t48) a + S1.size a ≤ S4096.size a := fun d0 v10 k0_hw1 k0_t48 k0_h26 k0_h28 => k0_hw1.2.2.1.2.2.2.2.2.2.2.2.2.2.2.2.2.2.2.2.2.2.2.2.1 k0_t48 k0_h26 k0_h28
theorem k0_off210_inb : ∀ (d0 : Dev nD) (v10 : BitVec 32) (k0_hw1 : k0_chk1 d0 v10) (k0_t48 : Fin (k0_t48_loop d0 v10).trips), ∀ (k0_h26 : k0_cond26 d0 v10 = 1#1), ∀ (k0_h28 : k0_cond28 d0 v10 k0_t48 = 1#1), ∀ a, (k0_off210 d0 v10 k0_t48) a + S1.size a ≤ S64.size a := fun d0 v10 k0_hw1 k0_t48 k0_h26 k0_h28 => k0_hw1.2.2.1.2.2.2.2.2.2.2.2.2.2.2.2.2.2.2.2.2.2.2.2.2.1 k0_t48 k0_h26 k0_h28
theorem k0_off212_inb : ∀ (d0 : Dev nD) (v10 : BitVec 32) (k0_hw1 : k0_chk1 d0 v10) (k0_t48 : Fin (k0_t48_loop d0 v10).trips), ∀ (k0_h26 : k0_cond26 d0 v10 = 1#1), ∀ (k0_h28 : k0_cond28 d0 v10 k0_t48 = 1#1), ∀ a, (k0_off212 d0 v10 k0_t48) a + S1x2048.size a ≤ S2560x2048.size a := fun d0 v10 k0_hw1 k0_t48 k0_h26 k0_h28 => k0_hw1.2.2.1.2.2.2.2.2.2.2.2.2.2.2.2.2.2.2.2.2.2.2.2.2.2.1 k0_t48 k0_h26 k0_h28
theorem k0_off213_inb : ∀ (d0 : Dev nD) (v10 : BitVec 32) (k0_hw1 : k0_chk1 d0 v10) (k0_t48 : Fin (k0_t48_loop d0 v10).trips), ∀ (k0_h26 : k0_cond26 d0 v10 = 1#1), ∀ a, (k0_off213 d0 v10 k0_t48) a + S1.size a ≤ S4096.size a := fun d0 v10 k0_hw1 k0_t48 k0_h26 => k0_hw1.2.2.1.2.2.2.2.2.2.2.2.2.2.2.2.2.2.2.2.2.2.2.2.2.2.2.1 k0_t48 k0_h26
theorem k0_off214_inb : ∀ (d0 : Dev nD) (v10 : BitVec 32) (k0_hw1 : k0_chk1 d0 v10) (k0_t48 : Fin (k0_t48_loop d0 v10).trips), ∀ (k0_h26 : k0_cond26 d0 v10 = 1#1), ∀ a, (k0_off214 d0 v10 k0_t48) a + S1.size a ≤ S64.size a := fun d0 v10 k0_hw1 k0_t48 k0_h26 => k0_hw1.2.2.1.2.2.2.2.2.2.2.2.2.2.2.2.2.2.2.2.2.2.2.2.2.2.2.2.1 k0_t48 k0_h26
theorem k0_off216_inb : ∀ (d0 : Dev nD) (v10 : BitVec 32) (k0_hw1 : k0_chk1 d0 v10) (k0_t48 : Fin (k0_t48_loop d0 v10).trips), ∀ (k0_h26 : k0_cond26 d0 v10 = 1#1), ∀ a, (k0_off216 d0 v10 k0_t48) a + S1x2048.size a ≤ S2560x2048.size a := fun d0 v10 k0_hw1 k0_t48 k0_h26 => k0_hw1.2.2.1.2.2.2.2.2.2.2.2.2.2.2.2.2.2.2.2.2.2.2.2.2.2.2.2.2.1 k0_t48 k0_h26
theorem k0_t49_ok : ∀ (d0 : Dev nD) (v10 : BitVec 32) (k0_hw1 : k0_chk1 d0 v10), ∀ (k0_h29 : k0_cond29 d0 v10 = 1#1), (k0_t49_loop d0 v10).OK := fun d0 v10 k0_hw1 k0_h29 => k0_hw1.2.2.1.2.2.2.2.2.2.2.2.2.2.2.2.2.2.2.2.2.2.2.2.2.2.2.2.2.2.1 k0_h29
theorem k0_off217_inb : ∀ (d0 : Dev nD) (v10 : BitVec 32) (k0_hw1 : k0_chk1 d0 v10) (k0_t49 : Fin (k0_t49_loop d0 v10).trips), ∀ (k0_h29 : k0_cond29 d0 v10 = 1#1), ∀ (k0_h30 : k0_cond30 d0 v10 k0_t49 = 1#1), ∀ a, (k0_off217 d0 v10 k0_t49) a + S1.size a ≤ S4096.size a := fun d0 v10 k0_hw1 k0_t49 k0_h29 k0_h30 => k0_hw1.2.2.1.2.2.2.2.2.2.2.2.2.2.2.2.2.2.2.2.2.2.2.2.2.2.2.2.2.2.2.1 k0_t49 k0_h29 k0_h30
theorem k0_off218_inb : ∀ (d0 : Dev nD) (v10 : BitVec 32) (k0_hw1 : k0_chk1 d0 v10) (k0_t49 : Fin (k0_t49_loop d0 v10).trips), ∀ (k0_h29 : k0_cond29 d0 v10 = 1#1), ∀ (k0_h30 : k0_cond30 d0 v10 k0_t49 = 1#1), ∀ a, (k0_off218 d0 v10 k0_t49) a + S1.size a ≤ S64.size a := fun d0 v10 k0_hw1 k0_t49 k0_h29 k0_h30 => k0_hw1.2.2.1.2.2.2.2.2.2.2.2.2.2.2.2.2.2.2.2.2.2.2.2.2.2.2.2.2.2.2.2.1 k0_t49 k0_h29 k0_h30
theorem k0_off220_inb : ∀ (d0 : Dev nD) (v10 : BitVec 32) (k0_hw1 : k0_chk1 d0 v10) (k0_t49 : Fin (k0_t49_loop d0 v10).trips), ∀ (k0_h29 : k0_cond29 d0 v10 = 1#1), ∀ (k0_h30 : k0_cond30 d0 v10 k0_t49 = 1#1), ∀ a, (k0_off220 d0 v10 k0_t49) a + S1x2048.size a ≤ S2560x2048.size a := fun d0 v10 k0_hw1 k0_t49 k0_h29 k0_h30 => k0_hw1.2.2.1.2.2.2.2.2.2.2.2.2.2.2.2.2.2.2.2.2.2.2.2.2.2.2.2.2.2.2.2.2.1 k0_t49 k0_h29 k0_h30
theorem k0_off221_inb : ∀ (d0 : Dev nD) (v10 : BitVec 32) (k0_hw1 : k0_chk1 d0 v10) (k0_t49 : Fin (k0_t49_loop d0 v10).trips), ∀ (k0_h29 : k0_cond29 d0 v10 = 1#1), ∀ a, (k0_off221 d0 v10 k0_t49) a + S1.size a ≤ S4096.size a := fun d0 v10 k0_hw1 k0_t49 k0_h29 => k0_hw1.2.2.1.2.2.2.2.2.2.2.2.2.2.2.2.2.2.2.2.2.2.2.2.2.2.2.2.2.2.2.2.2.2.1 k0_t49 k0_h29
theorem k0_off222_inb : ∀ (d0 : Dev nD) (v10 : BitVec 32) (k0_hw1 : k0_chk1 d0 v10) (k0_t49 : Fin (k0_t49_loop d0 v10).trips), ∀ (k0_h29 : k0_cond29 d0 v10 = 1#1), ∀ a, (k0_off222 d0 v10 k0_t49) a + S1.size a ≤ S64.size a := fun d0 v10 k0_hw1 k0_t49 k0_h29 => k0_hw1.2.2.1.2.2.2.2.2.2.2.2.2.2.2.2.2.2.2.2.2.2.2.2.2.2.2.2.2.2.2.2.2.2.2 k0_t49 k0_h29
theorem k0_off224_inb : ∀ (d0 : Dev nD) (v10 : BitVec 32) (k0_hw1 : k0_chk1 d0 v10) (k0_t49 : Fin (k0_t49_loop d0 v10).trips), ∀ (k0_h29 : k0_cond29 d0 v10 = 1#1), ∀ a, (k0_off224 d0 v10 k0_t49) a + S1x2048.size a ≤ S2560x2048.size a := fun d0 v10 k0_hw1 k0_t49 k0_h29 => k0_hw1.2.2.2.1.1 k0_t49 k0_h29
theorem k0_t50_ok : ∀ (d0 : Dev nD) (v10 : BitVec 32) (k0_hw1 : k0_chk1 d0 v10), ∀ (k0_h29 : k0_cond29 d0 v10 = 1#1), (k0_t50_loop d0 v10).OK := fun d0 v10 k0_hw1 k0_h29 => k0_hw1.2.2.2.1.2.1 k0_h29
theorem k0_off225_inb : ∀ (d0 : Dev nD) (v10 : BitVec 32) (k0_hw1 : k0_chk1 d0 v10) (k0_t50 : Fin (k0_t50_loop d0 v10).trips), ∀ (k0_h29 : k0_cond29 d0 v10 = 1#1), ∀ (k0_h31 : k0_cond31 d0 v10 k0_t50 = 1#1), ∀ a, (k0_off225 d0 v10 k0_t50) a + S1.size a ≤ S4096.size a := fun d0 v10 k0_hw1 k0_t50 k0_h29 k0_h31 => k0_hw1.2.2.2.1.2.2.1 k0_t50 k0_h29 k0_h31
theorem k0_off226_inb : ∀ (d0 : Dev nD) (v10 : BitVec 32) (k0_hw1 : k0_chk1 d0 v10) (k0_t50 : Fin (k0_t50_loop d0 v10).trips), ∀ (k0_h29 : k0_cond29 d0 v10 = 1#1), ∀ (k0_h31 : k0_cond31 d0 v10 k0_t50 = 1#1), ∀ a, (k0_off226 d0 v10 k0_t50) a + S1.size a ≤ S64.size a := fun d0 v10 k0_hw1 k0_t50 k0_h29 k0_h31 => k0_hw1.2.2.2.1.2.2.2.1 k0_t50 k0_h29 k0_h31
theorem k0_off228_inb : ∀ (d0 : Dev nD) (v10 : BitVec 32) (k0_hw1 : k0_chk1 d0 v10) (k0_t50 : Fin (k0_t50_loop d0 v10).trips), ∀ (k0_h29 : k0_cond29 d0 v10 = 1#1), ∀ (k0_h31 : k0_cond31 d0 v10 k0_t50 = 1#1), ∀ a, (k0_off228 d0 v10 k0_t50) a + S1x2048.size a ≤ S2560x2048.size a := fun d0 v10 k0_hw1 k0_t50 k0_h29 k0_h31 => k0_hw1.2.2.2.1.2.2.2.2.1 k0_t50 k0_h29 k0_h31
theorem k0_off229_inb : ∀ (d0 : Dev nD) (v10 : BitVec 32) (k0_hw1 : k0_chk1 d0 v10) (k0_t50 : Fin (k0_t50_loop d0 v10).trips), ∀ (k0_h29 : k0_cond29 d0 v10 = 1#1), ∀ a, (k0_off229 d0 v10 k0_t50) a + S1.size a ≤ S4096.size a := fun d0 v10 k0_hw1 k0_t50 k0_h29 => k0_hw1.2.2.2.1.2.2.2.2.2.1 k0_t50 k0_h29
theorem k0_off230_inb : ∀ (d0 : Dev nD) (v10 : BitVec 32) (k0_hw1 : k0_chk1 d0 v10) (k0_t50 : Fin (k0_t50_loop d0 v10).trips), ∀ (k0_h29 : k0_cond29 d0 v10 = 1#1), ∀ a, (k0_off230 d0 v10 k0_t50) a + S1.size a ≤ S64.size a := fun d0 v10 k0_hw1 k0_t50 k0_h29 => k0_hw1.2.2.2.1.2.2.2.2.2.2.1 k0_t50 k0_h29
theorem k0_off232_inb : ∀ (d0 : Dev nD) (v10 : BitVec 32) (k0_hw1 : k0_chk1 d0 v10) (k0_t50 : Fin (k0_t50_loop d0 v10).trips), ∀ (k0_h29 : k0_cond29 d0 v10 = 1#1), ∀ a, (k0_off232 d0 v10 k0_t50) a + S1x2048.size a ≤ S2560x2048.size a := fun d0 v10 k0_hw1 k0_t50 k0_h29 => k0_hw1.2.2.2.1.2.2.2.2.2.2.2.1 k0_t50 k0_h29
theorem k0_t51_ok : ∀ (d0 : Dev nD) (v10 : BitVec 32) (k0_hw1 : k0_chk1 d0 v10), ∀ (k0_h32 : k0_cond32 d0 v10 = 1#1), (k0_t51_loop d0 v10).OK := fun d0 v10 k0_hw1 k0_h32 => k0_hw1.2.2.2.1.2.2.2.2.2.2.2.2.1 k0_h32
theorem k0_off233_inb : ∀ (d0 : Dev nD) (v10 : BitVec 32) (k0_hw1 : k0_chk1 d0 v10) (k0_t51 : Fin (k0_t51_loop d0 v10).trips), ∀ (k0_h32 : k0_cond32 d0 v10 = 1#1), ∀ (k0_h33 : k0_cond33 d0 v10 k0_t51 = 1#1), ∀ a, (k0_off233 d0 v10 k0_t51) a + S1.size a ≤ S4096.size a := fun d0 v10 k0_hw1 k0_t51 k0_h32 k0_h33 => k0_hw1.2.2.2.1.2.2.2.2.2.2.2.2.2.1 k0_t51 k0_h32 k0_h33
theorem k0_off234_inb : ∀ (d0 : Dev nD) (v10 : BitVec 32) (k0_hw1 : k0_chk1 d0 v10) (k0_t51 : Fin (k0_t51_loop d0 v10).trips), ∀ (k0_h32 : k0_cond32 d0 v10 = 1#1), ∀ (k0_h33 : k0_cond33 d0 v10 k0_t51 = 1#1), ∀ a, (k0_off234 d0 v10 k0_t51) a + S1.size a ≤ S64.size a := fun d0 v10 k0_hw1 k0_t51 k0_h32 k0_h33 => k0_hw1.2.2.2.1.2.2.2.2.2.2.2.2.2.2.1 k0_t51 k0_h32 k0_h33
theorem k0_off236_inb : ∀ (d0 : Dev nD) (v10 : BitVec 32) (k0_hw1 : k0_chk1 d0 v10) (k0_t51 : Fin (k0_t51_loop d0 v10).trips), ∀ (k0_h32 : k0_cond32 d0 v10 = 1#1), ∀ (k0_h33 : k0_cond33 d0 v10 k0_t51 = 1#1), ∀ a, (k0_off236 d0 v10 k0_t51) a + S1x2048.size a ≤ S2560x2048.size a := fun d0 v10 k0_hw1 k0_t51 k0_h32 k0_h33 => k0_hw1.2.2.2.1.2.2.2.2.2.2.2.2.2.2.2.1 k0_t51 k0_h32 k0_h33
theorem k0_off237_inb : ∀ (d0 : Dev nD) (v10 : BitVec 32) (k0_hw1 : k0_chk1 d0 v10) (k0_t51 : Fin (k0_t51_loop d0 v10).trips), ∀ (k0_h32 : k0_cond32 d0 v10 = 1#1), ∀ a, (k0_off237 d0 v10 k0_t51) a + S1.size a ≤ S4096.size a := fun d0 v10 k0_hw1 k0_t51 k0_h32 => k0_hw1.2.2.2.1.2.2.2.2.2.2.2.2.2.2.2.2.1 k0_t51 k0_h32
theorem k0_off238_inb : ∀ (d0 : Dev nD) (v10 : BitVec 32) (k0_hw1 : k0_chk1 d0 v10) (k0_t51 : Fin (k0_t51_loop d0 v10).trips), ∀ (k0_h32 : k0_cond32 d0 v10 = 1#1), ∀ a, (k0_off238 d0 v10 k0_t51) a + S1.size a ≤ S64.size a := fun d0 v10 k0_hw1 k0_t51 k0_h32 => k0_hw1.2.2.2.1.2.2.2.2.2.2.2.2.2.2.2.2.2.1 k0_t51 k0_h32
theorem k0_off240_inb : ∀ (d0 : Dev nD) (v10 : BitVec 32) (k0_hw1 : k0_chk1 d0 v10) (k0_t51 : Fin (k0_t51_loop d0 v10).trips), ∀ (k0_h32 : k0_cond32 d0 v10 = 1#1), ∀ a, (k0_off240 d0 v10 k0_t51) a + S1x2048.size a ≤ S2560x2048.size a := fun d0 v10 k0_hw1 k0_t51 k0_h32 => k0_hw1.2.2.2.1.2.2.2.2.2.2.2.2.2.2.2.2.2.2.1 k0_t51 k0_h32
theorem k0_t52_ok : ∀ (d0 : Dev nD) (v10 : BitVec 32) (k0_hw1 : k0_chk1 d0 v10), ∀ (k0_h32 : k0_cond32 d0 v10 = 1#1), (k0_t52_loop d0 v10).OK := fun d0 v10 k0_hw1 k0_h32 => k0_hw1.2.2.2.1.2.2.2.2.2.2.2.2.2.2.2.2.2.2.2.1 k0_h32
theorem k0_off241_inb : ∀ (d0 : Dev nD) (v10 : BitVec 32) (k0_hw1 : k0_chk1 d0 v10) (k0_t52 : Fin (k0_t52_loop d0 v10).trips), ∀ (k0_h32 : k0_cond32 d0 v10 = 1#1), ∀ (k0_h34 : k0_cond34 d0 v10 k0_t52 = 1#1), ∀ a, (k0_off241 d0 v10 k0_t52) a + S1.size a ≤ S4096.size a := fun d0 v10 k0_hw1 k0_t52 k0_h32 k0_h34 => k0_hw1.2.2.2.1.2.2.2.2.2.2.2.2.2.2.2.2.2.2.2.2.1 k0_t52 k0_h32 k0_h34
theorem k0_off242_inb : ∀ (d0 : Dev nD) (v10 : BitVec 32) (k0_hw1 : k0_chk1 d0 v10) (k0_t52 : Fin (k0_t52_loop d0 v10).trips), ∀ (k0_h32 : k0_cond32 d0 v10 = 1#1), ∀ (k0_h34 : k0_cond34 d0 v10 k0_t52 = 1#1), ∀ a, (k0_off242 d0 v10 k0_t52) a + S1.size a ≤ S64.size a := fun d0 v10 k0_hw1 k0_t52 k0_h32 k0_h34 => k0_hw1.2.2.2.1.2.2.2.2.2.2.2.2.2.2.2.2.2.2.2.2.2.1 k0_t52 k0_h32 k0_h34
theorem k0_off244_inb : ∀ (d0 : Dev nD) (v10 : BitVec 32) (k0_hw1 : k0_chk1 d0 v10) (k0_t52 : Fin (k0_t52_loop d0 v10).trips), ∀ (k0_h32 : k0_cond32 d0 v10 = 1#1), ∀ (k0_h34 : k0_cond34 d0 v10 k0_t52 = 1#1), ∀ a, (k0_off244 d0 v10 k0_t52) a + S1x2048.size a ≤ S2560x2048.size a := fun d0 v10 k0_hw1 k0_t52 k0_h32 k0_h34 => k0_hw1.2.2.2.1.2.2.2.2.2.2.2.2.2.2.2.2.2.2.2.2.2.2.1 k0_t52 k0_h32 k0_h34
theorem k0_off245_inb : ∀ (d0 : Dev nD) (v10 : BitVec 32) (k0_hw1 : k0_chk1 d0 v10) (k0_t52 : Fin (k0_t52_loop d0 v10).trips), ∀ (k0_h32 : k0_cond32 d0 v10 = 1#1), ∀ a, (k0_off245 d0 v10 k0_t52) a + S1.size a ≤ S4096.size a := fun d0 v10 k0_hw1 k0_t52 k0_h32 => k0_hw1.2.2.2.1.2.2.2.2.2.2.2.2.2.2.2.2.2.2.2.2.2.2.2.1 k0_t52 k0_h32
theorem k0_off246_inb : ∀ (d0 : Dev nD) (v10 : BitVec 32) (k0_hw1 : k0_chk1 d0 v10) (k0_t52 : Fin (k0_t52_loop d0 v10).trips), ∀ (k0_h32 : k0_cond32 d0 v10 = 1#1), ∀ a, (k0_off246 d0 v10 k0_t52) a + S1.size a ≤ S64.size a := fun d0 v10 k0_hw1 k0_t52 k0_h32 => k0_hw1.2.2.2.1.2.2.2.2.2.2.2.2.2.2.2.2.2.2.2.2.2.2.2.2.1 k0_t52 k0_h32
theorem k0_off248_inb : ∀ (d0 : Dev nD) (v10 : BitVec 32) (k0_hw1 : k0_chk1 d0 v10) (k0_t52 : Fin (k0_t52_loop d0 v10).trips), ∀ (k0_h32 : k0_cond32 d0 v10 = 1#1), ∀ a, (k0_off248 d0 v10 k0_t52) a + S1x2048.size a ≤ S2560x2048.size a := fun d0 v10 k0_hw1 k0_t52 k0_h32 => k0_hw1.2.2.2.1.2.2.2.2.2.2.2.2.2.2.2.2.2.2.2.2.2.2.2.2.2.1 k0_t52 k0_h32
theorem k0_t53_ok : ∀ (d0 : Dev nD) (v10 : BitVec 32) (k0_hw1 : k0_chk1 d0 v10), ∀ (k0_h35 : k0_cond35 d0 v10 = 1#1), (k0_t53_loop d0 v10).OK := fun d0 v10 k0_hw1 k0_h35 => k0_hw1.2.2.2.1.2.2.2.2.2.2.2.2.2.2.2.2.2.2.2.2.2.2.2.2.2.2.1 k0_h35
theorem k0_off249_inb : ∀ (d0 : Dev nD) (v10 : BitVec 32) (k0_hw1 : k0_chk1 d0 v10) (k0_t53 : Fin (k0_t53_loop d0 v10).trips), ∀ (k0_h35 : k0_cond35 d0 v10 = 1#1), ∀ (k0_h36 : k0_cond36 d0 v10 k0_t53 = 1#1), ∀ a, (k0_off249 d0 v10 k0_t53) a + S1.size a ≤ S4096.size a := fun d0 v10 k0_hw1 k0_t53 k0_h35 k0_h36 => k0_hw1.2.2.2.1.2.2.2.2.2.2.2.2.2.2.2.2.2.2.2.2.2.2.2.2.2.2.2.1 k0_t53 k0_h35 k0_h36
theorem k0_off250_inb : ∀ (d0 : Dev nD) (v10 : BitVec 32) (k0_hw1 : k0_chk1 d0 v10) (k0_t53 : Fin (k0_t53_loop d0 v10).trips), ∀ (k0_h35 : k0_cond35 d0 v10 = 1#1), ∀ (k0_h36 : k0_cond36 d0 v10 k0_t53 = 1#1), ∀ a, (k0_off250 d0 v10 k0_t53) a + S1.size a ≤ S64.size a := fun d0 v10 k0_hw1 k0_t53 k0_h35 k0_h36 => k0_hw1.2.2.2.1.2.2.2.2.2.2.2.2.2.2.2.2.2.2.2.2.2.2.2.2.2.2.2.2.1 k0_t53 k0_h35 k0_h36
theorem k0_off252_inb : ∀ (d0 : Dev nD) (v10 : BitVec 32) (k0_hw1 : k0_chk1 d0 v10) (k0_t53 : Fin (k0_t53_loop d0 v10).trips), ∀ (k0_h35 : k0_cond35 d0 v10 = 1#1), ∀ (k0_h36 : k0_cond36 d0 v10 k0_t53 = 1#1), ∀ a, (k0_off252 d0 v10 k0_t53) a + S1x2048.size a ≤ S2560x2048.size a := fun d0 v10 k0_hw1 k0_t53 k0_h35 k0_h36 => k0_hw1.2.2.2.1.2.2.2.2.2.2.2.2.2.2.2.2.2.2.2.2.2.2.2.2.2.2.2.2.2.1 k0_t53 k0_h35 k0_h36
theorem k0_off253_inb : ∀ (d0 : Dev nD) (v10 : BitVec 32) (k0_hw1 : k0_chk1 d0 v10) (k0_t53 : Fin (k0_t53_loop d0 v10).trips), ∀ (k0_h35 : k0_cond35 d0 v10 = 1#1), ∀ a, (k0_off253 d0 v10 k0_t53) a + S1.size a ≤ S4096.size a := fun d0 v10 k0_hw1 k0_t53 k0_h35 => k0_hw1.2.2.2.1.2.2.2.2.2.2.2.2.2.2.2.2.2.2.2.2.2.2.2.2.2.2.2.2.2.2.1 k0_t53 k0_h35
theorem k0_off254_inb : ∀ (d0 : Dev nD) (v10 : BitVec 32) (k0_hw1 : k0_chk1 d0 v10) (k0_t53 : Fin (k0_t53_loop d0 v10).trips), ∀ (k0_h35 : k0_cond35 d0 v10 = 1#1), ∀ a, (k0_off254 d0 v10 k0_t53) a + S1.size a ≤ S64.size a := fun d0 v10 k0_hw1 k0_t53 k0_h35 => k0_hw1.2.2.2.1.2.2.2.2.2.2.2.2.2.2.2.2.2.2.2.2.2.2.2.2.2.2.2.2.2.2.2.1 k0_t53 k0_h35
theorem k0_off256_inb : ∀ (d0 : Dev nD) (v10 : BitVec 32) (k0_hw1 : k0_chk1 d0 v10) (k0_t53 : Fin (k0_t53_loop d0 v10).trips), ∀ (k0_h35 : k0_cond35 d0 v10 = 1#1), ∀ a, (k0_off256 d0 v10 k0_t53) a + S1x2048.size a ≤ S2560x2048.size a := fun d0 v10 k0_hw1 k0_t53 k0_h35 => k0_hw1.2.2.2.1.2.2.2.2.2.2.2.2.2.2.2.2.2.2.2.2.2.2.2.2.2.2.2.2.2.2.2.2.1 k0_t53 k0_h35
theorem k0_t54_ok : ∀ (d0 : Dev nD) (v10 : BitVec 32) (k0_hw1 : k0_chk1 d0 v10), ∀ (k0_h35 : k0_cond35 d0 v10 = 1#1), (k0_t54_loop d0 v10).OK := fun d0 v10 k0_hw1 k0_h35 => k0_hw1.2.2.2.1.2.2.2.2.2.2.2.2.2.2.2.2.2.2.2.2.2.2.2.2.2.2.2.2.2.2.2.2.2.1 k0_h35
theorem k0_off257_inb : ∀ (d0 : Dev nD) (v10 : BitVec 32) (k0_hw1 : k0_chk1 d0 v10) (k0_t54 : Fin (k0_t54_loop d0 v10).trips), ∀ (k0_h35 : k0_cond35 d0 v10 = 1#1), ∀ (k0_h37 : k0_cond37 d0 v10 k0_t54 = 1#1), ∀ a, (k0_off257 d0 v10 k0_t54) a + S1.size a ≤ S4096.size a := fun d0 v10 k0_hw1 k0_t54 k0_h35 k0_h37 => k0_hw1.2.2.2.1.2.2.2.2.2.2.2.2.2.2.2.2.2.2.2.2.2.2.2.2.2.2.2.2.2.2.2.2.2.2.1 k0_t54 k0_h35 k0_h37
theorem k0_off258_inb : ∀ (d0 : Dev nD) (v10 : BitVec 32) (k0_hw1 : k0_chk1 d0 v10) (k0_t54 : Fin (k0_t54_loop d0 v10).trips), ∀ (k0_h35 : k0_cond35 d0 v10 = 1#1), ∀ (k0_h37 : k0_cond37 d0 v10 k0_t54 = 1#1), ∀ a, (k0_off258 d0 v10 k0_t54) a + S1.size a ≤ S64.size a := fun d0 v10 k0_hw1 k0_t54 k0_h35 k0_h37 => k0_hw1.2.2.2.1.2.2.2.2.2.2.2.2.2.2.2.2.2.2.2.2.2.2.2.2.2.2.2.2.2.2.2.2.2.2.2 k0_t54 k0_h35 k0_h37
theorem k0_off260_inb : ∀ (d0 : Dev nD) (v10 : BitVec 32) (k0_hw1 : k0_chk1 d0 v10) (k0_t54 : Fin (k0_t54_loop d0 v10).trips), ∀ (k0_h35 : k0_cond35 d0 v10 = 1#1), ∀ (k0_h37 : k0_cond37 d0 v10 k0_t54 = 1#1), ∀ a, (k0_off260 d0 v10 k0_t54) a + S1x2048.size a ≤ S2560x2048.size a := fun d0 v10 k0_hw1 k0_t54 k0_h35 k0_h37 => k0_hw1.2.2.2.2.1.1 k0_t54 k0_h35 k0_h37
theorem k0_off261_inb : ∀ (d0 : Dev nD) (v10 : BitVec 32) (k0_hw1 : k0_chk1 d0 v10) (k0_t54 : Fin (k0_t54_loop d0 v10).trips), ∀ (k0_h35 : k0_cond35 d0 v10 = 1#1), ∀ a, (k0_off261 d0 v10 k0_t54) a + S1.size a ≤ S4096.size a := fun d0 v10 k0_hw1 k0_t54 k0_h35 => k0_hw1.2.2.2.2.1.2.1 k0_t54 k0_h35
theorem k0_off262_inb : ∀ (d0 : Dev nD) (v10 : BitVec 32) (k0_hw1 : k0_chk1 d0 v10) (k0_t54 : Fin (k0_t54_loop d0 v10).trips), ∀ (k0_h35 : k0_cond35 d0 v10 = 1#1), ∀ a, (k0_off262 d0 v10 k0_t54) a + S1.size a ≤ S64.size a := fun d0 v10 k0_hw1 k0_t54 k0_h35 => k0_hw1.2.2.2.2.1.2.2.1 k0_t54 k0_h35
theorem k0_off264_inb : ∀ (d0 : Dev nD) (v10 : BitVec 32) (k0_hw1 : k0_chk1 d0 v10) (k0_t54 : Fin (k0_t54_loop d0 v10).trips), ∀ (k0_h35 : k0_cond35 d0 v10 = 1#1), ∀ a, (k0_off264 d0 v10 k0_t54) a + S1x2048.size a ≤ S2560x2048.size a := fun d0 v10 k0_hw1 k0_t54 k0_h35 => k0_hw1.2.2.2.2.1.2.2.2.1 k0_t54 k0_h35
theorem k0_t55_ok : ∀ (d0 : Dev nD) (v10 : BitVec 32) (k0_hw1 : k0_chk1 d0 v10), ∀ (k0_h38 : k0_cond38 d0 v10 = 1#1), (k0_t55_loop d0 v10).OK := fun d0 v10 k0_hw1 k0_h38 => k0_hw1.2.2.2.2.1.2.2.2.2.1 k0_h38
theorem k0_off265_inb : ∀ (d0 : Dev nD) (v10 : BitVec 32) (k0_hw1 : k0_chk1 d0 v10) (k0_t55 : Fin (k0_t55_loop d0 v10).trips), ∀ (k0_h38 : k0_cond38 d0 v10 = 1#1), ∀ (k0_h39 : k0_cond39 d0 v10 k0_t55 = 1#1), ∀ a, (k0_off265 d0 v10 k0_t55) a + S1.size a ≤ S4096.size a := fun d0 v10 k0_hw1 k0_t55 k0_h38 k0_h39 => k0_hw1.2.2.2.2.1.2.2.2.2.2.1 k0_t55 k0_h38 k0_h39
theorem k0_off266_inb : ∀ (d0 : Dev nD) (v10 : BitVec 32) (k0_hw1 : k0_chk1 d0 v10) (k0_t55 : Fin (k0_t55_loop d0 v10).trips), ∀ (k0_h38 : k0_cond38 d0 v10 = 1#1), ∀ (k0_h39 : k0_cond39 d0 v10 k0_t55 = 1#1), ∀ a, (k0_off266 d0 v10 k0_t55) a + S1.size a ≤ S64.size a := fun d0 v10 k0_hw1 k0_t55 k0_h38 k0_h39 => k0_hw1.2.2.2.2.1.2.2.2.2.2.2.1 k0_t55 k0_h38 k0_h39
theorem k0_off268_inb : ∀ (d0 : Dev nD) (v10 : BitVec 32) (k0_hw1 : k0_chk1 d0 v10) (k0_t55 : Fin (k0_t55_loop d0 v10).trips), ∀ (k0_h38 : k0_cond38 d0 v10 = 1#1), ∀ (k0_h39 : k0_cond39 d0 v10 k0_t55 = 1#1), ∀ a, (k0_off268 d0 v10 k0_t55) a + S1x2048.size a ≤ S2560x2048.size a := fun d0 v10 k0_hw1 k0_t55 k0_h38 k0_h39 => k0_hw1.2.2.2.2.1.2.2.2.2.2.2.2.1 k0_t55 k0_h38 k0_h39
theorem k0_off269_inb : ∀ (d0 : Dev nD) (v10 : BitVec 32) (k0_hw1 : k0_chk1 d0 v10) (k0_t55 : Fin (k0_t55_loop d0 v10).trips), ∀ (k0_h38 : k0_cond38 d0 v10 = 1#1), ∀ a, (k0_off269 d0 v10 k0_t55) a + S1.size a ≤ S4096.size a := fun d0 v10 k0_hw1 k0_t55 k0_h38 => k0_hw1.2.2.2.2.1.2.2.2.2.2.2.2.2.1 k0_t55 k0_h38
theorem k0_off270_inb : ∀ (d0 : Dev nD) (v10 : BitVec 32) (k0_hw1 : k0_chk1 d0 v10) (k0_t55 : Fin (k0_t55_loop d0 v10).trips), ∀ (k0_h38 : k0_cond38 d0 v10 = 1#1), ∀ a, (k0_off270 d0 v10 k0_t55) a + S1.size a ≤ S64.size a := fun d0 v10 k0_hw1 k0_t55 k0_h38 => k0_hw1.2.2.2.2.1.2.2.2.2.2.2.2.2.2.1 k0_t55 k0_h38
theorem k0_off272_inb : ∀ (d0 : Dev nD) (v10 : BitVec 32) (k0_hw1 : k0_chk1 d0 v10) (k0_t55 : Fin (k0_t55_loop d0 v10).trips), ∀ (k0_h38 : k0_cond38 d0 v10 = 1#1), ∀ a, (k0_off272 d0 v10 k0_t55) a + S1x2048.size a ≤ S2560x2048.size a := fun d0 v10 k0_hw1 k0_t55 k0_h38 => k0_hw1.2.2.2.2.1.2.2.2.2.2.2.2.2.2.2.1 k0_t55 k0_h38
theorem k0_t56_ok : ∀ (d0 : Dev nD) (v10 : BitVec 32) (k0_hw1 : k0_chk1 d0 v10), ∀ (k0_h38 : k0_cond38 d0 v10 = 1#1), (k0_t56_loop d0 v10).OK := fun d0 v10 k0_hw1 k0_h38 => k0_hw1.2.2.2.2.1.2.2.2.2.2.2.2.2.2.2.2.1 k0_h38
theorem k0_off273_inb : ∀ (d0 : Dev nD) (v10 : BitVec 32) (k0_hw1 : k0_chk1 d0 v10) (k0_t56 : Fin (k0_t56_loop d0 v10).trips), ∀ (k0_h38 : k0_cond38 d0 v10 = 1#1), ∀ (k0_h40 : k0_cond40 d0 v10 k0_t56 = 1#1), ∀ a, (k0_off273 d0 v10 k0_t56) a + S1.size a ≤ S4096.size a := fun d0 v10 k0_hw1 k0_t56 k0_h38 k0_h40 => k0_hw1.2.2.2.2.1.2.2.2.2.2.2.2.2.2.2.2.2.1 k0_t56 k0_h38 k0_h40
theorem k0_off274_inb : ∀ (d0 : Dev nD) (v10 : BitVec 32) (k0_hw1 : k0_chk1 d0 v10) (k0_t56 : Fin (k0_t56_loop d0 v10).trips), ∀ (k0_h38 : k0_cond38 d0 v10 = 1#1), ∀ (k0_h40 : k0_cond40 d0 v10 k0_t56 = 1#1), ∀ a, (k0_off274 d0 v10 k0_t56) a + S1.size a ≤ S64.size a := fun d0 v10 k0_hw1 k0_t56 k0_h38 k0_h40 => k0_hw1.2.2.2.2.1.2.2.2.2.2.2.2.2.2.2.2.2.2.1 k0_t56 k0_h38 k0_h40
theorem k0_off276_inb : ∀ (d0 : Dev nD) (v10 : BitVec 32) (k0_hw1 : k0_chk1 d0 v10) (k0_t56 : Fin (k0_t56_loop d0 v10).trips), ∀ (k0_h38 : k0_cond38 d0 v10 = 1#1), ∀ (k0_h40 : k0_cond40 d0 v10 k0_t56 = 1#1), ∀ a, (k0_off276 d0 v10 k0_t56) a + S1x2048.size a ≤ S2560x2048.size a := fun d0 v10 k0_hw1 k0_t56 k0_h38 k0_h40 => k0_hw1.2.2.2.2.1.2.2.2.2.2.2.2.2.2.2.2.2.2.2.1 k0_t56 k0_h38 k0_h40
theorem k0_off277_inb : ∀ (d0 : Dev nD) (v10 : BitVec 32) (k0_hw1 : k0_chk1 d0 v10) (k0_t56 : Fin (k0_t56_loop d0 v10).trips), ∀ (k0_h38 : k0_cond38 d0 v10 = 1#1), ∀ a, (k0_off277 d0 v10 k0_t56) a + S1.size a ≤ S4096.size a := fun d0 v10 k0_hw1 k0_t56 k0_h38 => k0_hw1.2.2.2.2.1.2.2.2.2.2.2.2.2.2.2.2.2.2.2.2.1 k0_t56 k0_h38
theorem k0_off278_inb : ∀ (d0 : Dev nD) (v10 : BitVec 32) (k0_hw1 : k0_chk1 d0 v10) (k0_t56 : Fin (k0_t56_loop d0 v10).trips), ∀ (k0_h38 : k0_cond38 d0 v10 = 1#1), ∀ a, (k0_off278 d0 v10 k0_t56) a + S1.size a ≤ S64.size a := fun d0 v10 k0_hw1 k0_t56 k0_h38 => k0_hw1.2.2.2.2.1.2.2.2.2.2.2.2.2.2.2.2.2.2.2.2.2.1 k0_t56 k0_h38
theorem k0_off280_inb : ∀ (d0 : Dev nD) (v10 : BitVec 32) (k0_hw1 : k0_chk1 d0 v10) (k0_t56 : Fin (k0_t56_loop d0 v10).trips), ∀ (k0_h38 : k0_cond38 d0 v10 = 1#1), ∀ a, (k0_off280 d0 v10 k0_t56) a + S1x2048.size a ≤ S2560x2048.size a := fun d0 v10 k0_hw1 k0_t56 k0_h38 => k0_hw1.2.2.2.2.1.2.2.2.2.2.2.2.2.2.2.2.2.2.2.2.2.2.1 k0_t56 k0_h38
theorem k0_t57_ok : ∀ (d0 : Dev nD) (v10 : BitVec 32) (k0_hw1 : k0_chk1 d0 v10), ∀ (k0_h41 : k0_cond41 d0 v10 = 1#1), (k0_t57_loop d0 v10).OK := fun d0 v10 k0_hw1 k0_h41 => k0_hw1.2.2.2.2.1.2.2.2.2.2.2.2.2.2.2.2.2.2.2.2.2.2.2.1 k0_h41
theorem k0_off281_inb : ∀ (d0 : Dev nD) (v10 : BitVec 32) (k0_hw1 : k0_chk1 d0 v10) (k0_t57 : Fin (k0_t57_loop d0 v10).trips), ∀ (k0_h41 : k0_cond41 d0 v10 = 1#1), ∀ (k0_h42 : k0_cond42 d0 v10 k0_t57 = 1#1), ∀ a, (k0_off281 d0 v10 k0_t57) a + S1.size a ≤ S4096.size a := fun d0 v10 k0_hw1 k0_t57 k0_h41 k0_h42 => k0_hw1.2.2.2.2.1.2.2.2.2.2.2.2.2.2.2.2.2.2.2.2.2.2.2.2.1 k0_t57 k0_h41 k0_h42
theorem k0_off282_inb : ∀ (d0 : Dev nD) (v10 : BitVec 32) (k0_hw1 : k0_chk1 d0 v10) (k0_t57 : Fin (k0_t57_loop d0 v10).trips), ∀ (k0_h41 : k0_cond41 d0 v10 = 1#1), ∀ (k0_h42 : k0_cond42 d0 v10 k0_t57 = 1#1), ∀ a, (k0_off282 d0 v10 k0_t57) a + S1.size a ≤ S64.size a := fun d0 v10 k0_hw1 k0_t57 k0_h41 k0_h42 => k0_hw1.2.2.2.2.1.2.2.2.2.2.2.2.2.2.2.2.2.2.2.2.2.2.2.2.2.1 k0_t57 k0_h41 k0_h42
theorem k0_off284_inb : ∀ (d0 : Dev nD) (v10 : BitVec 32) (k0_hw1 : k0_chk1 d0 v10) (k0_t57 : Fin (k0_t57_loop d0 v10).trips), ∀ (k0_h41 : k0_cond41 d0 v10 = 1#1), ∀ (k0_h42 : k0_cond42 d0 v10 k0_t57 = 1#1), ∀ a, (k0_off284 d0 v10 k0_t57) a + S1x2048.size a ≤ S2560x2048.size a := fun d0 v10 k0_hw1 k0_t57 k0_h41 k0_h42 => k0_hw1.2.2.2.2.1.2.2.2.2.2.2.2.2.2.2.2.2.2.2.2.2.2.2.2.2.2.1 k0_t57 k0_h41 k0_h42
theorem k0_off285_inb : ∀ (d0 : Dev nD) (v10 : BitVec 32) (k0_hw1 : k0_chk1 d0 v10) (k0_t57 : Fin (k0_t57_loop d0 v10).trips), ∀ (k0_h41 : k0_cond41 d0 v10 = 1#1), ∀ a, (k0_off285 d0 v10 k0_t57) a + S1.size a ≤ S4096.size a := fun d0 v10 k0_hw1 k0_t57 k0_h41 => k0_hw1.2.2.2.2.1.2.2.2.2.2.2.2.2.2.2.2.2.2.2.2.2.2.2.2.2.2.2.1 k0_t57 k0_h41
theorem k0_off286_inb : ∀ (d0 : Dev nD) (v10 : BitVec 32) (k0_hw1 : k0_chk1 d0 v10) (k0_t57 : Fin (k0_t57_loop d0 v10).trips), ∀ (k0_h41 : k0_cond41 d0 v10 = 1#1), ∀ a, (k0_off286 d0 v10 k0_t57) a + S1.size a ≤ S64.size a := fun d0 v10 k0_hw1 k0_t57 k0_h41 => k0_hw1.2.2.2.2.1.2.2.2.2.2.2.2.2.2.2.2.2.2.2.2.2.2.2.2.2.2.2.2.1 k0_t57 k0_h41
theorem k0_off288_inb : ∀ (d0 : Dev nD) (v10 : BitVec 32) (k0_hw1 : k0_chk1 d0 v10) (k0_t57 : Fin (k0_t57_loop d0 v10).trips), ∀ (k0_h41 : k0_cond41 d0 v10 = 1#1), ∀ a, (k0_off288 d0 v10 k0_t57) a + S1x2048.size a ≤ S2560x2048.size a := fun d0 v10 k0_hw1 k0_t57 k0_h41 => k0_hw1.2.2.2.2.1.2.2.2.2.2.2.2.2.2.2.2.2.2.2.2.2.2.2.2.2.2.2.2.2.1 k0_t57 k0_h41
theorem k0_t58_ok : ∀ (d0 : Dev nD) (v10 : BitVec 32) (k0_hw1 : k0_chk1 d0 v10), ∀ (k0_h41 : k0_cond41 d0 v10 = 1#1), (k0_t58_loop d0 v10).OK := fun d0 v10 k0_hw1 k0_h41 => k0_hw1.2.2.2.2.1.2.2.2.2.2.2.2.2.2.2.2.2.2.2.2.2.2.2.2.2.2.2.2.2.2.1 k0_h41
theorem k0_off289_inb : ∀ (d0 : Dev nD) (v10 : BitVec 32) (k0_hw1 : k0_chk1 d0 v10) (k0_t58 : Fin (k0_t58_loop d0 v10).trips), ∀ (k0_h41 : k0_cond41 d0 v10 = 1#1), ∀ (k0_h43 : k0_cond43 d0 v10 k0_t58 = 1#1), ∀ a, (k0_off289 d0 v10 k0_t58) a + S1.size a ≤ S4096.size a := fun d0 v10 k0_hw1 k0_t58 k0_h41 k0_h43 => k0_hw1.2.2.2.2.1.2.2.2.2.2.2.2.2.2.2.2.2.2.2.2.2.2.2.2.2.2.2.2.2.2.2.1 k0_t58 k0_h41 k0_h43
theorem k0_off290_inb : ∀ (d0 : Dev nD) (v10 : BitVec 32) (k0_hw1 : k0_chk1 d0 v10) (k0_t58 : Fin (k0_t58_loop d0 v10).trips), ∀ (k0_h41 : k0_cond41 d0 v10 = 1#1), ∀ (k0_h43 : k0_cond43 d0 v10 k0_t58 = 1#1), ∀ a, (k0_off290 d0 v10 k0_t58) a + S1.size a ≤ S64.size a := fun d0 v10 k0_hw1 k0_t58 k0_h41 k0_h43 => k0_hw1.2.2.2.2.1.2.2.2.2.2.2.2.2.2.2.2.2.2.2.2.2.2.2.2.2.2.2.2.2.2.2.2.1 k0_t58 k0_h41 k0_h43
theorem k0_off292_inb : ∀ (d0 : Dev nD) (v10 : BitVec 32) (k0_hw1 : k0_chk1 d0 v10) (k0_t58 : Fin (k0_t58_loop d0 v10).trips), ∀ (k0_h41 : k0_cond41 d0 v10 = 1#1), ∀ (k0_h43 : k0_cond43 d0 v10 k0_t58 = 1#1), ∀ a, (k0_off292 d0 v10 k0_t58) a + S1x2048.size a ≤ S2560x2048.size a := fun d0 v10 k0_hw1 k0_t58 k0_h41 k0_h43 => k0_hw1.2.2.2.2.1.2.2.2.2.2.2.2.2.2.2.2.2.2.2.2.2.2.2.2.2.2.2.2.2.2.2.2.2.1 k0_t58 k0_h41 k0_h43
theorem k0_off293_inb : ∀ (d0 : Dev nD) (v10 : BitVec 32) (k0_hw1 : k0_chk1 d0 v10) (k0_t58 : Fin (k0_t58_loop d0 v10).trips), ∀ (k0_h41 : k0_cond41 d0 v10 = 1#1), ∀ a, (k0_off293 d0 v10 k0_t58) a + S1.size a ≤ S4096.size a := fun d0 v10 k0_hw1 k0_t58 k0_h41 => k0_hw1.2.2.2.2.1.2.2.2.2.2.2.2.2.2.2.2.2.2.2.2.2.2.2.2.2.2.2.2.2.2.2.2.2.2.1 k0_t58 k0_h41
theorem k0_off294_inb : ∀ (d0 : Dev nD) (v10 : BitVec 32) (k0_hw1 : k0_chk1 d0 v10) (k0_t58 : Fin (k0_t58_loop d0 v10).trips), ∀ (k0_h41 : k0_cond41 d0 v10 = 1#1), ∀ a, (k0_off294 d0 v10 k0_t58) a + S1.size a ≤ S64.size a := fun d0 v10 k0_hw1 k0_t58 k0_h41 => k0_hw1.2.2.2.2.1.2.2.2.2.2.2.2.2.2.2.2.2.2.2.2.2.2.2.2.2.2.2.2.2.2.2.2.2.2.2.1 k0_t58 k0_h41
theorem k0_off296_inb : ∀ (d0 : Dev nD) (v10 : BitVec 32) (k0_hw1 : k0_chk1 d0 v10) (k0_t58 : Fin (k0_t58_loop d0 v10).trips), ∀ (k0_h41 : k0_cond41 d0 v10 = 1#1), ∀ a, (k0_off296 d0 v10 k0_t58) a + S1x2048.size a ≤ S2560x2048.size a := fun d0 v10 k0_hw1 k0_t58 k0_h41 => k0_hw1.2.2.2.2.1.2.2.2.2.2.2.2.2.2.2.2.2.2.2.2.2.2.2.2.2.2.2.2.2.2.2.2.2.2.2.2 k0_t58 k0_h41
theorem k0_t59_ok : ∀ (d0 : Dev nD) (v10 : BitVec 32) (k0_hw1 : k0_chk1 d0 v10), ∀ (k0_h44 : k0_cond44 d0 v10 = 1#1), (k0_t59_loop d0 v10).OK := fun d0 v10 k0_hw1 k0_h44 => k0_hw1.2.2.2.2.2.1.1 k0_h44
theorem k0_off297_inb : ∀ (d0 : Dev nD) (v10 : BitVec 32) (k0_hw1 : k0_chk1 d0 v10) (k0_t59 : Fin (k0_t59_loop d0 v10).trips), ∀ (k0_h44 : k0_cond44 d0 v10 = 1#1), ∀ (k0_h45 : k0_cond45 d0 v10 k0_t59 = 1#1), ∀ a, (k0_off297 d0 v10 k0_t59) a + S1.size a ≤ S4096.size a := fun d0 v10 k0_hw1 k0_t59 k0_h44 k0_h45 => k0_hw1.2.2.2.2.2.1.2.1 k0_t59 k0_h44 k0_h45
theorem k0_off298_inb : ∀ (d0 : Dev nD) (v10 : BitVec 32) (k0_hw1 : k0_chk1 d0 v10) (k0_t59 : Fin (k0_t59_loop d0 v10).trips), ∀ (k0_h44 : k0_cond44 d0 v10 = 1#1), ∀ (k0_h45 : k0_cond45 d0 v10 k0_t59 = 1#1), ∀ a, (k0_off298 d0 v10 k0_t59) a + S1.size a ≤ S64.size a := fun d0 v10 k0_hw1 k0_t59 k0_h44 k0_h45 => k0_hw1.2.2.2.2.2.1.2.2.1 k0_t59 k0_h44 k0_h45
theorem k0_off300_inb : ∀ (d0 : Dev nD) (v10 : BitVec 32) (k0_hw1 : k0_chk1 d0 v10) (k0_t59 : Fin (k0_t59_loop d0 v10).trips), ∀ (k0_h44 : k0_cond44 d0 v10 = 1#1), ∀ (k0_h45 : k0_cond45 d0 v10 k0_t59 = 1#1), ∀ a, (k0_off300 d0 v10 k0_t59) a + S1x2048.size a ≤ S2560x2048.size a := fun d0 v10 k0_hw1 k0_t59 k0_h44 k0_h45 => k0_hw1.2.2.2.2.2.1.2.2.2.1 k0_t59 k0_h44 k0_h45
theorem k0_off301_inb : ∀ (d0 : Dev nD) (v10 : BitVec 32) (k0_hw1 : k0_chk1 d0 v10) (k0_t59 : Fin (k0_t59_loop d0 v10).trips), ∀ (k0_h44 : k0_cond44 d0 v10 = 1#1), ∀ a, (k0_off301 d0 v10 k0_t59) a + S1.size a ≤ S4096.size a := fun d0 v10 k0_hw1 k0_t59 k0_h44 => k0_hw1.2.2.2.2.2.1.2.2.2.2.1 k0_t59 k0_h44
theorem k0_off302_inb : ∀ (d0 : Dev nD) (v10 : BitVec 32) (k0_hw1 : k0_chk1 d0 v10) (k0_t59 : Fin (k0_t59_loop d0 v10).trips), ∀ (k0_h44 : k0_cond44 d0 v10 = 1#1), ∀ a, (k0_off302 d0 v10 k0_t59) a + S1.size a ≤ S64.size a := fun d0 v10 k0_hw1 k0_t59 k0_h44 => k0_hw1.2.2.2.2.2.1.2.2.2.2.2.1 k0_t59 k0_h44
theorem k0_off304_inb : ∀ (d0 : Dev nD) (v10 : BitVec 32) (k0_hw1 : k0_chk1 d0 v10) (k0_t59 : Fin (k0_t59_loop d0 v10).trips), ∀ (k0_h44 : k0_cond44 d0 v10 = 1#1), ∀ a, (k0_off304 d0 v10 k0_t59) a + S1x2048.size a ≤ S2560x2048.size a := fun d0 v10 k0_hw1 k0_t59 k0_h44 => k0_hw1.2.2.2.2.2.1.2.2.2.2.2.2.1 k0_t59 k0_h44
theorem k0_t60_ok : ∀ (d0 : Dev nD) (v10 : BitVec 32) (k0_hw1 : k0_chk1 d0 v10), ∀ (k0_h44 : k0_cond44 d0 v10 = 1#1), (k0_t60_loop d0 v10).OK := fun d0 v10 k0_hw1 k0_h44 => k0_hw1.2.2.2.2.2.1.2.2.2.2.2.2.2.1 k0_h44
theorem k0_off305_inb : ∀ (d0 : Dev nD) (v10 : BitVec 32) (k0_hw1 : k0_chk1 d0 v10) (k0_t60 : Fin (k0_t60_loop d0 v10).trips), ∀ (k0_h44 : k0_cond44 d0 v10 = 1#1), ∀ (k0_h46 : k0_cond46 d0 v10 k0_t60 = 1#1), ∀ a, (k0_off305 d0 v10 k0_t60) a + S1.size a ≤ S4096.size a := fun d0 v10 k0_hw1 k0_t60 k0_h44 k0_h46 => k0_hw1.2.2.2.2.2.1.2.2.2.2.2.2.2.2.1 k0_t60 k0_h44 k0_h46
theorem k0_off306_inb : ∀ (d0 : Dev nD) (v10 : BitVec 32) (k0_hw1 : k0_chk1 d0 v10) (k0_t60 : Fin (k0_t60_loop d0 v10).trips), ∀ (k0_h44 : k0_cond44 d0 v10 = 1#1), ∀ (k0_h46 : k0_cond46 d0 v10 k0_t60 = 1#1), ∀ a, (k0_off306 d0 v10 k0_t60) a + S1.size a ≤ S64.size a := fun d0 v10 k0_hw1 k0_t60 k0_h44 k0_h46 => k0_hw1.2.2.2.2.2.1.2.2.2.2.2.2.2.2.2.1 k0_t60 k0_h44 k0_h46
theorem k0_off308_inb : ∀ (d0 : Dev nD) (v10 : BitVec 32) (k0_hw1 : k0_chk1 d0 v10) (k0_t60 : Fin (k0_t60_loop d0 v10).trips), ∀ (k0_h44 : k0_cond44 d0 v10 = 1#1), ∀ (k0_h46 : k0_cond46 d0 v10 k0_t60 = 1#1), ∀ a, (k0_off308 d0 v10 k0_t60) a + S1x2048.size a ≤ S2560x2048.size a := fun d0 v10 k0_hw1 k0_t60 k0_h44 k0_h46 => k0_hw1.2.2.2.2.2.1.2.2.2.2.2.2.2.2.2.2.1 k0_t60 k0_h44 k0_h46
theorem k0_off309_inb : ∀ (d0 : Dev nD) (v10 : BitVec 32) (k0_hw1 : k0_chk1 d0 v10) (k0_t60 : Fin (k0_t60_loop d0 v10).trips), ∀ (k0_h44 : k0_cond44 d0 v10 = 1#1), ∀ a, (k0_off309 d0 v10 k0_t60) a + S1.size a ≤ S4096.size a := fun d0 v10 k0_hw1 k0_t60 k0_h44 => k0_hw1.2.2.2.2.2.1.2.2.2.2.2.2.2.2.2.2.2.1 k0_t60 k0_h44
theorem k0_off310_inb : ∀ (d0 : Dev nD) (v10 : BitVec 32) (k0_hw1 : k0_chk1 d0 v10) (k0_t60 : Fin (k0_t60_loop d0 v10).trips), ∀ (k0_h44 : k0_cond44 d0 v10 = 1#1), ∀ a, (k0_off310 d0 v10 k0_t60) a + S1.size a ≤ S64.size a := fun d0 v10 k0_hw1 k0_t60 k0_h44 => k0_hw1.2.2.2.2.2.1.2.2.2.2.2.2.2.2.2.2.2.2.1 k0_t60 k0_h44
theorem k0_off312_inb : ∀ (d0 : Dev nD) (v10 : BitVec 32) (k0_hw1 : k0_chk1 d0 v10) (k0_t60 : Fin (k0_t60_loop d0 v10).trips), ∀ (k0_h44 : k0_cond44 d0 v10 = 1#1), ∀ a, (k0_off312 d0 v10 k0_t60) a + S1x2048.size a ≤ S2560x2048.size a := fun d0 v10 k0_hw1 k0_t60 k0_h44 => k0_hw1.2.2.2.2.2.1.2.2.2.2.2.2.2.2.2.2.2.2.2.1 k0_t60 k0_h44
theorem k0_t61_ok : ∀ (d0 : Dev nD) (v10 : BitVec 32) (k0_hw1 : k0_chk1 d0 v10), ∀ (k0_h47 : k0_cond47 d0 v10 = 1#1), (k0_t61_loop d0 v10).OK := fun d0 v10 k0_hw1 k0_h47 => k0_hw1.2.2.2.2.2.1.2.2.2.2.2.2.2.2.2.2.2.2.2.2.1 k0_h47
theorem k0_off313_inb : ∀ (d0 : Dev nD) (v10 : BitVec 32) (k0_hw1 : k0_chk1 d0 v10) (k0_t61 : Fin (k0_t61_loop d0 v10).trips), ∀ (k0_h47 : k0_cond47 d0 v10 = 1#1), ∀ (k0_h48 : k0_cond48 d0 v10 k0_t61 = 1#1), ∀ a, (k0_off313 d0 v10 k0_t61) a + S1.size a ≤ S4096.size a := fun d0 v10 k0_hw1 k0_t61 k0_h47 k0_h48 => k0_hw1.2.2.2.2.2.1.2.2.2.2.2.2.2.2.2.2.2.2.2.2.2.1 k0_t61 k0_h47 k0_h48
theorem k0_off314_inb : ∀ (d0 : Dev nD) (v10 : BitVec 32) (k0_hw1 : k0_chk1 d0 v10) (k0_t61 : Fin (k0_t61_loop d0 v10).trips), ∀ (k0_h47 : k0_cond47 d0 v10 = 1#1), ∀ (k0_h48 : k0_cond48 d0 v10 k0_t61 = 1#1), ∀ a, (k0_off314 d0 v10 k0_t61) a + S1.size a ≤ S64.size a := fun d0 v10 k0_hw1 k0_t61 k0_h47 k0_h48 => k0_hw1.2.2.2.2.2.1.2.2.2.2.2.2.2.2.2.2.2.2.2.2.2.2.1 k0_t61 k0_h47 k0_h48
theorem k0_off316_inb : ∀ (d0 : Dev nD) (v10 : BitVec 32) (k0_hw1 : k0_chk1 d0 v10) (k0_t61 : Fin (k0_t61_loop d0 v10).trips), ∀ (k0_h47 : k0_cond47 d0 v10 = 1#1), ∀ (k0_h48 : k0_cond48 d0 v10 k0_t61 = 1#1), ∀ a, (k0_off316 d0 v10 k0_t61) a + S1x2048.size a ≤ S2560x2048.size a := fun d0 v10 k0_hw1 k0_t61 k0_h47 k0_h48 => k0_hw1.2.2.2.2.2.1.2.2.2.2.2.2.2.2.2.2.2.2.2.2.2.2.2.1 k0_t61 k0_h47 k0_h48
theorem k0_off317_inb : ∀ (d0 : Dev nD) (v10 : BitVec 32) (k0_hw1 : k0_chk1 d0 v10) (k0_t61 : Fin (k0_t61_loop d0 v10).trips), ∀ (k0_h47 : k0_cond47 d0 v10 = 1#1), ∀ a, (k0_off317 d0 v10 k0_t61) a + S1.size a ≤ S4096.size a := fun d0 v10 k0_hw1 k0_t61 k0_h47 => k0_hw1.2.2.2.2.2.1.2.2.2.2.2.2.2.2.2.2.2.2.2.2.2.2.2.2.1 k0_t61 k0_h47
theorem k0_off318_inb : ∀ (d0 : Dev nD) (v10 : BitVec 32) (k0_hw1 : k0_chk1 d0 v10) (k0_t61 : Fin (k0_t61_loop d0 v10).trips), ∀ (k0_h47 : k0_cond47 d0 v10 = 1#1), ∀ a, (k0_off318 d0 v10 k0_t61) a + S1.size a ≤ S64.size a := fun d0 v10 k0_hw1 k0_t61 k0_h47 => k0_hw1.2.2.2.2.2.1.2.2.2.2.2.2.2.2.2.2.2.2.2.2.2.2.2.2.2.1 k0_t61 k0_h47
theorem k0_off320_inb : ∀ (d0 : Dev nD) (v10 : BitVec 32) (k0_hw1 : k0_chk1 d0 v10) (k0_t61 : Fin (k0_t61_loop d0 v10).trips), ∀ (k0_h47 : k0_cond47 d0 v10 = 1#1), ∀ a, (k0_off320 d0 v10 k0_t61) a + S1x2048.size a ≤ S2560x2048.size a := fun d0 v10 k0_hw1 k0_t61 k0_h47 => k0_hw1.2.2.2.2.2.1.2.2.2.2.2.2.2.2.2.2.2.2.2.2.2.2.2.2.2.2.1 k0_t61 k0_h47
theorem k0_t62_ok : ∀ (d0 : Dev nD) (v10 : BitVec 32) (k0_hw1 : k0_chk1 d0 v10), ∀ (k0_h47 : k0_cond47 d0 v10 = 1#1), (k0_t62_loop d0 v10).OK := fun d0 v10 k0_hw1 k0_h47 => k0_hw1.2.2.2.2.2.1.2.2.2.2.2.2.2.2.2.2.2.2.2.2.2.2.2.2.2.2.2.1 k0_h47
theorem k0_off321_inb : ∀ (d0 : Dev nD) (v10 : BitVec 32) (k0_hw1 : k0_chk1 d0 v10) (k0_t62 : Fin (k0_t62_loop d0 v10).trips), ∀ (k0_h47 : k0_cond47 d0 v10 = 1#1), ∀ (k0_h49 : k0_cond49 d0 v10 k0_t62 = 1#1), ∀ a, (k0_off321 d0 v10 k0_t62) a + S1.size a ≤ S4096.size a := fun d0 v10 k0_hw1 k0_t62 k0_h47 k0_h49 => k0_hw1.2.2.2.2.2.1.2.2.2.2.2.2.2.2.2.2.2.2.2.2.2.2.2.2.2.2.2.2.1 k0_t62 k0_h47 k0_h49
theorem k0_off322_inb : ∀ (d0 : Dev nD) (v10 : BitVec 32) (k0_hw1 : k0_chk1 d0 v10) (k0_t62 : Fin (k0_t62_loop d0 v10).trips), ∀ (k0_h47 : k0_cond47 d0 v10 = 1#1), ∀ (k0_h49 : k0_cond49 d0 v10 k0_t62 = 1#1), ∀ a, (k0_off322 d0 v10 k0_t62) a + S1.size a ≤ S64.size a := fun d0 v10 k0_hw1 k0_t62 k0_h47 k0_h49 => k0_hw1.2.2.2.2.2.1.2.2.2.2.2.2.2.2.2.2.2.2.2.2.2.2.2.2.2.2.2.2.2.1 k0_t62 k0_h47 k0_h49
theorem k0_off324_inb : ∀ (d0 : Dev nD) (v10 : BitVec 32) (k0_hw1 : k0_chk1 d0 v10) (k0_t62 : Fin (k0_t62_loop d0 v10).trips), ∀ (k0_h47 : k0_cond47 d0 v10 = 1#1), ∀ (k0_h49 : k0_cond49 d0 v10 k0_t62 = 1#1), ∀ a, (k0_off324 d0 v10 k0_t62) a + S1x2048.size a ≤ S2560x2048.size a := fun d0 v10 k0_hw1 k0_t62 k0_h47 k0_h49 => k0_hw1.2.2.2.2.2.1.2.2.2.2.2.2.2.2.2.2.2.2.2.2.2.2.2.2.2.2.2.2.2.2.1 k0_t62 k0_h47 k0_h49
theorem k0_off325_inb : ∀ (d0 : Dev nD) (v10 : BitVec 32) (k0_hw1 : k0_chk1 d0 v10) (k0_t62 : Fin (k0_t62_loop d0 v10).trips), ∀ (k0_h47 : k0_cond47 d0 v10 = 1#1), ∀ a, (k0_off325 d0 v10 k0_t62) a + S1.size a ≤ S4096.size a := fun d0 v10 k0_hw1 k0_t62 k0_h47 => k0_hw1.2.2.2.2.2.1.2.2.2.2.2.2.2.2.2.2.2.2.2.2.2.2.2.2.2.2.2.2.2.2.2.1 k0_t62 k0_h47
theorem k0_off326_inb : ∀ (d0 : Dev nD) (v10 : BitVec 32) (k0_hw1 : k0_chk1 d0 v10) (k0_t62 : Fin (k0_t62_loop d0 v10).trips), ∀ (k0_h47 : k0_cond47 d0 v10 = 1#1), ∀ a, (k0_off326 d0 v10 k0_t62) a + S1.size a ≤ S64.size a := fun d0 v10 k0_hw1 k0_t62 k0_h47 => k0_hw1.2.2.2.2.2.1.2.2.2.2.2.2.2.2.2.2.2.2.2.2.2.2.2.2.2.2.2.2.2.2.2.2.1 k0_t62 k0_h47
theorem k0_off328_inb : ∀ (d0 : Dev nD) (v10 : BitVec 32) (k0_hw1 : k0_chk1 d0 v10) (k0_t62 : Fin (k0_t62_loop d0 v10).trips), ∀ (k0_h47 : k0_cond47 d0 v10 = 1#1), ∀ a, (k0_off328 d0 v10 k0_t62) a + S1x2048.size a ≤ S2560x2048.size a := fun d0 v10 k0_hw1 k0_t62 k0_h47 => k0_hw1.2.2.2.2.2.1.2.2.2.2.2.2.2.2.2.2.2.2.2.2.2.2.2.2.2.2.2.2.2.2.2.2.2.1 k0_t62 k0_h47
theorem k0_t63_ok : ∀ (d0 : Dev nD) (v10 : BitVec 32) (k0_hw1 : k0_chk1 d0 v10), ∀ (k0_h50 : k0_cond50 d0 v10 = 1#1), (k0_t63_loop d0 v10).OK := fun d0 v10 k0_hw1 k0_h50 => k0_hw1.2.2.2.2.2.1.2.2.2.2.2.2.2.2.2.2.2.2.2.2.2.2.2.2.2.2.2.2.2.2.2.2.2.2.1 k0_h50
theorem k0_off329_inb : ∀ (d0 : Dev nD) (v10 : BitVec 32) (k0_hw1 : k0_chk1 d0 v10) (k0_t63 : Fin (k0_t63_loop d0 v10).trips), ∀ (k0_h50 : k0_cond50 d0 v10 = 1#1), ∀ (k0_h51 : k0_cond51 d0 v10 k0_t63 = 1#1), ∀ a, (k0_off329 d0 v10 k0_t63) a + S1.size a ≤ S4096.size a := fun d0 v10 k0_hw1 k0_t63 k0_h50 k0_h51 => k0_hw1.2.2.2.2.2.1.2.2.2.2.2.2.2.2.2.2.2.2.2.2.2.2.2.2.2.2.2.2.2.2.2.2.2.2.2.1 k0_t63 k0_h50 k0_h51
theorem k0_off330_inb : ∀ (d0 : Dev nD) (v10 : BitVec 32) (k0_hw1 : k0_chk1 d0 v10) (k0_t63 : Fin (k0_t63_loop d0 v10).trips), ∀ (k0_h50 : k0_cond50 d0 v10 = 1#1), ∀ (k0_h51 : k0_cond51 d0 v10 k0_t63 = 1#1), ∀ a, (k0_off330 d0 v10 k0_t63) a + S1.size a ≤ S64.size a := fun d0 v10 k0_hw1 k0_t63 k0_h50 k0_h51 => k0_hw1.2.2.2.2.2.1.2.2.2.2.2.2.2.2.2.2.2.2.2.2.2.2.2.2.2.2.2.2.2.2.2.2.2.2.2.2.1 k0_t63 k0_h50 k0_h51
theorem k0_off332_inb : ∀ (d0 : Dev nD) (v10 : BitVec 32) (k0_hw1 : k0_chk1 d0 v10) (k0_t63 : Fin (k0_t63_loop d0 v10).trips), ∀ (k0_h50 : k0_cond50 d0 v10 = 1#1), ∀ (k0_h51 : k0_cond51 d0 v10 k0_t63 = 1#1), ∀ a, (k0_off332 d0 v10 k0_t63) a + S1x2048.size a ≤ S2560x2048.size a := fun d0 v10 k0_hw1 k0_t63 k0_h50 k0_h51 => k0_hw1.2.2.2.2.2.1.2.2.2.2.2.2.2.2.2.2.2.2.2.2.2.2.2.2.2.2.2.2.2.2.2.2.2.2.2.2.2 k0_t63 k0_h50 k0_h51
theorem k0_off333_inb : ∀ (d0 : Dev nD) (v10 : BitVec 32) (k0_hw1 : k0_chk1 d0 v10) (k0_t63 : Fin (k0_t63_loop d0 v10).trips), ∀ (k0_h50 : k0_cond50 d0 v10 = 1#1), ∀ a, (k0_off333 d0 v10 k0_t63) a + S1.size a ≤ S4096.size a := fun d0 v10 k0_hw1 k0_t63 k0_h50 => k0_hw1.2.2.2.2.2.2.1.1 k0_t63 k0_h50
theorem k0_off334_inb : ∀ (d0 : Dev nD) (v10 : BitVec 32) (k0_hw1 : k0_chk1 d0 v10) (k0_t63 : Fin (k0_t63_loop d0 v10).trips), ∀ (k0_h50 : k0_cond50 d0 v10 = 1#1), ∀ a, (k0_off334 d0 v10 k0_t63) a + S1.size a ≤ S64.size a := fun d0 v10 k0_hw1 k0_t63 k0_h50 => k0_hw1.2.2.2.2.2.2.1.2.1 k0_t63 k0_h50
theorem k0_off336_inb : ∀ (d0 : Dev nD) (v10 : BitVec 32) (k0_hw1 : k0_chk1 d0 v10) (k0_t63 : Fin (k0_t63_loop d0 v10).trips), ∀ (k0_h50 : k0_cond50 d0 v10 = 1#1), ∀ a, (k0_off336 d0 v10 k0_t63) a + S1x2048.size a ≤ S2560x2048.size a := fun d0 v10 k0_hw1 k0_t63 k0_h50 => k0_hw1.2.2.2.2.2.2.1.2.2.1 k0_t63 k0_h50
theorem k0_t64_ok : ∀ (d0 : Dev nD) (v10 : BitVec 32) (k0_hw1 : k0_chk1 d0 v10), ∀ (k0_h50 : k0_cond50 d0 v10 = 1#1), (k0_t64_loop d0 v10).OK := fun d0 v10 k0_hw1 k0_h50 => k0_hw1.2.2.2.2.2.2.1.2.2.2.1 k0_h50
theorem k0_off337_inb : ∀ (d0 : Dev nD) (v10 : BitVec 32) (k0_hw1 : k0_chk1 d0 v10) (k0_t64 : Fin (k0_t64_loop d0 v10).trips), ∀ (k0_h50 : k0_cond50 d0 v10 = 1#1), ∀ (k0_h52 : k0_cond52 d0 v10 k0_t64 = 1#1), ∀ a, (k0_off337 d0 v10 k0_t64) a + S1.size a ≤ S4096.size a := fun d0 v10 k0_hw1 k0_t64 k0_h50 k0_h52 => k0_hw1.2.2.2.2.2.2.1.2.2.2.2.1 k0_t64 k0_h50 k0_h52
theorem k0_off338_inb : ∀ (d0 : Dev nD) (v10 : BitVec 32) (k0_hw1 : k0_chk1 d0 v10) (k0_t64 : Fin (k0_t64_loop d0 v10).trips), ∀ (k0_h50 : k0_cond50 d0 v10 = 1#1), ∀ (k0_h52 : k0_cond52 d0 v10 k0_t64 = 1#1), ∀ a, (k0_off338 d0 v10 k0_t64) a + S1.size a ≤ S64.size a := fun d0 v10 k0_hw1 k0_t64 k0_h50 k0_h52 => k0_hw1.2.2.2.2.2.2.1.2.2.2.2.2.1 k0_t64 k0_h50 k0_h52
theorem k0_off340_inb : ∀ (d0 : Dev nD) (v10 : BitVec 32) (k0_hw1 : k0_chk1 d0 v10) (k0_t64 : Fin (k0_t64_loop d0 v10).trips), ∀ (k0_h50 : k0_cond50 d0 v10 = 1#1), ∀ (k0_h52 : k0_cond52 d0 v10 k0_t64 = 1#1), ∀ a, (k0_off340 d0 v10 k0_t64) a + S1x2048.size a ≤ S2560x2048.size a := fun d0 v10 k0_hw1 k0_t64 k0_h50 k0_h52 => k0_hw1.2.2.2.2.2.2.1.2.2.2.2.2.2.1 k0_t64 k0_h50 k0_h52
theorem k0_off341_inb : ∀ (d0 : Dev nD) (v10 : BitVec 32) (k0_hw1 : k0_chk1 d0 v10) (k0_t64 : Fin (k0_t64_loop d0 v10).trips), ∀ (k0_h50 : k0_cond50 d0 v10 = 1#1), ∀ a, (k0_off341 d0 v10 k0_t64) a + S1.size a ≤ S4096.size a := fun d0 v10 k0_hw1 k0_t64 k0_h50 => k0_hw1.2.2.2.2.2.2.1.2.2.2.2.2.2.2.1 k0_t64 k0_h50
theorem k0_off342_inb : ∀ (d0 : Dev nD) (v10 : BitVec 32) (k0_hw1 : k0_chk1 d0 v10) (k0_t64 : Fin (k0_t64_loop d0 v10).trips), ∀ (k0_h50 : k0_cond50 d0 v10 = 1#1), ∀ a, (k0_off342 d0 v10 k0_t64) a + S1.size a ≤ S64.size a := fun d0 v10 k0_hw1 k0_t64 k0_h50 => k0_hw1.2.2.2.2.2.2.1.2.2.2.2.2.2.2.2.1 k0_t64 k0_h50
theorem k0_off344_inb : ∀ (d0 : Dev nD) (v10 : BitVec 32) (k0_hw1 : k0_chk1 d0 v10) (k0_t64 : Fin (k0_t64_loop d0 v10).trips), ∀ (k0_h50 : k0_cond50 d0 v10 = 1#1), ∀ a, (k0_off344 d0 v10 k0_t64) a + S1x2048.size a ≤ S2560x2048.size a := fun d0 v10 k0_hw1 k0_t64 k0_h50 => k0_hw1.2.2.2.2.2.2.1.2.2.2.2.2.2.2.2.2.1 k0_t64 k0_h50
theorem k0_t65_ok : ∀ (d0 : Dev nD) (v10 : BitVec 32) (k0_hw1 : k0_chk1 d0 v10), ∀ (k0_h53 : k0_cond53 d0 v10 = 1#1), (k0_t65_loop d0 v10).OK := fun d0 v10 k0_hw1 k0_h53 => k0_hw1.2.2.2.2.2.2.1.2.2.2.2.2.2.2.2.2.2.1 k0_h53
theorem k0_off345_inb : ∀ (d0 : Dev nD) (v10 : BitVec 32) (k0_hw1 : k0_chk1 d0 v10) (k0_t65 : Fin (k0_t65_loop d0 v10).trips), ∀ (k0_h53 : k0_cond53 d0 v10 = 1#1), ∀ (k0_h54 : k0_cond54 d0 v10 k0_t65 = 1#1), ∀ a, (k0_off345 d0 v10 k0_t65) a + S1.size a ≤ S4096.size a := fun d0 v10 k0_hw1 k0_t65 k0_h53 k0_h54 => k0_hw1.2.2.2.2.2.2.1.2.2.2.2.2.2.2.2.2.2.2.1 k0_t65 k0_h53 k0_h54
theorem k0_off346_inb : ∀ (d0 : Dev nD) (v10 : BitVec 32) (k0_hw1 : k0_chk1 d0 v10) (k0_t65 : Fin (k0_t65_loop d0 v10).trips), ∀ (k0_h53 : k0_cond53 d0 v10 = 1#1), ∀ (k0_h54 : k0_cond54 d0 v10 k0_t65 = 1#1), ∀ a, (k0_off346 d0 v10 k0_t65) a + S1.size a ≤ S64.size a := fun d0 v10 k0_hw1 k0_t65 k0_h53 k0_h54 => k0_hw1.2.2.2.2.2.2.1.2.2.2.2.2.2.2.2.2.2.2.2.1 k0_t65 k0_h53 k0_h54
theorem k0_off348_inb : ∀ (d0 : Dev nD) (v10 : BitVec 32) (k0_hw1 : k0_chk1 d0 v10) (k0_t65 : Fin (k0_t65_loop d0 v10).trips), ∀ (k0_h53 : k0_cond53 d0 v10 = 1#1), ∀ (k0_h54 : k0_cond54 d0 v10 k0_t65 = 1#1), ∀ a, (k0_off348 d0 v10 k0_t65) a + S1x2048.size a ≤ S2560x2048.size a := fun d0 v10 k0_hw1 k0_t65 k0_h53 k0_h54 => k0_hw1.2.2.2.2.2.2.1.2.2.2.2.2.2.2.2.2.2.2.2.2.1 k0_t65 k0_h53 k0_h54
theorem k0_off349_inb : ∀ (d0 : Dev nD) (v10 : BitVec 32) (k0_hw1 : k0_chk1 d0 v10) (k0_t65 : Fin (k0_t65_loop d0 v10).trips), ∀ (k0_h53 : k0_cond53 d0 v10 = 1#1), ∀ a, (k0_off349 d0 v10 k0_t65) a + S1.size a ≤ S4096.size a := fun d0 v10 k0_hw1 k0_t65 k0_h53 => k0_hw1.2.2.2.2.2.2.1.2.2.2.2.2.2.2.2.2.2.2.2.2.2.1 k0_t65 k0_h53
theorem k0_off350_inb : ∀ (d0 : Dev nD) (v10 : BitVec 32) (k0_hw1 : k0_chk1 d0 v10) (k0_t65 : Fin (k0_t65_loop d0 v10).trips), ∀ (k0_h53 : k0_cond53 d0 v10 = 1#1), ∀ a, (k0_off350 d0 v10 k0_t65) a + S1.size a ≤ S64.size a := fun d0 v10 k0_hw1 k0_t65 k0_h53 => k0_hw1.2.2.2.2.2.2.1.2.2.2.2.2.2.2.2.2.2.2.2.2.2.2.1 k0_t65 k0_h53
theorem k0_off352_inb : ∀ (d0 : Dev nD) (v10 : BitVec 32) (k0_hw1 : k0_chk1 d0 v10) (k0_t65 : Fin (k0_t65_loop d0 v10).trips), ∀ (k0_h53 : k0_cond53 d0 v10 = 1#1), ∀ a, (k0_off352 d0 v10 k0_t65) a + S1x2048.size a ≤ S2560x2048.size a := fun d0 v10 k0_hw1 k0_t65 k0_h53 => k0_hw1.2.2.2.2.2.2.1.2.2.2.2.2.2.2.2.2.2.2.2.2.2.2.2.1 k0_t65 k0_h53
theorem k0_t66_ok : ∀ (d0 : Dev nD) (v10 : BitVec 32) (k0_hw1 : k0_chk1 d0 v10), ∀ (k0_h53 : k0_cond53 d0 v10 = 1#1), (k0_t66_loop d0 v10).OK := fun d0 v10 k0_hw1 k0_h53 => k0_hw1.2.2.2.2.2.2.1.2.2.2.2.2.2.2.2.2.2.2.2.2.2.2.2.2.1 k0_h53
theorem k0_off353_inb : ∀ (d0 : Dev nD) (v10 : BitVec 32) (k0_hw1 : k0_chk1 d0 v10) (k0_t66 : Fin (k0_t66_loop d0 v10).trips), ∀ (k0_h53 : k0_cond53 d0 v10 = 1#1), ∀ (k0_h55 : k0_cond55 d0 v10 k0_t66 = 1#1), ∀ a, (k0_off353 d0 v10 k0_t66) a + S1.size a ≤ S4096.size a := fun d0 v10 k0_hw1 k0_t66 k0_h53 k0_h55 => k0_hw1.2.2.2.2.2.2.1.2.2.2.2.2.2.2.2.2.2.2.2.2.2.2.2.2.2.1 k0_t66 k0_h53 k0_h55
theorem k0_off354_inb : ∀ (d0 : Dev nD) (v10 : BitVec 32) (k0_hw1 : k0_chk1 d0 v10) (k0_t66 : Fin (k0_t66_loop d0 v10).trips), ∀ (k0_h53 : k0_cond53 d0 v10 = 1#1), ∀ (k0_h55 : k0_cond55 d0 v10 k0_t66 = 1#1), ∀ a, (k0_off354 d0 v10 k0_t66) a + S1.size a ≤ S64.size a := fun d0 v10 k0_hw1 k0_t66 k0_h53 k0_h55 => k0_hw1.2.2.2.2.2.2.1.2.2.2.2.2.2.2.2.2.2.2.2.2.2.2.2.2.2.2.1 k0_t66 k0_h53 k0_h55
theorem k0_off356_inb : ∀ (d0 : Dev nD) (v10 : BitVec 32) (k0_hw1 : k0_chk1 d0 v10) (k0_t66 : Fin (k0_t66_loop d0 v10).trips), ∀ (k0_h53 : k0_cond53 d0 v10 = 1#1), ∀ (k0_h55 : k0_cond55 d0 v10 k0_t66 = 1#1), ∀ a, (k0_off356 d0 v10 k0_t66) a + S1x2048.size a ≤ S2560x2048.size a := fun d0 v10 k0_hw1 k0_t66 k0_h53 k0_h55 => k0_hw1.2.2.2.2.2.2.1.2.2.2.2.2.2.2.2.2.2.2.2.2.2.2.2.2.2.2.2.1 k0_t66 k0_h53 k0_h55
theorem k0_off357_inb : ∀ (d0 : Dev nD) (v10 : BitVec 32) (k0_hw1 : k0_chk1 d0 v10) (k0_t66 : Fin (k0_t66_loop d0 v10).trips), ∀ (k0_h53 : k0_cond53 d0 v10 = 1#1), ∀ a, (k0_off357 d0 v10 k0_t66) a + S1.size a ≤ S4096.size a := fun d0 v10 k0_hw1 k0_t66 k0_h53 => k0_hw1.2.2.2.2.2.2.1.2.2.2.2.2.2.2.2.2.2.2.2.2.2.2.2.2.2.2.2.2.1 k0_t66 k0_h53
theorem k0_off358_inb : ∀ (d0 : Dev nD) (v10 : BitVec 32) (k0_hw1 : k0_chk1 d0 v10) (k0_t66 : Fin (k0_t66_loop d0 v10).trips), ∀ (k0_h53 : k0_cond53 d0 v10 = 1#1), ∀ a, (k0_off358 d0 v10 k0_t66) a + S1.size a ≤ S64.size a := fun d0 v10 k0_hw1 k0_t66 k0_h53 => k0_hw1.2.2.2.2.2.2.1.2.2.2.2.2.2.2.2.2.2.2.2.2.2.2.2.2.2.2.2.2.2.1 k0_t66 k0_h53
theorem k0_off360_inb : ∀ (d0 : Dev nD) (v10 : BitVec 32) (k0_hw1 : k0_chk1 d0 v10) (k0_t66 : Fin (k0_t66_loop d0 v10).trips), ∀ (k0_h53 : k0_cond53 d0 v10 = 1#1), ∀ a, (k0_off360 d0 v10 k0_t66) a + S1x2048.size a ≤ S2560x2048.size a := fun d0 v10 k0_hw1 k0_t66 k0_h53 => k0_hw1.2.2.2.2.2.2.1.2.2.2.2.2.2.2.2.2.2.2.2.2.2.2.2.2.2.2.2.2.2.2.1 k0_t66 k0_h53
theorem k0_t67_ok : ∀ (d0 : Dev nD) (v10 : BitVec 32) (k0_hw1 : k0_chk1 d0 v10), ∀ (k0_h56 : k0_cond56 d0 v10 = 1#1), (k0_t67_loop d0 v10).OK := fun d0 v10 k0_hw1 k0_h56 => k0_hw1.2.2.2.2.2.2.1.2.2.2.2.2.2.2.2.2.2.2.2.2.2.2.2.2.2.2.2.2.2.2.2.1 k0_h56
theorem k0_off361_inb : ∀ (d0 : Dev nD) (v10 : BitVec 32) (k0_hw1 : k0_chk1 d0 v10) (k0_t67 : Fin (k0_t67_loop d0 v10).trips), ∀ (k0_h56 : k0_cond56 d0 v10 = 1#1), ∀ (k0_h57 : k0_cond57 d0 v10 k0_t67 = 1#1), ∀ a, (k0_off361 d0 v10 k0_t67) a + S1.size a ≤ S4096.size a := fun d0 v10 k0_hw1 k0_t67 k0_h56 k0_h57 => k0_hw1.2.2.2.2.2.2.1.2.2.2.2.2.2.2.2.2.2.2.2.2.2.2.2.2.2.2.2.2.2.2.2.2.1 k0_t67 k0_h56 k0_h57
theorem k0_off362_inb : ∀ (d0 : Dev nD) (v10 : BitVec 32) (k0_hw1 : k0_chk1 d0 v10) (k0_t67 : Fin (k0_t67_loop d0 v10).trips), ∀ (k0_h56 : k0_cond56 d0 v10 = 1#1), ∀ (k0_h57 : k0_cond57 d0 v10 k0_t67 = 1#1), ∀ a, (k0_off362 d0 v10 k0_t67) a + S1.size a ≤ S64.size a := fun d0 v10 k0_hw1 k0_t67 k0_h56 k0_h57 => k0_hw1.2.2.2.2.2.2.1.2.2.2.2.2.2.2.2.2.2.2.2.2.2.2.2.2.2.2.2.2.2.2.2.2.2.1 k0_t67 k0_h56 k0_h57
theorem k0_off364_inb : ∀ (d0 : Dev nD) (v10 : BitVec 32) (k0_hw1 : k0_chk1 d0 v10) (k0_t67 : Fin (k0_t67_loop d0 v10).trips), ∀ (k0_h56 : k0_cond56 d0 v10 = 1#1), ∀ (k0_h57 : k0_cond57 d0 v10 k0_t67 = 1#1), ∀ a, (k0_off364 d0 v10 k0_t67) a + S1x2048.size a ≤ S2560x2048.size a := fun d0 v10 k0_hw1 k0_t67 k0_h56 k0_h57 => k0_hw1.2.2.2.2.2.2.1.2.2.2.2.2.2.2.2.2.2.2.2.2.2.2.2.2.2.2.2.2.2.2.2.2.2.2.1 k0_t67 k0_h56 k0_h57
theorem k0_off365_inb : ∀ (d0 : Dev nD) (v10 : BitVec 32) (k0_hw1 : k0_chk1 d0 v10) (k0_t67 : Fin (k0_t67_loop d0 v10).trips), ∀ (k0_h56 : k0_cond56 d0 v10 = 1#1), ∀ a, (k0_off365 d0 v10 k0_t67) a + S1.size a ≤ S4096.size a := fun d0 v10 k0_hw1 k0_t67 k0_h56 => k0_hw1.2.2.2.2.2.2.1.2.2.2.2.2.2.2.2.2.2.2.2.2.2.2.2.2.2.2.2.2.2.2.2.2.2.2.2.1 k0_t67 k0_h56
theorem k0_off366_inb : ∀ (d0 : Dev nD) (v10 : BitVec 32) (k0_hw1 : k0_chk1 d0 v10) (k0_t67 : Fin (k0_t67_loop d0 v10).trips), ∀ (k0_h56 : k0_cond56 d0 v10 = 1#1), ∀ a, (k0_off366 d0 v10 k0_t67) a + S1.size a ≤ S64.size a := fun d0 v10 k0_hw1 k0_t67 k0_h56 => k0_hw1.2.2.2.2.2.2.1.2.2.2.2.2.2.2.2.2.2.2.2.2.2.2.2.2.2.2.2.2.2.2.2.2.2.2.2.2.1 k0_t67 k0_h56
theorem k0_off368_inb : ∀ (d0 : Dev nD) (v10 : BitVec 32) (k0_hw1 : k0_chk1 d0 v10) (k0_t67 : Fin (k0_t67_loop d0 v10).trips), ∀ (k0_h56 : k0_cond56 d0 v10 = 1#1), ∀ a, (k0_off368 d0 v10 k0_t67) a + S1x2048.size a ≤ S2560x2048.size a := fun d0 v10 k0_hw1 k0_t67 k0_h56 => k0_hw1.2.2.2.2.2.2.1.2.2.2.2.2.2.2.2.2.2.2.2.2.2.2.2.2.2.2.2.2.2.2.2.2.2.2.2.2.2.1 k0_t67 k0_h56
theorem k0_t68_ok : ∀ (d0 : Dev nD) (v10 : BitVec 32) (k0_hw1 : k0_chk1 d0 v10), ∀ (k0_h56 : k0_cond56 d0 v10 = 1#1), (k0_t68_loop d0 v10).OK := fun d0 v10 k0_hw1 k0_h56 => k0_hw1.2.2.2.2.2.2.1.2.2.2.2.2.2.2.2.2.2.2.2.2.2.2.2.2.2.2.2.2.2.2.2.2.2.2.2.2.2.2 k0_h56
theorem k0_off369_inb : ∀ (d0 : Dev nD) (v10 : BitVec 32) (k0_hw1 : k0_chk1 d0 v10) (k0_t68 : Fin (k0_t68_loop d0 v10).trips), ∀ (k0_h56 : k0_cond56 d0 v10 = 1#1), ∀ (k0_h58 : k0_cond58 d0 v10 k0_t68 = 1#1), ∀ a, (k0_off369 d0 v10 k0_t68) a + S1.size a ≤ S4096.size a := fun d0 v10 k0_hw1 k0_t68 k0_h56 k0_h58 => k0_hw1.2.2.2.2.2.2.2.1.1 k0_t68 k0_h56 k0_h58
theorem k0_off370_inb : ∀ (d0 : Dev nD) (v10 : BitVec 32) (k0_hw1 : k0_chk1 d0 v10) (k0_t68 : Fin (k0_t68_loop d0 v10).trips), ∀ (k0_h56 : k0_cond56 d0 v10 = 1#1), ∀ (k0_h58 : k0_cond58 d0 v10 k0_t68 = 1#1), ∀ a, (k0_off370 d0 v10 k0_t68) a + S1.size a ≤ S64.size a := fun d0 v10 k0_hw1 k0_t68 k0_h56 k0_h58 => k0_hw1.2.2.2.2.2.2.2.1.2.1 k0_t68 k0_h56 k0_h58
theorem k0_off372_inb : ∀ (d0 : Dev nD) (v10 : BitVec 32) (k0_hw1 : k0_chk1 d0 v10) (k0_t68 : Fin (k0_t68_loop d0 v10).trips), ∀ (k0_h56 : k0_cond56 d0 v10 = 1#1), ∀ (k0_h58 : k0_cond58 d0 v10 k0_t68 = 1#1), ∀ a, (k0_off372 d0 v10 k0_t68) a + S1x2048.size a ≤ S2560x2048.size a := fun d0 v10 k0_hw1 k0_t68 k0_h56 k0_h58 => k0_hw1.2.2.2.2.2.2.2.1.2.2.1 k0_t68 k0_h56 k0_h58
theorem k0_off373_inb : ∀ (d0 : Dev nD) (v10 : BitVec 32) (k0_hw1 : k0_chk1 d0 v10) (k0_t68 : Fin (k0_t68_loop d0 v10).trips), ∀ (k0_h56 : k0_cond56 d0 v10 = 1#1), ∀ a, (k0_off373 d0 v10 k0_t68) a + S1.size a ≤ S4096.size a := fun d0 v10 k0_hw1 k0_t68 k0_h56 => k0_hw1.2.2.2.2.2.2.2.1.2.2.2.1 k0_t68 k0_h56
theorem k0_off374_inb : ∀ (d0 : Dev nD) (v10 : BitVec 32) (k0_hw1 : k0_chk1 d0 v10) (k0_t68 : Fin (k0_t68_loop d0 v10).trips), ∀ (k0_h56 : k0_cond56 d0 v10 = 1#1), ∀ a, (k0_off374 d0 v10 k0_t68) a + S1.size a ≤ S64.size a := fun d0 v10 k0_hw1 k0_t68 k0_h56 => k0_hw1.2.2.2.2.2.2.2.1.2.2.2.2.1 k0_t68 k0_h56
theorem k0_off376_inb : ∀ (d0 : Dev nD) (v10 : BitVec 32) (k0_hw1 : k0_chk1 d0 v10) (k0_t68 : Fin (k0_t68_loop d0 v10).trips), ∀ (k0_h56 : k0_cond56 d0 v10 = 1#1), ∀ a, (k0_off376 d0 v10 k0_t68) a + S1x2048.size a ≤ S2560x2048.size a := fun d0 v10 k0_hw1 k0_t68 k0_h56 => k0_hw1.2.2.2.2.2.2.2.1.2.2.2.2.2.1 k0_t68 k0_h56
theorem k0_t69_ok : ∀ (d0 : Dev nD) (v10 : BitVec 32) (k0_hw1 : k0_chk1 d0 v10), ∀ (k0_h59 : k0_cond59 d0 v10 = 1#1), (k0_t69_loop d0 v10).OK := fun d0 v10 k0_hw1 k0_h59 => k0_hw1.2.2.2.2.2.2.2.1.2.2.2.2.2.2.1 k0_h59
theorem k0_off377_inb : ∀ (d0 : Dev nD) (v10 : BitVec 32) (k0_hw1 : k0_chk1 d0 v10) (k0_t69 : Fin (k0_t69_loop d0 v10).trips), ∀ (k0_h59 : k0_cond59 d0 v10 = 1#1), ∀ (k0_h60 : k0_cond60 d0 v10 k0_t69 = 1#1), ∀ a, (k0_off377 d0 v10 k0_t69) a + S1.size a ≤ S4096.size a := fun d0 v10 k0_hw1 k0_t69 k0_h59 k0_h60 => k0_hw1.2.2.2.2.2.2.2.1.2.2.2.2.2.2.2.1 k0_t69 k0_h59 k0_h60
theorem k0_off378_inb : ∀ (d0 : Dev nD) (v10 : BitVec 32) (k0_hw1 : k0_chk1 d0 v10) (k0_t69 : Fin (k0_t69_loop d0 v10).trips), ∀ (k0_h59 : k0_cond59 d0 v10 = 1#1), ∀ (k0_h60 : k0_cond60 d0 v10 k0_t69 = 1#1), ∀ a, (k0_off378 d0 v10 k0_t69) a + S1.size a ≤ S64.size a := fun d0 v10 k0_hw1 k0_t69 k0_h59 k0_h60 => k0_hw1.2.2.2.2.2.2.2.1.2.2.2.2.2.2.2.2.1 k0_t69 k0_h59 k0_h60
theorem k0_off380_inb : ∀ (d0 : Dev nD) (v10 : BitVec 32) (k0_hw1 : k0_chk1 d0 v10) (k0_t69 : Fin (k0_t69_loop d0 v10).trips), ∀ (k0_h59 : k0_cond59 d0 v10 = 1#1), ∀ (k0_h60 : k0_cond60 d0 v10 k0_t69 = 1#1), ∀ a, (k0_off380 d0 v10 k0_t69) a + S1x2048.size a ≤ S2560x2048.size a := fun d0 v10 k0_hw1 k0_t69 k0_h59 k0_h60 => k0_hw1.2.2.2.2.2.2.2.1.2.2.2.2.2.2.2.2.2.1 k0_t69 k0_h59 k0_h60
theorem k0_off381_inb : ∀ (d0 : Dev nD) (v10 : BitVec 32) (k0_hw1 : k0_chk1 d0 v10) (k0_t69 : Fin (k0_t69_loop d0 v10).trips), ∀ (k0_h59 : k0_cond59 d0 v10 = 1#1), ∀ a, (k0_off381 d0 v10 k0_t69) a + S1.size a ≤ S4096.size a := fun d0 v10 k0_hw1 k0_t69 k0_h59 => k0_hw1.2.2.2.2.2.2.2.1.2.2.2.2.2.2.2.2.2.2.1 k0_t69 k0_h59
theorem k0_off382_inb : ∀ (d0 : Dev nD) (v10 : BitVec 32) (k0_hw1 : k0_chk1 d0 v10) (k0_t69 : Fin (k0_t69_loop d0 v10).trips), ∀ (k0_h59 : k0_cond59 d0 v10 = 1#1), ∀ a, (k0_off382 d0 v10 k0_t69) a + S1.size a ≤ S64.size a := fun d0 v10 k0_hw1 k0_t69 k0_h59 => k0_hw1.2.2.2.2.2.2.2.1.2.2.2.2.2.2.2.2.2.2.2.1 k0_t69 k0_h59
theorem k0_off384_inb : ∀ (d0 : Dev nD) (v10 : BitVec 32) (k0_hw1 : k0_chk1 d0 v10) (k0_t69 : Fin (k0_t69_loop d0 v10).trips), ∀ (k0_h59 : k0_cond59 d0 v10 = 1#1), ∀ a, (k0_off384 d0 v10 k0_t69) a + S1x2048.size a ≤ S2560x2048.size a := fun d0 v10 k0_hw1 k0_t69 k0_h59 => k0_hw1.2.2.2.2.2.2.2.1.2.2.2.2.2.2.2.2.2.2.2.2.1 k0_t69 k0_h59
theorem k0_t70_ok : ∀ (d0 : Dev nD) (v10 : BitVec 32) (k0_hw1 : k0_chk1 d0 v10), ∀ (k0_h59 : k0_cond59 d0 v10 = 1#1), (k0_t70_loop d0 v10).OK := fun d0 v10 k0_hw1 k0_h59 => k0_hw1.2.2.2.2.2.2.2.1.2.2.2.2.2.2.2.2.2.2.2.2.2.1 k0_h59
theorem k0_off385_inb : ∀ (d0 : Dev nD) (v10 : BitVec 32) (k0_hw1 : k0_chk1 d0 v10) (k0_t70 : Fin (k0_t70_loop d0 v10).trips), ∀ (k0_h59 : k0_cond59 d0 v10 = 1#1), ∀ (k0_h61 : k0_cond61 d0 v10 k0_t70 = 1#1), ∀ a, (k0_off385 d0 v10 k0_t70) a + S1.size a ≤ S4096.size a := fun d0 v10 k0_hw1 k0_t70 k0_h59 k0_h61 => k0_hw1.2.2.2.2.2.2.2.1.2.2.2.2.2.2.2.2.2.2.2.2.2.2.1 k0_t70 k0_h59 k0_h61
theorem k0_off386_inb : ∀ (d0 : Dev nD) (v10 : BitVec 32) (k0_hw1 : k0_chk1 d0 v10) (k0_t70 : Fin (k0_t70_loop d0 v10).trips), ∀ (k0_h59 : k0_cond59 d0 v10 = 1#1), ∀ (k0_h61 : k0_cond61 d0 v10 k0_t70 = 1#1), ∀ a, (k0_off386 d0 v10 k0_t70) a + S1.size a ≤ S64.size a := fun d0 v10 k0_hw1 k0_t70 k0_h59 k0_h61 => k0_hw1.2.2.2.2.2.2.2.1.2.2.2.2.2.2.2.2.2.2.2.2.2.2.2.1 k0_t70 k0_h59 k0_h61
theorem k0_off388_inb : ∀ (d0 : Dev nD) (v10 : BitVec 32) (k0_hw1 : k0_chk1 d0 v10) (k0_t70 : Fin (k0_t70_loop d0 v10).trips), ∀ (k0_h59 : k0_cond59 d0 v10 = 1#1), ∀ (k0_h61 : k0_cond61 d0 v10 k0_t70 = 1#1), ∀ a, (k0_off388 d0 v10 k0_t70) a + S1x2048.size a ≤ S2560x2048.size a := fun d0 v10 k0_hw1 k0_t70 k0_h59 k0_h61 => k0_hw1.2.2.2.2.2.2.2.1.2.2.2.2.2.2.2.2.2.2.2.2.2.2.2.2.1 k0_t70 k0_h59 k0_h61
theorem k0_off389_inb : ∀ (d0 : Dev nD) (v10 : BitVec 32) (k0_hw1 : k0_chk1 d0 v10) (k0_t70 : Fin (k0_t70_loop d0 v10).trips), ∀ (k0_h59 : k0_cond59 d0 v10 = 1#1), ∀ a, (k0_off389 d0 v10 k0_t70) a + S1.size a ≤ S4096.size a := fun d0 v10 k0_hw1 k0_t70 k0_h59 => k0_hw1.2.2.2.2.2.2.2.1.2.2.2.2.2.2.2.2.2.2.2.2.2.2.2.2.2.1 k0_t70 k0_h59
theorem k0_off390_inb : ∀ (d0 : Dev nD) (v10 : BitVec 32) (k0_hw1 : k0_chk1 d0 v10) (k0_t70 : Fin (k0_t70_loop d0 v10).trips), ∀ (k0_h59 : k0_cond59 d0 v10 = 1#1), ∀ a, (k0_off390 d0 v10 k0_t70) a + S1.size a ≤ S64.size a := fun d0 v10 k0_hw1 k0_t70 k0_h59 => k0_hw1.2.2.2.2.2.2.2.1.2.2.2.2.2.2.2.2.2.2.2.2.2.2.2.2.2.2.1 k0_t70 k0_h59
theorem k0_off392_inb : ∀ (d0 : Dev nD) (v10 : BitVec 32) (k0_hw1 : k0_chk1 d0 v10) (k0_t70 : Fin (k0_t70_loop d0 v10).trips), ∀ (k0_h59 : k0_cond59 d0 v10 = 1#1), ∀ a, (k0_off392 d0 v10 k0_t70) a + S1x2048.size a ≤ S2560x2048.size a := fun d0 v10 k0_hw1 k0_t70 k0_h59 => k0_hw1.2.2.2.2.2.2.2.1.2.2.2.2.2.2.2.2.2.2.2.2.2.2.2.2.2.2.2.1 k0_t70 k0_h59
theorem k0_t71_ok : ∀ (d0 : Dev nD) (v10 : BitVec 32) (k0_hw1 : k0_chk1 d0 v10), ∀ (k0_h62 : k0_cond62 d0 v10 = 1#1), (k0_t71_loop d0 v10).OK := fun d0 v10 k0_hw1 k0_h62 => k0_hw1.2.2.2.2.2.2.2.1.2.2.2.2.2.2.2.2.2.2.2.2.2.2.2.2.2.2.2.2.1 k0_h62
theorem k0_off393_inb : ∀ (d0 : Dev nD) (v10 : BitVec 32) (k0_hw1 : k0_chk1 d0 v10) (k0_t71 : Fin (k0_t71_loop d0 v10).trips), ∀ (k0_h62 : k0_cond62 d0 v10 = 1#1), ∀ (k0_h63 : k0_cond63 d0 v10 k0_t71 = 1#1), ∀ a, (k0_off393 d0 v10 k0_t71) a + S1.size a ≤ S4096.size a := fun d0 v10 k0_hw1 k0_t71 k0_h62 k0_h63 => k0_hw1.2.2.2.2.2.2.2.1.2.2.2.2.2.2.2.2.2.2.2.2.2.2.2.2.2.2.2.2.2.1 k0_t71 k0_h62 k0_h63
theorem k0_off394_inb : ∀ (d0 : Dev nD) (v10 : BitVec 32) (k0_hw1 : k0_chk1 d0 v10) (k0_t71 : Fin (k0_t71_loop d0 v10).trips), ∀ (k0_h62 : k0_cond62 d0 v10 = 1#1), ∀ (k0_h63 : k0_cond63 d0 v10 k0_t71 = 1#1), ∀ a, (k0_off394 d0 v10 k0_t71) a + S1.size a ≤ S64.size a := fun d0 v10 k0_hw1 k0_t71 k0_h62 k0_h63 => k0_hw1.2.2.2.2.2.2.2.1.2.2.2.2.2.2.2.2.2.2.2.2.2.2.2.2.2.2.2.2.2.2.1 k0_t71 k0_h62 k0_h63
theorem k0_off396_inb : ∀ (d0 : Dev nD) (v10 : BitVec 32) (k0_hw1 : k0_chk1 d0 v10) (k0_t71 : Fin (k0_t71_loop d0 v10).trips), ∀ (k0_h62 : k0_cond62 d0 v10 = 1#1), ∀ (k0_h63 : k0_cond63 d0 v10 k0_t71 = 1#1), ∀ a, (k0_off396 d0 v10 k0_t71) a + S1x2048.size a ≤ S2560x2048.size a := fun d0 v10 k0_hw1 k0_t71 k0_h62 k0_h63 => k0_hw1.2.2.2.2.2.2.2.1.2.2.2.2.2.2.2.2.2.2.2.2.2.2.2.2.2.2.2.2.2.2.2.1 k0_t71 k0_h62 k0_h63
theorem k0_off397_inb : ∀ (d0 : Dev nD) (v10 : BitVec 32) (k0_hw1 : k0_chk1 d0 v10) (k0_t71 : Fin (k0_t71_loop d0 v10).trips), ∀ (k0_h62 : k0_cond62 d0 v10 = 1#1), ∀ a, (k0_off397 d0 v10 k0_t71) a + S1.size a ≤ S4096.size a := fun d0 v10 k0_hw1 k0_t71 k0_h62 => k0_hw1.2.2.2.2.2.2.2.1.2.2.2.2.2.2.2.2.2.2.2.2.2.2.2.2.2.2.2.2.2.2.2.2.1 k0_t71 k0_h62
theorem k0_off398_inb : ∀ (d0 : Dev nD) (v10 : BitVec 32) (k0_hw1 : k0_chk1 d0 v10) (k0_t71 : Fin (k0_t71_loop d0 v10).trips), ∀ (k0_h62 : k0_cond62 d0 v10 = 1#1), ∀ a, (k0_off398 d0 v10 k0_t71) a + S1.size a ≤ S64.size a := fun d0 v10 k0_hw1 k0_t71 k0_h62 => k0_hw1.2.2.2.2.2.2.2.1.2.2.2.2.2.2.2.2.2.2.2.2.2.2.2.2.2.2.2.2.2.2.2.2.2.1 k0_t71 k0_h62
theorem k0_off400_inb : ∀ (d0 : Dev nD) (v10 : BitVec 32) (k0_hw1 : k0_chk1 d0 v10) (k0_t71 : Fin (k0_t71_loop d0 v10).trips), ∀ (k0_h62 : k0_cond62 d0 v10 = 1#1), ∀ a, (k0_off400 d0 v10 k0_t71) a + S1x2048.size a ≤ S2560x2048.size a := fun d0 v10 k0_hw1 k0_t71 k0_h62 => k0_hw1.2.2.2.2.2.2.2.1.2.2.2.2.2.2.2.2.2.2.2.2.2.2.2.2.2.2.2.2.2.2.2.2.2.2.1 k0_t71 k0_h62
theorem k0_t72_ok : ∀ (d0 : Dev nD) (v10 : BitVec 32) (k0_hw1 : k0_chk1 d0 v10), ∀ (k0_h62 : k0_cond62 d0 v10 = 1#1), (k0_t72_loop d0 v10).OK := fun d0 v10 k0_hw1 k0_h62 => k0_hw1.2.2.2.2.2.2.2.1.2.2.2.2.2.2.2.2.2.2.2.2.2.2.2.2.2.2.2.2.2.2.2.2.2.2.2.1 k0_h62
theorem k0_off401_inb : ∀ (d0 : Dev nD) (v10 : BitVec 32) (k0_hw1 : k0_chk1 d0 v10) (k0_t72 : Fin (k0_t72_loop d0 v10).trips), ∀ (k0_h62 : k0_cond62 d0 v10 = 1#1), ∀ (k0_h64 : k0_cond64 d0 v10 k0_t72 = 1#1), ∀ a, (k0_off401 d0 v10 k0_t72) a + S1.size a ≤ S4096.size a := fun d0 v10 k0_hw1 k0_t72 k0_h62 k0_h64 => k0_hw1.2.2.2.2.2.2.2.1.2.2.2.2.2.2.2.2.2.2.2.2.2.2.2.2.2.2.2.2.2.2.2.2.2.2.2.2.1 k0_t72 k0_h62 k0_h64
theorem k0_off402_inb : ∀ (d0 : Dev nD) (v10 : BitVec 32) (k0_hw1 : k0_chk1 d0 v10) (k0_t72 : Fin (k0_t72_loop d0 v10).trips), ∀ (k0_h62 : k0_cond62 d0 v10 = 1#1), ∀ (k0_h64 : k0_cond64 d0 v10 k0_t72 = 1#1), ∀ a, (k0_off402 d0 v10 k0_t72) a + S1.size a ≤ S64.size a := fun d0 v10 k0_hw1 k0_t72 k0_h62 k0_h64 => k0_hw1.2.2.2.2.2.2.2.1.2.2.2.2.2.2.2.2.2.2.2.2.2.2.2.2.2.2.2.2.2.2.2.2.2.2.2.2.2.1 k0_t72 k0_h62 k0_h64
theorem k0_off404_inb : ∀ (d0 : Dev nD) (v10 : BitVec 32) (k0_hw1 : k0_chk1 d0 v10) (k0_t72 : Fin (k0_t72_loop d0 v10).trips), ∀ (k0_h62 : k0_cond62 d0 v10 = 1#1), ∀ (k0_h64 : k0_cond64 d0 v10 k0_t72 = 1#1), ∀ a, (k0_off404 d0 v10 k0_t72) a + S1x2048.size a ≤ S2560x2048.size a := fun d0 v10 k0_hw1 k0_t72 k0_h62 k0_h64 => k0_hw1.2.2.2.2.2.2.2.1.2.2.2.2.2.2.2.2.2.2.2.2.2.2.2.2.2.2.2.2.2.2.2.2.2.2.2.2.2.2.1 k0_t72 k0_h62 k0_h64
theorem k0_off405_inb : ∀ (d0 : Dev nD) (v10 : BitVec 32) (k0_hw1 : k0_chk1 d0 v10) (k0_t72 : Fin (k0_t72_loop d0 v10).trips), ∀ (k0_h62 : k0_cond62 d0 v10 = 1#1), ∀ a, (k0_off405 d0 v10 k0_t72) a + S1.size a ≤ S4096.size a := fun d0 v10 k0_hw1 k0_t72 k0_h62 => k0_hw1.2.2.2.2.2.2.2.1.2.2.2.2.2.2.2.2.2.2.2.2.2.2.2.2.2.2.2.2.2.2.2.2.2.2.2.2.2.2.2 k0_t72 k0_h62
theorem k0_off406_inb : ∀ (d0 : Dev nD) (v10 : BitVec 32) (k0_hw1 : k0_chk1 d0 v10) (k0_t72 : Fin (k0_t72_loop d0 v10).trips), ∀ (k0_h62 : k0_cond62 d0 v10 = 1#1), ∀ a, (k0_off406 d0 v10 k0_t72) a + S1.size a ≤ S64.size a := fun d0 v10 k0_hw1 k0_t72 k0_h62 => k0_hw1.2.2.2.2.2.2.2.2.1.1 k0_t72 k0_h62
theorem k0_off408_inb : ∀ (d0 : Dev nD) (v10 : BitVec 32) (k0_hw1 : k0_chk1 d0 v10) (k0_t72 : Fin (k0_t72_loop d0 v10).trips), ∀ (k0_h62 : k0_cond62 d0 v10 = 1#1), ∀ a, (k0_off408 d0 v10 k0_t72) a + S1x2048.size a ≤ S2560x2048.size a := fun d0 v10 k0_hw1 k0_t72 k0_h62 => k0_hw1.2.2.2.2.2.2.2.2.1.2.1 k0_t72 k0_h62
theorem k0_t73_ok : ∀ (d0 : Dev nD) (v10 : BitVec 32) (k0_hw1 : k0_chk1 d0 v10), ∀ (k0_h65 : k0_cond65 d0 v10 = 1#1), (k0_t73_loop d0 v10).OK := fun d0 v10 k0_hw1 k0_h65 => k0_hw1.2.2.2.2.2.2.2.2.1.2.2.1 k0_h65
theorem k0_off409_inb : ∀ (d0 : Dev nD) (v10 : BitVec 32) (k0_hw1 : k0_chk1 d0 v10) (k0_t73 : Fin (k0_t73_loop d0 v10).trips), ∀ (k0_h65 : k0_cond65 d0 v10 = 1#1), ∀ (k0_h66 : k0_cond66 d0 v10 k0_t73 = 1#1), ∀ a, (k0_off409 d0 v10 k0_t73) a + S1.size a ≤ S4096.size a := fun d0 v10 k0_hw1 k0_t73 k0_h65 k0_h66 => k0_hw1.2.2.2.2.2.2.2.2.1.2.2.2.1 k0_t73 k0_h65 k0_h66
theorem k0_off410_inb : ∀ (d0 : Dev nD) (v10 : BitVec 32) (k0_hw1 : k0_chk1 d0 v10) (k0_t73 : Fin (k0_t73_loop d0 v10).trips), ∀ (k0_h65 : k0_cond65 d0 v10 = 1#1), ∀ (k0_h66 : k0_cond66 d0 v10 k0_t73 = 1#1), ∀ a, (k0_off410 d0 v10 k0_t73) a + S1.size a ≤ S64.size a := fun d0 v10 k0_hw1 k0_t73 k0_h65 k0_h66 => k0_hw1.2.2.2.2.2.2.2.2.1.2.2.2.2.1 k0_t73 k0_h65 k0_h66
theorem k0_off412_inb : ∀ (d0 : Dev nD) (v10 : BitVec 32) (k0_hw1 : k0_chk1 d0 v10) (k0_t73 : Fin (k0_t73_loop d0 v10).trips), ∀ (k0_h65 : k0_cond65 d0 v10 = 1#1), ∀ (k0_h66 : k0_cond66 d0 v10 k0_t73 = 1#1), ∀ a, (k0_off412 d0 v10 k0_t73) a + S1x2048.size a ≤ S2560x2048.size a := fun d0 v10 k0_hw1 k0_t73 k0_h65 k0_h66 => k0_hw1.2.2.2.2.2.2.2.2.1.2.2.2.2.2.1 k0_t73 k0_h65 k0_h66
theorem k0_off413_inb : ∀ (d0 : Dev nD) (v10 : BitVec 32) (k0_hw1 : k0_chk1 d0 v10) (k0_t73 : Fin (k0_t73_loop d0 v10).trips), ∀ (k0_h65 : k0_cond65 d0 v10 = 1#1), ∀ a, (k0_off413 d0 v10 k0_t73) a + S1.size a ≤ S4096.size a := fun d0 v10 k0_hw1 k0_t73 k0_h65 => k0_hw1.2.2.2.2.2.2.2.2.1.2.2.2.2.2.2.1 k0_t73 k0_h65
theorem k0_off414_inb : ∀ (d0 : Dev nD) (v10 : BitVec 32) (k0_hw1 : k0_chk1 d0 v10) (k0_t73 : Fin (k0_t73_loop d0 v10).trips), ∀ (k0_h65 : k0_cond65 d0 v10 = 1#1), ∀ a, (k0_off414 d0 v10 k0_t73) a + S1.size a ≤ S64.size a := fun d0 v10 k0_hw1 k0_t73 k0_h65 => k0_hw1.2.2.2.2.2.2.2.2.1.2.2.2.2.2.2.2.1 k0_t73 k0_h65
theorem k0_off416_inb : ∀ (d0 : Dev nD) (v10 : BitVec 32) (k0_hw1 : k0_chk1 d0 v10) (k0_t73 : Fin (k0_t73_loop d0 v10).trips), ∀ (k0_h65 : k0_cond65 d0 v10 = 1#1), ∀ a, (k0_off416 d0 v10 k0_t73) a + S1x2048.size a ≤ S2560x2048.size a := fun d0 v10 k0_hw1 k0_t73 k0_h65 => k0_hw1.2.2.2.2.2.2.2.2.1.2.2.2.2.2.2.2.2.1 k0_t73 k0_h65
theorem k0_t74_ok : ∀ (d0 : Dev nD) (v10 : BitVec 32) (k0_hw1 : k0_chk1 d0 v10), ∀ (k0_h65 : k0_cond65 d0 v10 = 1#1), (k0_t74_loop d0 v10).OK := fun d0 v10 k0_hw1 k0_h65 => k0_hw1.2.2.2.2.2.2.2.2.1.2.2.2.2.2.2.2.2.2.1 k0_h65
theorem k0_off417_inb : ∀ (d0 : Dev nD) (v10 : BitVec 32) (k0_hw1 : k0_chk1 d0 v10) (k0_t74 : Fin (k0_t74_loop d0 v10).trips), ∀ (k0_h65 : k0_cond65 d0 v10 = 1#1), ∀ (k0_h67 : k0_cond67 d0 v10 k0_t74 = 1#1), ∀ a, (k0_off417 d0 v10 k0_t74) a + S1.size a ≤ S4096.size a := fun d0 v10 k0_hw1 k0_t74 k0_h65 k0_h67 => k0_hw1.2.2.2.2.2.2.2.2.1.2.2.2.2.2.2.2.2.2.2.1 k0_t74 k0_h65 k0_h67
theorem k0_off418_inb : ∀ (d0 : Dev nD) (v10 : BitVec 32) (k0_hw1 : k0_chk1 d0 v10) (k0_t74 : Fin (k0_t74_loop d0 v10).trips), ∀ (k0_h65 : k0_cond65 d0 v10 = 1#1), ∀ (k0_h67 : k0_cond67 d0 v10 k0_t74 = 1#1), ∀ a, (k0_off418 d0 v10 k0_t74) a + S1.size a ≤ S64.size a := fun d0 v10 k0_hw1 k0_t74 k0_h65 k0_h67 => k0_hw1.2.2.2.2.2.2.2.2.1.2.2.2.2.2.2.2.2.2.2.2.1 k0_t74 k0_h65 k0_h67
theorem k0_off420_inb : ∀ (d0 : Dev nD) (v10 : BitVec 32) (k0_hw1 : k0_chk1 d0 v10) (k0_t74 : Fin (k0_t74_loop d0 v10).trips), ∀ (k0_h65 : k0_cond65 d0 v10 = 1#1), ∀ (k0_h67 : k0_cond67 d0 v10 k0_t74 = 1#1), ∀ a, (k0_off420 d0 v10 k0_t74) a + S1x2048.size a ≤ S2560x2048.size a := fun d0 v10 k0_hw1 k0_t74 k0_h65 k0_h67 => k0_hw1.2.2.2.2.2.2.2.2.1.2.2.2.2.2.2.2.2.2.2.2.2.1 k0_t74 k0_h65 k0_h67
theorem k0_off421_inb : ∀ (d0 : Dev nD) (v10 : BitVec 32) (k0_hw1 : k0_chk1 d0 v10) (k0_t74 : Fin (k0_t74_loop d0 v10).trips), ∀ (k0_h65 : k0_cond65 d0 v10 = 1#1), ∀ a, (k0_off421 d0 v10 k0_t74) a + S1.size a ≤ S4096.size a := fun d0 v10 k0_hw1 k0_t74 k0_h65 => k0_hw1.2.2.2.2.2.2.2.2.1.2.2.2.2.2.2.2.2.2.2.2.2.2.1 k0_t74 k0_h65
theorem k0_off422_inb : ∀ (d0 : Dev nD) (v10 : BitVec 32) (k0_hw1 : k0_chk1 d0 v10) (k0_t74 : Fin (k0_t74_loop d0 v10).trips), ∀ (k0_h65 : k0_cond65 d0 v10 = 1#1), ∀ a, (k0_off422 d0 v10 k0_t74) a + S1.size a ≤ S64.size a := fun d0 v10 k0_hw1 k0_t74 k0_h65 => k0_hw1.2.2.2.2.2.2.2.2.1.2.2.2.2.2.2.2.2.2.2.2.2.2.2.1 k0_t74 k0_h65
theorem k0_off424_inb : ∀ (d0 : Dev nD) (v10 : BitVec 32) (k0_hw1 : k0_chk1 d0 v10) (k0_t74 : Fin (k0_t74_loop d0 v10).trips), ∀ (k0_h65 : k0_cond65 d0 v10 = 1#1), ∀ a, (k0_off424 d0 v10 k0_t74) a + S1x2048.size a ≤ S2560x2048.size a := fun d0 v10 k0_hw1 k0_t74 k0_h65 => k0_hw1.2.2.2.2.2.2.2.2.1.2.2.2.2.2.2.2.2.2.2.2.2.2.2.2.1 k0_t74 k0_h65
theorem k0_t75_ok : ∀ (d0 : Dev nD) (v10 : BitVec 32) (k0_hw1 : k0_chk1 d0 v10), ∀ (k0_h68 : k0_cond68 d0 v10 = 1#1), (k0_t75_loop d0 v10).OK := fun d0 v10 k0_hw1 k0_h68 => k0_hw1.2.2.2.2.2.2.2.2.1.2.2.2.2.2.2.2.2.2.2.2.2.2.2.2.2.1 k0_h68
theorem k0_off425_inb : ∀ (d0 : Dev nD) (v10 : BitVec 32) (k0_hw1 : k0_chk1 d0 v10) (k0_t75 : Fin (k0_t75_loop d0 v10).trips), ∀ (k0_h68 : k0_cond68 d0 v10 = 1#1), ∀ (k0_h69 : k0_cond69 d0 v10 k0_t75 = 1#1), ∀ a, (k0_off425 d0 v10 k0_t75) a + S1.size a ≤ S4096.size a := fun d0 v10 k0_hw1 k0_t75 k0_h68 k0_h69 => k0_hw1.2.2.2.2.2.2.2.2.1.2.2.2.2.2.2.2.2.2.2.2.2.2.2.2.2.2.1 k0_t75 k0_h68 k0_h69
theorem k0_off426_inb : ∀ (d0 : Dev nD) (v10 : BitVec 32) (k0_hw1 : k0_chk1 d0 v10) (k0_t75 : Fin (k0_t75_loop d0 v10).trips), ∀ (k0_h68 : k0_cond68 d0 v10 = 1#1), ∀ (k0_h69 : k0_cond69 d0 v10 k0_t75 = 1#1), ∀ a, (k0_off426 d0 v10 k0_t75) a + S1.size a ≤ S64.size a := fun d0 v10 k0_hw1 k0_t75 k0_h68 k0_h69 => k0_hw1.2.2.2.2.2.2.2.2.1.2.2.2.2.2.2.2.2.2.2.2.2.2.2.2.2.2.2.1 k0_t75 k0_h68 k0_h69
theorem k0_off428_inb : ∀ (d0 : Dev nD) (v10 : BitVec 32) (k0_hw1 : k0_chk1 d0 v10) (k0_t75 : Fin (k0_t75_loop d0 v10).trips), ∀ (k0_h68 : k0_cond68 d0 v10 = 1#1), ∀ (k0_h69 : k0_cond69 d0 v10 k0_t75 = 1#1), ∀ a, (k0_off428 d0 v10 k0_t75) a + S1x2048.size a ≤ S2560x2048.size a := fun d0 v10 k0_hw1 k0_t75 k0_h68 k0_h69 => k0_hw1.2.2.2.2.2.2.2.2.1.2.2.2.2.2.2.2.2.2.2.2.2.2.2.2.2.2.2.2.1 k0_t75 k0_h68 k0_h69
theorem k0_off429_inb : ∀ (d0 : Dev nD) (v10 : BitVec 32) (k0_hw1 : k0_chk1 d0 v10) (k0_t75 : Fin (k0_t75_loop d0 v10).trips), ∀ (k0_h68 : k0_cond68 d0 v10 = 1#1), ∀ a, (k0_off429 d0 v10 k0_t75) a + S1.size a ≤ S4096.size a := fun d0 v10 k0_hw1 k0_t75 k0_h68 => k0_hw1.2.2.2.2.2.2.2.2.1.2.2.2.2.2.2.2.2.2.2.2.2.2.2.2.2.2.2.2.2.1 k0_t75 k0_h68
theorem k0_off430_inb : ∀ (d0 : Dev nD) (v10 : BitVec 32) (k0_hw1 : k0_chk1 d0 v10) (k0_t75 : Fin (k0_t75_loop d0 v10).trips), ∀ (k0_h68 : k0_cond68 d0 v10 = 1#1), ∀ a, (k0_off430 d0 v10 k0_t75) a + S1.size a ≤ S64.size a := fun d0 v10 k0_hw1 k0_t75 k0_h68 => k0_hw1.2.2.2.2.2.2.2.2.1.2.2.2.2.2.2.2.2.2.2.2.2.2.2.2.2.2.2.2.2.2.1 k0_t75 k0_h68
theorem k0_off432_inb : ∀ (d0 : Dev nD) (v10 : BitVec 32) (k0_hw1 : k0_chk1 d0 v10) (k0_t75 : Fin (k0_t75_loop d0 v10).trips), ∀ (k0_h68 : k0_cond68 d0 v10 = 1#1), ∀ a, (k0_off432 d0 v10 k0_t75) a + S1x2048.size a ≤ S2560x2048.size a := fun d0 v10 k0_hw1 k0_t75 k0_h68 => k0_hw1.2.2.2.2.2.2.2.2.1.2.2.2.2.2.2.2.2.2.2.2.2.2.2.2.2.2.2.2.2.2.2.1 k0_t75 k0_h68
theorem k0_t76_ok : ∀ (d0 : Dev nD) (v10 : BitVec 32) (k0_hw1 : k0_chk1 d0 v10), ∀ (k0_h68 : k0_cond68 d0 v10 = 1#1), (k0_t76_loop d0 v10).OK := fun d0 v10 k0_hw1 k0_h68 => k0_hw1.2.2.2.2.2.2.2.2.1.2.2.2.2.2.2.2.2.2.2.2.2.2.2.2.2.2.2.2.2.2.2.2.1 k0_h68
theorem k0_off433_inb : ∀ (d0 : Dev nD) (v10 : BitVec 32) (k0_hw1 : k0_chk1 d0 v10) (k0_t76 : Fin (k0_t76_loop d0 v10).trips), ∀ (k0_h68 : k0_cond68 d0 v10 = 1#1), ∀ (k0_h70 : k0_cond70 d0 v10 k0_t76 = 1#1), ∀ a, (k0_off433 d0 v10 k0_t76) a + S1.size a ≤ S4096.size a := fun d0 v10 k0_hw1 k0_t76 k0_h68 k0_h70 => k0_hw1.2.2.2.2.2.2.2.2.1.2.2.2.2.2.2.2.2.2.2.2.2.2.2.2.2.2.2.2.2.2.2.2.2.1 k0_t76 k0_h68 k0_h70
theorem k0_off434_inb : ∀ (d0 : Dev nD) (v10 : BitVec 32) (k0_hw1 : k0_chk1 d0 v10) (k0_t76 : Fin (k0_t76_loop d0 v10).trips), ∀ (k0_h68 : k0_cond68 d0 v10 = 1#1), ∀ (k0_h70 : k0_cond70 d0 v10 k0_t76 = 1#1), ∀ a, (k0_off434 d0 v10 k0_t76) a + S1.size a ≤ S64.size a := fun d0 v10 k0_hw1 k0_t76 k0_h68 k0_h70 => k0_hw1.2.2.2.2.2.2.2.2.1.2.2.2.2.2.2.2.2.2.2.2.2.2.2.2.2.2.2.2.2.2.2.2.2.2.1 k0_t76 k0_h68 k0_h70
theorem k0_off436_inb : ∀ (d0 : Dev nD) (v10 : BitVec 32) (k0_hw1 : k0_chk1 d0 v10) (k0_t76 : Fin (k0_t76_loop d0 v10).trips), ∀ (k0_h68 : k0_cond68 d0 v10 = 1#1), ∀ (k0_h70 : k0_cond70 d0 v10 k0_t76 = 1#1), ∀ a, (k0_off436 d0 v10 k0_t76) a + S1x2048.size a ≤ S2560x2048.size a := fun d0 v10 k0_hw1 k0_t76 k0_h68 k0_h70 => k0_hw1.2.2.2.2.2.2.2.2.1.2.2.2.2.2.2.2.2.2.2.2.2.2.2.2.2.2.2.2.2.2.2.2.2.2.2.1 k0_t76 k0_h68 k0_h70
theorem k0_off437_inb : ∀ (d0 : Dev nD) (v10 : BitVec 32) (k0_hw1 : k0_chk1 d0 v10) (k0_t76 : Fin (k0_t76_loop d0 v10).trips), ∀ (k0_h68 : k0_cond68 d0 v10 = 1#1), ∀ a, (k0_off437 d0 v10 k0_t76) a + S1.size a ≤ S4096.size a := fun d0 v10 k0_hw1 k0_t76 k0_h68 => k0_hw1.2.2.2.2.2.2.2.2.1.2.2.2.2.2.2.2.2.2.2.2.2.2.2.2.2.2.2.2.2.2.2.2.2.2.2.2.1 k0_t76 k0_h68
theorem k0_off438_inb : ∀ (d0 : Dev nD) (v10 : BitVec 32) (k0_hw1 : k0_chk1 d0 v10) (k0_t76 : Fin (k0_t76_loop d0 v10).trips), ∀ (k0_h68 : k0_cond68 d0 v10 = 1#1), ∀ a, (k0_off438 d0 v10 k0_t76) a + S1.size a ≤ S64.size a := fun d0 v10 k0_hw1 k0_t76 k0_h68 => k0_hw1.2.2.2.2.2.2.2.2.1.2.2.2.2.2.2.2.2.2.2.2.2.2.2.2.2.2.2.2.2.2.2.2.2.2.2.2.2.1 k0_t76 k0_h68
theorem k0_off440_inb : ∀ (d0 : Dev nD) (v10 : BitVec 32) (k0_hw1 : k0_chk1 d0 v10) (k0_t76 : Fin (k0_t76_loop d0 v10).trips), ∀ (k0_h68 : k0_cond68 d0 v10 = 1#1), ∀ a, (k0_off440 d0 v10 k0_t76) a + S1x2048.size a ≤ S2560x2048.size a := fun d0 v10 k0_hw1 k0_t76 k0_h68 => k0_hw1.2.2.2.2.2.2.2.2.1.2.2.2.2.2.2.2.2.2.2.2.2.2.2.2.2.2.2.2.2.2.2.2.2.2.2.2.2.2.1 k0_t76 k0_h68
theorem k0_t77_ok : ∀ (d0 : Dev nD) (v10 : BitVec 32) (k0_hw1 : k0_chk1 d0 v10), ∀ (k0_h71 : k0_cond71 d0 v10 = 1#1), (k0_t77_loop d0 v10).OK := fun d0 v10 k0_hw1 k0_h71 => k0_hw1.2.2.2.2.2.2.2.2.1.2.2.2.2.2.2.2.2.2.2.2.2.2.2.2.2.2.2.2.2.2.2.2.2.2.2.2.2.2.2.1 k0_h71
theorem k0_off441_inb : ∀ (d0 : Dev nD) (v10 : BitVec 32) (k0_hw1 : k0_chk1 d0 v10) (k0_t77 : Fin (k0_t77_loop d0 v10).trips), ∀ (k0_h71 : k0_cond71 d0 v10 = 1#1), ∀ (k0_h72 : k0_cond72 d0 v10 k0_t77 = 1#1), ∀ a, (k0_off441 d0 v10 k0_t77) a + S1.size a ≤ S4096.size a := fun d0 v10 k0_hw1 k0_t77 k0_h71 k0_h72 => k0_hw1.2.2.2.2.2.2.2.2.1.2.2.2.2.2.2.2.2.2.2.2.2.2.2.2.2.2.2.2.2.2.2.2.2.2.2.2.2.2.2.2 k0_t77 k0_h71 k0_h72
theorem k0_off442_inb : ∀ (d0 : Dev nD) (v10 : BitVec 32) (k0_hw1 : k0_chk1 d0 v10) (k0_t77 : Fin (k0_t77_loop d0 v10).trips), ∀ (k0_h71 : k0_cond71 d0 v10 = 1#1), ∀ (k0_h72 : k0_cond72 d0 v10 k0_t77 = 1#1), ∀ a, (k0_off442 d0 v10 k0_t77) a + S1.size a ≤ S64.size a := fun d0 v10 k0_hw1 k0_t77 k0_h71 k0_h72 => k0_hw1.2.2.2.2.2.2.2.2.2.1.1 k0_t77 k0_h71 k0_h72
theorem k0_off444_inb : ∀ (d0 : Dev nD) (v10 : BitVec 32) (k0_hw1 : k0_chk1 d0 v10) (k0_t77 : Fin (k0_t77_loop d0 v10).trips), ∀ (k0_h71 : k0_cond71 d0 v10 = 1#1), ∀ (k0_h72 : k0_cond72 d0 v10 k0_t77 = 1#1), ∀ a, (k0_off444 d0 v10 k0_t77) a + S1x2048.size a ≤ S2560x2048.size a := fun d0 v10 k0_hw1 k0_t77 k0_h71 k0_h72 => k0_hw1.2.2.2.2.2.2.2.2.2.1.2.1 k0_t77 k0_h71 k0_h72
theorem k0_off445_inb : ∀ (d0 : Dev nD) (v10 : BitVec 32) (k0_hw1 : k0_chk1 d0 v10) (k0_t77 : Fin (k0_t77_loop d0 v10).trips), ∀ (k0_h71 : k0_cond71 d0 v10 = 1#1), ∀ a, (k0_off445 d0 v10 k0_t77) a + S1.size a ≤ S4096.size a := fun d0 v10 k0_hw1 k0_t77 k0_h71 => k0_hw1.2.2.2.2.2.2.2.2.2.1.2.2.1 k0_t77 k0_h71
theorem k0_off446_inb : ∀ (d0 : Dev nD) (v10 : BitVec 32) (k0_hw1 : k0_chk1 d0 v10) (k0_t77 : Fin (k0_t77_loop d0 v10).trips), ∀ (k0_h71 : k0_cond71 d0 v10 = 1#1), ∀ a, (k0_off446 d0 v10 k0_t77) a + S1.size a ≤ S64.size a := fun d0 v10 k0_hw1 k0_t77 k0_h71 => k0_hw1.2.2.2.2.2.2.2.2.2.1.2.2.2.1 k0_t77 k0_h71
theorem k0_off448_inb : ∀ (d0 : Dev nD) (v10 : BitVec 32) (k0_hw1 : k0_chk1 d0 v10) (k0_t77 : Fin (k0_t77_loop d0 v10).trips), ∀ (k0_h71 : k0_cond71 d0 v10 = 1#1), ∀ a, (k0_off448 d0 v10 k0_t77) a + S1x2048.size a ≤ S2560x2048.size a := fun d0 v10 k0_hw1 k0_t77 k0_h71 => k0_hw1.2.2.2.2.2.2.2.2.2.1.2.2.2.2.1 k0_t77 k0_h71
theorem k0_t78_ok : ∀ (d0 : Dev nD) (v10 : BitVec 32) (k0_hw1 : k0_chk1 d0 v10), ∀ (k0_h71 : k0_cond71 d0 v10 = 1#1), (k0_t78_loop d0 v10).OK := fun d0 v10 k0_hw1 k0_h71 => k0_hw1.2.2.2.2.2.2.2.2.2.1.2.2.2.2.2.1 k0_h71
theorem k0_off449_inb : ∀ (d0 : Dev nD) (v10 : BitVec 32) (k0_hw1 : k0_chk1 d0 v10) (k0_t78 : Fin (k0_t78_loop d0 v10).trips), ∀ (k0_h71 : k0_cond71 d0 v10 = 1#1), ∀ (k0_h73 : k0_cond73 d0 v10 k0_t78 = 1#1), ∀ a, (k0_off449 d0 v10 k0_t78) a + S1.size a ≤ S4096.size a := fun d0 v10 k0_hw1 k0_t78 k0_h71 k0_h73 => k0_hw1.2.2.2.2.2.2.2.2.2.1.2.2.2.2.2.2.1 k0_t78 k0_h71 k0_h73
theorem k0_off450_inb : ∀ (d0 : Dev nD) (v10 : BitVec 32) (k0_hw1 : k0_chk1 d0 v10) (k0_t78 : Fin (k0_t78_loop d0 v10).trips), ∀ (k0_h71 : k0_cond71 d0 v10 = 1#1), ∀ (k0_h73 : k0_cond73 d0 v10 k0_t78 = 1#1), ∀ a, (k0_off450 d0 v10 k0_t78) a + S1.size a ≤ S64.size a := fun d0 v10 k0_hw1 k0_t78 k0_h71 k0_h73 => k0_hw1.2.2.2.2.2.2.2.2.2.1.2.2.2.2.2.2.2.1 k0_t78 k0_h71 k0_h73
theorem k0_off452_inb : ∀ (d0 : Dev nD) (v10 : BitVec 32) (k0_hw1 : k0_chk1 d0 v10) (k0_t78 : Fin (k0_t78_loop d0 v10).trips), ∀ (k0_h71 : k0_cond71 d0 v10 = 1#1), ∀ (k0_h73 : k0_cond73 d0 v10 k0_t78 = 1#1), ∀ a, (k0_off452 d0 v10 k0_t78) a + S1x2048.size a ≤ S2560x2048.size a := fun d0 v10 k0_hw1 k0_t78 k0_h71 k0_h73 => k0_hw1.2.2.2.2.2.2.2.2.2.1.2.2.2.2.2.2.2.2.1 k0_t78 k0_h71 k0_h73
theorem k0_off453_inb : ∀ (d0 : Dev nD) (v10 : BitVec 32) (k0_hw1 : k0_chk1 d0 v10) (k0_t78 : Fin (k0_t78_loop d0 v10).trips), ∀ (k0_h71 : k0_cond71 d0 v10 = 1#1), ∀ a, (k0_off453 d0 v10 k0_t78) a + S1.size a ≤ S4096.size a := fun d0 v10 k0_hw1 k0_t78 k0_h71 => k0_hw1.2.2.2.2.2.2.2.2.2.1.2.2.2.2.2.2.2.2.2.1 k0_t78 k0_h71
theorem k0_off454_inb : ∀ (d0 : Dev nD) (v10 : BitVec 32) (k0_hw1 : k0_chk1 d0 v10) (k0_t78 : Fin (k0_t78_loop d0 v10).trips), ∀ (k0_h71 : k0_cond71 d0 v10 = 1#1), ∀ a, (k0_off454 d0 v10 k0_t78) a + S1.size a ≤ S64.size a := fun d0 v10 k0_hw1 k0_t78 k0_h71 => k0_hw1.2.2.2.2.2.2.2.2.2.1.2.2.2.2.2.2.2.2.2.2.1 k0_t78 k0_h71
theorem k0_off456_inb : ∀ (d0 : Dev nD) (v10 : BitVec 32) (k0_hw1 : k0_chk1 d0 v10) (k0_t78 : Fin (k0_t78_loop d0 v10).trips), ∀ (k0_h71 : k0_cond71 d0 v10 = 1#1), ∀ a, (k0_off456 d0 v10 k0_t78) a + S1x2048.size a ≤ S2560x2048.size a := fun d0 v10 k0_hw1 k0_t78 k0_h71 => k0_hw1.2.2.2.2.2.2.2.2.2.1.2.2.2.2.2.2.2.2.2.2.2.1 k0_t78 k0_h71
theorem k0_t79_ok : ∀ (d0 : Dev nD) (v10 : BitVec 32) (k0_hw1 : k0_chk1 d0 v10), ∀ (k0_h74 : k0_cond74 d0 v10 = 1#1), (k0_t79_loop d0 v10).OK := fun d0 v10 k0_hw1 k0_h74 => k0_hw1.2.2.2.2.2.2.2.2.2.1.2.2.2.2.2.2.2.2.2.2.2.2.1 k0_h74
theorem k0_off457_inb : ∀ (d0 : Dev nD) (v10 : BitVec 32) (k0_hw1 : k0_chk1 d0 v10) (k0_t79 : Fin (k0_t79_loop d0 v10).trips), ∀ (k0_h74 : k0_cond74 d0 v10 = 1#1), ∀ (k0_h75 : k0_cond75 d0 v10 k0_t79 = 1#1), ∀ a, (k0_off457 d0 v10 k0_t79) a + S1.size a ≤ S4096.size a := fun d0 v10 k0_hw1 k0_t79 k0_h74 k0_h75 => k0_hw1.2.2.2.2.2.2.2.2.2.1.2.2.2.2.2.2.2.2.2.2.2.2.2.1 k0_t79 k0_h74 k0_h75
theorem k0_off458_inb : ∀ (d0 : Dev nD) (v10 : BitVec 32) (k0_hw1 : k0_chk1 d0 v10) (k0_t79 : Fin (k0_t79_loop d0 v10).trips), ∀ (k0_h74 : k0_cond74 d0 v10 = 1#1), ∀ (k0_h75 : k0_cond75 d0 v10 k0_t79 = 1#1), ∀ a, (k0_off458 d0 v10 k0_t79) a + S1.size a ≤ S64.size a := fun d0 v10 k0_hw1 k0_t79 k0_h74 k0_h75 => k0_hw1.2.2.2.2.2.2.2.2.2.1.2.2.2.2.2.2.2.2.2.2.2.2.2.2.1 k0_t79 k0_h74 k0_h75
theorem k0_off460_inb : ∀ (d0 : Dev nD) (v10 : BitVec 32) (k0_hw1 : k0_chk1 d0 v10) (k0_t79 : Fin (k0_t79_loop d0 v10).trips), ∀ (k0_h74 : k0_cond74 d0 v10 = 1#1), ∀ (k0_h75 : k0_cond75 d0 v10 k0_t79 = 1#1), ∀ a, (k0_off460 d0 v10 k0_t79) a + S1x2048.size a ≤ S2560x2048.size a := fun d0 v10 k0_hw1 k0_t79 k0_h74 k0_h75 => k0_hw1.2.2.2.2.2.2.2.2.2.1.2.2.2.2.2.2.2.2.2.2.2.2.2.2.2.1 k0_t79 k0_h74 k0_h75
theorem k0_off461_inb : ∀ (d0 : Dev nD) (v10 : BitVec 32) (k0_hw1 : k0_chk1 d0 v10) (k0_t79 : Fin (k0_t79_loop d0 v10).trips), ∀ (k0_h74 : k0_cond74 d0 v10 = 1#1), ∀ a, (k0_off461 d0 v10 k0_t79) a + S1.size a ≤ S4096.size a := fun d0 v10 k0_hw1 k0_t79 k0_h74 => k0_hw1.2.2.2.2.2.2.2.2.2.1.2.2.2.2.2.2.2.2.2.2.2.2.2.2.2.2.1 k0_t79 k0_h74
theorem k0_off462_inb : ∀ (d0 : Dev nD) (v10 : BitVec 32) (k0_hw1 : k0_chk1 d0 v10) (k0_t79 : Fin (k0_t79_loop d0 v10).trips), ∀ (k0_h74 : k0_cond74 d0 v10 = 1#1), ∀ a, (k0_off462 d0 v10 k0_t79) a + S1.size a ≤ S64.size a := fun d0 v10 k0_hw1 k0_t79 k0_h74 => k0_hw1.2.2.2.2.2.2.2.2.2.1.2.2.2.2.2.2.2.2.2.2.2.2.2.2.2.2.2.1 k0_t79 k0_h74
theorem k0_off464_inb : ∀ (d0 : Dev nD) (v10 : BitVec 32) (k0_hw1 : k0_chk1 d0 v10) (k0_t79 : Fin (k0_t79_loop d0 v10).trips), ∀ (k0_h74 : k0_cond74 d0 v10 = 1#1), ∀ a, (k0_off464 d0 v10 k0_t79) a + S1x2048.size a ≤ S2560x2048.size a := fun d0 v10 k0_hw1 k0_t79 k0_h74 => k0_hw1.2.2.2.2.2.2.2.2.2.1.2.2.2.2.2.2.2.2.2.2.2.2.2.2.2.2.2.2.1 k0_t79 k0_h74
theorem k0_t80_ok : ∀ (d0 : Dev nD) (v10 : BitVec 32) (k0_hw1 : k0_chk1 d0 v10), ∀ (k0_h74 : k0_cond74 d0 v10 = 1#1), (k0_t80_loop d0 v10).OK := fun d0 v10 k0_hw1 k0_h74 => k0_hw1.2.2.2.2.2.2.2.2.2.1.2.2.2.2.2.2.2.2.2.2.2.2.2.2.2.2.2.2.2.1 k0_h74
theorem k0_off465_inb : ∀ (d0 : Dev nD) (v10 : BitVec 32) (k0_hw1 : k0_chk1 d0 v10) (k0_t80 : Fin (k0_t80_loop d0 v10).trips), ∀ (k0_h74 : k0_cond74 d0 v10 = 1#1), ∀ (k0_h76 : k0_cond76 d0 v10 k0_t80 = 1#1), ∀ a, (k0_off465 d0 v10 k0_t80) a + S1.size a ≤ S4096.size a := fun d0 v10 k0_hw1 k0_t80 k0_h74 k0_h76 => k0_hw1.2.2.2.2.2.2.2.2.2.1.2.2.2.2.2.2.2.2.2.2.2.2.2.2.2.2.2.2.2.2.1 k0_t80 k0_h74 k0_h76
theorem k0_off466_inb : ∀ (d0 : Dev nD) (v10 : BitVec 32) (k0_hw1 : k0_chk1 d0 v10) (k0_t80 : Fin (k0_t80_loop d0 v10).trips), ∀ (k0_h74 : k0_cond74 d0 v10 = 1#1), ∀ (k0_h76 : k0_cond76 d0 v10 k0_t80 = 1#1), ∀ a, (k0_off466 d0 v10 k0_t80) a + S1.size a ≤ S64.size a := fun d0 v10 k0_hw1 k0_t80 k0_h74 k0_h76 => k0_hw1.2.2.2.2.2.2.2.2.2.1.2.2.2.2.2.2.2.2.2.2.2.2.2.2.2.2.2.2.2.2.2.1 k0_t80 k0_h74 k0_h76
theorem k0_off468_inb : ∀ (d0 : Dev nD) (v10 : BitVec 32) (k0_hw1 : k0_chk1 d0 v10) (k0_t80 : Fin (k0_t80_loop d0 v10).trips), ∀ (k0_h74 : k0_cond74 d0 v10 = 1#1), ∀ (k0_h76 : k0_cond76 d0 v10 k0_t80 = 1#1), ∀ a, (k0_off468 d0 v10 k0_t80) a + S1x2048.size a ≤ S2560x2048.size a := fun d0 v10 k0_hw1 k0_t80 k0_h74 k0_h76 => k0_hw1.2.2.2.2.2.2.2.2.2.1.2.2.2.2.2.2.2.2.2.2.2.2.2.2.2.2.2.2.2.2.2.2.1 k0_t80 k0_h74 k0_h76
theorem k0_off469_inb : ∀ (d0 : Dev nD) (v10 : BitVec 32) (k0_hw1 : k0_chk1 d0 v10) (k0_t80 : Fin (k0_t80_loop d0 v10).trips), ∀ (k0_h74 : k0_cond74 d0 v10 = 1#1), ∀ a, (k0_off469 d0 v10 k0_t80) a + S1.size a ≤ S4096.size a := fun d0 v10 k0_hw1 k0_t80 k0_h74 => k0_hw1.2.2.2.2.2.2.2.2.2.1.2.2.2.2.2.2.2.2.2.2.2.2.2.2.2.2.2.2.2.2.2.2.2.1 k0_t80 k0_h74
theorem k0_off470_inb : ∀ (d0 : Dev nD) (v10 : BitVec 32) (k0_hw1 : k0_chk1 d0 v10) (k0_t80 : Fin (k0_t80_loop d0 v10).trips), ∀ (k0_h74 : k0_cond74 d0 v10 = 1#1), ∀ a, (k0_off470 d0 v10 k0_t80) a + S1.size a ≤ S64.size a := fun d0 v10 k0_hw1 k0_t80 k0_h74 => k0_hw1.2.2.2.2.2.2.2.2.2.1.2.2.2.2.2.2.2.2.2.2.2.2.2.2.2.2.2.2.2.2.2.2.2.2.1 k0_t80 k0_h74
theorem k0_off472_inb : ∀ (d0 : Dev nD) (v10 : BitVec 32) (k0_hw1 : k0_chk1 d0 v10) (k0_t80 : Fin (k0_t80_loop d0 v10).trips), ∀ (k0_h74 : k0_cond74 d0 v10 = 1#1), ∀ a, (k0_off472 d0 v10 k0_t80) a + S1x2048.size a ≤ S2560x2048.size a := fun d0 v10 k0_hw1 k0_t80 k0_h74 => k0_hw1.2.2.2.2.2.2.2.2.2.1.2.2.2.2.2.2.2.2.2.2.2.2.2.2.2.2.2.2.2.2.2.2.2.2.2.1 k0_t80 k0_h74
theorem k0_t81_ok : ∀ (d0 : Dev nD) (v10 : BitVec 32) (k0_hw1 : k0_chk1 d0 v10), ∀ (k0_h77 : k0_cond77 d0 v10 = 1#1), (k0_t81_loop d0 v10).OK := fun d0 v10 k0_hw1 k0_h77 => k0_hw1.2.2.2.2.2.2.2.2.2.1.2.2.2.2.2.2.2.2.2.2.2.2.2.2.2.2.2.2.2.2.2.2.2.2.2.2.1 k0_h77
theorem k0_off473_inb : ∀ (d0 : Dev nD) (v10 : BitVec 32) (k0_hw1 : k0_chk1 d0 v10) (k0_t81 : Fin (k0_t81_loop d0 v10).trips), ∀ (k0_h77 : k0_cond77 d0 v10 = 1#1), ∀ (k0_h78 : k0_cond78 d0 v10 k0_t81 = 1#1), ∀ a, (k0_off473 d0 v10 k0_t81) a + S1.size a ≤ S4096.size a := fun d0 v10 k0_hw1 k0_t81 k0_h77 k0_h78 => k0_hw1.2.2.2.2.2.2.2.2.2.1.2.2.2.2.2.2.2.2.2.2.2.2.2.2.2.2.2.2.2.2.2.2.2.2.2.2.2.1 k0_t81 k0_h77 k0_h78
theorem k0_off474_inb : ∀ (d0 : Dev nD) (v10 : BitVec 32) (k0_hw1 : k0_chk1 d0 v10) (k0_t81 : Fin (k0_t81_loop d0 v10).trips), ∀ (k0_h77 : k0_cond77 d0 v10 = 1#1), ∀ (k0_h78 : k0_cond78 d0 v10 k0_t81 = 1#1), ∀ a, (k0_off474 d0 v10 k0_t81) a + S1.size a ≤ S64.size a := fun d0 v10 k0_hw1 k0_t81 k0_h77 k0_h78 => k0_hw1.2.2.2.2.2.2.2.2.2.1.2.2.2.2.2.2.2.2.2.2.2.2.2.2.2.2.2.2.2.2.2.2.2.2.2.2.2.2.1 k0_t81 k0_h77 k0_h78
theorem k0_off476_inb : ∀ (d0 : Dev nD) (v10 : BitVec 32) (k0_hw1 : k0_chk1 d0 v10) (k0_t81 : Fin (k0_t81_loop d0 v10).trips), ∀ (k0_h77 : k0_cond77 d0 v10 = 1#1), ∀ (k0_h78 : k0_cond78 d0 v10 k0_t81 = 1#1), ∀ a, (k0_off476 d0 v10 k0_t81) a + S1x2048.size a ≤ S2560x2048.size a := fun d0 v10 k0_hw1 k0_t81 k0_h77 k0_h78 => k0_hw1.2.2.2.2.2.2.2.2.2.1.2.2.2.2.2.2.2.2.2.2.2.2.2.2.2.2.2.2.2.2.2.2.2.2.2.2.2.2.2.1 k0_t81 k0_h77 k0_h78
theorem k0_off477_inb : ∀ (d0 : Dev nD) (v10 : BitVec 32) (k0_hw1 : k0_chk1 d0 v10) (k0_t81 : Fin (k0_t81_loop d0 v10).trips), ∀ (k0_h77 : k0_cond77 d0 v10 = 1#1), ∀ a, (k0_off477 d0 v10 k0_t81) a + S1.size a ≤ S4096.size a := fun d0 v10 k0_hw1 k0_t81 k0_h77 => k0_hw1.2.2.2.2.2.2.2.2.2.1.2.2.2.2.2.2.2.2.2.2.2.2.2.2.2.2.2.2.2.2.2.2.2.2.2.2.2.2.2.2.1 k0_t81 k0_h77
theorem k0_off478_inb : ∀ (d0 : Dev nD) (v10 : BitVec 32) (k0_hw1 : k0_chk1 d0 v10) (k0_t81 : Fin (k0_t81_loop d0 v10).trips), ∀ (k0_h77 : k0_cond77 d0 v10 = 1#1), ∀ a, (k0_off478 d0 v10 k0_t81) a + S1.size a ≤ S64.size a := fun d0 v10 k0_hw1 k0_t81 k0_h77 => k0_hw1.2.2.2.2.2.2.2.2.2.1.2.2.2.2.2.2.2.2.2.2.2.2.2.2.2.2.2.2.2.2.2.2.2.2.2.2.2.2.2.2.2 k0_t81 k0_h77
theorem k0_off480_inb : ∀ (d0 : Dev nD) (v10 : BitVec 32) (k0_hw1 : k0_chk1 d0 v10) (k0_t81 : Fin (k0_t81_loop d0 v10).trips), ∀ (k0_h77 : k0_cond77 d0 v10 = 1#1), ∀ a, (k0_off480 d0 v10 k0_t81) a + S1x2048.size a ≤ S2560x2048.size a := fun d0 v10 k0_hw1 k0_t81 k0_h77 => k0_hw1.2.2.2.2.2.2.2.2.2.2.1 k0_t81 k0_h77
theorem k0_t82_ok : ∀ (d0 : Dev nD) (v10 : BitVec 32) (k0_hw1 : k0_chk1 d0 v10), ∀ (k0_h77 : k0_cond77 d0 v10 = 1#1), (k0_t82_loop d0 v10).OK := fun d0 v10 k0_hw1 k0_h77 => k0_hw1.2.2.2.2.2.2.2.2.2.2.2.1 k0_h77
theorem k0_off481_inb : ∀ (d0 : Dev nD) (v10 : BitVec 32) (k0_hw1 : k0_chk1 d0 v10) (k0_t82 : Fin (k0_t82_loop d0 v10).trips), ∀ (k0_h77 : k0_cond77 d0 v10 = 1#1), ∀ (k0_h79 : k0_cond79 d0 v10 k0_t82 = 1#1), ∀ a, (k0_off481 d0 v10 k0_t82) a + S1.size a ≤ S4096.size a := fun d0 v10 k0_hw1 k0_t82 k0_h77 k0_h79 => k0_hw1.2.2.2.2.2.2.2.2.2.2.2.2.1 k0_t82 k0_h77 k0_h79
theorem k0_off482_inb : ∀ (d0 : Dev nD) (v10 : BitVec 32) (k0_hw1 : k0_chk1 d0 v10) (k0_t82 : Fin (k0_t82_loop d0 v10).trips), ∀ (k0_h77 : k0_cond77 d0 v10 = 1#1), ∀ (k0_h79 : k0_cond79 d0 v10 k0_t82 = 1#1), ∀ a, (k0_off482 d0 v10 k0_t82) a + S1.size a ≤ S64.size a := fun d0 v10 k0_hw1 k0_t82 k0_h77 k0_h79 => k0_hw1.2.2.2.2.2.2.2.2.2.2.2.2.2.1 k0_t82 k0_h77 k0_h79
theorem k0_off484_inb : ∀ (d0 : Dev nD) (v10 : BitVec 32) (k0_hw1 : k0_chk1 d0 v10) (k0_t82 : Fin (k0_t82_loop d0 v10).trips), ∀ (k0_h77 : k0_cond77 d0 v10 = 1#1), ∀ (k0_h79 : k0_cond79 d0 v10 k0_t82 = 1#1), ∀ a, (k0_off484 d0 v10 k0_t82) a + S1x2048.size a ≤ S2560x2048.size a := fun d0 v10 k0_hw1 k0_t82 k0_h77 k0_h79 => k0_hw1.2.2.2.2.2.2.2.2.2.2.2.2.2.2.1 k0_t82 k0_h77 k0_h79
theorem k0_off485_inb : ∀ (d0 : Dev nD) (v10 : BitVec 32) (k0_hw1 : k0_chk1 d0 v10) (k0_t82 : Fin (k0_t82_loop d0 v10).trips), ∀ (k0_h77 : k0_cond77 d0 v10 = 1#1), ∀ a, (k0_off485 d0 v10 k0_t82) a + S1.size a ≤ S4096.size a := fun d0 v10 k0_hw1 k0_t82 k0_h77 => k0_hw1.2.2.2.2.2.2.2.2.2.2.2.2.2.2.2.1 k0_t82 k0_h77
theorem k0_off486_inb : ∀ (d0 : Dev nD) (v10 : BitVec 32) (k0_hw1 : k0_chk1 d0 v10) (k0_t82 : Fin (k0_t82_loop d0 v10).trips), ∀ (k0_h77 : k0_cond77 d0 v10 = 1#1), ∀ a, (k0_off486 d0 v10 k0_t82) a + S1.size a ≤ S64.size a := fun d0 v10 k0_hw1 k0_t82 k0_h77 => k0_hw1.2.2.2.2.2.2.2.2.2.2.2.2.2.2.2.2.1 k0_t82 k0_h77
theorem k0_off488_inb : ∀ (d0 : Dev nD) (v10 : BitVec 32) (k0_hw1 : k0_chk1 d0 v10) (k0_t82 : Fin (k0_t82_loop d0 v10).trips), ∀ (k0_h77 : k0_cond77 d0 v10 = 1#1), ∀ a, (k0_off488 d0 v10 k0_t82) a + S1x2048.size a ≤ S2560x2048.size a := fun d0 v10 k0_hw1 k0_t82 k0_h77 => k0_hw1.2.2.2.2.2.2.2.2.2.2.2.2.2.2.2.2.2.1 k0_t82 k0_h77
theorem k0_t83_ok : ∀ (d0 : Dev nD) (v10 : BitVec 32) (k0_hw1 : k0_chk1 d0 v10), ∀ (k0_h80 : k0_cond80 d0 v10 = 1#1), (k0_t83_loop d0 v10).OK := fun d0 v10 k0_hw1 k0_h80 => k0_hw1.2.2.2.2.2.2.2.2.2.2.2.2.2.2.2.2.2.2.1 k0_h80
theorem k0_off489_inb : ∀ (d0 : Dev nD) (v10 : BitVec 32) (k0_hw1 : k0_chk1 d0 v10) (k0_t83 : Fin (k0_t83_loop d0 v10).trips), ∀ (k0_h80 : k0_cond80 d0 v10 = 1#1), ∀ (k0_h81 : k0_cond81 d0 v10 k0_t83 = 1#1), ∀ a, (k0_off489 d0 v10 k0_t83) a + S1.size a ≤ S4096.size a := fun d0 v10 k0_hw1 k0_t83 k0_h80 k0_h81 => k0_hw1.2.2.2.2.2.2.2.2.2.2.2.2.2.2.2.2.2.2.2.1 k0_t83 k0_h80 k0_h81
theorem k0_off490_inb : ∀ (d0 : Dev nD) (v10 : BitVec 32) (k0_hw1 : k0_chk1 d0 v10) (k0_t83 : Fin (k0_t83_loop d0 v10).trips), ∀ (k0_h80 : k0_cond80 d0 v10 = 1#1), ∀ (k0_h81 : k0_cond81 d0 v10 k0_t83 = 1#1), ∀ a, (k0_off490 d0 v10 k0_t83) a + S1.size a ≤ S64.size a := fun d0 v10 k0_hw1 k0_t83 k0_h80 k0_h81 => k0_hw1.2.2.2.2.2.2.2.2.2.2.2.2.2.2.2.2.2.2.2.2.1 k0_t83 k0_h80 k0_h81
theorem k0_off492_inb : ∀ (d0 : Dev nD) (v10 : BitVec 32) (k0_hw1 : k0_chk1 d0 v10) (k0_t83 : Fin (k0_t83_loop d0 v10).trips), ∀ (k0_h80 : k0_cond80 d0 v10 = 1#1), ∀ (k0_h81 : k0_cond81 d0 v10 k0_t83 = 1#1), ∀ a, (k0_off492 d0 v10 k0_t83) a + S1x2048.size a ≤ S2560x2048.size a := fun d0 v10 k0_hw1 k0_t83 k0_h80 k0_h81 => k0_hw1.2.2.2.2.2.2.2.2.2.2.2.2.2.2.2.2.2.2.2.2.2.1 k0_t83 k0_h80 k0_h81
theorem k0_off493_inb : ∀ (d0 : Dev nD) (v10 : BitVec 32) (k0_hw1 : k0_chk1 d0 v10) (k0_t83 : Fin (k0_t83_loop d0 v10).trips), ∀ (k0_h80 : k0_cond80 d0 v10 = 1#1), ∀ a, (k0_off493 d0 v10 k0_t83) a + S1.size a ≤ S4096.size a := fun d0 v10 k0_hw1 k0_t83 k0_h80 => k0_hw1.2.2.2.2.2.2.2.2.2.2.2.2.2.2.2.2.2.2.2.2.2.2.1 k0_t83 k0_h80
theorem k0_off494_inb : ∀ (d0 : Dev nD) (v10 : BitVec 32) (k0_hw1 : k0_chk1 d0 v10) (k0_t83 : Fin (k0_t83_loop d0 v10).trips), ∀ (k0_h80 : k0_cond80 d0 v10 = 1#1), ∀ a, (k0_off494 d0 v10 k0_t83) a + S1.size a ≤ S64.size a := fun d0 v10 k0_hw1 k0_t83 k0_h80 => k0_hw1.2.2.2.2.2.2.2.2.2.2.2.2.2.2.2.2.2.2.2.2.2.2.2.1 k0_t83 k0_h80
theorem k0_off496_inb : ∀ (d0 : Dev nD) (v10 : BitVec 32) (k0_hw1 : k0_chk1 d0 v10) (k0_t83 : Fin (k0_t83_loop d0 v10).trips), ∀ (k0_h80 : k0_cond80 d0 v10 = 1#1), ∀ a, (k0_off496 d0 v10 k0_t83) a + S1x2048.size a ≤ S2560x2048.size a := fun d0 v10 k0_hw1 k0_t83 k0_h80 => k0_hw1.2.2.2.2.2.2.2.2.2.2.2.2.2.2.2.2.2.2.2.2.2.2.2.2.1 k0_t83 k0_h80
theorem k0_t84_ok : ∀ (d0 : Dev nD) (v10 : BitVec 32) (k0_hw1 : k0_chk1 d0 v10), ∀ (k0_h80 : k0_cond80 d0 v10 = 1#1), (k0_t84_loop d0 v10).OK := fun d0 v10 k0_hw1 k0_h80 => k0_hw1.2.2.2.2.2.2.2.2.2.2.2.2.2.2.2.2.2.2.2.2.2.2.2.2.2.1 k0_h80
theorem k0_off497_inb : ∀ (d0 : Dev nD) (v10 : BitVec 32) (k0_hw1 : k0_chk1 d0 v10) (k0_t84 : Fin (k0_t84_loop d0 v10).trips), ∀ (k0_h80 : k0_cond80 d0 v10 = 1#1), ∀ (k0_h82 : k0_cond82 d0 v10 k0_t84 = 1#1), ∀ a, (k0_off497 d0 v10 k0_t84) a + S1.size a ≤ S4096.size a := fun d0 v10 k0_hw1 k0_t84 k0_h80 k0_h82 => k0_hw1.2.2.2.2.2.2.2.2.2.2.2.2.2.2.2.2.2.2.2.2.2.2.2.2.2.2.1 k0_t84 k0_h80 k0_h82
theorem k0_off498_inb : ∀ (d0 : Dev nD) (v10 : BitVec 32) (k0_hw1 : k0_chk1 d0 v10) (k0_t84 : Fin (k0_t84_loop d0 v10).trips), ∀ (k0_h80 : k0_cond80 d0 v10 = 1#1), ∀ (k0_h82 : k0_cond82 d0 v10 k0_t84 = 1#1), ∀ a, (k0_off498 d0 v10 k0_t84) a + S1.size a ≤ S64.size a := fun d0 v10 k0_hw1 k0_t84 k0_h80 k0_h82 => k0_hw1.2.2.2.2.2.2.2.2.2.2.2.2.2.2.2.2.2.2.2.2.2.2.2.2.2.2.2.1 k0_t84 k0_h80 k0_h82
theorem k0_off500_inb : ∀ (d0 : Dev nD) (v10 : BitVec 32) (k0_hw1 : k0_chk1 d0 v10) (k0_t84 : Fin (k0_t84_loop d0 v10).trips), ∀ (k0_h80 : k0_cond80 d0 v10 = 1#1), ∀ (k0_h82 : k0_cond82 d0 v10 k0_t84 = 1#1), ∀ a, (k0_off500 d0 v10 k0_t84) a + S1x2048.size a ≤ S2560x2048.size a := fun d0 v10 k0_hw1 k0_t84 k0_h80 k0_h82 => k0_hw1.2.2.2.2.2.2.2.2.2.2.2.2.2.2.2.2.2.2.2.2.2.2.2.2.2.2.2.2.1 k0_t84 k0_h80 k0_h82
theorem k0_off501_inb : ∀ (d0 : Dev nD) (v10 : BitVec 32) (k0_hw1 : k0_chk1 d0 v10) (k0_t84 : Fin (k0_t84_loop d0 v10).trips), ∀ (k0_h80 : k0_cond80 d0 v10 = 1#1), ∀ a, (k0_off501 d0 v10 k0_t84) a + S1.size a ≤ S4096.size a := fun d0 v10 k0_hw1 k0_t84 k0_h80 => k0_hw1.2.2.2.2.2.2.2.2.2.2.2.2.2.2.2.2.2.2.2.2.2.2.2.2.2.2.2.2.2.1 k0_t84 k0_h80
theorem k0_off502_inb : ∀ (d0 : Dev nD) (v10 : BitVec 32) (k0_hw1 : k0_chk1 d0 v10) (k0_t84 : Fin (k0_t84_loop d0 v10).trips), ∀ (k0_h80 : k0_cond80 d0 v10 = 1#1), ∀ a, (k0_off502 d0 v10 k0_t84) a + S1.size a ≤ S64.size a := fun d0 v10 k0_hw1 k0_t84 k0_h80 => k0_hw1.2.2.2.2.2.2.2.2.2.2.2.2.2.2.2.2.2.2.2.2.2.2.2.2.2.2.2.2.2.2.1 k0_t84 k0_h80
theorem k0_off504_inb : ∀ (d0 : Dev nD) (v10 : BitVec 32) (k0_hw1 : k0_chk1 d0 v10) (k0_t84 : Fin (k0_t84_loop d0 v10).trips), ∀ (k0_h80 : k0_cond80 d0 v10 = 1#1), ∀ a, (k0_off504 d0 v10 k0_t84) a + S1x2048.size a ≤ S2560x2048.size a := fun d0 v10 k0_hw1 k0_t84 k0_h80 => k0_hw1.2.2.2.2.2.2.2.2.2.2.2.2.2.2.2.2.2.2.2.2.2.2.2.2.2.2.2.2.2.2.2.1 k0_t84 k0_h80
theorem k0_t85_ok : ∀ (d0 : Dev nD) (v10 : BitVec 32) (k0_hw1 : k0_chk1 d0 v10), (k0_t85_loop d0 v10).OK := fun d0 v10 k0_hw1 => k0_hw1.2.2.2.2.2.2.2.2.2.2.2.2.2.2.2.2.2.2.2.2.2.2.2.2.2.2.2.2.2.2.2.2.1
theorem k0_off505_inb : ∀ (d0 : Dev nD) (v10 : BitVec 32) (k0_hw1 : k0_chk1 d0 v10) (k0_t85 : Fin (k0_t85_loop d0 v10).trips), ∀ a, (k0_off505 d0 v10 k0_t85) a + S1.size a ≤ S4096.size a := fun d0 v10 k0_hw1 k0_t85 => k0_hw1.2.2.2.2.2.2.2.2.2.2.2.2.2.2.2.2.2.2.2.2.2.2.2.2.2.2.2.2.2.2.2.2.2.1 k0_t85
theorem k0_off506_inb : ∀ (d0 : Dev nD) (v10 : BitVec 32) (k0_hw1 : k0_chk1 d0 v10) (k0_t85 : Fin (k0_t85_loop d0 v10).trips), ∀ a, (k0_off506 d0 v10 k0_t85) a + S1.size a ≤ S64.size a := fun d0 v10 k0_hw1 k0_t85 => k0_hw1.2.2.2.2.2.2.2.2.2.2.2.2.2.2.2.2.2.2.2.2.2.2.2.2.2.2.2.2.2.2.2.2.2.2.1 k0_t85
theorem k0_off508_inb : ∀ (d0 : Dev nD) (v10 : BitVec 32) (k0_hw1 : k0_chk1 d0 v10) (k0_t85 : Fin (k0_t85_loop d0 v10).trips), ∀ a, (k0_off508 d0 v10 k0_t85) a + S1x2048.size a ≤ S2560x2048.size a := fun d0 v10 k0_hw1 k0_t85 => k0_hw1.2.2.2.2.2.2.2.2.2.2.2.2.2.2.2.2.2.2.2.2.2.2.2.2.2.2.2.2.2.2.2.2.2.2.2.1 k0_t85
theorem k0_t86_ok : ∀ (d0 : Dev nD) (v10 : BitVec 32) (k0_hw1 : k0_chk1 d0 v10), (k0_t86_loop d0 v10).OK := fun d0 v10 k0_hw1 => k0_hw1.2.2.2.2.2.2.2.2.2.2.2.2.2.2.2.2.2.2.2.2.2.2.2.2.2.2.2.2.2.2.2.2.2.2.2.2.1
theorem k0_off509_inb : ∀ (d0 : Dev nD) (v10 : BitVec 32) (k0_hw1 : k0_chk1 d0 v10) (k0_t86 : Fin (k0_t86_loop d0 v10).trips), ∀ a, (k0_off509 d0 v10 k0_t86) a + S1.size a ≤ S4096.size a := fun d0 v10 k0_hw1 k0_t86 => k0_hw1.2.2.2.2.2.2.2.2.2.2.2.2.2.2.2.2.2.2.2.2.2.2.2.2.2.2.2.2.2.2.2.2.2.2.2.2.2.1 k0_t86
theorem k0_off510_inb : ∀ (d0 : Dev nD) (v10 : BitVec 32) (k0_hw1 : k0_chk1 d0 v10) (k0_t86 : Fin (k0_t86_loop d0 v10).trips), ∀ a, (k0_off510 d0 v10 k0_t86) a + S1.size a ≤ S64.size a := fun d0 v10 k0_hw1 k0_t86 => k0_hw1.2.2.2.2.2.2.2.2.2.2.2.2.2.2.2.2.2.2.2.2.2.2.2.2.2.2.2.2.2.2.2.2.2.2.2.2.2.2.1 k0_t86
theorem k0_off512_inb : ∀ (d0 : Dev nD) (v10 : BitVec 32) (k0_hw1 : k0_chk1 d0 v10) (k0_t86 : Fin (k0_t86_loop d0 v10).trips), ∀ a, (k0_off512 d0 v10 k0_t86) a + S1x2048.size a ≤ S2560x2048.size a := fun d0 v10 k0_hw1 k0_t86 => k0_hw1.2.2.2.2.2.2.2.2.2.2.2.2.2.2.2.2.2.2.2.2.2.2.2.2.2.2.2.2.2.2.2.2.2.2.2.2.2.2.2 k0_t86

abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096 : Shape := ⟨1, ![4096]⟩
abbrev S16384x2048 : Shape := ⟨2, ![16384, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Basis.lean ====
/-
  The ground of the proof: the resource algebra, the rows of a buffer as sets of elements, what a copy of one row leaves, the
  semaphores by number, and the rule of a counted loop whose trips touch one item each.
-/
module

public import proofs.«01_k».proof.Proof.Gen.KernelIdeal.Launch
public import proofs.«01_k».proof.Proof.Gen.KernelIdeal.Skeleton
public import Idealize.ShloMosaic.Lib.Rounds
public import Idealize.ShloMosaic.Lib.Transfers
public import Idealize.ShloMosaic.Lib.Pipeline.RegionTalk
public import Idealize.ShloMosaic.Lib.LoopRemainder
public import Idealize.ShloMosaic.Lib.Pointwise
public import Idealize.SL.BI.BigOpNat
public import Idealize.ShloMosaic.Lib.Tactic

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the pipeline's rounds, the exchange's rounds, the transfers' counters -/

abbrev UE : Type := UR sig nD τ
abbrev UU : Type := UR sig nD τ × (UE × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UE (MT nD τ sig Unit (Elt F) ℕ UU ℕ) :=
  ((Emb.inl : Emb UE (UE × Counters)).trans (Emb.inr : Emb (UE × Counters) UU)).trans
    (uEmb (nD := nD) (sig := sig) (Ix := Unit) (Val := Elt F) (Name := ℕ) (U := UU) (Lvl := ℕ)).toEmb
instance ER_landsIn : (ER : Emb UE 𝕄).LandsIn (upEmb : UEmb _ 𝕄) := by unfold ER; infer_instance
/-- The local transfers' counters. -/
abbrev EC : UEmb Counters (MT nD τ sig Unit (Elt F) ℕ UU ℕ) := countersEmb

abbrev 𝒱₀ : Variants := Variants.none

/-! ## Buffers and semaphores -/

abbrev eM : Memref sig .tc .hbm S8192x2048 .f32 := Memref.whole main_arg1
abbrev oM : Memref sig .tc .hbm S4096x2048 .f32 := Memref.whole main_v16
abbrev aM : Memref sig .tc .vmem S2560x2048 .f32 := Memref.whole cc0_scratch0
abbrev bM : Memref sig .tc .vmem S2560x2048 .f32 := Memref.whole cc0_scratch1
abbrev sidM : Memref sig .tc .smem S4096 .i32 := Memref.whole cc0_stg0_0
abbrev permM : Memref sig .tc .smem S4096 .i32 := Memref.whole cc0_stg1_0
abbrev cntM : Memref sig .tc .smem S1 .i32 := Memref.whole cc0_stg2_0

/-- The DMA semaphore of the given number. -/
def dsem (n : ℕ) : DmaSem sig := if h : n < 299 then ⟨n, h⟩ else ⟨0, by decide⟩
/-- The number of a semaphore that exists is the number it was named by. -/
theorem dsem_val {n : ℕ} (h : n < 299) : (dsem n : Fin 299).val = n := by unfold dsem; rw [dif_pos h]

/-- One semaphore of an array of consecutive ones, by its number. -/
theorem sem_one {d base t : ℕ} (h : base + (⟨1, ![d]⟩ : Shape).numel ≤ 299) (o : Fin 1 → ℕ) (ho : o = ![t])
    (i : ∀ a, o a + S1.size a ≤ (⟨1, ![d]⟩ : Shape).size a) :
    (((SemArray.consecutive base (⟨1, ![d]⟩ : Shape) h : DmaSems sig ⟨1, ![d]⟩).slice (Rect.unit (s := ⟨1, ![d]⟩) o S1.size i)).squeeze S_ Facts₀.squeezes_S1_S_).sem
      = dsem (base + t) := by
  subst ho
  have h1 : (⟨1, ![d]⟩ : Shape).numel = d := by simp [Shape.numel]
  have h2 := i 0
  have h3 : (![t] : Fin 1 → ℕ) 0 + S1.size 0 = t + 1 := rfl
  have h4 : (⟨1, ![d]⟩ : Shape).size 0 = d := rfl
  apply Fin.ext
  rw [dsem_val (by omega)]
  show base + ((⟨1, ![d]⟩ : Shape).rowMajor _ : ℕ) = base + t
  rw [Shape.rowMajor_val_one]
  congr 1
  generalize (Shape.reshapeEquiv _ : _ → _) _ = x
  have hx : (x 0 : ℕ) = 0 := by have : (x 0 : ℕ) < 1 := (x 0).isLt; omega
  show t + 1 * (x 0 : ℕ) = t
  rw [hx]; omega

/-! ## Rows -/

/-- A shape of `n` rows of 2048 elements. -/
abbrev Rows (n : ℕ) : Shape := ⟨2, ![n, 2048]⟩

/-- The elements of row `r`. -/
def rowS (n r : ℕ) : Finset (Rows n).Idx := Finset.univ.filter fun i => (i 0 : ℕ) = r
/-- The elements of the rows from `lo` up to `hi`. -/
def rowsS (n lo hi : ℕ) : Finset (Rows n).Idx := Finset.univ.filter fun i => lo ≤ (i 0 : ℕ) ∧ (i 0 : ℕ) < hi

/-- An index is in row `r` exactly when its first coordinate is `r`. -/
theorem mem_rowS {n r : ℕ} {i : (Rows n).Idx} : i ∈ rowS n r ↔ (i 0 : ℕ) = r := by simp [rowS]
/-- An index is in the rows from `lo` up to `hi` exactly when its first coordinate is. -/
theorem mem_rowsS {n lo hi : ℕ} {i : (Rows n).Idx} : i ∈ rowsS n lo hi ↔ lo ≤ (i 0 : ℕ) ∧ (i 0 : ℕ) < hi := by simp [rowsS]

/-- Rows are a union of single rows. -/
theorem rowsS_biUnion (n lo hi : ℕ) : rowsS n lo hi = (Finset.Ico lo hi).biUnion (rowS n) := by
  ext i
  rw [mem_rowsS, Finset.mem_biUnion]
  constructor
  · intro h; exact ⟨(i 0 : ℕ), Finset.mem_Ico.mpr h, mem_rowS.mpr rfl⟩
  · rintro ⟨r, hr, hi⟩; rw [mem_rowS.mp hi]; exact Finset.mem_Ico.mp hr
/-- All rows together are the whole buffer. -/
theorem rowsS_all (n : ℕ) : rowsS n 0 n = Finset.univ := by
  ext i
  simp only [mem_rowsS, Finset.mem_univ, iff_true]
  exact ⟨Nat.zero_le _, (i 0).isLt⟩
/-- Two different rows share no index. -/
theorem rowS_disjoint (n : ℕ) {r r' : ℕ} (h : r ≠ r') : Disjoint (rowS n r) (rowS n r') := by
  rw [Finset.disjoint_left]; intro i hi hi'; exact h ((mem_rowS.mp hi).symm.trans (mem_rowS.mp hi'))

/-- The unit rectangle of one whole row is that row. -/
theorem unit_row {n r : ℕ} (o : Fin 2 → ℕ) (ho : o = ![r, 0]) (h : ∀ a, o a + S1x2048.size a ≤ (Rows n).size a) :
    (Rect.unit (s := Rows n) o S1x2048.size h).set = rowS n r := by
  subst ho
  ext i
  rw [Rect.mem_set_unit, mem_rowS]
  constructor
  · intro hi
    have h0 := hi 0
    have : (![r, 0] : Fin 2 → ℕ) 0 = r := rfl
    have : S1x2048.size 0 = 1 := rfl
    omega
  · intro hi a
    match a with
    | ⟨0, _⟩ =>
      have : (![r, 0] : Fin 2 → ℕ) 0 = r := rfl
      have : S1x2048.size 0 = 1 := rfl
      show (![r, 0] : Fin 2 → ℕ) 0 ≤ (i 0 : ℕ) ∧ (i 0 : ℕ) < (![r, 0] : Fin 2 → ℕ) 0 + S1x2048.size 0
      omega
    | ⟨1, _⟩ =>
      have h1 : (i 1 : ℕ) < 2048 := (i 1).isLt
      show 0 ≤ (i 1 : ℕ) ∧ (i 1 : ℕ) < 0 + 2048
      omega

/-- The unit rectangle of 128 whole rows is those rows. -/
theorem unit_rows {n r : ℕ} (o : Fin 2 → ℕ) (ho : o = ![r, 0]) (h : ∀ a, o a + S128x2048.size a ≤ (Rows n).size a) :
    (Rect.unit (s := Rows n) o S128x2048.size h).set = rowsS n r (r + 128) := by
  subst ho
  ext i
  rw [Rect.mem_set_unit, mem_rowsS]
  constructor
  · intro hi; exact hi 0
  · intro hi a
    match a with
    | ⟨0, _⟩ => exact hi
    | ⟨1, _⟩ =>
      have h1 : (i 1 : ℕ) < 2048 := (i 1).isLt
      show 0 ≤ (i 1 : ℕ) ∧ (i 1 : ℕ) < 0 + 2048
      omega

/-- What a copy of row `rs` of one buffer onto row `rd` of another leaves there: any contents that agree with the source's row. -/
theorem land_row {n n' rd rs : ℕ} (od : Fin 2 → ℕ) (hod : od = ![rd, 0]) (hd : ∀ a, od a + S1x2048.size a ≤ (Rows n).size a)
    (os : Fin 2 → ℕ) (hos : os = ![rs, 0]) (hsz : ∀ a, os a + S1x2048.size a ≤ (Rows n').size a)
    {sp sp' : Space} (vd : View sig .tc sp (Rows n) .f32) (vs : View sig .tc sp' (Rows n') .f32)
    (fd : vd.ty.Contents (Elt F)) (fs : vs.ty.Contents (Elt F)) (G : (Rows n).Idx → Elt F .f32)
    (hG : ∀ (i : (Rows n).Idx) (j : (Rows n').Idx), (i 0 : ℕ) = rd → (j 0 : ℕ) = rs → (i 1 : ℕ) = (j 1 : ℕ) → G i = vs.read (Elt F) fs j)
    (i : (Rows n).Idx) (hi : i ∈ rowS n rd) :
    vd.read (Elt F) ((vd.slice (Rect.unit (s := Rows n) od S1x2048.size hd)).write (Elt F) fd
      ((vs.slice (Rect.unit (s := Rows n') os S1x2048.size hsz)).read (Elt F) fs) Finset.univ) i = G i := by
  have hi' : i ∈ (Rect.unit (s := Rows n) od S1x2048.size hd).set := by rw [unit_row od hod hd]; exact hi
  rw [← Rect.map_emb_univ] at hi'
  obtain ⟨x, -, rfl⟩ := Finset.mem_map.mp hi'
  rw [View.read_slice_write_emb _ _ _ (Finset.mem_univ x)]
  subst hod hos
  have hx : (x 0 : ℕ) = 0 := by have : (x 0 : ℕ) < 1 := (x 0).isLt; omega
  refine (hG _ ((Rect.unit (s := Rows n') ![rs, 0] S1x2048.size hsz).emb x) ?_ ?_ ?_).symm
  · show rd + 1 * (x 0 : ℕ) = rd
    rw [hx]; omega
  · show rs + 1 * (x 0 : ℕ) = rs
    rw [hx]; omega
  · rfl

/-! ## Loops -/

section Loops
variable {M : Type _} [URA M]

/-- What is held for two adjoining ranges is what is held for their union. -/
theorem Ico_consecutive {a b c : Nat} (hab : a ≤ b) (hbc : b ≤ c) (A : Nat → sProp M) :
    bigSep (Finset.Ico a c) A = iprop(bigSep (Finset.Ico a b) A ∗ bigSep (Finset.Ico b c) A) := by
  rw [← Finset.Ico_union_Ico_eq_Ico hab hbc, bigSep_union (Finset.Ico_disjoint_Ico_consecutive a b c)]
  rfl
end Loops

/-- A counted loop whose trip `k` turns item `k` from `A k` into `B k` and keeps `R` turns all of them. -/
theorem wp_items {Λ : Labels} {c : Thread nD τ} {defs : Defs nD τ sig (Elt F) Λ} {bd : Option 𝒱₀.V} {w n : ℕ} {lb ub st : BitVec w}
    (hok : Scf.OK lb ub st) {σ : Type} (init : σ) (body : Fin (Scf.trips lb ub st) → σ → Prog (TpuEff nD τ sig (Elt F) Λ c.2) σ)
    (hn : Scf.trips lb ub st = n) (R : sProp 𝕄) (A B : ℕ → sProp 𝕄)
    (hbody : ∀ k acc, iprop(R ∗ A k.val) ⊢ wp frame (wpE defs 𝒱₀ c bd) Set.univ (body k acc) fun _ => iprop(R ∗ B k.val))
    {α : Type} (kk : σ → Prog (TpuEff nD τ sig (Elt F) Λ c.2) α) (Q : α → sProp 𝕄) :
    iprop(R ∗ bigSep (Finset.Ico 0 n) A)
      ⊢ iprop((∀ acc, (R ∗ bigSep (Finset.Ico 0 n) B) -∗ wp frame (wpE defs 𝒱₀ c bd) Set.univ (kk acc) Q)
          -∗ wp frame (wpE defs 𝒱₀ c bd) Set.univ (Scf.for lb ub st hok init body >>= kk) Q) := by
  subst hn
  iintro ⟨HR, HA⟩ HK
  iapply (Scf.wp_for_bind frame (wpE defs 𝒱₀ c bd) Set.univ lb ub st hok init body
    (fun k _ => iprop(R ∗ bigSep (Finset.Ico 0 k) B ∗ bigSep (Finset.Ico k (Scf.trips lb ub st)) A)) (fun k acc => by
      rw [bigSep_Ico_succ_bot k.isLt]
      iintro ⟨HR, HB, HA, Hrest⟩
      iapply (wp_wand_r _ _ _)
      isplitl [HR HA]
      · iapply (hbody k acc); isplitl [HR] <;> iassumption
      iintro %_ ⟨HR, HBk⟩
      isplitl [HR]; · iexact HR
      isplitl [HB HBk]
      · rw [bigSep_Ico_succ_top (Nat.zero_le _)]; isplitl [HBk] <;> iassumption
      iexact Hrest)) $$ [HR HA]
  · isplitl [HR]; · iexact HR
    isplitr
    · rw [Finset.Ico_self, bigSep_empty]; iempintro
    · iexact HA
  iintro %acc ⟨HR, HB, -⟩
  iapply HK
  isplitl [HR] <;> iassumption

end Cert.KernelIdeal.Lookup
-- ==== Proof.Gather.lean ====
/-
  One trip of the gather loops: the issue of the local copy of one row of the table into one row of the own chunk buffer, and the
  wait for it.
-/
module

public import proofs.«01_k».proof.Proof.Basis

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

abbrev BodyDefs (F : FTy → Type) : Type 1 := Defs nD τ sig (Elt F) Λ₀
variable {defs : BodyDefs F} {bd : Option 𝒱₀.V}

/-! ## Program pieces -/

/-- The issue of one gather copy, over the four offsets it computes. -/
def issueTrip (o1 : Fin 1 → ℕ) (i1 : ∀ a, o1 a + S1.size a ≤ S4096.size a)
    (chk : BitVec 32 → Prop) (dec : ∀ w, Decidable (chk w)) (o4 : BitVec 32 → Fin 2 → ℕ)
    (i4 : ∀ w, chk w → ∀ a, o4 w a + S1x2048.size a ≤ S8192x2048.size a)
    (o2 : Fin 1 → ℕ) (i2 : ∀ a, o2 a + S1.size a ≤ S128.size a)
    (o3 : Fin 2 → ℕ) (i3 : ∀ a, o3 a + S1x2048.size a ≤ S2560x2048.size a) : Prog (TpuEff nD τ sig (Elt F) Λ₀ .tc) Unit := do
  let w : Elt F .i32 ← smemLoad sidM (Rect.unit (s := S4096) o1 S1.size i1) numel1_S1 rfl
  have hw : chk w := (← Prog.lift (TpuEff.assume (chk w) (dec w))).down
  let s1 : DmaSems sig S1 := cc0_scratch4.slice (Rect.unit (s := S128) o2 S1.size i2)
  let s : DmaSems sig S_ := s1.squeeze S_ squeezes_S1_S_
  let d : Memref sig .tc .vmem S1x2048 .f32 := aM.slice (Rect.unit (s := S2560x2048) o3 S1x2048.size i3) (fun _ => rfl)
  let r : Memref sig .tc .hbm S1x2048 .f32 := eM.slice (Rect.unit (s := S8192x2048) (o4 w) S1x2048.size (i4 w hw)) (fun _ => rfl)
  Prog.lift (.enqueueDma r (.here d) (.dma s.sem) (View.wordExact_bits rfl) (View.wordExact_bits rfl) ⟨Or.inl rfl, trivial⟩)
  pure ⟨⟩

/-- The wait for one gather copy. -/
def waitTrip (o1 : Fin 1 → ℕ) (i1 : ∀ a, o1 a + S1.size a ≤ S4096.size a)
    (chk : BitVec 32 → Prop) (dec : ∀ w, Decidable (chk w)) (o4 : BitVec 32 → Fin 2 → ℕ)
    (i4 : ∀ w, chk w → ∀ a, o4 w a + S1x2048.size a ≤ S8192x2048.size a)
    (o2 : Fin 1 → ℕ) (i2 : ∀ a, o2 a + S1.size a ≤ S128.size a)
    (o3 : Fin 2 → ℕ) (i3 : ∀ a, o3 a + S1x2048.size a ≤ S2560x2048.size a) : Prog (TpuEff nD τ sig (Elt F) Λ₀ .tc) Unit := do
  let w : Elt F .i32 ← smemLoad sidM (Rect.unit (s := S4096) o1 S1.size i1) numel1_S1 rfl
  have hw : chk w := (← Prog.lift (TpuEff.assume (chk w) (dec w))).down
  let s1 : DmaSems sig S1 := cc0_scratch4.slice (Rect.unit (s := S128) o2 S1.size i2)
  let s : DmaSems sig S_ := s1.squeeze S_ squeezes_S1_S_
  let d : Memref sig .tc .vmem S1x2048 .f32 := aM.slice (Rect.unit (s := S2560x2048) o3 S1x2048.size i3) (fun _ => rfl)
  let r : Memref sig .tc .hbm S1x2048 .f32 := eM.slice (Rect.unit (s := S8192x2048) (o4 w) S1x2048.size (i4 w hw)) (fun _ => rfl)
  Prog.lift (.waitDma2 s.sem r d (View.wordExact_bits rfl) (View.wordExact_bits rfl))
  pure ⟨⟩

/-! ## The specification -/

/-- The word that one scalar load of the sorted ids reads. -/
theorem sid_word (fs : sidM.view.ty.Contents (Elt F)) (p : Fin 4096) (i1 : ∀ a, (![p.val] : Fin 1 → ℕ) a + S1.size a ≤ S4096.size a) (h) :
    sidM.view.readAt (Elt F) (Rect.unit (s := S4096) ![p.val] S1.size i1).toLoadRect fs (Shape.Idx.first h) = fs (ix1 p) := by
  show fs _ = fs _
  congr 1
  funext a
  match a with
  | ⟨0, _⟩ => exact Fin.ext (show p.val + 1 * 0 = p.val by omega)

/-- The credit a row's copy brings. -/
abbrev Nrow : ℕ := (aM.slice (Rect.unit (s := S2560x2048) ![0, 0] S1x2048.size (by decide)) (fun _ => rfl)).view.dmaCredit

/-- Row `r` of the own chunk buffer at contents `f`. -/
abbrev aRow (c : Dev nD) (q : PosShare TreeShare) (r : ℕ) (f : Buf (Elt F) (aM.view.loc (c : Thread nD τ))) : sProp 𝕄 :=
  aM.view.loc (c : Thread nD τ) ↦[rowS 2560 r]{q} f
/-- The table, whole, at a share. -/
abbrev ePt (c : Dev nD) (q : PosShare TreeShare) (f : Buf (Elt F) (eM.view.loc (c : Thread nD τ))) : sProp 𝕄 :=
  eM.view.loc (c : Thread nD τ) ↦{q} f
abbrev sidPt (c : Dev nD) (f : Buf (Elt F) (sidM.view.loc (c : Thread nD τ))) : sProp 𝕄 :=
  sidM.view.loc (c : Thread nD τ) ↦{fullShare} f

/-- Between a gather copy's issue and its wait. -/
def midG (c : Dev nD) (sem r rs : ℕ) (q : PosShare TreeShare) (fE : Buf (Elt F) (eM.view.loc (c : Thread nD τ)))
    (G : Buf (Elt F) (aM.view.loc (c : Thread nD τ))) : sProp 𝕄 :=
  iprop(Flight EC (c : Thread nD τ) (.dma (dsem sem)) () Nrow
      iprop(aRow c fullShare r G ∗ (eM.view.loc (c : Thread nD τ) ↦[rowS 8192 rs]{q} fE))
    ∗ (eM.view.loc (c : Thread nD τ) ↦[Finset.univ \ rowS 8192 rs]{q} fE))

/-- One trip of a gather's first loop: the place is read and the copy of its row is started. -/
theorem issueTrip_spec (c : Dev nD) {o1 : Fin 1 → ℕ} {i1 : ∀ a, o1 a + S1.size a ≤ S4096.size a}
    {chk : BitVec 32 → Prop} {dec : ∀ w, Decidable (chk w)} {o4 : BitVec 32 → Fin 2 → ℕ}
    {i4 : ∀ w, chk w → ∀ a, o4 w a + S1x2048.size a ≤ S8192x2048.size a}
    {o2 : Fin 1 → ℕ} {i2 : ∀ a, o2 a + S1.size a ≤ S128.size a}
    {o3 : Fin 2 → ℕ} {i3 : ∀ a, o3 a + S1x2048.size a ≤ S2560x2048.size a}
    (p : Fin 4096) (h1 : o1 = ![p.val]) (t : ℕ) (h2 : o2 = ![t]) (r : ℕ) (h3 : o3 = ![r, 0]) (h4 : ∀ w, o4 w = ![w.toNat, 0])
    (hchk : ∀ w : BitVec 32, w.toNat < 8192 → chk w)
    (fs : Buf (Elt F) (sidM.view.loc (c : Thread nD τ))) (hs : (fs (ix1 p) : BitVec 32).toNat < 8192)
    (q : PosShare TreeShare) (fE : Buf (Elt F) (eM.view.loc (c : Thread nD τ))) (G : Buf (Elt F) (aM.view.loc (c : Thread nD τ)))
    (hG : ∀ (i : (Rows 2560).Idx) (j : (Rows 8192).Idx), (i 0 : ℕ) = r → (j 0 : ℕ) = (fs (ix1 p) : BitVec 32).toNat → (i 1 : ℕ) = (j 1 : ℕ) → G i = fE j) :
    iprop(sidPt c fs ∗ (∃ f, aRow c fullShare r f) ∗ ePt c q fE ∗ semVal ((c : Thread nD τ), .dma (dsem (43 + t))) 0)
      ⊢ wp frame (wpE defs 𝒱₀ (c : Thread nD τ) bd) Set.univ (issueTrip (F := F) o1 i1 chk dec o4 i4 o2 i2 o3 i3)
        fun _ => iprop(sidPt c fs ∗ midG c (43 + t) r (fs (ix1 p) : BitVec 32).toNat q fE G) := by
  obtain rfl : o4 = fun w => ![w.toNat, 0] := funext h4
  subst h1 h2 h3
  have hw : chk (fs (ix1 p)) := hchk _ hs
  unfold issueTrip sidPt midG
  iintro ⟨Hs, ⟨%fd, Hd⟩, HE, Hv⟩
  simp only [smemLoad, smemLoadElt, Prog.lift, Prog.bind_op, Prog.bind_ret, Prog.pure_eq_ret, Prog.bind_assoc]
  iapply (wp_load 𝒱₀ (c : Thread nD τ) bd Set.univ (m := sidM) (Finset.subset_univ _)) $$ Hs
  iintro Hs
  generalize hv : View.readAt (Elt F) sidM.view (Rect.unit (s := S4096) ![p.val] S1.size i1).toLoadRect fs (Shape.Idx.first _) = v
  obtain rfl : fs (ix1 p) = v := (sid_word fs p i1 _).symm.trans hv
  rw [wp_assume_of _ _ _ _ hw]
  rw [← sem_one (d := 128) hcc0_scratch4 ![t] rfl i2]
  ihave HE := (pointsTo_split_subset (Finset.subset_univ (rowS 8192 (BitVec.toNat (fs (ix1 p)))))).1 $$ HE
  icases HE with ⟨HE, HE'⟩
  have hset : (eM.slice (Rect.unit (s := S8192x2048) ![BitVec.toNat (fs (ix1 p)), 0] S1x2048.size (i4 _ hw)) (fun _ => rfl)).view.set
      = rowS 8192 (BitVec.toNat (fs (ix1 p))) := (View.set_slice_whole _ _).trans (unit_row _ rfl _)
  have hset' : (aM.slice (Rect.unit (s := S2560x2048) ![r, 0] S1x2048.size i3) (fun _ => rfl)).view.set = rowS 2560 r :=
    (View.set_slice_whole _ _).trans (unit_row _ rfl _)
  iapply (wp_dmaLocal EC 𝒱₀ (c : Thread nD τ) bd (src := eM.slice (Rect.unit (s := S8192x2048) ![BitVec.toNat (fs (ix1 p)), 0] S1x2048.size (i4 _ hw)) (fun _ => rfl))
      (dst := aM.slice (Rect.unit (s := S2560x2048) ![r, 0] S1x2048.size i3) (fun _ => rfl)) (Sd := rowS 2560 r) (fs := fE) (fd := fd) (q := q)
      () Nrow rfl (View.dmaCredit_pos _ (by decide)) (by rw [hset'])) $$ [HE Hd Hv]
  · isplitl [HE]; · rw [hset]; iexact HE
    isplitl [Hd]; · iexact Hd
    iexact Hv
  iintro Hf
  rw [wp_ret]
  imodintro
  isplitl [Hs]; · iexact Hs
  isplitr [HE']
  · iapply (Flight_mono EC (c : Thread nD τ) ?_) $$ Hf
    rw [hset]
    refine sep_mono_left (Entails.of_eq (pointsTo_congr fun i hi => ?_))
    have h := land_row _ rfl i3 _ rfl (i4 _ hw) aM.view eM.view fd fE G hG i hi
    rw [View.read_whole] at h
    rw [← h]
  · iexact HE'

/-- What the thread owes, with some record of its waits. -/
def ow (c : Dev nD) (O : CellTallies nD τ sig Unit) : sProp 𝕄 := iprop(∃ W, owes (c : Thread nD τ) O W)

/-- One trip of a gather's second loop: the copy is waited for and its row is held again. -/
theorem waitTrip_spec (c : Dev nD) {o1 : Fin 1 → ℕ} {i1 : ∀ a, o1 a + S1.size a ≤ S4096.size a}
    {chk : BitVec 32 → Prop} {dec : ∀ w, Decidable (chk w)} {o4 : BitVec 32 → Fin 2 → ℕ}
    {i4 : ∀ w, chk w → ∀ a, o4 w a + S1x2048.size a ≤ S8192x2048.size a}
    {o2 : Fin 1 → ℕ} {i2 : ∀ a, o2 a + S1.size a ≤ S128.size a}
    {o3 : Fin 2 → ℕ} {i3 : ∀ a, o3 a + S1x2048.size a ≤ S2560x2048.size a}
    (p : Fin 4096) (h1 : o1 = ![p.val]) (t : ℕ) (h2 : o2 = ![t]) (r : ℕ) (h3 : o3 = ![r, 0])
    (hchk : ∀ w : BitVec 32, w.toNat < 8192 → chk w)
    (fs : Buf (Elt F) (sidM.view.loc (c : Thread nD τ))) (hs : (fs (ix1 p) : BitVec 32).toNat < 8192)
    (q : PosShare TreeShare) (fE : Buf (Elt F) (eM.view.loc (c : Thread nD τ))) (G : Buf (Elt F) (aM.view.loc (c : Thread nD τ)))
    (O : CellTallies nD τ sig Unit) (PL : sProp 𝕄) (hPL : PL ⊢ MayWait (c : Thread nD τ) (.dma (dsem (43 + t))) () O) :
    iprop(sidPt c fs ∗ ow c O ∗ PL ∗ midG c (43 + t) r (fs (ix1 p) : BitVec 32).toNat q fE G)
      ⊢ wp frame (wpE defs 𝒱₀ (c : Thread nD τ) bd) Set.univ (waitTrip (F := F) o1 i1 chk dec o4 i4 o2 i2 o3 i3)
        fun _ => iprop(sidPt c fs ∗ ow c O ∗ aRow c fullShare r G ∗ ePt c q fE ∗ semVal ((c : Thread nD τ), .dma (dsem (43 + t))) 0) := by
  subst h1 h2 h3
  have hw : chk (fs (ix1 p)) := hchk _ hs
  unfold waitTrip sidPt midG ow
  iintro ⟨Hs, ⟨%W, HO⟩, HPL, Hf, HE'⟩
  simp only [smemLoad, smemLoadElt, Prog.lift, Prog.bind_op, Prog.bind_ret, Prog.pure_eq_ret, Prog.bind_assoc]
  iapply (wp_load 𝒱₀ (c : Thread nD τ) bd Set.univ (m := sidM) (Finset.subset_univ _)) $$ Hs
  iintro Hs
  generalize hv : View.readAt (Elt F) sidM.view (Rect.unit (s := S4096) ![p.val] S1.size i1).toLoadRect fs (Shape.Idx.first _) = v
  obtain rfl : fs (ix1 p) = v := (sid_word fs p i1 _).symm.trans hv
  rw [wp_assume_of _ _ _ _ hw]
  rw [← sem_one (d := 128) hcc0_scratch4 ![t] rfl i2] at hPL ⊢
  iapply (wp_waitLocalO EC 𝒱₀ (c : Thread nD τ) bd
      (srcw := eM.slice (Rect.unit (s := S8192x2048) (o4 (fs (ix1 p))) S1x2048.size (i4 _ hw)) (fun _ => rfl))
      (dstw := aM.slice (Rect.unit (s := S2560x2048) ![r, 0] S1x2048.size i3) (fun _ => rfl)) () (N := Nrow) rfl) $$ [Hf HO HPL]
  · isplitl [Hf]; · iexact Hf
    isplitl [HO]; · iexact HO
    iapply hPL; iexact HPL
  iintro ⟨⟨Ha, HE⟩, Hv, HO⟩
  rw [wp_ret]
  imodintro
  isplitl [Hs]; · iexact Hs
  isplitl [HO]; · iexists _; iexact HO
  isplitl [Ha]; · iexact Ha
  isplitl [HE HE']
  · iapply (pointsTo_split_subset (Finset.subset_univ (rowS 8192 (BitVec.toNat (fs (ix1 p)))))).2
    isplitl [HE] <;> iassumption
  iexact Hv

end Cert.KernelIdeal.Lookup
-- ==== Proof.Scatter.lean ====
/-
  One trip of the scatter loops: the wait for the copy that last used the ring's semaphore, the issue of the local copy of one row of
  a chunk buffer into the row of the result that the permutation names; and one trip of the loops that drain the ring.
-/
module

public import proofs.«01_k».proof.Proof.Gather

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}

/-! ## Program pieces -/

/-- The issue of one scatter copy from the chunk buffer `M`, over the four offsets it computes. -/
def ringIssue (M : Memref sig .tc .vmem S2560x2048 .f32) (base : ℕ) (hb : base + S64.numel ≤ 299)
    (o1 : Fin 1 → ℕ) (i1 : ∀ a, o1 a + S1.size a ≤ S4096.size a)
    (chk : BitVec 32 → Prop) (dec : ∀ w, Decidable (chk w)) (o4 : BitVec 32 → Fin 2 → ℕ)
    (i4 : ∀ w, chk w → ∀ a, o4 w a + S1x2048.size a ≤ S4096x2048.size a)
    (o2 : Fin 1 → ℕ) (i2 : ∀ a, o2 a + S1.size a ≤ S64.size a)
    (o3 : Fin 2 → ℕ) (i3 : ∀ a, o3 a + S1x2048.size a ≤ S2560x2048.size a) : Prog (TpuEff nD τ sig (Elt F) Λ₀ .tc) (BitVec 32) := do
  let w : Elt F .i32 ← smemLoad permM (Rect.unit (s := S4096) o1 S1.size i1) numel1_S1 rfl
  have hw : chk w := (← Prog.lift (TpuEff.assume (chk w) (dec w))).down
  let s1 : DmaSems sig S1 := (SemArray.consecutive base S64 hb : DmaSems sig S64).slice (Rect.unit (s := S64) o2 S1.size i2)
  let s : DmaSems sig S_ := s1.squeeze S_ squeezes_S1_S_
  let d : Memref sig .tc .hbm S1x2048 .f32 := oM.slice (Rect.unit (s := S4096x2048) (o4 w) S1x2048.size (i4 w hw)) (fun _ => rfl)
  let r : Memref sig .tc .vmem S1x2048 .f32 := M.slice (Rect.unit (s := S2560x2048) o3 S1x2048.size i3) (fun _ => rfl)
  Prog.lift (.enqueueDma r (.here d) (.dma s.sem) (View.wordExact_bits rfl) (View.wordExact_bits rfl) ⟨Or.inl rfl, trivial⟩)
  pure 0#32

/-- The wait for one scatter copy, yielding `z`. -/
def ringWait {α : Type} (z : α) (M : Memref sig .tc .vmem S2560x2048 .f32) (base : ℕ) (hb : base + S64.numel ≤ 299)
    (o1 : Fin 1 → ℕ) (i1 : ∀ a, o1 a + S1.size a ≤ S4096.size a)
    (chk : BitVec 32 → Prop) (dec : ∀ w, Decidable (chk w)) (o4 : BitVec 32 → Fin 2 → ℕ)
    (i4 : ∀ w, chk w → ∀ a, o4 w a + S1x2048.size a ≤ S4096x2048.size a)
    (o2 : Fin 1 → ℕ) (i2 : ∀ a, o2 a + S1.size a ≤ S64.size a)
    (o3 : Fin 2 → ℕ) (i3 : ∀ a, o3 a + S1x2048.size a ≤ S2560x2048.size a) : Prog (TpuEff nD τ sig (Elt F) Λ₀ .tc) α := do
  let w : Elt F .i32 ← smemLoad permM (Rect.unit (s := S4096) o1 S1.size i1) numel1_S1 rfl
  have hw : chk w := (← Prog.lift (TpuEff.assume (chk w) (dec w))).down
  let s1 : DmaSems sig S1 := (SemArray.consecutive base S64 hb : DmaSems sig S64).slice (Rect.unit (s := S64) o2 S1.size i2)
  let s : DmaSems sig S_ := s1.squeeze S_ squeezes_S1_S_
  let d : Memref sig .tc .hbm S1x2048 .f32 := oM.slice (Rect.unit (s := S4096x2048) (o4 w) S1x2048.size (i4 w hw)) (fun _ => rfl)
  let r : Memref sig .tc .vmem S1x2048 .f32 := M.slice (Rect.unit (s := S2560x2048) o3 S1x2048.size i3) (fun _ => rfl)
  Prog.lift (.waitDma2 s.sem r d (View.wordExact_bits rfl) (View.wordExact_bits rfl))
  pure z

/-- A scatter trip: under the condition the wait, then the issue. -/
def ringTrip (cnd : BitVec 1) (W : cnd = 1#1 → Prog (TpuEff nD τ sig (Elt F) Λ₀ .tc) PUnit)
    (I : Prog (TpuEff nD τ sig (Elt F) Λ₀ .tc) (BitVec 32)) : Prog (TpuEff nD τ sig (Elt F) Λ₀ .tc) (BitVec 32) := do
  if h : cnd = 1#1 then W h else pure ⟨⟩
  I

/-! ## The specification -/

/-- The credit a result row's copy brings. -/
abbrev Nout : ℕ := (oM.slice (Rect.unit (s := S4096x2048) ![0, 0] S1x2048.size (by decide)) (fun _ => rfl)).view.dmaCredit

abbrev permPt (c : Dev nD) (f : Buf (Elt F) (permM.view.loc (c : Thread nD τ))) : sProp 𝕄 :=
  permM.view.loc (c : Thread nD τ) ↦{fullShare} f
/-- Row `r` of the result at contents `f`. -/
abbrev oRow (c : Dev nD) (r : ℕ) (f : Buf (Elt F) (oM.view.loc (c : Thread nD τ))) : sProp 𝕄 :=
  oM.view.loc (c : Thread nD τ) ↦[rowS 4096 r]{fullShare} f
/-- Row `r` of a chunk buffer. -/
abbrev mRow (M : Memref sig .tc .vmem S2560x2048 .f32) (c : Dev nD) (q : PosShare TreeShare) (r : ℕ) (f : Buf (Elt F) (M.view.loc (c : Thread nD τ))) : sProp 𝕄 :=
  M.view.loc (c : Thread nD τ) ↦[(rowS 2560 r).map M.view.emb]{q} f

/-- A scatter copy in flight. -/
def flyS (M : Memref sig .tc .vmem S2560x2048 .f32) (c : Dev nD) (sem ro rs : ℕ) (q : PosShare TreeShare)
    (fM : Buf (Elt F) (M.view.loc (c : Thread nD τ))) (G : Buf (Elt F) (oM.view.loc (c : Thread nD τ))) : sProp 𝕄 :=
  Flight EC (c : Thread nD τ) (.dma (dsem sem)) () Nout iprop(oRow c ro G ∗ mRow M c q rs fM)

/-- The word that one scalar load of the permutation reads. -/
theorem perm_word (fs : permM.view.ty.Contents (Elt F)) (p : Fin 4096) (i1 : ∀ a, (![p.val] : Fin 1 → ℕ) a + S1.size a ≤ S4096.size a) (h) :
    permM.view.readAt (Elt F) (Rect.unit (s := S4096) ![p.val] S1.size i1).toLoadRect fs (Shape.Idx.first h) = fs (ix1 p) := by
  show fs _ = fs _
  congr 1
  funext a
  match a with
  | ⟨0, _⟩ => exact Fin.ext (show p.val + 1 * 0 = p.val by omega)

/-- The issue turns the source row, the result's row and the idle semaphore into the flight. -/
theorem ringIssue_spec (M : Memref sig .tc .vmem S2560x2048 .f32) (base : ℕ) (hb : base + S64.numel ≤ 299) (c : Dev nD)
    {o1 : Fin 1 → ℕ} {i1 : ∀ a, o1 a + S1.size a ≤ S4096.size a}
    {chk : BitVec 32 → Prop} {dec : ∀ w, Decidable (chk w)} {o4 : BitVec 32 → Fin 2 → ℕ}
    {i4 : ∀ w, chk w → ∀ a, o4 w a + S1x2048.size a ≤ S4096x2048.size a}
    {o2 : Fin 1 → ℕ} {i2 : ∀ a, o2 a + S1.size a ≤ S64.size a}
    {o3 : Fin 2 → ℕ} {i3 : ∀ a, o3 a + S1x2048.size a ≤ S2560x2048.size a}
    (p : Fin 4096) (h1 : o1 = ![p.val]) (t : ℕ) (h2 : o2 = ![t]) (r : ℕ) (h3 : o3 = ![r, 0]) (h4 : ∀ w, o4 w = ![w.toNat, 0])
    (hchk : ∀ w : BitVec 32, w.toNat < 4096 → chk w)
    (fs : Buf (Elt F) (permM.view.loc (c : Thread nD τ))) (hs : (fs (ix1 p) : BitVec 32).toNat < 4096)
    (q : PosShare TreeShare) (fM : Buf (Elt F) (M.view.loc (c : Thread nD τ))) (G : Buf (Elt F) (oM.view.loc (c : Thread nD τ)))
    (hG : ∀ (i : (Rows 4096).Idx) (j : (Rows 2560).Idx), (i 0 : ℕ) = (fs (ix1 p) : BitVec 32).toNat → (j 0 : ℕ) = r → (i 1 : ℕ) = (j 1 : ℕ)
      → G i = M.view.read (Elt F) fM j) :
    iprop(permPt c fs ∗ (∃ f, oRow c (fs (ix1 p) : BitVec 32).toNat f) ∗ mRow M c q r fM ∗ semVal ((c : Thread nD τ), .dma (dsem (base + t))) 0)
      ⊢ wp frame (wpE defs 𝒱₀ (c : Thread nD τ) bd) Set.univ (ringIssue (F := F) M base hb o1 i1 chk dec o4 i4 o2 i2 o3 i3)
        fun _ => iprop(permPt c fs ∗ flyS M c (base + t) (fs (ix1 p) : BitVec 32).toNat r q fM G) := by
  obtain rfl : o4 = fun w => ![w.toNat, 0] := funext h4
  subst h1 h2 h3
  have hw : chk (fs (ix1 p)) := hchk _ hs
  unfold ringIssue permPt flyS
  iintro ⟨Hs, ⟨%fd, Hd⟩, HE, Hv⟩
  simp only [smemLoad, smemLoadElt, Prog.lift, Prog.bind_op, Prog.bind_ret, Prog.pure_eq_ret, Prog.bind_assoc]
  iapply (wp_load 𝒱₀ (c : Thread nD τ) bd Set.univ (m := permM) (Finset.subset_univ _)) $$ Hs
  iintro Hs
  generalize hv : View.readAt (Elt F) permM.view (Rect.unit (s := S4096) ![p.val] S1.size i1).toLoadRect fs (Shape.Idx.first _) = v
  obtain rfl : fs (ix1 p) = v := (perm_word fs p i1 _).symm.trans hv
  rw [wp_assume_of _ _ _ _ hw]
  rw [← sem_one (d := 64) hb ![t] rfl i2]
  have hset : (M.slice (Rect.unit (s := S2560x2048) ![r, 0] S1x2048.size i3) (fun _ => rfl)).view.set = (rowS 2560 r).map M.view.emb :=
    (View.set_slice _ _).trans (congrArg _ (unit_row _ rfl _))
  have hset' : (oM.slice (Rect.unit (s := S4096x2048) ![BitVec.toNat (fs (ix1 p)), 0] S1x2048.size (i4 _ hw)) (fun _ => rfl)).view.set
      = rowS 4096 (BitVec.toNat (fs (ix1 p))) := (View.set_slice_whole _ _).trans (unit_row _ rfl _)
  iapply (wp_dmaLocal EC 𝒱₀ (c : Thread nD τ) bd (src := M.slice (Rect.unit (s := S2560x2048) ![r, 0] S1x2048.size i3) (fun _ => rfl))
      (dst := oM.slice (Rect.unit (s := S4096x2048) ![BitVec.toNat (fs (ix1 p)), 0] S1x2048.size (i4 _ hw)) (fun _ => rfl))
      (Sd := rowS 4096 (BitVec.toNat (fs (ix1 p)))) (fs := fM) (fd := fd) (q := q)
      () Nout rfl (View.dmaCredit_pos _ (by decide)) (by rw [hset'])) $$ [HE Hd Hv]
  · isplitl [HE]; · rw [hset]; iexact HE
    isplitl [Hd]; · iexact Hd
    iexact Hv
  iintro Hf
  rw [wp_ret]
  imodintro
  isplitl [Hs]; · iexact Hs
  iapply (Flight_mono EC (c : Thread nD τ) ?_) $$ Hf
  rw [hset]
  refine sep_mono_left (Entails.of_eq (pointsTo_congr fun i hi => ?_))
  have h := land_row _ rfl (i4 _ hw) _ rfl i3 oM.view M.view fd fM G hG i hi
  rw [View.read_whole] at h
  rw [← h]

/-- The wait takes the flight back into the source row, the landed result row and the idle semaphore. -/
theorem ringWait_spec {α : Type} (z : α) (M : Memref sig .tc .vmem S2560x2048 .f32) (base : ℕ) (hb : base + S64.numel ≤ 299) (c : Dev nD)
    {o1 : Fin 1 → ℕ} {i1 : ∀ a, o1 a + S1.size a ≤ S4096.size a}
    {chk : BitVec 32 → Prop} {dec : ∀ w, Decidable (chk w)} {o4 : BitVec 32 → Fin 2 → ℕ}
    {i4 : ∀ w, chk w → ∀ a, o4 w a + S1x2048.size a ≤ S4096x2048.size a}
    {o2 : Fin 1 → ℕ} {i2 : ∀ a, o2 a + S1.size a ≤ S64.size a}
    {o3 : Fin 2 → ℕ} {i3 : ∀ a, o3 a + S1x2048.size a ≤ S2560x2048.size a}
    (p : Fin 4096) (h1 : o1 = ![p.val]) (t : ℕ) (h2 : o2 = ![t])
    (hchk : ∀ w : BitVec 32, w.toNat < 4096 → chk w)
    (fs : Buf (Elt F) (permM.view.loc (c : Thread nD τ))) (hs : (fs (ix1 p) : BitVec 32).toNat < 4096)
    (ro r : ℕ) (q : PosShare TreeShare) (fM : Buf (Elt F) (M.view.loc (c : Thread nD τ))) (G : Buf (Elt F) (oM.view.loc (c : Thread nD τ)))
    (O : CellTallies nD τ sig Unit) (PL : sProp 𝕄) (hPL : PL ⊢ MayWait (c : Thread nD τ) (.dma (dsem (base + t))) () O) :
    iprop(permPt c fs ∗ ow c O ∗ PL ∗ flyS M c (base + t) ro r q fM G)
      ⊢ wp frame (wpE defs 𝒱₀ (c : Thread nD τ) bd) Set.univ (ringWait (F := F) z M base hb o1 i1 chk dec o4 i4 o2 i2 o3 i3)
        fun _ => iprop(permPt c fs ∗ ow c O ∗ oRow c ro G ∗ mRow M c q r fM ∗ semVal ((c : Thread nD τ), .dma (dsem (base + t))) 0) := by
  subst h1 h2
  have hw : chk (fs (ix1 p)) := hchk _ hs
  unfold ringWait permPt flyS ow
  iintro ⟨Hs, ⟨%W, HO⟩, HPL, Hf⟩
  simp only [smemLoad, smemLoadElt, Prog.lift, Prog.bind_op, Prog.bind_ret, Prog.pure_eq_ret, Prog.bind_assoc]
  iapply (wp_load 𝒱₀ (c : Thread nD τ) bd Set.univ (m := permM) (Finset.subset_univ _)) $$ Hs
  iintro Hs
  generalize hv : View.readAt (Elt F) permM.view (Rect.unit (s := S4096) ![p.val] S1.size i1).toLoadRect fs (Shape.Idx.first _) = v
  obtain rfl : fs (ix1 p) = v := (perm_word fs p i1 _).symm.trans hv
  rw [wp_assume_of _ _ _ _ hw]
  rw [← sem_one (d := 64) hb ![t] rfl i2] at hPL ⊢
  iapply (wp_waitLocalO EC 𝒱₀ (c : Thread nD τ) bd
      (srcw := M.slice (Rect.unit (s := S2560x2048) o3 S1x2048.size i3) (fun _ => rfl))
      (dstw := oM.slice (Rect.unit (s := S4096x2048) (o4 (fs (ix1 p))) S1x2048.size (i4 _ hw)) (fun _ => rfl)) () (N := Nout) rfl) $$ [Hf HO HPL]
  · isplitl [Hf]; · iexact Hf
    isplitl [HO]; · iexact HO
    iapply hPL; iexact HPL
  iintro ⟨⟨Ho, Hm⟩, Hv, HO⟩
  rw [wp_ret]
  imodintro
  isplitl [Hs]; · iexact Hs
  isplitl [HO]; · iexists _; iexact HO
  isplitl [Ho]; · iexact Ho
  isplitl [Hm]; · iexact Hm
  iexact Hv

end Cert.KernelIdeal.Lookup
-- ==== Proof.Words.lean ====
/-
  The numbers behind the kernel's word arithmetic: where this device's rows of the sorted list start and how many there are, the
  partner's, how many chunks of 128 rows each makes, and the positions the loops compute from them.
-/
module

public import proofs.«01_k».proof.Proof.Basis
public import Idealize.ShloMosaic.Lib.WordArith
public import Idealize.ShloMosaic.Lib.WordCmp

@[expose] public section

namespace Cert.KernelIdeal.Lookup

open Idealize.ShloMosaic Idealize.ShloMosaic.WordArith Idealize.ShloMosaic.WordCmp
open Facts₀

/-! ## Words that stand for a small number -/

/-- The word `x` stands for the number `n`, which is far from the sign bit. -/
def Is (x : BitVec 32) (n : ℕ) : Prop := x.toNat = n ∧ n < 2 ^ 31

/-- A word that is `n` has the value `n`. -/
theorem Is.val {x : BitVec 32} {n : ℕ} (h : Is x n) : x.toNat = n := h.1
/-- A word that is `n` is small. -/
theorem Is.lt {x : BitVec 32} {n : ℕ} (h : Is x n) : n < 2 ^ 31 := h.2
/-- A word that is `n` is `n` as a signed word too. -/
theorem Is.toInt {x : BitVec 32} {n : ℕ} (h : Is x n) : x.toInt = n := by
  rw [toInt_eq_toNat_of_lt_half (by rw [h.1]; exact h.2), h.1]
/-- A small literal is its number. -/
theorem Is.lit (n : ℕ) (h : n < 2 ^ 31) : Is (BitVec.ofNat 32 n) n := ⟨toNat_ofNat_of_lt n (by omega), h⟩
/-- A word that is `n` is the literal `n`. -/
theorem Is.eq {x : BitVec 32} {n : ℕ} (h : Is x n) : x = BitVec.ofNat 32 n := by
  apply BitVec.eq_of_toNat_eq
  rw [h.1, toNat_ofNat_of_lt n (by have := h.2; omega)]

/-- The sum of words is the sum of their numbers. -/
theorem Is.add {x y : BitVec 32} {m n : ℕ} (a : Is x m) (b : Is y n) (h : m + n < 2 ^ 31) : Is (Scalar.addi x y) (m + n) := by
  refine ⟨?_, h⟩
  show (x + y).toNat = _
  rw [BitVec.toNat_add, a.1, b.1]; omega
/-- The difference of words is the difference of their numbers. -/
theorem Is.sub {x y : BitVec 32} {m n : ℕ} (a : Is x m) (b : Is y n) (h : n ≤ m) : Is (Scalar.subi x y) (m - n) := by
  have := a.2
  refine ⟨?_, by omega⟩
  show (x - y).toNat = _
  rw [BitVec.toNat_sub, a.1, b.1]; omega
/-- The smaller of two words is the smaller of their numbers. -/
theorem Is.min {x y : BitVec 32} {m n : ℕ} (a : Is x m) (b : Is y n) : Is (Scalar.minsi x y) (min m n) := by
  refine ⟨?_, lt_of_le_of_lt (min_le_left _ _) a.2⟩
  show (IntOp.minsi x y).toNat = _
  rw [toNat_minsi_of_lt x y (by rw [a.1]; exact a.2) (by rw [b.1]; exact b.2), a.1, b.1]
/-- A word times one is itself. -/
theorem Is.mul_one {x : BitVec 32} {m : ℕ} (a : Is x m) : Is (Scalar.muli x 1#32) m := by
  show Is (x * 1#32) m
  rw [BitVec.mul_one]; exact a
/-- A word divided by one is itself. -/
theorem Is.div_one {x : BitVec 32} {m : ℕ} (a : Is x m) : Is (Scalar.divsi x 1#32) m := by
  show Is (IntOp.divsi .scalar x 1#32) m
  rw [divsi_one]; exact a
/-- A division by a positive word is not one of the two that have no quotient. -/
theorem not_corner {y : BitVec 32} {n : ℕ} (b : Is y n) (h : 0 < n) (x : BitVec 32) : ¬ IntOp.SDivCorner x y := by
  rintro (h0 | ⟨-, h1⟩)
  · rw [h0] at b; exact absurd b.1 (by simp; omega)
  · rw [h1] at b; have := b.1; have := b.2; simp at *; omega
/-- The quotient of words is the quotient of their numbers. -/
theorem Is.div {x y : BitVec 32} {m n : ℕ} (a : Is x m) (b : Is y n) (h : 0 < n) : Is (Scalar.divsi x y) (m / n) := by
  refine ⟨?_, lt_of_le_of_lt (Nat.div_le_self _ _) a.2⟩
  show (IntOp.divsi .scalar x y).toNat = _
  unfold IntOp.divsi
  rw [if_neg (not_corner b h x)]
  have hx : x.msb = false := by rw [BitVec.msb_eq_false_iff_two_mul_lt, a.1]; have := a.2; omega
  have hy : y.msb = false := by rw [BitVec.msb_eq_false_iff_two_mul_lt, b.1]; have := b.2; omega
  rw [BitVec.sdiv_eq, hx, hy]
  simp [a.1, b.1]
/-- The remainder of words is the remainder of their numbers. -/
theorem Is.rem {x y : BitVec 32} {m n : ℕ} (a : Is x m) (b : Is y n) (h : 0 < n) : Is (Scalar.remsi x y) (m % n) := by
  refine ⟨?_, lt_of_le_of_lt (Nat.mod_le _ _) a.2⟩
  show (IntOp.remsi .scalar x y).toNat = _
  unfold IntOp.remsi
  rw [if_neg (not_corner b h x)]
  have hx : x.msb = false := by rw [BitVec.msb_eq_false_iff_two_mul_lt, a.1]; have := a.2; omega
  have hy : y.msb = false := by rw [BitVec.msb_eq_false_iff_two_mul_lt, b.1]; have := b.2; omega
  rw [BitVec.srem_eq, hx, hy]
  simp [a.1, b.1]
/-- The counter of a loop by ones. -/
theorem Is.iv {x : BitVec 32} {m : ℕ} (a : Is x m) (k : ℕ) (h : m + k < 2 ^ 31) : Is (Scf.iv x 1#32 k) (m + k) := by
  refine ⟨?_, h⟩
  unfold Scf.iv
  rw [BitVec.mul_one, BitVec.toNat_add, a.1, toNat_ofNat_of_lt k (by omega)]; omega

/-- Greater, of words, is greater, of their numbers. -/
theorem Is.sgt {x y : BitVec 32} {m n : ℕ} (a : Is x m) (b : Is y n) : Scalar.cmpi .sgt x y = BitVec.ofBool (decide (n < m)) := by
  show IntOp.cmpi .sgt x y = _
  rw [cmpi_sgt_eq, a.toInt, b.toInt]
  simp only [Nat.cast_lt]
/-- Less, of words, is less, of their numbers. -/
theorem Is.slt {x y : BitVec 32} {m n : ℕ} (a : Is x m) (b : Is y n) : Scalar.cmpi .slt x y = BitVec.ofBool (decide (m < n)) := by
  show IntOp.cmpi .slt x y = _
  rw [cmpi_slt_eq, a.toInt, b.toInt]
  simp only [Nat.cast_lt]
/-- At least, of words, is at least, of their numbers. -/
theorem Is.sge {x y : BitVec 32} {m n : ℕ} (a : Is x m) (b : Is y n) : Scalar.cmpi .sge x y = BitVec.ofBool (decide (n ≤ m)) := by
  show IntOp.cmpi .sge x y = _
  rw [cmpi_sge_eq, a.toInt, b.toInt]
  simp only [Nat.cast_le]

/-- A flag widened and compared with zero is the flag. -/
theorem flag (p : Prop) [Decidable p] :
    Scalar.cmpi .ne (Scalar.extui (BitVec.ofBool (decide p))) 0#32 = BitVec.ofBool (decide p) := by
  cases decide p <;> decide
/-- The bit of a decision is one exactly when it holds. -/
theorem ofBool_iff (p : Prop) [Decidable p] : (BitVec.ofBool (decide p) = 1#1) ↔ p := by
  by_cases h : p <;> simp [h]

/-! ## The kernel's sizes -/

/-- The device's coordinate along the cut axis, as the kernel computes it. -/
abbrev wX (d : Dev nD) : BitVec 32 := Scalar.remsi (Scalar.divsi (Dev.word d) 16#32) 2#32
/-- Where this device's rows start in the sorted list, and how many there are; then the partner's. -/
abbrev wS (d : Dev nD) (v : BitVec 32) : BitVec 32 := Scalar.select (Scalar.cmpi .eq (wX d) 0#32) 0#32 v
abbrev wM (d : Dev nD) (v : BitVec 32) : BitVec 32 := Scalar.select (Scalar.cmpi .eq (wX d) 0#32) v (Scalar.subi 4096#32 v)
abbrev wSp (d : Dev nD) (v : BitVec 32) : BitVec 32 := Scalar.select (Scalar.cmpi .eq (wX d) 0#32) v 0#32
abbrev wMp (d : Dev nD) (v : BitVec 32) : BitVec 32 := Scalar.subi 4096#32 (wM d v)
/-- The number of chunks of `m` rows. -/
abbrev wN (m : BitVec 32) : BitVec 32 :=
  Scalar.select
    (Scalar.andi
      (Scalar.cmpi .ne
        (Scalar.subi (Scalar.extui (Scalar.cmpi .sgt (Scalar.subi (Scalar.addi m 128#32) 1#32) 0#32)) (Scalar.extui (Scalar.cmpi .slt (Scalar.subi (Scalar.addi m 128#32) 1#32) 0#32)))
        (Scalar.subi (Scalar.extui (Scalar.cmpi .sgt 128#32 0#32)) (Scalar.extui (Scalar.cmpi .slt 128#32 0#32))))
      (Scalar.cmpi .ne (Scalar.remsi (Scalar.subi (Scalar.addi m 128#32) 1#32) 128#32) 0#32))
    (Scalar.subi (Scalar.divsi (Scalar.subi (Scalar.addi m 128#32) 1#32) 128#32) 1#32)
    (Scalar.divsi (Scalar.subi (Scalar.addi m 128#32) 1#32) 128#32)
/-- The ring's slot of item `i`. -/
abbrev wSlot (i : BitVec 32) : BitVec 32 :=
  Scalar.select
    (Scalar.andi
      (Scalar.xori (Scalar.cmpi .slt (Scalar.remsi i (Scalar.select (Scalar.cmpi .eq 64#32 0#32) 1#32 64#32)) 0#32)
        (Scalar.cmpi .slt (Scalar.select (Scalar.cmpi .eq 64#32 0#32) 1#32 64#32) 0#32))
      (Scalar.cmpi .ne (Scalar.remsi i (Scalar.select (Scalar.cmpi .eq 64#32 0#32) 1#32 64#32)) 0#32))
    (Scalar.addi (Scalar.remsi i (Scalar.select (Scalar.cmpi .eq 64#32 0#32) 1#32 64#32)) (Scalar.select (Scalar.cmpi .eq 64#32 0#32) 1#32 64#32))
    (Scalar.remsi i (Scalar.select (Scalar.cmpi .eq 64#32 0#32) 1#32 64#32))
/-- A loop's upper bound as the kernel computes it from where it starts and where it should end. -/
abbrev wUb (lb u : BitVec 32) : BitVec 32 := Scalar.addi lb (Scalar.muli (Scalar.divsi (Scalar.subi u lb) 1#32) 1#32)

/-- The device's coordinate along the cut axis. -/
def side (d : Dev nD) : ℕ := d.val / 16 % 2
/-- A device's side is 0 or 1. -/
theorem side_lt (d : Dev nD) : side d < 2 := Nat.mod_lt _ (by decide)
/-- The test of a device's side. -/
theorem wX_eq (d : Dev nD) : Scalar.cmpi .eq (wX d) 0#32 = BitVec.ofBool (decide (side d = 0)) := by revert d; decide

/-- Sizes from the count `v` of words below the cut: start, number, partner's start, partner's number. -/
def nS (d : Dev nD) (v : ℕ) : ℕ := if side d = 0 then 0 else v
def nM (d : Dev nD) (v : ℕ) : ℕ := if side d = 0 then v else 4096 - v
def nSp (d : Dev nD) (v : ℕ) : ℕ := if side d = 0 then v else 0
def nMp (d : Dev nD) (v : ℕ) : ℕ := if side d = 0 then 4096 - v else v
/-- The number of chunks of `m` rows. -/
def nN (m : ℕ) : ℕ := (m + 127) / 128

/-- The count is near the middle. -/
def Mid (v : BitVec 32) (n : ℕ) : Prop := Is v n ∧ 1536 ≤ n ∧ n ≤ 2560

section
variable {d : Dev nD} {v : BitVec 32} {n : ℕ} (h : Mid v n)
include h

/-- A device's part has at least 1536 rows. -/
theorem nM_ge (d : Dev nD) : 1536 ≤ nM d n := by have := h.2; unfold nM; split <;> omega
/-- A device's part fits its buffer. -/
theorem nM_le (d : Dev nD) : nM d n ≤ 2560 := by have := h.2; unfold nM; split <;> omega
/-- The partner's part has at least 1536 rows. -/
theorem nMp_ge (d : Dev nD) : 1536 ≤ nMp d n := by have := h.2; unfold nMp; split <;> omega
/-- The partner's part fits its buffer. -/
theorem nMp_le (d : Dev nD) : nMp d n ≤ 2560 := by have := h.2; unfold nMp; split <;> omega
/-- A device's part ends within the 4096. -/
theorem nSM (d : Dev nD) : nS d n + nM d n ≤ 4096 := by have := h.2; unfold nS nM; split <;> omega
/-- The partner's part ends within the 4096. -/
theorem nSMp (d : Dev nD) : nSp d n + nMp d n ≤ 4096 := by have := h.2; unfold nSp nMp; split <;> omega
/-- A device sends at most 20 chunks. -/
theorem nN_le_me (d : Dev nD) : nN (nM d n) ≤ 20 := by have := nM_le h d; unfold nN; omega
/-- At most 20 chunks come. -/
theorem nN_le_pr (d : Dev nD) : nN (nMp d n) ≤ 20 := by have := nMp_le h d; unfold nN; omega

/-- A selection by the bit of a decision. -/
theorem sel {α : Type} (p : Prop) [Decidable p] (x y : α) : Scalar.select (BitVec.ofBool (decide p)) x y = if p then x else y := by
  by_cases hp : p <;> simp [hp, Scalar.select]

/-- The word for the start of the device's part. -/
theorem is_S : Is (wS d v) (nS d n) := by
  unfold wS nS; rw [wX_eq, sel h]; split
  · exact Is.lit 0 (by decide)
  · exact h.1
/-- The word for the length of the device's part. -/
theorem is_M : Is (wM d v) (nM d n) := by
  unfold wM nM; rw [wX_eq, sel h]; split
  · exact h.1
  · exact (Is.lit 4096 (by decide)).sub h.1 (by have := h.2; omega)
/-- The word for the start of the partner's part. -/
theorem is_Sp : Is (wSp d v) (nSp d n) := by
  unfold wSp nSp; rw [wX_eq, sel h]; split
  · exact h.1
  · exact Is.lit 0 (by decide)
/-- The word for the length of the partner's part. -/
theorem is_Mp : Is (wMp d v) (nMp d n) := by
  have e : nMp d n = 4096 - nM d n := by have := h.2; unfold nMp nM; split <;> omega
  rw [e]
  exact (Is.lit 4096 (by decide)).sub (is_M h) (by have := nM_le h d; omega)

/-- The word for a number of chunks. -/
theorem is_wN {m : BitVec 32} {k : ℕ} (hm : Is m k) (hk : 0 < k) (hk' : k ≤ 4096) : Is (wN m) (nN k) := by
  have h1 : Is (Scalar.subi (Scalar.addi m 128#32) 1#32) (k + 127) :=
    (hm.add (Is.lit 128 (by decide)) (by omega)).sub (Is.lit 1 (by decide)) (by omega)
  have h2 := h1.div (Is.lit 128 (by decide)) (by decide)
  unfold wN
  rw [h1.sgt (Is.lit 0 (by decide)), h1.slt (Is.lit 0 (by decide)), decide_eq_true (by omega : 0 < k + 127), decide_eq_false (by omega : ¬ k + 127 < 0)]
  have e : Scalar.cmpi .ne (Scalar.subi (Scalar.extui (BitVec.ofBool true)) (Scalar.extui (BitVec.ofBool false)))
      (Scalar.subi (Scalar.extui (Scalar.cmpi .sgt 128#32 0#32)) (Scalar.extui (Scalar.cmpi .slt 128#32 0#32))) = 0#1 := by decide
  rw [e]
  have e2 : ∀ b : BitVec 1, Scalar.andi 0#1 b = 0#1 := by decide
  rw [e2, select_of_eq_zero rfl]
  exact h2

/-- The word for the number of chunks that the device sends. -/
theorem is_N : Is (wN (wM d v)) (nN (nM d n)) := is_wN h (is_M h) (by have := nM_ge h d; omega) (by have := nM_le h d; omega)
/-- The word for the number of chunks that come. -/
theorem is_Np : Is (wN (wMp d v)) (nN (nMp d n)) := is_wN h (is_Mp h) (by have := nMp_ge h d; omega) (by have := nMp_le h d; omega)

/-- A chunk's condition compares the number of chunks. -/
theorem cond_me (w : BitVec 32) (k : ℕ) (hw : Is w k) :
    (Scalar.cmpi .ne (Scalar.extui (Scalar.cmpi .sgt (wN (wM d v)) w)) 0#32 = 1#1) ↔ k < nN (nM d n) := by
  rw [(is_N h).sgt hw, flag, ofBool_iff]
/-- The test whether a chunk comes. -/
theorem cond_pr (w : BitVec 32) (k : ℕ) (hw : Is w k) :
    (Scalar.cmpi .ne (Scalar.extui (Scalar.cmpi .sgt (wN (wMp d v)) w)) 0#32 = 1#1) ↔ k < nN (nMp d n) := by
  rw [(is_Np h).sgt hw, flag, ofBool_iff]

omit h in
/-- The word for a slot of the ring. -/
theorem is_slot {i : BitVec 32} {k : ℕ} (hi : Is i k) : Is (wSlot i) (k % 64) := by
  have e : Scalar.select (Scalar.cmpi .eq 64#32 0#32) 1#32 64#32 = 64#32 := by decide
  have h1 := hi.rem (Is.lit 64 (by decide)) (by decide)
  unfold wSlot
  rw [e, h1.slt (Is.lit 0 (by decide)), decide_eq_false (by omega : ¬ k % 64 < 0)]
  have e1 : Scalar.xori (BitVec.ofBool false) (Scalar.cmpi .slt 64#32 0#32) = 0#1 := by decide
  have e2 : ∀ b : BitVec 1, Scalar.andi 0#1 b = 0#1 := by decide
  rw [e1, e2, select_of_eq_zero rfl]
  exact h1

omit h in
/-- The word for a loop's upper bound. -/
theorem is_wUb {lb u : BitVec 32} {a b : ℕ} (ha : Is lb a) (hb : Is u b) (hab : a ≤ b) : Is (wUb lb u) b := by
  have h1 := (((hb.sub ha hab).div_one).mul_one)
  have := hb.2
  have h2 := ha.add h1 (by omega)
  rwa [Nat.add_sub_cancel' hab] at h2

omit h in
/-- A loop of unit step between two known words makes as many trips as they are apart. -/
theorem trips_eq {lb ub : BitVec 32} {a b : ℕ} (ha : Is lb a) (hb : Is ub b) (hab : a ≤ b) : Scf.trips lb ub 1#32 = b - a := by
  unfold Scf.trips
  rw [ha.toInt, hb.toInt]
  have : (1#32 : BitVec 32).toInt = 1 := by decide
  rw [this]; omega
omit h in
/-- A loop's bounds are in order where its numbers are. -/
theorem loop_ok {lb ub : BitVec 32} {a b : ℕ} (ha : Is lb a) (hb : Is ub b) (hab : a ≤ b) : Scf.OK lb ub 1#32 := by
  refine ⟨by decide, ?_⟩
  rw [trips_eq ha hb hab, ha.toInt]
  have : (1#32 : BitVec 32).toInt = 1 := by decide
  have := hb.2
  rw [‹(1#32 : BitVec 32).toInt = 1›]; omega

/-! ## Positions -/

/-- The gather's position in the list of words. -/
theorem is_gather {w : BitVec 32} {b : ℕ} (hw : Is w b) (hb : b ≤ 4096) (k : ℕ) (hk : k < 128) :
    Is (Scalar.minsi (Scalar.addi (wS d v) (Scalar.addi w (Scf.iv 0#32 1#32 k))) (Scalar.subi (Scalar.addi (wS d v) (wM d v)) 1#32))
      (min (nS d n + (b + k)) (nS d n + nM d n - 1)) := by
  have h0 := (Is.lit 0 (by decide)).iv k (by omega)
  rw [Nat.zero_add] at h0
  have := nSM h d
  have := nM_ge h d
  exact ((is_S h).add (hw.add h0 (by omega)) (by omega)).min
    (((is_S h).add (is_M h) (by omega)).sub (Is.lit 1 (by decide)) (by omega))

end

end Cert.KernelIdeal.Lookup
-- ==== Proof.Checks.lean ====
/-
  The positions the ring loops compute, and that every position the kernel checks is in bounds when the count of words below the cut is
  near the middle.
-/
module

public import proofs.«01_k».proof.Proof.Words

@[expose] public section

namespace Cert.KernelIdeal.Lookup

open Idealize.ShloMosaic Idealize.ShloMosaic.WordArith Idealize.ShloMosaic.WordCmp
open Facts₀

/-- A stretch of the sorted list: the words `S`, `M` stand for its start `s` and its length `m`. -/
structure Seg (S M : BitVec 32) (s m : ℕ) : Prop where
  start : Is S s
  len : Is M m
  fits : s + m ≤ 4096
  small : m ≤ 2560

/-- A loop over the items from `a` to `e` of a stretch starting at `s`, its bounds the words `lb` and `u`. -/
structure Run (S lb u : BitVec 32) (s a e : ℕ) : Prop where
  start : Is S s
  low : Is lb a
  high : Is u e
  le : a ≤ e
  fits : s + e ≤ 4096
  small : e ≤ 2560

/-! ## Offsets in bounds -/

/-- A word that is a number below the length names a place of the array. -/
theorem inb1 {x : BitVec 32} {n N : ℕ} (hx : Is x n) (hn : n < N) : ∀ a : Fin 1, (![x.toNat] : Fin 1 → ℕ) a + S1.size a ≤ (⟨1, ![N]⟩ : Shape).size a := by
  rw [hx.val]
  intro a
  match a with
  | ⟨0, _⟩ => exact hn

/-- A word that is a number below the height names a row of the array. -/
theorem inb2 {x : BitVec 32} {n N : ℕ} (hx : Is x n) (hn : n < N) :
    ∀ a : Fin 2, (![x.toNat, 0] : Fin 2 → ℕ) a + S1x2048.size a ≤ (⟨2, ![N, 2048]⟩ : Shape).size a := by
  rw [hx.val]
  intro a
  match a with
  | ⟨0, _⟩ => exact hn
  | ⟨1, _⟩ => exact le_refl 2048

/-- An index is the word itself. -/
theorem Is.idx {x : BitVec 32} {n : ℕ} (hx : Is x n) : Is (Scalar.indexCast x) n := hx

/-- The offset named by a word that is `n` is `n`. -/
theorem off_eq1 {x : BitVec 32} {n : ℕ} (hx : Is x n) : (![x.toNat] : Fin 1 → ℕ) = ![n] := by rw [hx.val]
/-- The offset of the row named by a word that is `n` is row `n`. -/
theorem off_eq2 {x : BitVec 32} {n : ℕ} (hx : Is x n) : (![x.toNat, 0] : Fin 2 → ℕ) = ![n, 0] := by rw [hx.val]

namespace Run
variable {S lb u : BitVec 32} {s a e : ℕ} (R : Run S lb u s a e)
include R

/-- The loop from `a` to `e` makes `e - a` trips. -/
theorem trips : Scf.Loop.trips ⟨lb, wUb lb u, 1#32⟩ = e - a := trips_eq R.low (is_wUb R.low R.high R.le) R.le
/-- The loop's bounds are in order. -/
theorem ok : Scf.Loop.OK ⟨lb, wUb lb u, 1#32⟩ := loop_ok R.low (is_wUb R.low R.high R.le) R.le
/-- The end of the loop's remainder is the end of the loop. -/
theorem end2 : Is (Scalar.addi lb (Scalar.subi u lb)) e := by
  have h := R.low.add (R.high.sub R.low R.le) (by have := R.high.lt; have := R.le; omega)
  rwa [Nat.add_sub_cancel' R.le] at h
/-- The bounds of the loop's remainder are in order. -/
theorem rest_ok : Scf.Loop.OK ⟨wUb lb u, Scalar.addi lb (Scalar.subi u lb), 1#32⟩ := loop_ok (is_wUb R.low R.high R.le) R.end2 le_rfl
/-- The loop's remainder makes no trip. -/
theorem rest_trips : Scf.Loop.trips ⟨wUb lb u, Scalar.addi lb (Scalar.subi u lb), 1#32⟩ = 0 :=
  (trips_eq (is_wUb R.low R.high R.le) R.end2 le_rfl).trans (Nat.sub_self e)
/-- There is no trip of the remainder. -/
theorem none (k : Fin (Scf.Loop.trips ⟨wUb lb u, Scalar.addi lb (Scalar.subi u lb), 1#32⟩)) : False := by
  exact absurd (lt_of_lt_of_eq k.isLt R.rest_trips) (Nat.not_lt_zero _)

variable (k : Fin (Scf.Loop.trips ⟨lb, wUb lb u, 1#32⟩))
/-- A trip's number lies before the loop's end. -/
theorem lt : a + k < e := by have := lt_of_lt_of_eq k.isLt R.trips; omega
/-- The counter at trip `k` is `a + k`. -/
theorem iv : Is (Scf.iv lb 1#32 k) (a + k) := R.low.iv k (by have := R.lt k; have := R.high.lt; omega)
/-- The test for the ring being full holds from the 64th row on. -/
theorem cond : (Scalar.cmpi .ne (Scalar.extui (Scalar.cmpi .sge (Scf.iv lb 1#32 k) 64#32)) 0#32 = 1#1) ↔ 64 ≤ a + (k : ℕ) := by
  rw [(R.iv k).sge (Is.lit 64 (by decide)), flag, ofBool_iff]
/-- The sorted place of the row at trip `k`. -/
theorem pos : Is (Scalar.addi S (Scf.iv lb 1#32 k)) (s + (a + k)) :=
  R.start.add (R.iv k) (by have := R.lt k; have := R.fits; omega)
/-- The ring's slot of the row at trip `k`. -/
theorem slot : Is (wSlot (Scf.iv lb 1#32 k)) ((a + k) % 64) := is_slot (R.iv k)
variable (hc : Scalar.cmpi .ne (Scalar.extui (Scalar.cmpi .sge (Scf.iv lb 1#32 k) 64#32)) 0#32 = 1#1)
include hc
/-- The counter 64 rows back. -/
theorem iv' : Is (Scalar.subi (Scf.iv lb 1#32 k) 64#32) (a + k - 64) := (R.iv k).sub (Is.lit 64 (by decide)) ((R.cond k).1 hc)
/-- The sorted place of the row 64 back. -/
theorem pos' : Is (Scalar.addi S (Scalar.subi (Scf.iv lb 1#32 k) 64#32)) (s + (a + k - 64)) :=
  R.start.add (R.iv' k hc) (by have := R.lt k; have := R.fits; omega)
/-- The ring's slot of the row 64 back. -/
theorem slot' : Is (wSlot (Scalar.subi (Scf.iv lb 1#32 k) 64#32)) ((a + k - 64) % 64) := is_slot (R.iv' k hc)

omit hc in
/-- The sorted place of a trip's row lies among the 4096. -/
theorem b_pos : ∀ x : Fin 1, (![(Scalar.indexCast (Scalar.addi S (Scf.iv lb 1#32 k))).toNat] : Fin 1 → ℕ) x + S1.size x ≤ S4096.size x :=
  inb1 (R.pos k) (by have := R.lt k; have := R.fits; omega)
omit hc in
/-- The slot of a trip's row lies in the ring. -/
theorem b_slot : ∀ x : Fin 1, (![(wSlot (Scf.iv lb 1#32 k)).toNat] : Fin 1 → ℕ) x + S1.size x ≤ S64.size x :=
  inb1 (R.slot k) (Nat.mod_lt _ (by decide))
omit hc in
/-- A trip's row lies in the buffer. -/
theorem b_row : ∀ x : Fin 2, (![(Scf.iv lb 1#32 k).toNat, 0] : Fin 2 → ℕ) x + S1x2048.size x ≤ S2560x2048.size x :=
  inb2 (R.iv k) (by have := R.lt k; have := R.small; omega)
/-- The sorted place of the row 64 back lies among the 4096. -/
theorem b_pos' : ∀ x : Fin 1, (![(Scalar.indexCast (Scalar.addi S (Scalar.subi (Scf.iv lb 1#32 k) 64#32))).toNat] : Fin 1 → ℕ) x + S1.size x ≤ S4096.size x :=
  inb1 (R.pos' k hc) (by have := R.lt k; have := R.fits; omega)
/-- The slot of the row 64 back lies in the ring. -/
theorem b_slot' : ∀ x : Fin 1, (![(wSlot (Scalar.subi (Scf.iv lb 1#32 k) 64#32)).toNat] : Fin 1 → ℕ) x + S1.size x ≤ S64.size x :=
  inb1 (R.slot' k hc) (Nat.mod_lt _ (by decide))
/-- The row 64 back lies in the buffer. -/
theorem b_row' : ∀ x : Fin 2, (![(Scalar.subi (Scf.iv lb 1#32 k) 64#32).toNat, 0] : Fin 2 → ℕ) x + S1x2048.size x ≤ S2560x2048.size x :=
  inb2 (R.iv' k hc) (by have := R.lt k; have := R.small; omega)
end Run

namespace Seg
variable {S M : BitVec 32} {s m : ℕ} (G : Seg S M s m)
include G

/-- The loop over the whole stretch. -/
theorem all : Run S 0#32 M s 0 m := ⟨G.start, Is.lit 0 (by decide), G.len, Nat.zero_le _, G.fits, G.small⟩
/-- The loop over one chunk of the stretch. -/
theorem chunk {b b' : ℕ} (hb : b ≤ m) (hb' : b' = b + 128) (hl : b' < 2 ^ 31) : Run S (BitVec.ofNat 32 b) (Scalar.minsi (BitVec.ofNat 32 b') M) s b (min b' m) :=
  ⟨G.start, Is.lit b (by omega), (Is.lit b' hl).min G.len, by omega, by have := G.fits; omega, by have := G.small; omega⟩
/-- The loop over the last items, at most 64. -/
theorem last : Run S 0#32 (Scalar.minsi M 64#32) s 0 (min m 64) :=
  ⟨G.start, Is.lit 0 (by decide), G.len.min (Is.lit 64 (by decide)), Nat.zero_le _, by have := G.fits; omega, by have := G.small; omega⟩

variable (k : Fin (Scf.Loop.trips ⟨0#32, wUb 0#32 (Scalar.minsi M 64#32), 1#32⟩))
/-- A row waited for at the end is one of the part. -/
theorem d_lt : m - min m 64 + k < m := by have := G.last.lt k; omega
/-- The number of a row waited for at the end. -/
theorem d_iv : Is (Scalar.addi (Scalar.subi M (Scalar.minsi M 64#32)) (Scf.iv 0#32 1#32 k)) (m - min m 64 + k) := by
  have h := (G.len.sub (G.len.min (Is.lit 64 (by decide))) (min_le_left _ _)).add (G.last.iv k) (by have := G.d_lt k; have := G.len.lt; omega)
  rwa [Nat.zero_add] at h
/-- The sorted place of a row waited for at the end. -/
theorem d_pos : Is (Scalar.addi S (Scalar.addi (Scalar.subi M (Scalar.minsi M 64#32)) (Scf.iv 0#32 1#32 k))) (s + (m - min m 64 + k)) :=
  G.start.add (G.d_iv k) (by have := G.d_lt k; have := G.fits; omega)
/-- The slot of a row waited for at the end. -/
theorem d_slot : Is (wSlot (Scalar.addi (Scalar.subi M (Scalar.minsi M 64#32)) (Scf.iv 0#32 1#32 k))) ((m - min m 64 + k) % 64) := is_slot (G.d_iv k)
/-- The sorted place of a row waited for at the end lies among the 4096. -/
theorem bd_pos : ∀ x : Fin 1, (![(Scalar.indexCast (Scalar.addi S (Scalar.addi (Scalar.subi M (Scalar.minsi M 64#32)) (Scf.iv 0#32 1#32 k)))).toNat] : Fin 1 → ℕ) x + S1.size x ≤ S4096.size x :=
  inb1 (G.d_pos k) (by have := G.d_lt k; have := G.fits; omega)
/-- The slot of a row waited for at the end lies in the ring. -/
theorem bd_slot : ∀ x : Fin 1, (![(wSlot (Scalar.addi (Scalar.subi M (Scalar.minsi M 64#32)) (Scf.iv 0#32 1#32 k))).toNat] : Fin 1 → ℕ) x + S1.size x ≤ S64.size x :=
  inb1 (G.d_slot k) (Nat.mod_lt _ (by decide))
/-- A row waited for at the end lies in the buffer. -/
theorem bd_row : ∀ x : Fin 2, (![(Scalar.addi (Scalar.subi M (Scalar.minsi M 64#32)) (Scf.iv 0#32 1#32 k)).toNat, 0] : Fin 2 → ℕ) x + S1x2048.size x ≤ S2560x2048.size x :=
  inb2 (G.d_iv k) (by have := G.d_lt k; have := G.small; omega)
end Seg

section
variable {d : Dev nD} {v : BitVec 32} {n : ℕ} (h : Mid v n)
include h

/-- This device's stretch, and the partner's. -/
theorem seg_me : Seg (wS d v) (wM d v) (nS d n) (nM d n) := ⟨is_S h, is_M h, nSM h d, nM_le h d⟩
/-- The words for the start and the length of the partner's part are its start and its length, and it fits. -/
theorem seg_pr : Seg (wSp d v) (wMp d v) (nSp d n) (nMp d n) := ⟨is_Sp h, is_Mp h, nSMp h d, nMp_le h d⟩

/-- The loop over a chunk the partner has sent. -/
theorem run_pr {c b b' : ℕ} (hc : Scalar.cmpi .ne (Scalar.extui (Scalar.cmpi .sgt (wN (wMp d v)) (BitVec.ofNat 32 c))) 0#32 = 1#1)
    (hcl : c < 20) (hb : b = 128 * c) (hb' : b' = b + 128) :
    Run (wSp d v) (BitVec.ofNat 32 b) (Scalar.minsi (BitVec.ofNat 32 b') (wMp d v)) (nSp d n) b (min b' (nMp d n)) := by
  have h1 := (cond_pr h _ c (Is.lit c (by omega))).1 hc
  exact (seg_pr h).chunk (by unfold nN at h1; omega) hb' (by omega)

omit h in
/-- A chunk's gather makes 128 trips. -/
theorem gather_trips : Scf.Loop.trips ⟨0#32, Scalar.addi 0#32 128#32, 1#32⟩ = 128 :=
  by
  have h1 : Is (Scalar.addi 0#32 128#32) (0 + 128) := (Is.lit 0 (by norm_num)).add (Is.lit 128 (by norm_num)) (by norm_num)
  exact trips_eq (Is.lit 0 (by norm_num)) h1 (Nat.zero_le _)

/-- The sorted place that a gather reads lies among the 4096. -/
theorem b_gather {b : ℕ} (hb : b ≤ 4096) (k : ℕ) (hk : k < 128) :
    ∀ x : Fin 1, (![(Scalar.indexCast (Scalar.minsi (Scalar.addi (wS d v) (Scalar.addi (BitVec.ofNat 32 b) (Scf.iv 0#32 1#32 k))) (Scalar.subi (Scalar.addi (wS d v) (wM d v)) 1#32))).toNat] : Fin 1 → ℕ) x
      + S1.size x ≤ S4096.size x := by
  have h1 := is_gather (d := d) h (Is.lit b (by omega)) hb k hk
  have h2 := nSM h d
  have h3 := nM_ge h d
  have h4 : min (nS d n + (b + k)) (nS d n + nM d n - 1) < 4096 := by omega
  exact inb1 h1.idx h4

seal Scf.trips Scf.iv Scf.OK Scalar.addi Scalar.subi Scalar.minsi Scalar.muli Scalar.divsi Scalar.remsi Scalar.cmpi Scalar.extui Scalar.select Scalar.andi Scalar.xori Scalar.indexCast BitVec.toNat in
set_option maxHeartbeats 4000000 in
/-- Every position the kernel checks up front is in bounds. -/
theorem chk1 : k0_chk1 d v := by
  unfold k0_chk1 k0_chk1_0 k0_chk1_1 k0_chk1_2 k0_chk1_3 k0_chk1_4 k0_chk1_5 k0_chk1_6 k0_chk1_7 k0_chk1_8 k0_chk1_9 k0_chk1_10
  repeat' with_reducible apply And.intro
  all_goals first
    | exact fun k _ => b_gather h (by decide) k (lt_of_lt_of_eq k.isLt gather_trips)
    | exact fun k hc => ((run_pr h hc (by decide) rfl rfl).none k).elim
    | exact fun k hc => (run_pr h hc (by decide) rfl rfl).b_pos k
    | exact fun k hc => (run_pr h hc (by decide) rfl rfl).b_slot k
    | exact fun k hc => (run_pr h hc (by decide) rfl rfl).b_row k
    | exact fun k hc hk => (run_pr h hc (by decide) rfl rfl).b_pos' k hk
    | exact fun k hc hk => (run_pr h hc (by decide) rfl rfl).b_slot' k hk
    | exact fun k hc hk => (run_pr h hc (by decide) rfl rfl).b_row' k hk
    | exact fun hc => (run_pr h hc (by decide) rfl rfl).ok
    | exact fun hc => (run_pr h hc (by decide) rfl rfl).rest_ok
    | exact fun k => ((seg_me h).all.none k).elim
    | exact fun k => ((seg_me h).last.none k).elim
    | exact fun k => ((seg_pr h).last.none k).elim
    | exact fun k => (seg_me h).all.b_pos k
    | exact fun k => (seg_me h).all.b_slot k
    | exact fun k => (seg_me h).all.b_row k
    | exact fun k hk => (seg_me h).all.b_pos' k hk
    | exact fun k hk => (seg_me h).all.b_slot' k hk
    | exact fun k hk => (seg_me h).all.b_row' k hk
    | exact fun k => (seg_me h).bd_pos k
    | exact fun k => (seg_me h).bd_slot k
    | exact fun k => (seg_me h).bd_row k
    | exact fun k => (seg_pr h).bd_pos k
    | exact fun k => (seg_pr h).bd_slot k
    | exact fun k => (seg_pr h).bd_row k
    | exact (seg_me h).all.ok
    | exact (seg_me h).all.rest_ok
    | exact (seg_me h).last.ok
    | exact (seg_me h).last.rest_ok
    | exact (seg_pr h).last.ok
    | exact (seg_pr h).last.rest_ok

end

end Cert.KernelIdeal.Lookup
-- ==== Proof.Ring.lean ====
/-
  The scatter over a ring of 64 semaphores: at item `k` the copies of the last 64 items may be in flight. What one trip and the drain
  loops do to that state.
-/
module

public import proofs.«01_k».proof.Proof.Scatter
public import proofs.«01_k».proof.Proof.Checks

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}

/-- Items of a stretch numbered from its start. -/
theorem bigSep_shift {M : Type _} [URA M] (b n : ℕ) (A : ℕ → sProp M) :
    bigSep (Finset.Ico b (b + n)) A = bigSep (Finset.Ico 0 n) fun i => A (b + i) := by
  have h := bigSep_map (addLeftEmbedding b) (s := Finset.Ico 0 n) (Φ := A)
  rw [Finset.map_add_left_Ico, Nat.add_zero] at h
  exact h

/-- The row that the permutation names at a position. -/
def permAt {c : Dev nD} (fs : Buf (Elt F) (permM.view.loc (c : Thread nD τ))) (p : ℕ) : ℕ :=
  (fs (ix1 (⟨p % 4096, Nat.mod_lt _ (by decide)⟩ : Fin 4096)) : BitVec 32).toNat

/-- A place below 4096 is its own remainder. -/
theorem pos_mod {p : ℕ} (h : p < 4096) : (![p] : Fin 1 → ℕ) = ![((⟨p % 4096, Nat.mod_lt _ (by decide)⟩ : Fin 4096)).val] := by
  show (![p] : Fin 1 → ℕ) = ![p % 4096]
  rw [Nat.mod_eq_of_lt h]

section Ring
variable (M : Memref sig .tc .vmem S2560x2048 .f32) (base : ℕ) (c : Dev nD) (s m : ℕ)
  (fs : Buf (Elt F) (permM.view.loc (c : Thread nD τ)))
  (q : PosShare TreeShare) (fM : Buf (Elt F) (M.view.loc (c : Thread nD τ))) (G : Buf (Elt F) (oM.view.loc (c : Thread nD τ)))

/-- Item `i` done, in flight, still to do; the semaphore of slot `j` idle; item `i`'s source row. -/
def itemDone (i : ℕ) : sProp 𝕄 := iprop(oRow c (permAt fs (s + i)) G ∗ mRow M c q i fM)
def itemFly (i : ℕ) : sProp 𝕄 := flyS M c (base + i % 64) (permAt fs (s + i)) i q fM G
def itemPend (i : ℕ) : sProp 𝕄 := iprop(∃ f, oRow c (permAt fs (s + i)) f)
def slotIdle (j : ℕ) : sProp 𝕄 := semVal ((c : Thread nD τ), .dma (dsem (base + j))) 0
def itemSrc (i : ℕ) : sProp 𝕄 := mRow M c q i fM

/-- The ring before item `k`. -/
def ring (k : ℕ) : sProp 𝕄 :=
  iprop(bigSep (Finset.Ico 0 (k - 64)) (itemDone M c s fs q fM G) ∗ bigSep (Finset.Ico (k - 64) k) (itemFly M base c s fs q fM G)
    ∗ bigSep (Finset.Ico k m) (itemPend c s fs) ∗ bigSep (Finset.Ico k 64) (slotIdle base c))

variable {M base c s m fs q fM G} (hb : base + S64.numel ≤ 299)
  (hfit : s + m ≤ 4096) (hperm : ∀ p, permAt fs p < 4096)
  (hG : ∀ i < m, ∀ (x : (Rows 4096).Idx) (y : (Rows 2560).Idx), (x 0 : ℕ) = permAt fs (s + i) → (y 0 : ℕ) = i → (x 1 : ℕ) = (y 1 : ℕ)
      → G x = M.view.read (Elt F) fM y)
variable (O : CellTallies nD τ sig Unit) (PL : sProp (MT nD τ sig Unit (Elt F) ℕ UU ℕ)) [BI.Persistent PL]
  (hPL : ∀ t < 64, PL ⊢ MayWait (c : Thread nD τ) (.dma (dsem (base + t))) () O)
include hb hfit hperm hG hPL

/-- One trip of the scatter: item `k`. -/
theorem ringTrip_spec (k : ℕ) (hk : k < m) {cnd : BitVec 1} (hcnd : cnd = 1#1 ↔ 64 ≤ k)
    {o1 : cnd = 1#1 → Fin 1 → ℕ} {i1 : ∀ h, ∀ a, o1 h a + S1.size a ≤ S4096.size a}
    {chk : cnd = 1#1 → BitVec 32 → Prop} {dec : ∀ h w, Decidable (chk h w)} {o4 : cnd = 1#1 → BitVec 32 → Fin 2 → ℕ}
    {i4 : ∀ h w, chk h w → ∀ a, o4 h w a + S1x2048.size a ≤ S4096x2048.size a}
    {o2 : cnd = 1#1 → Fin 1 → ℕ} {i2 : ∀ h, ∀ a, o2 h a + S1.size a ≤ S64.size a}
    {o3 : cnd = 1#1 → Fin 2 → ℕ} {i3 : ∀ h, ∀ a, o3 h a + S1x2048.size a ≤ S2560x2048.size a}
    (h1 : ∀ h, o1 h = ![s + (k - 64)]) (h2 : ∀ h, o2 h = ![(k - 64) % 64]) (hchk : ∀ h, ∀ w : BitVec 32, w.toNat < 4096 → chk h w)
    {p1 : Fin 1 → ℕ} {j1 : ∀ a, p1 a + S1.size a ≤ S4096.size a}
    {chk' : BitVec 32 → Prop} {dec' : ∀ w, Decidable (chk' w)} {p4 : BitVec 32 → Fin 2 → ℕ}
    {j4 : ∀ w, chk' w → ∀ a, p4 w a + S1x2048.size a ≤ S4096x2048.size a}
    {p2 : Fin 1 → ℕ} {j2 : ∀ a, p2 a + S1.size a ≤ S64.size a}
    {p3 : Fin 2 → ℕ} {j3 : ∀ a, p3 a + S1x2048.size a ≤ S2560x2048.size a}
    (g1 : p1 = ![s + k]) (g2 : p2 = ![k % 64]) (g3 : p3 = ![k, 0]) (g4 : ∀ w, p4 w = ![w.toNat, 0]) (hchk' : ∀ w : BitVec 32, w.toNat < 4096 → chk' w) :
    iprop((permPt c fs ∗ ow c O ∗ PL) ∗ itemSrc M c q fM k ∗ ring M base c s m fs q fM G k)
      ⊢ wp frame (wpE defs 𝒱₀ (c : Thread nD τ) bd) Set.univ
        (ringTrip (F := F) cnd (fun h => ringWait ⟨⟩ M base hb (o1 h) (i1 h) (chk h) (dec h) (o4 h) (i4 h) (o2 h) (i2 h) (o3 h) (i3 h))
          (ringIssue M base hb p1 j1 chk' dec' p4 j4 p2 j2 p3 j3))
        fun _ => iprop((permPt c fs ∗ ow c O ∗ PL) ∗ ring M base c s m fs q fM G (k + 1)) := by
  have hI : iprop(permPt c fs ∗ itemPend c s fs k ∗ itemSrc M c q fM k ∗ slotIdle (F := F) base c (k % 64))
      ⊢ wp frame (wpE defs 𝒱₀ (c : Thread nD τ) bd) Set.univ (ringIssue (F := F) M base hb p1 j1 chk' dec' p4 j4 p2 j2 p3 j3)
        fun _ => iprop(permPt c fs ∗ itemFly M base c s fs q fM G k) :=
    ringIssue_spec M base hb c (⟨(s + k) % 4096, Nat.mod_lt _ (by decide)⟩ : Fin 4096) (g1.trans (pos_mod (by omega))) (k % 64) g2 k g3 g4 hchk' fs
      (hperm _) q fM G (hG k hk)
  unfold ringTrip
  by_cases hc : cnd = 1#1
  · have h64 := hcnd.1 hc
    rw [dif_pos hc]
    have hW : iprop(permPt c fs ∗ ow c O ∗ PL ∗ itemFly M base c s fs q fM G (k - 64))
        ⊢ wp frame (wpE defs 𝒱₀ (c : Thread nD τ) bd) Set.univ
          (ringWait (F := F) (⟨⟩ : PUnit) M base hb (o1 hc) (i1 hc) (chk hc) (dec hc) (o4 hc) (i4 hc) (o2 hc) (i2 hc) (o3 hc) (i3 hc))
          fun _ => iprop(permPt c fs ∗ ow c O ∗ oRow c (permAt fs (s + (k - 64))) G ∗ mRow M c q (k - 64) fM
            ∗ semVal ((c : Thread nD τ), .dma (dsem (base + (k - 64) % 64))) 0) :=
      ringWait_spec _ M base hb c (⟨(s + (k - 64)) % 4096, Nat.mod_lt _ (by decide)⟩ : Fin 4096) ((h1 hc).trans (pos_mod (by omega))) ((k - 64) % 64) (h2 hc)
        (hchk hc) fs (hperm _) _ (k - 64) q fM G O PL (hPL _ (Nat.mod_lt _ (by decide)))
    have e1 : k + 1 - 64 = k - 64 + 1 := by omega
    have e2 : (k - 64) % 64 = k % 64 := by omega
    rw [e2] at hW
    unfold ring
    rw [e1, bigSep_Ico_succ_top (Nat.zero_le (k - 64)), bigSep_Ico_succ_bot (by omega : k - 64 < k), bigSep_Ico_succ_top (by omega : k - 64 + 1 ≤ k),
      bigSep_Ico_succ_bot hk, Finset.Ico_eq_empty_of_le h64, Finset.Ico_eq_empty_of_le (by omega : 64 ≤ k + 1)]
    iintro ⟨⟨Hp, HO, #HPL⟩, Hsrc, Hdone, ⟨Hf, Hfly⟩, ⟨Hpend, Hpends⟩, Hidle⟩
    rw [wp_bind]
    iapply (wp_wand_r _ _ _)
    isplitl [Hp HO Hf]
    · iapply hW
      isplitl [Hp]; · iexact Hp
      isplitl [HO]; · iexact HO
      isplitr; · iexact HPL
      iexact Hf
    iintro %_ ⟨Hp, HO, Ho, Hm, Hv⟩
    iapply (wp_wand_r _ _ _)
    isplitl [Hp Hpend Hsrc Hv]
    · iapply hI
      isplitl [Hp]; · iexact Hp
      isplitl [Hpend]; · iexact Hpend
      isplitl [Hsrc]; · iexact Hsrc
      unfold slotIdle; iexact Hv
    iintro %_ ⟨Hp, Hf⟩
    isplitl [Hp HO]
    · isplitl [Hp]; · iexact Hp
      isplitl [HO]; · iexact HO
      iexact HPL
    isplitl [Hdone Ho Hm]
    · isplitl [Ho Hm]
      · unfold itemDone; isplitl [Ho]; · iexact Ho
        iexact Hm
      iexact Hdone
    isplitl [Hf Hfly]
    · isplitl [Hf]; · iexact Hf
      iexact Hfly
    isplitl [Hpends]; · iexact Hpends
    iexact Hidle
  · have h64 : k < 64 := by by_contra h; exact hc (hcnd.2 (by omega))
    rw [dif_neg hc]
    have e1 : k + 1 - 64 = 0 := by omega
    have e0 : k - 64 = 0 := by omega
    unfold ring
    rw [e1, e0, bigSep_Ico_succ_top (Nat.zero_le k), bigSep_Ico_succ_bot hk, bigSep_Ico_succ_bot h64]
    rw [Nat.mod_eq_of_lt h64] at hI
    iintro ⟨⟨Hp, HO, #HPL⟩, Hsrc, Hdone, Hfly, ⟨Hpend, Hpends⟩, ⟨Hv, Hidle⟩⟩
    simp only [Prog.pure_eq_ret, Prog.bind_ret]
    iapply (wp_wand_r _ _ _)
    isplitl [Hp Hpend Hsrc Hv]
    · iapply hI
      isplitl [Hp]; · iexact Hp
      isplitl [Hpend]; · iexact Hpend
      isplitl [Hsrc]; · iexact Hsrc
      iexact Hv
    iintro %_ ⟨Hp, Hf⟩
    isplitl [Hp HO]
    · isplitl [Hp]; · iexact Hp
      isplitl [HO]; · iexact HO
      iexact HPL
    isplitl [Hdone]; · iexact Hdone
    isplitl [Hf Hfly]
    · isplitl [Hf]; · iexact Hf
      iexact Hfly
    isplitl [Hpends]; · iexact Hpends
    iexact Hidle

omit hb hfit hperm hG hPL in
/-- A counted loop that takes the ring from item `a` to item `e`. -/
theorem wp_ring {w : ℕ} {lb ub st : BitVec w} (hok : Scf.OK lb ub st) {σ : Type} (init : σ)
    (body : Fin (Scf.trips lb ub st) → σ → Prog (TpuEff nD τ sig (Elt F) Λ₀ .tc) σ) (a e : ℕ) (hae : a ≤ e) (hn : Scf.trips lb ub st = e - a)
    (R : sProp 𝕄) (A S : ℕ → sProp 𝕄)
    (hbody : ∀ k acc, iprop(R ∗ A (a + k.val) ∗ S (a + k.val)) ⊢ wp frame (wpE defs 𝒱₀ (c : Thread nD τ) bd) Set.univ (body k acc) fun _ => iprop(R ∗ S (a + k.val + 1)))
    {α : Type} (kk : σ → Prog (TpuEff nD τ sig (Elt F) Λ₀ .tc) α) (Q : α → sProp 𝕄) :
    iprop(R ∗ bigSep (Finset.Ico a e) A ∗ S a)
      ⊢ iprop((∀ acc, (R ∗ S e) -∗ wp frame (wpE defs 𝒱₀ (c : Thread nD τ) bd) Set.univ (kk acc) Q)
          -∗ wp frame (wpE defs 𝒱₀ (c : Thread nD τ) bd) Set.univ (Scf.for lb ub st hok init body >>= kk) Q) := by
  iintro ⟨HR, HA, HS⟩ HK
  iapply (Scf.wp_for_bind frame (wpE defs 𝒱₀ (c : Thread nD τ) bd) Set.univ lb ub st hok init body
    (fun k _ => iprop(R ∗ bigSep (Finset.Ico (a + k) e) A ∗ S (a + k))) (fun k acc => by
      have hk := lt_of_lt_of_eq k.isLt hn
      rw [bigSep_Ico_succ_bot (by omega : a + k.val < e)]
      iintro ⟨HR, ⟨HA, Hrest⟩, HS⟩
      iapply (wp_wand_r _ _ _)
      isplitl [HR HA HS]
      · iapply (hbody k acc)
        isplitl [HR]; · iexact HR
        isplitl [HA] <;> iassumption
      iintro %_ ⟨HR, HS⟩
      isplitl [HR]; · iexact HR
      isplitl [Hrest]; · iexact Hrest
      iexact HS)) $$ [HR HA HS]
  · isplitl [HR]; · iexact HR
    isplitl [HA]; · iexact HA
    iexact HS
  rw [hn, Nat.add_sub_cancel' hae]
  iintro %acc ⟨HR, -, HS⟩
  iapply HK
  isplitl [HR] <;> iassumption

omit hG in
/-- One trip of the drain: item `m - 64 + t`. -/
theorem drainTrip_spec (i : ℕ) (hi : i < m)
    {α : Type} (z : α) {o1 : Fin 1 → ℕ} {i1 : ∀ a, o1 a + S1.size a ≤ S4096.size a}
    {chk : BitVec 32 → Prop} {dec : ∀ w, Decidable (chk w)} {o4 : BitVec 32 → Fin 2 → ℕ}
    {i4 : ∀ w, chk w → ∀ a, o4 w a + S1x2048.size a ≤ S4096x2048.size a}
    {o2 : Fin 1 → ℕ} {i2 : ∀ a, o2 a + S1.size a ≤ S64.size a}
    {o3 : Fin 2 → ℕ} {i3 : ∀ a, o3 a + S1x2048.size a ≤ S2560x2048.size a}
    (h1 : o1 = ![s + i]) (h2 : o2 = ![i % 64]) (hchk : ∀ w : BitVec 32, w.toNat < 4096 → chk w) :
    iprop((permPt c fs ∗ ow c O ∗ PL) ∗ itemFly M base c s fs q fM G i)
      ⊢ wp frame (wpE defs 𝒱₀ (c : Thread nD τ) bd) Set.univ (ringWait (F := F) z M base hb o1 i1 chk dec o4 i4 o2 i2 o3 i3)
        fun _ => iprop((permPt c fs ∗ ow c O ∗ PL) ∗ itemDone M c s fs q fM G i ∗ slotIdle (F := F) base c (i % 64)) := by
  have hW : iprop(permPt c fs ∗ ow c O ∗ PL ∗ itemFly M base c s fs q fM G i)
      ⊢ wp frame (wpE defs 𝒱₀ (c : Thread nD τ) bd) Set.univ (ringWait (F := F) z M base hb o1 i1 chk dec o4 i4 o2 i2 o3 i3)
        fun _ => iprop(permPt c fs ∗ ow c O ∗ oRow c (permAt fs (s + i)) G ∗ mRow M c q i fM ∗ semVal ((c : Thread nD τ), .dma (dsem (base + i % 64))) 0) :=
    ringWait_spec z M base hb c (⟨(s + i) % 4096, Nat.mod_lt _ (by decide)⟩ : Fin 4096) (h1.trans (pos_mod (by omega))) (i % 64) h2
      hchk fs (hperm _) _ i q fM G O PL (hPL _ (Nat.mod_lt _ (by decide)))
  iintro ⟨⟨Hp, HO, #HPL⟩, Hf⟩
  iapply (wp_wand_r _ _ _)
  isplitl [Hp HO Hf]
  · iapply hW
    isplitl [Hp]; · iexact Hp
    isplitl [HO]; · iexact HO
    isplitr; · iexact HPL
    iexact Hf
  iintro %_ ⟨Hp, HO, Ho, Hm, Hv⟩
  isplitl [Hp HO]
  · isplitl [Hp]; · iexact Hp
    isplitl [HO]; · iexact HO
    iexact HPL
  isplitl [Ho Hm]
  · unfold itemDone; isplitl [Ho]; · iexact Ho
    iexact Hm
  unfold slotIdle; iexact Hv

omit hb hfit hperm hG hPL in
/-- Before the drain: the last 64 items in flight. -/
theorem ring_last (hm : 64 ≤ m) : ring M base c s m fs q fM G m
    ⊢ iprop(bigSep (Finset.Ico 0 (m - 64)) (itemDone M c s fs q fM G) ∗ bigSep (Finset.Ico 0 64) (fun t => itemFly M base c s fs q fM G (m - 64 + t))) := by
  unfold ring
  have h := bigSep_shift (m - 64) 64 (itemFly M base c s fs q fM G)
  rw [show m - 64 + 64 = m by omega] at h
  rw [h]
  iintro ⟨Hd, Hf, -, -⟩
  isplitl [Hd] <;> iassumption

omit hb hfit hperm hG hPL in
/-- A stretch of 64 items uses every slot once. -/
theorem slots_all (b : ℕ) (A : ℕ → sProp 𝕄) : bigSep (Finset.Ico 0 64) (fun t => A ((b + t) % 64)) ⊢ bigSep (Finset.Ico 0 64) A := by
  have hr : b % 64 < 64 := Nat.mod_lt _ (by decide)
  have e1 : bigSep (Finset.Ico 0 (64 - b % 64)) (fun t => A ((b + t) % 64)) = bigSep (Finset.Ico (b % 64) 64) A := by
    have h := bigSep_shift (b % 64) (64 - b % 64) A
    rw [Nat.add_sub_cancel' hr.le] at h
    rw [h]
    refine bigSep_congr fun t ht => ?_
    have := (Finset.mem_Ico.mp ht).2
    rw [show (b + t) % 64 = b % 64 + t by omega]
  have e2 : bigSep (Finset.Ico (64 - b % 64) 64) (fun t => A ((b + t) % 64)) = bigSep (Finset.Ico 0 (b % 64)) A := by
    have h := bigSep_shift (64 - b % 64) (b % 64) (fun t => A ((b + t) % 64))
    rw [show 64 - b % 64 + b % 64 = 64 by omega] at h
    rw [h]
    refine bigSep_congr fun t ht => ?_
    have := (Finset.mem_Ico.mp ht).2
    show A ((b + (64 - b % 64 + t)) % 64) = A t
    rw [show (b + (64 - b % 64 + t)) % 64 = t by omega]
  rw [Ico_consecutive (Nat.zero_le (64 - b % 64)) (Nat.sub_le 64 _), e1, e2, Ico_consecutive (Nat.zero_le (b % 64)) hr.le]
  iintro ⟨H1, H2⟩
  isplitl [H2] <;> iassumption

omit hb hfit hperm hG hPL in
/-- After the drain: every item done, every slot idle. -/
theorem ring_drained (hm : 64 ≤ m) : iprop(bigSep (Finset.Ico 0 (m - 64)) (itemDone M c s fs q fM G)
      ∗ bigSep (Finset.Ico 0 64) (fun t => iprop(itemDone M c s fs q fM G (m - 64 + t) ∗ slotIdle base c ((m - 64 + t) % 64))))
    ⊢ iprop(bigSep (Finset.Ico 0 m) (itemDone M c s fs q fM G) ∗ bigSep (Finset.Ico 0 64) (slotIdle (F := F) base c)) := by
  have h := bigSep_shift (m - 64) 64 (itemDone M c s fs q fM G)
  rw [show m - 64 + 64 = m by omega] at h
  rw [bigSep_sep', ← h, Ico_consecutive (Nat.zero_le (m - 64)) (Nat.sub_le m 64)]
  iintro ⟨Hd, Hd', Hs⟩
  isplitl [Hd Hd']
  · isplitl [Hd] <;> iassumption
  iapply (slots_all (m - 64) (slotIdle (F := F) base c)); iexact Hs

end Ring

end Cert.KernelIdeal.Lookup
-- ==== Proof.Protocol.lean ====
/-
  The exchange: what the two halves of the mesh hand each other. The barrier hands the partner the rows its chunks land in; every
  chunk's arrival hands the receiver those rows back at the sender's gathered contents, and the sender its half of the source.
-/
module

public import proofs.«01_k».proof.Proof.Ring

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

/-! ## The data every device works on -/

/-- Per device: the count of ids below the cut, the ids it looks up in sorted order, where each row goes, its half of the table. -/
structure Inp (F : FTy → Type) where
  cnt : Dev nD → BitVec 32
  sid : Dev nD → S4096.Idx → BitVec 32
  perm : Dev nD → S4096.Idx → BitVec 32
  tab : Dev nD → (Rows 8192).Idx → Elt F .f32

/-- The device that differs in the cut axis. -/
def pr (c : Dev nD) : Dev nD := ⟨(c.val + 16) % 32, Nat.mod_lt _ (by decide)⟩
/-- The partner's partner is the device itself. -/
theorem pr_pr (c : Dev nD) : pr (pr c) = c := by
  apply Fin.ext; have : c.val < 32 := c.isLt
  show ((c.val + 16) % 32 + 16) % 32 = c.val; omega

variable (D : Inp F)

abbrev num (c : Dev nD) : ℕ := (D.cnt c).toNat
/-- The number of chunks device `c` sends, and receives. -/
abbrev nme (c : Dev nD) : ℕ := nN (nM c (num D c))
abbrev npr (c : Dev nD) : ℕ := nN (nMp c (num D c))
/-- The word at a position of a list. -/
abbrev wordAt (f : S4096.Idx → BitVec 32) (p : ℕ) : ℕ := (f (ix1 (⟨p % 4096, Nat.mod_lt _ (by decide)⟩ : Fin 4096))).toNat

/-- What the exchange needs of the data. -/
structure Good : Prop where
  mid : ∀ c, Mid (D.cnt c) (num D c)
  agree : ∀ c, nme D c = npr D (pr c)
  sid_lt : ∀ c p, wordAt (D.sid c) p < 8192
  perm_lt : ∀ c p, wordAt (D.perm c) p < 4096
  perm_inj : ∀ c p p', p < 4096 → p' < 4096 → wordAt (D.perm c) p = wordAt (D.perm c) p' → p = p'

variable {D} in
/-- As many chunks come in as the partner sends. -/
theorem Good.agree' (h : Good D) (c : Dev nD) : npr D c = nme D (pr c) := by rw [h.agree (pr c), pr_pr]

/-- What device `c` gathers: row `i` is the table's row of its `i`-th id, the last one for rows past its ids. -/
def GA (c : Dev nD) : (Rows 2560).Idx → Elt F .f32 := fun y =>
  D.tab c (ix2 (⟨wordAt (D.sid c) (min (nS c (num D c) + (y 0 : ℕ)) (nS c (num D c) + nM c (num D c) - 1)) % 8192, Nat.mod_lt _ (by decide)⟩ : Fin 8192) (⟨(y 1 : ℕ), (y 1).isLt⟩ : Fin 2048))

open Classical in
/-- The position in sorted order of a result row. -/
def posOf (f : S4096.Idx → BitVec 32) (r : ℕ) : ℕ := if h : ∃ p, p < 4096 ∧ wordAt f p = r then h.choose else 0

/-- Row `r`, column `j` of a buffer of 2560 rows. -/
def rowIx (r : ℕ) (j : Fin 2048) : (Rows 2560).Idx := ix2 (⟨r % 2560, Nat.mod_lt _ (by decide)⟩ : Fin 2560) j

/-- The result on device `c`: every row from where its id was looked up. -/
def GO (c : Dev nD) : (Rows 4096).Idx → Elt F .f32 := fun x =>
  if nS c (num D c) ≤ posOf (D.perm c) (x 0 : ℕ) ∧ posOf (D.perm c) (x 0 : ℕ) < nS c (num D c) + nM c (num D c)
  then GA D c (rowIx (posOf (D.perm c) (x 0 : ℕ) - nS c (num D c)) (⟨(x 1 : ℕ), (x 1).isLt⟩ : Fin 2048))
  else GA D (pr c) (rowIx (posOf (D.perm c) (x 0 : ℕ) - nSp c (num D c)) (⟨(x 1 : ℕ), (x 1).isLt⟩ : Fin 2048))

/-! ## Cells -/

abbrev barS : Sem sig := (SemArray.scalar (sig.barrier 0 rfl) : Sems sig S_).sem
abbrev barC (c : Dev nD) : GSem nD τ sig := ((c : Thread nD τ), .reg barS)
abbrev sendC (c : Dev nD) (ch : ℕ) : GSem nD τ sig := ((c : Thread nD τ), .dma (dsem (3 + ch)))
abbrev recvC (c : Dev nD) (ch : ℕ) : GSem nD τ sig := ((c : Thread nD τ), .dma (dsem (23 + ch)))

/-- The rows of chunk `ch` of the own gathered rows at a share, and of the rows the partner sends. -/
abbrev aChunk (c : Dev nD) (q : PosShare TreeShare) (ch : ℕ) (f : Buf (Elt F) (aM.view.loc (c : Thread nD τ))) : sProp 𝕄 :=
  aM.view.loc (c : Thread nD τ) ↦[rowsS 2560 (128 * ch) (128 * ch + 128)]{q} f
abbrev bChunk (c : Dev nD) (ch : ℕ) (f : Buf (Elt F) (bM.view.loc (c : Thread nD τ))) : sProp 𝕄 :=
  bM.view.loc (c : Thread nD τ) ↦[rowsS 2560 (128 * ch) (128 * ch + 128)]{fullShare} f

/-- The credit a chunk's copy brings. -/
def N : ℕ := (bM.slice (Rect.unit (s := S2560x2048) ![0, 0] S128x2048.size (by decide)) (fun _ => rfl)).view.dmaCredit
/-- A chunk's copy is worth something. -/
theorem N_pos : 0 < N := View.dmaCredit_pos _ (by decide)

/-- The half of a gathered row that goes with the copy, and the half the scatter reads. -/
abbrev qL : PosShare TreeShare := fullShare.left
abbrev qR : PosShare TreeShare := fullShare.right

def barPay (c : Dev nD) : sProp 𝕄 :=
  bigSep (Finset.Ico 0 (nme D c)) fun ch => iprop((∃ f, bChunk (pr c) ch f) ∗ reached ER (recvC (pr c) ch) 0)
def sendPay (c : Dev nD) (ch : ℕ) : sProp 𝕄 := aChunk c qL ch (GA D c)
def recvPay (c : Dev nD) (ch : ℕ) : sProp 𝕄 := bChunk c ch (GA D (pr c))

/-- Whether a semaphore of device `c` is raised in the exchange. -/
def live (c : Dev nD) : SemLoc sig → Prop
  | .reg s => s = barS
  | .dma n => (3 ≤ n.val ∧ n.val < 3 + nme D c ∧ n.val < 23) ∨ (23 ≤ n.val ∧ n.val < 23 + npr D c)
instance (c : Dev nD) (s : SemLoc sig) : Decidable (live D c s) := by cases s <;> unfold live <;> infer_instance

/-- What raising a semaphore hands its owner. -/
def payOf (c : Dev nD) : SemLoc sig → sProp 𝕄
  | .reg _ => barPay D c
  | .dma n => if n.val < 23 then sendPay D c (n.val - 3) else recvPay D c (n.val - 23)
def amountOf : SemLoc sig → ℕ
  | .reg _ => 1
  | .dma _ => N

/-- Every duty's amount is positive. -/
theorem amountOf_pos : ∀ s : SemLoc sig, 0 < amountOf s
  | .reg _ => Nat.one_pos
  | .dma _ => N_pos

instance sendPay_storable (c : Dev nD) (ch : ℕ) : BI.Storable (upEmb : UEmb _ 𝕄) (sendPay D c ch) := by unfold sendPay; infer_instance
instance recvPay_storable (c : Dev nD) (ch : ℕ) : BI.Storable (upEmb : UEmb _ 𝕄) (recvPay D c ch) := by unfold recvPay; infer_instance
instance barPay_storable (c : Dev nD) : BI.Storable (upEmb : UEmb _ 𝕄) (barPay D c) := by unfold barPay; infer_instance
/-- What a semaphore hands over may be kept in its invariant. -/
theorem payOf_storable (c : Dev nD) : ∀ s : SemLoc sig, BI.Storable (upEmb : UEmb _ 𝕄) (payOf D c s)
  | .reg _ => barPay_storable D c
  | .dma n => by
    unfold payOf
    dsimp only
    by_cases h : n.val < 23
    · rw [if_pos h]; infer_instance
    · rw [if_neg h]; infer_instance

def Rd : Rounds.Schedule (GSem nD τ sig) Unit 𝕄 where
  duties g r := if r = 0 ∧ g.1.2 = .tc ∧ live D g.1.1 g.2 then {()} else ∅
  unitless _ := False
  amount g _ _ := amountOf g.2
  payload g _ _ := payOf D g.1.1 g.2
  amount_pos g _ _ _ := amountOf_pos g.2

instance Rd_storable (g : GSem nD τ sig) (r : ℕ) (d : Unit) : BI.Storable (upEmb : UEmb _ 𝕄) ((Rd D).payload g r d) :=
  payOf_storable D g.1.1 g.2

/-- No duty after the first round. -/
theorem duties_later (g : GSem nD τ sig) : ∀ r, 1 ≤ r → (Rd D).duties g r = ∅ := fun r hr => by
  dsimp only [Rd]; rw [if_neg (fun h => by omega)]
/-- A semaphore that is not in use has no duty. -/
theorem duties_dead (c : Dev nD) (s : SemLoc sig) (h : ¬ live D c s) : ∀ r, 0 ≤ r → (Rd D).duties ((c : Thread nD τ), s) r = ∅ := fun r _ => by
  dsimp only [Rd]; rw [if_neg (fun h' => h h'.2.2)]
/-- A semaphore in use has one duty. -/
theorem duties_live (c : Dev nD) (s : SemLoc sig) (h : live D c s) : (Rd D).duties ((c : Thread nD τ), s) 0 = {()} := by
  dsimp only [Rd]; rw [if_pos ⟨rfl, rfl, h⟩]
/-- The one duty of a semaphore in use. -/
theorem duty_live {c : Dev nD} {s : SemLoc sig} (h : live D c s) : () ∈ (Rd D).duties ((c : Thread nD τ), s) 0 := by
  rw [duties_live D c s h]; exact Finset.mem_singleton_self _
/-- The amount of a duty. -/
theorem amount_eq (c : Dev nD) (s : SemLoc sig) (u : Unit) : (Rd D).amount ((c : Thread nD τ), s) 0 u = amountOf s := rfl
/-- What a duty hands over. -/
theorem payload_eq (c : Dev nD) (s : SemLoc sig) (u : Unit) : (Rd D).payload ((c : Thread nD τ), s) 0 u = payOf D c s := rfl
/-- A wait at a semaphore in use takes its whole amount. -/
theorem expect_eq (c : Dev nD) (s : SemLoc sig) (h : live D c s) : (Rd D).expect ((c : Thread nD τ), s) 0 = amountOf s := by
  unfold Schedule.expect Schedule.amountOf; rw [duties_live D c s h, Finset.sum_singleton]; rfl
/-- What a wait gets is what the one duty hands over. -/
theorem rest_eq (c : Dev nD) (s : SemLoc sig) (h : live D c s) :
    bigSep ((Rd D).duties ((c : Thread nD τ), s) 0 \ ∅) (fun u => (Rd D).payload ((c : Thread nD τ), s) 0 u) = payOf D c s := by
  rw [Finset.sdiff_empty, duties_live D c s h, bigSep_singleton]; rfl

/-- The barrier is in use. -/
theorem live_bar (c : Dev nD) : live D c (.reg barS) := rfl
/-- The send semaphore of a chunk that is sent is in use. -/
theorem live_send {c : Dev nD} {ch : ℕ} (h : ch < nme D c) (h20 : ch < 20) : live D c (.dma (dsem (3 + ch))) := by
  left
  have e : (dsem (3 + ch) : Fin 299).val = 3 + ch := dsem_val (by omega)
  rw [show (dsem (3 + ch)).val = 3 + ch from e]; omega
/-- The receive semaphore of a chunk that comes is in use. -/
theorem live_recv {c : Dev nD} {ch : ℕ} (h : ch < npr D c) (h20 : ch < 20) : live D c (.dma (dsem (23 + ch))) := by
  right
  rw [show (dsem (23 + ch)).val = 23 + ch from dsem_val (by omega)]; omega
/-- The send semaphore of a chunk that is not sent is not in use. -/
theorem dead_send {c : Dev nD} {ch : ℕ} (h : nme D c ≤ ch) (h20 : ch < 20) : ¬ live D c (.dma (dsem (3 + ch))) := by
  rintro (hl | hl) <;> rw [show (dsem (3 + ch)).val = 3 + ch from dsem_val (by omega)] at hl <;> omega
/-- The receive semaphore of a chunk that does not come is not in use. -/
theorem dead_recv {c : Dev nD} {ch : ℕ} (h : npr D c ≤ ch) (h20 : ch < 20) : ¬ live D c (.dma (dsem (23 + ch))) := by
  rintro (hl | hl) <;> rw [show (dsem (23 + ch)).val = 23 + ch from dsem_val (by omega)] at hl <;> omega
/-- What the end of a chunk's send hands back. -/
theorem pay_send (c : Dev nD) {ch : ℕ} (h20 : ch < 20) : payOf D c (.dma (dsem (3 + ch))) = sendPay D c ch := by
  unfold payOf
  dsimp only
  rw [show (dsem (3 + ch)).val = 3 + ch from dsem_val (by omega), if_pos (by omega), Nat.add_sub_cancel_left]
/-- What a chunk's arrival hands over. -/
theorem pay_recv (c : Dev nD) {ch : ℕ} (h20 : ch < 20) : payOf D c (.dma (dsem (23 + ch))) = recvPay D c ch := by
  unfold payOf
  dsimp only
  rw [show (dsem (23 + ch)).val = 23 + ch from dsem_val (by omega), if_neg (by omega), Nat.add_sub_cancel_left]

/-! ## What each core owes; the levels -/

/-- The chunks not yet sent, from chunk `j` on. -/
def owe (c : Dev nD) (j : ℕ) : CellTallies nD τ sig Unit := ∑ ch ∈ Finset.Ico j (nme D c), tallyAt (recvC (pr c) ch) () N
/-- After its last chunk a device owes nothing. -/
theorem owe_end (c : Dev nD) {j : ℕ} (h : nme D c ≤ j) : owe D c j = 0 := by unfold owe; rw [Finset.Ico_eq_empty_of_le h, Finset.sum_empty]
/-- Sending a chunk pays one chunk of what a device owes. -/
theorem owe_step (c : Dev nD) {j : ℕ} (h : j < nme D c) : owe D c j = owe D c (j + 1) + tallyAt (recvC (pr c) j) () N := by
  unfold owe; rw [Finset.sum_eq_sum_Ico_succ_bot h, add_comm]

def L (g : GSem nD τ sig) : Finset Unit := if g.1.2 = .tc then {()} else ∅
/-- Barriers at 1, the arrivals of chunks at 2, everything else at 0. -/
def lv (g : GSem nD τ sig) (_ : Unit) : ℕ :=
  match g.2 with
  | .reg _ => 1
  | .dma n => if 23 ≤ n.val ∧ n.val < 43 then 2 else 0

/-- What a device owes is owed to the partner's receive semaphores. -/
theorem owe_pos {c : Dev nD} {j : ℕ} (hn : nme D c ≤ 20) {g : GSem nD τ sig} {u : Unit} (h : 0 < owe D c j g u) : ∃ ch < 20, g = recvC (pr c) ch := by
  unfold owe at h
  rw [Finset.sum_apply, Finsupp.finset_sum_apply] at h
  obtain ⟨ch, hm, hp⟩ := Finset.exists_ne_zero_of_sum_ne_zero h.ne'
  rw [tallyAt_apply] at hp
  by_cases e : g = recvC (pr c) ch ∧ u = ()
  · exact ⟨ch, lt_of_lt_of_le (Finset.mem_Ico.mp hm).2 hn, e.1⟩
  · rw [if_neg e] at hp; exact absurd rfl hp

/-- A wait below the arrivals is allowed while chunks are owed. -/
theorem may (c : Dev nD) (hn : nme D c ≤ 20) (j : ℕ) (s : SemLoc sig) (hs : lv ((c : Thread nD τ), s) () ≤ 1) :
    (levAts L lv : sProp 𝕄) ⊢ MayWait (c : Thread nD τ) s () (owe D c j) :=
  MayOwe.of_cut (L := L) (lev := lv) 1 (fun p hp => by rw [Finset.mem_singleton.mp hp]; exact Finset.mem_singleton_self _)
    (fun g u hg => by obtain ⟨ch, -, rfl⟩ := owe_pos D hn hg; exact Finset.mem_singleton_self _)
    (fun p hp => by rw [Finset.mem_singleton.mp hp]; exact hs)
    (fun g u hg => by
      obtain ⟨ch, h20, rfl⟩ := owe_pos D hn hg
      unfold lv
      dsimp only
      rw [show (dsem (23 + ch)).val = 23 + ch from dsem_val (by omega), if_pos (by omega)]
      decide)

/-- A semaphore of a local copy has a level of at most 1. -/
theorem lv_local {c : Dev nD} {n : ℕ} (h : 43 ≤ n) (h' : n < 299) : lv ((c : Thread nD τ), .dma (dsem n)) () ≤ 1 := by
  unfold lv
  dsimp only
  rw [show (dsem n).val = n from dsem_val h', if_neg (by omega)]
  decide

/-! ## The invariants -/

/-- Every cell of the exchange. -/
def cellsB : Finset (GSem nD τ sig) := Finset.univ.image barC
def cellsD : Finset (GSem nD τ sig) := (Finset.univ ×ˢ Finset.Ico 3 43).image fun p : Dev nD × ℕ => ((p.1 : Thread nD τ), SemLoc.dma (dsem p.2))

@[no_expose] def invs (K : GSem nD τ sig → ℕ) : sProp 𝕄 := bigSep (cellsB ∪ cellsD) fun g => cellInv ER (Rd D) (K g) g
instance invs_persistent (K : GSem nD τ sig → ℕ) : BI.Persistent (invs D K) := by unfold invs; infer_instance

/-- All invariants give each one. -/
theorem inv_of {K : GSem nD τ sig → ℕ} {g : GSem nD τ sig} (h : g ∈ cellsB ∪ cellsD) : invs D K ⊢ cellInv ER (Rd D) (K g) g := by
  unfold invs; exact bigSep_elim h
/-- The invariants one by one give all of them. -/
theorem invs_intro (K : GSem nD τ sig → ℕ) : bigSep (cellsB ∪ cellsD) (fun g => cellInv ER (Rd D) (K g) g) ⊢ invs D K := by
  unfold invs; exact BI.Entails.refl _
/-- The barrier's invariant. -/
theorem inv_bar {K : GSem nD τ sig → ℕ} (c : Dev nD) : invs D K ⊢ cellInv ER (Rd D) (K (barC c)) (barC c) :=
  inv_of D (Finset.mem_union_left _ (Finset.mem_image_of_mem _ (Finset.mem_univ c)))
/-- The invariant of a send or receive semaphore. -/
theorem inv_dma {K : GSem nD τ sig → ℕ} (c : Dev nD) {n : ℕ} (h : 3 ≤ n) (h' : n < 43) :
    invs D K ⊢ cellInv ER (Rd D) (K ((c : Thread nD τ), .dma (dsem n))) ((c : Thread nD τ), .dma (dsem n)) :=
  inv_of D (Finset.mem_union_right _ (Finset.mem_image.mpr ⟨(c, n), Finset.mem_product.mpr ⟨Finset.mem_univ c, Finset.mem_Ico.mpr ⟨h, h'⟩⟩, rfl⟩))

/-- A semaphore that was used and waited for is closed at zero. -/
theorem close_used {κ : ℕ} (g : GSem nD τ sig) : iprop(cellInv ER (Rd D) κ g ∗ atPos ER g (0 + 1) ∅ 0) ⊢ (|={Set.univ}=> semVal g 0 : sProp 𝕄) :=
  Rounds.cell_close ER (Rd D) (Set.mem_univ κ) id (duties_later D g)
/-- A semaphore that is not in use is closed at zero. -/
theorem close_idle {κ : ℕ} (c : Dev nD) (s : SemLoc sig) (h : ¬ live D c s) :
    iprop(cellInv ER (Rd D) κ ((c : Thread nD τ), s) ∗ atPos ER ((c : Thread nD τ), s) 0 ∅ 0) ⊢ (|={Set.univ}=> semVal ((c : Thread nD τ), s) 0 : sProp 𝕄) :=
  Rounds.cell_close ER (Rd D) (Set.mem_univ κ) id (duties_dead D c s h)

end Cert.KernelIdeal.Lookup
-- ==== Proof.Chunk.lean ====
/-
  The first phase of a device: chunk by chunk, gather 128 rows of the own half of the table and send them to the partner.
-/
module

public import proofs.«01_k».proof.Proof.Protocol

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}

/-! ## Chunks of rows -/

/-- What a copy of 128 whole rows onto the same rows of a buffer of the same shape leaves there: the source's rows. -/
theorem land_chunk {n r : ℕ} (od : Fin 2 → ℕ) (hod : od = ![r, 0]) (hd : ∀ a, od a + S128x2048.size a ≤ (Rows n).size a)
    (os : Fin 2 → ℕ) (hos : os = ![r, 0]) (hsz : ∀ a, os a + S128x2048.size a ≤ (Rows n).size a)
    {sp sp' : Space} (vd : View sig .tc sp (Rows n) .f32) (vs : View sig .tc sp' (Rows n) .f32)
    (fd : vd.ty.Contents (Elt F)) (fs : vs.ty.Contents (Elt F)) (i : (Rows n).Idx) (hi : i ∈ rowsS n r (r + 128)) :
    vd.read (Elt F) ((vd.slice (Rect.unit (s := Rows n) od S128x2048.size hd)).write (Elt F) fd
      ((vs.slice (Rect.unit (s := Rows n) os S128x2048.size hsz)).read (Elt F) fs) Finset.univ) i = vs.read (Elt F) fs i := by
  have hi' : i ∈ (Rect.unit (s := Rows n) od S128x2048.size hd).set := by rw [unit_rows od hod hd]; exact hi
  rw [← Rect.map_emb_univ] at hi'
  obtain ⟨x, -, rfl⟩ := Finset.mem_map.mp hi'
  rw [View.read_slice_write_emb _ _ _ (Finset.mem_univ x)]
  subst hod hos
  rfl

/-- A stretch of rows is its rows. -/
theorem a_rows (c : Dev nD) (q : PosShare TreeShare) (lo hi : ℕ) (f : Buf (Elt F) (aM.view.loc (c : Thread nD τ))) :
    (aM.view.loc (c : Thread nD τ) ↦[rowsS 2560 lo hi]{q} f : sProp 𝕄) = bigSep (Finset.Ico lo hi) fun r => aRow c q r f := by
  rw [rowsS_biUnion]
  exact pointsTo_biUnion _ _ fun r _ r' _ hne => rowS_disjoint 2560 hne

section Gather
variable {D : Inp F} (hD : Good D) (c : Dev nD)

/-- The position in sorted order that row `i` of the own gathered rows is looked up at. -/
abbrev posG (D : Inp F) (c : Dev nD) (i : ℕ) : ℕ := min (nS c (num D c) + i) (nS c (num D c) + nM c (num D c) - 1)
abbrev tok (t : ℕ) : PosShare TreeShare := shareTokN fullShare t

/-- Row `t` of chunk `ch`: before its copy, in flight, landed. -/
def gA (D : Inp F) (c : Dev nD) (ch t : ℕ) : sProp 𝕄 :=
  iprop((∃ f, aRow c fullShare (128 * ch + t) f) ∗ ePt c (tok t) (D.tab c) ∗ semVal ((c : Thread nD τ), .dma (dsem (43 + t))) 0)
def gM (D : Inp F) (c : Dev nD) (ch t : ℕ) : sProp 𝕄 :=
  midG c (43 + t) (128 * ch + t) (wordAt (D.sid c) (posG D c (128 * ch + t))) (tok t) (D.tab c) (GA D c)
def gB (D : Inp F) (c : Dev nD) (ch t : ℕ) : sProp 𝕄 :=
  iprop(aRow c fullShare (128 * ch + t) (GA D c) ∗ ePt c (tok t) (D.tab c) ∗ semVal ((c : Thread nD τ), .dma (dsem (43 + t))) 0)

/-- A gathered row is the table's row that the sorted number at its place names. -/
theorem GA_row (r : ℕ) (i : (Rows 2560).Idx) (j : (Rows 8192).Idx) (hi : (i 0 : ℕ) = r)
    (hj : (j 0 : ℕ) = wordAt (D.sid c) (posG D c r)) (hij : (i 1 : ℕ) = (j 1 : ℕ)) : GA D c i = D.tab c j := by
  subst hi
  unfold GA
  congr 1
  funext a
  match a with
  | ⟨0, _⟩ =>
    apply Fin.ext
    show wordAt (D.sid c) (posG D c (i 0 : ℕ)) % 8192 = (j 0 : ℕ)
    have : (j 0 : ℕ) < 8192 := (j 0).isLt
    rw [← hj, Nat.mod_eq_of_lt this]
  | ⟨1, _⟩ => exact Fin.ext hij

include hD

/-- The issue of row `t` of chunk `ch`. -/
theorem issue_at (ch t : ℕ) (hch : ch < 20) (ht : t < 128) {o1 : Fin 1 → ℕ} {i1 : ∀ a, o1 a + S1.size a ≤ S4096.size a}
    {chk : BitVec 32 → Prop} {dec : ∀ w, Decidable (chk w)} {o4 : BitVec 32 → Fin 2 → ℕ}
    {i4 : ∀ w, chk w → ∀ a, o4 w a + S1x2048.size a ≤ S8192x2048.size a}
    {o2 : Fin 1 → ℕ} {i2 : ∀ a, o2 a + S1.size a ≤ S128.size a}
    {o3 : Fin 2 → ℕ} {i3 : ∀ a, o3 a + S1x2048.size a ≤ S2560x2048.size a}
    (h1 : o1 = ![posG D c (128 * ch + t)]) (h2 : o2 = ![t]) (h3 : o3 = ![128 * ch + t, 0]) (h4 : ∀ w, o4 w = ![w.toNat, 0])
    (hchk : ∀ w : BitVec 32, w.toNat < 8192 → chk w) :
    iprop(sidPt c (D.sid c) ∗ gA D c ch t)
      ⊢ wp frame (wpE defs 𝒱₀ (c : Thread nD τ) bd) Set.univ (issueTrip (F := F) o1 i1 chk dec o4 i4 o2 i2 o3 i3)
        fun _ => iprop(sidPt c (D.sid c) ∗ gM D c ch t) := by
  have hp : posG D c (128 * ch + t) < 4096 := by
    have := nSM (hD.mid c) c; have := nM_ge (hD.mid c) c; unfold posG; omega
  exact issueTrip_spec c (⟨posG D c (128 * ch + t) % 4096, Nat.mod_lt _ (by decide)⟩ : Fin 4096) (h1.trans (pos_mod hp)) t h2 (128 * ch + t) h3 h4 hchk
    (D.sid c) (hD.sid_lt c _) (tok t) (D.tab c) (GA D c) fun i j hi hj hij => GA_row c _ i j hi hj hij

/-- The wait for row `t` of chunk `ch`. -/
theorem wait_at (ch t : ℕ) (hch : ch < 20) (ht : t < 128) {o1 : Fin 1 → ℕ} {i1 : ∀ a, o1 a + S1.size a ≤ S4096.size a}
    {chk : BitVec 32 → Prop} {dec : ∀ w, Decidable (chk w)} {o4 : BitVec 32 → Fin 2 → ℕ}
    {i4 : ∀ w, chk w → ∀ a, o4 w a + S1x2048.size a ≤ S8192x2048.size a}
    {o2 : Fin 1 → ℕ} {i2 : ∀ a, o2 a + S1.size a ≤ S128.size a}
    {o3 : Fin 2 → ℕ} {i3 : ∀ a, o3 a + S1x2048.size a ≤ S2560x2048.size a}
    (h1 : o1 = ![posG D c (128 * ch + t)]) (h2 : o2 = ![t]) (h3 : o3 = ![128 * ch + t, 0])
    (hchk : ∀ w : BitVec 32, w.toNat < 8192 → chk w) :
    iprop((sidPt c (D.sid c) ∗ ow c (owe D c ch) ∗ levAts L lv) ∗ gM D c ch t)
      ⊢ wp frame (wpE defs 𝒱₀ (c : Thread nD τ) bd) Set.univ (waitTrip (F := F) o1 i1 chk dec o4 i4 o2 i2 o3 i3)
        fun _ => iprop((sidPt c (D.sid c) ∗ ow c (owe D c ch) ∗ levAts L lv) ∗ gB D c ch t) := by
  have hp : posG D c (128 * ch + t) < 4096 := by
    have := nSM (hD.mid c) c; have := nM_ge (hD.mid c) c; unfold posG; omega
  have hW : iprop(sidPt c (D.sid c) ∗ ow c (owe D c ch) ∗ levAts L lv ∗ gM D c ch t)
      ⊢ wp frame (wpE defs 𝒱₀ (c : Thread nD τ) bd) Set.univ (waitTrip (F := F) o1 i1 chk dec o4 i4 o2 i2 o3 i3)
        fun _ => iprop(sidPt c (D.sid c) ∗ ow c (owe D c ch) ∗ gB D c ch t) :=
    waitTrip_spec c (⟨posG D c (128 * ch + t) % 4096, Nat.mod_lt _ (by decide)⟩ : Fin 4096) (h1.trans (pos_mod hp)) t h2 (128 * ch + t) h3 hchk
      (D.sid c) (hD.sid_lt c _) (tok t) (D.tab c) (GA D c) (owe D c ch) (levAts L lv)
      (may D c (nN_le_me (hD.mid c) c) ch _ (lv_local (by omega) (by omega)))
  iintro ⟨⟨Hs, HO, #Hlev⟩, Hm⟩
  iapply (wp_wand_r _ _ _)
  isplitl [Hs HO Hm]
  · iapply hW
    isplitl [Hs]; · iexact Hs
    isplitl [HO]; · iexact HO
    isplitr; · iexact Hlev
    iexact Hm
  iintro %_ ⟨Hs, HO, Hb⟩
  isplitl [Hs HO]
  · isplitl [Hs]; · iexact Hs
    isplitl [HO]; · iexact HO
    iexact Hlev
  iexact Hb

/-- The copy of the gathered chunk to the partner: both duties are paid, the own one with the lent half of the source. -/
theorem send_chunk {K : GSem nD τ sig → ℕ} {I : sProp 𝕄} [BI.Persistent I] (hI : I ⊢ invs D K) (ch : ℕ) (h20 : ch < 20) (hn : ch < nme D c) {sS sR : DmaSem sig} (hS : sS = dsem (3 + ch)) (hR : sR = dsem (23 + ch))
    {i6 : ∀ a, (![128 * ch, 0] : Fin 2 → ℕ) a + S128x2048.size a ≤ S2560x2048.size a}
    {i5 : ∀ a, (![128 * ch, 0] : Fin 2 → ℕ) a + S128x2048.size a ≤ S2560x2048.size a}
    (fd : Buf (Elt F) (bM.view.loc (pr c : Thread nD τ))) (W : Waits sig Unit) {hsc hw hw' ht} {α : Type}
    (k : PUnit → Prog (TpuEff nD τ sig (Elt F) Λ₀ .tc) α) (Q : α → sProp 𝕄) :
    iprop(I ∗ aChunk c qL ch (GA D c) ∗ bChunk (pr c) ch fd ∗ owes (c : Thread nD τ) (owe D c ch) W
      ∗ dutyTok ER (sendC c ch) 0 () ∗ reached ER (sendC c ch) 0 ∗ dutyTok ER (recvC (pr c) ch) 0 () ∗ reached ER (recvC (pr c) ch) 0)
    ⊢ iprop(((cred (tallyAt (sendC c ch) () N) ∗ owes (c : Thread nD τ) (owe D c (ch + 1)) W)
        -∗ wp frame (wpE defs 𝒱₀ (c : Thread nD τ) bd) Set.univ (k ⟨⟩) Q)
      -∗ wp frame (wpE defs 𝒱₀ (c : Thread nD τ) bd) Set.univ
        (.op (.enqueueDma (aM.slice (Rect.unit (s := S2560x2048) ![128 * ch, 0] S128x2048.size i5) (fun _ => rfl))
          (.remote (Dev.tc (pr c)) (bM.slice (Rect.unit (s := S2560x2048) ![128 * ch, 0] S128x2048.size i6) (fun _ => rfl)) (.dma sS) hsc)
          (.dma sR) hw hw' ht) k) Q) := by
  subst hS hR
  have hset5 : (aM.slice (Rect.unit (s := S2560x2048) ![128 * ch, 0] S128x2048.size i5) (fun _ => rfl)).view.set = rowsS 2560 (128 * ch) (128 * ch + 128) :=
    (View.set_slice_whole _ _).trans (unit_rows _ rfl _)
  have hset6 : (bM.slice (Rect.unit (s := S2560x2048) ![128 * ch, 0] S128x2048.size i6) (fun _ => rfl)).view.set = rowsS 2560 (128 * ch) (128 * ch + 128) :=
    (View.set_slice_whole _ _).trans (unit_rows _ rfl _)
  have hl1 := live_send D hn h20
  have hl2 := live_recv D (c := pr c) (ch := ch) (by rw [← hD.agree c]; exact hn) h20
  iintro ⟨#Hinv, Ha, Hb, HO, Ht1, #Hr1, Ht2, #Hr2⟩ HK
  rw [owe_step D c hn]
  iapply (Rounds.wp_send_pointsTo 𝒱₀ ER (Rd D) (c : Thread nD τ) bd (c' := (pr c : Thread nD τ))
      (src := aM.slice (Rect.unit (s := S2560x2048) ![128 * ch, 0] S128x2048.size i5) (fun _ => rfl))
      (dst := bM.slice (Rect.unit (s := S2560x2048) ![128 * ch, 0] S128x2048.size i6) (fun _ => rfl))
      (sS := .dma (dsem (3 + ch))) (sem := .dma (dsem (23 + ch))) (κ₁ := K (sendC c ch)) (κ₂ := K (recvC (pr c) ch))
      (q := qL) (fs := GA D c) (fd := fd) (r₁ := 0) (r₂ := 0) (d₁ := ()) (d₂ := ())
      (duty_live D hl1) (duty_live D hl2) () () N rfl rfl rfl (owe D c (ch + 1)) rfl (W := W)
      (by rw [payload_eq, pay_send D c h20, hset5]; unfold sendPay; exact BI.Entails.refl _)
      (by
        rw [payload_eq, pay_recv D (pr c) h20, hset6]
        unfold recvPay
        rw [pr_pr]
        refine Entails.of_eq (pointsTo_congr fun i hi => ?_)
        have h := land_chunk _ rfl i6 _ rfl i5 bM.view aM.view fd (GA D c) i hi
        rw [View.read_whole, View.read_whole] at h
        rw [← h])) $$ [Ha Hb HO Ht1 Ht2]
  · isplitr; · iapply (hI.trans (inv_dma D c (n := 3 + ch) (by omega) (by omega))); iexact Hinv
    isplitr; · iapply (hI.trans (inv_dma D (pr c) (n := 23 + ch) (by omega) (by omega))); iexact Hinv
    isplitl [Ha]; · rw [hset5]; iexact Ha
    isplitl [Hb]; · rw [hset6]; iexact Hb
    isplitl [HO]; · iexact HO
    isplitl [Ht1]; · iexact Ht1
    isplitr; · iexact Hr1
    isplitl [Ht2]; · iexact Ht2
    iexact Hr2
  iexact HK

omit hD in
/-- What chunk `ch` takes, and what it leaves. -/
def gIn (D : Inp F) (c : Dev nD) (ch : ℕ) : sProp 𝕄 :=
  iprop(bigSep (Finset.Ico 0 128) (fun t => iprop(∃ f, aRow c fullShare (128 * ch + t) f))
    ∗ ((∃ f, bChunk (pr c) ch f) ∗ reached ER (recvC (pr c) ch) 0)
    ∗ dutyTok ER (sendC c ch) 0 () ∗ reached ER (sendC c ch) 0 ∗ dutyTok ER (recvC (pr c) ch) 0 ())
omit hD in
def gOut (D : Inp F) (c : Dev nD) (ch : ℕ) : sProp 𝕄 :=
  iprop(bigSep (Finset.Ico 0 128) (fun t => aRow c qR (128 * ch + t) (GA D c)) ∗ cred (tallyAt (sendC c ch) () N))
omit hD in
/-- What every chunk uses and gives back. -/
def gE (D : Inp F) (c : Dev nD) (t : ℕ) : sProp 𝕄 :=
  iprop(ePt c (tok t) (D.tab c) ∗ semVal ((c : Thread nD τ), .dma (dsem (43 + t))) 0)
omit hD in
/-- After `j` chunks. -/
def gState (D : Inp F) (I : sProp (MT nD τ sig Unit (Elt F) ℕ UU ℕ)) (c : Dev nD) (j : ℕ) : sProp 𝕄 :=
  iprop(I ∗ levAts L lv ∗ sidPt c (D.sid c) ∗ ow c (owe D c j) ∗ bigSep (Finset.Ico 0 128) (gE D c)
    ∗ bigSep (Finset.Ico 0 (min j (nme D c))) (gOut D c) ∗ bigSep (Finset.Ico (min j (nme D c)) (nme D c)) (gIn D c))

omit hD in
/-- What a finished gather returns: the row in two shares, and the share of the table it read. -/
theorem gB_split (ch t : ℕ) : gB D c ch t
    ⊢ iprop(aRow c qL (128 * ch + t) (GA D c) ∗ aRow c qR (128 * ch + t) (GA D c) ∗ gE D c t) := by
  unfold gB gE
  iintro ⟨Ha, HE⟩
  ihave Ha := (pointsTo_share (PosShare.mem_left_op_right fullShare)).1 $$ Ha
  icases Ha with ⟨Hl, Hr⟩
  isplitl [Hl]; · iexact Hl
  isplitl [Hr]; · iexact Hr
  iexact HE

/-- One chunk: gathered and sent when the device has that many, else nothing. -/
theorem gather_stage {K : GSem nD τ sig → ℕ} {I : sProp 𝕄} [BI.Persistent I] (hI : I ⊢ invs D K) (ch : ℕ) (h20 : ch < 20) {cnd : BitVec 1} (hcnd : cnd = 1#1 ↔ ch < nme D c)
    {l1 l2 : Scf.Loop 32} {ok1 : l1.OK} {ok2 : l2.OK} (hl1 : l1.trips = 128) (hl2 : l2.trips = 128)
    {b1 : cnd = 1#1 → Fin l1.trips → Unit → Prog (TpuEff nD τ sig (Elt F) Λ₀ .tc) Unit}
    {b2 : cnd = 1#1 → Fin l2.trips → Unit → Prog (TpuEff nD τ sig (Elt F) Λ₀ .tc) Unit}
    (hb1 : ∀ h k acc, k.val < 128 → iprop(sidPt c (D.sid c) ∗ gA D c ch k.val) ⊢ wp frame (wpE defs 𝒱₀ (c : Thread nD τ) bd) Set.univ (b1 h k acc)
      fun _ => iprop(sidPt c (D.sid c) ∗ gM D c ch k.val))
    (hb2 : ∀ h k acc, k.val < 128 → iprop((sidPt c (D.sid c) ∗ ow c (owe D c ch) ∗ levAts L lv) ∗ gM D c ch k.val)
      ⊢ wp frame (wpE defs 𝒱₀ (c : Thread nD τ) bd) Set.univ (b2 h k acc)
      fun _ => iprop((sidPt c (D.sid c) ∗ ow c (owe D c ch) ∗ levAts L lv) ∗ gB D c ch k.val))
    {o7 : Fin 1 → ℕ} {i7 : ∀ a, o7 a + S1.size a ≤ S20.size a} (h7 : o7 = ![ch])
    {o8 : Fin 1 → ℕ} {i8 : ∀ a, o8 a + S1.size a ≤ S20.size a} (h8 : o8 = ![ch])
    {o6 : Fin 2 → ℕ} {i6 : ∀ a, o6 a + S128x2048.size a ≤ S2560x2048.size a} (h6 : o6 = ![128 * ch, 0])
    {o5 : Fin 2 → ℕ} {i5 : ∀ a, o5 a + S128x2048.size a ≤ S2560x2048.size a} (h5 : o5 = ![128 * ch, 0])
    {dst : Dev nD} (hdst : dst = pr c) {α : Type} (kk : PUnit → Prog (TpuEff nD τ sig (Elt F) Λ₀ .tc) α) (Q : α → sProp 𝕄) :
    gState D I c ch
      ⊢ iprop((∀ u, gState D I c (ch + 1) -∗ wp frame (wpE defs 𝒱₀ (c : Thread nD τ) bd) Set.univ (kk u) Q)
        -∗ wp frame (wpE defs 𝒱₀ (c : Thread nD τ) bd) Set.univ
          ((if h : cnd = 1#1 then do
              Scf.Loop.for l1 ok1 ⟨⟩ (b1 h)
              Scf.Loop.for l2 ok2 ⟨⟩ (b2 h)
              let s1 : DmaSems sig S1 := cc0_scratch2.slice (Rect.unit (s := S20) o7 S1.size i7)
              let s2 : DmaSems sig S_ := s1.squeeze S_ squeezes_S1_S_
              let r1 : DmaSems sig S1 := cc0_scratch3.slice (Rect.unit (s := S20) o8 S1.size i8)
              let r2 : DmaSems sig S_ := r1.squeeze S_ squeezes_S1_S_
              let vd : Memref sig .tc .vmem S128x2048 .f32 := bM.slice (Rect.unit (s := S2560x2048) o6 S128x2048.size i6) (fun _ => rfl)
              let vs : Memref sig .tc .vmem S128x2048 .f32 := aM.slice (Rect.unit (s := S2560x2048) o5 S128x2048.size i5) (fun _ => rfl)
              Prog.lift (.enqueueDma vs (.remote (Dev.tc dst) vd (.dma s2.sem)) (.dma r2.sem) (View.wordExact_bits rfl) (View.wordExact_bits rfl) ⟨⟨rfl, Or.inl rfl⟩, trivial⟩)
              pure ⟨⟩
            else do pure ⟨⟩ : Prog (TpuEff nD τ sig (Elt F) Λ₀ .tc) PUnit) >>= kk) Q) := by
  by_cases hc : cnd = 1#1
  swap
  · have hn : nme D c ≤ ch := by by_contra h; exact hc (hcnd.2 (by omega))
    rw [dif_neg hc]
    unfold gState
    rw [owe_end D c hn, owe_end D c (by omega : nme D c ≤ ch + 1), min_eq_right hn, min_eq_right (by omega : nme D c ≤ ch + 1)]
    simp only [Prog.pure_eq_ret, Prog.bind_ret]
    iintro HS HK
    iapply HK
    iexact HS
  have hn := hcnd.1 hc
  have hlt : ∀ {T : ℕ} (k : Fin T), T = 128 → k.val < 128 := fun k h => h ▸ k.isLt
  rw [dif_pos hc]
  subst h7 h8 h6 h5 hdst
  unfold gState
  rw [min_eq_left hn.le, min_eq_left (by omega : ch + 1 ≤ nme D c), bigSep_Ico_succ_bot hn, bigSep_Ico_succ_top (Nat.zero_le ch)]
  simp only [Prog.lift, Prog.bind_op, Prog.bind_ret, Prog.pure_eq_ret, Prog.bind_assoc]
  iintro ⟨#Hinv, #Hlev, Hs, HO, HE, Hout, ⟨Hin, Hins⟩⟩ HK
  unfold gIn
  icases Hin with ⟨Hrows, ⟨⟨%fd, Hb⟩, #Hr2⟩, Ht1, #Hr1, Ht2⟩
  iapply (wp_items ok1 ⟨⟩ (b1 hc) hl1 (sidPt c (D.sid c)) (gA D c ch) (gM D c ch) (fun k acc => hb1 hc k acc (hlt k hl1))) $$ [Hs HE Hrows]
  · isplitl [Hs]; · iexact Hs
    have hA : bigSep (Finset.Ico 0 128) (gA D c ch)
        = iprop(bigSep (Finset.Ico 0 128) (fun t => iprop(∃ f, aRow c fullShare (128 * ch + t) f)) ∗ bigSep (Finset.Ico 0 128) (gE D c)) :=
      bigSep_sep' _ _ _
    rw [hA]
    isplitl [Hrows]; · iexact Hrows
    iexact HE
  iintro %_ ⟨Hs, Hmid⟩
  iapply (wp_items ok2 ⟨⟩ (b2 hc) hl2 (iprop(sidPt c (D.sid c) ∗ ow c (owe D c ch) ∗ levAts L lv)) (gM D c ch) (gB D c ch)
    (fun k acc => hb2 hc k acc (hlt k hl2))) $$ [Hs HO Hmid]
  · isplitl [Hs HO]
    · isplitl [Hs]; · iexact Hs
      isplitl [HO]; · iexact HO
      iexact Hlev
    iexact Hmid
  iintro %_ ⟨⟨Hs, HO, -⟩, Hgb⟩
  have hgb : bigSep (Finset.Ico 0 128) (gB D c ch)
      ⊢ iprop(aChunk c qL ch (GA D c) ∗ bigSep (Finset.Ico 0 128) (fun t => aRow c qR (128 * ch + t) (GA D c)) ∗ bigSep (Finset.Ico 0 128) (gE D c)) := by
    unfold aChunk
    rw [a_rows, bigSep_shift (128 * ch) 128 (fun r => aRow c qL r (GA D c)), ← bigSep_sep', ← bigSep_sep']
    exact bigSep_mono fun t _ => gB_split c ch t
  ihave Hgb := hgb $$ Hgb
  icases Hgb with ⟨Ha, Hkeep, HE⟩
  unfold ow
  icases HO with ⟨%W, HO⟩
  have e7 := sem_one (d := 20) hcc0_scratch2 ![ch] rfl i7
  have e8 := sem_one (d := 20) hcc0_scratch3 ![ch] rfl i8
  iapply (send_chunk hD c hI ch h20 hn e7 e8 fd W) $$ [Ha Hb HO Ht1 Ht2]
  · isplitr; · iexact Hinv
    isplitl [Ha]; · iexact Ha
    isplitl [Hb]; · iexact Hb
    isplitl [HO]; · iexact HO
    isplitl [Ht1]; · iexact Ht1
    isplitr; · iexact Hr1
    isplitl [Ht2]; · iexact Ht2
    iexact Hr2
  iintro ⟨Hc, HO⟩
  iapply HK
  isplitr; · iexact Hinv
  isplitr; · iexact Hlev
  isplitl [Hs]; · iexact Hs
  isplitl [HO]; · iexists W; iexact HO
  isplitl [HE]; · iexact HE
  isplitr [Hins]
  · isplitl [Hkeep Hc]
    · unfold gOut
      isplitl [Hkeep]; · iexact Hkeep
      iexact Hc
    iexact Hout
  iexact Hins

end Gather

end Cert.KernelIdeal.Lookup
-- ==== Proof.Phase1.lean ====
/-
  The first phase on the kernel's own text: the barrier, then the twenty chunks gathered and sent.
-/
module

public import proofs.«01_k».proof.Proof.Chunk

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}
variable {D : Inp F} (hD : Good D) (c : Dev nD)

/-- The word the kernel addresses its partner by is the partner. -/
theorem dev_pr (d : Dev nD) : k0_dev1 d = (pr d).val := by
  revert d; decide

include hD

/-- The issue of trip `k` of the chunk whose first row is the word `w`. -/
theorem issue_ch (ch : ℕ) (hch : ch < 20) {w : BitVec 32} (hw : Is w (128 * ch)) (k : ℕ) (hk : k < 128) {i1 chk dec i2 i3}
    (i4 : ∀ w : BitVec 32, chk w → ∀ a, (![w.toNat, 0] : Fin 2 → ℕ) a + S1x2048.size a ≤ S8192x2048.size a)
    (hchk : ∀ w : BitVec 32, w.toNat < 8192 → chk w) :
    iprop(sidPt c (D.sid c) ∗ gA D c ch k)
      ⊢ wp frame (wpE defs 𝒱₀ (c : Thread nD τ) bd) Set.univ
        (issueTrip (F := F)
          ![(Scalar.indexCast (Scalar.minsi (Scalar.addi (wS c (D.cnt c)) (Scalar.addi w (Scf.iv 0#32 1#32 k)))
            (Scalar.subi (Scalar.addi (wS c (D.cnt c)) (wM c (D.cnt c))) 1#32))).toNat] i1 chk dec (fun w => ![w.toNat, 0]) i4
          ![(Scf.iv 0#32 1#32 k : BitVec 32).toNat] i2 ![(Scalar.addi w (Scf.iv 0#32 1#32 k)).toNat, 0] i3)
        fun _ => iprop(sidPt c (D.sid c) ∗ gM D c ch k) := by
  have h0 : Is (Scf.iv 0#32 1#32 k) (0 + k) := (Is.lit 0 (by decide)).iv k (by omega)
  have h0' : Is (Scf.iv 0#32 1#32 k) k := by rw [Nat.zero_add] at h0; exact h0
  exact issue_at hD c ch k hch hk (off_eq1 (is_gather (hD.mid c) hw (by omega) k hk).idx) (off_eq1 h0')
    (off_eq2 (hw.add h0' (by omega))) (fun _ => rfl) hchk

/-- The wait of trip `k` of the chunk whose first row is the word `w`. -/
theorem wait_ch (ch : ℕ) (hch : ch < 20) {w : BitVec 32} (hw : Is w (128 * ch)) (k : ℕ) (hk : k < 128) {i1 chk dec i2 i3}
    (i4 : ∀ w : BitVec 32, chk w → ∀ a, (![w.toNat, 0] : Fin 2 → ℕ) a + S1x2048.size a ≤ S8192x2048.size a)
    (hchk : ∀ w : BitVec 32, w.toNat < 8192 → chk w) :
    iprop((sidPt c (D.sid c) ∗ ow c (owe D c ch) ∗ levAts L lv) ∗ gM D c ch k)
      ⊢ wp frame (wpE defs 𝒱₀ (c : Thread nD τ) bd) Set.univ
        (waitTrip (F := F)
          ![(Scalar.indexCast (Scalar.minsi (Scalar.addi (wS c (D.cnt c)) (Scalar.addi w (Scf.iv 0#32 1#32 k)))
            (Scalar.subi (Scalar.addi (wS c (D.cnt c)) (wM c (D.cnt c))) 1#32))).toNat] i1 chk dec (fun w => ![w.toNat, 0]) i4
          ![(Scf.iv 0#32 1#32 k : BitVec 32).toNat] i2 ![(Scalar.addi w (Scf.iv 0#32 1#32 k)).toNat, 0] i3)
        fun _ => iprop((sidPt c (D.sid c) ∗ ow c (owe D c ch) ∗ levAts L lv) ∗ gB D c ch k) := by
  have h0 : Is (Scf.iv 0#32 1#32 k) (0 + k) := (Is.lit 0 (by decide)).iv k (by omega)
  have h0' : Is (Scf.iv 0#32 1#32 k) k := by rw [Nat.zero_add] at h0; exact h0
  exact wait_at hD c ch k hch hk (off_eq1 (is_gather (hD.mid c) hw (by omega) k hk).idx) (off_eq1 h0')
    (off_eq2 (hw.add h0' (by omega))) hchk

/-- Row `w` of the own half of the table is in it. -/
theorem row_in {w : BitVec 32} (hw : w.toNat < 8192) : ∀ a : Fin 2, (![w.toNat, 0] : Fin 2 → ℕ) a + S1x2048.size a ≤ S8192x2048.size a :=
  inb2 (N := 8192) (show Is w w.toNat from ⟨rfl, by omega⟩) hw

/-- One chunk, before the rest of the text. -/
theorem gather_next {K : GSem nD τ sig → ℕ} {I : sProp 𝕄} [BI.Persistent I] (hI : I ⊢ invs D K) {ch : ℕ} (h20 : ch < 20)
    {cnd : BitVec 1} (hcnd : cnd = 1#1 ↔ ch < nme D c)
    {l1 l2 : Scf.Loop 32} {ok1 : l1.OK} {ok2 : l2.OK} (hl1 : l1.trips = 128) (hl2 : l2.trips = 128)
    {b1 : cnd = 1#1 → Fin l1.trips → Unit → Prog (TpuEff nD τ sig (Elt F) Λ₀ .tc) Unit}
    {b2 : cnd = 1#1 → Fin l2.trips → Unit → Prog (TpuEff nD τ sig (Elt F) Λ₀ .tc) Unit}
    (hb1 : ∀ h k acc, k.val < 128 → iprop(sidPt c (D.sid c) ∗ gA D c ch k.val) ⊢ wp frame (wpE defs 𝒱₀ (c : Thread nD τ) bd) Set.univ (b1 h k acc)
      fun _ => iprop(sidPt c (D.sid c) ∗ gM D c ch k.val))
    (hb2 : ∀ h k acc, k.val < 128 → iprop((sidPt c (D.sid c) ∗ ow c (owe D c ch) ∗ levAts L lv) ∗ gM D c ch k.val)
      ⊢ wp frame (wpE defs 𝒱₀ (c : Thread nD τ) bd) Set.univ (b2 h k acc)
      fun _ => iprop((sidPt c (D.sid c) ∗ ow c (owe D c ch) ∗ levAts L lv) ∗ gB D c ch k.val))
    {o7 : Fin 1 → ℕ} {i7 : ∀ a, o7 a + S1.size a ≤ S20.size a} (h7 : o7 = ![ch])
    {o8 : Fin 1 → ℕ} {i8 : ∀ a, o8 a + S1.size a ≤ S20.size a} (h8 : o8 = ![ch])
    {o6 : Fin 2 → ℕ} {i6 : ∀ a, o6 a + S128x2048.size a ≤ S2560x2048.size a} (h6 : o6 = ![128 * ch, 0])
    {o5 : Fin 2 → ℕ} {i5 : ∀ a, o5 a + S128x2048.size a ≤ S2560x2048.size a} (h5 : o5 = ![128 * ch, 0])
    {dst : Dev nD} (hdst : dst = pr c) {α : Type} {k : Prog (TpuEff nD τ sig (Elt F) Λ₀ .tc) α} {Q : α → sProp 𝕄} {Rf : sProp 𝕄}
    (hnext : iprop(Rf ∗ gState D I c (ch + 1)) ⊢ wp frame (wpE defs 𝒱₀ (c : Thread nD τ) bd) Set.univ k Q) :
    iprop(Rf ∗ gState D I c ch) ⊢ wp frame (wpE defs 𝒱₀ (c : Thread nD τ) bd) Set.univ
      (if h : cnd = 1#1 then do
          Scf.Loop.for l1 ok1 ⟨⟩ (b1 h)
          Scf.Loop.for l2 ok2 ⟨⟩ (b2 h)
          let s1 : DmaSems sig S1 := cc0_scratch2.slice (Rect.unit (s := S20) o7 S1.size i7)
          let s2 : DmaSems sig S_ := s1.squeeze S_ squeezes_S1_S_
          let r1 : DmaSems sig S1 := cc0_scratch3.slice (Rect.unit (s := S20) o8 S1.size i8)
          let r2 : DmaSems sig S_ := r1.squeeze S_ squeezes_S1_S_
          let vd : Memref sig .tc .vmem S128x2048 .f32 := bM.slice (Rect.unit (s := S2560x2048) o6 S128x2048.size i6) (fun _ => rfl)
          let vs : Memref sig .tc .vmem S128x2048 .f32 := aM.slice (Rect.unit (s := S2560x2048) o5 S128x2048.size i5) (fun _ => rfl)
          Prog.lift (.enqueueDma vs (.remote (Dev.tc dst) vd (.dma s2.sem)) (.dma r2.sem) (View.wordExact_bits rfl) (View.wordExact_bits rfl) ⟨⟨rfl, Or.inl rfl⟩, trivial⟩)
          k
        else k : Prog (TpuEff nD τ sig (Elt F) Λ₀ .tc) α) Q := by
  have h := gather_stage (bd := bd) (defs := defs) hD c hI ch h20 hcnd (ok1 := ok1) (ok2 := ok2) hl1 hl2 hb1 hb2 (i7 := i7) h7 (i8 := i8) h8 (i6 := i6) h6 (i5 := i5) h5 hdst (fun _ => k) Q
  by_cases hc : cnd = 1#1
  · rw [dif_pos hc] at h ⊢
    simp only [Prog.bind_assoc, Prog.pure_eq_ret, Prog.bind_ret] at h ⊢
    iintro ⟨HR, HS⟩
    iapply h $$ HS
    iintro %_ HS
    iapply hnext
    isplitl [HR]; · iexact HR
    iexact HS
  · rw [dif_neg hc] at h ⊢
    simp only [Prog.pure_eq_ret, Prog.bind_ret] at h ⊢
    iintro ⟨HR, HS⟩
    iapply h $$ HS
    iintro %_ HS
    iapply hnext
    isplitl [HR]; · iexact HR
    iexact HS

variable {Rf : sProp (MT nD τ sig Unit (Elt F) ℕ UU ℕ)}

/-- Chunks 2 to 11. -/
theorem part3_spec {K : GSem nD τ sig → ℕ} {I : sProp 𝕄} [BI.Persistent I] (hI : I ⊢ invs D K)
    (h0 h1 h2 h3 h4 h5 h6) (v5 v8 v9 : BitVec 32) (hw1 : k0_chk1 c (D.cnt c)) (v12 v15 v37 : BitVec 32) :
    iprop(Rf ∗ gState D I c 2) ⊢ wp frame (wpE defs 𝒱₀ (c : Thread nD τ) bd) Set.univ
      (k0_part3 (F := F) sidM h0 permM h1 cntM h2 eM h3 oM h4 aM h5 bM h6 cc0_scratch2 cc0_scratch3 cc0_scratch4 cc0_scratch5 cc0_scratch6
        c v5 v8 v9 (D.cnt c) hw1 v12 v15 v37) fun _ => iprop(Rf ∗ gState D I c 12) := by
  rw [Gen.k0_part3_eq_skeleton]
  unfold Gen.k0_part3_skel
  iterate 10
    refine gather_next hD c hI (by decide) (cond_me (hD.mid c) (BitVec.ofNat 32 _) _ (Is.lit _ (by decide))) gather_trips gather_trips
      (fun h k _ hk => issue_ch hD c _ (by decide) (Is.lit _ (by decide)) k.val hk (fun _ hw => hw h) (fun _ hw _ => row_in hD hw))
      (fun h k _ hk => wait_ch hD c _ (by decide) (Is.lit _ (by decide)) k.val hk (fun _ hw => hw h) (fun _ hw _ => row_in hD hw))
      rfl rfl rfl rfl (Fin.ext (dev_pr c)) ?_
  iintro HS
  rw [Prog.pure_eq_ret, wp_ret]
  imodintro
  iexact HS

/-- Before the barrier. -/
def gStart (D : Inp F) (I : sProp (MT nD τ sig Unit (Elt F) ℕ UU ℕ)) (c : Dev nD) : sProp 𝕄 :=
  iprop(I ∗ levAts L lv ∗ sidPt c (D.sid c) ∗ ow c (owe D c 0 + tallyAt (barC (pr c)) () 1) ∗ bigSep (Finset.Ico 0 128) (gE D c)
    ∗ bigSep (Finset.Ico 0 (nme D c)) (fun ch => iprop(bigSep (Finset.Ico 0 128) (fun t => iprop(∃ f, aRow c fullShare (128 * ch + t) f))
        ∗ dutyTok ER (sendC c ch) 0 () ∗ reached ER (sendC c ch) 0 ∗ dutyTok ER (recvC (pr c) ch) 0 ()))
    ∗ dutyTok ER (barC (pr c)) 0 () ∗ reached ER (barC (pr c)) 0 ∗ barPay D (pr c)
    ∗ cred (tallyAt (barC c) () 1) ∗ atPos ER (barC c) 0 ∅ 0)

omit hD in
/-- What the barrier's signal hands over. -/
theorem pay_bar : payOf D c (.reg barS) = barPay D c := rfl

omit hD in
/-- Two things held together may be named in either order. -/
theorem sep_comm_eq {M : Type _} [URA M] (A B : sProp M) : iprop(A ∗ B) = iprop(B ∗ A) := equiv_iff.mp ⟨BI.sep_comm, BI.sep_comm⟩

omit hD in
/-- Of three things held together the last two may change places. -/
theorem sep_swap (A B C : sProp 𝕄) : iprop(A ∗ B ∗ C) = iprop((A ∗ C) ∗ B) := by
  rw [sep_comm_eq B C]
  exact (equiv_iff.mp ⟨BI.sep_assoc, BI.sep_assoc'⟩).symm

omit hD in
/-- What the gathers of all chunks need: the rows, and the duties of the sends. -/
theorem gIn_split : bigSep (Finset.Ico 0 (nme D c)) (gIn D c)
    = iprop(bigSep (Finset.Ico 0 (nme D c)) (fun ch => iprop(bigSep (Finset.Ico 0 128) (fun t => iprop(∃ f, aRow c fullShare (128 * ch + t) f))
        ∗ dutyTok ER (sendC c ch) 0 () ∗ reached ER (sendC c ch) 0 ∗ dutyTok ER (recvC (pr c) ch) 0 ())) ∗ barPay D c) := by
  unfold barPay
  rw [← bigSep_sep']
  refine bigSep_congr fun ch _ => ?_
  unfold gIn
  exact sep_swap _ _ _

/-- The barrier: the partner is told, then awaited. -/
theorem barrier_next {K : GSem nD τ sig → ℕ} {I : sProp 𝕄} [BI.Persistent I] (hI : I ⊢ invs D K) {dst : Dev nD} (hdst : dst = pr c)
    {α : Type} {k : Prog (TpuEff nD τ sig (Elt F) Λ₀ .tc) α} {Q : α → sProp 𝕄}
    (hnext : iprop((Rf ∗ atPos ER (barC c) (0 + 1) ∅ 0) ∗ gState D I c 0) ⊢ wp frame (wpE defs 𝒱₀ (c : Thread nD τ) bd) Set.univ k Q) :
    iprop(Rf ∗ gStart D I c) ⊢ wp frame (wpE defs 𝒱₀ (c : Thread nD τ) bd) Set.univ
      (do
        semSignalWord dst (SemArray.scalar (sig.barrier 0 rfl) : Sems sig S_).sem 1#32
        semWaitWord (SemArray.scalar (sig.barrier 0 rfl) : Sems sig S_).sem 1#32
        k : Prog (TpuEff nD τ sig (Elt F) Λ₀ .tc) α) Q := by
  subst hdst
  unfold gStart
  simp only [semSignalWord, semWaitWord, Prog.lift, Prog.bind_op, Prog.bind_ret]
  iintro ⟨HR, #Hinv, #Hlev, Hs, HO, HE, Hin, Ht, #Hr, Hpay, Hc, Hat⟩
  unfold ow
  icases HO with ⟨%W, HO⟩
  iapply (Rounds.wp_signal 𝒱₀ ER (Rd D) (c : Thread nD τ) bd (dst := (pr c : Thread nD τ)) (sem := barS) (r := 0) (d := ()) (κ := K (barC (pr c)))
      (duty_live D (live_bar D (pr c))) (amount_eq D _ _ _) () (owe D c 0) rfl) $$ [HO Ht Hpay]
  · isplitr; · iapply (hI.trans (inv_bar D (pr c))); iexact Hinv
    isplitl [HO]; · iexact HO
    isplitl [Ht]; · iexact Ht
    isplitl [Hpay]
    · rw [payload_eq, pay_bar]; iexact Hpay
    iexact Hr
  iintro HO
  iapply (Rounds.wp_wait_rest_token 𝒱₀ ER (Rd D) (c : Thread nD τ) bd (κ := K (barC c))
      (wpE_semWait_eq 𝒱₀ (c : Thread nD τ) bd Set.univ) (Set.mem_univ _) () (O := owe D c 0) (W := W) (R := 0) (m := 0) (T := ∅)
      ((Nat.zero_add 1).trans (expect_eq D c _ (live_bar D c)).symm)) $$ [Hc HO Hat]
  · isplitr; · iapply (hI.trans (inv_bar D c)); iexact Hinv
    isplitl [Hc]; · iexact Hc
    isplitl [HO]; · iexact HO
    isplitr; · iapply (may D c (nN_le_me (hD.mid c) c) 0 (.reg barS) (le_refl 1)); iexact Hlev
    iexact Hat
  iintro ⟨HO, Hat, -, Hpay⟩
  ihave Hp := (Entails.of_eq ((rest_eq D c _ (live_bar D c)).trans (pay_bar c))) $$ Hpay
  iapply hnext
  isplitl [HR Hat]
  · isplitl [HR]; · iexact HR
    iexact Hat
  unfold gState
  rw [min_eq_left (Nat.zero_le (nme D c)), Finset.Ico_self, bigSep_empty, gIn_split]
  isplitr; · iexact Hinv
  isplitr; · iexact Hlev
  isplitl [Hs]; · iexact Hs
  isplitl [HO]; · unfold ow; iexists _; iexact HO
  isplitl [HE]; · iexact HE
  isplitr; · iempintro
  isplitl [Hin]; · iexact Hin
  iexact Hp

/-- The barrier and chunks 0 and 1. -/
theorem part2_spec {K : GSem nD τ sig → ℕ} {I : sProp 𝕄} [BI.Persistent I] (hI : I ⊢ invs D K)
    (h0 h1 h2 h3 h4 h5 h6) (v5 v8 v9 : BitVec 32) (hw1 : k0_chk1 c (D.cnt c)) (v12 v15 v18 v21 : BitVec 32) (v32 v34 : BitVec 1) :
    iprop(Rf ∗ gStart D I c) ⊢ wp frame (wpE defs 𝒱₀ (c : Thread nD τ) bd) Set.univ
      (k0_part2 (F := F) sidM h0 permM h1 cntM h2 eM h3 oM h4 aM h5 bM h6 cc0_scratch2 cc0_scratch3 cc0_scratch4 cc0_scratch5 cc0_scratch6
        c v5 v8 v9 (D.cnt c) hw1 v12 v15 v18 v21 v32 v34)
      fun r => iprop(⌜r = ⟨Scalar.select (Scalar.andi v32 v34) (Scalar.subi v21 1#32) v21, wN v18⟩⌝ ∗ (Rf ∗ atPos ER (barC c) (0 + 1) ∅ 0) ∗ gState D I c 2) := by
  rw [Gen.k0_part2_eq_skeleton]
  unfold Gen.k0_part2_skel
  refine barrier_next hD c hI (Fin.ext (dev_pr c)) ?_
  iterate 2
    refine gather_next hD c hI (by decide) (cond_me (hD.mid c) (BitVec.ofNat 32 _) _ (Is.lit _ (by decide))) gather_trips gather_trips
      (fun h k _ hk => issue_ch hD c _ (by decide) (Is.lit _ (by decide)) k.val hk (fun _ hw => hw h) (fun _ hw _ => row_in hD hw))
      (fun h k _ hk => wait_ch hD c _ (by decide) (Is.lit _ (by decide)) k.val hk (fun _ hw => hw h) (fun _ hw _ => row_in hD hw))
      rfl rfl rfl rfl (Fin.ext (dev_pr c)) ?_
  iintro HS
  rw [Prog.pure_eq_ret, wp_ret]
  imodintro
  isplitr
  · ipureintro; rfl
  iexact HS

end Cert.KernelIdeal.Lookup
-- ==== Proof.Phase2.lean ====
/-
  The scatter loops, the arrivals and the closing waits, each stated before the rest of the text.
-/
module

public import proofs.«01_k».proof.Proof.Chunk

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}

/-! ## Trips on the kernel's words -/

section Words
variable {M : Memref sig .tc .vmem S2560x2048 .f32} {base : ℕ} {c : Dev nD} {s m : ℕ}
  {fs : Buf (Elt F) (permM.view.loc (c : Thread nD τ))}
  {q : PosShare TreeShare} {fM : Buf (Elt F) (M.view.loc (c : Thread nD τ))} {G : Buf (Elt F) (oM.view.loc (c : Thread nD τ))}
  (hb : base + S64.numel ≤ 299)
  (hfit : s + m ≤ 4096) (hperm : ∀ p, permAt fs p < 4096)
  (hG : ∀ i < m, ∀ (x : (Rows 4096).Idx) (y : (Rows 2560).Idx), (x 0 : ℕ) = permAt fs (s + i) → (y 0 : ℕ) = i → (x 1 : ℕ) = (y 1 : ℕ)
      → G x = M.view.read (Elt F) fM y)
  {S lb u : BitVec 32} {a e : ℕ}

/-- What every trip uses and gives back. -/
abbrev tripB {c : Dev nD} (fs : Buf (Elt F) (permM.view.loc (c : Thread nD τ))) : sProp 𝕄 := iprop(permPt c fs ∗ ow c 0 ∗ emp)

/-- A device that owes nothing may wait at any semaphore. -/
theorem wait_any (s : SemLoc sig) : (iprop(emp) : sProp 𝕄) ⊢ MayWait (c : Thread nD τ) s () 0 := by
  rw [MayWait_zero]; exact BI.Entails.refl _

/-- The condition of a scatter trip's wait. -/
abbrev wCond (lb : BitVec 32) (k : ℕ) : BitVec 1 := Scalar.cmpi .ne (Scalar.extui (Scalar.cmpi .sge (Scf.iv lb 1#32 k) 64#32)) 0#32

include hb hfit hperm hG

/-- One trip of a scatter loop on the kernel's words. -/
theorem ring_word (R : Run S lb u s a e) (hem : e ≤ m) (k : Fin (Scf.Loop.trips ⟨lb, wUb lb u, 1#32⟩))
    {i1 : ∀ _ : wCond lb k = 1#1, ∀ x : Fin 1, (![(Scalar.indexCast (Scalar.addi S (Scalar.subi (Scf.iv lb 1#32 k) 64#32))).toNat] : Fin 1 → ℕ) x + S1.size x ≤ S4096.size x}
    {i2 : ∀ _ : wCond lb k = 1#1, ∀ x : Fin 1, (![(wSlot (Scalar.subi (Scf.iv lb 1#32 k) 64#32)).toNat] : Fin 1 → ℕ) x + S1.size x ≤ S64.size x}
    {i3 : ∀ _ : wCond lb k = 1#1, ∀ x : Fin 2, (![(Scalar.subi (Scf.iv lb 1#32 k) 64#32).toNat, 0] : Fin 2 → ℕ) x + S1x2048.size x ≤ S2560x2048.size x}
    {chk : wCond lb k = 1#1 → BitVec 32 → Prop} {dec : ∀ h w, Decidable (chk h w)} {j1 j2 j3} {chk' : BitVec 32 → Prop} {dec'}
    (i4 : ∀ h, ∀ w : BitVec 32, chk h w → ∀ a, (![w.toNat, 0] : Fin 2 → ℕ) a + S1x2048.size a ≤ S4096x2048.size a)
    (hchk : ∀ h, ∀ w : BitVec 32, w.toNat < 4096 → chk h w)
    (j4 : ∀ w : BitVec 32, chk' w → ∀ a, (![w.toNat, 0] : Fin 2 → ℕ) a + S1x2048.size a ≤ S4096x2048.size a)
    (hchk' : ∀ w : BitVec 32, w.toNat < 4096 → chk' w) :
    iprop(tripB fs ∗ itemSrc M c q fM (a + k.val) ∗ ring M base c s m fs q fM G (a + k.val))
      ⊢ wp frame (wpE defs 𝒱₀ (c : Thread nD τ) bd) Set.univ
        (ringTrip (F := F) (wCond lb k)
          (fun h => ringWait ⟨⟩ M base hb
            ![(Scalar.indexCast (Scalar.addi S (Scalar.subi (Scf.iv lb 1#32 k) 64#32))).toNat] (i1 h) (chk h) (dec h) (fun w => ![w.toNat, 0]) (i4 h)
            ![(wSlot (Scalar.subi (Scf.iv lb 1#32 k) 64#32)).toNat] (i2 h) ![(Scalar.subi (Scf.iv lb 1#32 k) 64#32).toNat, 0] (i3 h))
          (ringIssue M base hb
            ![(Scalar.indexCast (Scalar.addi S (Scf.iv lb 1#32 k))).toNat] j1 chk' dec' (fun w => ![w.toNat, 0]) j4
            ![(wSlot (Scf.iv lb 1#32 k)).toNat] j2 ![(Scf.iv lb 1#32 k).toNat, 0] j3))
        fun _ => iprop(tripB fs ∗ ring M base c s m fs q fM G (a + k.val + 1)) :=
  ringTrip_spec hb hfit hperm hG 0 iprop(emp) (fun _ _ => wait_any _) (a + k.val) (by have := R.lt k; omega) (R.cond k)
    (fun h => off_eq1 (R.pos' k h).idx) (fun h => off_eq1 (R.slot' k h)) hchk (off_eq1 (R.pos k).idx) (off_eq1 (R.slot k)) (off_eq2 (R.iv k))
    (fun _ => rfl) hchk'

omit hG in
/-- One trip of a drain on the kernel's words. -/
theorem drain_word {M₀ : BitVec 32} (S₀ : Seg S M₀ s m) (hm : 64 ≤ m) (k : Fin (Scf.Loop.trips ⟨0#32, wUb 0#32 (Scalar.minsi M₀ 64#32), 1#32⟩))
    {z : BitVec 32} {i1 i2 i3} {chk : BitVec 32 → Prop} {dec}
    (i4 : ∀ w : BitVec 32, chk w → ∀ a, (![w.toNat, 0] : Fin 2 → ℕ) a + S1x2048.size a ≤ S4096x2048.size a)
    (hchk : ∀ w : BitVec 32, w.toNat < 4096 → chk w) :
    iprop(tripB fs ∗ itemFly M base c s fs q fM G (m - 64 + k.val))
      ⊢ wp frame (wpE defs 𝒱₀ (c : Thread nD τ) bd) Set.univ
        (ringWait (F := F) z M base hb
            ![(Scalar.indexCast (Scalar.addi S (Scalar.addi (Scalar.subi M₀ (Scalar.minsi M₀ 64#32)) (Scf.iv 0#32 1#32 k)))).toNat] i1 chk dec
            (fun w => ![w.toNat, 0]) i4
            ![(wSlot (Scalar.addi (Scalar.subi M₀ (Scalar.minsi M₀ 64#32)) (Scf.iv 0#32 1#32 k))).toNat] i2
            ![(Scalar.addi (Scalar.subi M₀ (Scalar.minsi M₀ 64#32)) (Scf.iv 0#32 1#32 k)).toNat, 0] i3)
        fun _ => iprop(tripB fs ∗ itemDone M c s fs q fM G (m - 64 + k.val) ∗ slotIdle (F := F) base c ((m - 64 + k.val) % 64)) := by
  have hlt := S₀.d_lt k
  have hp := S₀.d_pos k
  have hs := S₀.d_slot k
  rw [min_eq_right hm] at hlt hp hs
  exact drainTrip_spec hb hfit hperm 0 iprop(emp) (fun _ _ => wait_any _) (m - 64 + k.val) hlt z (off_eq1 hp.idx) (off_eq1 hs) hchk

omit hb hfit hperm hG

/-- The two loops that scatter the items from `a` to `e`, before the rest of the text. -/
theorem scatter_next {l1 l2 : Scf.Loop 32} {ok1 : l1.OK} {ok2 : l2.OK} (hae : a ≤ e) (hl1 : l1.trips = e - a) (hl2 : l2.trips = 0)
    {b1 : Fin l1.trips → BitVec 32 → Prog (TpuEff nD τ sig (Elt F) Λ₀ .tc) (BitVec 32)}
    {b2 : Fin l2.trips → BitVec 32 → Prog (TpuEff nD τ sig (Elt F) Λ₀ .tc) (BitVec 32)}
    (hb1 : ∀ k acc, iprop(tripB fs ∗ itemSrc M c q fM (a + k.val) ∗ ring M base c s m fs q fM G (a + k.val))
      ⊢ wp frame (wpE defs 𝒱₀ (c : Thread nD τ) bd) Set.univ (b1 k acc) fun _ => iprop(tripB fs ∗ ring M base c s m fs q fM G (a + k.val + 1)))
    {z : BitVec 32} {α : Type} {kk : BitVec 32 → Prog (TpuEff nD τ sig (Elt F) Λ₀ .tc) α} {Q : α → sProp 𝕄} {Rf : sProp 𝕄}
    (hnext : ∀ r, iprop(Rf ∗ tripB fs ∗ ring M base c s m fs q fM G e) ⊢ wp frame (wpE defs 𝒱₀ (c : Thread nD τ) bd) Set.univ (kk r) Q) :
    iprop(Rf ∗ tripB fs ∗ bigSep (Finset.Ico a e) (itemSrc M c q fM) ∗ ring M base c s m fs q fM G a)
      ⊢ wp frame (wpE defs 𝒱₀ (c : Thread nD τ) bd) Set.univ
        (Scf.Loop.for l1 ok1 z b1 >>= fun r => Scf.Loop.for l2 ok2 r b2 >>= kk) Q := by
  iintro ⟨HR, HB, HA, HS⟩
  iapply (wp_ring ok1 z b1 a e hae hl1 (tripB fs) (itemSrc M c q fM) (ring M base c s m fs q fM G) hb1) $$ [HB HA HS]
  · isplitl [HB]; · iexact HB
    isplitl [HA]; · iexact HA
    iexact HS
  iintro %r ⟨HB, HS⟩
  rw [show Scf.Loop.for l2 ok2 r b2 = .ret r from Scf.for_eq_ret _ _ _ ok2 r b2 hl2]
  simp only [Prog.bind_ret]
  iapply (hnext r)
  isplitl [HR]; · iexact HR
  isplitl [HB]; · iexact HB
  iexact HS

/-- The two loops of a drain, before the rest of the text. -/
theorem drain_next (hm : 64 ≤ m) {l1 l2 : Scf.Loop 32} {ok1 : l1.OK} {ok2 : l2.OK} (hl1 : l1.trips = 64) (hl2 : l2.trips = 0)
    {b1 : Fin l1.trips → BitVec 32 → Prog (TpuEff nD τ sig (Elt F) Λ₀ .tc) (BitVec 32)}
    {b2 : Fin l2.trips → BitVec 32 → Prog (TpuEff nD τ sig (Elt F) Λ₀ .tc) (BitVec 32)}
    (hb1 : ∀ k acc, iprop(tripB fs ∗ itemFly M base c s fs q fM G (m - 64 + k.val))
      ⊢ wp frame (wpE defs 𝒱₀ (c : Thread nD τ) bd) Set.univ (b1 k acc)
        fun _ => iprop(tripB fs ∗ itemDone M c s fs q fM G (m - 64 + k.val) ∗ slotIdle (F := F) base c ((m - 64 + k.val) % 64)))
    {z : BitVec 32} {α : Type} {kk : BitVec 32 → Prog (TpuEff nD τ sig (Elt F) Λ₀ .tc) α} {Q : α → sProp 𝕄} {Rf : sProp 𝕄}
    (hnext : ∀ r, iprop(Rf ∗ tripB fs ∗ bigSep (Finset.Ico 0 m) (itemDone M c s fs q fM G) ∗ bigSep (Finset.Ico 0 64) (slotIdle (F := F) base c))
      ⊢ wp frame (wpE defs 𝒱₀ (c : Thread nD τ) bd) Set.univ (kk r) Q) :
    iprop(Rf ∗ tripB fs ∗ ring M base c s m fs q fM G m)
      ⊢ wp frame (wpE defs 𝒱₀ (c : Thread nD τ) bd) Set.univ
        (Scf.Loop.for l1 ok1 z b1 >>= fun r => Scf.Loop.for l2 ok2 r b2 >>= kk) Q := by
  iintro ⟨HR, HB, HS⟩
  ihave HS := (ring_last hm) $$ HS
  icases HS with ⟨Hd, Hf⟩
  iapply (wp_items ok1 z b1 hl1 (tripB fs) (fun t => itemFly M base c s fs q fM G (m - 64 + t))
    (fun t => iprop(itemDone M c s fs q fM G (m - 64 + t) ∗ slotIdle base c ((m - 64 + t) % 64))) hb1) $$ [HB Hf]
  · isplitl [HB]; · iexact HB
    iexact Hf
  iintro %r ⟨HB, Hf⟩
  ihave HD := (ring_drained hm) $$ [Hd Hf]
  · isplitl [Hd]; · iexact Hd
    iexact Hf
  rw [show Scf.Loop.for l2 ok2 r b2 = .ret r from Scf.for_eq_ret _ _ _ ok2 r b2 hl2]
  simp only [Prog.bind_ret]
  iapply (hnext r)
  isplitl [HR]; · iexact HR
  isplitl [HB]; · iexact HB
  iexact HD

end Words

/-- Row `w` of the result is in it. -/
theorem out_in {w : BitVec 32} (hw : w.toNat < 4096) : ∀ a : Fin 2, (![w.toNat, 0] : Fin 2 → ℕ) a + S1x2048.size a ≤ S4096x2048.size a := fun a => by
  refine Fin.cases ?_ (fun b => ?_) a
  · show w.toNat + 1 ≤ 4096; omega
  · refine Fin.cases ?_ (fun b => b.elim0) b
    show 0 + 2048 ≤ 2048; decide

/-! ## Arrivals -/

section Stages
variable {D : Inp F} (hD : Good D) (c : Dev nD)

/-- The rings of the two scatters. -/
abbrev ringA (D : Inp F) (c : Dev nD) (k : ℕ) : sProp 𝕄 :=
  ring aM 171 c (nS c (num D c)) (nM c (num D c)) (D.perm c) qR (GA D c) (GO D c) k
abbrev ringB (D : Inp F) (c : Dev nD) (k : ℕ) : sProp 𝕄 :=
  ring bM 235 c (nSp c (num D c)) (nMp c (num D c)) (D.perm c) fullShare (GA D (pr c)) (GO D c) k

/-- Arrival `ch` awaited, and arrived and scattered. -/
def rPend (D : Inp F) (c : Dev nD) (ch : ℕ) : sProp 𝕄 := iprop(cred (tallyAt (recvC c ch) () N) ∗ atPos ER (recvC c ch) 0 ∅ 0)
def rDone (D : Inp F) (c : Dev nD) (ch : ℕ) : sProp 𝕄 :=
  iprop(atPos ER (recvC c ch) (0 + 1) ∅ 0 ∗ bigSep (Finset.Ico (min (128 * (ch + 1)) (nMp c (num D c))) (128 * ch + 128)) (fun r => mRow bM c fullShare r (GA D (pr c))))
/-- After `j` arrivals. -/
def rState (D : Inp F) (I : sProp (MT nD τ sig Unit (Elt F) ℕ UU ℕ)) (c : Dev nD) (j : ℕ) : sProp 𝕄 :=
  iprop(I ∗ tripB (c := c) (D.perm c) ∗ ringB D c (min (128 * j) (nMp c (num D c)))
    ∗ bigSep (Finset.Ico 0 (min j (npr D c))) (rDone D c) ∗ bigSep (Finset.Ico (min j (npr D c)) (npr D c)) (rPend D c))

/-- A row of a whole chunk buffer. -/
theorem mRow_a (q : PosShare TreeShare) (r : ℕ) (f) : mRow aM c q r f = aRow (F := F) c q r f := by
  unfold mRow aRow
  have h : (rowS 2560 r).map aM.view.emb = rowS 2560 r := by
    ext x; simp only [Finset.mem_map]; exact ⟨fun ⟨y, hy, e⟩ => e ▸ hy, fun hx => ⟨x, hx, rfl⟩⟩
  rw [h]
/-- A row of the second buffer, as a set of places. -/
theorem mRow_b (q : PosShare TreeShare) (r : ℕ) (f) :
    mRow bM c q r f = (bM.view.loc (c : Thread nD τ) ↦[rowS 2560 r]{q} f : sProp 𝕄) := by
  unfold mRow
  have h : (rowS 2560 r).map bM.view.emb = rowS 2560 r := by
    ext x; simp only [Finset.mem_map]; exact ⟨fun ⟨y, hy, e⟩ => e ▸ hy, fun hx => ⟨x, hx, rfl⟩⟩
  rw [h]
/-- A range of rows of the second buffer is its rows one by one. -/
theorem b_rows (q : PosShare TreeShare) (lo hi : ℕ) (f : Buf (Elt F) (bM.view.loc (c : Thread nD τ))) :
    (bM.view.loc (c : Thread nD τ) ↦[rowsS 2560 lo hi]{q} f : sProp 𝕄) = bigSep (Finset.Ico lo hi) (fun r => mRow bM c q r f) := by
  simp only [mRow_b]
  rw [rowsS_biUnion]
  exact (pointsTo_biUnion _ _ fun a _ b _ h => rowS_disjoint 2560 h)

include hD

/-- One arrival: awaited and scattered when the partner has that many chunks, else nothing. -/
theorem recv_next {K : GSem nD τ sig → ℕ} {I : sProp 𝕄} [BI.Persistent I] (hI : I ⊢ invs D K) {ch : ℕ} (h20 : ch < 20)
    {cnd : BitVec 1} (hcnd : cnd = 1#1 ↔ ch < npr D c)
    {l1 l2 : cnd = 1#1 → Scf.Loop 32} {ok1 : ∀ h, (l1 h).OK} {ok2 : ∀ h, (l2 h).OK}
    (hl1 : ∀ h, (l1 h).trips = min (128 * (ch + 1)) (nMp c (num D c)) - 128 * ch) (hl2 : ∀ h, (l2 h).trips = 0)
    {b1 : ∀ h, Fin (l1 h).trips → BitVec 32 → Prog (TpuEff nD τ sig (Elt F) Λ₀ .tc) (BitVec 32)}
    {b2 : ∀ h, Fin (l2 h).trips → BitVec 32 → Prog (TpuEff nD τ sig (Elt F) Λ₀ .tc) (BitVec 32)}
    (hb1 : ∀ h k acc, iprop(tripB (c := c) (D.perm c) ∗ itemSrc bM c fullShare (GA D (pr c)) (128 * ch + k.val) ∗ ringB D c (128 * ch + k.val))
      ⊢ wp frame (wpE defs 𝒱₀ (c : Thread nD τ) bd) Set.univ (b1 h k acc) fun _ => iprop(tripB (c := c) (D.perm c) ∗ ringB D c (128 * ch + k.val + 1)))
    {o8 : Fin 1 → ℕ} {i8 : ∀ a, o8 a + S1.size a ≤ S20.size a} (h8 : o8 = ![ch])
    {o6 : Fin 2 → ℕ} {i6 : ∀ a, o6 a + S128x2048.size a ≤ S2560x2048.size a}
    {o5 : Fin 2 → ℕ} {i5 : ∀ a, o5 a + S128x2048.size a ≤ S2560x2048.size a}
    {α : Type} {k : Prog (TpuEff nD τ sig (Elt F) Λ₀ .tc) α} {Q : α → sProp 𝕄} {Rf : sProp 𝕄}
    (hnext : iprop(Rf ∗ rState D I c (ch + 1)) ⊢ wp frame (wpE defs 𝒱₀ (c : Thread nD τ) bd) Set.univ k Q) :
    iprop(Rf ∗ rState D I c ch) ⊢ wp frame (wpE defs 𝒱₀ (c : Thread nD τ) bd) Set.univ
      (if h : cnd = 1#1 then do
          let r1 : DmaSems sig S1 := cc0_scratch3.slice (Rect.unit (s := S20) o8 S1.size i8)
          let r2 : DmaSems sig S_ := r1.squeeze S_ squeezes_S1_S_
          let vd : Memref sig .tc .vmem S128x2048 .f32 := bM.slice (Rect.unit (s := S2560x2048) o6 S128x2048.size i6) (fun _ => rfl)
          let vs : Memref sig .tc .vmem S128x2048 .f32 := aM.slice (Rect.unit (s := S2560x2048) o5 S128x2048.size i5) (fun _ => rfl)
          Prog.lift (.waitDma2 r2.sem vs vd (View.wordExact_bits rfl) (View.wordExact_bits rfl))
          let r ← Scf.Loop.for (l1 h) (ok1 h) 0#32 (b1 h)
          let _ ← Scf.Loop.for (l2 h) (ok2 h) r (b2 h)
          k
        else k : Prog (TpuEff nD τ sig (Elt F) Λ₀ .tc) α) Q := by
  by_cases hc : cnd = 1#1
  swap
  · have hn : npr D c ≤ ch := by by_contra h; exact hc (hcnd.2 (by omega))
    rw [dif_neg hc]
    refine .trans (Entails.of_eq ?_) hnext
    unfold rState
    have h1 : nMp c (num D c) ≤ 128 * ch := by unfold npr nN at hn; omega
    rw [min_eq_right hn, min_eq_right (by omega : npr D c ≤ ch + 1), min_eq_right h1, min_eq_right (by omega : nMp c (num D c) ≤ 128 * (ch + 1))]
  have hn := hcnd.1 hc
  have h1 : 128 * ch ≤ nMp c (num D c) := by unfold npr nN at hn; omega
  rw [dif_pos hc]
  subst h8
  unfold rState
  rw [min_eq_left hn.le, bigSep_Ico_succ_bot hn, min_eq_left h1]
  simp only [Prog.lift, Prog.bind_op, Prog.bind_ret]
  have e8 := sem_one (d := 20) hcc0_scratch3 ![ch] rfl i8
  have hl := live_recv D (c := c) hn h20
  have hN : iprop(iprop(Rf ∗ I ∗ rDone D c ch ∗ bigSep (Finset.Ico 0 ch) (rDone D c) ∗ bigSep (Finset.Ico (ch + 1) (npr D c)) (rPend D c))
      ∗ tripB (c := c) (D.perm c) ∗ ringB D c (min (128 * (ch + 1)) (nMp c (num D c)))) ⊢ wp frame (wpE defs 𝒱₀ (c : Thread nD τ) bd) Set.univ k Q := by
    refine .trans ?_ hnext
    unfold rState
    rw [min_eq_left (by omega : ch + 1 ≤ npr D c), bigSep_Ico_succ_top (Nat.zero_le ch)]
    iintro ⟨⟨HR, #Hinv, Hd, Hds, Hpends⟩, HB, Hring⟩
    isplitl [HR]; · iexact HR
    isplitr; · iexact Hinv
    isplitl [HB]; · iexact HB
    isplitl [Hring]; · iexact Hring
    isplitl [Hd Hds]
    · isplitl [Hd]; · iexact Hd
      iexact Hds
    iexact Hpends
  iintro ⟨HR, #Hinv, ⟨Hp, HO, -⟩, Hring, Hdone, ⟨Hpend, Hpends⟩⟩
  unfold rPend ow
  icases Hpend with ⟨Hc, Hat⟩
  icases HO with ⟨%W, HO⟩
  iapply (Rounds.wp_wait_rest_token 𝒱₀ ER (Rd D) (c : Thread nD τ) bd (κ := K (recvC c ch))
      (fun K' => (wpE_waitDma2_eq 𝒱₀ (c : Thread nD τ) bd Set.univ K').trans (by rw [e8]; rfl)) (Set.mem_univ _) () (O := 0) (W := W) (R := 0) (m := 0) (T := ∅)
      ((Nat.zero_add N).trans (expect_eq D c _ hl).symm)) $$ [Hc HO Hat]
  · isplitr; · iapply (hI.trans (inv_dma D c (n := 23 + ch) (by omega) (by omega))); iexact Hinv
    isplitl [Hc]; · iexact Hc
    isplitl [HO]; · iexact HO
    isplitr; · rw [MayWait_zero]; iempintro
    iexact Hat
  iintro ⟨HO, Hat, -, Hpay⟩
  ihave Hb := (Entails.of_eq ((rest_eq D c _ hl).trans (pay_recv D c h20))) $$ Hpay
  have hsp : bigSep (Finset.Ico (128 * ch) (128 * ch + 128)) (fun r => mRow bM c fullShare r (GA D (pr c)))
      = iprop(bigSep (Finset.Ico (128 * ch) (min (128 * (ch + 1)) (nMp c (num D c)))) (fun r => mRow bM c fullShare r (GA D (pr c)))
        ∗ bigSep (Finset.Ico (min (128 * (ch + 1)) (nMp c (num D c))) (128 * ch + 128)) (fun r => mRow bM c fullShare r (GA D (pr c)))) :=
    Ico_consecutive (by omega) (by omega) _
  ihave Hb := (Entails.of_eq ((show recvPay D c ch = _ from b_rows c fullShare _ _ _).trans hsp)) $$ Hb
  icases Hb with ⟨Hb, Hleft⟩
  iapply (scatter_next (e := min (128 * (ch + 1)) (nMp c (num D c))) (by omega) (hl1 hc) (hl2 hc) (hb1 hc) fun _ => hN)
  · isplitl [HR Hat Hleft Hdone Hpends]
    · isplitl [HR]; · iexact HR
      isplitr; · iexact Hinv
      isplitl [Hat Hleft]
      · unfold rDone
        isplitl [Hat]; · iexact Hat
        iexact Hleft
      isplitl [Hdone]; · iexact Hdone
      iexact Hpends
    isplitl [Hp HO]
    · isplitl [Hp]; · iexact Hp
      isplitl [HO]; · unfold ow; iexists _; iexact HO
      iempintro
    isplitl [Hb]; · iexact Hb
    iexact Hring

omit hD in
/-- The end of copy `ch` awaited, and reached. -/
def sPend (D : Inp F) (c : Dev nD) (ch : ℕ) : sProp 𝕄 := iprop(cred (tallyAt (sendC c ch) () N) ∗ atPos ER (sendC c ch) 0 ∅ 0)
omit hD in
def sDone (D : Inp F) (c : Dev nD) (ch : ℕ) : sProp 𝕄 := iprop(atPos ER (sendC c ch) (0 + 1) ∅ 0 ∗ aChunk c qL ch (GA D c))
omit hD in
/-- After the ends of `j` copies. -/
def sState (D : Inp F) (I : sProp (MT nD τ sig Unit (Elt F) ℕ UU ℕ)) (c : Dev nD) (j : ℕ) : sProp 𝕄 :=
  iprop(I ∗ ow c 0 ∗ bigSep (Finset.Ico 0 (min j (nme D c))) (sDone D c) ∗ bigSep (Finset.Ico (min j (nme D c)) (nme D c)) (sPend D c))

/-- The end of one copy. -/
theorem sent_next {K : GSem nD τ sig → ℕ} {I : sProp 𝕄} [BI.Persistent I] (hI : I ⊢ invs D K) {ch : ℕ} (h20 : ch < 20)
    {cnd : BitVec 1} (hcnd : cnd = 1#1 ↔ ch < nme D c)
    {o7 : Fin 1 → ℕ} {i7 : ∀ a, o7 a + S1.size a ≤ S20.size a} (h7 : o7 = ![ch])
    {o6 : Fin 2 → ℕ} {i6 : ∀ a, o6 a + S128x2048.size a ≤ S2560x2048.size a}
    {o5 : Fin 2 → ℕ} {i5 : ∀ a, o5 a + S128x2048.size a ≤ S2560x2048.size a}
    {α : Type} {k : Prog (TpuEff nD τ sig (Elt F) Λ₀ .tc) α} {Q : α → sProp 𝕄} {Rf : sProp 𝕄}
    (hnext : iprop(Rf ∗ sState D I c (ch + 1)) ⊢ wp frame (wpE defs 𝒱₀ (c : Thread nD τ) bd) Set.univ k Q) :
    iprop(Rf ∗ sState D I c ch) ⊢ wp frame (wpE defs 𝒱₀ (c : Thread nD τ) bd) Set.univ
      (if cnd = 1#1 then do
          let s1 : DmaSems sig S1 := cc0_scratch2.slice (Rect.unit (s := S20) o7 S1.size i7)
          let s2 : DmaSems sig S_ := s1.squeeze S_ squeezes_S1_S_
          let vs : Memref sig .tc .vmem S128x2048 .f32 := aM.slice (Rect.unit (s := S2560x2048) o5 S128x2048.size i5) (fun _ => rfl)
          let vd : Memref sig .tc .vmem S128x2048 .f32 := bM.slice (Rect.unit (s := S2560x2048) o6 S128x2048.size i6) (fun _ => rfl)
          Prog.lift (.waitDma2 s2.sem vd vs (View.wordExact_bits rfl) (View.wordExact_bits rfl))
          k
        else k : Prog (TpuEff nD τ sig (Elt F) Λ₀ .tc) α) Q := by
  by_cases hc : cnd = 1#1
  swap
  · have hn : nme D c ≤ ch := by by_contra h; exact hc (hcnd.2 (by omega))
    rw [if_neg hc]
    refine .trans (Entails.of_eq ?_) hnext
    unfold sState
    rw [min_eq_right hn, min_eq_right (by omega : nme D c ≤ ch + 1)]
  have hn := hcnd.1 hc
  rw [if_pos hc]
  subst h7
  unfold sState
  rw [min_eq_left hn.le, bigSep_Ico_succ_bot hn]
  simp only [Prog.lift, Prog.bind_op, Prog.bind_ret]
  have e7 := sem_one (d := 20) hcc0_scratch2 ![ch] rfl i7
  have hl := live_send D (c := c) hn h20
  iintro ⟨HR, #Hinv, HO, Hdone, ⟨Hpend, Hpends⟩⟩
  unfold sPend ow
  icases Hpend with ⟨Hc, Hat⟩
  icases HO with ⟨%W, HO⟩
  iapply (Rounds.wp_wait_rest_token 𝒱₀ ER (Rd D) (c : Thread nD τ) bd (κ := K (sendC c ch))
      (fun K' => (wpE_waitDma2_eq 𝒱₀ (c : Thread nD τ) bd Set.univ K').trans (by rw [e7]; rfl)) (Set.mem_univ _) () (O := 0) (W := W) (R := 0) (m := 0) (T := ∅)
      ((Nat.zero_add N).trans (expect_eq D c _ hl).symm)) $$ [Hc HO Hat]
  · isplitr; · iapply (hI.trans (inv_dma D c (n := 3 + ch) (by omega) (by omega))); iexact Hinv
    isplitl [Hc]; · iexact Hc
    isplitl [HO]; · iexact HO
    isplitr; · rw [MayWait_zero]; iempintro
    iexact Hat
  iintro ⟨HO, Hat, -, Hpay⟩
  ihave Hb := (Entails.of_eq ((rest_eq D c _ hl).trans (pay_send D c h20))) $$ Hpay
  unfold sendPay
  iapply hnext
  unfold sState sPend
  rw [min_eq_left (by omega : ch + 1 ≤ nme D c), bigSep_Ico_succ_top (Nat.zero_le ch)]
  isplitl [HR]; · iexact HR
  isplitr; · iexact Hinv
  isplitl [HO]; · unfold ow; iexists _; iexact HO
  isplitl [Hdone Hat Hb]
  · isplitl [Hat Hb]
    · unfold sDone
      isplitl [Hat]; · iexact Hat
      iexact Hb
    iexact Hdone
  iexact Hpends

end Stages

end Cert.KernelIdeal.Lookup
-- ==== Proof.RowsOf.lean ====
/-
  The rows between the phases: what each scatter takes, and that it writes the result's values.
-/
module

public import proofs.«01_k».proof.Proof.Phase1
public import proofs.«01_k».proof.Proof.Phase2

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}
variable {D : Inp F} (hD : Good D) (c : Dev nD)

variable {Rf : sProp (MT nD τ sig Unit (Elt F) ℕ UU ℕ)}

/-- Rows chunk by chunk are the rows. -/
theorem chunks_rows {M : Type _} [URA M] (A : ℕ → sProp M) : ∀ n,
    bigSep (Finset.Ico 0 n) (fun ch => bigSep (Finset.Ico 0 128) (fun t => A (128 * ch + t))) = bigSep (Finset.Ico 0 (128 * n)) A
  | 0 => by rw [Finset.Ico_self]; rfl
  | n + 1 => by
    rw [bigSep_Ico_succ_top (Nat.zero_le n), chunks_rows A n, Ico_consecutive (Nat.zero_le (128 * n)) (by omega : 128 * n ≤ 128 * (n + 1)),
      show 128 * (n + 1) = 128 * n + 128 by omega, bigSep_shift (128 * n) 128 A, sep_comm_eq]

include hD

/-- The device's own part ends within the 4096. -/
theorem fit_a : nS c (num D c) + nM c (num D c) ≤ 4096 := nSM (hD.mid c) c
/-- The partner's part ends within the 4096. -/
theorem fit_b : nSp c (num D c) + nMp c (num D c) ≤ 4096 := nSMp (hD.mid c) c
/-- Every place names a row of the result. -/
theorem perm_lt' : ∀ p, permAt (F := F) (c := c) (D.perm c) p < 4096 := fun p => hD.perm_lt c p

/-- The position of the row that the permutation names at `p` is `p`. -/
theorem posOf_perm {p r : ℕ} (hp : p < 4096) (h : r = permAt (F := F) (c := c) (D.perm c) p) : posOf (D.perm c) r = p := by
  have hex : ∃ p, p < 4096 ∧ wordAt (D.perm c) p = r := ⟨p, hp, h.symm⟩
  unfold posOf
  rw [dif_pos hex]
  exact hD.perm_inj c _ _ hex.choose_spec.1 hp (hex.choose_spec.2.trans h)

omit hD in
/-- An index of a buffer is known by its row and its column. -/
theorem rowIx_eq (y : (Rows 2560).Idx) {i : ℕ} (hi : (y 0 : ℕ) = i) {j : Fin 2048} (hj : j.val = (y 1 : ℕ)) : rowIx i j = y := by
  have h0 : (y 0 : ℕ) < 2560 := (y 0).isLt
  subst hi
  funext a
  refine Fin.ext ?_
  refine Fin.cases ?_ (fun b => ?_) a
  · exact Nat.mod_eq_of_lt h0
  · refine Fin.cases ?_ (fun b => b.elim0) b
    exact hj

/-- A row of the result that the device looked up itself. -/
theorem value_a : ∀ i < nM c (num D c), ∀ (x : (Rows 4096).Idx) (y : (Rows 2560).Idx), (x 0 : ℕ) = permAt (F := F) (c := c) (D.perm c) (nS c (num D c) + i) →
    (y 0 : ℕ) = i → (x 1 : ℕ) = (y 1 : ℕ) → GO D c x = aM.view.read (Elt F) (GA D c) y := by
  intro i hi x y hx hy hxy
  have hf := fit_a hD c
  have hp := posOf_perm hD c (by omega) hx
  rw [View.read_whole]
  unfold GO
  rw [hp, if_pos ⟨by omega, by omega⟩, Nat.add_sub_cancel_left]
  exact congrArg _ (rowIx_eq y hy hxy)

/-- A row of the result that the partner looked up. -/
theorem value_b : ∀ i < nMp c (num D c), ∀ (x : (Rows 4096).Idx) (y : (Rows 2560).Idx), (x 0 : ℕ) = permAt (F := F) (c := c) (D.perm c) (nSp c (num D c) + i) →
    (y 0 : ℕ) = i → (x 1 : ℕ) = (y 1 : ℕ) → GO D c x = bM.view.read (Elt F) (GA D (pr c)) y := by
  intro i hi x y hx hy hxy
  have hf := fit_b hD c
  have hp := posOf_perm hD c (by omega) hx
  have hn : ¬ (nS c (num D c) ≤ nSp c (num D c) + i ∧ nSp c (num D c) + i < nS c (num D c) + nM c (num D c)) := by
    have h1 := (hD.mid c).2
    unfold nMp at hi
    unfold nS nSp nM
    by_cases hs : side c = 0
    · simp only [hs, if_true] at hi ⊢; omega
    · simp only [hs, if_false] at hi ⊢; omega
  rw [View.read_whole]
  unfold GO
  rw [hp, if_neg hn, Nat.add_sub_cancel_left]
  exact congrArg _ (rowIx_eq y hy hxy)

/-- The loop over the rows of arrival `ch`. -/
theorem run_ch {ch : ℕ} (hch : ch < 20) (h : Scalar.cmpi .ne (Scalar.extui (Scalar.cmpi .sgt (wN (wMp c (D.cnt c))) (BitVec.ofNat 32 ch))) 0#32 = 1#1) :
    Run (wSp c (D.cnt c)) (BitVec.ofNat 32 (128 * ch)) (Scalar.minsi (BitVec.ofNat 32 (128 * (ch + 1))) (wMp c (D.cnt c))) (nSp c (num D c))
      (128 * ch) (min (128 * (ch + 1)) (nMp c (num D c))) :=
  run_pr (hD.mid c) h hch rfl rfl

omit hD in
/-- What the first phase leaves besides the rows to scatter. -/
def gAfter (D : Inp F) (I : sProp (MT nD τ sig Unit (Elt F) ℕ UU ℕ)) (c : Dev nD) : sProp 𝕄 :=
  iprop(I ∗ levAts L lv ∗ sidPt c (D.sid c) ∗ bigSep (Finset.Ico 0 128) (gE D c) ∗ bigSep (Finset.Ico 0 (nme D c)) (fun ch => cred (tallyAt (sendC c ch) () N))
    ∗ bigSep (Finset.Ico (nM c (num D c)) (128 * nme D c)) (fun r => aRow c qR r (GA D c)))

/-- After the last chunk: the rows to scatter. -/
theorem gathered {I : sProp 𝕄} : gState D I c 20
    ⊢ iprop(gAfter D I c ∗ ow c 0 ∗ bigSep (Finset.Ico 0 (nM c (num D c))) (itemSrc aM c qR (GA D c))) := by
  have h20 := nN_le_me (hD.mid c) c
  have h1 : nM c (num D c) ≤ 128 * nme D c := by unfold nme nN; omega
  unfold gState gAfter gOut
  rw [owe_end D c h20, min_eq_right h20, bigSep_sep', chunks_rows (fun r => aRow c qR r (GA D c)) (nme D c), Ico_consecutive (Nat.zero_le _) h1]
  unfold itemSrc
  simp only [mRow_a]
  iintro ⟨HI, Hl, Hs, HO, HE, ⟨⟨Ha, Ha'⟩, Hc⟩, -⟩
  isplitr [HO Ha]
  · isplitl [HI]; · iexact HI
    isplitl [Hl]; · iexact Hl
    isplitl [Hs]; · iexact Hs
    isplitl [HE]; · iexact HE
    isplitl [Hc]; · iexact Hc
    iexact Ha'
  isplitl [HO]; · iexact HO
  iexact Ha

end Cert.KernelIdeal.Lookup
-- ==== Proof.Parts.lean ====
/-
  The later parts of the kernel's own text: the scatter of the own rows, the arrivals and their scatter, the ends of the copies.
-/
module

public import proofs.«01_k».proof.Proof.RowsOf

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}
variable {D : Inp F} (hD : Good D) (c : Dev nD)

variable {Rf : sProp (MT nD τ sig Unit (Elt F) ℕ UU ℕ)}

include hD

/-- Chunks 12 to 19, and the scatter of the own rows. -/
theorem part4_spec {K : GSem nD τ sig → ℕ} {I : sProp 𝕄} [BI.Persistent I] (hI : I ⊢ invs D K)
    (h0 h1 h2 h3 h4 h5 h6) (v5 v8 v9 : BitVec 32) (hw1 : k0_chk1 c (D.cnt c)) (v12 v15 v37 : BitVec 32) :
    iprop((Rf ∗ permPt c (D.perm c) ∗ ringA D c 0) ∗ gState D I c 12) ⊢ wp frame (wpE defs 𝒱₀ (c : Thread nD τ) bd) Set.univ
      (k0_part4 (F := F) sidM h0 permM h1 cntM h2 eM h3 oM h4 aM h5 bM h6 cc0_scratch2 cc0_scratch3 cc0_scratch4 cc0_scratch5 cc0_scratch6
        c v5 v8 v9 (D.cnt c) hw1 v12 v15 v37) fun _ => iprop((Rf ∗ gAfter D I c) ∗ tripB (c := c) (D.perm c) ∗ ringA D c (nM c (num D c))) := by
  rw [Gen.k0_part4_eq_skeleton]
  unfold Gen.k0_part4_skel
  iterate 8
    refine gather_next hD c hI (by decide) (cond_me (hD.mid c) (BitVec.ofNat 32 _) _ (Is.lit _ (by decide))) gather_trips gather_trips
      (fun h k _ hk => issue_ch hD c _ (by decide) (Is.lit _ (by decide)) k.val hk (fun _ hw => hw h) (fun _ hw _ => row_in hD hw))
      (fun h k _ hk => wait_ch hD c _ (by decide) (Is.lit _ (by decide)) k.val hk (fun _ hw => hw h) (fun _ hw _ => row_in hD hw))
      rfl rfl rfl rfl (Fin.ext (dev_pr c)) ?_
  have hR := (seg_me (hD.mid c) (d := c)).all
  refine .trans ?_ (scatter_next (q := qR) (Rf := iprop(Rf ∗ gAfter D I c)) (Nat.zero_le (nM c (num D c))) hR.trips hR.rest_trips
    (fun k _ => ring_word hcc0_scratch5 (fit_a hD c) (perm_lt' hD c) (value_a hD c) hR le_rfl k
      (fun h' _ hw => hw h') (fun _ _ hw _ => out_in hw) (fun _ hw => hw) (fun _ hw => out_in hw)) (fun r => ?_))
  · iintro ⟨⟨HR, Hp, Hring⟩, HS⟩
    ihave HS := (gathered hD c) $$ HS
    icases HS with ⟨HG, HO, Ha⟩
    isplitl [HR HG]
    · isplitl [HR]; · iexact HR
      iexact HG
    isplitl [Hp HO]
    · isplitl [Hp]; · iexact Hp
      isplitl [HO]; · iexact HO
      iempintro
    isplitl [Ha]; · iexact Ha
    iexact Hring
  iintro HS
  rw [Prog.pure_eq_ret, wp_ret]
  imodintro
  iexact HS

omit hD in
/-- The rows of the own half, and of the partner's, scattered and awaited. -/
def aDone (D : Inp F) (c : Dev nD) : sProp 𝕄 :=
  iprop(bigSep (Finset.Ico 0 (nM c (num D c))) (itemDone aM c (nS c (num D c)) (D.perm c) qR (GA D c) (GO D c)) ∗ bigSep (Finset.Ico 0 64) (slotIdle (F := F) 171 c))
omit hD in
def bDone (D : Inp F) (c : Dev nD) : sProp 𝕄 :=
  iprop(bigSep (Finset.Ico 0 (nMp c (num D c))) (itemDone bM c (nSp c (num D c)) (D.perm c) fullShare (GA D (pr c)) (GO D c)) ∗ bigSep (Finset.Ico 0 64) (slotIdle (F := F) 235 c))
omit hD in
/-- Before the arrivals. -/
def rStart (D : Inp F) (I : sProp (MT nD τ sig Unit (Elt F) ℕ UU ℕ)) (c : Dev nD) : sProp 𝕄 :=
  iprop(I ∗ ringB D c 0 ∗ bigSep (Finset.Ico 0 (npr D c)) (rPend D c))

/-- The drain of the own scatter, and arrivals 0 to 6. -/
theorem part5_spec {K : GSem nD τ sig → ℕ} {I : sProp 𝕄} [BI.Persistent I] (hI : I ⊢ invs D K)
    (h0 h1 h2 h3 h4 h5 h6) (v5 v8 v9 : BitVec 32) (hw1 : k0_chk1 c (D.cnt c)) (v12 v15 v17 v18 v56 : BitVec 32) :
    iprop((Rf ∗ rStart D I c) ∗ tripB (c := c) (D.perm c) ∗ ringA D c (nM c (num D c))) ⊢ wp frame (wpE defs 𝒱₀ (c : Thread nD τ) bd) Set.univ
      (k0_part5 (F := F) sidM h0 permM h1 cntM h2 eM h3 oM h4 aM h5 bM h6 cc0_scratch2 cc0_scratch3 cc0_scratch4 cc0_scratch5 cc0_scratch6
        c v5 v8 v9 (D.cnt c) hw1 v12 v15 v17 v18 v56) fun _ => iprop((Rf ∗ aDone D c) ∗ rState D I c 7) := by
  have h64 : 64 ≤ nM c (num D c) := by have := nM_ge (hD.mid c) c; omega
  rw [Gen.k0_part5_eq_skeleton]
  unfold Gen.k0_part5_skel
  have hR := (seg_me (hD.mid c) (d := c)).last
  refine drain_next h64 (hR.trips.trans (by omega)) hR.rest_trips
    (fun k _ => drain_word hcc0_scratch5 (fit_a hD c) (perm_lt' hD c) (seg_me (hD.mid c)) h64 k (fun _ hw => hw) (fun _ hw => out_in hw)) (fun r => ?_)
  have hA : iprop((Rf ∗ rStart D I c) ∗ tripB (c := c) (D.perm c)
      ∗ bigSep (Finset.Ico 0 (nM c (num D c))) (itemDone aM c (nS c (num D c)) (D.perm c) qR (GA D c) (GO D c)) ∗ bigSep (Finset.Ico 0 64) (slotIdle (F := F) 171 c))
      ⊢ iprop((Rf ∗ aDone D c) ∗ rState D I c 0) := by
    unfold rStart aDone rState
    rw [Nat.mul_zero, min_eq_left (Nat.zero_le (nMp c (num D c))), min_eq_left (Nat.zero_le (npr D c)), Finset.Ico_self, bigSep_empty]
    iintro ⟨⟨HR, HI, Hring, Hp⟩, HB, Hd⟩
    isplitl [HR Hd]
    · isplitl [HR]; · iexact HR
      iexact Hd
    isplitl [HI]; · iexact HI
    isplitl [HB]; · iexact HB
    isplitl [Hring]; · iexact Hring
    isplitr; · iempintro
    iexact Hp
  refine hA.trans ?_
  iterate 7
    refine recv_next hD c hI (by decide) (cond_pr (hD.mid c) (BitVec.ofNat 32 _) _ (Is.lit _ (by decide)))
      (fun h => (run_ch hD c (by decide) h).trips) (fun h => (run_ch hD c (by decide) h).rest_trips)
      (fun h k _ => ring_word hcc0_scratch6 (fit_b hD c) (perm_lt' hD c) (value_b hD c) (run_ch hD c (by decide) h) (min_le_right _ _) k
        (fun h' _ hw => hw h h') (fun _ _ hw _ _ => out_in hw) (fun _ hw => hw h) (fun _ hw _ => out_in hw)) rfl ?_
  iintro HS
  rw [Prog.pure_eq_ret, wp_ret]
  imodintro
  iexact HS

/-- Arrivals 7 to 16. -/
theorem part6_spec {K : GSem nD τ sig → ℕ} {I : sProp 𝕄} [BI.Persistent I] (hI : I ⊢ invs D K)
    (h0 h1 h2 h3 h4 h5 h6) (v5 v8 v9 : BitVec 32) (hw1 : k0_chk1 c (D.cnt c)) (v17 v18 v56 v161 v162 : BitVec 32) :
    iprop(Rf ∗ rState D I c 7) ⊢ wp frame (wpE defs 𝒱₀ (c : Thread nD τ) bd) Set.univ
      (k0_part6 (F := F) sidM h0 permM h1 cntM h2 eM h3 oM h4 aM h5 bM h6 cc0_scratch2 cc0_scratch3 cc0_scratch4 cc0_scratch5 cc0_scratch6
        c v5 v8 v9 (D.cnt c) hw1 v17 v18 v56 v161 v162) fun _ => iprop(Rf ∗ rState D I c 17) := by
  rw [Gen.k0_part6_eq_skeleton]
  unfold Gen.k0_part6_skel
  iterate 10
    refine recv_next hD c hI (by decide) (cond_pr (hD.mid c) (BitVec.ofNat 32 _) _ (Is.lit _ (by decide)))
      (fun h => (run_ch hD c (by decide) h).trips) (fun h => (run_ch hD c (by decide) h).rest_trips)
      (fun h k _ => ring_word hcc0_scratch6 (fit_b hD c) (perm_lt' hD c) (value_b hD c) (run_ch hD c (by decide) h) (min_le_right _ _) k
        (fun h' _ hw => hw h h') (fun _ _ hw _ _ => out_in hw) (fun _ hw => hw h) (fun _ hw _ => out_in hw)) rfl ?_
  iintro HS
  rw [Prog.pure_eq_ret, wp_ret]
  imodintro
  iexact HS

end Cert.KernelIdeal.Lookup
-- ==== Proof.Parts2.lean ====
/-
  The later parts of the kernel's own text: the scatter of the own rows, the arrivals and their scatter, the ends of the copies.
-/
module

public import proofs.«01_k».proof.Proof.Parts

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}
variable {D : Inp F} (hD : Good D) (c : Dev nD)

variable {Rf : sProp (MT nD τ sig Unit (Elt F) ℕ UU ℕ)}

include hD

omit hD in
/-- What the arrivals leave. -/
def rAfter (D : Inp F) (I : sProp (MT nD τ sig Unit (Elt F) ℕ UU ℕ)) (c : Dev nD) : sProp 𝕄 :=
  iprop(permPt c (D.perm c) ∗ bDone D c ∗ bigSep (Finset.Ico 0 (npr D c)) (rDone D c))

/-- Arrivals 17 to 19, the drain of their scatter, and the ends of copies 0 to 4. -/
theorem part7_spec {K : GSem nD τ sig → ℕ} {I : sProp 𝕄} [BI.Persistent I] (hI : I ⊢ invs D K)
    (h0 h1 h2 h3 h4 h5 h6) (v5 v8 v9 : BitVec 32) (hw1 : k0_chk1 c (D.cnt c)) (v17 v18 v56 v191 v192 : BitVec 32) :
    iprop((Rf ∗ bigSep (Finset.Ico 0 (nme D c)) (sPend D c)) ∗ rState D I c 17) ⊢ wp frame (wpE defs 𝒱₀ (c : Thread nD τ) bd) Set.univ
      (k0_part7 (F := F) sidM h0 permM h1 cntM h2 eM h3 oM h4 aM h5 bM h6 cc0_scratch2 cc0_scratch3 cc0_scratch4 cc0_scratch5 cc0_scratch6
        c v5 v8 v9 (D.cnt c) hw1 v17 v18 (wN (wM c (D.cnt c))) v56 v191 v192)
      fun r => iprop(⌜r = Scalar.cmpi .sgt (wN (wM c (D.cnt c))) 5#32⌝ ∗ (Rf ∗ rAfter D I c) ∗ sState D I c 5) := by
  have h64 : 64 ≤ nMp c (num D c) := by have := nMp_ge (hD.mid c) c; omega
  have h20 := nN_le_pr (hD.mid c) c
  rw [Gen.k0_part7_eq_skeleton]
  unfold Gen.k0_part7_skel
  iterate 3
    refine recv_next hD c hI (by decide) (cond_pr (hD.mid c) (BitVec.ofNat 32 _) _ (Is.lit _ (by decide)))
      (fun h => (run_ch hD c (by decide) h).trips) (fun h => (run_ch hD c (by decide) h).rest_trips)
      (fun h k _ => ring_word hcc0_scratch6 (fit_b hD c) (perm_lt' hD c) (value_b hD c) (run_ch hD c (by decide) h) (min_le_right _ _) k
        (fun h' _ hw => hw h h') (fun _ _ hw _ _ => out_in hw) (fun _ hw => hw h) (fun _ hw _ => out_in hw)) rfl ?_
  have hR := (seg_pr (hD.mid c) (d := c)).last
  refine .trans ?_ (drain_next (q := fullShare) (fM := GA D (pr c)) (G := GO D c) (Rf := iprop(Rf ∗ bigSep (Finset.Ico 0 (nme D c)) (sPend D c) ∗ I ∗ bigSep (Finset.Ico 0 (npr D c)) (rDone D c)))
    h64 (hR.trips.trans (by omega)) hR.rest_trips
    (fun k _ => drain_word hcc0_scratch6 (fit_b hD c) (perm_lt' hD c) (seg_pr (hD.mid c)) h64 k (fun _ hw => hw) (fun _ hw => out_in hw)) (fun r => ?_))
  · unfold rState
    rw [min_eq_right h20, min_eq_right (by unfold nN at h20; omega : nMp c (num D c) ≤ 128 * 20)]
    iintro ⟨⟨HR, Hs⟩, HI, HB, Hring, Hd, -⟩
    isplitl [HR Hs HI Hd]
    · isplitl [HR]; · iexact HR
      isplitl [Hs]; · iexact Hs
      isplitl [HI]; · iexact HI
      iexact Hd
    isplitl [HB]; · iexact HB
    iexact Hring
  have hA : iprop(iprop(Rf ∗ bigSep (Finset.Ico 0 (nme D c)) (sPend D c) ∗ I ∗ bigSep (Finset.Ico 0 (npr D c)) (rDone D c)) ∗ tripB (c := c) (D.perm c)
      ∗ bigSep (Finset.Ico 0 (nMp c (num D c))) (itemDone bM c (nSp c (num D c)) (D.perm c) fullShare (GA D (pr c)) (GO D c)) ∗ bigSep (Finset.Ico 0 64) (slotIdle (F := F) 235 c))
      ⊢ iprop((Rf ∗ rAfter D I c) ∗ sState D I c 0) := by
    unfold sState rAfter bDone
    rw [min_eq_left (Nat.zero_le (nme D c)), Finset.Ico_self, bigSep_empty]
    iintro ⟨⟨HR, Hs, HI, Hr⟩, ⟨Hp, HO, -⟩, Hd⟩
    isplitl [HR Hp Hd Hr]
    · isplitl [HR]; · iexact HR
      isplitl [Hp]; · iexact Hp
      isplitl [Hd]; · iexact Hd
      iexact Hr
    isplitl [HI]; · iexact HI
    isplitl [HO]; · iexact HO
    isplitr; · iempintro
    iexact Hs
  refine hA.trans ?_
  iterate 5
    refine sent_next hD c hI (by decide) (cond_me (hD.mid c) (BitVec.ofNat 32 _) _ (Is.lit _ (by decide))) rfl ?_
  iintro HS
  rw [Prog.pure_eq_ret, wp_ret]
  imodintro
  isplitr
  · ipureintro; rfl
  iexact HS

/-- The ends of copies 5 to 14. -/
theorem part8_spec {K : GSem nD τ sig → ℕ} {I : sProp 𝕄} [BI.Persistent I] (hI : I ⊢ invs D K) (h0 h1 h2 h3 h4 h5 h6) :
    iprop(Rf ∗ sState D I c 5) ⊢ wp frame (wpE defs 𝒱₀ (c : Thread nD τ) bd) Set.univ
      (k0_part8 (F := F) sidM h0 permM h1 cntM h2 eM h3 oM h4 aM h5 bM h6 cc0_scratch2 cc0_scratch3 cc0_scratch4 cc0_scratch5 cc0_scratch6
        (wN (wM c (D.cnt c))) (Scalar.cmpi .sgt (wN (wM c (D.cnt c))) 5#32))
      fun r => iprop(⌜r = Scalar.cmpi .sgt (wN (wM c (D.cnt c))) 15#32⌝ ∗ Rf ∗ sState D I c 15) := by
  rw [Gen.k0_part8_eq_skeleton]
  unfold Gen.k0_part8_skel
  iterate 10
    refine sent_next hD c hI (by decide) (cond_me (hD.mid c) (BitVec.ofNat 32 _) _ (Is.lit _ (by decide))) rfl ?_
  iintro HS
  rw [Prog.pure_eq_ret, wp_ret]
  imodintro
  isplitr
  · ipureintro; rfl
  iexact HS

end Cert.KernelIdeal.Lookup
-- ==== Proof.Memory.lean ====
/-
  The buffers of one device as the rows the exchange works on, before it and after it.
-/
module

public import proofs.«01_k».proof.Proof.Parts2

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

/-- A permutation of the first `n` numbers permutes what is held per number. -/
theorem bigSep_perm {M : Type _} [URA M] (n : ℕ) (g : ℕ → ℕ) (hg : ∀ p < n, g p < n) (hinj : ∀ p p', p < n → p' < n → g p = g p' → p = p')
    (A : ℕ → sProp M) : bigSep (Finset.Ico 0 n) A = bigSep (Finset.Ico 0 n) fun p => A (g p) := by
  have hI : ∀ x ∈ Finset.Ico 0 n, ∀ y ∈ Finset.Ico 0 n, g x = g y → x = y := fun x hx y hy =>
    hinj x y (Finset.mem_Ico.mp hx).2 (Finset.mem_Ico.mp hy).2
  have him : (Finset.Ico 0 n).image g = Finset.Ico 0 n := by
    refine Finset.eq_of_subset_of_card_le (fun y hy => ?_) (le_of_eq (Finset.card_image_of_injOn (fun x hx y hy => hI x hx y hy)).symm)
    obtain ⟨x, hx, rfl⟩ := Finset.mem_image.mp hy
    exact Finset.mem_Ico.mpr ⟨Nat.zero_le _, hg x (Finset.mem_Ico.mp hx).2⟩
  conv_lhs => rw [← him]
  unfold bigSep
  exact Finset.fold_image hI

/-- Rows held at contents of their own are the buffer at some contents. -/
theorem rows_join {ℓ : Loc nD τ sig} [Nonempty (Buf (Elt F) ℓ)] {q : PosShare TreeShare} (m : ℕ) (K : ℕ → Finset (Idx ℓ))
    (hd : ∀ r r', r ≠ r' → Disjoint (K r) (K r')) (hu : (Finset.Ico 0 m).biUnion K = Finset.univ) :
    bigSep (Finset.Ico 0 m) (fun r => iprop(∃ f : Buf (Elt F) ℓ, ℓ ↦[K r]{q} f)) ⊢ (iprop(∃ f : Buf (Elt F) ℓ, ℓ ↦{q} f) : sProp 𝕄) := by
  refine (bigSep_exists_pi (Finset.Ico 0 m) (fun r (f : Buf (Elt F) ℓ) => (ℓ ↦[K r]{q} f : sProp 𝕄))).trans ?_
  iintro ⟨%fs, H⟩
  ihave H := (pointsTo_biUnion_join (Finset.Ico 0 m) K fs (fs 0) fun r _ r' _ h => hd r r' h) $$ H
  icases H with ⟨%g, -, H⟩
  iexists g
  rw [hu]
  iexact H

variable {D : Inp F} (hD : Good D) (c : Dev nD)

/-! ## The two chunk buffers -/

/-- Rows of the own chunk buffer, and of the other one, at contents not chosen. -/
abbrev aAny (c : Dev nD) (r : ℕ) : sProp 𝕄 := iprop(∃ f, aRow c fullShare r f)
abbrev bAny (c : Dev nD) (r : ℕ) : sProp 𝕄 := iprop(∃ f : Buf (Elt F) (bM.view.loc (c : Thread nD τ)), mRow bM c fullShare r f)

/-- A row of the first buffer, with its content forgotten. -/
theorem a_any (q : PosShare TreeShare) (r : ℕ) (f : Buf (Elt F) (aM.view.loc (c : Thread nD τ))) : (aRow c q r f : sProp 𝕄) ⊢ iprop(∃ f, aRow c q r f) := by
  iintro H; iexists f; iexact H

/-- A row of the second buffer, with its content forgotten. -/
theorem b_any (r : ℕ) (f : Buf (Elt F) (bM.view.loc (c : Thread nD τ))) : (mRow bM c fullShare r f : sProp 𝕄) ⊢ bAny c r := by
  iintro H; iexists f; iexact H

/-- A row of the result, with its content forgotten. -/
theorem o_any (s i : ℕ) (p : Buf (Elt F) (permM.view.loc (c : Thread nD τ))) (f : Buf (Elt F) (oM.view.loc (c : Thread nD τ))) :
    (oRow c (permAt (F := F) (c := c) p (s + i)) f : sProp 𝕄) ⊢ itemPend c s p i := by
  unfold itemPend; iintro H; iexists f; iexact H

/-- The first `n` rows of a buffer with `n` rows are all of it. -/
theorem rows_any (n : ℕ) : (Finset.Ico 0 n).biUnion (rowS n) = Finset.univ := by rw [← rowsS_biUnion, rowsS_all]

/-- The first buffer taken apart into rows. -/
theorem a_open (f : Buf (Elt F) (aM.view.loc (c : Thread nD τ))) :
    (aM.view.loc (c : Thread nD τ) ↦{fullShare} f) ⊢ (bigSep (Finset.Ico 0 2560) (aAny c) : sProp 𝕄) := by
  rw [← rowsS_all 2560, a_rows]
  exact bigSep_mono fun r _ => a_any c fullShare r f

/-- The first buffer put together from its rows. -/
theorem a_shut : (bigSep (Finset.Ico 0 2560) (aAny c) : sProp 𝕄)
    ⊢ iprop(∃ f : Buf (Elt F) (aM.view.loc (c : Thread nD τ)), aM.view.loc (c : Thread nD τ) ↦{fullShare} f) :=
  rows_join (ℓ := aM.view.loc (c : Thread nD τ)) 2560 (rowS 2560) (fun r r' h => rowS_disjoint 2560 h) (rows_any 2560)

/-- The second buffer taken apart into rows. -/
theorem b_open (f : Buf (Elt F) (bM.view.loc (c : Thread nD τ))) :
    (bM.view.loc (c : Thread nD τ) ↦{fullShare} f) ⊢ (bigSep (Finset.Ico 0 2560) (bAny c) : sProp 𝕄) := by
  rw [← rowsS_all 2560, b_rows]
  exact bigSep_mono fun r _ => b_any c r f

/-- The second buffer put together from its rows. -/
theorem b_shut : (bigSep (Finset.Ico 0 2560) (bAny c) : sProp 𝕄)
    ⊢ iprop(∃ f : Buf (Elt F) (bM.view.loc (c : Thread nD τ)), bM.view.loc (c : Thread nD τ) ↦{fullShare} f) := by
  unfold bAny
  simp only [mRow_b]
  exact rows_join (ℓ := bM.view.loc (c : Thread nD τ)) 2560 (rowS 2560) (fun r r' h => rowS_disjoint 2560 h) (rows_any 2560)

/-- Rows at contents not chosen, chunk by chunk, with the rest. -/
theorem chunks_open {M : Type _} [URA M] (A : ℕ → sProp M) {n : ℕ} (h : n ≤ 20) :
    bigSep (Finset.Ico 0 2560) A = iprop(bigSep (Finset.Ico 0 n) (fun ch => bigSep (Finset.Ico 0 128) (fun t => A (128 * ch + t)))
      ∗ bigSep (Finset.Ico (128 * n) 2560) A) := by
  rw [chunks_rows A n]
  exact Ico_consecutive (Nat.zero_le _) (by omega) A

/-- The rows of a chunk of the other chunk buffer, together. -/
theorem b_chunk (ch : ℕ) : bigSep (Finset.Ico 0 128) (fun t => bAny c (128 * ch + t)) ⊢ (iprop(∃ f, bChunk c ch f) : sProp 𝕄) := by
  refine (bigSep_exists_pi (Finset.Ico 0 128) (fun t (f : Buf (Elt F) (bM.view.loc (c : Thread nD τ))) => (mRow bM c fullShare (128 * ch + t) f : sProp 𝕄))).trans ?_
  simp only [mRow_b]
  iintro ⟨%fs, H⟩
  ihave H := (pointsTo_biUnion_join (Finset.Ico 0 128) (fun t => rowS 2560 (128 * ch + t)) fs (fs 0) fun r _ r' _ h => rowS_disjoint 2560 (by omega)) $$ H
  icases H with ⟨%g, -, H⟩
  iexists g
  have e : (Finset.Ico 0 128).biUnion (fun t => rowS 2560 (128 * ch + t)) = rowsS 2560 (128 * ch) (128 * ch + 128) := by
    ext i
    simp only [Finset.mem_biUnion, Finset.mem_Ico, mem_rowS, mem_rowsS]
    constructor
    · rintro ⟨t, ht, h⟩; omega
    · intro h; exact ⟨(i 0 : ℕ) - 128 * ch, by omega, by omega⟩
  rw [e]
  iexact H

/-- The rows past the arrivals, chunk by chunk. -/
theorem past_rows {M : Type _} [URA M] (A : ℕ → sProp M) (m : ℕ) : ∀ j, j ≤ nN m →
    bigSep (Finset.Ico 0 j) (fun ch => bigSep (Finset.Ico (min (128 * (ch + 1)) m) (128 * ch + 128)) A) = bigSep (Finset.Ico (min (128 * j) m) (128 * j)) A
  | 0, _ => by rw [Finset.Ico_self, Nat.mul_zero, Nat.zero_min, Finset.Ico_self]; rfl
  | j + 1, h => by
    have hj : 128 * j < m := by unfold nN at h; omega
    rw [bigSep_Ico_succ_top (Nat.zero_le j), past_rows A m j (by omega), min_eq_left hj.le, Finset.Ico_self, bigSep_empty,
      show 128 * (j + 1) = 128 * j + 128 by omega]
    exact equiv_iff.mp sep_emp

/-- The rows of chunks held as chunks. -/
theorem a_chunks (q : PosShare TreeShare) (n : ℕ) (f : Buf (Elt F) (aM.view.loc (c : Thread nD τ))) :
    bigSep (Finset.Ico 0 n) (fun ch => aChunk c q ch f) = (bigSep (Finset.Ico 0 (128 * n)) (fun r => aRow c q r f) : sProp 𝕄) := by
  rw [← chunks_rows]
  refine bigSep_congr fun ch _ => ?_
  unfold aChunk
  rw [a_rows, bigSep_shift]

/-! ## The result -/

/-- What is held per position of the sorted order: the own positions and the partner's. -/
theorem positions {M : Type _} [URA M] (hD : Good D) (A : ℕ → sProp M) : bigSep (Finset.Ico 0 4096) A
    = iprop(bigSep (Finset.Ico 0 (nM c (num D c))) (fun i => A (nS c (num D c) + i)) ∗ bigSep (Finset.Ico 0 (nMp c (num D c))) (fun i => A (nSp c (num D c) + i))) := by
  have h1 := (hD.mid c).2
  unfold nS nM nSp nMp
  rw [Ico_consecutive (Nat.zero_le (num D c)) (by omega : num D c ≤ 4096) A]
  have h2 := bigSep_shift (num D c) (4096 - num D c) A
  rw [show num D c + (4096 - num D c) = 4096 by omega] at h2
  have h0 : (fun i => A (0 + i)) = A := funext fun i => by rw [Nat.zero_add]
  by_cases hs : side c = 0
  · simp only [hs, if_true, h2, h0]
  · simp only [hs, if_false, h2, h0]
    exact sep_comm_eq _ _

/-- The result taken apart into the rows of the device's own part and of the partner's. -/
theorem o_rows (hD : Good D) (f : Buf (Elt F) (oM.view.loc (c : Thread nD τ))) :
    (oM.view.loc (c : Thread nD τ) ↦{fullShare} f : sProp 𝕄)
      = iprop(bigSep (Finset.Ico 0 (nM c (num D c))) (fun i => oRow c (permAt (F := F) (c := c) (D.perm c) (nS c (num D c) + i)) f)
        ∗ bigSep (Finset.Ico 0 (nMp c (num D c))) (fun i => oRow c (permAt (F := F) (c := c) (D.perm c) (nSp c (num D c) + i)) f)) := by
  rw [← positions c hD (fun p => oRow c (permAt (F := F) (c := c) (D.perm c) p) f),
    ← bigSep_perm 4096 (permAt (F := F) (c := c) (D.perm c)) (fun p _ => perm_lt' hD c p) (fun p p' => hD.perm_inj c p p') (fun r => oRow c r f),
    ← rowsS_all 4096, rowsS_biUnion]
  exact (pointsTo_biUnion _ _ fun a _ b _ h => rowS_disjoint 4096 h)

/-- The result's rows, each waiting to be written by the scatter that it belongs to. -/
theorem o_open (hD : Good D) (f : Buf (Elt F) (oM.view.loc (c : Thread nD τ))) : (oM.view.loc (c : Thread nD τ) ↦{fullShare} f : sProp 𝕄)
    ⊢ iprop(bigSep (Finset.Ico 0 (nM c (num D c))) (itemPend c (nS c (num D c)) (D.perm c)) ∗ bigSep (Finset.Ico 0 (nMp c (num D c))) (itemPend c (nSp c (num D c)) (D.perm c))) := by
  rw [o_rows c hD f]
  exact BI.sep_mono (bigSep_mono fun i _ => o_any c _ i _ f) (bigSep_mono fun i _ => o_any c _ i _ f)

/-! ## The table -/

/-- The table's block shared out among the 128 copies of a gather. -/
theorem e_open (f : Buf (Elt F) (eM.view.loc (c : Thread nD τ))) : (ePt c fullShare f : sProp 𝕄)
    ⊣⊢ iprop(ePt c (shareDrop fullShare 128) f ∗ bigSep (Finset.Ico 0 128) (fun t => ePt c (tok t) f)) := by
  have h := pointsTo_toks_range (Ix := Unit) (Name := ℕ) (U := UU) (Lvl := ℕ) (ℓ := eM.view.loc (c : Thread nD τ)) (S := Finset.univ) (f := f) fullShare 128
  rw [Finset.range_eq_Ico] at h
  exact h

end Cert.KernelIdeal.Lookup
-- ==== Proof.Body.lean ====
/-
  The kernel's body on one device: its parts in turn.
-/
module

public import proofs.«01_k».proof.Proof.Memory

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}
variable {D : Inp F} (hD : Good D) (c : Dev nD)

variable {Rf : sProp (MT nD τ sig Unit (Elt F) ℕ UU ℕ)}

/-- The count the kernel reads. -/
abbrev cntPt (c : Dev nD) (f : Buf (Elt F) (cntM.view.loc (c : Thread nD τ))) : sProp 𝕄 := cntM.view.loc (c : Thread nD τ) ↦{fullShare} f

/-- A text whose first part is known. -/
theorem seq_next {α β : Type} {p : Prog (TpuEff nD τ sig (Elt F) Λ₀ .tc) α} {k : α → Prog (TpuEff nD τ sig (Elt F) Λ₀ .tc) β} {A : sProp 𝕄} {B : α → sProp 𝕄} {Q : β → sProp 𝕄}
    (h : A ⊢ wp frame (wpE defs 𝒱₀ (c : Thread nD τ) bd) Set.univ p B)
    (hk : ∀ r, B r ⊢ wp frame (wpE defs 𝒱₀ (c : Thread nD τ) bd) Set.univ (k r) Q) :
    A ⊢ wp frame (wpE defs 𝒱₀ (c : Thread nD τ) bd) Set.univ (p >>= k) Q := by
  rw [wp_bind]
  iintro H
  iapply (wp_wand_r _ _ _)
  isplitl [H]
  · iapply h; iexact H
  iintro %r Hr
  iapply (hk r)
  iexact Hr

/-- A fact at hand. -/
theorem fact_left {P : Prop} {A B : sProp 𝕄} (h : P → A ⊢ B) : iprop(⌜P⌝ ∗ A) ⊢ B := by
  iintro ⟨%hp, H⟩
  iapply (h hp)
  iexact H

include hD

/-- The words of the device and of the count. -/
theorem part1_spec (h0 h1 h2 h3 h4 h5 h6) :
    iprop(Rf ∗ cntPt c (fun _ => D.cnt c)) ⊢ wp frame (wpE defs 𝒱₀ (c : Thread nD τ) bd) Set.univ
      (k0_part1 (F := F) sidM h0 permM h1 cntM h2 eM h3 oM h4 aM h5 bM h6 cc0_scratch2 cc0_scratch3 cc0_scratch4 cc0_scratch5 cc0_scratch6)
      fun r => iprop(⌜∃ v5 v8 v9 hw v21 v32 v34, r = ⟨c, v5, v8, v9, D.cnt c, hw, wS c (D.cnt c), wM c (D.cnt c), wSp c (D.cnt c), wMp c (D.cnt c), v21, v32, v34⟩
          ∧ Scalar.select (Scalar.andi v32 v34) (Scalar.subi v21 1#32) v21 = wN (wM c (D.cnt c))⌝ ∗ Rf ∗ cntPt c (fun _ => D.cnt c)) := by
  rw [Gen.k0_part1_eq_skeleton]
  unfold Gen.k0_part1_skel
  simp only [smemLoad, smemLoadElt, Prog.lift, Prog.bind_op, Prog.bind_ret, Prog.pure_eq_ret, Prog.bind_assoc, wp_deviceId]
  iintro ⟨HR, Hc⟩
  iapply (wp_load 𝒱₀ (c : Thread nD τ) bd Set.univ (m := cntM) (Finset.subset_univ _)) $$ Hc
  iintro Hc
  generalize hv : View.readAt (Elt F) cntM.view (Rect.unit (s := S1) ![0] S1.size _).toLoadRect (fun _ => D.cnt c) (Shape.Idx.first _) = v
  obtain rfl : D.cnt c = v := hv
  rw [wp_assume_of _ _ _ _ (chk1 (hD.mid c))]
  rw [wp_ret]
  imodintro
  isplitr
  · ipureintro
    exact ⟨_, _, _, _, _, _, _, rfl, rfl⟩
  isplitl [HR]; · iexact HR
  iexact Hc

omit hD in
/-- What the body starts from. -/
def bodyIn (D : Inp F) (I : sProp (MT nD τ sig Unit (Elt F) ℕ UU ℕ)) (c : Dev nD) : sProp 𝕄 :=
  iprop(gStart D I c ∗ permPt c (D.perm c) ∗ ringA D c 0 ∗ ringB D c 0 ∗ bigSep (Finset.Ico 0 (npr D c)) (rPend D c)
    ∗ bigSep (Finset.Ico 0 (nme D c)) (fun ch => atPos ER (sendC c ch) 0 ∅ 0))

omit hD in
/-- What the body leaves. -/
def bodyOut (D : Inp F) (I : sProp (MT nD τ sig Unit (Elt F) ℕ UU ℕ)) (c : Dev nD) : sProp 𝕄 :=
  iprop(I ∗ ow c 0 ∗ atPos ER (barC c) (0 + 1) ∅ 0 ∗ bigSep (Finset.Ico 0 (nme D c)) (sDone D c) ∗ bigSep (Finset.Ico 0 (npr D c)) (rDone D c)
    ∗ sidPt c (D.sid c) ∗ permPt c (D.perm c) ∗ bigSep (Finset.Ico 0 128) (gE D c)
    ∗ bigSep (Finset.Ico (nM c (num D c)) (128 * nme D c)) (fun r => aRow c qR r (GA D c)) ∗ aDone D c ∗ bDone D c)

set_option maxHeartbeats 1600000 in
/-- The whole body. -/
theorem body_spec {K : GSem nD τ sig → ℕ} {I : sProp 𝕄} [BI.Persistent I] (hI : I ⊢ invs D K) (h0 h1 h2 h3 h4 h5 h6) :
    iprop((Rf ∗ bodyIn D I c) ∗ cntPt c (fun _ => D.cnt c)) ⊢ wp frame (wpE defs 𝒱₀ (c : Thread nD τ) bd) Set.univ
      (cc0_body (F := F) sidM h0 permM h1 cntM h2 eM h3 oM h4 aM h5 bM h6 cc0_scratch2 cc0_scratch3 cc0_scratch4 cc0_scratch5 cc0_scratch6)
      fun _ => iprop((Rf ∗ cntPt c (fun _ => D.cnt c)) ∗ bodyOut D I c) := by
  rw [Gen.cc0_body_eq_skeleton]
  unfold Gen.cc0_body_skel
  refine seq_next c (part1_spec hD c h0 h1 h2 h3 h4 h5 h6) (fun r => fact_left fun hr => ?_)
  obtain ⟨v5, v8, v9, hw, v21, v32, v34, rfl, hn⟩ := hr
  dsimp only
  have hA : iprop((Rf ∗ bodyIn D I c) ∗ cntPt c (fun _ => D.cnt c)) ⊢ iprop((iprop(Rf ∗ cntPt c (fun _ => D.cnt c)) ∗ ringB D c 0 ∗ bigSep (Finset.Ico 0 (npr D c)) (rPend D c)
      ∗ bigSep (Finset.Ico 0 (nme D c)) (fun ch => atPos ER (sendC c ch) 0 ∅ 0) ∗ permPt c (D.perm c) ∗ ringA D c 0) ∗ gStart D I c) := by
    unfold bodyIn
    iintro ⟨⟨HR, HS, Hp, HA, HB, Hr, Hs⟩, Hc⟩
    isplitr [HS]
    · isplitl [HR Hc]
      · isplitl [HR]; · iexact HR
        iexact Hc
      isplitl [HB]; · iexact HB
      isplitl [Hr]; · iexact Hr
      isplitl [Hs]; · iexact Hs
      isplitl [Hp]; · iexact Hp
      iexact HA
    iexact HS
  refine hA.trans ?_
  refine seq_next c (part2_spec hD c hI h0 h1 h2 h3 h4 h5 h6 v5 v8 v9 hw _ _ _ v21 v32 v34) (fun r => fact_left fun hr => ?_)
  subst hr
  dsimp only
  refine seq_next c (part3_spec hD c hI h0 h1 h2 h3 h4 h5 h6 v5 v8 v9 hw _ _ _) (fun _ => ?_)
  have hB : iprop((iprop(iprop(Rf ∗ cntPt c (fun _ => D.cnt c)) ∗ ringB D c 0 ∗ bigSep (Finset.Ico 0 (npr D c)) (rPend D c)
      ∗ bigSep (Finset.Ico 0 (nme D c)) (fun ch => atPos ER (sendC c ch) 0 ∅ 0) ∗ permPt c (D.perm c) ∗ ringA D c 0) ∗ atPos ER (barC c) (0 + 1) ∅ 0) ∗ gState D I c 12)
      ⊢ iprop((iprop(iprop(Rf ∗ cntPt c (fun _ => D.cnt c)) ∗ atPos ER (barC c) (0 + 1) ∅ 0 ∗ ringB D c 0 ∗ bigSep (Finset.Ico 0 (npr D c)) (rPend D c)
      ∗ bigSep (Finset.Ico 0 (nme D c)) (fun ch => atPos ER (sendC c ch) 0 ∅ 0)) ∗ permPt c (D.perm c) ∗ ringA D c 0) ∗ gState D I c 12) := by
    iintro ⟨⟨⟨HR, HB, Hr, Hs, Hp, HA⟩, Hb⟩, HS⟩
    isplitr [HS]
    · isplitr [Hp HA]
      · isplitl [HR]; · iexact HR
        isplitl [Hb]; · iexact Hb
        isplitl [HB]; · iexact HB
        isplitl [Hr]; · iexact Hr
        iexact Hs
      isplitl [Hp]; · iexact Hp
      iexact HA
    iexact HS
  refine hB.trans ?_
  refine seq_next c (part4_spec hD c hI h0 h1 h2 h3 h4 h5 h6 v5 v8 v9 hw _ _ _) (fun _ => ?_)
  have hC : iprop((iprop(iprop(Rf ∗ cntPt c (fun _ => D.cnt c)) ∗ atPos ER (barC c) (0 + 1) ∅ 0 ∗ ringB D c 0 ∗ bigSep (Finset.Ico 0 (npr D c)) (rPend D c)
      ∗ bigSep (Finset.Ico 0 (nme D c)) (fun ch => atPos ER (sendC c ch) 0 ∅ 0)) ∗ gAfter D I c) ∗ tripB (c := c) (D.perm c) ∗ ringA D c (nM c (num D c)))
      ⊢ iprop((iprop(iprop(Rf ∗ cntPt c (fun _ => D.cnt c)) ∗ atPos ER (barC c) (0 + 1) ∅ 0 ∗ sidPt c (D.sid c) ∗ bigSep (Finset.Ico 0 128) (gE D c)
        ∗ bigSep (Finset.Ico (nM c (num D c)) (128 * nme D c)) (fun r => aRow c qR r (GA D c)) ∗ bigSep (Finset.Ico 0 (nme D c)) (sPend D c)) ∗ rStart D I c)
        ∗ tripB (c := c) (D.perm c) ∗ ringA D c (nM c (num D c))) := by
    unfold gAfter rStart sPend
    rw [bigSep_sep']
    iintro ⟨⟨⟨HR, Hb, HB, Hr, Hs⟩, HI, Hl, Hsid, HE, Hc, Ha⟩, HT⟩
    isplitr [HT]
    · isplitr [HI HB Hr]
      · isplitl [HR]; · iexact HR
        isplitl [Hb]; · iexact Hb
        isplitl [Hsid]; · iexact Hsid
        isplitl [HE]; · iexact HE
        isplitl [Ha]; · iexact Ha
        isplitl [Hc]; · iexact Hc
        iexact Hs
      isplitl [HI]; · iexact HI
      isplitl [HB]; · iexact HB
      iexact Hr
    iexact HT
  refine hC.trans ?_
  refine seq_next c (part5_spec hD c hI h0 h1 h2 h3 h4 h5 h6 v5 v8 v9 hw _ _ _ _ _) (fun r => ?_)
  obtain ⟨v161, v162⟩ := r
  dsimp only
  refine seq_next c (part6_spec hD c hI h0 h1 h2 h3 h4 h5 h6 v5 v8 v9 hw _ _ _ _ _) (fun r => ?_)
  obtain ⟨v191, v192⟩ := r
  dsimp only
  have hE : iprop(iprop(iprop(iprop(Rf ∗ cntPt c (fun _ => D.cnt c)) ∗ atPos ER (barC c) (0 + 1) ∅ 0 ∗ sidPt c (D.sid c) ∗ bigSep (Finset.Ico 0 128) (gE D c)
        ∗ bigSep (Finset.Ico (nM c (num D c)) (128 * nme D c)) (fun r => aRow c qR r (GA D c)) ∗ bigSep (Finset.Ico 0 (nme D c)) (sPend D c)) ∗ aDone D c) ∗ rState D I c 17)
      ⊢ iprop((iprop(iprop(Rf ∗ cntPt c (fun _ => D.cnt c)) ∗ atPos ER (barC c) (0 + 1) ∅ 0 ∗ sidPt c (D.sid c) ∗ bigSep (Finset.Ico 0 128) (gE D c)
        ∗ bigSep (Finset.Ico (nM c (num D c)) (128 * nme D c)) (fun r => aRow c qR r (GA D c)) ∗ aDone D c) ∗ bigSep (Finset.Ico 0 (nme D c)) (sPend D c)) ∗ rState D I c 17) := by
    iintro ⟨⟨⟨HR, Hb, Hsid, HE, Ha, Hs⟩, Hd⟩, HT⟩
    isplitr [HT]
    · isplitr [Hs]
      · isplitl [HR]; · iexact HR
        isplitl [Hb]; · iexact Hb
        isplitl [Hsid]; · iexact Hsid
        isplitl [HE]; · iexact HE
        isplitl [Ha]; · iexact Ha
        iexact Hd
      iexact Hs
    iexact HT
  refine hE.trans ?_
  rw [hn]
  refine seq_next c (part7_spec hD c hI h0 h1 h2 h3 h4 h5 h6 v5 v8 v9 hw _ _ _ _ _) (fun r => fact_left fun hr => ?_)
  subst hr
  refine seq_next c (part8_spec hD c hI h0 h1 h2 h3 h4 h5 h6) (fun r => fact_left fun hr => ?_)
  subst hr
  dsimp only
  iterate 5
    refine sent_next hD c hI (by decide) (cond_me (hD.mid c) (BitVec.ofNat 32 _) _ (Is.lit _ (by decide))) rfl ?_
  have h20 := nN_le_me (hD.mid c) c
  unfold sState rAfter bodyOut
  rw [min_eq_right h20]
  iintro ⟨⟨⟨⟨HR, Hc⟩, Hb, Hsid, HE, Ha, Hd⟩, Hp, HB, Hr⟩, HI, HO, Hs, -⟩
  rw [Prog.pure_eq_ret, wp_ret]
  imodintro
  isplitl [HR Hc]
  · isplitl [HR]; · iexact HR
    iexact Hc
  isplitl [HI]; · iexact HI
  isplitl [HO]; · iexact HO
  isplitl [Hb]; · iexact Hb
  isplitl [Hs]; · iexact Hs
  isplitl [Hr]; · iexact Hr
  isplitl [Hsid]; · iexact Hsid
  isplitl [Hp]; · iexact Hp
  isplitl [HE]; · iexact HE
  isplitl [Ha]; · iexact Ha
  isplitl [Hd]; · iexact Hd
  iexact HB

end Cert.KernelIdeal.Lookup
-- ==== Proof.Ends.lean ====
/-
  What one device starts the exchange from, and what it ends with.
-/
module

public import proofs.«01_k».proof.Proof.Body

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

variable {defs : BodyDefs F} {bd : Option 𝒱₀.V}
variable {D : Inp F} (hD : Good D) (c : Dev nD)

variable {Rf : sProp (MT nD τ sig Unit (Elt F) ℕ UU ℕ)}

/-! ## Before -/

/-- The idle counters of the local copies. -/
def idle (c : Dev nD) : sProp 𝕄 :=
  iprop(bigSep (Finset.Ico 0 128) (fun t => semVal ((c : Thread nD τ), .dma (dsem (43 + t))) 0) ∗ bigSep (Finset.Ico 0 64) (slotIdle (F := F) 171 c)
    ∗ bigSep (Finset.Ico 0 64) (slotIdle (F := F) 235 c))

/-- What the exchange's cells give device `c` at the start. -/
def talkIn (D : Inp F) (I : sProp (MT nD τ sig Unit (Elt F) ℕ UU ℕ)) (c : Dev nD) : sProp 𝕄 :=
  iprop(I ∗ levAts L lv ∗ ow c (owe D c 0 + tallyAt (barC (pr c)) () 1)
    ∗ dutyTok ER (barC (pr c)) 0 () ∗ reached ER (barC (pr c)) 0 ∗ cred (tallyAt (barC c) () 1) ∗ atPos ER (barC c) 0 ∅ 0
    ∗ bigSep (Finset.Ico 0 20) (fun ch => atPos ER (sendC c ch) 0 ∅ 0) ∗ bigSep (Finset.Ico 0 20) (fun ch => reached ER (sendC c ch) 0)
    ∗ bigSep (Finset.Ico 0 20) (fun ch => atPos ER (recvC c ch) 0 ∅ 0) ∗ bigSep (Finset.Ico 0 20) (fun ch => reached ER (recvC c ch) 0)
    ∗ bigSep (Finset.Ico 0 (nme D c)) (fun ch => dutyTok ER (sendC c ch) 0 ()) ∗ bigSep (Finset.Ico 0 (nme D c)) (fun ch => dutyTok ER (recvC (pr c) ch) 0 ())
    ∗ bigSep (Finset.Ico 0 (npr D c)) (fun ch => cred (tallyAt (recvC c ch) () N)))

/-- The buffers at the start, and at the end. -/
def memIn (D : Inp F) (c : Dev nD) : sProp 𝕄 :=
  iprop(sidPt c (D.sid c) ∗ permPt c (D.perm c) ∗ ePt c fullShare (D.tab c) ∗ (∃ f : Buf (Elt F) (oM.view.loc (c : Thread nD τ)), oM.view.loc (c : Thread nD τ) ↦{fullShare} f)
    ∗ (∃ f : Buf (Elt F) (aM.view.loc (c : Thread nD τ)), aM.view.loc (c : Thread nD τ) ↦{fullShare} f) ∗ (∃ f : Buf (Elt F) (bM.view.loc (c : Thread nD τ)), bM.view.loc (c : Thread nD τ) ↦{fullShare} f))
def memOut (D : Inp F) (c : Dev nD) : sProp 𝕄 :=
  iprop(sidPt c (D.sid c) ∗ permPt c (D.perm c) ∗ ePt c fullShare (D.tab c) ∗ (oM.view.loc (c : Thread nD τ) ↦{fullShare} (GO D c : Buf (Elt F) (oM.view.loc (c : Thread nD τ))))
    ∗ (∃ f : Buf (Elt F) (aM.view.loc (c : Thread nD τ)), aM.view.loc (c : Thread nD τ) ↦{fullShare} f) ∗ (∃ f : Buf (Elt F) (bM.view.loc (c : Thread nD τ)), bM.view.loc (c : Thread nD τ) ↦{fullShare} f))

/-- What the body does not touch. -/
def bodyLeft (D : Inp F) (c : Dev nD) : sProp 𝕄 :=
  iprop(ePt c (shareDrop fullShare 128) (D.tab c) ∗ bigSep (Finset.Ico (nme D c) 20) (fun ch => atPos ER (sendC c ch) 0 ∅ 0)
    ∗ bigSep (Finset.Ico (npr D c) 20) (fun ch => atPos ER (recvC c ch) 0 ∅ 0)
    ∗ bigSep (Finset.Ico (128 * nme D c) 2560) (aAny c) ∗ bigSep (Finset.Ico (128 * npr D c) 2560) (bAny c))

include hD

/-- The two rings before their first items. -/
theorem rings_open (f : Buf (Elt F) (oM.view.loc (c : Thread nD τ))) :
    iprop((oM.view.loc (c : Thread nD τ) ↦{fullShare} f) ∗ bigSep (Finset.Ico 0 64) (slotIdle (F := F) 171 c) ∗ bigSep (Finset.Ico 0 64) (slotIdle (F := F) 235 c))
      ⊢ iprop(ringA D c 0 ∗ ringB D c 0) := by
  unfold ringA ringB ring
  rw [Nat.zero_sub, Finset.Ico_self, bigSep_empty, bigSep_empty, bigSep_empty, bigSep_empty]
  iintro ⟨Ho, H1, H2⟩
  ihave Ho := (o_open c hD f) $$ Ho
  icases Ho with ⟨Hp, Hq⟩
  isplitl [Hp H1]
  · isplitr; · iempintro
    isplitr; · iempintro
    isplitl [Hp]; · iexact Hp
    iexact H1
  isplitr; · iempintro
  isplitr; · iempintro
  isplitl [Hq]; · iexact Hq
  iexact H2

/-- The landing rows a device hands its partner. -/
theorem bar_open : iprop(bigSep (Finset.Ico 0 (npr D c)) (fun ch => bigSep (Finset.Ico 0 128) (fun t => bAny c (128 * ch + t))) ∗ bigSep (Finset.Ico 0 (npr D c)) (fun ch => reached ER (recvC c ch) 0))
    ⊢ barPay D (pr c) := by
  unfold barPay
  rw [← hD.agree' c, pr_pr, ← bigSep_sep']
  exact bigSep_mono fun ch _ => BI.sep_mono (b_chunk c ch) (BI.Entails.refl _)

/-- The start of the body. -/
theorem body_open {I : sProp 𝕄} : iprop(talkIn D I c ∗ idle c ∗ memIn D c) ⊢ iprop(bodyLeft D c ∗ bodyIn D I c) := by
  have h1 : nme D c ≤ 20 := nN_le_me (hD.mid c) c
  have h2 : npr D c ≤ 20 := nN_le_pr (hD.mid c) c
  unfold talkIn idle memIn bodyLeft bodyIn gStart
  rw [Ico_consecutive (Nat.zero_le (nme D c)) h1 (fun ch => (atPos ER (sendC c ch) 0 ∅ 0 : sProp 𝕄)),
    Ico_consecutive (Nat.zero_le (nme D c)) h1 (fun ch => (reached ER (sendC c ch) 0 : sProp 𝕄)),
    Ico_consecutive (Nat.zero_le (npr D c)) h2 (fun ch => (atPos ER (recvC c ch) 0 ∅ 0 : sProp 𝕄)),
    Ico_consecutive (Nat.zero_le (npr D c)) h2 (fun ch => (reached ER (recvC c ch) 0 : sProp 𝕄)),
    bigSep_sep', bigSep_sep', bigSep_sep']
  unfold gE rPend
  rw [bigSep_sep', bigSep_sep']
  iintro ⟨⟨HI, Hl, HO, Htb, Hrb, Hcb, Hab, ⟨Has, Has'⟩, ⟨Hrs, -⟩, ⟨Har, Har'⟩, ⟨Hrr, -⟩, Hts, Htr, Hcr⟩, ⟨Hg, Hia, Hib⟩, Hs, Hp, HE, ⟨%fo, Ho⟩, ⟨%fa, Ha⟩, ⟨%fb, Hb⟩⟩
  ihave HE := (e_open c (D.tab c)).1 $$ HE
  icases HE with ⟨HE', HE⟩
  ihave Ha := (a_open c fa) $$ Ha
  ihave Ha := (Entails.of_eq (chunks_open (aAny c) h1)) $$ Ha
  icases Ha with ⟨Ha, Ha'⟩
  ihave Hb := (b_open c fb) $$ Hb
  ihave Hb := (Entails.of_eq (chunks_open (bAny c) h2)) $$ Hb
  icases Hb with ⟨Hb, Hb'⟩
  ihave Hbar := (bar_open hD c) $$ [Hb Hrr]
  · isplitl [Hb]; · iexact Hb
    iexact Hrr
  ihave Hring := (rings_open hD c fo) $$ [Ho Hia Hib]
  · isplitl [Ho]; · iexact Ho
    isplitl [Hia]; · iexact Hia
    iexact Hib
  icases Hring with ⟨HA, HB⟩
  isplitl [HE' Has' Har' Ha' Hb']
  · isplitl [HE']; · iexact HE'
    isplitl [Has']; · iexact Has'
    isplitl [Har']; · iexact Har'
    isplitl [Ha']; · iexact Ha'
    iexact Hb'
  isplitl [HI Hl Hs HO HE Hg Ha Hts Hrs Htr Htb Hrb Hbar Hcb Hab]
  · isplitl [HI]; · iexact HI
    isplitl [Hl]; · iexact Hl
    isplitl [Hs]; · iexact Hs
    isplitl [HO]; · iexact HO
    isplitl [HE Hg]
    · isplitl [HE]; · iexact HE
      iexact Hg
    isplitl [Ha Hts Hrs Htr]
    · isplitl [Ha]; · iexact Ha
      isplitl [Hts]; · iexact Hts
      isplitl [Hrs]; · iexact Hrs
      iexact Htr
    isplitl [Htb]; · iexact Htb
    isplitl [Hrb]; · iexact Hrb
    isplitl [Hbar]; · iexact Hbar
    isplitl [Hcb]; · iexact Hcb
    iexact Hab
  isplitl [Hp]; · iexact Hp
  isplitl [HA]; · iexact HA
  isplitl [HB]; · iexact HB
  isplitl [Hcr Har]
  · isplitl [Hcr]; · iexact Hcr
    iexact Har
  iexact Has

/-! ## After -/

omit hD in
/-- What the exchange's cells are at the end. -/
def talkOut (c : Dev nD) : sProp 𝕄 :=
  iprop(ow c 0 ∗ semVal (barC c) 0 ∗ bigSep (Finset.Ico 0 20) (fun ch => semVal (sendC c ch) 0) ∗ bigSep (Finset.Ico 0 20) (fun ch => semVal (recvC c ch) 0))

omit hD in
/-- Cells closed one by one. -/
theorem close_each {I : sProp 𝕄} [BI.Persistent I] (s : Finset ℕ) (A B : ℕ → sProp 𝕄) (h : ∀ i ∈ s, iprop(I ∗ A i) ⊢ |={Set.univ}=> B i) :
    iprop(I ∗ bigSep s A) ⊢ |={Set.univ}=> bigSep s B :=
  (bigSep_with_persistent h).trans (bigSep_fupd s B)

/-- The send cells closed, and the receive cells. -/
theorem close_send {K : GSem nD τ sig → ℕ} {I : sProp 𝕄} [BI.Persistent I] (hI : I ⊢ invs D K) :
    iprop(I ∗ bigSep (Finset.Ico 0 (nme D c)) (fun ch => atPos ER (sendC c ch) (0 + 1) ∅ 0) ∗ bigSep (Finset.Ico (nme D c) 20) (fun ch => atPos ER (sendC c ch) 0 ∅ 0))
      ⊢ |={Set.univ}=> bigSep (Finset.Ico 0 20) (fun ch => semVal (sendC c ch) 0) := by
  have h1 : nme D c ≤ 20 := nN_le_me (hD.mid c) c
  rw [Ico_consecutive (Nat.zero_le (nme D c)) h1 (fun ch => (semVal (sendC c ch) 0 : sProp 𝕄))]
  have hu : ∀ ch ∈ Finset.Ico 0 (nme D c), iprop(I ∗ atPos ER (sendC c ch) (0 + 1) ∅ 0) ⊢ (|={Set.univ}=> semVal (sendC c ch) 0 : sProp 𝕄) := fun ch hc => by
    have hlt := (Finset.mem_Ico.mp hc).2
    iintro ⟨#HI, H⟩
    iapply (close_used D (sendC c ch))
    isplitr
    · iapply (hI.trans (inv_dma D c (n := 3 + ch) (by omega) (by omega))); iexact HI
    iexact H
  have hi : ∀ ch ∈ Finset.Ico (nme D c) 20, iprop(I ∗ atPos ER (sendC c ch) 0 ∅ 0) ⊢ (|={Set.univ}=> semVal (sendC c ch) 0 : sProp 𝕄) := fun ch hc => by
    have hlt := Finset.mem_Ico.mp hc
    iintro ⟨#HI, H⟩
    iapply (close_idle D c _ (dead_send D hlt.1 hlt.2))
    isplitr
    · iapply (hI.trans (inv_dma D c (n := 3 + ch) (by omega) (by omega))); iexact HI
    iexact H
  iintro ⟨#HI, H1, H2⟩
  imod (close_each _ _ _ hu) $$ [H1] with H1
  · isplitr; · iexact HI
    iexact H1
  imod (close_each _ _ _ hi) $$ [H2] with H2
  · isplitr; · iexact HI
    iexact H2
  imodintro
  isplitl [H1]; · iexact H1
  iexact H2

/-- At the end every receive semaphore is closed at zero, those of chunks that came and those of chunks that never come. -/
theorem close_recv {K : GSem nD τ sig → ℕ} {I : sProp 𝕄} [BI.Persistent I] (hI : I ⊢ invs D K) :
    iprop(I ∗ bigSep (Finset.Ico 0 (npr D c)) (fun ch => atPos ER (recvC c ch) (0 + 1) ∅ 0) ∗ bigSep (Finset.Ico (npr D c) 20) (fun ch => atPos ER (recvC c ch) 0 ∅ 0))
      ⊢ |={Set.univ}=> bigSep (Finset.Ico 0 20) (fun ch => semVal (recvC c ch) 0) := by
  have h1 : npr D c ≤ 20 := nN_le_pr (hD.mid c) c
  rw [Ico_consecutive (Nat.zero_le (npr D c)) h1 (fun ch => (semVal (recvC c ch) 0 : sProp 𝕄))]
  have hu : ∀ ch ∈ Finset.Ico 0 (npr D c), iprop(I ∗ atPos ER (recvC c ch) (0 + 1) ∅ 0) ⊢ (|={Set.univ}=> semVal (recvC c ch) 0 : sProp 𝕄) := fun ch hc => by
    have hlt := (Finset.mem_Ico.mp hc).2
    iintro ⟨#HI, H⟩
    iapply (close_used D (recvC c ch))
    isplitr
    · iapply (hI.trans (inv_dma D c (n := 23 + ch) (by omega) (by omega))); iexact HI
    iexact H
  have hi : ∀ ch ∈ Finset.Ico (npr D c) 20, iprop(I ∗ atPos ER (recvC c ch) 0 ∅ 0) ⊢ (|={Set.univ}=> semVal (recvC c ch) 0 : sProp 𝕄) := fun ch hc => by
    have hlt := Finset.mem_Ico.mp hc
    iintro ⟨#HI, H⟩
    iapply (close_idle D c _ (dead_recv D hlt.1 hlt.2))
    isplitr
    · iapply (hI.trans (inv_dma D c (n := 23 + ch) (by omega) (by omega))); iexact HI
    iexact H
  iintro ⟨#HI, H1, H2⟩
  imod (close_each _ _ _ hu) $$ [H1] with H1
  · isplitr; · iexact HI
    iexact H1
  imod (close_each _ _ _ hi) $$ [H2] with H2
  · isplitr; · iexact HI
    iexact H2
  imodintro
  isplitl [H1]; · iexact H1
  iexact H2

/-- The own chunk buffer whole again. -/
theorem a_rejoin : iprop(bigSep (Finset.Ico 0 (nM c (num D c))) (fun i => mRow aM c qR i (GA D c)) ∗ bigSep (Finset.Ico (nM c (num D c)) (128 * nme D c)) (fun r => aRow c qR r (GA D c))
      ∗ bigSep (Finset.Ico 0 (nme D c)) (fun ch => aChunk c qL ch (GA D c)) ∗ bigSep (Finset.Ico (128 * nme D c) 2560) (aAny c))
    ⊢ iprop(∃ f : Buf (Elt F) (aM.view.loc (c : Thread nD τ)), aM.view.loc (c : Thread nD τ) ↦{fullShare} f) := by
  have h1 : nme D c ≤ 20 := nN_le_me (hD.mid c) c
  have h2 : nM c (num D c) ≤ 128 * nme D c := by unfold nme nN; omega
  have ht := Ico_consecutive (Nat.zero_le (128 * nme D c)) (by omega : 128 * nme D c ≤ 2560) (aAny (F := F) c)
  rw [a_chunks]
  simp only [mRow_a]
  have hj : iprop(bigSep (Finset.Ico 0 (128 * nme D c)) (fun r => aRow c qL r (GA D c)) ∗ bigSep (Finset.Ico 0 (128 * nme D c)) (fun r => aRow c qR r (GA D c)))
      ⊢ (bigSep (Finset.Ico 0 (128 * nme D c)) (aAny c) : sProp 𝕄) := by
    rw [← bigSep_sep']
    exact bigSep_mono fun r _ => (pointsTo_share (PosShare.mem_left_op_right fullShare)).2.trans (a_any c fullShare r (GA D c))
  have hs := Ico_consecutive (Nat.zero_le (nM c (num D c))) h2 (fun r => (aRow c qR r (GA D c) : sProp 𝕄))
  iintro ⟨H1, H2, H3, H4⟩
  iapply (a_shut c)
  iapply (Entails.of_eq ht.symm)
  isplitr [H4]
  · iapply hj
    isplitl [H3]; · iexact H3
    iapply (Entails.of_eq hs.symm)
    isplitl [H1]; · iexact H1
    iexact H2
  iexact H4

/-- The other chunk buffer whole again. -/
theorem b_rejoin : iprop(bigSep (Finset.Ico 0 (nMp c (num D c))) (fun i => mRow bM c fullShare i (GA D (pr c)))
      ∗ bigSep (Finset.Ico 0 (npr D c)) (fun ch => bigSep (Finset.Ico (min (128 * (ch + 1)) (nMp c (num D c))) (128 * ch + 128)) (fun r => mRow bM c fullShare r (GA D (pr c))))
      ∗ bigSep (Finset.Ico (128 * npr D c) 2560) (bAny c))
    ⊢ iprop(∃ f : Buf (Elt F) (bM.view.loc (c : Thread nD τ)), bM.view.loc (c : Thread nD τ) ↦{fullShare} f) := by
  have h1 : npr D c ≤ 20 := nN_le_pr (hD.mid c) c
  have h2 : nMp c (num D c) ≤ 128 * npr D c := by unfold npr nN; omega
  have hp := past_rows (fun r => (mRow bM c fullShare r (GA D (pr c)) : sProp 𝕄)) (nMp c (num D c)) (npr D c) le_rfl
  rw [min_eq_right h2] at hp
  have hs := Ico_consecutive (Nat.zero_le (nMp c (num D c))) h2 (bAny (F := F) c)
  have ht := Ico_consecutive (Nat.zero_le (128 * npr D c)) (by omega : 128 * npr D c ≤ 2560) (bAny (F := F) c)
  have hm : ∀ lo hi, bigSep (Finset.Ico lo hi) (fun r => mRow bM c fullShare r (GA D (pr c))) ⊢ (bigSep (Finset.Ico lo hi) (bAny c) : sProp 𝕄) :=
    fun lo hi => bigSep_mono fun r _ => b_any c r _
  rw [hp]
  iintro ⟨H1, H2, H3⟩
  iapply (b_shut c)
  iapply (Entails.of_eq ht.symm)
  isplitr [H3]
  · iapply (Entails.of_eq hs.symm)
    isplitl [H1]
    · iapply (hm _ _); iexact H1
    iapply (hm _ _); iexact H2
  iexact H3

/-- The end of the body. -/
theorem body_close {K : GSem nD τ sig → ℕ} {I : sProp 𝕄} [BI.Persistent I] (hI : I ⊢ invs D K) :
    iprop(bodyLeft D c ∗ bodyOut D I c) ⊢ |={Set.univ}=> iprop(talkOut (F := F) c ∗ idle c ∗ memOut D c) := by
  unfold bodyLeft bodyOut talkOut idle memOut aDone bDone
  unfold gE sDone rDone itemDone
  rw [bigSep_sep', bigSep_sep', bigSep_sep', bigSep_sep', bigSep_sep']
  iintro ⟨⟨HE', Has', Har', Ha', Hb'⟩, #HI, HO, Hbar, ⟨Has, Hac⟩, ⟨Har, Hbc⟩, Hs, Hp, ⟨HE, Hg⟩, Hag, ⟨⟨Hoa, Haa⟩, Hia⟩, ⟨⟨Hob, Hbb⟩, Hib⟩⟩
  imod (close_used D (κ := K (barC c)) (barC c)) $$ [Hbar] with Hbar
  · isplitr; · iapply (hI.trans (inv_bar D c)); iexact HI
    iexact Hbar
  imod (close_send hD c hI) $$ [Has Has'] with Hsend
  · isplitr; · iexact HI
    isplitl [Has]; · iexact Has
    iexact Has'
  imod (close_recv hD c hI) $$ [Har Har'] with Hrecv
  · isplitr; · iexact HI
    isplitl [Har]; · iexact Har
    iexact Har'
  ihave Ho := (Entails.of_eq (o_rows c hD (GO D c)).symm) $$ [Hoa Hob]
  · isplitl [Hoa]; · iexact Hoa
    iexact Hob
  ihave Ha := (a_rejoin hD c) $$ [Haa Hag Hac Ha']
  · isplitl [Haa]; · iexact Haa
    isplitl [Hag]; · iexact Hag
    isplitl [Hac]; · iexact Hac
    iexact Ha'
  ihave Hb := (b_rejoin hD c) $$ [Hbb Hbc Hb']
  · isplitl [Hbb]; · iexact Hbb
    isplitl [Hbc]; · iexact Hbc
    iexact Hb'
  ihave HE := (e_open c (D.tab c)).2 $$ [HE HE']
  · isplitl [HE']; · iexact HE'
    iexact HE
  imodintro
  isplitl [HO Hbar Hsend Hrecv]
  · isplitl [HO]; · iexact HO
    isplitl [Hbar]; · iexact Hbar
    isplitl [Hsend]; · iexact Hsend
    iexact Hrecv
  isplitl [Hg Hia Hib]
  · isplitl [Hg]; · iexact Hg
    isplitl [Hia]; · iexact Hia
    iexact Hib
  isplitl [Hs]; · iexact Hs
  isplitl [Hp]; · iexact Hp
  isplitl [HE]; · iexact HE
  isplitl [Ho]; · iexact Ho
  isplitl [Ha]; · iexact Ha
  iexact Hb

end Cert.KernelIdeal.Lookup
-- ==== Proof.Region.lean ====
/-
  The kernel's call as one region: what a device brings to it, and what it takes from it.
-/
module

public import proofs.«01_k».proof.Proof.Ends
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Ring

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)
open Facts₀

variable {F : FTy → Type} [FloatOps F]

local notation "𝕄" => MT nD τ sig Unit (Elt F) ℕ UU ℕ

/-- The contents of every device's buffers when the call begins. -/
abbrev Vals (F : FTy → Type) : Type := Dev nD → Valuation τ sig (Elt F)

/-- The only index of one word. -/
def ix0 : S1.Idx := Shape.Idx.first (s := S1) (by decide)

/-- Conjunctions over one set, joined. -/
theorem bigSep_pair {ι : Type} {M : Type} [URA M] {s : Finset ι} (A B : ι → sProp M) :
    iprop(bigSep s A ∗ bigSep s B) ⊢ bigSep s fun i => iprop(A i ∗ B i) := by rw [bigSep_sep']

/-- What the kernel reads of them: the count, the sorted words, their places, and the table's part. -/
def inp (W : Vals F) : Inp F where
  cnt c := (W c main_v7 : S1.Idx → BitVec 32) ix0
  sid c := W c main_v15
  perm c := W c main_v2_1
  tab c := W c main_arg1

/-- The buffers after the call: only the result is new. -/
abbrev Vnext (W : Vals F) : Vals F := fun c => Function.update (W c) main_v16 (GO (inp W) c)

variable (W : Vals F)

/-! ## The call's own counters -/

/-- The semaphores the call has of its own. -/
abbrev osem (k : Fin 296) : SemLoc sig := .dma (dsem (3 + k.val))

/-- The semaphores of the kernel's own are not those of the staged arguments. -/
theorem osem_facts : Pipeline.OwnSemFacts spec0 osem where
  isScoped k := by
    exact (by decide +kernel : ∀ d : DmaSem sig, (SemLoc.dma d : SemLoc sig).isScoped .tc = true) _
  inj := fun a b h => by
    have h1 := dsem_val (n := 3 + a.val) (by omega)
    have h2 := dsem_val (n := 3 + b.val) (by omega)
    have h3 : dsem (3 + a.val) = dsem (3 + b.val) := SemLoc.dma.inj h
    have h4 := congrArg (fun d : DmaSem sig => (d : Fin 299).val) h3
    exact Fin.ext (by dsimp only at h4; omega)
  disj k w s := by
    intro h
    have h1 := dsem_val (n := 3 + k.val) (by omega)
    have h3 := SemLoc.dma.inj h
    have h4 := congrArg (fun d : DmaSem sig => (d : Fin 299).val) h3
    have h5 : ∀ (w : Fin 3) (s : Fin (spec0 w).nbuf), (((spec0 w).sem s : DmaSem sig) : Fin 299).val < 3 := by decide
    have h6 := h5 w s
    dsimp only at h4; omega

/-- They are the exchange's forty and the idle ones. -/
theorem own_eq (c : Dev nD) : (Pipeline.ownSems0 osem c : sProp 𝕄)
    = iprop(bigSep (Finset.Ico 3 43) (fun n => semVal ((c : Thread nD τ), .dma (dsem n)) 0) ∗ idle c) := by
  unfold Pipeline.ownSems0 idle slotIdle
  rw [Ring.bigSep_fin_eq_range 296 (fun k : Fin 296 => (semVal ((c : Thread nD τ), osem k) 0 : sProp 𝕄))
      (fun k => semVal ((c : Thread nD τ), .dma (dsem (3 + k))) 0) (fun t h => rfl),
    Finset.range_eq_Ico, ← bigSep_shift 3 296 (fun n => (semVal ((c : Thread nD τ), .dma (dsem n)) 0 : sProp 𝕄)),
    Ico_consecutive (a := 3) (b := 43) (c := 3 + 296) (by omega) (by omega), Ico_consecutive (a := 43) (b := 171) (c := 3 + 296) (by omega) (by omega),
    Ico_consecutive (a := 171) (b := 235) (c := 3 + 296) (by omega) (by omega),
    ← bigSep_shift 43 128 (fun n => (semVal ((c : Thread nD τ), .dma (dsem n)) 0 : sProp 𝕄)),
    ← bigSep_shift 171 64 (fun n => (semVal ((c : Thread nD τ), .dma (dsem n)) 0 : sProp 𝕄)),
    ← bigSep_shift 235 64 (fun n => (semVal ((c : Thread nD τ), .dma (dsem n)) 0 : sProp 𝕄))]

/-- The forty, as the sends' and the arrivals'. -/
theorem forty (A : ℕ → sProp 𝕄) : bigSep (Finset.Ico 3 43) A
    = iprop(bigSep (Finset.Ico 0 20) (fun ch => A (3 + ch)) ∗ bigSep (Finset.Ico 0 20) (fun ch => A (23 + ch))) := by
  rw [Ico_consecutive (a := 3) (b := 23) (c := 43) (by omega) (by omega), ← bigSep_shift 3 20 A, ← bigSep_shift 23 20 A]

/-! ## Around the call -/

/-- What a device owes when the call begins: a signal to its partner and the chunks it sends. -/
def O₀ (D : Inp F) (c : Dev nD) : CellTallies nD τ sig Unit := owe D c 0 + tallyAt (barC (pr c)) () 1

/-- The share of the protocol a device brings, its forty cells not yet opened. -/
def talkSeed (D : Inp F) (K : GSem nD τ sig → ℕ) (c : Dev nD) : sProp 𝕄 :=
  iprop(invs D K ∗ reached ER (barC (pr c)) 0 ∗ dutyTok ER (barC (pr c)) 0 () ∗ atPos ER (barC c) 0 ∅ 0
    ∗ bigSep (Finset.Ico 3 43) (fun n => openTok ER ((c : Thread nD τ), .dma (dsem n)))
    ∗ bigSep (Finset.Ico 0 (nme D c)) (fun ch => dutyTok ER (sendC c ch) 0 ()) ∗ bigSep (Finset.Ico 0 (nme D c)) (fun ch => dutyTok ER (recvC (pr c) ch) 0 ()))

/-- The units it is to receive. -/
def creds (D : Inp F) (c : Dev nD) : sProp 𝕄 :=
  iprop(cred (tallyAt (barC c) () 1) ∗ bigSep (Finset.Ico 0 (npr D c)) (fun ch => cred (tallyAt (recvC c ch) () N)))

def Tk (D : Inp F) (c : Dev nD) : sProp 𝕄 := iprop((∃ K, talkSeed D K c) ∗ creds D c)

/-- The same with the cells opened. -/
def talkNow (D : Inp F) (K : GSem nD τ sig → ℕ) (c : Dev nD) : sProp 𝕄 :=
  iprop(invs D K ∗ reached ER (barC (pr c)) 0 ∗ dutyTok ER (barC (pr c)) 0 () ∗ atPos ER (barC c) 0 ∅ 0
    ∗ bigSep (Finset.Ico 3 43) (fun n => iprop(atPos ER ((c : Thread nD τ), .dma (dsem n)) 0 ∅ 0 ∗ reached ER ((c : Thread nD τ), .dma (dsem n)) 0))
    ∗ bigSep (Finset.Ico 0 (nme D c)) (fun ch => dutyTok ER (sendC c ch) 0 ()) ∗ bigSep (Finset.Ico 0 (nme D c)) (fun ch => dutyTok ER (recvC (pr c) ch) 0 ()))

def Xk (D : Inp F) (c : Dev nD) : sProp 𝕄 := iprop(((∃ K, talkNow D K c) ∗ creds D c) ∗ idle c ∗ levAts L lv)

def Yk (c : Dev nD) : sProp 𝕄 := semVal (barC c) 0

/-- The forty cells opened. -/
theorem cells_opened (D : Inp F) (K : GSem nD τ sig → ℕ) (c : Dev nD) :
    iprop(invs D K ∗ bigSep (Finset.Ico 3 43) (fun n => iprop(openTok ER ((c : Thread nD τ), .dma (dsem n)) ∗ semVal ((c : Thread nD τ), .dma (dsem n)) 0)))
      ⊢ |={Set.univ}=> bigSep (Finset.Ico 3 43) (fun n => iprop(atPos ER ((c : Thread nD τ), .dma (dsem n)) 0 ∅ 0 ∗ reached ER ((c : Thread nD τ), .dma (dsem n)) 0)) :=
  close_each _ _ _ fun n hn => by
    iintro ⟨#HI, Ho, Hs⟩
    iapply (Rounds.cell_open ER (Rd D) (κ := K ((c : Thread nD τ), .dma (dsem n))) (Set.mem_univ _))
    isplitr
    · iapply (inv_dma D c (Finset.mem_Ico.mp hn).1 (Finset.mem_Ico.mp hn).2); iexact HI
    isplitl [Ho] <;> iassumption

/-- What a device takes into the kernel's body, from what the launch gives it. -/
theorem hopen (D : Inp F) (c : Dev nD) : iprop(Tk D c ∗ Pipeline.ownSems0 osem c ∗ levAts L lv) ⊢ (|={Set.univ}=> Xk D c : sProp 𝕄) := by
  rw [own_eq]
  unfold Tk Xk talkSeed
  iintro ⟨⟨⟨%K, #HI, #Hr, Ht, Ha, Ho, Hts, Htr⟩, Hc⟩, ⟨Hs, Hi⟩, #Hlev⟩
  imod (cells_opened D K c) $$ [Ho Hs] with Hop
  · isplitr; · iexact HI
    iapply (bigSep_pair (fun n => (openTok ER ((c : Thread nD τ), .dma (dsem n)) : sProp 𝕄)) (fun n => semVal ((c : Thread nD τ), .dma (dsem n)) 0))
    isplitl [Ho] <;> iassumption
  imodintro
  isplitr [Hi]
  · isplitr [Hc]
    · iexists K
      unfold talkNow
      isplitr; · iexact HI
      isplitr; · iexact Hr
      isplitl [Ht]; · iexact Ht
      isplitl [Ha]; · iexact Ha
      isplitl [Hop]; · iexact Hop
      isplitl [Hts] <;> iassumption
    iexact Hc
  isplitl [Hi]; · iexact Hi
  iexact Hlev

/-- The opened cells are what the body starts from. -/
theorem talk_ready (D : Inp F) (K : GSem nD τ sig → ℕ) (c : Dev nD) :
    iprop(talkNow D K c ∗ creds D c ∗ levAts L lv ∗ ow c (O₀ D c)) ⊢ talkIn D (invs D K) c := by
  unfold talkNow talkIn creds O₀
  rw [bigSep_sep', forty, forty]
  iintro ⟨⟨HI, Hr, Ht, Ha, ⟨⟨Has, Har⟩, ⟨Hrs, Hrr⟩⟩, Hts, Htr⟩, ⟨Hcb, Hcr⟩, Hl, HO⟩
  isplitl [HI]; · iexact HI
  isplitl [Hl]; · iexact Hl
  isplitl [HO]; · iexact HO
  isplitl [Ht]; · iexact Ht
  isplitl [Hr]; · iexact Hr
  isplitl [Hcb]; · iexact Hcb
  isplitl [Ha]; · iexact Ha
  isplitl [Has]; · iexact Has
  isplitl [Hrs]; · iexact Hrs
  isplitl [Har]; · iexact Har
  isplitl [Hrr]; · iexact Hrr
  isplitl [Hts]; · iexact Hts
  isplitl [Htr]; · iexact Htr
  iexact Hcr

/-! ## The buffers the body addresses itself -/

/-- The table and the result, held by the core. -/
abbrev Hs : Finset (DevRef τ sig) := {Proc.devRef .tc main_arg1, Proc.devRef .tc main_v16}
abbrev Sr : Finset (DevRef τ sig) := Pipeline.ucRefs τ sig \ Pipeline.arrRefs (τ := τ) spec0

/-- The arrays that the kernel reaches directly are the table's block and the result. -/
theorem hs_eq (c : Dev nD) (V : Valuation τ sig (Elt F)) : (StableHlo.held (c : Thread nD τ) Hs V : sProp 𝕄)
    = iprop(ePt c fullShare (V main_arg1) ∗ (oM.view.loc (c : Thread nD τ) ↦{fullShare} (V main_v16 : Buf (Elt F) (oM.view.loc (c : Thread nD τ))))) := by
  unfold StableHlo.held
  rw [bigSep_eq_bigSepL_of_eq [Proc.devRef .tc main_arg1, Proc.devRef .tc main_v16] (by decide) (by decide)]
  rfl

/-- The two buffers no window stages, at any contents. -/
def scr (c : Dev nD) : sProp 𝕄 :=
  iprop((∃ f : Buf (Elt F) (aM.view.loc (c : Thread nD τ)), aM.view.loc (c : Thread nD τ) ↦{fullShare} f) ∗ (∃ f : Buf (Elt F) (bM.view.loc (c : Thread nD τ)), bM.view.loc (c : Thread nD τ) ↦{fullShare} f))

/-- The kernel's scratch, one buffer after the other. -/
theorem scr_eq (c : Dev nD) : (Pipeline.scopedRest spec0 c : sProp 𝕄) = scr c := by
  rw [Gen.scopedRest0_eq]; rfl

/-! ## The proof data -/

/-- The call's data: three inputs staged whole, and the body's state before and after. -/
def dat (c : Dev nD) : Dat τ (Elt F) Unit ℕ UU ℕ cfg0 c where
  A w := W c (Proc.devRef .tc (Pipeline.arrRef spec0 w))
  after w _ := match w with
    | ⟨0, _⟩ => (W c main_v15 : S4096.Idx → BitVec 32)
    | ⟨1, _⟩ => (W c main_v2_1 : S4096.Idx → BitVec 32)
    | ⟨2, _⟩ => (W c main_v7 : S1.Idx → BitVec 32)
  Φ t := if t.val = 0 then iprop(scr c ∗ (∃ r, prngReg c r) ∗ StableHlo.held (c : Thread nD τ) Hs (W c) ∗ Xk (inp W) c)
    else iprop(scr c ∗ (∃ r, prngReg c r) ∗ StableHlo.held (c : Thread nD τ) Hs (Vnext W c) ∗ Pipeline.ownSems0 osem c ∗ Yk c)
  q _ := fullShare
  owed t := if t.val = 0 then O₀ (inp W) c else 0

abbrev pdats : (p : Fin 1) → (c : Dev nD) → Dat τ (Elt F) Unit ℕ UU ℕ (cfgs p) c
  | 0 => dat W
  | ⟨_ + 1, h⟩ => absurd h (Nat.not_lt.2 (Nat.le_add_left _ _))

/-! ## The body, as the pipeline calls it -/

/-- What a device holds before the body. -/
theorem phi_first (c : Dev nD) (t : Fin (cfg0.N + 1)) (h : t.val = 0) : (dat W c).Φ t
    = iprop(scr c ∗ (∃ r, prngReg c r) ∗ StableHlo.held (c : Thread nD τ) Hs (W c) ∗ Xk (inp W) c) := if_pos h
/-- What a device holds after the body. -/
theorem phi_last (c : Dev nD) (t : Fin (cfg0.N + 1)) (h : t.val ≠ 0) : (dat W c).Φ t
    = iprop(scr c ∗ (∃ r, prngReg c r) ∗ StableHlo.held (c : Thread nD τ) Hs (Vnext W c) ∗ Pipeline.ownSems0 osem c ∗ Yk c) := if_neg h
/-- What a device owes before the body. -/
theorem owed_first (c : Dev nD) (t : Fin (cfg0.N + 1)) (h : t.val = 0) : (dat W c).owed t = O₀ (inp W) c := if_pos h
/-- After the body a device owes nothing. -/
theorem owed_last (c : Dev nD) (t : Fin (cfg0.N + 1)) (h : t.val ≠ 0) : (dat W c).owed t = 0 := if_neg h

/-- What is owed on entry, in the launch's words. -/
theorem owes_in (c : Dev nD) (t : Fin (cfg0.N + 1)) (h : t.val = 0) : (dat W c).owesAt () t ⊢ ow c (O₀ (inp W) c) := by
  unfold Dat.owesAt Pipeline.owesWithin ow
  rw [owed_first W c t h]
  iintro ⟨%Wd, -, HO⟩; iexists Wd; iexact HO
/-- What is owed on exit, in the launch's words. -/
theorem owes_out (c : Dev nD) (t : Fin (cfg0.N + 1)) (h : t.val ≠ 0) : ow c 0 ⊢ (dat W c).owesAt () t := by
  unfold Dat.owesAt Pipeline.owesWithin ow Dat.bound
  rw [owed_last W c t h]
  iintro ⟨%Wd, HO⟩
  iexists Wd
  isplitr; · ipureintro; exact fun _ _ => Or.inl trivial
  iexact HO

/-- The staged inputs are the whole arrays. -/
theorem before_0 (c : Dev nD) (t : Fin cfg0.N) (d) : (dat W c).before (0 : Fin 3) t d = (W c main_v15 : S4096.Idx → BitVec 32) := by
  unfold Dat.before; rw [if_pos (Gen.fetch0_0 t)]
  obtain rfl := Gen.fin_N0 t
  funext j
  show (W c main_v15 : S4096.Idx → BitVec 32) _ = _
  refine congrArg _ (funext fun a => Fin.ext ?_)
  exact Pipeline.Window.rect_emb_val_of_index_zero win0_0 Gen.t0_0 a rfl (fun a => ⟨(j a).val, (j a).isLt⟩)
/-- The second staged argument holds the places. -/
theorem before_1 (c : Dev nD) (t : Fin cfg0.N) (d) : (dat W c).before (1 : Fin 3) t d = (W c main_v2_1 : S4096.Idx → BitVec 32) := by
  unfold Dat.before; rw [if_pos (Gen.fetch0_1 t)]
  obtain rfl := Gen.fin_N0 t
  funext j
  show (W c main_v2_1 : S4096.Idx → BitVec 32) _ = _
  refine congrArg _ (funext fun a => Fin.ext ?_)
  exact Pipeline.Window.rect_emb_val_of_index_zero win0_1 Gen.t0_0 a rfl (fun a => ⟨(j a).val, (j a).isLt⟩)
/-- The third staged argument holds the count. -/
theorem before_2 (c : Dev nD) (t : Fin cfg0.N) (d) : (dat W c).before (2 : Fin 3) t d = (W c main_v7 : S1.Idx → BitVec 32) := by
  unfold Dat.before; rw [if_pos (Gen.fetch0_2 t)]
  obtain rfl := Gen.fin_N0 t
  funext j
  show (W c main_v7 : S1.Idx → BitVec 32) _ = _
  refine congrArg _ (funext fun a => Fin.ext ?_)
  exact Pipeline.Window.rect_emb_val_of_index_zero win0_2 Gen.t0_0 a rfl (fun a => ⟨(j a).val, (j a).isLt⟩)

/-- One word's array is constant. -/
theorem cnt_eq (c : Dev nD) : (W c main_v7 : S1.Idx → BitVec 32) = fun _ => (inp W).cnt c := by
  funext j
  show (W c main_v7 : S1.Idx → BitVec 32) j = (W c main_v7 : S1.Idx → BitVec 32) ix0
  refine congrArg _ (funext fun a => Fin.ext ?_)
  have h1 : ∀ a : Fin 1, S1.size a = 1 := by decide
  have h2 : (j a).val < S1.size a := (j a).isLt
  have h3 : (ix0 a).val < S1.size a := (ix0 a).isLt
  have h4 := h1 a
  omega

variable {W}
variable (hD : Good (inp W))

/-- What the pipeline hands the body. -/
def handed (W : Vals F) (c : Dev nD) : sProp 𝕄 :=
  iprop((scr c ∗ (∃ r, prngReg c r) ∗ StableHlo.held (c : Thread nD τ) Hs (W c) ∗ Xk (inp W) c) ∗ ow c (O₀ (inp W) c)
    ∗ sidPt c ((inp W).sid c) ∗ permPt c ((inp W).perm c) ∗ cntPt c (fun _ => (inp W).cnt c))

/-- What the body hands back. -/
def back (W : Vals F) (c : Dev nD) : sProp 𝕄 :=
  iprop((scr c ∗ (∃ r, prngReg c r) ∗ StableHlo.held (c : Thread nD τ) Hs (Vnext W c) ∗ Pipeline.ownSems0 osem c ∗ Yk c) ∗ ow c 0
    ∗ sidPt c ((inp W).sid c) ∗ permPt c ((inp W).perm c) ∗ cntPt c (fun _ => (inp W).cnt c))

/-- The kernel leaves the result in the result's array. -/
theorem vnext_out (c : Dev nD) : Vnext W c main_v16 = GO (inp W) c := Function.update_self ..
/-- The kernel leaves the table's block alone. -/
theorem vnext_arg (c : Dev nD) : Vnext W c main_arg1 = W c main_arg1 := Function.update_of_ne (by decide) _ _

/-- The start, for some names of the cells. -/
theorem handed_open (c : Dev nD) : handed W c ⊢ iprop(∃ K, (talkIn (inp W) (invs (inp W) K) c ∗ idle c ∗ memIn (inp W) c)
    ∗ (∃ r, prngReg c r) ∗ cntPt c (fun _ => (inp W).cnt c)) := by
  unfold handed Xk scr
  rw [hs_eq]
  iintro ⟨⟨⟨Ha, Hb⟩, Hp, ⟨HE, Ho⟩, ⟨⟨%K, Ht⟩, Hc⟩, Hi, Hl⟩, HO, Hs, Hm, Hn⟩
  iexists K
  isplitr [Hp Hn]
  · isplitl [Ht Hc Hl HO]
    · iapply (talk_ready (inp W) K c)
      isplitl [Ht]; · iexact Ht
      isplitl [Hc]; · iexact Hc
      isplitl [Hl] <;> iassumption
    isplitl [Hi]; · iexact Hi
    unfold memIn
    isplitl [Hs]; · iexact Hs
    isplitl [Hm]; · iexact Hm
    isplitl [HE]; · iexact HE
    isplitl [Ho]; · iexists _; iexact Ho
    isplitl [Ha] <;> iassumption
  isplitl [Hp] <;> iassumption

/-- The end. -/
theorem back_intro (c : Dev nD) : iprop((talkOut (F := F) c ∗ idle c ∗ memOut (inp W) c) ∗ (∃ r, prngReg c r) ∗ cntPt c (fun _ => (inp W).cnt c)) ⊢ back W c := by
  unfold back talkOut memOut scr Yk
  rw [hs_eq, own_eq, forty, vnext_out, vnext_arg]
  iintro ⟨⟨⟨HO, Hb0, Hsn, Hrc⟩, Hi, Hs, Hm, HE, Ho, Ha, Hb⟩, Hp, Hn⟩
  isplitr [HO Hs Hm Hn]
  · isplitl [Ha Hb]; · isplitl [Ha] <;> iassumption
    isplitl [Hp]; · iexact Hp
    isplitl [HE Ho]; · isplitl [HE]; · iexact HE
                       iexact Ho
    isplitl [Hsn Hrc Hi]
    · isplitl [Hsn Hrc]; · isplitl [Hsn] <;> iassumption
      iexact Hi
    iexact Hb0
  isplitl [HO]; · iexact HO
  isplitl [Hs]; · iexact Hs
  isplitl [Hm]; · iexact Hm
  iexact Hn

/-- The body's end turned into what it hands back. -/
theorem body_end (c : Dev nD) (K : GSem nD τ sig → ℕ) (hD : Good (inp W)) :
    iprop(((bodyLeft (inp W) c ∗ ∃ r, prngReg c r) ∗ cntPt c (fun _ => (inp W).cnt c)) ∗ bodyOut (inp W) (invs (inp W) K) c) ⊢ |={Set.univ}=> back W c := by
  iintro ⟨⟨⟨Hleft, Hp⟩, Hn⟩, Hout⟩
  imod (body_close hD c (BI.Entails.refl (invs (inp W) K))) $$ [Hleft Hout] with H
  · isplitl [Hleft] <;> iassumption
  imodintro
  iapply (back_intro c)
  isplitl [H]; · iexact H
  isplitl [Hp] <;> iassumption

include hD in
/-- The body at its one point. -/
theorem body_run (c : Dev nD) (h0 h1 h2 h3 h4 h5 h6) : handed W c ⊢ wp frame (wpE (defs₀ (F := F)) 𝒱₀ (c : Thread nD τ) none) Set.univ
    (cc0_body (F := F) sidM h0 permM h1 cntM h2 eM h3 oM h4 aM h5 bM h6 cc0_scratch2 cc0_scratch3 cc0_scratch4 cc0_scratch5 cc0_scratch6)
    fun _ => back W c := by
  have hrun : ∀ K, iprop(((bodyLeft (inp W) c ∗ ∃ r, prngReg c r) ∗ bodyIn (inp W) (invs (inp W) K) c) ∗ cntPt c (fun _ => (inp W).cnt c))
      ⊢ wp frame (wpE (defs₀ (F := F)) 𝒱₀ (c : Thread nD τ) none) Set.univ
        (cc0_body (F := F) sidM h0 permM h1 cntM h2 eM h3 oM h4 aM h5 bM h6 cc0_scratch2 cc0_scratch3 cc0_scratch4 cc0_scratch5 cc0_scratch6)
        fun _ => back W c := fun K =>
    (body_spec hD c (BI.Entails.refl (invs (inp W) K)) h0 h1 h2 h3 h4 h5 h6).trans
      ((wp_mono _ _ _ fun _ => body_end c K hD).trans (wp_fupd _ _ _ _ _))
  iintro H
  ihave H := (handed_open c) $$ H
  icases H with ⟨%K, H, Hp, Hn⟩
  ihave H := (body_open hD c) $$ H
  icases H with ⟨Hleft, Hin⟩
  iapply (hrun K)
  isplitr [Hn]
  · isplitl [Hleft Hp]; · isplitl [Hleft] <;> iassumption
    iexact Hin
  iexact Hn

/-- What is held for the three staged arguments, one by one. -/
theorem bigSep_W (Φ : Fin cfg0.W → sProp 𝕄) : bigSep Finset.univ Φ = iprop(Φ (0 : Fin 3) ∗ Φ (1 : Fin 3) ∗ Φ (2 : Fin 3)) := Gen.bigSep_W0 Φ

include hD in
/-- The body obligation. -/
theorem body_ok (c : Dev nD) : BodyObligation (dat W c) (defs₀ (F := F)) 𝒱₀ () Set.univ := fun t => by
  obtain rfl := Gen.fin_N0 t
  rw [bigSep_W, bigSep_W]
  simp only [owns_whole_eq]
  rw [phi_first W c _ rfl, phi_last W c _ (by decide)]
  show iprop((scr c ∗ (∃ r, prngReg c r) ∗ StableHlo.held (c : Thread nD τ) Hs (W c) ∗ Xk (inp W) c) ∗ (dat W c).owesAt () (Gen.t0_0).castSucc
      ∗ (∃ d, ∃ f : Buf (Elt F) ((c : Thread nD τ).loc cc0_stg0_0), ⌜f = (dat W c).before (0 : Fin 3) Gen.t0_0 d⌝ ∗ (((c : Thread nD τ).loc cc0_stg0_0) ↦{fullShare} f))
      ∗ (∃ d, ∃ f : Buf (Elt F) ((c : Thread nD τ).loc cc0_stg1_0), ⌜f = (dat W c).before (1 : Fin 3) Gen.t0_0 d⌝ ∗ (((c : Thread nD τ).loc cc0_stg1_0) ↦{fullShare} f))
      ∗ (∃ d, ∃ f : Buf (Elt F) ((c : Thread nD τ).loc cc0_stg2_0), ⌜f = (dat W c).before (2 : Fin 3) Gen.t0_0 d⌝ ∗ (((c : Thread nD τ).loc cc0_stg2_0) ↦{fullShare} f)))
    ⊢ wp frame (wpE (defs₀ (F := F)) 𝒱₀ (c : Thread nD τ) none) Set.univ
      (cc0_body (F := F) sidM (Memref.isWhole_whole _) permM (Memref.isWhole_whole _) cntM (Memref.isWhole_whole _) eM (Memref.isWhole_whole _) oM (Memref.isWhole_whole _) aM (Memref.isWhole_whole _) bM (Memref.isWhole_whole _) cc0_scratch2 cc0_scratch3 cc0_scratch4 cc0_scratch5 cc0_scratch6)
      (fun _ => iprop((scr c ∗ (∃ r, prngReg c r) ∗ StableHlo.held (c : Thread nD τ) Hs (Vnext W c) ∗ Pipeline.ownSems0 osem c ∗ Yk c) ∗ (dat W c).owesAt () (Gen.t0_0).succ
        ∗ (∃ f : Buf (Elt F) ((c : Thread nD τ).loc cc0_stg0_0), ⌜f = (W c main_v15 : S4096.Idx → BitVec 32)⌝ ∗ (((c : Thread nD τ).loc cc0_stg0_0) ↦{fullShare} f))
        ∗ (∃ f : Buf (Elt F) ((c : Thread nD τ).loc cc0_stg1_0), ⌜f = (W c main_v2_1 : S4096.Idx → BitVec 32)⌝ ∗ (((c : Thread nD τ).loc cc0_stg1_0) ↦{fullShare} f))
        ∗ (∃ f : Buf (Elt F) ((c : Thread nD τ).loc cc0_stg2_0), ⌜f = (W c main_v7 : S1.Idx → BitVec 32)⌝ ∗ (((c : Thread nD τ).loc cc0_stg2_0) ↦{fullShare} f))))
  have hend : back W c ⊢ iprop((scr c ∗ (∃ r, prngReg c r) ∗ StableHlo.held (c : Thread nD τ) Hs (Vnext W c) ∗ Pipeline.ownSems0 osem c ∗ Yk c) ∗ (dat W c).owesAt () (Gen.t0_0).succ
        ∗ (∃ f : Buf (Elt F) ((c : Thread nD τ).loc cc0_stg0_0), ⌜f = (W c main_v15 : S4096.Idx → BitVec 32)⌝ ∗ (((c : Thread nD τ).loc cc0_stg0_0) ↦{fullShare} f))
        ∗ (∃ f : Buf (Elt F) ((c : Thread nD τ).loc cc0_stg1_0), ⌜f = (W c main_v2_1 : S4096.Idx → BitVec 32)⌝ ∗ (((c : Thread nD τ).loc cc0_stg1_0) ↦{fullShare} f))
        ∗ (∃ f : Buf (Elt F) ((c : Thread nD τ).loc cc0_stg2_0), ⌜f = (W c main_v7 : S1.Idx → BitVec 32)⌝ ∗ (((c : Thread nD τ).loc cc0_stg2_0) ↦{fullShare} f))) := by
    unfold back
    iintro ⟨HΦ, HO, H0, H1, H2⟩
    ihave HO := (owes_out W c (Gen.t0_0).succ (by decide)) $$ HO
    isplitl [HΦ]; · iexact HΦ
    isplitl [HO]; · iexact HO
    isplitl [H0]
    · iexists _; isplitr; swap; · iexact H0
      ipureintro; rfl
    isplitl [H1]
    · iexists _; isplitr; swap; · iexact H1
      ipureintro; rfl
    iexists _; isplitr; swap; · iexact H2
    ipureintro; exact (cnt_eq W c).symm
  iintro H
  iapply ((body_run hD c _ _ _ _ _ _ _).trans (wp_mono _ _ _ fun _ => hend))
  unfold handed
  icases H with ⟨HΦ, HO, ⟨%d0, %f0, %e0, H0⟩, ⟨%d1, %f1, %e1, H1⟩, ⟨%d2, %f2, %e2, H2⟩⟩
  have e0 := e0.trans (before_0 W c _ _); subst e0
  have e1 := e1.trans (before_1 W c _ _); subst e1
  have e2 := e2.trans ((before_2 W c _ _).trans (cnt_eq W c)); subst e2
  ihave HO := (owes_in W c _ rfl) $$ HO
  isplitl [HΦ]; · iexact HΦ
  isplitl [HO]; · iexact HO
  isplitl [H0]; · iexact H0
  isplitl [H1]; · iexact H1
  iexact H2

/-! ## The region -/

/-- The side conditions of the launch. -/
theorem kit : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

/-- The staged arguments use the first three semaphores. -/
theorem stage_sems : ∀ (w : Fin 3) (s : Fin (spec0 w).nbuf), (((spec0 w).sem s : DmaSem sig) : Fin 299).val < 3 := by decide

/-- What a device owes lies above its staging. -/
theorem cut (hD : Good (inp W)) (c : Dev nD) (t : Fin (cfg0.N + 1)) (g : GSem nD τ sig) (i : Unit) (h : 0 < (dat W c).owed t g i) :
    i ∈ L g ∧ (0 : ℕ) < lv g i := by
  have e : (dat W c).owed t = if t.val = 0 then O₀ (inp W) c else 0 := rfl
  rw [e] at h
  split at h
  · unfold O₀ at h
    rw [Pi.add_apply, Finsupp.add_apply] at h
    rcases Nat.add_pos_iff_pos_or_pos.mp h with h | h
    · obtain ⟨ch, hc, rfl⟩ := owe_pos (inp W) (nN_le_me (hD.mid c) c) h
      refine ⟨by unfold L; rw [if_pos rfl]; exact Finset.mem_singleton_self _, ?_⟩
      have hv := dsem_val (n := 23 + ch) (by omega)
      show 0 < (if 23 ≤ ((dsem (23 + ch) : DmaSem sig) : Fin 299).val ∧ ((dsem (23 + ch) : DmaSem sig) : Fin 299).val < 43 then 2 else 0)
      rw [hv, if_pos (by omega)]; decide
    · rw [tallyAt_apply] at h
      split at h
      · next hg =>
        obtain ⟨rfl, -⟩ := hg
        exact ⟨by unfold L; rw [if_pos rfl]; exact Finset.mem_singleton_self _, Nat.one_pos⟩
      · exact absurd h (Nat.lt_irrefl 0)
  · exact absurd h (Nat.lt_irrefl 0)

/-- The staged arguments' arrays are left alone. -/
theorem arr_kept (c : Dev nD) (w : Fin 3) : (dat W c).arrAt w 1 = W c (Proc.devRef .tc (Pipeline.arrRef spec0 w)) := by
  fin_cases w <;> rfl

/-- The kernel leaves every array but the result's alone. -/
theorem vnext_of (c : Dev nD) (b : DevRef τ sig) (h : b ≠ Proc.devRef .tc main_v16) : Vnext W c b = W c b := Function.update_of_ne h _ _

/-- No staged argument is the result. -/
theorem arr_ne : ∀ w : Fin 3, (Proc.devRef .tc (Pipeline.arrRef spec0 w) : DevRef τ sig) ≠ Proc.devRef .tc main_v16 := by decide

/-- The arrays reached directly are among those that the host holds. -/
theorem hs_sub : Hs ⊆ Sr := by decide

/-- What the launch gives is what a device holds before the body. -/
theorem hin (c : Dev nD) : iprop(Pipeline.scopedRest spec0 c ∗ (∃ r, prngReg c r) ∗ StableHlo.held (c : Thread nD τ) Hs (W c) ∗ Xk (inp W) c)
    ⊢ (dat W c).Φ 0 := by
  rw [phi_first W c 0 rfl, scr_eq]

/-- What a device holds after the body is what the launch takes back. -/
theorem hout (c : Dev nD) : (dat W c).Φ (Fin.last cfg0.N)
    ⊢ iprop(Pipeline.scopedRest spec0 c ∗ (∃ r, prngReg c r) ∗ StableHlo.held (c : Thread nD τ) Hs (Vnext W c) ∗ Pipeline.ownSems0 osem c ∗ Yk c) := by
  rw [phi_last W c _ (by decide), scr_eq]

set_option backward.isDefEq.respectTransparency.types false in
/-- THE REGION: from the buffers at `W` and the protocol's share to the buffers with the result. -/
def reg (hD : Good (inp W)) : Pipeline.RegionSeg (pcfgs (F := F)) Gen.adm (pdats W) () defs₀ 𝒱₀ L lv 0 :=
  Pipeline.RegionSeg.ofTalk (pcfgs (F := F)) Gen.adm (pdats W) () defs₀ 𝒱₀ L lv 0 osem osem_facts
    Hs Sr hs_sub kit rfl (fun c => (body_ok hD c).loose)
    (fun _ => 0) (O₀ (inp W)) (fun c => (owed_first W c 0 rfl).trans (zero_add _).symm) (fun c => owed_last W c (Fin.last cfg0.N) (by decide)) (fun _ => rfl)
    (fun _ w => by fin_cases w <;> rfl)
    W (Vnext W) (fun c b hb => vnext_of c b fun h => (Finset.mem_sdiff.mp hb).2 (by rw [h]; exact Finset.mem_insert_of_mem (Finset.mem_singleton_self _)))
    (Tk (inp W)) Yk (Xk (inp W)) Yk (hopen (inp W)) hin hout
    (fun c => by iintro H; imodintro; iexact H)
    (fun _ => 0)
    ⟨fun c w s => by unfold L; rw [if_pos rfl]; exact Finset.mem_singleton_self _,
      fun c w s => by
        have h := stage_sems w s
        show (if 23 ≤ (((spec0 w).sem s : DmaSem sig) : Fin 299).val ∧ (((spec0 w).sem s : DmaSem sig) : Fin 299).val < 43 then 2 else 0) ≤ 0
        rw [if_neg (by omega)],
      fun c t g i h => cut hD c t g i h⟩
    (fun _ => iprop(emp))
    (fun c w => rfl) (fun c w => (arr_kept c w).trans (vnext_of c _ (arr_ne w)).symm)

/-- The staged arguments' arrays are among those that the host holds. -/
theorem arr_sub : Pipeline.arrRefs (τ := τ) spec0 ⊆ Pipeline.ucRefs τ sig := by decide

/-- The region's beginning. -/
theorem reg_pre (hD : Good (inp W)) (c : Dev nD) : iprop(StableHlo.held (c : Thread nD τ) (Pipeline.ucRefs τ sig) (W c) ∗ (∃ r, prngReg c r) ∗ Tk (inp W) c ∗ ow c (O₀ (inp W) c))
    ⊢ (reg hD).pre c := by
  show _ ⊢ iprop(StableHlo.held (c.tc : Thread nD τ) (Pipeline.arrRefs (τ := τ) spec0) (W c) ∗ (∃ r, prngReg c r)
    ∗ (StableHlo.held (c.tc : Thread nD τ) Sr (W c) ∗ emp) ∗ Tk (inp W) c ∗ ∃ Wd, owes (c : Thread nD τ) (0 + O₀ (inp W) c) Wd)
  rw [zero_add, StableHlo.held_sub_split (c.tc : Thread nD τ) arr_sub (W c)]
  unfold ow
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- The region's end. -/
theorem reg_post (hD : Good (inp W)) (c : Dev nD) : (reg hD).post c
    ⊢ iprop((StableHlo.held (c : Thread nD τ) (Pipeline.ucRefs τ sig) (Vnext W c) ∗ semVal (barC c) 0) ∗ ∃ Wd, owes (c : Thread nD τ) (0 : CellTallies nD τ sig Unit) Wd) := by
  show iprop(StableHlo.held (c.tc : Thread nD τ) (Pipeline.arrRefs (τ := τ) spec0) (Vnext W c) ∗ (∃ r, prngReg c r)
    ∗ (StableHlo.held (c.tc : Thread nD τ) Sr (Vnext W c) ∗ emp) ∗ Yk c ∗ ∃ Wd, owes (c : Thread nD τ) (0 : CellTallies nD τ sig Unit) Wd) ⊢ _
  rw [StableHlo.held_sub_split (c.tc : Thread nD τ) arr_sub (Vnext W c)]
  unfold Yk
  iintro ⟨Ha, -, ⟨Hr, -⟩, Hb, HO⟩
  isplitr [HO]
  · isplitl [Ha Hr]; · isplitl [Ha] <;> iassumption
    iexact Hb
  iexact HO

end Cert.KernelIdeal.Lookup

end
-- ==== Proof.Run.lean ====
/-
  The launch: every cell's invariant made, the forty scoped cells of a device left to be opened at the call, the duties'
  tokens and the units owed dealt out; then the whole program's run.
-/
module

public import proofs.«01_k».proof.Proof.Region
public import Idealize.ShloMosaic.Lib.SparseCore.Launch

@[expose] public section

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Facts₀

variable {F : FTy → Type} [FloatOps F]

local notation "𝕄" => MT nD τ sig Unit (Elt F) ℕ UU ℕ

/-! ## The cells, device by device -/

/-- A device's DMA cell by its number. -/
abbrev dcell (p : Dev nD × ℕ) : GSem nD τ sig := ((p.1 : Thread nD τ), .dma (dsem p.2))

/-- Different devices and numbers name different semaphores. -/
theorem dcell_inj : Set.InjOn dcell ((Finset.univ ×ˢ Finset.Ico 3 43 : Finset (Dev nD × ℕ)) : Set (Dev nD × ℕ)) := by
  rintro ⟨c, n⟩ h ⟨c', n'⟩ h' e
  have h1 := Finset.mem_Ico.mp (Finset.mem_product.mp h).2
  have h2 := Finset.mem_Ico.mp (Finset.mem_product.mp h').2
  dsimp only at h1 h2
  have hc : c = c' := congrArg (fun g : GSem nD τ sig => g.1.1) e
  have hs : dsem n = dsem n' := SemLoc.dma.inj (congrArg Prod.snd e)
  have hv := congrArg (fun d : DmaSem sig => (d : Fin 299).val) hs
  dsimp only at hv
  rw [dsem_val (by omega), dsem_val (by omega)] at hv
  exact Prod.ext hc hv

/-- Different devices have different barriers. -/
theorem barC_inj : Function.Injective barC := fun _ _ e => congrArg (fun g : GSem nD τ sig => g.1.1) e

/-- The barriers are not among the send and receive semaphores. -/
theorem cells_apart : Disjoint cellsB cellsD := by
  rw [Finset.disjoint_left]
  rintro g h1 h2
  obtain ⟨c, -, rfl⟩ := Finset.mem_image.mp h1
  obtain ⟨p, -, e⟩ := Finset.mem_image.mp h2
  exact absurd (congrArg Prod.snd e) (by intro h; cases h)

/-- What is held for every barrier is held for every device. -/
theorem over_bar (A : GSem nD τ sig → sProp 𝕄) : bigSep cellsB A = bigSep Finset.univ fun c => A (barC c) := by
  unfold cellsB
  exact SparseCore.bigSep_image_of_injOn (barC_inj.injOn) A

/-- What is held for every send and receive semaphore is held for every device and number. -/
theorem over_dma (A : GSem nD τ sig → sProp 𝕄) : bigSep cellsD A = bigSep Finset.univ fun c : Dev nD => bigSep (Finset.Ico 3 43) fun n => A (dcell (c, n)) := by
  unfold cellsD
  exact (SparseCore.bigSep_image_of_injOn dcell_inj A).trans (SparseCore.bigSep_product _ _ _)

/-! ## The tokens -/

/-- One token for every cell. -/
def toks : Finset (GSem nD τ sig × ℕ × Unit) := (cellsB ∪ cellsD).image fun g => (g, 0, ())

/-- The tokens of all duties, by device. -/
theorem toks_eq : bigSep toks (fun x => (dutyTok ER x.1 x.2.1 x.2.2 : sProp 𝕄))
    = iprop((bigSep Finset.univ fun c : Dev nD => dutyTok ER (barC c) 0 ())
      ∗ bigSep Finset.univ fun c : Dev nD => iprop(bigSep (Finset.Ico 0 20) (fun ch => dutyTok ER (sendC c ch) 0 ()) ∗ bigSep (Finset.Ico 0 20) (fun ch => dutyTok ER (recvC c ch) 0 ()))) := by
  unfold toks
  rw [SparseCore.bigSep_image_of_injOn (fun _ _ _ _ e => congrArg Prod.fst e), bigSep_union cells_apart, over_bar, over_dma]
  refine congrArg _ (bigSep_congr fun c _ => ?_)
  exact forty fun n => (dutyTok ER (dcell (c, n)) 0 () : sProp 𝕄)

/-- The partner, as a bijection of the devices. -/
def swap : Dev nD ≃ Dev nD := ⟨pr, pr, pr_pr, pr_pr⟩

/-- The tokens as a device uses them: its partner's barrier and arrivals, its own sends. -/
def mine (c : Dev nD) : sProp 𝕄 :=
  iprop(dutyTok ER (barC (pr c)) 0 () ∗ bigSep (Finset.Ico 0 20) (fun ch => dutyTok ER (sendC c ch) 0 ()) ∗ bigSep (Finset.Ico 0 20) (fun ch => dutyTok ER (recvC (pr c) ch) 0 ()))

/-- The tokens of all duties go to the devices that have to pay them. -/
theorem toks_around : bigSep toks (fun x => (dutyTok ER x.1 x.2.1 x.2.2 : sProp 𝕄)) ⊢ bigSep Finset.univ fun c : Dev nD => (mine c : sProp 𝕄) := by
  unfold mine
  rw [toks_eq, bigSep_sep', bigSep_sep', bigSep_sep', bigSep_univ_equiv swap (fun c : Dev nD => (dutyTok ER (barC c) 0 () : sProp 𝕄)),
    bigSep_univ_equiv swap (fun c : Dev nD => (bigSep (Finset.Ico 0 20) (fun ch => dutyTok ER (recvC c ch) 0 ()) : sProp 𝕄))]
  exact BI.Entails.refl _

/-! ## The launch's element -/

variable (D : Inp F)

/-- The pipeline's part, the exchange's, and nothing of the counters of local copies. -/
def u₀ : UU :=
  (initOf (Pipeline.cells cfgs Gen.cellOf_inj) (Pipeline.launchToks cfgs Gen.cellOf_inj), (launchOf cellsB cellsD toks, (1 : Counters)))

/-- A resource parked on one device. -/
def parked (c₀ : Dev nD) (X : sProp 𝕄) (c : Dev nD) : sProp 𝕄 := if c = c₀ then X else iprop(emp)
/-- What is parked at one device for all is there once. -/
theorem parked_eq (c₀ : Dev nD) (X : sProp 𝕄) : bigSep Finset.univ (parked c₀ X) = X := by
  rw [bigSep_univ_at _ c₀, bigSep_congr (s := Finset.univ.erase c₀) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked 0 (BI.own (ER (launchOf cellsB cellsD toks)))

/-- What the launch starts from: the staging's part and every device's part. -/
theorem launch_split : (ownU u₀ : sProp 𝕄) ⊢ |={Set.univ}=> iprop(BI.own (EP (initOf (Pipeline.cells cfgs Gen.cellOf_inj) (Pipeline.launchToks cfgs Gen.cellOf_inj)))
    ∗ bigSep Finset.univ (G (F := F))) := by
  have hE : ∀ x : UE, (BI.own (embR (x, (1 : Counters))) : sProp 𝕄) ⊢ BI.own (ER x) := fun x => by unfold ER; exact BI.Entails.refl _
  unfold u₀ G
  iintro Hu
  ihave H := (ownU_pair _ _) $$ Hu
  icases H with ⟨HP, HX⟩
  imodintro
  isplitl [HP]; · iexact HP
  rw [parked_eq]
  iapply (hE _); iexact HX

/-! ## What every device may consult, and what stays with one -/

def records (κ : GSem nD τ sig → ℕ) : sProp 𝕄 := iprop(invs D κ ∗ bigSep cellsB fun g => reached ER g 0)
instance records_persistent (κ : GSem nD τ sig → ℕ) : BI.Persistent (records D κ) := by unfold records; infer_instance

/-- Every barrier's first round has been reached. -/
theorem reached_bar (c : Dev nD) : (bigSep cellsB fun g => (reached ER g 0 : sProp 𝕄)) ⊢ reached ER (barC c) 0 :=
  bigSep_elim (Finset.mem_image_of_mem _ (Finset.mem_univ c))

def lin (c : Dev nD) : sProp 𝕄 :=
  iprop(atPos ER (barC c) 0 ∅ 0 ∗ bigSep (Finset.Ico 3 43) (fun n => openTok ER (dcell (c, n))) ∗ mine c)

/-- What is held for all twenty chunks is held for the first `n`. -/
theorem fewer {n : ℕ} (h : n ≤ 20) (A : ℕ → sProp 𝕄) : bigSep (Finset.Ico 0 20) A ⊢ bigSep (Finset.Ico 0 n) A :=
  bigSep_subset (Finset.Ico_subset_Ico_right h)

variable {D}
variable (hD : Good D)

include hD in
/-- A device's share of the protocol, from the common records and its own part. -/
theorem seed (κ : GSem nD τ sig → ℕ) (c : Dev nD) : iprop(records D κ ∗ lin c) ⊢ iprop(∃ K, talkSeed D K c) := by
  have h1 : nme D c ≤ 20 := nN_le_me (hD.mid c) c
  unfold records lin mine talkSeed
  iintro ⟨⟨#HI, #HR⟩, Ha, Ho, Htb, Hts, Htr⟩
  iexists κ
  isplitr; · iexact HI
  isplitr; · iapply (reached_bar (F := F) (pr c)); iexact HR
  isplitl [Htb]; · iexact Htb
  isplitl [Ha]; · iexact Ha
  isplitl [Ho]; · iexact Ho
  isplitl [Hts]; · iapply (fewer h1 fun ch => (dutyTok ER (sendC c ch) 0 () : sProp 𝕄)); iexact Hts
  iapply (fewer h1 fun ch => (dutyTok ER (recvC (pr c) ch) 0 () : sProp 𝕄)); iexact Htr

/-! ## The units owed -/

omit hD in
/-- The chunks owed are not owed to a barrier. -/
theorem owe_bar (d c : Dev nD) : owe D d 0 (barC c) () = 0 := by
  unfold owe
  rw [Finset.sum_apply, Finsupp.finset_sum_apply]
  exact Finset.sum_eq_zero fun ch _ => by rw [tallyAt_apply, if_neg]; rintro ⟨h, -⟩; cases congrArg Prod.snd h

omit hD in
/-- Being the partner goes both ways. -/
theorem pr_eq_iff {d c : Dev nD} : c = pr d ↔ d = pr c := ⟨fun h => by rw [h, pr_pr], fun h => by rw [h, pr_pr]⟩

omit hD in
/-- A device owes its signal to the partner's barrier alone. -/
theorem bar_due (d c : Dev nD) : O₀ D d (barC c) () = if d = pr c then 1 else 0 := by
  unfold O₀
  rw [Pi.add_apply, Finsupp.add_apply, owe_bar, tallyAt_apply, Nat.zero_add]
  by_cases h : d = pr c
  · rw [if_pos h, if_pos ⟨by rw [← pr_eq_iff.mpr h], rfl⟩]
  · rw [if_neg h, if_neg]; rintro ⟨e, -⟩; exact h (pr_eq_iff.mp (barC_inj e))

include hD in
/-- A device owes a chunk to the partner's receive semaphore alone. -/
theorem recv_due (d c : Dev nD) {ch : ℕ} (hc : ch < npr D c) : O₀ D d (recvC c ch) () = if d = pr c then N else 0 := by
  have h2 : npr D c ≤ 20 := nN_le_pr (hD.mid c) c
  have h3 : nme D d ≤ 20 := nN_le_me (hD.mid d) d
  have hz : tallyAt (barC (pr d)) () 1 (recvC c ch) () = 0 := by
    rw [tallyAt_apply, if_neg]; rintro ⟨h, -⟩; cases congrArg Prod.snd h
  have hne : ∀ i ∈ Finset.Ico 0 (nme D d), tallyAt (recvC (pr d) i) () N (recvC c ch) () = if d = pr c ∧ i = ch then N else 0 := fun i hi => by
    have hi := (Finset.mem_Ico.mp hi).2
    rw [tallyAt_apply]
    refine if_congr ⟨fun ⟨e, _⟩ => ⟨pr_eq_iff.mp (congrArg (fun g : GSem nD τ sig => g.1.1) e), ?_⟩, fun ⟨e, e'⟩ => ⟨by rw [e', ← pr_eq_iff.mpr e], rfl⟩⟩ rfl rfl
    have hs : dsem (23 + ch) = dsem (23 + i) := SemLoc.dma.inj (congrArg Prod.snd e)
    have hv := congrArg (fun d : DmaSem sig => (d : Fin 299).val) hs
    dsimp only at hv
    rw [dsem_val (by omega), dsem_val (by omega)] at hv
    omega
  unfold O₀ owe
  rw [Pi.add_apply, Finsupp.add_apply, hz, Nat.add_zero, Finset.sum_apply, Finsupp.finset_sum_apply, Finset.sum_congr rfl hne]
  by_cases h : d = pr c
  · subst h
    rw [if_pos rfl, Finset.sum_congr rfl (g := fun i => if i = ch then N else 0) (fun i _ => if_congr (by simp) rfl rfl), Finset.sum_ite_eq',
      if_pos (Finset.mem_Ico.mpr ⟨Nat.zero_le _, by rw [← hD.agree' c]; exact hc⟩)]
  · rw [if_neg h]
    exact Finset.sum_eq_zero fun i _ => if_neg fun hh => h hh.1

/-- A barrier is due one signal in all. -/
theorem bar_credit (c : Dev nD) : tallyOn (barC c) (launchCredit (Pipeline.owing (O₀ D)) 0 (barC c)) = (tallyAt (barC c) () 1 : CellTallies nD τ sig Unit) := by
  unfold tallyAt; refine congrArg _ (Finsupp.ext fun u => ?_); cases u
  rw [Pipeline.launchCredit_owing, Finsupp.single_eq_same, Finset.sum_congr rfl fun d _ => bar_due d c, Finset.sum_ite_eq' Finset.univ (pr c) fun _ => 1,
    if_pos (Finset.mem_univ _)]

include hD in
/-- The receive semaphore of a chunk that comes is due one chunk in all. -/
theorem recv_credit (c : Dev nD) {ch : ℕ} (hc : ch < npr D c) :
    tallyOn (recvC c ch) (launchCredit (Pipeline.owing (O₀ D)) 0 (recvC c ch)) = (tallyAt (recvC c ch) () N : CellTallies nD τ sig Unit) := by
  unfold tallyAt; refine congrArg _ (Finsupp.ext fun u => ?_); cases u
  rw [Pipeline.launchCredit_owing, Finsupp.single_eq_same, Finset.sum_congr rfl fun d _ => recv_due hD d c hc, Finset.sum_ite_eq' Finset.univ (pr c) fun _ => N,
    if_pos (Finset.mem_univ _)]

/-- The arrivals' semaphores. -/
def arrivals (D : Inp F) (c : Dev nD) : Finset (SemLoc sig) := (Finset.Ico 0 (npr D c)).image fun ch => .dma (dsem (23 + ch))

include hD in
/-- A device's credits: its barrier's signal and the chunks that come. -/
theorem credits (c : Dev nD) : (Pipeline.launchCred (O₀ D) c : sProp 𝕄) ⊢ creds D c := by
  have h2 : npr D c ≤ 20 := nN_le_pr (hD.mid c) c
  have hsub : arrivals D c ⊆ Finset.univ.erase (SemLoc.reg barS) := fun s hs => by
    obtain ⟨ch, -, rfl⟩ := Finset.mem_image.mp hs
    exact Finset.mem_erase.mpr ⟨fun h => (by cases h), Finset.mem_univ _⟩
  have hinj : Set.InjOn (fun ch => (SemLoc.dma (dsem (23 + ch)) : SemLoc sig)) ((Finset.Ico 0 (npr D c) : Finset ℕ) : Set ℕ) := fun a ha b hb e => by
    have ha := (Finset.mem_Ico.mp ha).2
    have hb := (Finset.mem_Ico.mp hb).2
    have hv := congrArg (fun d : DmaSem sig => (d : Fin 299).val) (SemLoc.dma.inj e)
    dsimp only at hv
    rw [dsem_val (by omega), dsem_val (by omega)] at hv
    omega
  unfold Pipeline.launchCred creds
  rw [bigSep_univ_at _ (SemLoc.reg barS), bar_credit]
  refine BI.sep_mono (BI.Entails.refl _) ((bigSep_subset hsub).trans ?_)
  unfold arrivals
  rw [SparseCore.bigSep_image_of_injOn hinj]
  exact bigSep_mono fun ch hc => by rw [recv_credit hD c (Finset.mem_Ico.mp hc).2]; exact BI.Entails.refl _

/-! ## The launch -/

/-- The barrier is the only semaphore that outlives the kernel. -/
theorem unscoped_eq : ∀ sm : SemLoc sig, sm.isScoped .tc = false → sm = .reg barS := by decide +kernel

/-- The semaphores that outlive the kernel are the barrier alone. -/
theorem unscoped_sems (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

/-- What rides with a device until its call. -/
def riding (D : Inp F) (c : Dev nD) : sProp 𝕄 := iprop((∃ r, prngReg c r) ∗ Tk D c ∗ ow c (O₀ D c))

/-- What of a device's riding is not the exchange's. -/
def rest (D : Inp F) (c : Dev nD) : sProp 𝕄 := iprop((∃ r, prngReg c r) ∗ creds D c ∗ ow c (O₀ D c))

include hD in
/-- What a device carries to the kernel, from the records and its own part. -/
theorem riding_intro (κ : GSem nD τ sig → ℕ) (c : Dev nD) : iprop(records D κ ∗ (lin c ∗ rest D c)) ⊢ riding D c := by
  unfold rest riding Tk
  iintro ⟨#HR, Hl, Hp, Hc, HO⟩
  isplitl [Hp]; · iexact Hp
  isplitr [HO]
  · isplitl [Hl]
    · iapply (seed hD κ c)
      isplitr; · iexact HR
      iexact Hl
    · iexact Hc
  · iexact HO

include hD in
/-- A device's start taken apart: its barrier and the rest. -/
theorem core_split (ρ : Dev nD → PrngReg) (c : Dev nD) :
    iprop(unscopedSems0 c ∗ owes (c : Thread nD τ) (O₀ D c) ∅ ∗ Pipeline.launchCred (O₀ D) c ∗ prngReg c (ρ c) ∗ G c)
      ⊢ (iprop(rest D c ∗ (semVal (barC c) 0 ∗ G c)) : sProp 𝕄) := by
  rw [unscoped_sems]
  unfold rest ow
  iintro ⟨Hus, HO, Hcr, Hp, HG⟩
  ihave Hc := (credits hD c) $$ Hcr
  isplitl [HO Hc Hp]
  · isplitl [Hp]; · iexists (ρ c); iexact Hp
    isplitl [Hc]; · iexact Hc
    iexists ∅; iexact HO
  isplitl [Hus] <;> iassumption

/-- No cell of the exchange counts nothing. -/
theorem all_units (D : Inp F) : ∀ g ∈ cellsD, ¬ (Rd D).unitless g := fun _ _ h => h

/-- A launch over any set of cells, its five parts each turned into another form. -/
theorem funded_over (D : Inp F) {S Sd : Finset (GSem nD τ sig)} (hSd : Disjoint S Sd) (hu : ∀ g ∈ Sd, ¬ (Rd D).unitless g)
    (T : Finset (GSem nD τ sig × ℕ × Unit)) {B O At Op Mi : sProp 𝕄} {R : (GSem nD τ sig → ℕ) → sProp 𝕄}
    (hv : B ⊢ bigSep S fun g => semVal g 0) (hO : O ⊢ BI.own (ER (launchOf S Sd T)))
    (hR : ∀ κ : GSem nD τ sig → ℕ, iprop(bigSep (S ∪ Sd) (fun g => cellInv ER (Rd D) (κ g) g) ∗ bigSep S fun g => reached ER g 0) ⊢ R κ)
    (hat : (bigSep S fun g => atPos ER g 0 ∅ 0) ⊢ At) (hop : (bigSep Sd fun g => openTok ER g) ⊢ Op)
    (hmi : bigSep T (fun x => dutyTok ER x.1 x.2.1 x.2.2) ⊢ Mi) :
    iprop(B ∗ O) ⊢ |={Set.univ}=> iprop(∃ κ, R κ ∗ At ∗ Op ∗ Mi) := by
  iintro ⟨Hv, Hu⟩
  imod (Rounds.fund_launch ER (Rd D) hSd hu T) $$ [Hv Hu] with ⟨%κ, -, Hinv, Hr, Hat, Hopen, Htok⟩
  · isplitl [Hv]
    · iapply hv; iexact Hv
    · iapply hO; iexact Hu
  imodintro
  iexists κ
  isplitl [Hinv Hr]
  · iapply (hR κ); isplitl [Hinv] <;> iassumption
  isplitl [Hat]; · iapply hat; iexact Hat
  isplitl [Hopen]; · iapply hop; iexact Hopen
  iapply hmi; iexact Htok

/-- What every device holds of its own, in its three parts. -/
theorem lin_all : iprop((bigSep Finset.univ fun c : Dev nD => (atPos ER (barC c) 0 ∅ 0 : sProp 𝕄))
      ∗ (bigSep Finset.univ fun c : Dev nD => bigSep (Finset.Ico 3 43) fun n => openTok ER (dcell (c, n))) ∗ bigSep Finset.univ fun c : Dev nD => mine c)
    ⊢ bigSep Finset.univ fun c : Dev nD => (lin c : sProp 𝕄) := by
  unfold lin
  rw [bigSep_sep', bigSep_sep']

/-- The common records, from the invariants and the rounds reached. -/
theorem records_intro (D : Inp F) (κ : GSem nD τ sig → ℕ) :
    iprop(bigSep (cellsB ∪ cellsD) (fun g => cellInv ER (Rd D) (κ g) g) ∗ bigSep cellsB fun g => reached ER g 0) ⊢ records D κ := by
  unfold records
  exact BI.sep_mono (invs_intro D κ) (BI.Entails.refl _)

/-- What the launch makes: the records, and each device's own part. -/
theorem funded (D : Inp F) : iprop((bigSep Finset.univ fun c : Dev nD => (semVal (barC c) 0 : sProp 𝕄)) ∗ bigSep Finset.univ (G (F := F)))
    ⊢ |={Set.univ}=> iprop(∃ κ, records D κ ∗ bigSep Finset.univ fun c : Dev nD => lin c) := by
  have h := funded_over D cells_apart (all_units D) toks (Entails.of_eq (over_bar fun g => (semVal g 0 : sProp 𝕄)).symm)
    (Entails.of_eq (parked_eq 0 _)) (records_intro D) (Entails.of_eq (over_bar fun g => (atPos ER g 0 ∅ 0 : sProp 𝕄)))
    (Entails.of_eq (over_dma fun g => (openTok ER g : sProp 𝕄))) toks_around
  unfold G
  iintro H
  imod h $$ H with ⟨%κ, HR, Hl⟩
  imodintro
  iexists κ
  isplitl [HR]; · iexact HR
  iapply lin_all; iexact Hl

include hD in
/-- From the start of all devices: the invariants are set up, and every device has what it carries to the kernel. -/
theorem riding_all (ρ : Dev nD → PrngReg) :
    (bigSep Finset.univ fun c : Dev nD => iprop(unscopedSems0 c ∗ owes (c : Thread nD τ) (O₀ D c) ∅ ∗ Pipeline.launchCred (O₀ D) c ∗ prngReg c (ρ c) ∗ G c))
      ⊢ (|={Set.univ}=> bigSep Finset.univ (riding D) : sProp 𝕄) := by
  have h1 : (bigSep Finset.univ fun c : Dev nD => iprop(unscopedSems0 c ∗ owes (c : Thread nD τ) (O₀ D c) ∅ ∗ Pipeline.launchCred (O₀ D) c ∗ prngReg c (ρ c) ∗ G c))
      ⊢ iprop((bigSep Finset.univ fun c : Dev nD => rest D c) ∗ (bigSep Finset.univ fun c : Dev nD => (semVal (barC c) 0 : sProp 𝕄)) ∗ bigSep Finset.univ (G (F := F))) := by
    rw [← bigSep_sep', ← bigSep_sep']
    exact bigSep_mono fun c _ => core_split hD ρ c
  have h2 (κ : GSem nD τ sig → ℕ) : iprop(records D κ ∗ bigSep Finset.univ fun c : Dev nD => iprop(lin c ∗ rest D c)) ⊢ bigSep Finset.univ (riding D) :=
    bigSep_with_persistent (R := records D κ) (Φ := fun c => iprop(lin c ∗ rest D c)) fun c _ => riding_intro hD κ c
  refine h1.trans ?_
  iintro ⟨HB, HG⟩
  imod (funded D) $$ HG with ⟨%κ, HR, Hl⟩
  imodintro
  iapply (h2 κ)
  isplitl [HR]; · iexact HR
  iapply (bigSep_pair (fun c : Dev nD => (lin c : sProp 𝕄)) (rest D))
  isplitl [Hl] <;> iassumption

/-! ## The run -/

section
variable (m : (ℓ : Loc nD τ sig) → Buf (Elt F) ℓ) (ρ : Dev nD → PrngReg)

/-- The buffers before the call, device by device. -/
abbrev W₀ : Vals F := fun c => Gen.V2 m c

variable {m}
variable (hW : Good (inp (W₀ m)))

/-- A device's program in pieces: the host's two stretches, then the call. -/
def pieces (c : Dev nD) := Gen.segs m 𝒱₀ L lv (fun _ c => riding (inp (W₀ m)) c) () (pdats (W₀ m)) (reg hW) c

include hW in
/-- From the start of the program: what every device has before the host's first line. -/
theorem start : iprop((bigSep Finset.univ fun c : Dev nD => iprop(unscopedBufs c (fun b => m ((c.tc : Thread nD τ).loc b)) ∗ unscopedSems0 c
      ∗ owes (c.tc : Thread nD τ) (O₀ (inp (W₀ m)) c) ∅ ∗ Pipeline.launchCred (O₀ (inp (W₀ m))) c ∗ prngReg c (ρ c) ∗ G c)) ∗ levAts L lv)
    ⊢ (|={Set.univ}=> bigSep Finset.univ (fun c : Dev nD => iprop(StableHlo.held (c : Thread nD τ) (Pipeline.ucRefs τ sig) (Gen.V0 m c) ∗ riding (inp (W₀ m)) c)) : sProp 𝕄) := by
  have hsplit : (bigSep Finset.univ fun c : Dev nD => iprop(unscopedBufs c (fun b => m ((c.tc : Thread nD τ).loc b)) ∗ unscopedSems0 c
        ∗ owes (c.tc : Thread nD τ) (O₀ (inp (W₀ m)) c) ∅ ∗ Pipeline.launchCred (O₀ (inp (W₀ m))) c ∗ prngReg c (ρ c) ∗ G c))
      ⊢ (iprop((bigSep Finset.univ fun c : Dev nD => StableHlo.held (c : Thread nD τ) (Pipeline.ucRefs τ sig) (Gen.V0 m c))
          ∗ bigSep Finset.univ fun c : Dev nD => iprop(unscopedSems0 c ∗ owes (c : Thread nD τ) (O₀ (inp (W₀ m)) c) ∅ ∗ Pipeline.launchCred (O₀ (inp (W₀ m))) c ∗ prngReg c (ρ c) ∗ G c))
          : sProp 𝕄) := by
    rw [← bigSep_sep']
    exact bigSep_mono fun c _ => by
      rw [← Pipeline.unscopedBufs_held (Ix := Unit) (Name := ℕ) (U := UU) (Lvl := ℕ) c (Gen.V0 m c)]; exact BI.Entails.refl _
  iintro ⟨H, -⟩
  ihave H' := hsplit $$ H
  icases H' with ⟨Hh, Hr⟩
  imod (riding_all hW ρ) $$ Hr with HE
  imodintro
  rw [bigSep_sep']
  isplitl [Hh] <;> iassumption

/-- The host's lines leave the numbers alone. -/
theorem V2_arg0 (c : Dev nD) : Gen.V2 m c (Proc.devRef .tc main_arg0) = m ((c.tc : Thread nD τ).loc main_arg0) := by
  rw [Gen.V2_of _ _ _ (by decide), Gen.V1_of _ _ _ (by decide)]
/-- The host's lines leave the table alone. -/
theorem V2_arg1 (c : Dev nD) : Gen.V2 m c (Proc.devRef .tc main_arg1) = m ((c.tc : Thread nD τ).loc main_arg1) := by
  rw [Gen.V2_of _ _ _ (by decide), Gen.V1_of _ _ _ (by decide)]

include hW in
set_option backward.isDefEq.respectTransparency.types false in
/-- THE RUN: every weakly fair execution of the program on the thirty-two devices ends, both arguments unchanged, the result the
    gathered rows, every semaphore's counter at zero. -/
theorem run_good : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = GO (inp (W₀ m)) c) ∧ r.2.sem = fun _ => 0) :=
  Pipeline.θ_run_regions_kit_dev_sems (pcfgs (F := F)) Gen.adm (pdats (W₀ m)) () Gen.cellOf_inj EP defs₀ 𝒱₀ L lv m ρ main
    (pieces hW)
    (fun c Q => by
      rewrite [Gen.main_chain c, Pipeline.Seg.run_eq_chain,
        show (pieces hW c).map Pipeline.Seg.prog = [
          StableHlo.seq (Gen.hostOps0 c),
          StableHlo.seq Gen.hostOps0_1,
          Prog.lift (.customCall (Pipeline.entry 0) ()) ] from rfl]
      dsimp (config := { failIfUnchanged := false }) only
      exact .rfl)
    (fun c => by simp only [pieces, Gen.segs, Pipeline.Seg.pipes_host, Pipeline.Seg.pipes_region, Pipeline.Seg.pipes_nil]; decide)
    (O₀ := O₀ (inp (W₀ m))) (hL := fun g h => if_neg h) (G := G) (u₀ := u₀) (hu₀ := launch_split)
    (T₀ := fun c => iprop(StableHlo.held (c : Thread nD τ) (Pipeline.ucRefs τ sig) (Gen.V0 m c) ∗ riding (inp (W₀ m)) c))
    (Tₙ := fun c => iprop(StableHlo.held (c : Thread nD τ) (Pipeline.ucRefs τ sig) (Vnext (W₀ m) c) ∗ semVal (barC c) 0))
    (hch := fun c => ⟨.rfl, .rfl, reg_pre hW c, reg_post hW c⟩)
    (hinit := start ρ hW)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v16) = GO (inp (W₀ m)) c) ∧ s.sem (barC c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (Vnext (W₀ m) c) s') $$ [Hh HSI]
      · isplitl [Hh] <;> iassumption
      icases Hr with ⟨%h, HSI⟩
      imodintro
      isplitr
      · ipureintro
        exact ⟨⟨(h (Proc.devRef .tc main_arg0) (Finset.mem_filter.mpr ⟨StableHlo.devRef_mem_tcRefs main_arg0, by decide⟩)).trans ((vnext_of c _ (by decide)).trans (V2_arg0 c)),
          (h (Proc.devRef .tc main_arg1) (Finset.mem_filter.mpr ⟨StableHlo.devRef_mem_tcRefs main_arg1, by decide⟩)).trans ((vnext_of c _ (by decide)).trans (V2_arg1 c)),
          (h (Proc.devRef .tc main_v16) (Finset.mem_filter.mpr ⟨StableHlo.devRef_mem_tcRefs main_v16, by decide⟩)).trans (vnext_out c)⟩,
          by simpa using hb⟩
      · iexact HSI)
    (hQ := fun s h hs => ⟨fun c => (h c).1, sem_eq_zero hs fun c sm hsm => by
      obtain rfl := unscoped_eq sm hsm
      exact (h c).2⟩)

end

end Cert.KernelIdeal.Lookup

end
-- ==== Proof.Host.lean ====
/-
  What the host computes before the call: the sorted words and their places, the count of words below the cut, and each device's
  words made indices of its part of the table.
-/
module

public import proofs.«01_k».proof.Proof.Run
public import Idealize.ShloMosaic.Lib.StableHlo.RunRead
public import Idealize.ShloMosaic.Lib.SortFacts
public import Idealize.ShloMosaic.Lib.IndicatorCount
public import Idealize.ShloMosaic.Lib.Routing.Shapes

@[expose] public section

noncomputable section

namespace Cert.KernelIdeal.Lookup

open Idealize.ShloMosaic Idealize.ShloMosaic.TcCoe Idealize.ShloMosaic.ValueIdx
open Facts₀

variable {F : FTy → Type} [FloatOps F]

/-! ## The host's values -/

section
variable (m : (ℓ : Loc nD τ sig) → Buf (Elt F) ℓ)

/-- A device's words. -/
abbrev ids (c : Dev nD) : S4096.Idx → BitVec 32 := m ((c.tc : Thread nD τ).loc main_arg0)

/-- The count of a device's words below the cut, as the host reduces it. -/
def below (x : S4096.Idx → BitVec 32) : S_.Idx → BitVec 32 :=
  Host.reduce IntOp.addi ((extui 32 · natLt_1_32) (cmpi .slt x (broadcastInDim S4096 ![] bcast_S_S4096 (constantI S_ 32 8192#32))))
    (constantI S_ 32 0#32) reducesTo_S4096_S_d0 h_S_

/-- The words sorted, and the places they came from. -/
def sorted (x : S4096.Idx → BitVec 32) : (S4096.Idx → BitVec 32) × (S4096.Idx → BitVec 32) :=
  Host.sort2 S4096 0 comparator_i32_i32_d0 x (iotaInDim S4096 32 0)

/-- The first word of a device's part of the table. -/
def base (c : Dev nD) : S_.Idx → BitVec 32 :=
  muli (id (Host.remui (Host.divui (constantI S_ 32 (Dev.word c)) (constantI S_ 32 16#32)) (constantI S_ 32 2#32))) (constantI S_ 32 8192#32)

/-- After the host's first lines the count's array holds the count. -/
theorem V1_count (c : Dev nD) : (Gen.V1 m c (Proc.devRef .tc main_v7) : S1.Idx → BitVec 32) = shapeCast S1 (below (ids m c)) shapeCasts_S_S1 := by
  unfold below ids Gen.V1 Gen.V0 Gen.hostOps0
  after_reads_simp
  rfl

/-- After the host's first lines the places' array holds the places of the sorted numbers. -/
theorem V1_sorted (c : Dev nD) : (Gen.V1 m c (Proc.devRef .tc main_v2_1) : S4096.Idx → BitVec 32) = (sorted (ids m c)).2 := by
  unfold sorted ids Gen.V1 Gen.V0 Gen.hostOps0
  after_reads_simp

/-- After the host's first lines the local numbers are the sorted ones less the first number of the device's half. -/
theorem V1_v14 (c : Dev nD) : (Gen.V1 m c (Proc.devRef .tc main_v14) : S4096.Idx → BitVec 32)
    = subi (sorted (ids m c)).1 (broadcastInDim S4096 ![] bcast_S_S4096 (base c)) := by
  unfold sorted ids base Gen.V1 Gen.V0 Gen.hostOps0
  after_reads_simp

/-- The clip's lower bound is 0. -/
theorem V1_c4 (c : Dev nD) : (Gen.V1 m c (Proc.devRef .tc main_c_4) : S_.Idx → BitVec 32) = constantI S_ 32 0#32 := by
  unfold Gen.V1 Gen.V0 Gen.hostOps0
  after_reads_simp
/-- The clip's upper bound is 8191. -/
theorem V1_c5 (c : Dev nD) : (Gen.V1 m c (Proc.devRef .tc main_c_5) : S_.Idx → BitVec 32) = constantI S_ 32 8191#32 := by
  unfold Gen.V1 Gen.V0 Gen.hostOps0
  after_reads_simp

/-- What the clip writes, in terms of what it reads. -/
theorem clip_reads (V : Valuation τ sig (Elt F)) : (StableHlo.after Gen.hostOps0_1 V (Proc.devRef .tc main_v15) : S4096.Idx → BitVec 32)
    = minsi (broadcastInDim S4096 ![] bcast_S_S4096 (V (Proc.devRef .tc main_c_5)))
        (maxsi (broadcastInDim S4096 ![] bcast_S_S4096 (V (Proc.devRef .tc main_c_4))) (V (Proc.devRef .tc main_v14))) := by
  unfold Gen.hostOps0_1
  after_reads_simp
  simp -implicitDefEqProofs only [StableHlo.TRef.toBuf, StableHlo.TRef.ofBuf, cast_cast, cast_eq]
  rfl

/-- The kernel's count is the word of the count's array. -/
theorem inp_cnt (W : Vals F) (c : Dev nD) : (inp W).cnt c = (W c (Proc.devRef .tc main_v7) : S1.Idx → BitVec 32) ix0 := rfl
/-- The kernel's sorted numbers are the array of clipped local numbers. -/
theorem inp_sid (W : Vals F) (c : Dev nD) : (inp W).sid c = (W c (Proc.devRef .tc main_v15) : S4096.Idx → BitVec 32) := rfl
/-- The kernel's places are the array of places. -/
theorem inp_perm (W : Vals F) (c : Dev nD) : (inp W).perm c = (W c (Proc.devRef .tc main_v2_1) : S4096.Idx → BitVec 32) := rfl
/-- The kernel's table is the device's block of the table. -/
theorem inp_tab (W : Vals F) (c : Dev nD) : (inp W).tab c = W c (Proc.devRef .tc main_arg1) := rfl

/-- The memory at the call is what the host's lines leave. -/
theorem W₀_at (c : Dev nD) (b : DevRef τ sig) : W₀ m c b = Gen.V2 m c b := rfl

/-- An array of one element made from a single value holds that value. -/
theorem one_cast (x : S_.Idx → BitVec 32) : shapeCast S1 x shapeCasts_S_S1 ix0 = x (Shape.Idx.first h_S_) :=
  congrArg x (funext fun a => Fin.elim0 a)

/-- The count the kernel reads. -/
theorem cnt_host (c : Dev nD) : (inp (W₀ m)).cnt c = below (ids m c) (Shape.Idx.first h_S_) := by
  rw [inp_cnt, W₀_at, Gen.V2_of _ _ _ (by decide), V1_count, one_cast]

/-- The kernel's places are those of the device's sorted numbers. -/
theorem perm_host (c : Dev nD) : (inp (W₀ m)).perm c = (sorted (ids m c)).2 := by
  rw [inp_perm, W₀_at, Gen.V2_of _ _ _ (by decide), V1_sorted]

/-- The kernel's table is the second argument. -/
theorem tab_host (c : Dev nD) : (inp (W₀ m)).tab c = m ((c.tc : Thread nD τ).loc main_arg1) := by
  rw [inp_tab, W₀_at, V2_arg1]

/-- A scalar's index is the one there is. -/
theorem ix_scalar (j : S_.Idx) : j = Shape.Idx.first h_S_ := funext fun a => Fin.elim0 a

/-- The clipped local numbers as one expression of the device's numbers. -/
theorem sid_vec (c : Dev nD) : (Gen.V2 m c (Proc.devRef .tc main_v15) : S4096.Idx → BitVec 32)
    = minsi (broadcastInDim S4096 ![] bcast_S_S4096 (constantI S_ 32 8191#32))
        (maxsi (broadcastInDim S4096 ![] bcast_S_S4096 (constantI S_ 32 0#32)) (subi (sorted (ids m c)).1 (broadcastInDim S4096 ![] bcast_S_S4096 (base c)))) := by
  rw [← V1_c4 m c, ← V1_c5 m c, ← V1_v14 m c]
  exact clip_reads (Gen.V1 m c)

/-- The clip at one place. -/
theorem clip_at (a : S4096.Idx → BitVec 32) (b : S_.Idx → BitVec 32) (i : S4096.Idx) :
    minsi (broadcastInDim S4096 ![] bcast_S_S4096 (constantI S_ 32 8191#32))
        (maxsi (broadcastInDim S4096 ![] bcast_S_S4096 (constantI S_ 32 0#32)) (subi a (broadcastInDim S4096 ![] bcast_S_S4096 b))) i
      = IntOp.minsi 8191#32 (IntOp.maxsi 0#32 (IntOp.subi (a i) (b (Shape.Idx.first h_S_)))) := by
  unfold minsi maxsi subi broadcastInDim constantI
  rw [ix_scalar (fun _ => _)]

/-- The words the kernel looks up: the sorted words less the part's first, kept within the part. -/
theorem sid_host (c : Dev nD) (i : S4096.Idx) : (inp (W₀ m)).sid c i
    = IntOp.minsi 8191#32 (IntOp.maxsi 0#32 (IntOp.subi ((sorted (ids m c)).1 i) (base c (Shape.Idx.first h_S_)))) := by
  rw [inp_sid, W₀_at, sid_vec, clip_at]

end

end Cert.KernelIdeal.Lookup

end
-- ==== Proof.Sort.lean ====
/-
  The sort as a rearrangement of positions, the count as the number of words below the cut, and the words looked up: what the
  kernel's data are, as mathematics of the ids.
-/
module

public import proofs.«01_k».proof.Proof.Host
public import Idealize.ShloMosaic.Lib.Affine

@[expose] public section

noncomputable section

namespace Cert.KernelIdeal.Lookup

open Idealize.ShloMosaic Idealize.ShloMosaic.TcCoe
open Facts₀

variable {F : FTy → Type} [FloatOps F]

/-! ## The rearrangement -/

section
variable (x : S4096.Idx → BitVec 32)

/-- Where the word at a sorted position came from. -/
def src (p : Fin 4096) : Fin 4096 := sortedFrom (fun k k' => IntOp.cmpi .slt (x (ix1 k)) (x (ix1 k')) == 1#1) p

/-- Sorting takes no number twice. -/
theorem src_inj : Function.Injective (src x) := sortedFrom_injective _
/-- Sorting takes every number. -/
theorem src_surj : Function.Surjective (src x) := sortedFrom_surjective _

/-- Later positions hold no smaller words. -/
theorem src_mono {i j : Fin 4096} (h : i < j) : (x (ix1 (src x i))).toInt ≤ (x (ix1 (src x j))).toInt := by
  have e : ∀ a b : Fin 4096, (IntOp.cmpi .slt (x (ix1 a)) (x (ix1 b)) == 1#1) = decide ((x (ix1 a)).toInt < (x (ix1 b)).toInt) := fun a b => by
    rw [Bool.eq_iff_iff, beq_iff_eq, IntOp.cmpi_slt, decide_eq_true_iff]
  have h1 := sortedFrom_noInversion (fun a b : Fin 4096 => IntOp.cmpi .slt (x (ix1 a)) (x (ix1 b)) == 1#1) (fun a b => IntOp.cmpi .slt (x (ix1 a)) (x (ix1 b)) == 1#1)
    (fun a b hab => by rw [e] at hab ⊢; simp only [decide_eq_true_iff, decide_eq_false_iff_not] at hab ⊢; omega) (fun _ _ hh => hh)
    (fun a b c hab hbc => by rw [e] at hab hbc ⊢; simp only [decide_eq_false_iff_not] at hab hbc ⊢; omega) i j h
  rw [e] at h1
  have h2 := of_decide_eq_false h1
  unfold src
  omega

/-- The array of places holds each place. -/
theorem iota_at (k : Fin 4096) : iotaInDim S4096 32 0 (ix1 k : S4096.Idx) = BitVec.ofNat 32 k := by unfold iotaInDim; rfl

/-- What the sort puts at a place: the number it took and where it took it from. -/
theorem sorted_at (p : Fin 4096) : (sorted x).1 (ix1 p) = x (ix1 (src x p)) ∧ (sorted x).2 (ix1 p) = BitVec.ofNat 32 (src x p) := by
  have hd : 0 < S4096.rank := Nat.zero_lt_one
  have e : ∀ (j : S4096.Idx) (c : Fin 4096), j.along (⟨0, hd⟩ : Fin S4096.rank) c = ix1 c := fun j c =>
    (Shape.Idx.along_rank1 j c).trans (funext fun a => match a with | ⟨0, _⟩ => rfl)
  have hs : sortedFrom (n := 4096) (fun k k' => comparator_i32_i32_d0
        (x ((ix1 p : S4096.Idx).along ⟨0, hd⟩ k), iotaInDim S4096 32 0 ((ix1 p : S4096.Idx).along ⟨0, hd⟩ k))
        (x ((ix1 p : S4096.Idx).along ⟨0, hd⟩ k'), iotaInDim S4096 32 0 ((ix1 p : S4096.Idx).along ⟨0, hd⟩ k')) == 1#1) p = src x p := by
    unfold src
    congr 1
    funext k k'
    rw [e, e]
    rfl
  unfold sorted Host.sort2
  rw [dif_pos hd]
  exact ⟨(congrArg (fun c : Fin 4096 => x ((ix1 p : S4096.Idx).along ⟨0, hd⟩ c)) hs).trans (congrArg x (e _ _)),
    (congrArg (fun c : Fin 4096 => iotaInDim S4096 32 0 ((ix1 p : S4096.Idx).along ⟨0, hd⟩ c)) hs).trans ((congrArg (iotaInDim S4096 32 0) (e _ _)).trans (iota_at _))⟩

/-- The word at a sorted place is the place the number came from. -/
theorem src_word (p : ℕ) (hp : p < 4096) : wordAt (sorted x).2 p = src x ⟨p, hp⟩ := by
  have e : (⟨p % 4096, Nat.mod_lt _ (by decide)⟩ : Fin 4096) = ⟨p, hp⟩ := Fin.ext (Nat.mod_eq_of_lt hp)
  have := (src x ⟨p, hp⟩).isLt
  unfold wordAt
  rw [e, (sorted_at x _).2, BitVec.toNat_ofNat, Nat.mod_eq_of_lt (by omega)]

/-- That word is below 4096. -/
theorem src_word_lt (p : ℕ) : wordAt (sorted x).2 p < 4096 := by
  have hm : p % 4096 < 4096 := Nat.mod_lt _ (by decide)
  have e : wordAt (sorted x).2 p = wordAt (sorted x).2 (p % 4096) := by unfold wordAt; simp only [Nat.mod_mod]
  rw [e, src_word x _ hm]
  exact (src x _).isLt

/-- Two sorted places came from two different places. -/
theorem src_word_inj {p p' : ℕ} (hp : p < 4096) (hp' : p' < 4096) (h : wordAt (sorted x).2 p = wordAt (sorted x).2 p') : p = p' := by
  rw [src_word x p hp, src_word x p' hp'] at h
  exact congrArg Fin.val (src_inj x (Fin.ext h))

/-- The position a row's word was sorted to. -/
theorem posOf_src (r : Fin 4096) : ∃ p : Fin 4096, src x p = r ∧ posOf (sorted x).2 r = p := by
  obtain ⟨p, hp⟩ := src_surj x r
  have h : ∃ q, q < 4096 ∧ wordAt (sorted x).2 q = r := ⟨p, p.isLt, by rw [src_word x p p.isLt]; exact congrArg Fin.val hp⟩
  refine ⟨p, hp, ?_⟩
  unfold posOf
  rw [dif_pos h]
  refine src_word_inj x h.choose_spec.1 p.isLt ?_
  rw [h.choose_spec.2, src_word x p p.isLt]
  exact (congrArg Fin.val hp).symm

/-! ## The count -/

/-- The positions of words below the cut. -/
def low : Finset (Fin 4096) := Finset.univ.filter fun k => (x (ix1 k)).toInt < 8192

/-- The host's count is the number of low numbers. -/
theorem below_card : below x (Shape.Idx.first h_S_) = BitVec.ofNat 32 (low x).card := by
  have h0 : (Finset.univ.filter fun i : S4096.Idx => reducesTo_S4096_S_d0.drop i = Shape.Idx.first h_S_) = Finset.univ :=
    Finset.filter_true_of_mem fun i _ => ix_scalar _
  have h1 := IndicatorCount.fold_addi_setWidth_eq_card (w := 32) (fun i : S4096.Idx => IntOp.cmpi .slt (x i) 8192#32) Finset.univ
  unfold below
  rw [Host.reduce_eq_fold, h0]
  refine h1.trans (congrArg (BitVec.ofNat 32) ?_)
  refine (Finset.card_bij (fun (k : Fin 4096) _ => (ix1 k : S4096.Idx)) (fun k hk => ?_) (fun a _ b _ h => ?_) fun i hi => ?_).symm
  · refine Finset.mem_filter.mpr ⟨Finset.mem_univ _, IntOp.cmpi_slt.mpr ?_⟩
    exact (Finset.mem_filter.mp hk).2
  · exact congrFun h 0
  · refine ⟨i 0, Finset.mem_filter.mpr ⟨Finset.mem_univ _, ?_⟩, ?_⟩
    · have := IntOp.cmpi_slt.mp (Finset.mem_filter.mp hi).2
      have e : (ix1 (i 0) : S4096.Idx) = i := by funext a; match a with | ⟨0, _⟩ => rfl
      rw [e]
      exact this
    · funext a; match a with | ⟨0, _⟩ => rfl

/-- There are at most 4096 low numbers. -/
theorem low_le : (low x).card ≤ 4096 := (Finset.card_le_univ _).trans (by simp)

/-- The sorted positions whose words are below the cut are the first ones. -/
theorem low_iff (p : Fin 4096) : (p : ℕ) < (low x).card ↔ (x (ix1 (src x p))).toInt < 8192 := by
  let A : Finset (Fin 4096) := Finset.univ.filter fun q => (x (ix1 (src x q))).toInt < 8192
  have hA : A.card = (low x).card := Finset.card_bij (fun q _ => src x q)
    (fun q hq => Finset.mem_filter.mpr ⟨Finset.mem_univ _, (Finset.mem_filter.mp hq).2⟩) (fun a _ b _ h => src_inj x h)
    (fun r hr => by
      obtain ⟨q, rfl⟩ := src_surj x r
      exact ⟨q, Finset.mem_filter.mpr ⟨Finset.mem_univ _, (Finset.mem_filter.mp hr).2⟩, rfl⟩)
  have hdown : ∀ q q' : Fin 4096, q' ≤ q → q ∈ A → q' ∈ A := fun q q' hle hq => by
    have h1 := (Finset.mem_filter.mp hq).2
    refine Finset.mem_filter.mpr ⟨Finset.mem_univ _, ?_⟩
    rcases lt_or_eq_of_le hle with h | h
    · have := src_mono x h; omega
    · rw [h]; exact h1
  have hmem : p ∈ A ↔ (x (ix1 (src x p))).toInt < 8192 := by simp [A]
  rw [← hmem, ← hA]
  constructor
  · intro hlt
    by_contra hn
    have hsub : A ⊆ Finset.univ.filter fun q : Fin 4096 => (q : ℕ) < p := fun q hq => by
      refine Finset.mem_filter.mpr ⟨Finset.mem_univ _, ?_⟩
      by_contra hge
      exact hn (hdown q p (by rw [Fin.le_def]; omega) hq)
    have := Finset.card_le_card hsub
    have hc : (Finset.univ.filter fun q : Fin 4096 => (q : ℕ) < p).card = p := by
      rw [Fin.card_filter_val_lt]; omega
    omega
  · intro hp
    have hsub : (Finset.univ.filter fun q : Fin 4096 => (q : ℕ) < p + 1) ⊆ A := fun q hq => by
      have := (Finset.mem_filter.mp hq).2
      exact hdown p q (by rw [Fin.le_def]; omega) hp
    have := Finset.card_le_card hsub
    have hc : (Finset.univ.filter fun q : Fin 4096 => (q : ℕ) < p + 1).card = p + 1 := by
      rw [Fin.card_filter_val_lt]; omega
    omega

end

/-! ## Words kept within a part -/

/-- A word kept between nothing and the part's last row. -/
def clip (y : BitVec 32) : BitVec 32 := IntOp.minsi 8191#32 (IntOp.maxsi 0#32 y)

/-- The clip of a word: 0 below, 8191 above, itself between. -/
theorem clip_toNat (y : BitVec 32) : (clip y).toNat = if y.toInt < 0 then 0 else min y.toNat 8191 := by
  have h0 : (0#32 : BitVec 32).toInt = 0 := by decide
  have h8 : (8191#32 : BitVec 32).toInt = 8191 := by decide
  have hm : IntOp.maxsi 0#32 y = if y.toInt < 0 then 0#32 else y := by
    unfold IntOp.maxsi
    simp only [BitVec.slt_iff_toInt_lt, h0]
  have hn : ∀ z : BitVec 32, IntOp.minsi 8191#32 z = if 8191 < z.toInt then 8191#32 else z := fun z => by
    unfold IntOp.minsi
    simp only [BitVec.slt_iff_toInt_lt, h8]
  unfold clip
  rw [hn, hm]
  by_cases h : y.toInt < 0
  · rw [if_pos h, if_pos h]; decide
  · rw [if_neg h, if_neg h]
    have hy : y.toInt = y.toNat := by have := y.isLt; rw [BitVec.toInt_eq_toNat_cond] at h ⊢; split at h <;> omega
    by_cases hc : (8191 : ℤ) < y.toInt
    · rw [if_pos hc]
      show 8191 = _
      omega
    · rw [if_neg hc]; omega

/-- A clipped word names a row of the device's block. -/
theorem clip_lt (y : BitVec 32) : (clip y).toNat < 8192 := by rw [clip_toNat]; split <;> omega

/-- The first number of a device's half. -/
theorem base_eq (c : Dev nD) : base c (Shape.Idx.first h_S_) = BitVec.ofNat 32 (8192 * side c) := by
  have h : ∀ c : Dev nD, IntOp.muli (Host.remui (s := S_) (Host.divui (constantI S_ 32 (Dev.word c)) (constantI S_ 32 16#32)) (constantI S_ 32 2#32) (Shape.Idx.first h_S_)) 8192#32
      = BitVec.ofNat 32 (8192 * side c) := by decide
  exact h c

section
variable (m : (ℓ : Loc nD τ sig) → Buf (Elt F) ℓ)

/-- The local row that a device looks up at a sorted place. -/
theorem looked_word (c : Dev nD) (p : ℕ) (hp : p < 4096) :
    wordAt ((inp (W₀ m)).sid c) p = (clip (ids m c (ix1 (src (ids m c) ⟨p, hp⟩)) - BitVec.ofNat 32 (8192 * side c))).toNat := by
  have e : (⟨p % 4096, Nat.mod_lt _ (by decide)⟩ : Fin 4096) = ⟨p, hp⟩ := Fin.ext (Nat.mod_eq_of_lt hp)
  unfold wordAt
  rw [e, sid_host, base_eq, (sorted_at _ _).1]
  rfl

/-- It is a row of the device's block. -/
theorem looked_word_lt (c : Dev nD) (p : ℕ) : wordAt ((inp (W₀ m)).sid c) p < 8192 := by
  unfold wordAt
  rw [sid_host]
  exact clip_lt _

/-- A device's count of words below the cut. -/
def count (c : Dev nD) : ℕ := (low (ids m c)).card

/-- The kernel's count is the number of low numbers. -/
theorem cnt_is (c : Dev nD) : Is ((inp (W₀ m)).cnt c) (count m c) := by
  have := low_le (ids m c)
  unfold count
  refine ⟨?_, by omega⟩
  rw [cnt_host, below_card, BitVec.toNat_ofNat, Nat.mod_eq_of_lt (by omega)]

/-- So is the number that the count stands for. -/
theorem num_eq (c : Dev nD) : num (inp (W₀ m)) c = count m c := (cnt_is m c).val

/-- The partner is on the other side. -/
theorem side_pr : ∀ c : Dev nD, side (pr c) = 1 - side c := by decide

/-- Of the numbers `x`, as many are low as make `a` chunks, the rest make `b`, and both parts fit the buffers. -/
def Chunks (a b : ℕ) (x : S4096.Idx → BitVec 32) : Prop :=
  (1536 ≤ (low x).card ∧ (low x).card ≤ 2560) ∧ nN (low x).card = a ∧ nN (4096 - (low x).card) = b

/-- All devices count the same numbers of chunks, so every device sends and receives the numbers of chunks its partner
    expects. -/
def Mids : Prop := ∃ a b, ∀ c, Chunks a b (ids m c)

/-- When all devices count the same numbers of chunks, what the host hands to the kernel is what the exchange needs. -/
theorem good_of (h : Mids m) : Good (inp (W₀ m)) where
  mid c := by obtain ⟨a, b, h⟩ := h; rw [num_eq]; exact ⟨cnt_is m c, (h c).1⟩
  agree c := by
    obtain ⟨a, b, h⟩ := h
    have h1 : nN (count m c) = a ∧ nN (4096 - count m c) = b := (h c).2
    have h2 : nN (count m (pr c)) = a ∧ nN (4096 - count m (pr c)) = b := (h (pr c)).2
    have hs : side (pr c) = 1 - side c := side_pr c
    have hs' := side_lt c
    have e1 : count m c ≤ 4096 := low_le _
    have e2 : count m (pr c) ≤ 4096 := low_le _
    unfold nme npr
    rw [num_eq, num_eq]
    unfold nM nMp
    rw [hs]
    rcases (by omega : side c = 0 ∨ side c = 1) with e | e
    · rw [if_pos e, if_neg (by omega), h1.1, h2.1]
    · rw [if_neg (by omega), if_pos (by omega), h1.2, h2.2]
  sid_lt c p := looked_word_lt m c p
  perm_lt c p := by rw [perm_host]; exact src_word_lt _ p
  perm_inj c p p' hp hp' := by rw [perm_host]; exact src_word_inj _ hp hp'

end

end Cert.KernelIdeal.Lookup

end
-- ==== Proof.Frames.lean ====
module

public import proofs.«01_k».proof.Defs
public import proofs.«01_k».proof.Proof.Gen.Kernel
public import proofs.«01_k».proof.Proof.Sort

/-!
# The kernel's frames

Every run of the kernel from a memory whose devices count the same numbers of chunks comes to its
end, leaves its arguments alone and every semaphore at zero.
-/

@[expose] public section

noncomputable section

namespace Cert.KernelIdeal.Lookup

open Idealize.ShloMosaic Idealize.SL.Sem Cert.KernelIdeal

/-- Two one-bit words whose conjunction is one are both one. -/
theorem both_one : ∀ a b : BitVec 1, IntOp.andi a b = 1#1 → a = 1#1 ∧ b = 1#1 := by decide

/-- A count no larger than 4096 read as a signed word is the count. -/
theorem toInt_count (k : ℕ) (h : k ≤ 4096) : (BitVec.ofNat 32 k).toInt = k := by
  rw [BitVec.toInt_eq_toNat_cond, BitVec.toNat_ofNat]
  have h1 : k % 2 ^ 32 = k := Nat.mod_eq_of_lt (by omega)
  rw [h1, if_pos (by omega)]

/-- What a precondition says of one device's numbers: from `lo` to `hi` of them are below 8192. -/
theorem range_of (lo hi : ℕ) (hlo : lo ≤ 4096) (hhi : hi ≤ 4096) (x : IVec S4096 32)
    (h : andi (cmpi .sge (below x) (constantI S_ 32 (BitVec.ofNat 32 lo))) (cmpi .sle (below x) (constantI S_ 32 (BitVec.ofNat 32 hi)))
      = fun _ => 1#1) :
    lo ≤ (low x).card ∧ (low x).card ≤ hi := by
  have h0 := congrFun h (Shape.Idx.first Cert.KernelIdeal.Gen.facts.toFacts₀.h_S_)
  obtain ⟨ha, hb⟩ := both_one _ _ h0
  have h1 : (BitVec.ofNat 32 lo).toInt ≤ (below x (Shape.Idx.first Cert.KernelIdeal.Gen.facts.toFacts₀.h_S_)).toInt := (IntOp.cmpi_sge).1 ha
  have h2 : (below x (Shape.Idx.first Cert.KernelIdeal.Gen.facts.toFacts₀.h_S_)).toInt ≤ (BitVec.ofNat 32 hi).toInt := (IntOp.cmpi_sle).1 hb
  rw [below_card, toInt_count _ (low_le x)] at h1 h2
  rw [toInt_count _ hlo] at h1
  rw [toInt_count _ hhi] at h2
  omega

/-- All counts from `lo` to `hi` make the same numbers of chunks, and both parts fit the buffers. -/
def OneClass (lo hi : ℕ) : Prop := 1536 ≤ lo ∧ hi ≤ 2560 ∧ nN lo = nN hi ∧ nN (4096 - lo) = nN (4096 - hi)

instance (lo hi : ℕ) : Decidable (OneClass lo hi) := by unfold OneClass; infer_instance

/-- Under a precondition whose counts make the same numbers of chunks, those of one device's numbers are known. -/
theorem chunks_of (lo hi : ℕ) (ho : OneClass lo hi) (x : IVec S4096 32)
    (h : andi (cmpi .sge (below x) (constantI S_ 32 (BitVec.ofNat 32 lo))) (cmpi .sle (below x) (constantI S_ 32 (BitVec.ofNat 32 hi)))
      = fun _ => 1#1) :
    Chunks (nN lo) (nN (4096 - lo)) x := by
  obtain ⟨h1, h2, h3, h4⟩ := ho
  by_cases hlo : lo ≤ 4096
  · have h5 := range_of lo hi hlo (by omega) x h
    unfold Chunks
    unfold nN at *
    refine ⟨by omega, by omega, by omega⟩
  · exfalso
    unfold nN at h3 h4
    omega

/-- The frame of the kernel's text in any reading of the floats, from any memory whose devices all count the same numbers
of chunks. -/
theorem frame_any {F : FTy → Type} [FloatOps F] (m : (ℓ : Loc nD τ sig) → Buf (Elt F) ℓ) (ρ : Dev nD → PrngReg) (h : Mids m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run_good (F := F) (m := m) ρ (good_of m h))

attribute [local instance] Cert.Kernel.Gen.facts

set_option smartUnfolding false in
set_option maxHeartbeats 4000000 in
/-- The same frame of the kernel as printed: the same text, read at the floats' own words. -/
theorem frame_words (m : (ℓ : Loc Cert.Kernel.nD Cert.Kernel.τ Cert.Kernel.sig) → Buf (Elt Bits) ℓ) (g : Dev Cert.Kernel.nD → PrngReg)
    (h : ∃ a b, ∀ c : Dev Cert.Kernel.nD, Chunks a b (m ((c.tc : Thread Cert.Kernel.nD Cert.Kernel.τ).loc Cert.Kernel.main_arg0))) :
    θ_run (Cert.Kernel.defs (F := Bits))
      (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  frame_any (F := Bits) m g h

end Cert.KernelIdeal.Lookup

end
-- ==== Proof.Reference.lean ====
module

public import proofs.«01_k».proof.Defs
public import proofs.«01_k».proof.Proof.Gen.ReferenceIdeal
public import Idealize.ShloMosaic.Lib.Claim
public import Idealize.ShloMosaic.Lib.Affine
public import Idealize.ShloMosaic.Lib.Pointwise.Index
public import Idealize.ShloMosaic.Lib.Pipeline.Value
public import Idealize.ShloMosaic.Lib.Quiescent

/-!
# The reference

The reference is a line of host operations; at numbers that are not negative it is the table read at
each number, a number past the end taking the last row.
-/

@[expose] public section

noncomputable section

namespace Cert.ReferenceIdeal.Lookup

open Idealize.ShloMosaic Idealize.SL.Sem Cert.ReferenceIdeal
open Facts₀

instance : Cert.ReferenceIdeal.Facts := Cert.ReferenceIdeal.Gen.facts

/-- The table read at each number, a number past its end taking the last row. -/
def rowsAt {α : Type} (E : S16384x2048.Idx → α) (x : S4096.Idx → BitVec 32) : S4096x2048.Idx → α := fun y =>
  E (ix2 (⟨min (x (ix1 (⟨(y 0 : ℕ), (y 0).isLt⟩ : Fin 4096))).toNat 16383, by omega⟩ : Fin 16384) (⟨(y 1 : ℕ), (y 1).isLt⟩ : Fin 2048))

/-- What the reference computes of its two arguments. -/
def term {α : Type} (E : S16384x2048.Idx → α) (x : S4096.Idx → BitVec 32) : S4096x2048.Idx → α :=
  Host.gather gather_S16384x2048_S4096x1_S4096x2048_1_0_n_n_0_1_12048 E
    (broadcastInDim S4096x1 ![0] bcast_S4096_S4096x1_0
      (select (cmpi .slt x (broadcastInDim S4096 ![] bcast_S_S4096 (constantI S_ 32 0#32)))
        (addi x (broadcastInDim S4096 ![] bcast_S_S4096 (constantI S_ 32 16384#32))) x))

/-- The reference's run: its result, its arguments and the counters. -/
theorem run_reference {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r =>
      (∀ c : Dev nD, r.2.mem ((c.tc : Thread nD τ).loc main_v6) = term (m ((c.tc : Thread nD τ).loc main_arg1)) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  unfold term
  hlo_run
  · exact fun _ => ⟨trivial, trivial, trivial⟩
  · exact sem_eq_zero_of_no_sems (by decide) r.2

/-- The frame of the reference. -/
theorem frame_reference : Cert.quiescent_ReferenceIdeal (hReferenceIdeal := Cert.ReferenceIdeal.Gen.facts) :=
  fun m g _ => θ_run_mono (run_reference m g) fun _ h => ⟨fun c => (h.1 c).2, h.2⟩

/-- The gather of rows: each row of the result is the row its index names, the index read as a signed
word and held inside the table. -/
theorem gather_rows {α : Type} (E : S16384x2048.Idx → α) (idx : IVec S4096x1 32) (y : S4096x2048.Idx) :
    Host.gather gather_S16384x2048_S4096x1_S4096x2048_1_0_n_n_0_1_12048 E idx y
      = E (ix2 (⟨min (idx (ix2 (⟨(y 0 : ℕ), (y 0).isLt⟩ : Fin 4096) (0 : Fin 1))).toInt.toNat 16383, by omega⟩ : Fin 16384)
          (⟨(y 1 : ℕ), (y 1).isLt⟩ : Fin 2048)) := by
  unfold Host.gather
  refine congrArg E (funext fun a => Fin.ext ?_)
  show GatherDims.start _ y idx a + GatherDims.batchCoord _ y a + GatherDims.offCoord _ y a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl))]
    rw [Nat.add_zero]
    have hsi : gather_S16384x2048_S4096x1_S4096x2048_1_0_n_n_0_1_12048.siIdx y ⟨List.idxOf (0 : Fin 2)
        gather_S16384x2048_S4096x1_S4096x2048_1_0_n_n_0_1_12048.startIndexMap,
        List.idxOf_lt_length_iff.2 (List.mem_singleton.mpr rfl)⟩ = ix2 (⟨(y 0 : ℕ), (y 0).isLt⟩ : Fin 4096) (0 : Fin 1) := by
      funext b
      refine Fin.ext ?_
      match b with
      | ⟨0, _⟩ => rfl
      | ⟨1, _⟩ => rfl
    refine (dif_pos (show (0 : Fin 2) ∈ gather_S16384x2048_S4096x1_S4096x2048_1_0_n_n_0_1_12048.startIndexMap from
      List.mem_singleton.mpr rfl)).trans ?_
    exact congrArg (fun i => min (idx i).toInt.toNat 16383) hsi
  | ⟨1, _⟩ =>
    refine (congrArg (· + _) (dif_neg (show (1 : Fin 2) ∉ gather_S16384x2048_S4096x1_S4096x2048_1_0_n_n_0_1_12048.startIndexMap from by
      show (1 : Fin 2) ∉ ([0] : List (Fin 2)); decide))).trans ?_
    exact Nat.zero_add _

/-- Where no number is negative the reference reads the table at each of them. -/
theorem term_eq {α : Type} (E : S16384x2048.Idx → α) (x : S4096.Idx → BitVec 32) (h : ∀ i, 0 ≤ (x i).toInt) :
    term E x = rowsAt E x := by
  funext y
  unfold term rowsAt
  rw [gather_rows]
  have h0 := h (ix1 (⟨(y 0 : ℕ), (y 0).isLt⟩ : Fin 4096))
  have e : broadcastInDim S4096x1 ![0] bcast_S4096_S4096x1_0
      (select (cmpi .slt x (broadcastInDim S4096 ![] bcast_S_S4096 (constantI S_ 32 0#32)))
        (addi x (broadcastInDim S4096 ![] bcast_S_S4096 (constantI S_ 32 16384#32))) x)
        (ix2 (⟨(y 0 : ℕ), (y 0).isLt⟩ : Fin 4096) (0 : Fin 1)) = x (ix1 (⟨(y 0 : ℕ), (y 0).isLt⟩ : Fin 4096)) := by
    set i := ix1 (⟨(y 0 : ℕ), (y 0).isLt⟩ : Fin 4096) with hi
    rw [broadcastInDim_apply (![0] : Fin 1 → Fin S4096x1.rank) bcast_S4096_S4096x1_0 _ _ i (by
      intro a
      match a with
      | ⟨0, _⟩ => rfl)]
    show (if IntOp.cmpi .slt (x i) 0#32 = 1 then _ else x i) = x i
    rw [if_neg fun hc => by
      have := (IntOp.cmpi_slt).1 hc
      have e0 : (0#32).toInt = 0 := by decide
      omega]
  have e2 : (x (ix1 (⟨(y 0 : ℕ), (y 0).isLt⟩ : Fin 4096))).toInt.toNat = (x (ix1 (⟨(y 0 : ℕ), (y 0).isLt⟩ : Fin 4096))).toNat := by
    rw [BitVec.toInt_eq_toNat_cond] at h0 ⊢
    have := (x (ix1 (⟨(y 0 : ℕ), (y 0).isLt⟩ : Fin 4096))).isLt
    split at h0 <;> split <;> omega
  congr 2
  exact Fin.ext (by show min _ _ = min _ _; rw [e, e2])

end Cert.ReferenceIdeal.Lookup

end
-- ==== Proof.Value.lean ====
module

public import proofs.«01_k».proof.Proof.Sort
public import proofs.«01_k».proof.Proof.Reference
public import Idealize.ShloMosaic.Lib.Layout

/-!
# The kernel's result as the reference's

Every row of the result comes from the half of the table that holds it: the device's own half when its number
is looked up here, the partner's otherwise. Either way it is the whole table's row at that number.
-/

@[expose] public section

noncomputable section

namespace Cert.KernelIdeal.Lookup

open Idealize.ShloMosaic Idealize.SL.Sem Cert.KernelIdeal

variable {F : FTy → Type} [FloatOps F]
variable (m : (ℓ : Loc nD τ sig) → Buf (Elt F) ℓ)

/-- The position `p` of the sorted numbers is one device `c` looks up, `n` of the numbers being low. -/
def Own (c : Dev nD) (n p : ℕ) : Prop := nS c n ≤ p ∧ p < nS c n + nM c n

/-- Of a device and its partner one looks a position up; the partner's part starts where the device expects it. -/
theorem own_other (c : Dev nD) (n p : ℕ) (hp : p < 4096) (h : ¬ Own c n p) :
    Own (pr c) n p ∧ nSp c n = nS (pr c) n := by
  have h1 := side_pr c
  have h2 := side_lt c
  unfold Own nS nM nSp at *
  rw [h1]
  have h3 : side c = 0 ∨ side c = 1 := by omega
  rcases h3 with h3 | h3 <;> rw [h3] at h ⊢ <;> simp at h ⊢ <;> omega

/-- A device's part of the numbers fits its buffer. -/
theorem part_le (c : Dev nD) (n : ℕ) (h : 1536 ≤ n ∧ n ≤ 2560) : nM c n ≤ 2560 := by
  unfold nM; split <;> omega

/-- A gathered row at the position it was gathered for. -/
theorem GA_at (D : Inp F) (c : Dev nD) (n p : ℕ) (j : Fin 2048) (hn : num D c = n) (ho : Own c n p) (h2 : nM c n ≤ 2560)
    (hw : wordAt (D.sid c) p < 8192) :
    GA D c (rowIx (p - nS c n) j) = D.tab c (ix2 (⟨wordAt (D.sid c) p, hw⟩ : Fin 8192) j) := by
  subst hn
  obtain ⟨h0, h1⟩ := ho
  have e : min (nS c (num D c) + (p - nS c (num D c)) % 2560) (nS c (num D c) + nM c (num D c) - 1) = p := by
    generalize nS c (num D c) = a at *
    generalize nM c (num D c) = b at *
    rw [Nat.mod_eq_of_lt (by omega)]; omega
  have e' : wordAt (D.sid c) (min (nS c (num D c) + (p - nS c (num D c)) % 2560) (nS c (num D c) + nM c (num D c) - 1)) % 8192
      = wordAt (D.sid c) p := by
    rw [e, Nat.mod_eq_of_lt hw]
  exact congrArg (fun i : Fin 8192 => D.tab c (ix2 i j)) (Fin.ext e')

/-- A row of the result, by which of the two devices looked it up. -/
theorem GO_at (D : Inp F) (c : Dev nD) (n p : ℕ) (y : (Rows 4096).Idx) (V : Elt F .f32) (hn : num D c = n)
    (hp : posOf (D.perm c) (y 0 : ℕ) = p)
    (h1 : Own c n p → GA D c (rowIx (p - nS c n) (⟨(y 1 : ℕ), (y 1).isLt⟩ : Fin 2048)) = V)
    (h2 : ¬ Own c n p → GA D (pr c) (rowIx (p - nSp c n) (⟨(y 1 : ℕ), (y 1).isLt⟩ : Fin 2048)) = V) :
    GO D c y = V := by
  subst hn
  unfold GO
  rw [hp]
  split
  · exact h1 ‹_›
  · exact h2 ‹_›

/-- The word looked up is the number itself less what lies before the device's half, held inside the half. -/
theorem word_own (c : Dev nD) (p : ℕ) (hp : p < 4096) (h0 : ∀ i, 0 ≤ (ids m c i).toInt) (ho : Own c (count m c) p) :
    side c * 8192 + wordAt ((inp (W₀ m)).sid c) p = min (ids m c (ix1 (src (ids m c) ⟨p, hp⟩))).toNat 16383 := by
  rw [looked_word m c p hp, clip_toNat]
  have hl := low_iff (ids m c) ⟨p, hp⟩
  have hn := h0 (ix1 (src (ids m c) ⟨p, hp⟩))
  have h2 := side_lt c
  unfold Own nS nM count at ho
  generalize ids m c (ix1 (src (ids m c) ⟨p, hp⟩)) = w at hl hn ⊢
  have hw := w.isLt
  have h3 : side c = 0 ∨ side c = 1 := by omega
  rcases h3 with h3 | h3
  · rw [h3] at ho ⊢
    simp only [if_true] at ho
    have hlt := hl.1 (by show p < _; omega)
    have e : w - BitVec.ofNat 32 (8192 * 0) = w := by simp
    rw [e, if_neg (by omega)]
    rw [BitVec.toInt_eq_toNat_cond] at hlt hn
    split at hlt <;> omega
  · rw [h3] at ho ⊢
    simp only [Nat.one_ne_zero, if_false] at ho
    have hge : ¬ w.toInt < 8192 := fun hh => by
      have := hl.2 hh
      have h' : p < (low (ids m c)).card := this
      omega
    have e : (w - BitVec.ofNat 32 (8192 * 1)).toNat = w.toNat - 8192 := by
      rw [BitVec.toInt_eq_toNat_cond] at hge hn
      rw [BitVec.toNat_sub]
      simp only [BitVec.toNat_ofNat]
      split at hge <;> omega
    rw [BitVec.toInt_eq_toNat_cond] at hge hn
    have hq : 2 * w.toNat < 2 ^ 32 := by
      by_contra hc
      rw [if_neg hc] at hn; omega
    rw [if_pos hq] at hge
    have ht : (w - BitVec.ofNat 32 (8192 * 1)).toInt = ((w.toNat - 8192 : ℕ) : ℤ) := by
      rw [BitVec.toInt_eq_toNat_cond, e, if_pos (by omega)]
    rw [ht, if_neg (by omega), e]
    omega

/-- The axis a table is cut along names the device's side. -/
theorem mesh_side : ∀ c : Dev nD, Layout.meshLin [2, 4, 4] c.val [0] = side c := by decide

/-- A device's half of the table, read in the whole table. -/
theorem half_at {α : Type} (E : Cert.ReferenceIdeal.S16384x2048.Idx → α) (c : Dev nD) (i : Fin 8192) (j : Fin 2048) (k : Fin 16384)
    (hk : side c * 8192 + i.val = k.val) :
    (Layout.blockN ⟨2, ![8192, 2048]⟩ ⟨2, ![16384, 2048]⟩ (Layout.meshBlock [2, 4, 4] ![[0], []] c) E : (⟨2, ![8192, 2048]⟩ : Shape).Idx → α) (ix2 i j)
      = E (ix2 k j) := by
  rw [Layout.blockN_apply]
  refine congrArg E (funext fun a => Fin.ext ?_)
  rw [Layout.TilesN.idx_val]
  match a with
  | ⟨0, _⟩ =>
    show Layout.meshLin [2, 4, 4] c.val [0] * 8192 + i.val = k.val
    rw [mesh_side, hk]
  | ⟨1, _⟩ =>
    show Layout.meshLin [2, 4, 4] c.val [] * 2048 + j.val = j.val
    have : Layout.meshLin [2, 4, 4] c.val [] = 0 := rfl
    rw [this, Nat.zero_mul, Nat.zero_add]

/-- The row a device looks up at one of its own positions is the whole table's. -/
theorem row_own (D : Inp F) (E : Cert.ReferenceIdeal.S16384x2048.Idx → Elt F .f32) (c : Dev nD) (n p : ℕ) (j : Fin 2048) (k : Fin 16384)
    (hE : D.tab c = Layout.blockN ⟨2, ![8192, 2048]⟩ ⟨2, ![16384, 2048]⟩ (Layout.meshBlock [2, 4, 4] ![[0], []] c) E)
    (hn : num D c = n) (hM : 1536 ≤ n ∧ n ≤ 2560) (hw : wordAt (D.sid c) p < 8192)
    (hk : side c * 8192 + wordAt (D.sid c) p = k) (ho : Own c n p) :
    GA D c (rowIx (p - nS c n) j) = E (ix2 k j) := by
  refine (GA_at D c n p j hn ho (part_le c n hM) hw).trans ((congrFun hE _).trans (half_at E c _ j k hk))

/-- The result of any data in which the numbers are sorted, looked up and counted as `x` says. -/
theorem GO_of (D : Inp F) (E : Cert.ReferenceIdeal.S16384x2048.Idx → Elt F .f32) (x : S4096.Idx → BitVec 32) (n : ℕ)
    (hE : ∀ c, D.tab c = Layout.blockN ⟨2, ![8192, 2048]⟩ ⟨2, ![16384, 2048]⟩ (Layout.meshBlock [2, 4, 4] ![[0], []] c) E)
    (hn : ∀ c, num D c = n) (hM : 1536 ≤ n ∧ n ≤ 2560) (hw : ∀ c p, wordAt (D.sid c) p < 8192)
    (hp : ∀ c, D.perm c = (sorted x).2)
    (hk : ∀ c (p : ℕ) (h : p < 4096), Own c n p → side c * 8192 + wordAt (D.sid c) p = min (x (ix1 (src x ⟨p, h⟩))).toNat 16383) (c : Dev nD) :
    GO D c = Cert.ReferenceIdeal.Lookup.rowsAt E x := by
  funext y
  obtain ⟨p, hq, hpos⟩ := posOf_src x (⟨(y 0 : ℕ), (y 0).isLt⟩ : Fin 4096)
  have hpos' : posOf (D.perm c) (y 0 : ℕ) = p := by rw [hp c]; exact hpos
  have row : ∀ d, Own d n p → GA D d (rowIx (p - nS d n) (⟨(y 1 : ℕ), (y 1).isLt⟩ : Fin 2048))
      = Cert.ReferenceIdeal.Lookup.rowsAt E x y := fun d ho => by
    have hkd := hk d p p.isLt ho
    have hq' : src x ⟨p, p.isLt⟩ = (⟨(y 0 : ℕ), (y 0).isLt⟩ : Fin 4096) := hq
    rw [hq'] at hkd
    exact row_own D E d n p _ _ (hE d) (hn d) hM (hw d p) hkd ho
  refine GO_at D c n p y _ (hn c) hpos' (row c) fun ho => ?_
  obtain ⟨h1, h2⟩ := own_other c n p p.isLt ho
  rw [h2]
  exact row (pr c) h1

/-- THE RESULT: where the devices hold the same numbers, none negative, and each its half of a table, every device ends
with the table read at the numbers. -/
theorem GO_eq (E : Cert.ReferenceIdeal.S16384x2048.Idx → Elt F .f32) (x : S4096.Idx → BitVec 32)
    (hx : ∀ c, ids m c = x)
    (hE : ∀ c : Dev nD, m ((c.tc : Thread nD τ).loc main_arg1)
      = Layout.blockN ⟨2, ![8192, 2048]⟩ ⟨2, ![16384, 2048]⟩ (Layout.meshBlock [2, 4, 4] ![[0], []] c) E)
    (hM : Mids m) (h0 : ∀ i, 0 ≤ (x i).toInt) (c : Dev nD) :
    GO (inp (W₀ m)) c = Cert.ReferenceIdeal.Lookup.rowsAt E x := by
  have hcnt : ∀ d, count m d = (low x).card := fun d => by unfold count; rw [hx d]
  refine GO_of (inp (W₀ m)) E x (low x).card (fun d => (tab_host m d).trans (hE d)) (fun d => (num_eq m d).trans (hcnt d))
    (by obtain ⟨a, b, hM⟩ := hM; have := (hM c).1; rw [hx c] at this; exact this) (looked_word_lt m) (fun d => (perm_host m d).trans (by rw [hx d])) ?_ c
  intro d p h ho
  have hk := word_own m d p h (by rw [hx d]; exact h0) (by rw [hcnt d]; exact ho)
  rw [hx d] at hk
  exact hk

end Cert.KernelIdeal.Lookup

end
-- ==== Proof.Answer.lean ====
module

public import proofs.«01_k».proof.Defs
public import proofs.«01_k».proof.Proof.Frames
public import proofs.«01_k».proof.Proof.Value

/-!
# The value

From memories that agree, whose numbers are not negative and make numbers of chunks that fit, every device of the
kernel ends with the reference's result.
-/

@[expose] public section

noncomputable section

namespace Cert.Proof

open Idealize.ShloMosaic Idealize.SL.Sem
open Cert.KernelIdeal.Lookup Cert.ReferenceIdeal.Lookup

/-- What a precondition's first part says: no number is negative. -/
theorem nonneg_of (x : IVec Cert.KernelIdeal.S4096 32) (hb : Cert.KernelIdeal.S_.BroadcastsInDim Cert.KernelIdeal.S4096 ![])
    (h : cmpi .sge x (broadcastInDim Cert.KernelIdeal.S4096 ![] hb (constantI Cert.KernelIdeal.S_ 32 0#32))
      = fun _ => 1#1) (i : Cert.KernelIdeal.S4096.Idx) : 0 ≤ (x i).toInt := by
  have h1 : IntOp.cmpi .sge (x i) 0#32 = 1#1 := congrFun h i
  have h2 := (IntOp.cmpi_sge).1 h1
  have e0 : (0#32).toInt = 0 := by decide
  omega

attribute [local instance] Cert.KernelIdeal.Gen.facts Cert.ReferenceIdeal.Gen.facts

/-- The value: every device of the kernel ends with the reference's result, and both leave their arguments alone. -/
theorem value (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (hM : Mids m) (h0 : ∀ i, 0 ≤ (ids m 0 i).toInt)
    (hagree : ∀ c : Dev Cert.KernelIdeal.nD,
      m ((c.tc : Thread Cert.KernelIdeal.nD Cert.KernelIdeal.τ).loc Cert.KernelIdeal.main_arg0)
          = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1)
          = Layout.blockN ⟨2, ![8192, 2048]⟩ ⟨2, ![16384, 2048]⟩ (Layout.meshBlock [2, 4, 4] ![[0], []] c)
            (m' (((0 : Dev Cert.ReferenceIdeal.nD).tc : Thread Cert.ReferenceIdeal.nD Cert.ReferenceIdeal.τ).loc Cert.ReferenceIdeal.main_arg1))) :
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hx := fun c => (hagree c).1
  have hGO := GO_eq m _ _ (fun c => hx c) (fun c => (hagree c).2) hM (by rw [← hx 0]; exact h0)
  refine ⟨_, θ_run_mono (run_good (F := Ideal) (m := m) g (good_of m hM)) fun r h c =>
    ⟨(h.1 c).2.2.trans (hGO c), (h.1 c).1, (h.1 c).2.1⟩, θ_run_mono (run_reference m' g') fun r h =>
    ⟨(h.1 0).1.trans (term_eq _ _ (by rw [← hx 0]; exact h0)), (h.1 0).2.1, (h.1 0).2.2⟩⟩

end Cert.Proof

end
-- ==== Proof.Whole.lean ====
module

public import proofs.«01_k».proof.Proof.Answer

/-!
# Counts that are whole chunks

The claims of one precondition each: the count of low numbers is a multiple of a chunk, so no chunk is partly in use.
-/

@[expose] public section

noncomputable section

namespace Cert.Proof

open Idealize.ShloMosaic Idealize.SL.Sem
open Cert.KernelIdeal.Lookup Cert.ReferenceIdeal.Lookup

namespace low_1536_1536

/-- The side conditions of the precondition that 1536 numbers are low. -/
theorem facts : Cert.Pre_low_1536_1536.Facts := ⟨by decide, by decide, by decide, by decide⟩

/-- The same where no number is negative, of the kernel's arguments. -/
theorem facts_kernel : Cert.Pre_low_1536_1536_nonneg_KernelIdeal.Facts := ⟨by decide, by decide, by decide, by decide⟩

/-- The same where no number is negative, of the reference's arguments. -/
theorem facts_reference : Cert.Pre_low_1536_1536_nonneg_ReferenceIdeal.Facts := ⟨by decide, by decide, by decide, by decide⟩

/-- The kernel's frame at the floats' words, where 1536 numbers are low. -/
theorem frame_kernel : Cert.quiescent_Kernel (hKernel := Cert.Kernel.Gen.facts) (hPre_low_1536_1536 := facts) :=
  fun m g h => frame_words m g ⟨_, _, fun c => chunks_of 1536 1536 (by decide) _ (h c)⟩

/-- The kernel's frame at the reals, where 1536 numbers are low. -/
theorem frame_ideal : Cert.quiescent_KernelIdeal (hKernelIdeal := Cert.KernelIdeal.Gen.facts) (hPre_low_1536_1536 := facts) :=
  fun m g h => frame_any (F := Ideal) m g ⟨_, _, fun c => chunks_of 1536 1536 (by decide) _ (h c)⟩

/-- The kernel's frame at the reals, where 1536 numbers are low and none is negative. -/
theorem frame_nonneg : Cert.quiescent_KernelIdeal_pre_low_1536_1536_nonneg_KernelIdeal
    (hKernelIdeal := Cert.KernelIdeal.Gen.facts) (hPre_low_1536_1536_nonneg_KernelIdeal := facts_kernel) :=
  fun m g h => frame_any (F := Ideal) m g ⟨_, _, fun c => chunks_of 1536 1536 (by decide) _ (h c).2⟩

/-- The reference's frame, where 1536 numbers are low and none is negative. -/
theorem frame_ref : Cert.quiescent_ReferenceIdeal_pre_low_1536_1536_nonneg_ReferenceIdeal
    (hReferenceIdeal := Cert.ReferenceIdeal.Gen.facts) (hPre_low_1536_1536_nonneg_ReferenceIdeal := facts_reference) :=
  fun m g _ => frame_reference m g trivial

/-- The value, where 1536 numbers are low and none is negative: every device of the kernel ends with the reference's result. -/
theorem algebraic : Cert.algebraic_KernelIdeal_ReferenceIdeal_pre_low_1536_1536_nonneg_KernelIdeal
    (hKernelIdeal := Cert.KernelIdeal.Gen.facts) (hReferenceIdeal := Cert.ReferenceIdeal.Gen.facts)
    (hPre_low_1536_1536_nonneg_KernelIdeal := facts_kernel) :=
  fun m g m' g' hpre hagree => value m g m' g' ⟨_, _, fun c => chunks_of 1536 1536 (by decide) _ (hpre c).2⟩
    (nonneg_of _ facts_kernel.bcast_S_S4096 (hpre 0).1) hagree

end low_1536_1536

namespace low_1664_1664

/-- The side conditions of the precondition that 1664 numbers are low. -/
theorem facts : Cert.Pre_low_1664_1664.Facts := ⟨by decide, by decide, by decide, by decide⟩

/-- The same where no number is negative, of the kernel's arguments. -/
theorem facts_kernel : Cert.Pre_low_1664_1664_nonneg_KernelIdeal.Facts := ⟨by decide, by decide, by decide, by decide⟩

/-- The same where no number is negative, of the reference's arguments. -/
theorem facts_reference : Cert.Pre_low_1664_1664_nonneg_ReferenceIdeal.Facts := ⟨by decide, by decide, by decide, by decide⟩

/-- The kernel's frame at the floats' words, where 1664 numbers are low. -/
theorem frame_kernel : Cert.quiescent_Kernel_pre_low_1664_1664 (hKernel := Cert.Kernel.Gen.facts) (hPre_low_1664_1664 := facts) :=
  fun m g h => frame_words m g ⟨_, _, fun c => chunks_of 1664 1664 (by decide) _ (h c)⟩

/-- The kernel's frame at the reals, where 1664 numbers are low. -/
theorem frame_ideal : Cert.quiescent_KernelIdeal_pre_low_1664_1664 (hKernelIdeal := Cert.KernelIdeal.Gen.facts) (hPre_low_1664_1664 := facts) :=
  fun m g h => frame_any (F := Ideal) m g ⟨_, _, fun c => chunks_of 1664 1664 (by decide) _ (h c)⟩

/-- The kernel's frame at the reals, where 1664 numbers are low and none is negative. -/
theorem frame_nonneg : Cert.quiescent_KernelIdeal_pre_low_1664_1664_nonneg_KernelIdeal
    (hKernelIdeal := Cert.KernelIdeal.Gen.facts) (hPre_low_1664_1664_nonneg_KernelIdeal := facts_kernel) :=
  fun m g h => frame_any (F := Ideal) m g ⟨_, _, fun c => chunks_of 1664 1664 (by decide) _ (h c).2⟩

/-- The reference's frame, where 1664 numbers are low and none is negative. -/
theorem frame_ref : Cert.quiescent_ReferenceIdeal_pre_low_1664_1664_nonneg_ReferenceIdeal
    (hReferenceIdeal := Cert.ReferenceIdeal.Gen.facts) (hPre_low_1664_1664_nonneg_ReferenceIdeal := facts_reference) :=
  fun m g _ => frame_reference m g trivial

/-- The value, where 1664 numbers are low and none is negative: every device of the kernel ends with the reference's result. -/
theorem algebraic : Cert.algebraic_KernelIdeal_ReferenceIdeal_pre_low_1664_1664_nonneg_KernelIdeal
    (hKernelIdeal := Cert.KernelIdeal.Gen.facts) (hReferenceIdeal := Cert.ReferenceIdeal.Gen.facts)
    (hPre_low_1664_1664_nonneg_KernelIdeal := facts_kernel) :=
  fun m g m' g' hpre hagree => value m g m' g' ⟨_, _, fun c => chunks_of 1664 1664 (by decide) _ (hpre c).2⟩
    (nonneg_of _ facts_kernel.bcast_S_S4096 (hpre 0).1) hagree

end low_1664_1664

namespace low_1792_1792

/-- The side conditions of the precondition that 1792 numbers are low. -/
theorem facts : Cert.Pre_low_1792_1792.Facts := ⟨by decide, by decide, by decide, by decide⟩

/-- The same where no number is negative, of the kernel's arguments. -/
theorem facts_kernel : Cert.Pre_low_1792_1792_nonneg_KernelIdeal.Facts := ⟨by decide, by decide, by decide, by decide⟩

/-- The same where no number is negative, of the reference's arguments. -/
theorem facts_reference : Cert.Pre_low_1792_1792_nonneg_ReferenceIdeal.Facts := ⟨by decide, by decide, by decide, by decide⟩

/-- The kernel's frame at the floats' words, where 1792 numbers are low. -/
theorem frame_kernel : Cert.quiescent_Kernel_pre_low_1792_1792 (hKernel := Cert.Kernel.Gen.facts) (hPre_low_1792_1792 := facts) :=
  fun m g h => frame_words m g ⟨_, _, fun c => chunks_of 1792 1792 (by decide) _ (h c)⟩

/-- The kernel's frame at the reals, where 1792 numbers are low. -/
theorem frame_ideal : Cert.quiescent_KernelIdeal_pre_low_1792_1792 (hKernelIdeal := Cert.KernelIdeal.Gen.facts) (hPre_low_1792_1792 := facts) :=
  fun m g h => frame_any (F := Ideal) m g ⟨_, _, fun c => chunks_of 1792 1792 (by decide) _ (h c)⟩

/-- The kernel's frame at the reals, where 1792 numbers are low and none is negative. -/
theorem frame_nonneg : Cert.quiescent_KernelIdeal_pre_low_1792_1792_nonneg_KernelIdeal
    (hKernelIdeal := Cert.KernelIdeal.Gen.facts) (hPre_low_1792_1792_nonneg_KernelIdeal := facts_kernel) :=
  fun m g h => frame_any (F := Ideal) m g ⟨_, _, fun c => chunks_of 1792 1792 (by decide) _ (h c).2⟩

/-- The reference's frame, where 1792 numbers are low and none is negative. -/
theorem frame_ref : Cert.quiescent_ReferenceIdeal_pre_low_1792_1792_nonneg_ReferenceIdeal
    (hReferenceIdeal := Cert.ReferenceIdeal.Gen.facts) (hPre_low_1792_1792_nonneg_ReferenceIdeal := facts_reference) :=
  fun m g _ => frame_reference m g trivial

/-- The value, where 1792 numbers are low and none is negative: every device of the kernel ends with the reference's result. -/
theorem algebraic : Cert.algebraic_KernelIdeal_ReferenceIdeal_pre_low_1792_1792_nonneg_KernelIdeal
    (hKernelIdeal := Cert.KernelIdeal.Gen.facts) (hReferenceIdeal := Cert.ReferenceIdeal.Gen.facts)
    (hPre_low_1792_1792_nonneg_KernelIdeal := facts_kernel) :=
  fun m g m' g' hpre hagree => value m g m' g' ⟨_, _, fun c => chunks_of 1792 1792 (by decide) _ (hpre c).2⟩
    (nonneg_of _ facts_kernel.bcast_S_S4096 (hpre 0).1) hagree

end low_1792_1792

namespace low_1920_1920

/-- The side conditions of the precondition that 1920 numbers are low. -/
theorem facts : Cert.Pre_low_1920_1920.Facts := ⟨by decide, by decide, by decide, by decide⟩

/-- The same where no number is negative, of the kernel's arguments. -/
theorem facts_kernel : Cert.Pre_low_1920_1920_nonneg_KernelIdeal.Facts := ⟨by decide, by decide, by decide, by decide⟩

/-- The same where no number is negative, of the reference's arguments. -/
theorem facts_reference : Cert.Pre_low_1920_1920_nonneg_ReferenceIdeal.Facts := ⟨by decide, by decide, by decide, by decide⟩

/-- The kernel's frame at the floats' words, where 1920 numbers are low. -/
theorem frame_kernel : Cert.quiescent_Kernel_pre_low_1920_1920 (hKernel := Cert.Kernel.Gen.facts) (hPre_low_1920_1920 := facts) :=
  fun m g h => frame_words m g ⟨_, _, fun c => chunks_of 1920 1920 (by decide) _ (h c)⟩

/-- The kernel's frame at the reals, where 1920 numbers are low. -/
theorem frame_ideal : Cert.quiescent_KernelIdeal_pre_low_1920_1920 (hKernelIdeal := Cert.KernelIdeal.Gen.facts) (hPre_low_1920_1920 := facts) :=
  fun m g h => frame_any (F := Ideal) m g ⟨_, _, fun c => chunks_of 1920 1920 (by decide) _ (h c)⟩

/-- The kernel's frame at the reals, where 1920 numbers are low and none is negative. -/
theorem frame_nonneg : Cert.quiescent_KernelIdeal_pre_low_1920_1920_nonneg_KernelIdeal
    (hKernelIdeal := Cert.KernelIdeal.Gen.facts) (hPre_low_1920_1920_nonneg_KernelIdeal := facts_kernel) :=
  fun m g h => frame_any (F := Ideal) m g ⟨_, _, fun c => chunks_of 1920 1920 (by decide) _ (h c).2⟩

/-- The reference's frame, where 1920 numbers are low and none is negative. -/
theorem frame_ref : Cert.quiescent_ReferenceIdeal_pre_low_1920_1920_nonneg_ReferenceIdeal
    (hReferenceIdeal := Cert.ReferenceIdeal.Gen.facts) (hPre_low_1920_1920_nonneg_ReferenceIdeal := facts_reference) :=
  fun m g _ => frame_reference m g trivial

/-- The value, where 1920 numbers are low and none is negative: every device of the kernel ends with the reference's result. -/
theorem algebraic : Cert.algebraic_KernelIdeal_ReferenceIdeal_pre_low_1920_1920_nonneg_KernelIdeal
    (hKernelIdeal := Cert.KernelIdeal.Gen.facts) (hReferenceIdeal := Cert.ReferenceIdeal.Gen.facts)
    (hPre_low_1920_1920_nonneg_KernelIdeal := facts_kernel) :=
  fun m g m' g' hpre hagree => value m g m' g' ⟨_, _, fun c => chunks_of 1920 1920 (by decide) _ (hpre c).2⟩
    (nonneg_of _ facts_kernel.bcast_S_S4096 (hpre 0).1) hagree

end low_1920_1920

namespace low_2048_2048

/-- The side conditions of the precondition that 2048 numbers are low. -/
theorem facts : Cert.Pre_low_2048_2048.Facts := ⟨by decide, by decide, by decide, by decide⟩

/-- The same where no number is negative, of the kernel's arguments. -/
theorem facts_kernel : Cert.Pre_low_2048_2048_nonneg_KernelIdeal.Facts := ⟨by decide, by decide, by decide, by decide⟩

/-- The same where no number is negative, of the reference's arguments. -/
theorem facts_reference : Cert.Pre_low_2048_2048_nonneg_ReferenceIdeal.Facts := ⟨by decide, by decide, by decide, by decide⟩

/-- The kernel's frame at the floats' words, where 2048 numbers are low. -/
theorem frame_kernel : Cert.quiescent_Kernel_pre_low_2048_2048 (hKernel := Cert.Kernel.Gen.facts) (hPre_low_2048_2048 := facts) :=
  fun m g h => frame_words m g ⟨_, _, fun c => chunks_of 2048 2048 (by decide) _ (h c)⟩

/-- The kernel's frame at the reals, where 2048 numbers are low. -/
theorem frame_ideal : Cert.quiescent_KernelIdeal_pre_low_2048_2048 (hKernelIdeal := Cert.KernelIdeal.Gen.facts) (hPre_low_2048_2048 := facts) :=
  fun m g h => frame_any (F := Ideal) m g ⟨_, _, fun c => chunks_of 2048 2048 (by decide) _ (h c)⟩

/-- The kernel's frame at the reals, where 2048 numbers are low and none is negative. -/
theorem frame_nonneg : Cert.quiescent_KernelIdeal_pre_low_2048_2048_nonneg_KernelIdeal
    (hKernelIdeal := Cert.KernelIdeal.Gen.facts) (hPre_low_2048_2048_nonneg_KernelIdeal := facts_kernel) :=
  fun m g h => frame_any (F := Ideal) m g ⟨_, _, fun c => chunks_of 2048 2048 (by decide) _ (h c).2⟩

/-- The reference's frame, where 2048 numbers are low and none is negative. -/
theorem frame_ref : Cert.quiescent_ReferenceIdeal_pre_low_2048_2048_nonneg_ReferenceIdeal
    (hReferenceIdeal := Cert.ReferenceIdeal.Gen.facts) (hPre_low_2048_2048_nonneg_ReferenceIdeal := facts_reference) :=
  fun m g _ => frame_reference m g trivial

/-- The value, where 2048 numbers are low and none is negative: every device of the kernel ends with the reference's result. -/
theorem algebraic : Cert.algebraic_KernelIdeal_ReferenceIdeal_pre_low_2048_2048_nonneg_KernelIdeal
    (hKernelIdeal := Cert.KernelIdeal.Gen.facts) (hReferenceIdeal := Cert.ReferenceIdeal.Gen.facts)
    (hPre_low_2048_2048_nonneg_KernelIdeal := facts_kernel) :=
  fun m g m' g' hpre hagree => value m g m' g' ⟨_, _, fun c => chunks_of 2048 2048 (by decide) _ (hpre c).2⟩
    (nonneg_of _ facts_kernel.bcast_S_S4096 (hpre 0).1) hagree

end low_2048_2048

namespace low_2176_2176

/-- The side conditions of the precondition that 2176 numbers are low. -/
theorem facts : Cert.Pre_low_2176_2176.Facts := ⟨by decide, by decide, by decide, by decide⟩

/-- The same where no number is negative, of the kernel's arguments. -/
theorem facts_kernel : Cert.Pre_low_2176_2176_nonneg_KernelIdeal.Facts := ⟨by decide, by decide, by decide, by decide⟩

/-- The same where no number is negative, of the reference's arguments. -/
theorem facts_reference : Cert.Pre_low_2176_2176_nonneg_ReferenceIdeal.Facts := ⟨by decide, by decide, by decide, by decide⟩

/-- The kernel's frame at the floats' words, where 2176 numbers are low. -/
theorem frame_kernel : Cert.quiescent_Kernel_pre_low_2176_2176 (hKernel := Cert.Kernel.Gen.facts) (hPre_low_2176_2176 := facts) :=
  fun m g h => frame_words m g ⟨_, _, fun c => chunks_of 2176 2176 (by decide) _ (h c)⟩

/-- The kernel's frame at the reals, where 2176 numbers are low. -/
theorem frame_ideal : Cert.quiescent_KernelIdeal_pre_low_2176_2176 (hKernelIdeal := Cert.KernelIdeal.Gen.facts) (hPre_low_2176_2176 := facts) :=
  fun m g h => frame_any (F := Ideal) m g ⟨_, _, fun c => chunks_of 2176 2176 (by decide) _ (h c)⟩

/-- The kernel's frame at the reals, where 2176 numbers are low and none is negative. -/
theorem frame_nonneg : Cert.quiescent_KernelIdeal_pre_low_2176_2176_nonneg_KernelIdeal
    (hKernelIdeal := Cert.KernelIdeal.Gen.facts) (hPre_low_2176_2176_nonneg_KernelIdeal := facts_kernel) :=
  fun m g h => frame_any (F := Ideal) m g ⟨_, _, fun c => chunks_of 2176 2176 (by decide) _ (h c).2⟩

/-- The reference's frame, where 2176 numbers are low and none is negative. -/
theorem frame_ref : Cert.quiescent_ReferenceIdeal_pre_low_2176_2176_nonneg_ReferenceIdeal
    (hReferenceIdeal := Cert.ReferenceIdeal.Gen.facts) (hPre_low_2176_2176_nonneg_ReferenceIdeal := facts_reference) :=
  fun m g _ => frame_reference m g trivial

/-- The value, where 2176 numbers are low and none is negative: every device of the kernel ends with the reference's result. -/
theorem algebraic : Cert.algebraic_KernelIdeal_ReferenceIdeal_pre_low_2176_2176_nonneg_KernelIdeal
    (hKernelIdeal := Cert.KernelIdeal.Gen.facts) (hReferenceIdeal := Cert.ReferenceIdeal.Gen.facts)
    (hPre_low_2176_2176_nonneg_KernelIdeal := facts_kernel) :=
  fun m g m' g' hpre hagree => value m g m' g' ⟨_, _, fun c => chunks_of 2176 2176 (by decide) _ (hpre c).2⟩
    (nonneg_of _ facts_kernel.bcast_S_S4096 (hpre 0).1) hagree

end low_2176_2176

namespace low_2304_2304

/-- The side conditions of the precondition that 2304 numbers are low. -/
theorem facts : Cert.Pre_low_2304_2304.Facts := ⟨by decide, by decide, by decide, by decide⟩

/-- The same where no number is negative, of the kernel's arguments. -/
theorem facts_kernel : Cert.Pre_low_2304_2304_nonneg_KernelIdeal.Facts := ⟨by decide, by decide, by decide, by decide⟩

/-- The same where no number is negative, of the reference's arguments. -/
theorem facts_reference : Cert.Pre_low_2304_2304_nonneg_ReferenceIdeal.Facts := ⟨by decide, by decide, by decide, by decide⟩

/-- The kernel's frame at the floats' words, where 2304 numbers are low. -/
theorem frame_kernel : Cert.quiescent_Kernel_pre_low_2304_2304 (hKernel := Cert.Kernel.Gen.facts) (hPre_low_2304_2304 := facts) :=
  fun m g h => frame_words m g ⟨_, _, fun c => chunks_of 2304 2304 (by decide) _ (h c)⟩

/-- The kernel's frame at the reals, where 2304 numbers are low. -/
theorem frame_ideal : Cert.quiescent_KernelIdeal_pre_low_2304_2304 (hKernelIdeal := Cert.KernelIdeal.Gen.facts) (hPre_low_2304_2304 := facts) :=
  fun m g h => frame_any (F := Ideal) m g ⟨_, _, fun c => chunks_of 2304 2304 (by decide) _ (h c)⟩

/-- The kernel's frame at the reals, where 2304 numbers are low and none is negative. -/
theorem frame_nonneg : Cert.quiescent_KernelIdeal_pre_low_2304_2304_nonneg_KernelIdeal
    (hKernelIdeal := Cert.KernelIdeal.Gen.facts) (hPre_low_2304_2304_nonneg_KernelIdeal := facts_kernel) :=
  fun m g h => frame_any (F := Ideal) m g ⟨_, _, fun c => chunks_of 2304 2304 (by decide) _ (h c).2⟩

/-- The reference's frame, where 2304 numbers are low and none is negative. -/
theorem frame_ref : Cert.quiescent_ReferenceIdeal_pre_low_2304_2304_nonneg_ReferenceIdeal
    (hReferenceIdeal := Cert.ReferenceIdeal.Gen.facts) (hPre_low_2304_2304_nonneg_ReferenceIdeal := facts_reference) :=
  fun m g _ => frame_reference m g trivial

/-- The value, where 2304 numbers are low and none is negative: every device of the kernel ends with the reference's result. -/
theorem algebraic : Cert.algebraic_KernelIdeal_ReferenceIdeal_pre_low_2304_2304_nonneg_KernelIdeal
    (hKernelIdeal := Cert.KernelIdeal.Gen.facts) (hReferenceIdeal := Cert.ReferenceIdeal.Gen.facts)
    (hPre_low_2304_2304_nonneg_KernelIdeal := facts_kernel) :=
  fun m g m' g' hpre hagree => value m g m' g' ⟨_, _, fun c => chunks_of 2304 2304 (by decide) _ (hpre c).2⟩
    (nonneg_of _ facts_kernel.bcast_S_S4096 (hpre 0).1) hagree

end low_2304_2304

namespace low_2432_2432

/-- The side conditions of the precondition that 2432 numbers are low. -/
theorem facts : Cert.Pre_low_2432_2432.Facts := ⟨by decide, by decide, by decide, by decide⟩

/-- The same where no number is negative, of the kernel's arguments. -/
theorem facts_kernel : Cert.Pre_low_2432_2432_nonneg_KernelIdeal.Facts := ⟨by decide, by decide, by decide, by decide⟩

/-- The same where no number is negative, of the reference's arguments. -/
theorem facts_reference : Cert.Pre_low_2432_2432_nonneg_ReferenceIdeal.Facts := ⟨by decide, by decide, by decide, by decide⟩

/-- The kernel's frame at the floats' words, where 2432 numbers are low. -/
theorem frame_kernel : Cert.quiescent_Kernel_pre_low_2432_2432 (hKernel := Cert.Kernel.Gen.facts) (hPre_low_2432_2432 := facts) :=
  fun m g h => frame_words m g ⟨_, _, fun c => chunks_of 2432 2432 (by decide) _ (h c)⟩

/-- The kernel's frame at the reals, where 2432 numbers are low. -/
theorem frame_ideal : Cert.quiescent_KernelIdeal_pre_low_2432_2432 (hKernelIdeal := Cert.KernelIdeal.Gen.facts) (hPre_low_2432_2432 := facts) :=
  fun m g h => frame_any (F := Ideal) m g ⟨_, _, fun c => chunks_of 2432 2432 (by decide) _ (h c)⟩

/-- The kernel's frame at the reals, where 2432 numbers are low and none is negative. -/
theorem frame_nonneg : Cert.quiescent_KernelIdeal_pre_low_2432_2432_nonneg_KernelIdeal
    (hKernelIdeal := Cert.KernelIdeal.Gen.facts) (hPre_low_2432_2432_nonneg_KernelIdeal := facts_kernel) :=
  fun m g h => frame_any (F := Ideal) m g ⟨_, _, fun c => chunks_of 2432 2432 (by decide) _ (h c).2⟩

/-- The reference's frame, where 2432 numbers are low and none is negative. -/
theorem frame_ref : Cert.quiescent_ReferenceIdeal_pre_low_2432_2432_nonneg_ReferenceIdeal
    (hReferenceIdeal := Cert.ReferenceIdeal.Gen.facts) (hPre_low_2432_2432_nonneg_ReferenceIdeal := facts_reference) :=
  fun m g _ => frame_reference m g trivial

/-- The value, where 2432 numbers are low and none is negative: every device of the kernel ends with the reference's result. -/
theorem algebraic : Cert.algebraic_KernelIdeal_ReferenceIdeal_pre_low_2432_2432_nonneg_KernelIdeal
    (hKernelIdeal := Cert.KernelIdeal.Gen.facts) (hReferenceIdeal := Cert.ReferenceIdeal.Gen.facts)
    (hPre_low_2432_2432_nonneg_KernelIdeal := facts_kernel) :=
  fun m g m' g' hpre hagree => value m g m' g' ⟨_, _, fun c => chunks_of 2432 2432 (by decide) _ (hpre c).2⟩
    (nonneg_of _ facts_kernel.bcast_S_S4096 (hpre 0).1) hagree

end low_2432_2432

namespace low_2560_2560

/-- The side conditions of the precondition that 2560 numbers are low. -/
theorem facts : Cert.Pre_low_2560_2560.Facts := ⟨by decide, by decide, by decide, by decide⟩

/-- The same where no number is negative, of the kernel's arguments. -/
theorem facts_kernel : Cert.Pre_low_2560_2560_nonneg_KernelIdeal.Facts := ⟨by decide, by decide, by decide, by decide⟩

/-- The same where no number is negative, of the reference's arguments. -/
theorem facts_reference : Cert.Pre_low_2560_2560_nonneg_ReferenceIdeal.Facts := ⟨by decide, by decide, by decide, by decide⟩

/-- The kernel's frame at the floats' words, where 2560 numbers are low. -/
theorem frame_kernel : Cert.quiescent_Kernel_pre_low_2560_2560 (hKernel := Cert.Kernel.Gen.facts) (hPre_low_2560_2560 := facts) :=
  fun m g h => frame_words m g ⟨_, _, fun c => chunks_of 2560 2560 (by decide) _ (h c)⟩

/-- The kernel's frame at the reals, where 2560 numbers are low. -/
theorem frame_ideal : Cert.quiescent_KernelIdeal_pre_low_2560_2560 (hKernelIdeal := Cert.KernelIdeal.Gen.facts) (hPre_low_2560_2560 := facts) :=
  fun m g h => frame_any (F := Ideal) m g ⟨_, _, fun c => chunks_of 2560 2560 (by decide) _ (h c)⟩

/-- The kernel's frame at the reals, where 2560 numbers are low and none is negative. -/
theorem frame_nonneg : Cert.quiescent_KernelIdeal_pre_low_2560_2560_nonneg_KernelIdeal
    (hKernelIdeal := Cert.KernelIdeal.Gen.facts) (hPre_low_2560_2560_nonneg_KernelIdeal := facts_kernel) :=
  fun m g h => frame_any (F := Ideal) m g ⟨_, _, fun c => chunks_of 2560 2560 (by decide) _ (h c).2⟩

/-- The reference's frame, where 2560 numbers are low and none is negative. -/
theorem frame_ref : Cert.quiescent_ReferenceIdeal_pre_low_2560_2560_nonneg_ReferenceIdeal
    (hReferenceIdeal := Cert.ReferenceIdeal.Gen.facts) (hPre_low_2560_2560_nonneg_ReferenceIdeal := facts_reference) :=
  fun m g _ => frame_reference m g trivial

/-- The value, where 2560 numbers are low and none is negative: every device of the kernel ends with the reference's result. -/
theorem algebraic : Cert.algebraic_KernelIdeal_ReferenceIdeal_pre_low_2560_2560_nonneg_KernelIdeal
    (hKernelIdeal := Cert.KernelIdeal.Gen.facts) (hReferenceIdeal := Cert.ReferenceIdeal.Gen.facts)
    (hPre_low_2560_2560_nonneg_KernelIdeal := facts_kernel) :=
  fun m g m' g' hpre hagree => value m g m' g' ⟨_, _, fun c => chunks_of 2560 2560 (by decide) _ (hpre c).2⟩
    (nonneg_of _ facts_kernel.bcast_S_S4096 (hpre 0).1) hagree

end low_2560_2560

end Cert.Proof

end
-- ==== Proof.Partly.lean ====
module

public import proofs.«01_k».proof.Proof.Answer

/-!
# Counts between whole chunks

The claims of one precondition each: the count of low numbers lies strictly between two multiples of a chunk, so the last chunk
of each part is only partly in use.
-/

@[expose] public section

noncomputable section

namespace Cert.Proof

open Idealize.ShloMosaic Idealize.SL.Sem
open Cert.KernelIdeal.Lookup Cert.ReferenceIdeal.Lookup

namespace low_1537_1663

/-- The side conditions of the precondition that from 1537 to 1663 numbers are low. -/
theorem facts : Cert.Pre_low_1537_1663.Facts := ⟨by decide, by decide, by decide, by decide⟩

/-- The same where no number is negative, of the kernel's arguments. -/
theorem facts_kernel : Cert.Pre_low_1537_1663_nonneg_KernelIdeal.Facts := ⟨by decide, by decide, by decide, by decide⟩

/-- The same where no number is negative, of the reference's arguments. -/
theorem facts_reference : Cert.Pre_low_1537_1663_nonneg_ReferenceIdeal.Facts := ⟨by decide, by decide, by decide, by decide⟩

/-- The kernel's frame at the floats' words, where from 1537 to 1663 numbers are low. -/
theorem frame_kernel : Cert.quiescent_Kernel_pre_low_1537_1663 (hKernel := Cert.Kernel.Gen.facts) (hPre_low_1537_1663 := facts) :=
  fun m g h => frame_words m g ⟨_, _, fun c => chunks_of 1537 1663 (by decide) _ (h c)⟩

/-- The kernel's frame at the reals, where from 1537 to 1663 numbers are low. -/
theorem frame_ideal : Cert.quiescent_KernelIdeal_pre_low_1537_1663 (hKernelIdeal := Cert.KernelIdeal.Gen.facts) (hPre_low_1537_1663 := facts) :=
  fun m g h => frame_any (F := Ideal) m g ⟨_, _, fun c => chunks_of 1537 1663 (by decide) _ (h c)⟩

/-- The kernel's frame at the reals, where from 1537 to 1663 numbers are low and none is negative. -/
theorem frame_nonneg : Cert.quiescent_KernelIdeal_pre_low_1537_1663_nonneg_KernelIdeal
    (hKernelIdeal := Cert.KernelIdeal.Gen.facts) (hPre_low_1537_1663_nonneg_KernelIdeal := facts_kernel) :=
  fun m g h => frame_any (F := Ideal) m g ⟨_, _, fun c => chunks_of 1537 1663 (by decide) _ (h c).2⟩

/-- The reference's frame, where from 1537 to 1663 numbers are low and none is negative. -/
theorem frame_ref : Cert.quiescent_ReferenceIdeal_pre_low_1537_1663_nonneg_ReferenceIdeal
    (hReferenceIdeal := Cert.ReferenceIdeal.Gen.facts) (hPre_low_1537_1663_nonneg_ReferenceIdeal := facts_reference) :=
  fun m g _ => frame_reference m g trivial

/-- The value, where from 1537 to 1663 numbers are low and none is negative: every device of the kernel ends with the reference's result. -/
theorem algebraic : Cert.algebraic_KernelIdeal_ReferenceIdeal_pre_low_1537_1663_nonneg_KernelIdeal
    (hKernelIdeal := Cert.KernelIdeal.Gen.facts) (hReferenceIdeal := Cert.ReferenceIdeal.Gen.facts)
    (hPre_low_1537_1663_nonneg_KernelIdeal := facts_kernel) :=
  fun m g m' g' hpre hagree => value m g m' g' ⟨_, _, fun c => chunks_of 1537 1663 (by decide) _ (hpre c).2⟩
    (nonneg_of _ facts_kernel.bcast_S_S4096 (hpre 0).1) hagree

end low_1537_1663

namespace low_1665_1791

/-- The side conditions of the precondition that from 1665 to 1791 numbers are low. -/
theorem facts : Cert.Pre_low_1665_1791.Facts := ⟨by decide, by decide, by decide, by decide⟩

/-- The same where no number is negative, of the kernel's arguments. -/
theorem facts_kernel : Cert.Pre_low_1665_1791_nonneg_KernelIdeal.Facts := ⟨by decide, by decide, by decide, by decide⟩

/-- The same where no number is negative, of the reference's arguments. -/
theorem facts_reference : Cert.Pre_low_1665_1791_nonneg_ReferenceIdeal.Facts := ⟨by decide, by decide, by decide, by decide⟩

/-- The kernel's frame at the floats' words, where from 1665 to 1791 numbers are low. -/
theorem frame_kernel : Cert.quiescent_Kernel_pre_low_1665_1791 (hKernel := Cert.Kernel.Gen.facts) (hPre_low_1665_1791 := facts) :=
  fun m g h => frame_words m g ⟨_, _, fun c => chunks_of 1665 1791 (by decide) _ (h c)⟩

/-- The kernel's frame at the reals, where from 1665 to 1791 numbers are low. -/
theorem frame_ideal : Cert.quiescent_KernelIdeal_pre_low_1665_1791 (hKernelIdeal := Cert.KernelIdeal.Gen.facts) (hPre_low_1665_1791 := facts) :=
  fun m g h => frame_any (F := Ideal) m g ⟨_, _, fun c => chunks_of 1665 1791 (by decide) _ (h c)⟩

/-- The kernel's frame at the reals, where from 1665 to 1791 numbers are low and none is negative. -/
theorem frame_nonneg : Cert.quiescent_KernelIdeal_pre_low_1665_1791_nonneg_KernelIdeal
    (hKernelIdeal := Cert.KernelIdeal.Gen.facts) (hPre_low_1665_1791_nonneg_KernelIdeal := facts_kernel) :=
  fun m g h => frame_any (F := Ideal) m g ⟨_, _, fun c => chunks_of 1665 1791 (by decide) _ (h c).2⟩

/-- The reference's frame, where from 1665 to 1791 numbers are low and none is negative. -/
theorem frame_ref : Cert.quiescent_ReferenceIdeal_pre_low_1665_1791_nonneg_ReferenceIdeal
    (hReferenceIdeal := Cert.ReferenceIdeal.Gen.facts) (hPre_low_1665_1791_nonneg_ReferenceIdeal := facts_reference) :=
  fun m g _ => frame_reference m g trivial

/-- The value, where from 1665 to 1791 numbers are low and none is negative: every device of the kernel ends with the reference's result. -/
theorem algebraic : Cert.algebraic_KernelIdeal_ReferenceIdeal_pre_low_1665_1791_nonneg_KernelIdeal
    (hKernelIdeal := Cert.KernelIdeal.Gen.facts) (hReferenceIdeal := Cert.ReferenceIdeal.Gen.facts)
    (hPre_low_1665_1791_nonneg_KernelIdeal := facts_kernel) :=
  fun m g m' g' hpre hagree => value m g m' g' ⟨_, _, fun c => chunks_of 1665 1791 (by decide) _ (hpre c).2⟩
    (nonneg_of _ facts_kernel.bcast_S_S4096 (hpre 0).1) hagree

end low_1665_1791

namespace low_1793_1919

/-- The side conditions of the precondition that from 1793 to 1919 numbers are low. -/
theorem facts : Cert.Pre_low_1793_1919.Facts := ⟨by decide, by decide, by decide, by decide⟩

/-- The same where no number is negative, of the kernel's arguments. -/
theorem facts_kernel : Cert.Pre_low_1793_1919_nonneg_KernelIdeal.Facts := ⟨by decide, by decide, by decide, by decide⟩

/-- The same where no number is negative, of the reference's arguments. -/
theorem facts_reference : Cert.Pre_low_1793_1919_nonneg_ReferenceIdeal.Facts := ⟨by decide, by decide, by decide, by decide⟩

/-- The kernel's frame at the floats' words, where from 1793 to 1919 numbers are low. -/
theorem frame_kernel : Cert.quiescent_Kernel_pre_low_1793_1919 (hKernel := Cert.Kernel.Gen.facts) (hPre_low_1793_1919 := facts) :=
  fun m g h => frame_words m g ⟨_, _, fun c => chunks_of 1793 1919 (by decide) _ (h c)⟩

/-- The kernel's frame at the reals, where from 1793 to 1919 numbers are low. -/
theorem frame_ideal : Cert.quiescent_KernelIdeal_pre_low_1793_1919 (hKernelIdeal := Cert.KernelIdeal.Gen.facts) (hPre_low_1793_1919 := facts) :=
  fun m g h => frame_any (F := Ideal) m g ⟨_, _, fun c => chunks_of 1793 1919 (by decide) _ (h c)⟩

/-- The kernel's frame at the reals, where from 1793 to 1919 numbers are low and none is negative. -/
theorem frame_nonneg : Cert.quiescent_KernelIdeal_pre_low_1793_1919_nonneg_KernelIdeal
    (hKernelIdeal := Cert.KernelIdeal.Gen.facts) (hPre_low_1793_1919_nonneg_KernelIdeal := facts_kernel) :=
  fun m g h => frame_any (F := Ideal) m g ⟨_, _, fun c => chunks_of 1793 1919 (by decide) _ (h c).2⟩

/-- The reference's frame, where from 1793 to 1919 numbers are low and none is negative. -/
theorem frame_ref : Cert.quiescent_ReferenceIdeal_pre_low_1793_1919_nonneg_ReferenceIdeal
    (hReferenceIdeal := Cert.ReferenceIdeal.Gen.facts) (hPre_low_1793_1919_nonneg_ReferenceIdeal := facts_reference) :=
  fun m g _ => frame_reference m g trivial

/-- The value, where from 1793 to 1919 numbers are low and none is negative: every device of the kernel ends with the reference's result. -/
theorem algebraic : Cert.algebraic_KernelIdeal_ReferenceIdeal_pre_low_1793_1919_nonneg_KernelIdeal
    (hKernelIdeal := Cert.KernelIdeal.Gen.facts) (hReferenceIdeal := Cert.ReferenceIdeal.Gen.facts)
    (hPre_low_1793_1919_nonneg_KernelIdeal := facts_kernel) :=
  fun m g m' g' hpre hagree => value m g m' g' ⟨_, _, fun c => chunks_of 1793 1919 (by decide) _ (hpre c).2⟩
    (nonneg_of _ facts_kernel.bcast_S_S4096 (hpre 0).1) hagree

end low_1793_1919

namespace low_1921_2047

/-- The side conditions of the precondition that from 1921 to 2047 numbers are low. -/
theorem facts : Cert.Pre_low_1921_2047.Facts := ⟨by decide, by decide, by decide, by decide⟩

/-- The same where no number is negative, of the kernel's arguments. -/
theorem facts_kernel : Cert.Pre_low_1921_2047_nonneg_KernelIdeal.Facts := ⟨by decide, by decide, by decide, by decide⟩

/-- The same where no number is negative, of the reference's arguments. -/
theorem facts_reference : Cert.Pre_low_1921_2047_nonneg_ReferenceIdeal.Facts := ⟨by decide, by decide, by decide, by decide⟩

/-- The kernel's frame at the floats' words, where from 1921 to 2047 numbers are low. -/
theorem frame_kernel : Cert.quiescent_Kernel_pre_low_1921_2047 (hKernel := Cert.Kernel.Gen.facts) (hPre_low_1921_2047 := facts) :=
  fun m g h => frame_words m g ⟨_, _, fun c => chunks_of 1921 2047 (by decide) _ (h c)⟩

/-- The kernel's frame at the reals, where from 1921 to 2047 numbers are low. -/
theorem frame_ideal : Cert.quiescent_KernelIdeal_pre_low_1921_2047 (hKernelIdeal := Cert.KernelIdeal.Gen.facts) (hPre_low_1921_2047 := facts) :=
  fun m g h => frame_any (F := Ideal) m g ⟨_, _, fun c => chunks_of 1921 2047 (by decide) _ (h c)⟩

/-- The kernel's frame at the reals, where from 1921 to 2047 numbers are low and none is negative. -/
theorem frame_nonneg : Cert.quiescent_KernelIdeal_pre_low_1921_2047_nonneg_KernelIdeal
    (hKernelIdeal := Cert.KernelIdeal.Gen.facts) (hPre_low_1921_2047_nonneg_KernelIdeal := facts_kernel) :=
  fun m g h => frame_any (F := Ideal) m g ⟨_, _, fun c => chunks_of 1921 2047 (by decide) _ (h c).2⟩

/-- The reference's frame, where from 1921 to 2047 numbers are low and none is negative. -/
theorem frame_ref : Cert.quiescent_ReferenceIdeal_pre_low_1921_2047_nonneg_ReferenceIdeal
    (hReferenceIdeal := Cert.ReferenceIdeal.Gen.facts) (hPre_low_1921_2047_nonneg_ReferenceIdeal := facts_reference) :=
  fun m g _ => frame_reference m g trivial

/-- The value, where from 1921 to 2047 numbers are low and none is negative: every device of the kernel ends with the reference's result. -/
theorem algebraic : Cert.algebraic_KernelIdeal_ReferenceIdeal_pre_low_1921_2047_nonneg_KernelIdeal
    (hKernelIdeal := Cert.KernelIdeal.Gen.facts) (hReferenceIdeal := Cert.ReferenceIdeal.Gen.facts)
    (hPre_low_1921_2047_nonneg_KernelIdeal := facts_kernel) :=
  fun m g m' g' hpre hagree => value m g m' g' ⟨_, _, fun c => chunks_of 1921 2047 (by decide) _ (hpre c).2⟩
    (nonneg_of _ facts_kernel.bcast_S_S4096 (hpre 0).1) hagree

end low_1921_2047

namespace low_2049_2175

/-- The side conditions of the precondition that from 2049 to 2175 numbers are low. -/
theorem facts : Cert.Pre_low_2049_2175.Facts := ⟨by decide, by decide, by decide, by decide⟩

/-- The same where no number is negative, of the kernel's arguments. -/
theorem facts_kernel : Cert.Pre_low_2049_2175_nonneg_KernelIdeal.Facts := ⟨by decide, by decide, by decide, by decide⟩

/-- The same where no number is negative, of the reference's arguments. -/
theorem facts_reference : Cert.Pre_low_2049_2175_nonneg_ReferenceIdeal.Facts := ⟨by decide, by decide, by decide, by decide⟩

/-- The kernel's frame at the floats' words, where from 2049 to 2175 numbers are low. -/
theorem frame_kernel : Cert.quiescent_Kernel_pre_low_2049_2175 (hKernel := Cert.Kernel.Gen.facts) (hPre_low_2049_2175 := facts) :=
  fun m g h => frame_words m g ⟨_, _, fun c => chunks_of 2049 2175 (by decide) _ (h c)⟩

/-- The kernel's frame at the reals, where from 2049 to 2175 numbers are low. -/
theorem frame_ideal : Cert.quiescent_KernelIdeal_pre_low_2049_2175 (hKernelIdeal := Cert.KernelIdeal.Gen.facts) (hPre_low_2049_2175 := facts) :=
  fun m g h => frame_any (F := Ideal) m g ⟨_, _, fun c => chunks_of 2049 2175 (by decide) _ (h c)⟩

/-- The kernel's frame at the reals, where from 2049 to 2175 numbers are low and none is negative. -/
theorem frame_nonneg : Cert.quiescent_KernelIdeal_pre_low_2049_2175_nonneg_KernelIdeal
    (hKernelIdeal := Cert.KernelIdeal.Gen.facts) (hPre_low_2049_2175_nonneg_KernelIdeal := facts_kernel) :=
  fun m g h => frame_any (F := Ideal) m g ⟨_, _, fun c => chunks_of 2049 2175 (by decide) _ (h c).2⟩

/-- The reference's frame, where from 2049 to 2175 numbers are low and none is negative. -/
theorem frame_ref : Cert.quiescent_ReferenceIdeal_pre_low_2049_2175_nonneg_ReferenceIdeal
    (hReferenceIdeal := Cert.ReferenceIdeal.Gen.facts) (hPre_low_2049_2175_nonneg_ReferenceIdeal := facts_reference) :=
  fun m g _ => frame_reference m g trivial

/-- The value, where from 2049 to 2175 numbers are low and none is negative: every device of the kernel ends with the reference's result. -/
theorem algebraic : Cert.algebraic_KernelIdeal_ReferenceIdeal_pre_low_2049_2175_nonneg_KernelIdeal
    (hKernelIdeal := Cert.KernelIdeal.Gen.facts) (hReferenceIdeal := Cert.ReferenceIdeal.Gen.facts)
    (hPre_low_2049_2175_nonneg_KernelIdeal := facts_kernel) :=
  fun m g m' g' hpre hagree => value m g m' g' ⟨_, _, fun c => chunks_of 2049 2175 (by decide) _ (hpre c).2⟩
    (nonneg_of _ facts_kernel.bcast_S_S4096 (hpre 0).1) hagree

end low_2049_2175

namespace low_2177_2303

/-- The side conditions of the precondition that from 2177 to 2303 numbers are low. -/
theorem facts : Cert.Pre_low_2177_2303.Facts := ⟨by decide, by decide, by decide, by decide⟩

/-- The same where no number is negative, of the kernel's arguments. -/
theorem facts_kernel : Cert.Pre_low_2177_2303_nonneg_KernelIdeal.Facts := ⟨by decide, by decide, by decide, by decide⟩

/-- The same where no number is negative, of the reference's arguments. -/
theorem facts_reference : Cert.Pre_low_2177_2303_nonneg_ReferenceIdeal.Facts := ⟨by decide, by decide, by decide, by decide⟩

/-- The kernel's frame at the floats' words, where from 2177 to 2303 numbers are low. -/
theorem frame_kernel : Cert.quiescent_Kernel_pre_low_2177_2303 (hKernel := Cert.Kernel.Gen.facts) (hPre_low_2177_2303 := facts) :=
  fun m g h => frame_words m g ⟨_, _, fun c => chunks_of 2177 2303 (by decide) _ (h c)⟩

/-- The kernel's frame at the reals, where from 2177 to 2303 numbers are low. -/
theorem frame_ideal : Cert.quiescent_KernelIdeal_pre_low_2177_2303 (hKernelIdeal := Cert.KernelIdeal.Gen.facts) (hPre_low_2177_2303 := facts) :=
  fun m g h => frame_any (F := Ideal) m g ⟨_, _, fun c => chunks_of 2177 2303 (by decide) _ (h c)⟩

/-- The kernel's frame at the reals, where from 2177 to 2303 numbers are low and none is negative. -/
theorem frame_nonneg : Cert.quiescent_KernelIdeal_pre_low_2177_2303_nonneg_KernelIdeal
    (hKernelIdeal := Cert.KernelIdeal.Gen.facts) (hPre_low_2177_2303_nonneg_KernelIdeal := facts_kernel) :=
  fun m g h => frame_any (F := Ideal) m g ⟨_, _, fun c => chunks_of 2177 2303 (by decide) _ (h c).2⟩

/-- The reference's frame, where from 2177 to 2303 numbers are low and none is negative. -/
theorem frame_ref : Cert.quiescent_ReferenceIdeal_pre_low_2177_2303_nonneg_ReferenceIdeal
    (hReferenceIdeal := Cert.ReferenceIdeal.Gen.facts) (hPre_low_2177_2303_nonneg_ReferenceIdeal := facts_reference) :=
  fun m g _ => frame_reference m g trivial

/-- The value, where from 2177 to 2303 numbers are low and none is negative: every device of the kernel ends with the reference's result. -/
theorem algebraic : Cert.algebraic_KernelIdeal_ReferenceIdeal_pre_low_2177_2303_nonneg_KernelIdeal
    (hKernelIdeal := Cert.KernelIdeal.Gen.facts) (hReferenceIdeal := Cert.ReferenceIdeal.Gen.facts)
    (hPre_low_2177_2303_nonneg_KernelIdeal := facts_kernel) :=
  fun m g m' g' hpre hagree => value m g m' g' ⟨_, _, fun c => chunks_of 2177 2303 (by decide) _ (hpre c).2⟩
    (nonneg_of _ facts_kernel.bcast_S_S4096 (hpre 0).1) hagree

end low_2177_2303

namespace low_2305_2431

/-- The side conditions of the precondition that from 2305 to 2431 numbers are low. -/
theorem facts : Cert.Pre_low_2305_2431.Facts := ⟨by decide, by decide, by decide, by decide⟩

/-- The same where no number is negative, of the kernel's arguments. -/
theorem facts_kernel : Cert.Pre_low_2305_2431_nonneg_KernelIdeal.Facts := ⟨by decide, by decide, by decide, by decide⟩

/-- The same where no number is negative, of the reference's arguments. -/
theorem facts_reference : Cert.Pre_low_2305_2431_nonneg_ReferenceIdeal.Facts := ⟨by decide, by decide, by decide, by decide⟩

/-- The kernel's frame at the floats' words, where from 2305 to 2431 numbers are low. -/
theorem frame_kernel : Cert.quiescent_Kernel_pre_low_2305_2431 (hKernel := Cert.Kernel.Gen.facts) (hPre_low_2305_2431 := facts) :=
  fun m g h => frame_words m g ⟨_, _, fun c => chunks_of 2305 2431 (by decide) _ (h c)⟩

/-- The kernel's frame at the reals, where from 2305 to 2431 numbers are low. -/
theorem frame_ideal : Cert.quiescent_KernelIdeal_pre_low_2305_2431 (hKernelIdeal := Cert.KernelIdeal.Gen.facts) (hPre_low_2305_2431 := facts) :=
  fun m g h => frame_any (F := Ideal) m g ⟨_, _, fun c => chunks_of 2305 2431 (by decide) _ (h c)⟩

/-- The kernel's frame at the reals, where from 2305 to 2431 numbers are low and none is negative. -/
theorem frame_nonneg : Cert.quiescent_KernelIdeal_pre_low_2305_2431_nonneg_KernelIdeal
    (hKernelIdeal := Cert.KernelIdeal.Gen.facts) (hPre_low_2305_2431_nonneg_KernelIdeal := facts_kernel) :=
  fun m g h => frame_any (F := Ideal) m g ⟨_, _, fun c => chunks_of 2305 2431 (by decide) _ (h c).2⟩

/-- The reference's frame, where from 2305 to 2431 numbers are low and none is negative. -/
theorem frame_ref : Cert.quiescent_ReferenceIdeal_pre_low_2305_2431_nonneg_ReferenceIdeal
    (hReferenceIdeal := Cert.ReferenceIdeal.Gen.facts) (hPre_low_2305_2431_nonneg_ReferenceIdeal := facts_reference) :=
  fun m g _ => frame_reference m g trivial

/-- The value, where from 2305 to 2431 numbers are low and none is negative: every device of the kernel ends with the reference's result. -/
theorem algebraic : Cert.algebraic_KernelIdeal_ReferenceIdeal_pre_low_2305_2431_nonneg_KernelIdeal
    (hKernelIdeal := Cert.KernelIdeal.Gen.facts) (hReferenceIdeal := Cert.ReferenceIdeal.Gen.facts)
    (hPre_low_2305_2431_nonneg_KernelIdeal := facts_kernel) :=
  fun m g m' g' hpre hagree => value m g m' g' ⟨_, _, fun c => chunks_of 2305 2431 (by decide) _ (hpre c).2⟩
    (nonneg_of _ facts_kernel.bcast_S_S4096 (hpre 0).1) hagree

end low_2305_2431

namespace low_2433_2559

/-- The side conditions of the precondition that from 2433 to 2559 numbers are low. -/
theorem facts : Cert.Pre_low_2433_2559.Facts := ⟨by decide, by decide, by decide, by decide⟩

/-- The same where no number is negative, of the kernel's arguments. -/
theorem facts_kernel : Cert.Pre_low_2433_2559_nonneg_KernelIdeal.Facts := ⟨by decide, by decide, by decide, by decide⟩

/-- The same where no number is negative, of the reference's arguments. -/
theorem facts_reference : Cert.Pre_low_2433_2559_nonneg_ReferenceIdeal.Facts := ⟨by decide, by decide, by decide, by decide⟩

/-- The kernel's frame at the floats' words, where from 2433 to 2559 numbers are low. -/
theorem frame_kernel : Cert.quiescent_Kernel_pre_low_2433_2559 (hKernel := Cert.Kernel.Gen.facts) (hPre_low_2433_2559 := facts) :=
  fun m g h => frame_words m g ⟨_, _, fun c => chunks_of 2433 2559 (by decide) _ (h c)⟩

/-- The kernel's frame at the reals, where from 2433 to 2559 numbers are low. -/
theorem frame_ideal : Cert.quiescent_KernelIdeal_pre_low_2433_2559 (hKernelIdeal := Cert.KernelIdeal.Gen.facts) (hPre_low_2433_2559 := facts) :=
  fun m g h => frame_any (F := Ideal) m g ⟨_, _, fun c => chunks_of 2433 2559 (by decide) _ (h c)⟩

/-- The kernel's frame at the reals, where from 2433 to 2559 numbers are low and none is negative. -/
theorem frame_nonneg : Cert.quiescent_KernelIdeal_pre_low_2433_2559_nonneg_KernelIdeal
    (hKernelIdeal := Cert.KernelIdeal.Gen.facts) (hPre_low_2433_2559_nonneg_KernelIdeal := facts_kernel) :=
  fun m g h => frame_any (F := Ideal) m g ⟨_, _, fun c => chunks_of 2433 2559 (by decide) _ (h c).2⟩

/-- The reference's frame, where from 2433 to 2559 numbers are low and none is negative. -/
theorem frame_ref : Cert.quiescent_ReferenceIdeal_pre_low_2433_2559_nonneg_ReferenceIdeal
    (hReferenceIdeal := Cert.ReferenceIdeal.Gen.facts) (hPre_low_2433_2559_nonneg_ReferenceIdeal := facts_reference) :=
  fun m g _ => frame_reference m g trivial

/-- The value, where from 2433 to 2559 numbers are low and none is negative: every device of the kernel ends with the reference's result. -/
theorem algebraic : Cert.algebraic_KernelIdeal_ReferenceIdeal_pre_low_2433_2559_nonneg_KernelIdeal
    (hKernelIdeal := Cert.KernelIdeal.Gen.facts) (hReferenceIdeal := Cert.ReferenceIdeal.Gen.facts)
    (hPre_low_2433_2559_nonneg_KernelIdeal := facts_kernel) :=
  fun m g m' g' hpre hagree => value m g m' g' ⟨_, _, fun c => chunks_of 2433 2559 (by decide) _ (hpre c).2⟩
    (nonneg_of _ facts_kernel.bcast_S_S4096 (hpre 0).1) hagree

end low_2433_2559

end Cert.Proof

end
-- ==== Proof.lean ====
module

public import proofs.«01_k».proof.Defs
public import proofs.«01_k».proof.Proof.Whole
public import proofs.«01_k».proof.Proof.Partly

/-!
# The certificate's claim
-/

@[expose] public section

noncomputable section

namespace Cert.Proof

open Cert.ReferenceIdeal.Lookup

/-- Everything the certificate claims: the frames and the value for every count of low numbers from 1536 to 2560. -/
theorem claim : Cert.Claim :=
  ⟨Cert.Kernel.Gen.facts, Cert.KernelIdeal.Gen.facts, Cert.ReferenceIdeal.Gen.facts, low_1536_1536.facts,
    low_1664_1664.facts, low_1792_1792.facts, low_1920_1920.facts, low_2048_2048.facts, low_2176_2176.facts,
    low_2304_2304.facts, low_2432_2432.facts, low_2560_2560.facts, low_1537_1663.facts, low_1665_1791.facts,
    low_1793_1919.facts, low_1921_2047.facts, low_2049_2175.facts, low_2177_2303.facts, low_2305_2431.facts,
    low_2433_2559.facts, low_1536_1536.facts_kernel, low_1664_1664.facts_kernel, low_1792_1792.facts_kernel,
    low_1920_1920.facts_kernel, low_2048_2048.facts_kernel, low_2176_2176.facts_kernel, low_2304_2304.facts_kernel,
    low_2432_2432.facts_kernel, low_2560_2560.facts_kernel, low_1537_1663.facts_kernel, low_1665_1791.facts_kernel,
    low_1793_1919.facts_kernel, low_1921_2047.facts_kernel, low_2049_2175.facts_kernel, low_2177_2303.facts_kernel,
    low_2305_2431.facts_kernel, low_2433_2559.facts_kernel, low_1536_1536.facts_reference,
    low_1664_1664.facts_reference, low_1792_1792.facts_reference, low_1920_1920.facts_reference,
    low_2048_2048.facts_reference, low_2176_2176.facts_reference, low_2304_2304.facts_reference,
    low_2432_2432.facts_reference, low_2560_2560.facts_reference, low_1537_1663.facts_reference,
    low_1665_1791.facts_reference, low_1793_1919.facts_reference, low_1921_2047.facts_reference,
    low_2049_2175.facts_reference, low_2177_2303.facts_reference, low_2305_2431.facts_reference,
    low_2433_2559.facts_reference, low_1536_1536.frame_kernel, low_1664_1664.frame_kernel, low_1792_1792.frame_kernel,
    low_1920_1920.frame_kernel, low_2048_2048.frame_kernel, low_2176_2176.frame_kernel, low_2304_2304.frame_kernel,
    low_2432_2432.frame_kernel, low_2560_2560.frame_kernel, low_1537_1663.frame_kernel, low_1665_1791.frame_kernel,
    low_1793_1919.frame_kernel, low_1921_2047.frame_kernel, low_2049_2175.frame_kernel, low_2177_2303.frame_kernel,
    low_2305_2431.frame_kernel, low_2433_2559.frame_kernel, low_1536_1536.frame_ideal, low_1664_1664.frame_ideal,
    low_1792_1792.frame_ideal, low_1920_1920.frame_ideal, low_2048_2048.frame_ideal, low_2176_2176.frame_ideal,
    low_2304_2304.frame_ideal, low_2432_2432.frame_ideal, low_2560_2560.frame_ideal, low_1537_1663.frame_ideal,
    low_1665_1791.frame_ideal, low_1793_1919.frame_ideal, low_1921_2047.frame_ideal, low_2049_2175.frame_ideal,
    low_2177_2303.frame_ideal, low_2305_2431.frame_ideal, low_2433_2559.frame_ideal, low_1536_1536.frame_nonneg,
    low_1664_1664.frame_nonneg, low_1792_1792.frame_nonneg, low_1920_1920.frame_nonneg, low_2048_2048.frame_nonneg,
    low_2176_2176.frame_nonneg, low_2304_2304.frame_nonneg, low_2432_2432.frame_nonneg, low_2560_2560.frame_nonneg,
    low_1537_1663.frame_nonneg, low_1665_1791.frame_nonneg, low_1793_1919.frame_nonneg, low_1921_2047.frame_nonneg,
    low_2049_2175.frame_nonneg, low_2177_2303.frame_nonneg, low_2305_2431.frame_nonneg, low_2433_2559.frame_nonneg,
    frame_reference, low_1536_1536.frame_ref, low_1664_1664.frame_ref, low_1792_1792.frame_ref,
    low_1920_1920.frame_ref, low_2048_2048.frame_ref, low_2176_2176.frame_ref, low_2304_2304.frame_ref,
    low_2432_2432.frame_ref, low_2560_2560.frame_ref, low_1537_1663.frame_ref, low_1665_1791.frame_ref,
    low_1793_1919.frame_ref, low_1921_2047.frame_ref, low_2049_2175.frame_ref, low_2177_2303.frame_ref,
    low_2305_2431.frame_ref, low_2433_2559.frame_ref, trivial, low_1536_1536.algebraic, low_1664_1664.algebraic,
    low_1792_1792.algebraic, low_1920_1920.algebraic, low_2048_2048.algebraic, low_2176_2176.algebraic,
    low_2304_2304.algebraic, low_2432_2432.algebraic, low_2560_2560.algebraic, low_1537_1663.algebraic,
    low_1665_1791.algebraic, low_1793_1919.algebraic, low_1921_2047.algebraic, low_2049_2175.algebraic,
    low_2177_2303.algebraic, low_2305_2431.algebraic, low_2433_2559.algebraic⟩

end Cert.Proof

end
